-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v11_0)) (v1 : (c : Dev Cert.Kernel21Ideal.nD) → Buf (Elt Ideal) ((c.tc : Thread Cert.Kernel21Ideal.nD Cert.Kernel21Ideal.τ).loc Cert.Kernel21Ideal.main_v11_1)) (v2 : (c : Dev Cert.Kernel21Ideal.nD) → Buf (Elt Ideal) ((c.tc : Thread Cert.Kernel21Ideal.nD Cert.Kernel21Ideal.τ).loc Cert.Kernel21Ideal.main_v11_2)) (v3 : (c : Dev Cert.Kernel21Ideal.nD) → Buf (Elt Ideal) ((c.tc : Thread Cert.Kernel21Ideal.nD Cert.Kernel21Ideal.τ).loc Cert.Kernel21Ideal.main_v11_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v11_0) = v0 c
          ∧ r.2.mem ((c.tc : Thread Cert.Kernel21Ideal.nD Cert.Kernel21Ideal.τ).loc Cert.Kernel21Ideal.main_v11_1) = v1 c
          ∧ r.2.mem ((c.tc : Thread Cert.Kernel21Ideal.nD Cert.Kernel21Ideal.τ).loc Cert.Kernel21Ideal.main_v11_2) = v2 c
          ∧ r.2.mem ((c.tc : Thread Cert.Kernel21Ideal.nD Cert.Kernel21Ideal.τ).loc Cert.Kernel21Ideal.main_v11_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v26) = v0 c
          ∧ r.2.mem ((c.tc : Thread Cert.Reference21Ideal.nD Cert.Reference21Ideal.τ).loc Cert.Reference21Ideal.main_v27) = v1 c
          ∧ r.2.mem ((c.tc : Thread Cert.Reference21Ideal.nD Cert.Reference21Ideal.τ).loc Cert.Reference21Ideal.main_v28) = v2 c
          ∧ r.2.mem ((c.tc : Thread Cert.Reference21Ideal.nD Cert.Reference21Ideal.τ).loc Cert.Reference21Ideal.main_v29) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v11_0)) (v1 : (c : Dev Cert.Kernel22Ideal.nD) → Buf (Elt Ideal) ((c.tc : Thread Cert.Kernel22Ideal.nD Cert.Kernel22Ideal.τ).loc Cert.Kernel22Ideal.main_v11_1)) (v2 : (c : Dev Cert.Kernel22Ideal.nD) → Buf (Elt Ideal) ((c.tc : Thread Cert.Kernel22Ideal.nD Cert.Kernel22Ideal.τ).loc Cert.Kernel22Ideal.main_v11_2)) (v3 : (c : Dev Cert.Kernel22Ideal.nD) → Buf (Elt Ideal) ((c.tc : Thread Cert.Kernel22Ideal.nD Cert.Kernel22Ideal.τ).loc Cert.Kernel22Ideal.main_v11_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v11_0) = v0 c
          ∧ r.2.mem ((c.tc : Thread Cert.Kernel22Ideal.nD Cert.Kernel22Ideal.τ).loc Cert.Kernel22Ideal.main_v11_1) = v1 c
          ∧ r.2.mem ((c.tc : Thread Cert.Kernel22Ideal.nD Cert.Kernel22Ideal.τ).loc Cert.Kernel22Ideal.main_v11_2) = v2 c
          ∧ r.2.mem ((c.tc : Thread Cert.Kernel22Ideal.nD Cert.Kernel22Ideal.τ).loc Cert.Kernel22Ideal.main_v11_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v26) = v0 c
          ∧ r.2.mem ((c.tc : Thread Cert.Reference22Ideal.nD Cert.Reference22Ideal.τ).loc Cert.Reference22Ideal.main_v27) = v1 c
          ∧ r.2.mem ((c.tc : Thread Cert.Reference22Ideal.nD Cert.Reference22Ideal.τ).loc Cert.Reference22Ideal.main_v28) = v2 c
          ∧ r.2.mem ((c.tc : Thread Cert.Reference22Ideal.nD Cert.Reference22Ideal.τ).loc Cert.Reference22Ideal.main_v29) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v11_0)) (v1 : (c : Dev Cert.Kernel23Ideal.nD) → Buf (Elt Ideal) ((c.tc : Thread Cert.Kernel23Ideal.nD Cert.Kernel23Ideal.τ).loc Cert.Kernel23Ideal.main_v11_1)) (v2 : (c : Dev Cert.Kernel23Ideal.nD) → Buf (Elt Ideal) ((c.tc : Thread Cert.Kernel23Ideal.nD Cert.Kernel23Ideal.τ).loc Cert.Kernel23Ideal.main_v11_2)) (v3 : (c : Dev Cert.Kernel23Ideal.nD) → Buf (Elt Ideal) ((c.tc : Thread Cert.Kernel23Ideal.nD Cert.Kernel23Ideal.τ).loc Cert.Kernel23Ideal.main_v11_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v11_0) = v0 c
          ∧ r.2.mem ((c.tc : Thread Cert.Kernel23Ideal.nD Cert.Kernel23Ideal.τ).loc Cert.Kernel23Ideal.main_v11_1) = v1 c
          ∧ r.2.mem ((c.tc : Thread Cert.Kernel23Ideal.nD Cert.Kernel23Ideal.τ).loc Cert.Kernel23Ideal.main_v11_2) = v2 c
          ∧ r.2.mem ((c.tc : Thread Cert.Kernel23Ideal.nD Cert.Kernel23Ideal.τ).loc Cert.Kernel23Ideal.main_v11_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v26) = v0 c
          ∧ r.2.mem ((c.tc : Thread Cert.Reference23Ideal.nD Cert.Reference23Ideal.τ).loc Cert.Reference23Ideal.main_v27) = v1 c
          ∧ r.2.mem ((c.tc : Thread Cert.Reference23Ideal.nD Cert.Reference23Ideal.τ).loc Cert.Reference23Ideal.main_v28) = v2 c
          ∧ r.2.mem ((c.tc : Thread Cert.Reference23Ideal.nD Cert.Reference23Ideal.τ).loc Cert.Reference23Ideal.main_v29) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v11_0)) (v1 : (c : Dev Cert.Kernel24Ideal.nD) → Buf (Elt Ideal) ((c.tc : Thread Cert.Kernel24Ideal.nD Cert.Kernel24Ideal.τ).loc Cert.Kernel24Ideal.main_v11_1)) (v2 : (c : Dev Cert.Kernel24Ideal.nD) → Buf (Elt Ideal) ((c.tc : Thread Cert.Kernel24Ideal.nD Cert.Kernel24Ideal.τ).loc Cert.Kernel24Ideal.main_v11_2)) (v3 : (c : Dev Cert.Kernel24Ideal.nD) → Buf (Elt Ideal) ((c.tc : Thread Cert.Kernel24Ideal.nD Cert.Kernel24Ideal.τ).loc Cert.Kernel24Ideal.main_v11_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v11_0) = v0 c
          ∧ r.2.mem ((c.tc : Thread Cert.Kernel24Ideal.nD Cert.Kernel24Ideal.τ).loc Cert.Kernel24Ideal.main_v11_1) = v1 c
          ∧ r.2.mem ((c.tc : Thread Cert.Kernel24Ideal.nD Cert.Kernel24Ideal.τ).loc Cert.Kernel24Ideal.main_v11_2) = v2 c
          ∧ r.2.mem ((c.tc : Thread Cert.Kernel24Ideal.nD Cert.Kernel24Ideal.τ).loc Cert.Kernel24Ideal.main_v11_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v26) = v0 c
          ∧ r.2.mem ((c.tc : Thread Cert.Reference24Ideal.nD Cert.Reference24Ideal.τ).loc Cert.Reference24Ideal.main_v27) = v1 c
          ∧ r.2.mem ((c.tc : Thread Cert.Reference24Ideal.nD Cert.Reference24Ideal.τ).loc Cert.Reference24Ideal.main_v28) = v2 c
          ∧ r.2.mem ((c.tc : Thread Cert.Reference24Ideal.nD Cert.Reference24Ideal.τ).loc Cert.Reference24Ideal.main_v29) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn_part1 {F : FTy → Type} [FloatOps F] (main_arg4 : FVec F S4096x512 .f32) (main_v3 : IVec S_ 1) (main_v7 : IVec S_ 1) (main_v11 : IVec S_ 1) (main_v15 : IVec S_ 1) : IVec S_ 1 :=
  let main_v16 : FVec F S4096x512 .f32 := Host.absf main_arg4
  let main_cst_6 : FVec F S_ .f32 := constant S_ .f32 0x7F800000#32
  let main_v17 : FVec F S4096x512 .f32 := broadcastInDim S4096x512 ![] bcast_S_S4096x512 main_cst_6
  let main_v18 : IVec S4096x512 1 := cmpf .olt main_v16 main_v17
  let main_c_7 : IVec S_ 1 := constantI S_ 1 1#1
  let main_v19 : IVec S_ 1 := (fun x v => Host.reduce IntOp.andi x v reducesTo_S4096x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S4096x512 .f32 := Host.absf main_arg3
  let main_cst_4 : FVec F S_ .f32 := constant S_ .f32 0x7F800000#32
  let main_v13 : FVec F S4096x512 .f32 := broadcastInDim S4096x512 ![] bcast_S_S4096x512 main_cst_4
  let main_v14 : IVec S4096x512 1 := cmpf .olt main_v12 main_v13
  let main_c_5 : IVec S_ 1 := constantI S_ 1 1#1
  let main_v15 : IVec S_ 1 := (fun x v => Host.reduce IntOp.andi x v reducesTo_S4096x512_S_d0_1 h_S_) main_v14 main_c_5
  fn_part1 (F := F) main_arg4 main_v3 main_v7 main_v11 main_v15
-- ==== Pre_finite_ffn.lean ====
abbrev S4096x2048 : Shape := ⟨2, ![4096, 2048]⟩
abbrev S2048x5632 : Shape := ⟨2, ![2048, 5632]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S4096x2048 .f32) (main_v3 : IVec S_ 1) (main_v7 : IVec S_ 1) (main_v11 : IVec S_ 1) (main_v15 : IVec S_ 1) : IVec S_ 1 :=
  let main_v16 : FVec F S4096x2048 .f32 := Host.absf main_arg4
  let main_cst_6 : FVec F S_ .f32 := constant S_ .f32 0x7F800000#32
  let main_v17 : FVec F S4096x2048 .f32 := broadcastInDim S4096x2048 ![] bcast_S_S4096x2048 main_cst_6
  let main_v18 : IVec S4096x2048 1 := cmpf .olt main_v16 main_v17
  let main_c_7 : IVec S_ 1 := constantI S_ 1 1#1
  let main_v19 : IVec S_ 1 := (fun x v => Host.reduce IntOp.andi x v reducesTo_S4096x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x2048 .f32) (main_arg1 : FVec F S2048x5632 .f32) (main_arg2 : FVec F S2048x5632 .f32) (main_arg3 : FVec F S5632x2048 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : FVec F S2048x5632 .f32 := Host.absf main_arg2
  let main_cst_2 : FVec F S_ .f32 := constant S_ .f32 0x7F800000#32
  let main_v9 : FVec F S2048x5632 .f32 := broadcastInDim S2048x5632 ![] bcast_S_S2048x5632 main_cst_2
  let main_v10 : IVec S2048x5632 1 := cmpf .olt main_v8 main_v9
  let main_c_3 : IVec S_ 1 := constantI S_ 1 1#1
  let main_v11 : IVec S_ 1 := (fun x v => Host.reduce IntOp.andi x v reducesTo_S2048x5632_S_d0_1 h_S_) main_v10 main_c_3
  let main_v12 : FVec F S5632x2048 .f32 := Host.absf main_arg3
  let main_cst_4 : FVec F S_ .f32 := constant S_ .f32 0x7F800000#32
  let main_v13 : FVec F S5632x2048 .f32 := broadcastInDim S5632x2048 ![] bcast_S_S5632x2048 main_cst_4
  let main_v14 : IVec S5632x2048 1 := cmpf .olt main_v12 main_v13
  let main_c_5 : IVec S_ 1 := constantI S_ 1 1#1
  let main_v15 : IVec S_ 1 := (fun x v => Host.reduce IntOp.andi x v reducesTo_S5632x2048_S_d0_1 h_S_) main_v14 main_c_5
  fn_part1 (F := F) main_arg4 main_v3 main_v7 main_v11 main_v15
-- ==== Kernel.lean ====
abbrev S4096x512 : Shape := ⟨2, ![4096, 512]⟩
abbrev S256x16x4x128 : Shape := ⟨4, ![256, 16, 4, 128]⟩
abbrev S16x4x256x256 : Shape := ⟨4, ![16, 4, 256, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x4x256 : Shape := ⟨3, ![16, 4, 256]⟩
abbrev S16x4x256x1 : Shape := ⟨4, ![16, 4, 256, 1]⟩
abbrev S16x4x128x256 : Shape := ⟨4, ![16, 4, 128, 256]⟩
abbrev S256x16x4 : Shape := ⟨3, ![256, 16, 4]⟩
abbrev S256x16x4x1 : Shape := ⟨4, ![256, 16, 4, 1]⟩
abbrev S256x8192 : Shape := ⟨2, ![256, 8192]⟩
abbrev S256x128 : Shape := ⟨2, ![256, 128]⟩
abbrev S128x128 : Shape := ⟨2, ![128, 128]⟩
abbrev S128 : Shape := ⟨1, ![128]⟩
abbrev S128x1 : Shape := ⟨2, ![128, 1]⟩

abbrev nBuf : Space → Nat
  | .hbm => 64
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S256x16x4x128, .f32⟩
  | .hbm, ⟨6, _⟩ => ⟨S256x16x4x128, .f32⟩
  | .hbm, ⟨7, _⟩ => ⟨S256x16x4x128, .f32⟩
  | .hbm, ⟨8, _⟩ => ⟨S16x4x256x256, .f32⟩
  | .hbm, ⟨9, _⟩ => ⟨S_, .f32⟩
  | .hbm, ⟨10, _⟩ => ⟨S16x4x256x256, .f32⟩
  | .hbm, ⟨11, _⟩ => ⟨S16x4x256x256, .f32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S256x256, .i32⟩
  | .hbm, ⟨24, _⟩ => ⟨S256x256, .i1⟩
  | .hbm, ⟨25, _⟩ => ⟨S256x256, .i1⟩
  | .hbm, ⟨26, _⟩ => ⟨S_, .f32⟩
  | .hbm, ⟨27, _⟩ => ⟨S_, .f32⟩
  | .hbm, ⟨28, _⟩ => ⟨S16x4x256x256, .i1⟩
  | .hbm, ⟨29, _⟩ => ⟨S16x4x256x256, .f32⟩
  | .hbm, ⟨30, _⟩ => ⟨S16x4x256x256, .f32⟩
  | .hbm, ⟨31, _⟩ => ⟨S_, .f32⟩
  | .hbm, ⟨32, _⟩ => ⟨S16x4x256, .f32⟩
  | .hbm, ⟨33, _⟩ => ⟨S16x4x256x1, .f32⟩
  | .hbm, ⟨34, _⟩ => ⟨S16x4x256x256, .f32⟩
  | .hbm, ⟨35, _⟩ => ⟨S16x4x256x256, .f32⟩
  | .hbm, ⟨36, _⟩ => ⟨S16x4x256x256, .f32⟩
  | .hbm, ⟨37, _⟩ => ⟨S_, .f32⟩
  | .hbm, ⟨38, _⟩ => ⟨S16x4x256, .f32⟩
  | .hbm, ⟨39, _⟩ => ⟨S16x4x256x1, .f32⟩
  | .hbm, ⟨40, _⟩ => ⟨S16x4x256x256, .f32⟩
  | .hbm, ⟨41, _⟩ => ⟨S16x4x256x256, .f32⟩
  | .hbm, ⟨42, _⟩ => ⟨S16x4x128x256, .f32⟩
  | .hbm, ⟨43, _⟩ => ⟨S256x16x4x128, .f32⟩
  | .hbm, ⟨44, _⟩ => ⟨S16x4x256x1, .f32⟩
  | .hbm, ⟨45, _⟩ => ⟨S16x4x256x1, .f32⟩
  | .hbm, ⟨46, _⟩ => ⟨S16x4x256, .f32⟩
  | .hbm, ⟨47, _⟩ => ⟨S256x16x4, .f32⟩
  | .hbm, ⟨48, _⟩ => ⟨S256x16x4x1, .f32⟩
  | .hbm, ⟨49, _⟩ => ⟨S256x16x4x128, .f32⟩
  | .hbm, ⟨50, _⟩ => ⟨S4096x512, .f32⟩
  | .hbm, ⟨51, _⟩ => ⟨S4096x512, .f32⟩
  | .hbm, ⟨52, _⟩ => ⟨S4096x512, .bf16⟩
  | .hbm, ⟨53, _⟩ => ⟨S4096x512, .bf16⟩
  | .hbm, ⟨54, _⟩ => ⟨S256x8192, .bf16⟩
  | .hbm, ⟨55, _⟩ => ⟨S256x8192, .bf16⟩
  | .hbm, ⟨56, _⟩ => ⟨S256x8192, .f32⟩
  | .hbm, ⟨57, _⟩ => ⟨S256x8192, .f32⟩
  | .hbm, ⟨58, _⟩ => ⟨S256x8192, .f32⟩
  | .hbm, ⟨59, _⟩ => ⟨S256x8192, .f32⟩
  | .hbm, ⟨60, _⟩ => ⟨S256x8192, .f32⟩
  | .hbm, ⟨61, _⟩ => ⟨S256x8192, .f32⟩
  | .hbm, ⟨62, _⟩ => ⟨S256x8192, .f32⟩
  | .hbm, ⟨63, _⟩ => ⟨S256x8192, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47_0 : Ref sig .tc := ⟨.hbm, 61, rfl⟩
abbrev main_v47_1 : Ref sig .tc := ⟨.hbm, 62, rfl⟩
abbrev main_v47_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def k0_mult1 : BitVec 32 :=
  let c0_i32 : BitVec 32 := 0#32
  let c128_i32 : BitVec 32 := 128#32
  let v4 : BitVec 32 := Scalar.muli c0_i32 c128_i32
  v4
def k0_mult2 : BitVec 32 :=
  let c0_i32 : BitVec 32 := 0#32
  let c1_i32 : BitVec 32 := 1#32
  let v6 : BitVec 32 := Scalar.subi c0_i32 c1_i32
  let c0_i32_4 : BitVec 32 := 0#32
  let v7 : BitVec 32 := Scalar.maxsi v6 c0_i32_4
  let c128_i32_5 : BitVec 32 := 128#32
  let v8 : BitVec 32 := Scalar.muli v7 c128_i32_5
  v8
def k0_off1 (c0_i32 : BitVec 32) : Fin 2 → Nat :=
  let c128_i32 : BitVec 32 := 128#32
  let v4 : BitVec 32 := Scalar.muli c0_i32 c128_i32
  let v5 : BitVec 32 := v4
  let v10 : Index := Scalar.indexCast v5
  let c0_6 : Index := 0#32
  ![v10.toNat, 0]
def k0_off2 (c0_i32 : BitVec 32) : Fin 2 → Nat :=
  let c1_i32 : BitVec 32 := 1#32
  let v6 : BitVec 32 := Scalar.subi c0_i32 c1_i32
  let c0_i32_4 : BitVec 32 := 0#32
  let v7 : BitVec 32 := Scalar.maxsi v6 c0_i32_4
  let c128_i32_5 : BitVec 32 := 128#32
  let v8 : BitVec 32 := Scalar.muli v7 c128_i32_5
  let v9 : BitVec 32 := v8
  let v16 : Index := Scalar.indexCast v9
  let c0_8 : Index := 0#32
  ![v16.toNat, 0]
def k0_mult3 : BitVec 32 :=
  let c1_i32_45 : BitVec 32 := 1#32
  let c128_i32_46 : BitVec 32 := 128#32
  let v122 : BitVec 32 := Scalar.muli c1_i32_45 c128_i32_46
  v122
def k0_mult4 : BitVec 32 :=
  let c1_i32_45 : BitVec 32 := 1#32
  let c1_i32_47 : BitVec 32 := 1#32
  let v124 : BitVec 32 := Scalar.subi c1_i32_45 c1_i32_47
  let c0_i32_48 : BitVec 32 := 0#32
  let v125 : BitVec 32 := Scalar.maxsi v124 c0_i32_48
  let c128_i32_49 : BitVec 32 := 128#32
  let v126 : BitVec 32 := Scalar.muli v125 c128_i32_49
  v126
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S256x16x4x128 : Shape := ⟨4, ![256, 16, 4, 128]⟩
abbrev S16x4x256x256 : Shape := ⟨4, ![16, 4, 256, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x4x256 : Shape := ⟨3, ![16, 4, 256]⟩
abbrev S16x4x256x1 : Shape := ⟨4, ![16, 4, 256, 1]⟩
abbrev S16x4x128x256 : Shape := ⟨4, ![16, 4, 128, 256]⟩
abbrev S256x16x4 : Shape := ⟨3, ![256, 16, 4]⟩
abbrev S256x16x4x1 : Shape := ⟨4, ![256, 16, 4, 1]⟩
abbrev S16x4x256x128 : Shape := ⟨4, ![16, 4, 256, 128]⟩
abbrev S256x8192 : Shape := ⟨2, ![256, 8192]⟩

abbrev nBuf : Space → Nat
  | .hbm => 120
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S256x16x4x128, .f32⟩
  | .hbm, ⟨6, _⟩ => ⟨S256x16x4x128, .f32⟩
  | .hbm, ⟨7, _⟩ => ⟨S256x16x4x128, .f32⟩
  | .hbm, ⟨8, _⟩ => ⟨S16x4x256x256, .f32⟩
  | .hbm, ⟨9, _⟩ => ⟨S_, .f32⟩
  | .hbm, ⟨10, _⟩ => ⟨S16x4x256x256, .f32⟩
  | .hbm, ⟨11, _⟩ => ⟨S16x4x256x256, .f32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S256x256, .i32⟩
  | .hbm, ⟨24, _⟩ => ⟨S256x256, .i1⟩
  | .hbm, ⟨25, _⟩ => ⟨S256x256, .i1⟩
  | .hbm, ⟨26, _⟩ => ⟨S_, .f32⟩
  | .hbm, ⟨27, _⟩ => ⟨S_, .f32⟩
  | .hbm, ⟨28, _⟩ => ⟨S16x4x256x256, .i1⟩
  | .hbm, ⟨29, _⟩ => ⟨S16x4x256x256, .f32⟩
  | .hbm, ⟨30, _⟩ => ⟨S16x4x256x256, .f32⟩
  | .hbm, ⟨31, _⟩ => ⟨S_, .f32⟩
  | .hbm, ⟨32, _⟩ => ⟨S16x4x256x256, .f32⟩
  | .hbm, ⟨33, _⟩ => ⟨S_, .f32⟩
  | .hbm, ⟨34, _⟩ => ⟨S16x4x256, .f32⟩
  | .hbm, ⟨35, _⟩ => ⟨S16x4x256x1, .f32⟩
  | .hbm, ⟨36, _⟩ => ⟨S16x4x256x256, .f32⟩
  | .hbm, ⟨37, _⟩ => ⟨S16x4x256x256, .i1⟩
  | .hbm, ⟨38, _⟩ => ⟨S16x4x256x256, .f32⟩
  | .hbm, ⟨39, _⟩ => ⟨S_, .f32⟩
  | .hbm, ⟨40, _⟩ => ⟨S16x4x256, .f32⟩
  | .hbm, ⟨41, _⟩ => ⟨S16x4x256x1, .f32⟩
  | .hbm, ⟨42, _⟩ => ⟨S16x4x256x256, .f32⟩
  | .hbm, ⟨43, _⟩ => ⟨S16x4x256x256, .f32⟩
  | .hbm, ⟨44, _⟩ => ⟨S16x4x256x256, .f32⟩
  | .hbm, ⟨45, _⟩ => ⟨S_, .f32⟩
  | .hbm, ⟨46, _⟩ => ⟨S16x4x256, .f32⟩
  | .hbm, ⟨47, _⟩ => ⟨S16x4x256x1, .f32⟩
  | .hbm, ⟨48, _⟩ => ⟨S16x4x256x256, .f32⟩
  | .hbm, ⟨49, _⟩ => ⟨S16x4x256x256, .f32⟩
  | .hbm, ⟨50, _⟩ => ⟨S16x4x256x1, .f32⟩
  | .hbm, ⟨51, _⟩ => ⟨S_, .f32⟩
  | .hbm, ⟨52, _⟩ => ⟨S16x4x256x1, .f32⟩
  | .hbm, ⟨53, _⟩ => ⟨S16x4x256x1, .f32⟩
  | .hbm, ⟨54, _⟩ => ⟨S16x4x128x256, .f32⟩
  | .hbm, ⟨55, _⟩ => ⟨S256x16x4x128, .f32⟩
  | .hbm, ⟨56, _⟩ => ⟨S16x4x256x1, .f32⟩
  | .hbm, ⟨57, _⟩ => ⟨S16x4x256x1, .f32⟩
  | .hbm, ⟨58, _⟩ => ⟨S16x4x256, .f32⟩
  | .hbm, ⟨59, _⟩ => ⟨S256x16x4, .f32⟩
  | .hbm, ⟨60, _⟩ => ⟨S256x16x4x1, .f32⟩
  | .hbm, ⟨61, _⟩ => ⟨S256x16x4x128, .f32⟩
  | .hbm, ⟨62, _⟩ => ⟨S4096x512, .f32⟩
  | .hbm, ⟨63, _⟩ => ⟨S4096x512, .f32⟩
  | .hbm, ⟨64, _⟩ => ⟨S256x16x4x128, .f32⟩
  | .hbm, ⟨65, _⟩ => ⟨S256x16x4x128, .f32⟩
  | .hbm, ⟨66, _⟩ => ⟨S_, .f32⟩
  | .hbm, ⟨67, _⟩ => ⟨S256x16x4, .f32⟩
  | .hbm, ⟨68, _⟩ => ⟨S256x16x4x1, .f32⟩
  | .hbm, ⟨69, _⟩ => ⟨S_, .f32⟩
  | .hbm, ⟨70, _⟩ => ⟨S256x16x4, .f32⟩
  | .hbm, ⟨71, _⟩ => ⟨S16x4x256, .f32⟩
  | .hbm, ⟨72, _⟩ => ⟨S16x4x256x1, .f32⟩
  | .hbm, ⟨73, _⟩ => ⟨S16x4x256x1, .f32⟩
  | .hbm, ⟨74, _⟩ => ⟨S16x4x128x256, .f32⟩
  | .hbm, ⟨75, _⟩ => ⟨S16x4x256x256, .f32⟩
  | .hbm, ⟨76, _⟩ => ⟨S16x4x128x256, .f32⟩
  | .hbm, ⟨77, _⟩ => ⟨S256x16x4x128, .f32⟩
  | .hbm, ⟨78, _⟩ => ⟨S16x4x256x256, .f32⟩
  | .hbm, ⟨79, _⟩ => ⟨S16x4x256x256, .f32⟩
  | .hbm, ⟨80, _⟩ => ⟨S16x4x256x256, .f32⟩
  | .hbm, ⟨81, _⟩ => ⟨S_, .f32⟩
  | .hbm, ⟨82, _⟩ => ⟨S16x4x256, .f32⟩
  | .hbm, ⟨83, _⟩ => ⟨S16x4x256x1, .f32⟩
  | .hbm, ⟨84, _⟩ => ⟨S16x4x256x1, .f32⟩
  | .hbm, ⟨85, _⟩ => ⟨S16x4x256x1, .f32⟩
  | .hbm, ⟨86, _⟩ => ⟨S16x4x256x256, .f32⟩
  | .hbm, ⟨87, _⟩ => ⟨S16x4x256x256, .f32⟩
  | .hbm, ⟨88, _⟩ => ⟨S_, .f32⟩
  | .hbm, ⟨89, _⟩ => ⟨S16x4x256, .f32⟩
  | .hbm, ⟨90, _⟩ => ⟨S16x4x256x256, .f32⟩
  | .hbm, ⟨91, _⟩ => ⟨S16x4x256x256, .f32⟩
  | .hbm, ⟨92, _⟩ => ⟨S16x4x256x256, .f32⟩
  | .hbm, ⟨93, _⟩ => ⟨S16x4x256x256, .f32⟩
  | .hbm, ⟨94, _⟩ => ⟨S_, .f32⟩
  | .hbm, ⟨95, _⟩ => ⟨S16x4x256, .f32⟩
  | .hbm, ⟨96, _⟩ => ⟨S16x4x256x1, .f32⟩
  | .hbm, ⟨97, _⟩ => ⟨S16x4x256x1, .f32⟩
  | .hbm, ⟨98, _⟩ => ⟨S_, .f32⟩
  | .hbm, ⟨99, _⟩ => ⟨S16x4x256, .f32⟩
  | .hbm, ⟨100, _⟩ => ⟨S16x4x256, .f32⟩
  | .hbm, ⟨101, _⟩ => ⟨S16x4x256x256, .f32⟩
  | .hbm, ⟨102, _⟩ => ⟨S16x4x256x256, .f32⟩
  | .hbm, ⟨103, _⟩ => ⟨S16x4x256x256, .f32⟩
  | .hbm, ⟨104, _⟩ => ⟨S_, .f32⟩
  | .hbm, ⟨105, _⟩ => ⟨S16x4x256x256, .f32⟩
  | .hbm, ⟨106, _⟩ => ⟨S16x4x256x256, .f32⟩
  | .hbm, ⟨107, _⟩ => ⟨S_, .f32⟩
  | .hbm, ⟨108, _⟩ => ⟨S16x4x256x256, .f32⟩
  | .hbm, ⟨109, _⟩ => ⟨S16x4x256x256, .f32⟩
  | .hbm, ⟨110, _⟩ => ⟨S16x4x256x128, .f32⟩
  | .hbm, ⟨111, _⟩ => ⟨S256x16x4x128, .f32⟩
  | .hbm, ⟨112, _⟩ => ⟨S16x4x256x128, .f32⟩
  | .hbm, ⟨113, _⟩ => ⟨S256x16x4x128, .f32⟩
  | .hbm, ⟨114, _⟩ => ⟨S4096x512, .f32⟩
  | .hbm, ⟨115, _⟩ => ⟨S4096x512, .f32⟩
  | .hbm, ⟨116, _⟩ => ⟨S4096x512, .f32⟩
  | .hbm, ⟨117, _⟩ => ⟨S256x8192, .f32⟩
  | .hbm, ⟨118, _⟩ => ⟨S256x8192, .f32⟩
  | .hbm, ⟨119, _⟩ => ⟨S256x8192, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_v18_1 : Ref sig .tc := ⟨.hbm, 28, rfl⟩
abbrev main_call0_v2 : Ref sig .tc := ⟨.hbm, 29, rfl⟩
abbrev main_v18_0 : Ref sig .tc := ⟨.hbm, 30, rfl⟩
abbrev main_call0_cst : Ref sig .tc := ⟨.hbm, 31, rfl⟩
abbrev main_v18_2 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_call1_cst : Ref sig .tc := ⟨.hbm, 104, rfl⟩
abbrev main_call1_v0 : Ref sig .tc := ⟨.hbm, 105, rfl⟩
abbrev main_v80 : Ref sig .tc := ⟨.hbm, 106, rfl⟩
abbrev main_cst_12 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== Kernel2.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S4096x8x704 : Shape := ⟨3, ![4096, 8, 704]⟩
abbrev S8x4096x704 : Shape := ⟨3, ![8, 4096, 704]⟩
abbrev S8x1x704x2048 : Shape := ⟨4, ![8, 1, 704, 2048]⟩
abbrev S1024x2048 : Shape := ⟨2, ![1024, 2048]⟩
abbrev S1x1x704x2048 : Shape := ⟨4, ![1, 1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x8x704, .f32⟩
  | .hbm, ⟨7, _⟩ => ⟨S8x4096x704, .f32⟩
  | .hbm, ⟨8, _⟩ => ⟨S8x4096x704, .bf16⟩
  | .hbm, ⟨9, _⟩ => ⟨S4096x5632, .f32⟩
  | .hbm, ⟨10, _⟩ => ⟨S4096x8x704, .f32⟩
  | .hbm, ⟨11, _⟩ => ⟨S8x4096x704, .f32⟩
  | .hbm, ⟨12, _⟩ => ⟨S8x4096x704, .bf16⟩
  | .hbm, ⟨13, _⟩ => ⟨S8x1x704x2048, .f32⟩
  | .hbm, ⟨14, _⟩ => ⟨S8x1x704x2048, .bf16⟩
  | .hbm, ⟨15, _⟩ => ⟨S8x4096x704, .bf16⟩
  | .hbm, ⟨16, _⟩ => ⟨S8x4096x704, .bf16⟩
  | .local _ .vmem, ⟨0, _⟩ => ⟨S1024x2048, .f32⟩
  | .local _ .vmem, ⟨1, _⟩ => ⟨S1024x2048, .f32⟩
  | .local _ .vmem, ⟨2, _⟩ => ⟨S1x1x704x2048, .bf16⟩
  | .local _ .vmem, ⟨3, _⟩ => ⟨S1x1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x8x704, .f32⟩
  | .hbm, ⟨36, _⟩ => ⟨S8x4096x704, .f32⟩
  | .hbm, ⟨37, _⟩ => ⟨S8x4096x704, .bf16⟩
  | .hbm, ⟨38, _⟩ => ⟨S4096x8x704, .f32⟩
  | .hbm, ⟨39, _⟩ => ⟨S8x4096x704, .f32⟩
  | .hbm, ⟨40, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]
-- ==== Kernel3.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩
abbrev S8x704x2048 : Shape := ⟨3, ![8, 704, 2048]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 21
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x8x704, .f32⟩
  | .hbm, ⟨18, _⟩ => ⟨S8x4096x704, .f32⟩
  | .hbm, ⟨19, _⟩ => ⟨S8x4096x704, .bf16⟩
  | .hbm, ⟨20, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .f32⟩
  | .local _ .vmem, ⟨3, _⟩ => ⟨S1024x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S8x704x2048 : Shape := ⟨3, ![8, 704, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S2048x5632, .f32⟩
  | .hbm, ⟨25, _⟩ => ⟨S5632x2048, .f32⟩
  | .hbm, ⟨26, _⟩ => ⟨S8x704x2048, .f32⟩
  | .hbm, ⟨27, _⟩ => ⟨S8x704x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Kernel4.lean ====
abbrev S4096x2048 : Shape := ⟨2, ![4096, 2048]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S8x704x2048 : Shape := ⟨3, ![8, 704, 2048]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x8x704, .f32⟩
  | .hbm, ⟨4, _⟩ => ⟨S8x4096x704, .f32⟩
  | .hbm, ⟨5, _⟩ => ⟨S8x4096x704, .bf16⟩
  | .hbm, ⟨6, _⟩ => ⟨S4096x2048, .bf16⟩
  | .hbm, ⟨7, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x5632 : Shape := ⟨2, ![2048, 5632]⟩
abbrev S4096x5632 : Shape := ⟨2, ![4096, 5632]⟩
abbrev S5632x2048 : Shape := ⟨2, ![5632, 2048]⟩
abbrev S8x704x2048 : Shape := ⟨3, ![8, 704, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x5632, .f32⟩
  | .hbm, ⟨4, _⟩ => ⟨S5632x2048, .f32⟩
  | .hbm, ⟨5, _⟩ => ⟨S2048x5632, .f32⟩
  | .hbm, ⟨6, _⟩ => ⟨S5632x2048, .f32⟩
  | .hbm, ⟨7, _⟩ => ⟨S8x704x2048, .f32⟩
  | .hbm, ⟨8, _⟩ => ⟨S8x704x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S5632x2048 : Shape := ⟨2, ![5632, 2048]⟩
abbrev S8x1x704x2048 : Shape := ⟨4, ![8, 1, 704, 2048]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 18
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x5632, .f32⟩
  | .hbm, ⟨5, _⟩ => ⟨S4096x8x704, .f32⟩
  | .hbm, ⟨6, _⟩ => ⟨S8x4096x704, .f32⟩
  | .hbm, ⟨7, _⟩ => ⟨S8x4096x704, .bf16⟩
  | .hbm, ⟨8, _⟩ => ⟨S4096x8x704, .f32⟩
  | .hbm, ⟨9, _⟩ => ⟨S8x4096x704, .f32⟩
  | .hbm, ⟨10, _⟩ => ⟨S8x4096x704, .bf16⟩
  | .hbm, ⟨11, _⟩ => ⟨S5632x2048, .f32⟩
  | .hbm, ⟨12, _⟩ => ⟨S8x1x704x2048, .f32⟩
  | .hbm, ⟨13, _⟩ => ⟨S8x1x704x2048, .bf16⟩
  | .hbm, ⟨14, _⟩ => ⟨S5632x2048, .f32⟩
  | .hbm, ⟨15, _⟩ => ⟨S8x1x704x2048, .f32⟩
  | .hbm, ⟨16, _⟩ => ⟨S8x1x704x2048, .bf16⟩
  | .hbm, ⟨17, _⟩ => ⟨S4096x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_17 : BitVec 32 := 0#32
  let v19 : BitVec 1 := Scalar.cmpi .ne v18 c0_i32_17
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel6.lean ====
abbrev S4096x2048 : Shape := ⟨2, ![4096, 2048]⟩
abbrev S2048x5632 : Shape := ⟨2, ![2048, 5632]⟩
abbrev S5632x2048 : Shape := ⟨2, ![5632, 2048]⟩
abbrev S8x1x704x2048 : Shape := ⟨4, ![8, 1, 704, 2048]⟩
abbrev S8x4096x704 : Shape := ⟨3, ![8, 4096, 704]⟩
abbrev S1024x2048 : Shape := ⟨2, ![1024, 2048]⟩
abbrev S1x1x704x2048 : Shape := ⟨4, ![1, 1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S5632x2048, .f32⟩
  | .hbm, ⟨3, _⟩ => ⟨S8x1x704x2048, .f32⟩
  | .hbm, ⟨4, _⟩ => ⟨S8x1x704x2048, .bf16⟩
  | .hbm, ⟨5, _⟩ => ⟨S4096x2048, .bf16⟩
  | .hbm, ⟨6, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x704x2048, .bf16⟩
  | .local _ .vmem, ⟨3, _⟩ => ⟨S1x1x704x2048, .bf16⟩
  | .local _ .vmem, ⟨4, _⟩ => ⟨S1x1024x704, .bf16⟩
  | .local _ .vmem, ⟨5, _⟩ => ⟨S1x1024x704, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x8x704, .f32⟩
  | .hbm, ⟨4, _⟩ => ⟨S8x4096x704, .f32⟩
  | .hbm, ⟨5, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4096x2048 : Shape := ⟨2, ![4096, 2048]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S5632x2048 : Shape := ⟨2, ![5632, 2048]⟩
abbrev S8x1x704x2048 : Shape := ⟨4, ![8, 1, 704, 2048]⟩
abbrev S1024x2048 : Shape := ⟨2, ![1024, 2048]⟩
abbrev S1x1x704x2048 : Shape := ⟨4, ![1, 1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 13
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x8x704, .f32⟩
  | .hbm, ⟨5, _⟩ => ⟨S8x4096x704, .f32⟩
  | .hbm, ⟨6, _⟩ => ⟨S8x4096x704, .bf16⟩
  | .hbm, ⟨7, _⟩ => ⟨S5632x2048, .f32⟩
  | .hbm, ⟨8, _⟩ => ⟨S8x1x704x2048, .f32⟩
  | .hbm, ⟨9, _⟩ => ⟨S8x1x704x2048, .bf16⟩
  | .hbm, ⟨10, _⟩ => ⟨S4096x2048, .bf16⟩
  | .hbm, ⟨11, _⟩ => ⟨S8x4096x704, .bf16⟩
  | .hbm, ⟨12, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x704x2048, .bf16⟩
  | .local _ .vmem, ⟨3, _⟩ => ⟨S1x1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x8x704, .f32⟩
  | .hbm, ⟨16, _⟩ => ⟨S8x4096x704, .f32⟩
  | .hbm, ⟨17, _⟩ => ⟨S8x4096x704, .bf16⟩
  | .hbm, ⟨18, _⟩ => ⟨S4096x8x704, .f32⟩
  | .hbm, ⟨19, _⟩ => ⟨S8x4096x704, .f32⟩
  | .hbm, ⟨20, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel8.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩
abbrev S8x1x704x2048 : Shape := ⟨4, ![8, 1, 704, 2048]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 23
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x8x704, .f32⟩
  | .hbm, ⟨18, _⟩ => ⟨S8x4096x704, .f32⟩
  | .hbm, ⟨19, _⟩ => ⟨S8x4096x704, .bf16⟩
  | .hbm, ⟨20, _⟩ => ⟨S8x1x704x2048, .f32⟩
  | .hbm, ⟨21, _⟩ => ⟨S8x1x704x2048, .bf16⟩
  | .hbm, ⟨22, _⟩ => ⟨S4096x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S8x1x256x2048 : Shape := ⟨4, ![8, 1, 256, 2048]⟩
abbrev S1024x2048 : Shape := ⟨2, ![1024, 2048]⟩
abbrev S1x1x256x2048 : Shape := ⟨4, ![1, 1, 256, 2048]⟩
abbrev S1024x256 : Shape := ⟨2, ![1024, 256]⟩
abbrev S256x2048 : Shape := ⟨2, ![256, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S8x1x256x2048, .f32⟩
  | .hbm, ⟨4, _⟩ => ⟨S8x1x256x2048, .bf16⟩
  | .hbm, ⟨5, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x256x2048, .bf16⟩
  | .local _ .vmem, ⟨3, _⟩ => ⟨S1x1x256x2048, .bf16⟩
  | .local _ .vmem, ⟨4, _⟩ => ⟨S1024x256, .f32⟩
  | .local _ .vmem, ⟨5, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x2048 : Shape := ⟨2, ![4096, 2048]⟩
abbrev S2048x4096 : Shape := ⟨2, ![2048, 4096]⟩
abbrev S4096x4096 : Shape := ⟨2, ![4096, 4096]⟩
abbrev S8x1x256x4096 : Shape := ⟨4, ![8, 1, 256, 4096]⟩
abbrev S1024x4096 : Shape := ⟨2, ![1024, 4096]⟩
abbrev S1x1x256x4096 : Shape := ⟨4, ![1, 1, 256, 4096]⟩
abbrev S1024x256 : Shape := ⟨2, ![1024, 256]⟩
abbrev S256x4096 : Shape := ⟨2, ![256, 4096]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x4096, .bf16⟩
  | .hbm, ⟨4, _⟩ => ⟨S8x1x256x4096, .f32⟩
  | .hbm, ⟨5, _⟩ => ⟨S8x1x256x4096, .bf16⟩
  | .hbm, ⟨6, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x1x256x4096, .bf16⟩
  | .local _ .vmem, ⟨3, _⟩ => ⟨S1x1x256x4096, .bf16⟩
  | .local _ .vmem, ⟨4, _⟩ => ⟨S1024x256, .f32⟩
  | .local _ .vmem, ⟨5, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x4096, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S2048x4096 : Shape := ⟨2, ![2048, 4096]⟩
abbrev S4096x4096 : Shape := ⟨2, ![4096, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x2048, .bf16⟩
  | .hbm, ⟨4, _⟩ => ⟨S4096x4096, .bf16⟩
  | .hbm, ⟨5, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x4096, .f32⟩
  | .hbm, ⟨4, _⟩ => ⟨S4096x2048, .f32⟩
  | .hbm, ⟨5, _⟩ => ⟨S2048x4096, .f32⟩
  | .hbm, ⟨6, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S2048x4096 : Shape := ⟨2, ![2048, 4096]⟩
abbrev S8x1x256x4096 : Shape := ⟨4, ![8, 1, 256, 4096]⟩
abbrev S4096x4096 : Shape := ⟨2, ![4096, 4096]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x2048, .bf16⟩
  | .hbm, ⟨3, _⟩ => ⟨S8x1x256x4096, .f32⟩
  | .hbm, ⟨4, _⟩ => ⟨S8x1x256x4096, .bf16⟩
  | .hbm, ⟨5, _⟩ => ⟨S2048x4096, .bf16⟩
  | .hbm, ⟨6, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S8x1x256x2048 : Shape := ⟨4, ![8, 1, 256, 2048]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S8x1x256x2048, .f32⟩
  | .hbm, ⟨4, _⟩ => ⟨S8x1x256x2048, .bf16⟩
  | .hbm, ⟨5, _⟩ => ⟨S2048x2048, .bf16⟩
  | .hbm, ⟨6, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S4096x512 : Shape := ⟨2, ![4096, 512]⟩
abbrev S512x1536 : Shape := ⟨2, ![512, 1536]⟩
abbrev S512x8x192 : Shape := ⟨3, ![512, 8, 192]⟩
abbrev S8x512x192 : Shape := ⟨3, ![8, 512, 192]⟩
abbrev S8x1x512x192 : Shape := ⟨4, ![8, 1, 512, 192]⟩
abbrev S8x4096x192 : Shape := ⟨3, ![8, 4096, 192]⟩
abbrev S1024x512 : Shape := ⟨2, ![1024, 512]⟩
abbrev S1x1x512x192 : Shape := ⟨4, ![1, 1, 512, 192]⟩
abbrev S1x1024x192 : Shape := ⟨3, ![1, 1024, 192]⟩
abbrev S512x192 : Shape := ⟨2, ![512, 192]⟩
abbrev S1024x192 : Shape := ⟨2, ![1024, 192]⟩

abbrev nBuf : Space → Nat
  | .hbm => 8
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S4096x512, .bf16⟩
  | .hbm, ⟨3, _⟩ => ⟨S512x8x192, .f32⟩
  | .hbm, ⟨4, _⟩ => ⟨S8x512x192, .f32⟩
  | .hbm, ⟨5, _⟩ => ⟨S8x1x512x192, .f32⟩
  | .hbm, ⟨6, _⟩ => ⟨S8x1x512x192, .bf16⟩
  | .hbm, ⟨7, _⟩ => ⟨S8x4096x192, .f32⟩
  | .local _ .vmem, ⟨0, _⟩ => ⟨S1024x512, .bf16⟩
  | .local _ .vmem, ⟨1, _⟩ => ⟨S1024x512, .bf16⟩
  | .local _ .vmem, ⟨2, _⟩ => ⟨S1x1x512x192, .bf16⟩
  | .local _ .vmem, ⟨3, _⟩ => ⟨S1x1x512x192, .bf16⟩
  | .local _ .vmem, ⟨4, _⟩ => ⟨S1x1024x192, .f32⟩
  | .local _ .vmem, ⟨5, _⟩ => ⟨S1x1024x192, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x512 : Shape := ⟨2, ![4096, 512]⟩
abbrev S512x1536 : Shape := ⟨2, ![512, 1536]⟩
abbrev S4096x1536 : Shape := ⟨2, ![4096, 1536]⟩
abbrev S4096x8x192 : Shape := ⟨3, ![4096, 8, 192]⟩
abbrev S8x4096x192 : Shape := ⟨3, ![8, 4096, 192]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S4096x1536, .f32⟩
  | .hbm, ⟨3, _⟩ => ⟨S4096x8x192, .f32⟩
  | .hbm, ⟨4, _⟩ => ⟨S8x4096x192, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x512 : Shape := ⟨2, ![4096, 512]⟩
abbrev S512x1536 : Shape := ⟨2, ![512, 1536]⟩
abbrev S8x4096x192 : Shape := ⟨3, ![8, 4096, 192]⟩
abbrev S512x8x192 : Shape := ⟨3, ![512, 8, 192]⟩
abbrev S8x512x192 : Shape := ⟨3, ![8, 512, 192]⟩
abbrev S8x1x512x192 : Shape := ⟨4, ![8, 1, 512, 192]⟩
abbrev S1x1024x192 : Shape := ⟨3, ![1, 1024, 192]⟩
abbrev S1x1x512x192 : Shape := ⟨4, ![1, 1, 512, 192]⟩
abbrev S1024x512 : Shape := ⟨2, ![1024, 512]⟩
abbrev S1024x192 : Shape := ⟨2, ![1024, 192]⟩
abbrev S512x192 : Shape := ⟨2, ![512, 192]⟩

abbrev nBuf : Space → Nat
  | .hbm => 9
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S8x4096x192, .f32⟩
  | .hbm, ⟨3, _⟩ => ⟨S8x4096x192, .bf16⟩
  | .hbm, ⟨4, _⟩ => ⟨S512x8x192, .f32⟩
  | .hbm, ⟨5, _⟩ => ⟨S8x512x192, .f32⟩
  | .hbm, ⟨6, _⟩ => ⟨S8x1x512x192, .f32⟩
  | .hbm, ⟨7, _⟩ => ⟨S8x1x512x192, .bf16⟩
  | .hbm, ⟨8, _⟩ => ⟨S4096x512, .f32⟩
  | .local _ .vmem, ⟨0, _⟩ => ⟨S1x1024x192, .bf16⟩
  | .local _ .vmem, ⟨1, _⟩ => ⟨S1x1024x192, .bf16⟩
  | .local _ .vmem, ⟨2, _⟩ => ⟨S1x1x512x192, .bf16⟩
  | .local _ .vmem, ⟨3, _⟩ => ⟨S1x1x512x192, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference16Ideal.lean ====
abbrev S4096x512 : Shape := ⟨2, ![4096, 512]⟩
abbrev S512x1536 : Shape := ⟨2, ![512, 1536]⟩
abbrev S8x4096x192 : Shape := ⟨3, ![8, 4096, 192]⟩
abbrev S4096x1536 : Shape := ⟨2, ![4096, 1536]⟩
abbrev S4096x8x192 : Shape := ⟨3, ![4096, 8, 192]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S8x4096x192, .f32⟩
  | .hbm, ⟨3, _⟩ => ⟨S4096x1536, .f32⟩
  | .hbm, ⟨4, _⟩ => ⟨S4096x8x192, .f32⟩
  | .hbm, ⟨5, _⟩ => ⟨S8x4096x192, .f32⟩
  | .hbm, ⟨6, _⟩ => ⟨S4096x8x192, .f32⟩
  | .hbm, ⟨7, _⟩ => ⟨S4096x1536, .f32⟩
  | .hbm, ⟨8, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x512 : Shape := ⟨2, ![4096, 512]⟩
abbrev S512x1536 : Shape := ⟨2, ![512, 1536]⟩
abbrev S8x4096x192 : Shape := ⟨3, ![8, 4096, 192]⟩
abbrev S8x512x192 : Shape := ⟨3, ![8, 512, 192]⟩
abbrev S1024x512 : Shape := ⟨2, ![1024, 512]⟩
abbrev S1x1024x192 : Shape := ⟨3, ![1, 1024, 192]⟩
abbrev S1x512x192 : Shape := ⟨3, ![1, 512, 192]⟩
abbrev S512x192 : Shape := ⟨2, ![512, 192]⟩
abbrev S1024x192 : Shape := ⟨2, ![1024, 192]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S8x4096x192, .f32⟩
  | .hbm, ⟨3, _⟩ => ⟨S4096x512, .bf16⟩
  | .hbm, ⟨4, _⟩ => ⟨S8x4096x192, .bf16⟩
  | .hbm, ⟨5, _⟩ => ⟨S8x512x192, .bf16⟩
  | .local _ .vmem, ⟨0, _⟩ => ⟨S1024x512, .bf16⟩
  | .local _ .vmem, ⟨1, _⟩ => ⟨S1024x512, .bf16⟩
  | .local _ .vmem, ⟨2, _⟩ => ⟨S1x1024x192, .bf16⟩
  | .local _ .vmem, ⟨3, _⟩ => ⟨S1x1024x192, .bf16⟩
  | .local _ .vmem, ⟨4, _⟩ => ⟨S1x512x192, .bf16⟩
  | .local _ .vmem, ⟨5, _⟩ => ⟨S1x512x192, .bf16⟩
  | .local _ .vmem, ⟨6, _⟩ => ⟨S512x192, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference17Ideal.lean ====
abbrev S4096x512 : Shape := ⟨2, ![4096, 512]⟩
abbrev S512x1536 : Shape := ⟨2, ![512, 1536]⟩
abbrev S8x4096x192 : Shape := ⟨3, ![8, 4096, 192]⟩
abbrev S4096x1536 : Shape := ⟨2, ![4096, 1536]⟩
abbrev S4096x8x192 : Shape := ⟨3, ![4096, 8, 192]⟩
abbrev S1536x512 : Shape := ⟨2, ![1536, 512]⟩
abbrev S512x8x192 : Shape := ⟨3, ![512, 8, 192]⟩
abbrev S8x512x192 : Shape := ⟨3, ![8, 512, 192]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S8x4096x192, .f32⟩
  | .hbm, ⟨3, _⟩ => ⟨S4096x1536, .f32⟩
  | .hbm, ⟨4, _⟩ => ⟨S4096x8x192, .f32⟩
  | .hbm, ⟨5, _⟩ => ⟨S8x4096x192, .f32⟩
  | .hbm, ⟨6, _⟩ => ⟨S4096x8x192, .f32⟩
  | .hbm, ⟨7, _⟩ => ⟨S4096x1536, .f32⟩
  | .hbm, ⟨8, _⟩ => ⟨S1536x512, .f32⟩
  | .hbm, ⟨9, _⟩ => ⟨S512x1536, .f32⟩
  | .hbm, ⟨10, _⟩ => ⟨S512x8x192, .f32⟩
  | .hbm, ⟨11, _⟩ => ⟨S8x512x192, .f32⟩
  | .hbm, ⟨12, _⟩ => ⟨S8x512x192, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel18.lean ====
abbrev S4096x512 : Shape := ⟨2, ![4096, 512]⟩
abbrev S512x2048 : Shape := ⟨2, ![512, 2048]⟩
abbrev S512x8x256 : Shape := ⟨3, ![512, 8, 256]⟩
abbrev S8x512x256 : Shape := ⟨3, ![8, 512, 256]⟩
abbrev S8x1x512x256 : Shape := ⟨4, ![8, 1, 512, 256]⟩
abbrev S8x4096x256 : Shape := ⟨3, ![8, 4096, 256]⟩
abbrev S1024x512 : Shape := ⟨2, ![1024, 512]⟩
abbrev S1x1x512x256 : Shape := ⟨4, ![1, 1, 512, 256]⟩
abbrev S1x1024x256 : Shape := ⟨3, ![1, 1024, 256]⟩
abbrev S512x256 : Shape := ⟨2, ![512, 256]⟩
abbrev S1024x256 : Shape := ⟨2, ![1024, 256]⟩

abbrev nBuf : Space → Nat
  | .hbm => 8
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x512, .bf16⟩
  | .hbm, ⟨3, _⟩ => ⟨S512x8x256, .f32⟩
  | .hbm, ⟨4, _⟩ => ⟨S8x512x256, .f32⟩
  | .hbm, ⟨5, _⟩ => ⟨S8x1x512x256, .f32⟩
  | .hbm, ⟨6, _⟩ => ⟨S8x1x512x256, .bf16⟩
  | .hbm, ⟨7, _⟩ => ⟨S8x4096x256, .bf16⟩
  | .local _ .vmem, ⟨0, _⟩ => ⟨S1024x512, .bf16⟩
  | .local _ .vmem, ⟨1, _⟩ => ⟨S1024x512, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1024x256, .bf16⟩
  | .local _ .vmem, ⟨5, _⟩ => ⟨S1x1024x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S512x2048 : Shape := ⟨2, ![512, 2048]⟩
abbrev S4096x2048 : Shape := ⟨2, ![4096, 2048]⟩
abbrev S4096x8x256 : Shape := ⟨3, ![4096, 8, 256]⟩
abbrev S8x4096x256 : Shape := ⟨3, ![8, 4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .hbm, ⟨3, _⟩ => ⟨S4096x8x256, .f32⟩
  | .hbm, ⟨4, _⟩ => ⟨S8x4096x256, .f32⟩
  | .hbm, ⟨5, _⟩ => ⟨S8x4096x256, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x512 : Shape := ⟨2, ![4096, 512]⟩
abbrev S512x2048 : Shape := ⟨2, ![512, 2048]⟩
abbrev S8x4096x256 : Shape := ⟨3, ![8, 4096, 256]⟩
abbrev S512x8x256 : Shape := ⟨3, ![512, 8, 256]⟩
abbrev S8x512x256 : Shape := ⟨3, ![8, 512, 256]⟩
abbrev S8x1x512x256 : Shape := ⟨4, ![8, 1, 512, 256]⟩
abbrev S1x1024x256 : Shape := ⟨3, ![1, 1024, 256]⟩
abbrev S1x1x512x256 : Shape := ⟨4, ![1, 1, 512, 256]⟩
abbrev S1024x512 : Shape := ⟨2, ![1024, 512]⟩
abbrev S1024x256 : Shape := ⟨2, ![1024, 256]⟩
abbrev S512x256 : Shape := ⟨2, ![512, 256]⟩

abbrev nBuf : Space → Nat
  | .hbm => 9
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S8x4096x256, .f32⟩
  | .hbm, ⟨3, _⟩ => ⟨S8x4096x256, .bf16⟩
  | .hbm, ⟨4, _⟩ => ⟨S512x8x256, .f32⟩
  | .hbm, ⟨5, _⟩ => ⟨S8x512x256, .f32⟩
  | .hbm, ⟨6, _⟩ => ⟨S8x1x512x256, .f32⟩
  | .hbm, ⟨7, _⟩ => ⟨S8x1x512x256, .bf16⟩
  | .hbm, ⟨8, _⟩ => ⟨S4096x512, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference19Ideal.lean ====
abbrev S4096x512 : Shape := ⟨2, ![4096, 512]⟩
abbrev S512x2048 : Shape := ⟨2, ![512, 2048]⟩
abbrev S8x4096x256 : Shape := ⟨3, ![8, 4096, 256]⟩
abbrev S4096x2048 : Shape := ⟨2, ![4096, 2048]⟩
abbrev S4096x8x256 : Shape := ⟨3, ![4096, 8, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S8x4096x256, .f32⟩
  | .hbm, ⟨3, _⟩ => ⟨S4096x2048, .f32⟩
  | .hbm, ⟨4, _⟩ => ⟨S4096x8x256, .f32⟩
  | .hbm, ⟨5, _⟩ => ⟨S8x4096x256, .f32⟩
  | .hbm, ⟨6, _⟩ => ⟨S4096x8x256, .f32⟩
  | .hbm, ⟨7, _⟩ => ⟨S4096x2048, .f32⟩
  | .hbm, ⟨8, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S4096x512 : Shape := ⟨2, ![4096, 512]⟩
abbrev S512x2048 : Shape := ⟨2, ![512, 2048]⟩
abbrev S8x4096x256 : Shape := ⟨3, ![8, 4096, 256]⟩
abbrev S8x512x256 : Shape := ⟨3, ![8, 512, 256]⟩
abbrev S1024x512 : Shape := ⟨2, ![1024, 512]⟩
abbrev S1x1024x256 : Shape := ⟨3, ![1, 1024, 256]⟩
abbrev S1x512x256 : Shape := ⟨3, ![1, 512, 256]⟩
abbrev S512x256 : Shape := ⟨2, ![512, 256]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S8x4096x256, .f32⟩
  | .hbm, ⟨3, _⟩ => ⟨S4096x512, .bf16⟩
  | .hbm, ⟨4, _⟩ => ⟨S8x4096x256, .bf16⟩
  | .hbm, ⟨5, _⟩ => ⟨S8x512x256, .bf16⟩
  | .local _ .vmem, ⟨0, _⟩ => ⟨S1024x512, .bf16⟩
  | .local _ .vmem, ⟨1, _⟩ => ⟨S1024x512, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference20Ideal.lean ====
abbrev S4096x512 : Shape := ⟨2, ![4096, 512]⟩
abbrev S512x2048 : Shape := ⟨2, ![512, 2048]⟩
abbrev S8x4096x256 : Shape := ⟨3, ![8, 4096, 256]⟩
abbrev S4096x2048 : Shape := ⟨2, ![4096, 2048]⟩
abbrev S4096x8x256 : Shape := ⟨3, ![4096, 8, 256]⟩
abbrev S2048x512 : Shape := ⟨2, ![2048, 512]⟩
abbrev S512x8x256 : Shape := ⟨3, ![512, 8, 256]⟩
abbrev S8x512x256 : Shape := ⟨3, ![8, 512, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S8x4096x256, .f32⟩
  | .hbm, ⟨3, _⟩ => ⟨S4096x2048, .f32⟩
  | .hbm, ⟨4, _⟩ => ⟨S4096x8x256, .f32⟩
  | .hbm, ⟨5, _⟩ => ⟨S8x4096x256, .f32⟩
  | .hbm, ⟨6, _⟩ => ⟨S4096x8x256, .f32⟩
  | .hbm, ⟨7, _⟩ => ⟨S4096x2048, .f32⟩
  | .hbm, ⟨8, _⟩ => ⟨S2048x512, .f32⟩
  | .hbm, ⟨9, _⟩ => ⟨S512x2048, .f32⟩
  | .hbm, ⟨10, _⟩ => ⟨S512x8x256, .f32⟩
  | .hbm, ⟨11, _⟩ => ⟨S8x512x256, .f32⟩
  | .hbm, ⟨12, _⟩ => ⟨S8x512x256, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel21.lean ====
abbrev S4x8x704x2048 : Shape := ⟨4, ![4, 8, 704, 2048]⟩
abbrev S4x704x2048 : Shape := ⟨3, ![4, 704, 2048]⟩
abbrev S1x8x704x2048 : Shape := ⟨4, ![1, 8, 704, 2048]⟩
abbrev S8x704x2048 : Shape := ⟨3, ![8, 704, 2048]⟩
abbrev S2816x2048 : Shape := ⟨2, ![2816, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 19
  | .vmem => 22
  | .smem => 0
  | _ => 0

abbrev bufTy : (tb : Table) → Fin (tcTables nBuf tb) → BufTy
  | .hbm, ⟨0, _⟩ => ⟨S4x8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S1x8x704x2048, .bf16⟩
  | .hbm, ⟨5, _⟩ => ⟨S8x704x2048, .bf16⟩
  | .hbm, ⟨6, _⟩ => ⟨S1x8x704x2048, .bf16⟩
  | .hbm, ⟨7, _⟩ => ⟨S8x704x2048, .bf16⟩
  | .hbm, ⟨8, _⟩ => ⟨S1x8x704x2048, .bf16⟩
  | .hbm, ⟨9, _⟩ => ⟨S8x704x2048, .bf16⟩
  | .hbm, ⟨10, _⟩ => ⟨S1x8x704x2048, .bf16⟩
  | .hbm, ⟨11, _⟩ => ⟨S8x704x2048, .bf16⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S2816x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S8x64x2048, .bf16⟩
  | .local _ .vmem, ⟨7, _⟩ => ⟨S8x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S4x8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c10_i32 : BitVec 32 := 10#32
  let v2 : BitVec 32 := Scalar.select v1 arg1 c10_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c10_i32 : BitVec 32 := 10#32
  let v2 : BitVec 32 := Scalar.select v1 arg1 c10_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c10_i32 : BitVec 32 := 10#32
  let v2 : BitVec 32 := Scalar.select v1 arg1 c10_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c10_i32 : BitVec 32 := 10#32
  let v2 : BitVec 32 := Scalar.select v1 arg1 c10_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference21Ideal.lean ====
abbrev S4x8x704x2048 : Shape := ⟨4, ![4, 8, 704, 2048]⟩
abbrev S4x704x2048 : Shape := ⟨3, ![4, 704, 2048]⟩
abbrev S_ : Shape := ⟨0, ![]⟩
abbrev S2816x2048 : Shape := ⟨2, ![2816, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x8x704x2048, .f32⟩
  | .hbm, ⟨5, _⟩ => ⟨S_, .f32⟩
  | .hbm, ⟨6, _⟩ => ⟨S4x704x2048, .f32⟩
  | .hbm, ⟨7, _⟩ => ⟨S_, .f32⟩
  | .hbm, ⟨8, _⟩ => ⟨S4x704x2048, .f32⟩
  | .hbm, ⟨9, _⟩ => ⟨S4x704x2048, .f32⟩
  | .hbm, ⟨10, _⟩ => ⟨S_, .f32⟩
  | .hbm, ⟨11, _⟩ => ⟨S4x704x2048, .f32⟩
  | .hbm, ⟨12, _⟩ => ⟨S4x704x2048, .f32⟩
  | .hbm, ⟨13, _⟩ => ⟨S4x704x2048, .f32⟩
  | .hbm, ⟨14, _⟩ => ⟨S_, .f32⟩
  | .hbm, ⟨15, _⟩ => ⟨S4x704x2048, .f32⟩
  | .hbm, ⟨16, _⟩ => ⟨S4x704x2048, .f32⟩
  | .hbm, ⟨17, _⟩ => ⟨S4x704x2048, .f32⟩
  | .hbm, ⟨18, _⟩ => ⟨S_, .f32⟩
  | .hbm, ⟨19, _⟩ => ⟨S4x704x2048, .f32⟩
  | .hbm, ⟨20, _⟩ => ⟨S4x704x2048, .f32⟩
  | .hbm, ⟨21, _⟩ => ⟨S4x704x2048, .f32⟩
  | .hbm, ⟨22, _⟩ => ⟨S_, .f32⟩
  | .hbm, ⟨23, _⟩ => ⟨S4x704x2048, .f32⟩
  | .hbm, ⟨24, _⟩ => ⟨S4x704x2048, .f32⟩
  | .hbm, ⟨25, _⟩ => ⟨S_, .f32⟩
  | .hbm, ⟨26, _⟩ => ⟨S4x704x2048, .f32⟩
  | .hbm, ⟨27, _⟩ => ⟨S4x704x2048, .f32⟩
  | .hbm, ⟨28, _⟩ => ⟨S4x704x2048, .f32⟩
  | .hbm, ⟨29, _⟩ => ⟨S_, .f32⟩
  | .hbm, ⟨30, _⟩ => ⟨S4x704x2048, .f32⟩
  | .hbm, ⟨31, _⟩ => ⟨S4x704x2048, .f32⟩
  | .hbm, ⟨32, _⟩ => ⟨S4x704x2048, .f32⟩
  | .hbm, ⟨33, _⟩ => ⟨S_, .f32⟩
  | .hbm, ⟨34, _⟩ => ⟨S4x704x2048, .f32⟩
  | .hbm, ⟨35, _⟩ => ⟨S4x704x2048, .f32⟩
  | .hbm, ⟨36, _⟩ => ⟨S4x704x2048, .f32⟩
  | .hbm, ⟨37, _⟩ => ⟨S_, .f32⟩
  | .hbm, ⟨38, _⟩ => ⟨S4x704x2048, .f32⟩
  | .hbm, ⟨39, _⟩ => ⟨S4x704x2048, .f32⟩
  | .hbm, ⟨40, _⟩ => ⟨S2816x2048, .f32⟩
  | .hbm, ⟨41, _⟩ => ⟨S2816x2048, .f32⟩
  | .hbm, ⟨42, _⟩ => ⟨S2816x2048, .f32⟩
  | .hbm, ⟨43, _⟩ => ⟨S2816x2048, .f32⟩
  | _, _ => ⟨S4x8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel22.lean ====
abbrev S4x8x256x2048 : Shape := ⟨4, ![4, 8, 256, 2048]⟩
abbrev S4x256x2048 : Shape := ⟨3, ![4, 256, 2048]⟩
abbrev S1x8x256x2048 : Shape := ⟨4, ![1, 8, 256, 2048]⟩
abbrev S8x256x2048 : Shape := ⟨3, ![8, 256, 2048]⟩
abbrev S1024x2048 : Shape := ⟨2, ![1024, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 19
  | .vmem => 22
  | .smem => 0
  | _ => 0

abbrev bufTy : (tb : Table) → Fin (tcTables nBuf tb) → BufTy
  | .hbm, ⟨0, _⟩ => ⟨S4x8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S1x8x256x2048, .bf16⟩
  | .hbm, ⟨5, _⟩ => ⟨S8x256x2048, .bf16⟩
  | .hbm, ⟨6, _⟩ => ⟨S1x8x256x2048, .bf16⟩
  | .hbm, ⟨7, _⟩ => ⟨S8x256x2048, .bf16⟩
  | .hbm, ⟨8, _⟩ => ⟨S1x8x256x2048, .bf16⟩
  | .hbm, ⟨9, _⟩ => ⟨S8x256x2048, .bf16⟩
  | .hbm, ⟨10, _⟩ => ⟨S1x8x256x2048, .bf16⟩
  | .hbm, ⟨11, _⟩ => ⟨S8x256x2048, .bf16⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S8x128x2048, .bf16⟩
  | .local _ .vmem, ⟨5, _⟩ => ⟨S8x128x2048, .bf16⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | _, _ => ⟨S4x8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c1_i32 : BitVec 32 := 1#32
  let v2 : BitVec 32 := Scalar.select v1 arg1 c1_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c1_i32_1 : BitVec 32 := 1#32
  let v2 : BitVec 32 := Scalar.select v1 arg1 c1_i32_1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference22Ideal.lean ====
abbrev S4x8x256x2048 : Shape := ⟨4, ![4, 8, 256, 2048]⟩
abbrev S4x256x2048 : Shape := ⟨3, ![4, 256, 2048]⟩
abbrev S_ : Shape := ⟨0, ![]⟩
abbrev S1024x2048 : Shape := ⟨2, ![1024, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x8x256x2048, .f32⟩
  | .hbm, ⟨5, _⟩ => ⟨S_, .f32⟩
  | .hbm, ⟨6, _⟩ => ⟨S4x256x2048, .f32⟩
  | .hbm, ⟨7, _⟩ => ⟨S_, .f32⟩
  | .hbm, ⟨8, _⟩ => ⟨S4x256x2048, .f32⟩
  | .hbm, ⟨9, _⟩ => ⟨S4x256x2048, .f32⟩
  | .hbm, ⟨10, _⟩ => ⟨S_, .f32⟩
  | .hbm, ⟨11, _⟩ => ⟨S4x256x2048, .f32⟩
  | .hbm, ⟨12, _⟩ => ⟨S4x256x2048, .f32⟩
  | .hbm, ⟨13, _⟩ => ⟨S4x256x2048, .f32⟩
  | .hbm, ⟨14, _⟩ => ⟨S_, .f32⟩
  | .hbm, ⟨15, _⟩ => ⟨S4x256x2048, .f32⟩
  | .hbm, ⟨16, _⟩ => ⟨S4x256x2048, .f32⟩
  | .hbm, ⟨17, _⟩ => ⟨S4x256x2048, .f32⟩
  | .hbm, ⟨18, _⟩ => ⟨S_, .f32⟩
  | .hbm, ⟨19, _⟩ => ⟨S4x256x2048, .f32⟩
  | .hbm, ⟨20, _⟩ => ⟨S4x256x2048, .f32⟩
  | .hbm, ⟨21, _⟩ => ⟨S4x256x2048, .f32⟩
  | .hbm, ⟨22, _⟩ => ⟨S_, .f32⟩
  | .hbm, ⟨23, _⟩ => ⟨S4x256x2048, .f32⟩
  | .hbm, ⟨24, _⟩ => ⟨S4x256x2048, .f32⟩
  | .hbm, ⟨25, _⟩ => ⟨S_, .f32⟩
  | .hbm, ⟨26, _⟩ => ⟨S4x256x2048, .f32⟩
  | .hbm, ⟨27, _⟩ => ⟨S4x256x2048, .f32⟩
  | .hbm, ⟨28, _⟩ => ⟨S4x256x2048, .f32⟩
  | .hbm, ⟨29, _⟩ => ⟨S_, .f32⟩
  | .hbm, ⟨30, _⟩ => ⟨S4x256x2048, .f32⟩
  | .hbm, ⟨31, _⟩ => ⟨S4x256x2048, .f32⟩
  | .hbm, ⟨32, _⟩ => ⟨S4x256x2048, .f32⟩
  | .hbm, ⟨33, _⟩ => ⟨S_, .f32⟩
  | .hbm, ⟨34, _⟩ => ⟨S4x256x2048, .f32⟩
  | .hbm, ⟨35, _⟩ => ⟨S4x256x2048, .f32⟩
  | .hbm, ⟨36, _⟩ => ⟨S4x256x2048, .f32⟩
  | .hbm, ⟨37, _⟩ => ⟨S_, .f32⟩
  | .hbm, ⟨38, _⟩ => ⟨S4x256x2048, .f32⟩
  | .hbm, ⟨39, _⟩ => ⟨S4x256x2048, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S1024x2048, .f32⟩
  | _, _ => ⟨S4x8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel23.lean ====
abbrev S4x8x512x192 : Shape := ⟨4, ![4, 8, 512, 192]⟩
abbrev S4x512x192 : Shape := ⟨3, ![4, 512, 192]⟩
abbrev S1x8x512x192 : Shape := ⟨4, ![1, 8, 512, 192]⟩
abbrev S8x512x192 : Shape := ⟨3, ![8, 512, 192]⟩
abbrev S2048x192 : Shape := ⟨2, ![2048, 192]⟩
abbrev S8x256x192 : Shape := ⟨3, ![8, 256, 192]⟩
abbrev S256x192 : Shape := ⟨2, ![256, 192]⟩
abbrev S1x256x192 : Shape := ⟨3, ![1, 256, 192]⟩

abbrev nBuf : Space → Nat
  | .hbm => 19
  | .vmem => 22
  | .smem => 0
  | _ => 0

abbrev bufTy : (tb : Table) → Fin (tcTables nBuf tb) → BufTy
  | .hbm, ⟨0, _⟩ => ⟨S4x8x512x192, .bf16⟩
  | .hbm, ⟨1, _⟩ => ⟨S4x512x192, .f32⟩
  | .hbm, ⟨2, _⟩ => ⟨S4x512x192, .f32⟩
  | .hbm, ⟨3, _⟩ => ⟨S4x512x192, .f32⟩
  | .hbm, ⟨4, _⟩ => ⟨S1x8x512x192, .bf16⟩
  | .hbm, ⟨5, _⟩ => ⟨S8x512x192, .bf16⟩
  | .hbm, ⟨6, _⟩ => ⟨S1x8x512x192, .bf16⟩
  | .hbm, ⟨7, _⟩ => ⟨S8x512x192, .bf16⟩
  | .hbm, ⟨8, _⟩ => ⟨S1x8x512x192, .bf16⟩
  | .hbm, ⟨9, _⟩ => ⟨S8x512x192, .bf16⟩
  | .hbm, ⟨10, _⟩ => ⟨S1x8x512x192, .bf16⟩
  | .hbm, ⟨11, _⟩ => ⟨S8x512x192, .bf16⟩
  | .hbm, ⟨12, _⟩ => ⟨S2048x192, .f32⟩
  | .hbm, ⟨13, _⟩ => ⟨S2048x192, .f32⟩
  | .hbm, ⟨14, _⟩ => ⟨S2048x192, .f32⟩
  | .hbm, ⟨15, _⟩ => ⟨S2048x192, .f32⟩
  | .hbm, ⟨16, _⟩ => ⟨S2048x192, .f32⟩
  | .hbm, ⟨17, _⟩ => ⟨S2048x192, .f32⟩
  | .hbm, ⟨18, _⟩ => ⟨S2048x192, .f32⟩
  | .local _ .vmem, ⟨0, _⟩ => ⟨S8x256x192, .bf16⟩
  | .local _ .vmem, ⟨1, _⟩ => ⟨S8x256x192, .bf16⟩
  | .local _ .vmem, ⟨2, _⟩ => ⟨S8x256x192, .bf16⟩
  | .local _ .vmem, ⟨3, _⟩ => ⟨S8x256x192, .bf16⟩
  | .local _ .vmem, ⟨4, _⟩ => ⟨S8x256x192, .bf16⟩
  | .local _ .vmem, ⟨5, _⟩ => ⟨S8x256x192, .bf16⟩
  | .local _ .vmem, ⟨6, _⟩ => ⟨S8x256x192, .bf16⟩
  | .local _ .vmem, ⟨7, _⟩ => ⟨S8x256x192, .bf16⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .vmem, ⟨16, _⟩ => ⟨S256x192, .f32⟩
  | .local _ .vmem, ⟨17, _⟩ => ⟨S256x192, .f32⟩
  | .local _ .vmem, ⟨18, _⟩ => ⟨S256x192, .f32⟩
  | .local _ .vmem, ⟨19, _⟩ => ⟨S256x192, .f32⟩
  | .local _ .vmem, ⟨20, _⟩ => ⟨S256x192, .f32⟩
  | .local _ .vmem, ⟨21, _⟩ => ⟨S256x192, .f32⟩
  | _, _ => ⟨S4x8x512x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c1_i32 : BitVec 32 := 1#32
  let v2 : BitVec 32 := Scalar.select v1 arg1 c1_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c1_i32_1 : BitVec 32 := 1#32
  let v2 : BitVec 32 := Scalar.select v1 arg1 c1_i32_1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference23Ideal.lean ====
abbrev S4x8x512x192 : Shape := ⟨4, ![4, 8, 512, 192]⟩
abbrev S4x512x192 : Shape := ⟨3, ![4, 512, 192]⟩
abbrev S_ : Shape := ⟨0, ![]⟩
abbrev S2048x192 : Shape := ⟨2, ![2048, 192]⟩

abbrev nBuf : Space → Nat
  | .hbm => 44
  | .vmem => 0
  | .smem => 0
  | _ => 0

abbrev bufTy : (tb : Table) → Fin (tcTables nBuf tb) → BufTy
  | .hbm, ⟨0, _⟩ => ⟨S4x8x512x192, .bf16⟩
  | .hbm, ⟨1, _⟩ => ⟨S4x512x192, .f32⟩
  | .hbm, ⟨2, _⟩ => ⟨S4x512x192, .f32⟩
  | .hbm, ⟨3, _⟩ => ⟨S4x512x192, .f32⟩
  | .hbm, ⟨4, _⟩ => ⟨S4x8x512x192, .f32⟩
  | .hbm, ⟨5, _⟩ => ⟨S_, .f32⟩
  | .hbm, ⟨6, _⟩ => ⟨S4x512x192, .f32⟩
  | .hbm, ⟨7, _⟩ => ⟨S_, .f32⟩
  | .hbm, ⟨8, _⟩ => ⟨S4x512x192, .f32⟩
  | .hbm, ⟨9, _⟩ => ⟨S4x512x192, .f32⟩
  | .hbm, ⟨10, _⟩ => ⟨S_, .f32⟩
  | .hbm, ⟨11, _⟩ => ⟨S4x512x192, .f32⟩
  | .hbm, ⟨12, _⟩ => ⟨S4x512x192, .f32⟩
  | .hbm, ⟨13, _⟩ => ⟨S4x512x192, .f32⟩
  | .hbm, ⟨14, _⟩ => ⟨S_, .f32⟩
  | .hbm, ⟨15, _⟩ => ⟨S4x512x192, .f32⟩
  | .hbm, ⟨16, _⟩ => ⟨S4x512x192, .f32⟩
  | .hbm, ⟨17, _⟩ => ⟨S4x512x192, .f32⟩
  | .hbm, ⟨18, _⟩ => ⟨S_, .f32⟩
  | .hbm, ⟨19, _⟩ => ⟨S4x512x192, .f32⟩
  | .hbm, ⟨20, _⟩ => ⟨S4x512x192, .f32⟩
  | .hbm, ⟨21, _⟩ => ⟨S4x512x192, .f32⟩
  | .hbm, ⟨22, _⟩ => ⟨S_, .f32⟩
  | .hbm, ⟨23, _⟩ => ⟨S4x512x192, .f32⟩
  | .hbm, ⟨24, _⟩ => ⟨S4x512x192, .f32⟩
  | .hbm, ⟨25, _⟩ => ⟨S_, .f32⟩
  | .hbm, ⟨26, _⟩ => ⟨S4x512x192, .f32⟩
  | .hbm, ⟨27, _⟩ => ⟨S4x512x192, .f32⟩
  | .hbm, ⟨28, _⟩ => ⟨S4x512x192, .f32⟩
  | .hbm, ⟨29, _⟩ => ⟨S_, .f32⟩
  | .hbm, ⟨30, _⟩ => ⟨S4x512x192, .f32⟩
  | .hbm, ⟨31, _⟩ => ⟨S4x512x192, .f32⟩
  | .hbm, ⟨32, _⟩ => ⟨S4x512x192, .f32⟩
  | .hbm, ⟨33, _⟩ => ⟨S_, .f32⟩
  | .hbm, ⟨34, _⟩ => ⟨S4x512x192, .f32⟩
  | .hbm, ⟨35, _⟩ => ⟨S4x512x192, .f32⟩
  | .hbm, ⟨36, _⟩ => ⟨S4x512x192, .f32⟩
  | .hbm, ⟨37, _⟩ => ⟨S_, .f32⟩
  | .hbm, ⟨38, _⟩ => ⟨S4x512x192, .f32⟩
  | .hbm, ⟨39, _⟩ => ⟨S4x512x192, .f32⟩
  | .hbm, ⟨40, _⟩ => ⟨S2048x192, .f32⟩
  | .hbm, ⟨41, _⟩ => ⟨S2048x192, .f32⟩
  | .hbm, ⟨42, _⟩ => ⟨S2048x192, .f32⟩
  | .hbm, ⟨43, _⟩ => ⟨S2048x192, .f32⟩
  | _, _ => ⟨S4x8x512x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel24.lean ====
abbrev S4x8x512x256 : Shape := ⟨4, ![4, 8, 512, 256]⟩
abbrev S4x512x256 : Shape := ⟨3, ![4, 512, 256]⟩
abbrev S1x8x512x256 : Shape := ⟨4, ![1, 8, 512, 256]⟩
abbrev S8x512x256 : Shape := ⟨3, ![8, 512, 256]⟩
abbrev S2048x256 : Shape := ⟨2, ![2048, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 19
  | .vmem => 22
  | .smem => 0
  | _ => 0

abbrev bufTy : (tb : Table) → Fin (tcTables nBuf tb) → BufTy
  | .hbm, ⟨0, _⟩ => ⟨S4x8x512x256, .bf16⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S1x8x512x256, .bf16⟩
  | .hbm, ⟨5, _⟩ => ⟨S8x512x256, .bf16⟩
  | .hbm, ⟨6, _⟩ => ⟨S1x8x512x256, .bf16⟩
  | .hbm, ⟨7, _⟩ => ⟨S8x512x256, .bf16⟩
  | .hbm, ⟨8, _⟩ => ⟨S1x8x512x256, .bf16⟩
  | .hbm, ⟨9, _⟩ => ⟨S8x512x256, .bf16⟩
  | .hbm, ⟨10, _⟩ => ⟨S1x8x512x256, .bf16⟩
  | .hbm, ⟨11, _⟩ => ⟨S8x512x256, .bf16⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S2048x256, .f32⟩
  | .hbm, ⟨17, _⟩ => ⟨S2048x256, .f32⟩
  | .hbm, ⟨18, _⟩ => ⟨S2048x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S8x256x256, .bf16⟩
  | .local _ .vmem, ⟨5, _⟩ => ⟨S8x256x256, .bf16⟩
  | .local _ .vmem, ⟨6, _⟩ => ⟨S8x256x256, .bf16⟩
  | .local _ .vmem, ⟨7, _⟩ => ⟨S8x256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | _, _ => ⟨S4x8x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c1_i32 : BitVec 32 := 1#32
  let v2 : BitVec 32 := Scalar.select v1 arg1 c1_i32
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c1_i32_1 : BitVec 32 := 1#32
  let v2 : BitVec 32 := Scalar.select v1 arg1 c1_i32_1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c1_i32 : BitVec 32 := 1#32
  let v2 : BitVec 32 := Scalar.select v1 arg1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference24Ideal.lean ====
abbrev S4x8x512x256 : Shape := ⟨4, ![4, 8, 512, 256]⟩
abbrev S4x512x256 : Shape := ⟨3, ![4, 512, 256]⟩
abbrev S_ : Shape := ⟨0, ![]⟩
abbrev S2048x256 : Shape := ⟨2, ![2048, 256]⟩

abbrev nBuf : Space → Nat
  | .hbm => 44
  | .vmem => 0
  | .smem => 0
  | _ => 0

abbrev bufTy : (tb : Table) → Fin (tcTables nBuf tb) → BufTy
  | .hbm, ⟨0, _⟩ => ⟨S4x8x512x256, .bf16⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S4x8x512x256, .f32⟩
  | .hbm, ⟨5, _⟩ => ⟨S_, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S_, .f32⟩
  | .hbm, ⟨11, _⟩ => ⟨S4x512x256, .f32⟩
  | .hbm, ⟨12, _⟩ => ⟨S4x512x256, .f32⟩
  | .hbm, ⟨13, _⟩ => ⟨S4x512x256, .f32⟩
  | .hbm, ⟨14, _⟩ => ⟨S_, .f32⟩
  | .hbm, ⟨15, _⟩ => ⟨S4x512x256, .f32⟩
  | .hbm, ⟨16, _⟩ => ⟨S4x512x256, .f32⟩
  | .hbm, ⟨17, _⟩ => ⟨S4x512x256, .f32⟩
  | .hbm, ⟨18, _⟩ => ⟨S_, .f32⟩
  | .hbm, ⟨19, _⟩ => ⟨S4x512x256, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S_, .f32⟩
  | .hbm, ⟨26, _⟩ => ⟨S4x512x256, .f32⟩
  | .hbm, ⟨27, _⟩ => ⟨S4x512x256, .f32⟩
  | .hbm, ⟨28, _⟩ => ⟨S4x512x256, .f32⟩
  | .hbm, ⟨29, _⟩ => ⟨S_, .f32⟩
  | .hbm, ⟨30, _⟩ => ⟨S4x512x256, .f32⟩
  | .hbm, ⟨31, _⟩ => ⟨S4x512x256, .f32⟩
  | .hbm, ⟨32, _⟩ => ⟨S4x512x256, .f32⟩
  | .hbm, ⟨33, _⟩ => ⟨S_, .f32⟩
  | .hbm, ⟨34, _⟩ => ⟨S4x512x256, .f32⟩
  | .hbm, ⟨35, _⟩ => ⟨S4x512x256, .f32⟩
  | .hbm, ⟨36, _⟩ => ⟨S4x512x256, .f32⟩
  | .hbm, ⟨37, _⟩ => ⟨S_, .f32⟩
  | .hbm, ⟨38, _⟩ => ⟨S4x512x256, .f32⟩
  | .hbm, ⟨39, _⟩ => ⟨S4x512x256, .f32⟩
  | .hbm, ⟨40, _⟩ => ⟨S2048x256, .f32⟩
  | .hbm, ⟨41, _⟩ => ⟨S2048x256, .f32⟩
  | .hbm, ⟨42, _⟩ => ⟨S2048x256, .f32⟩
  | .hbm, ⟨43, _⟩ => ⟨S2048x256, .f32⟩
  | _, _ => ⟨S4x8x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Reals.lean ====
/-
  Real numbers among the extended reals: `IsReal x` says that `x` is neither infinity.  The sums, products and
  sigmoids of reals are reals, the values of the literals that the programs name, and what the precondition
  "every entry is finite" says of an array.
-/
module

public import Idealize.ShloMosaic.PureOps
public import Idealize.ShloMosaic.Lib.ReduceAll
public import Idealize.ShloMosaic.Lib.ValueIdx

@[expose] public section

noncomputable section

namespace Cert.Reals

open Idealize.ShloMosaic

/-- `x` is a real number: neither infinity. -/
def IsReal (x : EReal) : Prop := ∃ r : ℝ, x = (r : EReal)

theorem isReal_coe (r : ℝ) : IsReal (r : EReal) := ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A finite sum of reals is a real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A finite sum of coerced reals is the coercion of the sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor moves into a sum, whatever the terms. -/
theorem coe_mul_sum {ι : Type} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-! ## Literals -/

theorem ofBits_zero : Ideal.ofBits .f32 0x00000000#32 = ((0 : ℝ) : EReal) := by
  simp [Ideal.ofBits, Ideal.ieee, -EReal.coe_mul]

theorem ofBits_half : Ideal.ofBits .f32 0x3F000000#32 = ((0.5 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_inf : Ideal.ofBits .f32 0x7F800000#32 = (⊤ : EReal) := by
  simp [Ideal.ofBits, Ideal.ieee]

/-! ## The sigmoid -/

/-- The sigmoid of a real. -/
def sigmoid (a : ℝ) : ℝ := 1 / (1 + Real.exp (-a))

theorem one_add_exp_ne (a : ℝ) : 1 + Real.exp (-a) ≠ 0 := by positivity

/-- `1 / (1 + e^{-a})` over the extended reals, at a real. -/
theorem div_exp_coe (a : ℝ) : Ideal.div ((1 : ℝ) : EReal) (((1 : ℝ) : EReal) + Ideal.exp (-(a : EReal))) = (sigmoid a : EReal) := by
  rw [← EReal.coe_neg, Ideal.exp_coe, ← EReal.coe_add, Ideal.div_coe (one_add_exp_ne a), ← EReal.coe_mul, one_mul]
  rfl

theorem logistic_coe (a : ℝ) : Ideal.logistic (a : EReal) = (sigmoid a : EReal) := div_exp_coe a

/-! ## The precondition -/

theorem isReal_of_abs_lt (x : EReal) (h : Ideal.cmp .olt (max x (-x)) ⊤ = 1#1) : IsReal x := by
  induction x with
  | bot => simp [Ideal.cmp] at h
  | top => simp [Ideal.cmp] at h
  | coe r => exact ⟨r, rfl⟩

instance (f : Fin 0 → Nat) : Subsingleton (Shape.Idx ⟨0, f⟩) := ⟨fun a b => funext fun i => i.elim0⟩

/-- Where "all entries of `|x|` lie below infinity" came out true, every entry of `x` is a real. -/
theorem isReal_of_all {s t u : Shape} {axes : List (Fin s.rank)} [Subsingleton t.Idx] (x : FVec Ideal s .f32) (y : FVec Ideal s .f32)
    (hy : ∀ i, y i = Ideal.ofBits .f32 0x7F800000#32) (init : u.Idx → BitVec 1) (h : s.ReducesTo axes t) (hu : 0 < u.numel)
    (j : t.Idx) (e : Host.reduce IntOp.andi (cmpf .olt (Host.absf x) y) init h hu j = 1#1) (i : s.Idx) : IsReal (x i) := by
  have hi := Host.reduce_andi_all _ init h hu j e i
  refine isReal_of_abs_lt _ ?_
  rw [← ofBits_inf, ← hy i]
  exact hi

/-- The `and` of two arrays of bits is 1 at an index only where both are. -/
theorem both_of_andi {s : Shape} (x y : IVec s 1) (i : s.Idx) (h : andi x y i = 1#1) : x i = 1#1 ∧ y i = 1#1 :=
  IntOp.andi_eq_one.1 h

end Cert.Reals

end
-- ==== Proof.Dhid.lean ====
/-
  The feed-forward layer's backward call through the down projection and the gate, over the reals: the arrays
  that the call returns are the derivative of `0.5 · ((silu gate · up) w_down)` in `gate` and in `up`.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite_ffn
public import proofs.«01_k».proof.Proof.Reals

@[expose] public section

set_option maxRecDepth 16384

noncomputable section

namespace Cert.Dhid

open Idealize.ShloMosaic Idealize.ShloMosaic.TcCoe Idealize.SL.Sem Cert.Reals
open Idealize.ShloMosaic.ValueIdx
open Cert.Kernel2Ideal Cert.Kernel2Ideal.Gen

/-! ## The precondition -/

/-- Where the precondition holds, every entry of every argument is a real. -/
theorem reals_of_pre (x0 : FVec Ideal S4096x2048 .f32) (x1 x2 : FVec Ideal S2048x5632 .f32) (x3 : FVec Ideal S5632x2048 .f32)
    (x4 : FVec Ideal S4096x2048 .f32) (h : Cert.Pre_finite_ffn.fn (F := Ideal) x0 x1 x2 x3 x4 = fun _ => 1#1) :
    (∀ i, IsReal (x0 i)) ∧ (∀ i, IsReal (x1 i)) ∧ (∀ i, IsReal (x2 i)) ∧ (∀ i, IsReal (x3 i)) ∧ ∀ i, IsReal (x4 i) := by
  have e := congrFun h ix0
  unfold Cert.Pre_finite_ffn.fn Cert.Pre_finite_ffn.fn_part1 at e
  dsimp only at e
  obtain ⟨e, e4⟩ := both_of_andi _ _ _ e
  obtain ⟨e, e3⟩ := both_of_andi _ _ _ e
  obtain ⟨e, e2⟩ := both_of_andi _ _ _ e
  obtain ⟨e0, e1⟩ := both_of_andi _ _ _ e
  exact ⟨isReal_of_all _ _ (fun _ => rfl) _ _ _ _ e0, isReal_of_all _ _ (fun _ => rfl) _ _ _ _ e1,
    isReal_of_all _ _ (fun _ => rfl) _ _ _ _ e2, isReal_of_all _ _ (fun _ => rfl) _ _ _ _ e3,
    isReal_of_all _ _ (fun _ => rfl) _ _ _ _ e4⟩

/-! ## The product in the body -/

/-- The contraction of the body's product. -/
abbrev D : DotDims S1024x2048 S704x2048 S1024x704 := dot_S1024x2048_S704x2048_S1024x704_1_1_0_0_n_n

/-- The body's first value: half the product of the block of `dout` with the slice of `w_down`, entry by entry. -/
theorem pay1_apply (P0 : Vec Ideal S1024x2048 .f32) (P1 : Vec Ideal S1x1x704x2048 .bf16) (r : Fin 1024) (f : Fin 704) :
    k0_pay1 (F := Ideal) P0 P1 (ix2 r f) = ((0.5 : ℝ) : EReal) * ∑ k : Fin 2048, P0 (ix2 r k) * P1 (ix4 0 0 f k) := by
  have hs : ∀ k : Fin 2048, shapeCast S704x2048 P1 shapeCasts_S1x1x704x2048_S704x2048 (ix2 f k) = P1 (ix4 0 0 f k) := fun k =>
    shapeCast_apply P1 shapeCasts_S1x1x704x2048_S704x2048 (ix2 f k) (ix4 0 0 f k)
      (by rw [Shape.rowMajor_val_two, Shape.rowMajor_val_four]; simp [ix2, ix4])
  unfold k0_pay1
  show Ideal.ofBits .f32 0x3F000000#32 * (Ideal.ofBits .f32 0x00000000#32 + ∑ k : D.contr.Idx, P0 (D.lhsIdx (ix2 r f) k) * shapeCast S704x2048 P1 shapeCasts_S1x1x704x2048_S704x2048 (D.rhsIdx (ix2 r f) k)) = _
  rw [ofBits_half, ofBits_zero, EReal.coe_zero, zero_add]
  rw [← Equiv.sum_comp (contrEquiv1 D 2048 rfl rfl).symm]
  congr 1
  refine Finset.sum_congr rfl fun k _ => ?_
  have hk := contrEquiv1_symm_val D 2048 rfl rfl k
  have el : D.lhsIdx (ix2 r f) ((contrEquiv1 D 2048 rfl rfl).symm k) = ix2 r k := funext fun a => Fin.ext (by
    match a with
    | ⟨0, _⟩ => rfl
    | ⟨1, _⟩ => exact (D.lhsIdx_val_of_single rfl _ _).trans hk)
  have er : D.rhsIdx (ix2 r f) ((contrEquiv1 D 2048 rfl rfl).symm k) = ix2 f k := funext fun a => Fin.ext (by
    match a with
    | ⟨0, _⟩ => rfl
    | ⟨1, _⟩ => exact (D.rhsIdx_val_of_single rfl _ _).trans hk)
  rw [el, er, hs]

/-! ## The arrays that the call gets -/

variable (m : (ℓ : Loc nD τ sig) → Buf (Elt Ideal) ℓ)

/-- The call's array of gate values: the product `h · w_gate`, cut into the devices' slices. -/
theorem V_a (c : Dev nD) : (V m c main_v3 : FVec Ideal S8x4096x704 .bf16)
    = truncf (F := Ideal) .bf16 (transpose S8x4096x704 [1, 0, 2] (shapeCast S4096x8x704 (Cert.Reference2Ideal.Read.val_main_v0 (F := Ideal)
        (m ((c : Thread nD τ).loc main_arg0)) (m ((c : Thread nD τ).loc main_arg1))) shapeCasts_S4096x5632_S4096x8x704)
        transposes_S4096x8x704_S8x4096x704_1_0_2) bitsLt_bf16_f32 := by
  simp only [V, hostOps0]
  after_results_simp <;> rfl

/-- The call's array of up values. -/
theorem V_b (c : Dev nD) : (V m c main_v7 : FVec Ideal S8x4096x704 .bf16)
    = truncf (F := Ideal) .bf16 (transpose S8x4096x704 [1, 0, 2] (shapeCast S4096x8x704 (Cert.Reference2Ideal.Read.val_main_v1 (F := Ideal)
        (m ((c : Thread nD τ).loc main_arg0)) (m ((c : Thread nD τ).loc main_arg2))) shapeCasts_S4096x5632_S4096x8x704)
        transposes_S4096x8x704_S8x4096x704_1_0_2) bitsLt_bf16_f32 := by
  simp only [V, hostOps0]
  after_results_simp <;> rfl

/-- The call's array of down weights, cut into the devices' slices. -/
theorem V_wd (c : Dev nD) : (V m c main_v9 : FVec Ideal S8x1x704x2048 .bf16)
    = truncf (F := Ideal) .bf16 (shapeCast S8x1x704x2048 (m ((c : Thread nD τ).loc main_arg3) : FVec Ideal S5632x2048 .f32) shapeCasts_S5632x2048_S8x1x704x2048) bitsLt_bf16_f32 := by
  simp only [V, hostOps0]
  after_results_simp <;> rfl

/-- Column `f` of device `j`'s slice, as a column of the whole product. -/
def col (j : Fin 8) (f : Fin 704) : Fin 5632 := ⟨j.val * 704 + f.val, by omega⟩

/-- Cutting the columns into slices: entry `(j, r, f)` is entry `(r, 704 j + f)` of the whole. -/
theorem slice_apply (y : FVec Ideal S4096x5632 .f32) (j : Fin 8) (r : Fin 4096) (f : Fin 704) :
    truncf (F := Ideal) .bf16 (transpose S8x4096x704 [1, 0, 2] (shapeCast S4096x8x704 y shapeCasts_S4096x5632_S4096x8x704)
      transposes_S4096x8x704_S8x4096x704_1_0_2) bitsLt_bf16_f32 (ix3 j r f) = y (ix2 r (col j f)) := by
  show transpose S8x4096x704 [1, 0, 2] (shapeCast S4096x8x704 y shapeCasts_S4096x5632_S4096x8x704)
    transposes_S4096x8x704_S8x4096x704_1_0_2 (ix3 j r f) = y (ix2 r (col j f))
  refine (transpose_apply [1, 0, 2] _ transposes_S4096x8x704_S8x4096x704_1_0_2 (ix3 j r f) (ix3 r j f) (fun b => match b with
    | ⟨0, _⟩ => rfl
    | ⟨1, _⟩ => rfl
    | ⟨2, _⟩ => rfl)).trans ?_
  refine shapeCast_apply _ shapeCasts_S4096x5632_S4096x8x704 (ix3 r j f) (ix2 r (col j f)) ?_
  rw [Shape.rowMajor_val_two, Shape.rowMajor_val_three]
  show r.val * 5632 + (j.val * 704 + f.val) = (r.val * 8 + j.val) * 704 + f.val
  omega

theorem V_a_apply (c : Dev nD) (j : Fin 8) (r : Fin 4096) (f : Fin 704) :
    (V m c main_v3 : FVec Ideal S8x4096x704 .bf16) (ix3 j r f) = Cert.Reference2Ideal.Read.val_main_v0 (F := Ideal)
      (m ((c : Thread nD τ).loc main_arg0)) (m ((c : Thread nD τ).loc main_arg1)) (ix2 r (col j f)) := by
  rw [V_a, slice_apply]

theorem V_b_apply (c : Dev nD) (j : Fin 8) (r : Fin 4096) (f : Fin 704) :
    (V m c main_v7 : FVec Ideal S8x4096x704 .bf16) (ix3 j r f) = Cert.Reference2Ideal.Read.val_main_v1 (F := Ideal)
      (m ((c : Thread nD τ).loc main_arg0)) (m ((c : Thread nD τ).loc main_arg2)) (ix2 r (col j f)) := by
  rw [V_b, slice_apply]

theorem V_wd_apply (c : Dev nD) (j : Fin 8) (f : Fin 704) (k : Fin 2048) :
    (V m c main_v9 : FVec Ideal S8x1x704x2048 .bf16) (ix4 j 0 f k)
      = (m ((c : Thread nD τ).loc main_arg3) : FVec Ideal S5632x2048 .f32) (ix2 (col j f) k) := by
  rw [V_wd]
  refine shapeCast_apply _ shapeCasts_S5632x2048_S8x1x704x2048 (ix4 j 0 f k) (ix2 (col j f) k) ?_
  rw [Shape.rowMajor_val_two, Shape.rowMajor_val_four]
  show (j.val * 704 + f.val) * 2048 + k.val = ((j.val * 1 + 0) * 704 + f.val) * 2048 + k.val
  omega

/-! ## Where a point's blocks lie -/

/-- Each input window's block moves with the output's: `dout` by its row block, `w_down` by its slice. -/
theorem idx_facts : ∀ t : Fin cfg0.N,
    win0_0.index t 0 = win0_4.index t 1 ∧ win0_0.index t 1 = 0
    ∧ win0_1.index t 0 = win0_4.index t 0 ∧ win0_1.index t 1 = 0 ∧ win0_1.index t 2 = 0 ∧ win0_1.index t 3 = 0
    ∧ win0_2.index t = win0_4.index t ∧ win0_3.index t = win0_4.index t ∧ win0_5.index t = win0_4.index t
    ∧ win0_4.index t 0 < 8 ∧ win0_4.index t 1 < 4 ∧ win0_4.index t 2 = 0 :=
  (by decide +kernel : ∀ t : Fin grid0.N, _)

/-- Every block of the output is some point's. -/
theorem idx_onto : ∀ (j : Fin 8) (q : Fin 4), ∃ t : Fin cfg0.N, win0_4.index t 0 = j.val ∧ win0_4.index t 1 = q.val :=
  (by decide +kernel : ∀ (j : Fin 8) (q : Fin 4), ∃ t : Fin grid0.N, win0_4.index t 0 = j.val ∧ win0_4.index t 1 = q.val)

/-- The device slice that point `t` works on. -/
def sl (t : Fin cfg0.N) : Fin 8 := ⟨win0_4.index t 0, (idx_facts t).2.2.2.2.2.2.2.2.2.1⟩

/-- Row `r` of point `t`'s block, as a row of the array. -/
def row (t : Fin cfg0.N) (r : Fin 1024) : Fin 4096 :=
  ⟨win0_4.index t 1 * 1024 + r.val, by have := (idx_facts t).2.2.2.2.2.2.2.2.2.2.1; omega⟩

theorem blk0 (c : Dev nD) (t : Fin cfg0.N) (r : Fin 1024) (k : Fin 2048) :
    (iblk m c 0 t : FVec Ideal S1024x2048 .f32) (ix2 r k) = (m ((c : Thread nD τ).loc main_arg4) : FVec Ideal S4096x2048 .f32) (ix2 (row t r) k) := by
  rw [← V_main_arg4 m c]
  have h := idx_facts t
  refine congrArg (V m c main_arg4 : FVec Ideal S4096x2048 .f32) (funext fun a => Fin.ext ?_)
  match a with
  | ⟨0, _⟩ => show win0_0.index t 0 * 1024 + 1 * r.val = win0_4.index t 1 * 1024 + r.val; omega
  | ⟨1, _⟩ => show win0_0.index t 1 * 2048 + 1 * k.val = k.val; omega

theorem blk1 (c : Dev nD) (t : Fin cfg0.N) (f : Fin 704) (k : Fin 2048) :
    (iblk m c 1 t : FVec Ideal S1x1x704x2048 .bf16) (ix4 0 0 f k) = (m ((c : Thread nD τ).loc main_arg3) : FVec Ideal S5632x2048 .f32) (ix2 (col (sl t) f) k) := by
  rw [← V_wd_apply m c]
  have h := idx_facts t
  refine congrArg (V m c main_v9 : FVec Ideal S8x1x704x2048 .bf16) (funext fun a => Fin.ext ?_)
  match a with
  | ⟨0, _⟩ => show win0_1.index t 0 * 1 + 1 * 0 = win0_4.index t 0; omega
  | ⟨1, _⟩ => show win0_1.index t 1 * 1 + 1 * 0 = 0; omega
  | ⟨2, _⟩ => show win0_1.index t 2 * 704 + 1 * f.val = f.val; omega
  | ⟨3, _⟩ => show win0_1.index t 3 * 2048 + 1 * k.val = k.val; omega

theorem blk2 (c : Dev nD) (t : Fin cfg0.N) (r : Fin 1024) (f : Fin 704) :
    (iblk m c 2 t : FVec Ideal S1x1024x704 .bf16) (ix3 0 r f) = Cert.Reference2Ideal.Read.val_main_v0 (F := Ideal)
      (m ((c : Thread nD τ).loc main_arg0)) (m ((c : Thread nD τ).loc main_arg1)) (ix2 (row t r) (col (sl t) f)) := by
  rw [← V_a_apply m c]
  have h := idx_facts t
  refine congrArg (V m c main_v3 : FVec Ideal S8x4096x704 .bf16) (funext fun a => Fin.ext ?_)
  match a with
  | ⟨0, _⟩ => show win0_2.index t 0 * 1 + 1 * 0 = win0_4.index t 0; rw [h.2.2.2.2.2.2.1]; omega
  | ⟨1, _⟩ => show win0_2.index t 1 * 1024 + 1 * r.val = win0_4.index t 1 * 1024 + r.val; rw [h.2.2.2.2.2.2.1]; omega
  | ⟨2, _⟩ => show win0_2.index t 2 * 704 + 1 * f.val = f.val; rw [h.2.2.2.2.2.2.1]; omega

theorem blk3 (c : Dev nD) (t : Fin cfg0.N) (r : Fin 1024) (f : Fin 704) :
    (iblk m c 3 t : FVec Ideal S1x1024x704 .bf16) (ix3 0 r f) = Cert.Reference2Ideal.Read.val_main_v1 (F := Ideal)
      (m ((c : Thread nD τ).loc main_arg0)) (m ((c : Thread nD τ).loc main_arg2)) (ix2 (row t r) (col (sl t) f)) := by
  rw [← V_b_apply m c]
  have h := idx_facts t
  refine congrArg (V m c main_v7 : FVec Ideal S8x4096x704 .bf16) (funext fun a => Fin.ext ?_)
  match a with
  | ⟨0, _⟩ => show win0_3.index t 0 * 1 + 1 * 0 = win0_4.index t 0; rw [h.2.2.2.2.2.2.2.1]; omega
  | ⟨1, _⟩ => show win0_3.index t 1 * 1024 + 1 * r.val = win0_4.index t 1 * 1024 + r.val; rw [h.2.2.2.2.2.2.2.1]; omega
  | ⟨2, _⟩ => show win0_3.index t 2 * 704 + 1 * f.val = f.val; rw [h.2.2.2.2.2.2.2.1]; omega

/-! ## The reference, entry by entry -/

/-- Entry `(r, q)` of `dout · w_downᵀ`. -/
abbrev down (x4 : FVec Ideal S4096x2048 .f32) (x3 : FVec Ideal S5632x2048 .f32) (r : Fin 4096) (q : Fin 5632) : EReal :=
  ∑ k : Fin 2048, x4 (ix2 r k) * x3 (ix2 q k)

section
open Cert.Reference2Ideal.Read

variable (x0 x4 : FVec Ideal S4096x2048 .f32) (x1 x2 : FVec Ideal S2048x5632 .f32) (x3 : FVec Ideal S5632x2048 .f32)

/-- The cotangent of `silu gate · up`: half of `dout · w_downᵀ`. -/
theorem v9_apply (r : Fin 4096) (q : Fin 5632) :
    val_main_v9 (F := Ideal) x3 x4 (ix2 r q) = ((0.5 : ℝ) : EReal) * ∑ k : Fin 2048, x4 (ix2 r k) * x3 (ix2 q k) := by
  rw [val_main_v9_apply, coe_mul_sum _ _ (by norm_num)]
  refine Finset.sum_congr rfl fun k _ => ?_
  have e : ∀ i, val_main_v8 (F := Ideal) x4 i = ((0.5 : ℝ) : EReal) * x4 i := fun i => by
    rw [val_main_v8_apply, val_main_v7_apply, val_main_cst_0_apply, ← ofBits_half]
    rfl
  rw [e, mul_assoc]
  congr 2
  · exact congrArg x4 (funext fun a => match a with | ⟨0, _⟩ => rfl | ⟨1, _⟩ => rfl)
  · exact congrArg x3 (funext fun a => match a with | ⟨0, _⟩ => rfl | ⟨1, _⟩ => rfl)

/-- The gate's sigmoid. -/
theorem sig_apply (i : S4096x5632.Idx) {a : ℝ} (ha : val_main_v0 (F := Ideal) x0 x1 i = (a : EReal)) :
    val_main_v2_2 (F := Ideal) x0 x1 i = (sigmoid a : EReal) := by
  rw [val_main_v2_2_apply, val_main_call0_v4_apply, val_main_call0_cst_0_apply, val_main_call0_v3_apply, val_main_call0_v2_apply,
    val_main_call0_cst_apply, val_main_call0_v1_apply, val_main_call0_v0_apply, ha]
  show Ideal.div (Ideal.ofBits .f32 0x3F800000#32) (Ideal.ofBits .f32 0x3F800000#32 + Ideal.exp (-(a : EReal))) = _
  rw [ofBits_one, div_exp_coe]

theorem v10_apply (r : Fin 4096) (q : Fin 5632) {a s : ℝ} (ha : val_main_v0 (F := Ideal) x0 x1 (ix2 r q) = (a : EReal))
    (hs : ∑ k : Fin 2048, x4 (ix2 r k) * x3 (ix2 q k) = (s : EReal)) :
    val_main_v10 (F := Ideal) x0 x1 x3 x4 (ix2 r q) = ((0.5 * s * a * sigmoid a : ℝ) : EReal) := by
  rw [val_main_v10_apply, val_main_v2_0_apply, sig_apply x0 x1 _ ha, v9_apply, hs, ha]
  show (a : EReal) * (sigmoid a : EReal) * (((0.5 : ℝ) : EReal) * (s : EReal)) = _
  rw [← EReal.coe_mul, ← EReal.coe_mul, ← EReal.coe_mul]
  congr 1
  ring

theorem v12_apply (r : Fin 4096) (q : Fin 5632) {a b s : ℝ} (ha : val_main_v0 (F := Ideal) x0 x1 (ix2 r q) = (a : EReal))
    (hb : val_main_v1 (F := Ideal) x0 x2 (ix2 r q) = (b : EReal))
    (hs : ∑ k : Fin 2048, x4 (ix2 r k) * x3 (ix2 q k) = (s : EReal)) :
    val_main_v12 (F := Ideal) x0 x1 x2 x3 x4 (ix2 r q) = ((0.5 * s * b * sigmoid a * (1 + a * (1 - sigmoid a)) : ℝ) : EReal) := by
  rw [val_main_v12_apply, val_main_call1_v1_apply, val_main_call1_v2_apply, val_main_call1_v0_apply, val_main_v2_1_apply, val_main_call0_v7_apply,
    val_main_call0_v6_apply, val_main_call0_cst_1_apply, val_main_v11_apply, sig_apply x0 x1 _ ha, v9_apply, hs, ha, hb]
  show (((0.5 : ℝ) : EReal) * (s : EReal) * (b : EReal)) * (sigmoid a : EReal)
    + (a : EReal) * (((0.5 : ℝ) : EReal) * (s : EReal) * (b : EReal)) * ((sigmoid a : EReal) * (Ideal.ofBits .f32 0x3F800000#32 - (sigmoid a : EReal))) = _
  rw [ofBits_one]
  simp only [← EReal.coe_mul, ← EReal.coe_sub, ← EReal.coe_add]
  congr 1
  ring

theorem v15_apply (j : Fin 8) (r : Fin 4096) (f : Fin 704) :
    val_main_v15 (F := Ideal) x0 x1 x2 x3 x4 (ix3 j r f) = val_main_v12 (F := Ideal) x0 x1 x2 x3 x4 (ix2 r (col j f)) :=
  slice_apply (val_main_v12 (F := Ideal) x0 x1 x2 x3 x4) j r f

theorem v18_apply (j : Fin 8) (r : Fin 4096) (f : Fin 704) :
    val_main_v18 (F := Ideal) x0 x1 x3 x4 (ix3 j r f) = val_main_v10 (F := Ideal) x0 x1 x3 x4 (ix2 r (col j f)) :=
  slice_apply (val_main_v10 (F := Ideal) x0 x1 x3 x4) j r f

/-- Products of arrays of reals are reals. -/
theorem v0_real (h0 : ∀ i, IsReal (x0 i)) (h1 : ∀ i, IsReal (x1 i)) (i : S4096x5632.Idx) : IsReal (val_main_v0 (F := Ideal) x0 x1 i) := by
  rw [val_main_v0_apply]
  exact IsReal.sum _ _ fun k _ => (h0 _).mul (h1 _)

theorem v1_real (h0 : ∀ i, IsReal (x0 i)) (h2 : ∀ i, IsReal (x2 i)) (i : S4096x5632.Idx) : IsReal (val_main_v1 (F := Ideal) x0 x2 i) := by
  rw [val_main_v1_apply]
  exact IsReal.sum _ _ fun k _ => (h0 _).mul (h2 _)
end

/-! ## What a point writes back -/

/-- The body's arithmetic for the gate's derivative, on one entry: `p` the product's, `a` the gate's, `b` the up value. -/
def gateD (p a b : EReal) : EReal :=
  p * b * Ideal.logistic a * (Ideal.ofBits .f32 0x3F800000#32 + a * (Ideal.ofBits .f32 0x3F800000#32 - Ideal.logistic a))

/-- The body's arithmetic for the up value's derivative. -/
def upD (p a : EReal) : EReal := p * a * Ideal.logistic a

theorem gateD_coe (s a b : ℝ) :
    gateD (((0.5 : ℝ) : EReal) * (s : EReal)) a b = ((0.5 * s * b * sigmoid a * (1 + a * (1 - sigmoid a)) : ℝ) : EReal) := by
  unfold gateD
  rw [logistic_coe, ofBits_one]
  simp only [← EReal.coe_mul, ← EReal.coe_sub, ← EReal.coe_add]

theorem upD_coe (s a : ℝ) : upD (((0.5 : ℝ) : EReal) * (s : EReal)) a = ((0.5 * s * a * sigmoid a : ℝ) : EReal) := by
  unfold upD
  rw [logistic_coe]
  simp only [← EReal.coe_mul]

/-- The first result, as the derivative in `gate` of the reference's lines. -/
abbrev G4 (c : Dev nD) : FVec Ideal S8x4096x704 .bf16 := Cert.Reference2Ideal.Read.val_main_v15 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4))

/-- The second result, as the derivative in `up`. -/
abbrev G5 (c : Dev nD) : FVec Ideal S8x4096x704 .bf16 := Cert.Reference2Ideal.Read.val_main_v18 (F := Ideal)
  (m ((c : Thread nD τ).loc main_arg0)) (m ((c : Thread nD τ).loc main_arg1))
  (m ((c : Thread nD τ).loc main_arg3)) (m ((c : Thread nD τ).loc main_arg4))

theorem emb4 (t : Fin cfg0.N) (r : Fin 1024) (f : Fin 704) (G : FVec Ideal S8x4096x704 .bf16) :
    ((cfg0.win 4).blk t).view.read (Elt Ideal) G (ix3 0 r f) = G (ix3 (sl t) (row t r) f) := by
  have h := idx_facts t
  refine congrArg G (funext fun a => Fin.ext ?_)
  match a with
  | ⟨0, _⟩ => show win0_4.index t 0 * 1 + 1 * 0 = win0_4.index t 0; omega
  | ⟨1, _⟩ => show win0_4.index t 1 * 1024 + 1 * r.val = win0_4.index t 1 * 1024 + r.val; omega
  | ⟨2, _⟩ => show win0_4.index t 2 * 704 + 1 * f.val = f.val; omega

theorem emb5 (t : Fin cfg0.N) (r : Fin 1024) (f : Fin 704) (G : FVec Ideal S8x4096x704 .bf16) :
    ((cfg0.win 5).blk t).view.read (Elt Ideal) G (ix3 0 r f) = G (ix3 (sl t) (row t r) f) := by
  have h := idx_facts t
  refine congrArg G (funext fun a => Fin.ext ?_)
  match a with
  | ⟨0, _⟩ => show win0_5.index t 0 * 1 + 1 * 0 = win0_4.index t 0; rw [h.2.2.2.2.2.2.2.2.1]; omega
  | ⟨1, _⟩ => show win0_5.index t 1 * 1024 + 1 * r.val = win0_4.index t 1 * 1024 + r.val; rw [h.2.2.2.2.2.2.2.2.1]; omega
  | ⟨2, _⟩ => show win0_5.index t 2 * 704 + 1 * f.val = f.val; rw [h.2.2.2.2.2.2.2.2.1]; omega

variable (hm : Cert.Pre_Kernel2Ideal_finite_ffn m)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- An index of a block is `(0, r, f)`. -/
theorem eq_blk (y : S1x1024x704.Idx) : ∃ (r : Fin 1024) (f : Fin 704), y = ix3 0 r f :=
  ⟨y 1, y 2, funext fun a => match a with
    | ⟨0, _⟩ => Fin.ext (by have : (y 0).val < 1 := (y 0).isLt; show (y 0).val = 0; omega)
    | ⟨1, _⟩ => rfl
    | ⟨2, _⟩ => rfl⟩

include hm in
/-- What the three values of an entry are, as reals. -/
theorem entry_reals (c : Dev nD) (t : Fin cfg0.N) (r : Fin 1024) (f : Fin 704) : ∃ a b s : ℝ,
    Cert.Reference2Ideal.Read.val_main_v0 (F := Ideal) (m ((c : Thread nD τ).loc main_arg0)) (m ((c : Thread nD τ).loc main_arg1)) (ix2 (row t r) (col (sl t) f)) = (a : EReal)
    ∧ Cert.Reference2Ideal.Read.val_main_v1 (F := Ideal) (m ((c : Thread nD τ).loc main_arg0)) (m ((c : Thread nD τ).loc main_arg2)) (ix2 (row t r) (col (sl t) f)) = (b : EReal)
    ∧ down (m ((c : Thread nD τ).loc main_arg4)) (m ((c : Thread nD τ).loc main_arg3)) (row t r) (col (sl t) f) = (s : EReal) := by
  obtain ⟨h0, h1, h2, h3, h4⟩ := reals_of_pre _ _ _ _ _ (hm c)
  obtain ⟨a, ha⟩ := v0_real _ _ h0 h1 (ix2 (row t r) (col (sl t) f))
  obtain ⟨b, hb⟩ := v1_real _ _ h0 h2 (ix2 (row t r) (col (sl t) f))
  obtain ⟨s, hs⟩ : IsReal (down (m ((c : Thread nD τ).loc main_arg4)) (m ((c : Thread nD τ).loc main_arg3)) (row t r) (col (sl t) f)) :=
    IsReal.sum _ _ fun k _ => (h4 _).mul (h3 _)
  exact ⟨a, b, s, ha, hb, hs⟩

/-- The body's first value at a point, in the arguments' entries. -/
theorem pay1_blk (c : Dev nD) (t : Fin cfg0.N) (r : Fin 1024) (f : Fin 704) {s : ℝ}
    (hs : down (m ((c : Thread nD τ).loc main_arg4)) (m ((c : Thread nD τ).loc main_arg3)) (row t r) (col (sl t) f) = (s : EReal)) :
    k0_pay1 (F := Ideal) (iblk m c 0 t) (iblk m c 1 t) (ix2 r f) = ((0.5 : ℝ) : EReal) * (s : EReal) := by
  rw [pay1_apply, ← hs]
  congr 1
  exact Finset.sum_congr rfl fun k _ => by rw [blk0, blk1]

include hm in
theorem flushed4_eq (c : Dev nD) (t : Fin cfg0.N) :
    (dats m 0 c).flushed 4 t = ((cfg0.win 4).blk t).view.read (Elt Ideal) (G4 m c) := by
  rw [Value.flushed4]
  unfold out0_4
  rw [View.ld_unit_zero hz2, View.ld_unit_zero hz4, View.ld_unit_zero hz3, View.ld_unit_zero hz3]
  funext y
  refine (Value.canon4_eq (F := Ideal) (iblk m c 0 t) (iblk m c 1 t) (iblk m c 3 t) (iblk m c 2 t) y).trans ?_
  obtain ⟨r, f, rfl⟩ := eq_blk y
  obtain ⟨a, b, s, ha, hb, hs⟩ := entry_reals m hm c t r f
  rw [emb4, G4, v15_apply, v12_apply _ _ _ _ _ _ _ ha hb hs]
  have e0 : Value.ix4_0 (ix3 (0 : Fin 1) r f : S1x1024x704.Idx) = ix2 r f := funext fun a => match a with | ⟨0, _⟩ => rfl | ⟨1, _⟩ => rfl
  have e1 : Value.ix4_1 (ix3 (0 : Fin 1) r f : S1x1024x704.Idx) = ix3 0 r f := funext fun a => match a with | ⟨0, _⟩ => rfl | ⟨1, _⟩ => rfl | ⟨2, _⟩ => rfl
  show gateD (k0_pay1 (F := Ideal) (iblk m c 0 t) (iblk m c 1 t) (Value.ix4_0 (ix3 (0 : Fin 1) r f)))
    ((iblk m c 2 t : FVec Ideal S1x1024x704 .bf16) (Value.ix4_1 (ix3 (0 : Fin 1) r f)))
    ((iblk m c 3 t : FVec Ideal S1x1024x704 .bf16) (Value.ix4_1 (ix3 (0 : Fin 1) r f))) = _
  rw [e0, e1, blk2, blk3, ha, hb, pay1_blk m c t r f hs, gateD_coe]

include hm in
theorem flushed5_eq (c : Dev nD) (t : Fin cfg0.N) :
    (dats m 0 c).flushed 5 t = ((cfg0.win 5).blk t).view.read (Elt Ideal) (G5 m c) := by
  rw [Value.flushed5]
  unfold out0_5
  rw [View.ld_unit_zero hz2, View.ld_unit_zero hz4, View.ld_unit_zero hz3]
  funext y
  refine (Value.canon5_eq (F := Ideal) (iblk m c 0 t) (iblk m c 1 t) (iblk m c 2 t) y).trans ?_
  obtain ⟨r, f, rfl⟩ := eq_blk y
  obtain ⟨a, b, s, ha, hb, hs⟩ := entry_reals m hm c t r f
  rw [emb5, G5, v18_apply, v10_apply _ _ _ _ _ _ ha hs]
  have e0 : Value.ix5_0 (ix3 (0 : Fin 1) r f : S1x1024x704.Idx) = ix2 r f := funext fun a => match a with | ⟨0, _⟩ => rfl | ⟨1, _⟩ => rfl
  have e1 : Value.ix5_1 (ix3 (0 : Fin 1) r f : S1x1024x704.Idx) = ix3 0 r f := funext fun a => match a with | ⟨0, _⟩ => rfl | ⟨1, _⟩ => rfl | ⟨2, _⟩ => rfl
  show upD (k0_pay1 (F := Ideal) (iblk m c 0 t) (iblk m c 1 t) (Value.ix5_0 (ix3 (0 : Fin 1) r f)))
    ((iblk m c 2 t : FVec Ideal S1x1024x704 .bf16) (Value.ix5_1 (ix3 (0 : Fin 1) r f))) = _
  rw [e0, e1, blk2, ha, pay1_blk m c t r f hs, upD_coe]

/-! ## The whole arrays -/

theorem cover4 (i : S8x4096x704.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 704 := (i 2).isLt
  obtain ⟨t, e0, e1⟩ := idx_onto ⟨(i 0).val, h0⟩ ⟨(i 1).val / 1024, by omega⟩
  have h := idx_facts t
  refine ⟨t, flush0_4 t, ?_⟩
  show i ∈ ((View.whole main_v10_0).slice (win0_4.rect t)).set
  rw [View.set_slice_whole, Rect.mem_set_unit]
  intro a
  match a with
  | ⟨0, _⟩ => show win0_4.index t 0 * 1 ≤ (i 0).val ∧ (i 0).val < win0_4.index t 0 * 1 + 1; simp only at e0; omega
  | ⟨1, _⟩ => show win0_4.index t 1 * 1024 ≤ (i 1).val ∧ (i 1).val < win0_4.index t 1 * 1024 + 1024; simp only at e1; omega
  | ⟨2, _⟩ => show win0_4.index t 2 * 704 ≤ (i 2).val ∧ (i 2).val < win0_4.index t 2 * 704 + 704; omega

theorem cover5 (i : S8x4096x704.Idx) : ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 704 := (i 2).isLt
  obtain ⟨t, e0, e1⟩ := idx_onto ⟨(i 0).val, h0⟩ ⟨(i 1).val / 1024, by omega⟩
  have h := idx_facts t
  have e := h.2.2.2.2.2.2.2.2.1
  refine ⟨t, flush0_5 t, ?_⟩
  show i ∈ ((View.whole main_v10_1).slice (win0_5.rect t)).set
  rw [View.set_slice_whole, Rect.mem_set_unit]
  intro a
  match a with
  | ⟨0, _⟩ => show win0_5.index t 0 * 1 ≤ (i 0).val ∧ (i 0).val < win0_5.index t 0 * 1 + 1; rw [e]; simp only at e0; omega
  | ⟨1, _⟩ => show win0_5.index t 1 * 1024 ≤ (i 1).val ∧ (i 1).val < win0_5.index t 1 * 1024 + 1024; rw [e]; simp only at e1; omega
  | ⟨2, _⟩ => show win0_5.index t 2 * 704 ≤ (i 2).val ∧ (i 2).val < win0_5.index t 2 * 704 + 704; rw [e]; omega

variable (ρ : Dev nD → PrngReg)

include hm in
/-- THE CALL: both results are the derivative of the reference's lines, and the arguments end unchanged. -/
theorem run : θ_run defs (onTc (τ := τ) (main (F := Ideal))) ⟨m, fun _ => 0, ρ⟩ fun r => ∀ c : Dev nD,
      r.2.mem ((c : Thread nD τ).loc main_v10_0) = G4 m c
      ∧ r.2.mem ((c : Thread nD τ).loc main_v10_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 4 (G4 m c) (fun t _ => flushed4_eq m hm c t) cover4),
      (h c).2.1.trans ((dats m 0 c).arrAt_eq_of_cover 5 (G5 m c) (fun t _ => flushed5_eq m hm c t) cover5), (h c).2.2⟩)
    (Value.run_blocks m ρ)

end Cert.Dhid

end
-- ==== Proof.DhidClaims.lean ====
/-
  The claims about the call through the down projection and the gate: what the programs leave unchanged, and that
  both results equal the reference's over the reals.
-/
module

public import proofs.«01_k».proof.Proof.Dhid
public import proofs.«01_k».proof.Proof.Gen.Kernel2.Frame

@[expose] public section

noncomputable section

namespace Cert.Dhid

open Idealize.ShloMosaic Idealize.ShloMosaic.TcCoe Idealize.SL.Sem

/-- The reference runs to its end, leaves its arguments unchanged and every semaphore at zero. -/
theorem frame_ref : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- Over the reals the call's two results are the reference's, where every argument is finite. -/
theorem algebraic : Cert.algebraic_Kernel2Ideal_Reference2Ideal_pre_finite_ffn :=
  fun m ρ m' ρ' hpre hag => ⟨G4 m, G5 m, run m hpre ρ,
    (θ_run _ _ _).mono (fun _ h c => by
      obtain ⟨e0, e1, e2, e3, e4⟩ := hag c
      refine ⟨?_, ?_, (h c).2.2⟩
      · rw [(h c).1, Cert.Reference2Ideal.Read.val_main_v15_eq, e0, e1, e2, e3, e4]
      · rw [(h c).2.1, Cert.Reference2Ideal.Read.val_main_v18_eq, e0, e1, e3, e4])
      (Cert.Reference2Ideal.Value.run (F := Ideal) m' ρ')⟩

end Cert.Dhid

end
-- ==== Proof.Sums.lean ====
/-
  A sum taken block by block.
-/
module

public import Idealize.ShloMosaic.Lib.ValueIdx
public import proofs.«01_k».proof.Proof.Reals

@[expose] public section

noncomputable section

namespace Cert.Sums

open scoped BigOperators

/-- Place `k` of block `q` of `B` places. -/
def place (N : ℕ) [NeZero N] (B q k : ℕ) : Fin N := ⟨(B * q + k) % N, Nat.mod_lt _ (Nat.pos_of_ne_zero (NeZero.ne N))⟩

/-- The sum over block `q` of `B` places. -/
def blkSum {N : ℕ} [NeZero N] (B : ℕ) (g : Fin N → EReal) (q : ℕ) : EReal := ∑ k : Fin B, g (place N B q k.val)

/-- The sum over the blocks `0 … n - 1`. -/
def blkSums {N : ℕ} [NeZero N] (B : ℕ) (g : Fin N → EReal) (n : ℕ) : EReal := ∑ q ∈ Finset.range n, blkSum B g q

theorem blkSums_one {N : ℕ} [NeZero N] (B : ℕ) (g : Fin N → EReal) : blkSums B g 1 = blkSum B g 0 := by
  unfold blkSums; rw [Finset.sum_range_one]

theorem blkSums_succ {N : ℕ} [NeZero N] (B : ℕ) (g : Fin N → EReal) (n : ℕ) :
    blkSums B g (n + 1) = blkSums B g n + blkSum B g n := by
  unfold blkSums; rw [Finset.sum_range_succ]

/-- All `nb` blocks together are the whole sum. -/
theorem blkSums_all {N : ℕ} [NeZero N] (B nb : ℕ) (hN : nb * B = N) (g : Fin N → EReal) : blkSums B g nb = ∑ i, g i := by
  subst hN
  unfold blkSums blkSum
  rw [Finset.sum_range, ← Equiv.sum_comp finProdFinEquiv, Fintype.sum_prod_type]
  refine Finset.sum_congr rfl fun q _ => Finset.sum_congr rfl fun k _ => congrArg g (Fin.ext ?_)
  have h : (finProdFinEquiv (q, k)).val = k.val + B * q.val := rfl
  have hlt := (finProdFinEquiv (q, k)).isLt
  show (B * q.val + k.val) % (nb * B) = (finProdFinEquiv (q, k)).val
  rw [h] at hlt ⊢
  rw [Nat.mod_eq_of_lt (by omega)]
  omega

end Cert.Sums

end
-- ==== Proof.Dh.lean ====
/-
  The feed-forward layer's backward call for its normed input, over the reals: the array that the call returns is
  the derivative of `(h · w_gate, h · w_up)` in `h`.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Reals
public import proofs.«01_k».proof.Proof.Sums

@[expose] public section

set_option maxRecDepth 16384

noncomputable section

namespace Cert.Dh

open Idealize.ShloMosaic Idealize.ShloMosaic.TcCoe Idealize.SL.Sem Cert.Reals Cert.Sums
open Idealize.ShloMosaic.ValueIdx
open Cert.Kernel5Ideal Cert.Kernel5Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the cases leave -/

section Cases

variable {F : FTy → Type} [FloatOps F] (m : (ℓ : Loc nD τ sig) → Buf (Elt F) ℓ)

/-- A run's first point leaves the two block products' sum in the scratch. -/
theorem scr_A (c : Dev nD) (t : Fin cfg0.N) (h0 : t.val % 8 = 0) :
    (outsAt0 m c t.val t.isLt).2 = k0_pay2 (iblk m c 0 t) (iblk m c 2 t) (iblk m c 1 t) (iblk m c 3 t) := by
  rw [outsAt0_A m c t h0 (by omega) (by omega)]
  unfold sout0_A_0
  dsimp only
  rw [View.read_writes_eq_canon _ _ _ (fun y => scover0_A_0 c _ _ _ _ _ _ _ _ _ _ _ _ _ _ _ _ _ _ _ _ y)]
  unfold kernelRun0_A
  dsimp only
  sl_unfold_words
  rw [View.canon_unit_zero hz2]
  simp only [View.readAt_eq_ld]
  exact (congr (congr (congr (congrArg k0_pay2 ((View.ld_unit_zero hz3 _ _).trans ((hs0_0 t).read_unread _)))
    ((View.ld_unit_zero hz4 _ _).trans ((hs0_2 t).read_unread _)))
    ((View.ld_unit_zero hz3 _ _).trans ((hs0_1 t).read_unread _)))
    ((View.ld_unit_zero hz4 _ _).trans ((hs0_3 t).read_unread _)))

/-- A later point adds them to what the point before left. -/
theorem scr_BC (c : Dev nD) (t : Fin cfg0.N) (h0 : ¬t.val % 8 = 0) :
    (outsAt0 m c t.val t.isLt).2 = k0_pay3 (iblk m c 0 t) (iblk m c 2 t) (iblk m c 1 t) (iblk m c 3 t) (outsAt0 m c (t.val - 1) (Nat.lt_of_le_of_lt (Nat.sub_le _ _) t.isLt)).2 := by
  by_cases h2 : t.val % 8 = 7
  · rw [outsAt0_C m c t h0 (by omega) h2]
    unfold sout0_C_0
    dsimp only
    rw [View.read_writes_eq_canon _ _ _ (fun y => scover0_C_0 c _ _ _ _ _ _ _ _ _ _ _ _ _ _ _ _ _ _ _ _ _ y)]
    unfold kernelRun0_C
    dsimp only
    sl_unfold_words
    rw [View.canon_unit_zero hz2]
    simp only [View.readAt_eq_ld]
    exact congr (congr (congr (congr (congrArg k0_pay3 ((View.ld_unit_zero hz3 _ _).trans ((hs0_0 t).read_unread _)))
      ((View.ld_unit_zero hz4 _ _).trans ((hs0_2 t).read_unread _)))
      ((View.ld_unit_zero hz3 _ _).trans ((hs0_1 t).read_unread _)))
      ((View.ld_unit_zero hz4 _ _).trans ((hs0_3 t).read_unread _)))
      ((View.ld_unit_zero hz2 _ _).trans ((Memref.isWhole_whole cc0_scratch0).read_unread _))
  · rw [outsAt0_B m c t h0 (by omega) h2]
    unfold sout0_B_0
    dsimp only
    rw [View.read_writes_eq_canon _ _ _ (fun y => scover0_B_0 c _ _ _ _ _ _ _ _ _ _ _ _ _ _ _ _ _ _ _ _ _ y)]
    unfold kernelRun0_B
    dsimp only
    sl_unfold_words
    rw [View.canon_unit_zero hz2]
    simp only [View.readAt_eq_ld]
    exact congr (congr (congr (congr (congrArg k0_pay3 ((View.ld_unit_zero hz3 _ _).trans ((hs0_0 t).read_unread _)))
      ((View.ld_unit_zero hz4 _ _).trans ((hs0_2 t).read_unread _)))
      ((View.ld_unit_zero hz3 _ _).trans ((hs0_1 t).read_unread _)))
      ((View.ld_unit_zero hz4 _ _).trans ((hs0_3 t).read_unread _)))
      ((View.ld_unit_zero hz2 _ _).trans ((Memref.isWhole_whole cc0_scratch0).read_unread _))

/-- A run's last point writes back what its scratch holds then. -/
theorem out_C (c : Dev nD) (t : Fin cfg0.N) (h2 : t.val % 8 = 7) :
    (dats m 0 c).flushed 4 t = (outsAt0 m c t.val t.isLt).2 := by
  rw [Value.flushed4_C m c t (by omega) (by omega) h2, scr_BC m c t (by omega)]
  show out0_C_4 (F := F) _ _ _ _ _ _ _ _ _ _ _ _ _ _ _ _ _ _ _ _ _ _ = _
  unfold out0_C_4
  rw [View.read_writes_eq_canon _ _ _ (fun y => cover0_C_4 c _ _ _ _ _ _ _ _ _ _ _ _ _ _ _ _ _ _ _ _ _ y)]
  unfold kernelRun0_C
  dsimp only
  sl_unfold_words
  rw [View.canon_unit_zero hz2]
  simp only [View.readAt_eq_ld]
  refine (congrFun (congrArg (View.readCov (View.whole cc0_scratch0)) (congrArg (fun w => [(⟨_, w⟩ : View.Piece (Elt F) S1024x1024 .f32)]) (congr (congr (congr (congr (congrArg k0_pay3 ((View.ld_unit_zero hz3 _ _).trans ((hs0_0 t).read_unread _)))
      ((View.ld_unit_zero hz4 _ _).trans ((hs0_2 t).read_unread _)))
      ((View.ld_unit_zero hz3 _ _).trans ((hs0_1 t).read_unread _)))
      ((View.ld_unit_zero hz4 _ _).trans ((hs0_3 t).read_unread _)))
      ((View.ld_unit_zero hz2 _ _).trans ((Memref.isWhole_whole cc0_scratch0).read_unread _))))) _).trans ?_
  exact View.readCov_unit_zero _ hz2 _ _

end Cases

/-! ## The payloads over the reals -/

abbrev D : DotDims S1024x704 S704x1024 S1024x1024 := dot_S1024x704_S704x1024_S1024x1024_1_0_0_1_n_n

/-- One block product. -/
theorem dot_apply (P0 : FVec Ideal S1x1024x704 .bf16) (P1 : FVec Ideal S1x1x704x1024 .bf16) (r n : Fin 1024) :
    matmul (F := Ideal) (φ₁ := .bf16) (φ₂ := .f32) D none (shapeCast S1024x704 P0 shapeCasts_S1x1024x704_S1024x704)
      (shapeCast S704x1024 P1 shapeCasts_S1x1x704x1024_S704x1024) (constant S1024x1024 .f32 0x00000000#32) (ix2 r n)
      = ∑ k : Fin 704, P0 (ix3 0 r k) * P1 (ix4 0 0 k n) := by
  have hs : ∀ k : Fin 704, shapeCast S1024x704 P0 shapeCasts_S1x1024x704_S1024x704 (ix2 r k) = P0 (ix3 0 r k) := fun k =>
    shapeCast_apply P0 shapeCasts_S1x1024x704_S1024x704 (ix2 r k) (ix3 0 r k) (by
      rw [Shape.rowMajor_val_two, Shape.rowMajor_val_three]; simp [ix2, ix3])
  have hs' : ∀ k : Fin 704, shapeCast S704x1024 P1 shapeCasts_S1x1x704x1024_S704x1024 (ix2 k n) = P1 (ix4 0 0 k n) := fun k =>
    shapeCast_apply P1 shapeCasts_S1x1x704x1024_S704x1024 (ix2 k n) (ix4 0 0 k n) (by
      rw [Shape.rowMajor_val_two, Shape.rowMajor_val_four]; simp [ix2, ix4])
  show Ideal.ofBits .f32 0x00000000#32 + ∑ k : D.contr.Idx,
      shapeCast S1024x704 P0 shapeCasts_S1x1024x704_S1024x704 (D.lhsIdx (ix2 r n) k) * shapeCast S704x1024 P1 shapeCasts_S1x1x704x1024_S704x1024 (D.rhsIdx (ix2 r n) k) = _
  rw [ofBits_zero, EReal.coe_zero, zero_add]
  rw [← Equiv.sum_comp (contrEquiv1 D 704 rfl rfl).symm]
  refine Finset.sum_congr rfl fun k _ => ?_
  have hk := contrEquiv1_symm_val D 704 rfl rfl k
  have el : D.lhsIdx (ix2 r n) ((contrEquiv1 D 704 rfl rfl).symm k) = ix2 r k := funext fun a => Fin.ext (by
    match a with
    | ⟨0, _⟩ => rfl
    | ⟨1, _⟩ => exact (D.lhsIdx_val_of_single rfl _ _).trans hk)
  have er : D.rhsIdx (ix2 r n) ((contrEquiv1 D 704 rfl rfl).symm k) = ix2 k n := funext fun a => Fin.ext (by
    match a with
    | ⟨0, _⟩ => exact (D.rhsIdx_val_of_single rfl _ _).trans hk
    | ⟨1, _⟩ => rfl)
  rw [el, er, hs, hs']

/-- The sum of the two block products. -/
def part (P0 : FVec Ideal S1x1024x704 .bf16) (P1 : FVec Ideal S1x1x704x1024 .bf16) (P2 : FVec Ideal S1x1024x704 .bf16) (P3 : FVec Ideal S1x1x704x1024 .bf16)
    (r n : Fin 1024) : EReal :=
  (∑ k : Fin 704, P0 (ix3 0 r k) * P1 (ix4 0 0 k n)) + ∑ k : Fin 704, P2 (ix3 0 r k) * P3 (ix4 0 0 k n)

theorem pay1_apply (P0 : FVec Ideal S1x1024x704 .bf16) (P1 : FVec Ideal S1x1x704x1024 .bf16) (P2 : FVec Ideal S1x1024x704 .bf16) (P3 : FVec Ideal S1x1x704x1024 .bf16)
    (r n : Fin 1024) : k0_pay1 (F := Ideal) P0 P1 P2 P3 (ix2 r n) = part P0 P1 P2 P3 r n := by
  unfold k0_pay1 part
  exact congr (congrArg (fun a b : EReal => a + b) (dot_apply P0 P1 r n)) (dot_apply P2 P3 r n)

theorem pay2_apply (P0 : FVec Ideal S1x1024x704 .bf16) (P1 : FVec Ideal S1x1x704x1024 .bf16) (P2 : FVec Ideal S1x1024x704 .bf16) (P3 : FVec Ideal S1x1x704x1024 .bf16)
    (r n : Fin 1024) : k0_pay2 (F := Ideal) P0 P1 P2 P3 (ix2 r n) = part P0 P1 P2 P3 r n := by
  rw [← pay1_apply]
  unfold k0_pay2
  exact shapeCast_apply _ shapeCasts_S1024x1024_S1024x1024 (ix2 r n) (ix2 r n) rfl

theorem pay3_apply (P0 : FVec Ideal S1x1024x704 .bf16) (P1 : FVec Ideal S1x1x704x1024 .bf16) (P2 : FVec Ideal S1x1024x704 .bf16) (P3 : FVec Ideal S1x1x704x1024 .bf16)
    (X : FVec Ideal S1024x1024 .f32) (r n : Fin 1024) : k0_pay3 (F := Ideal) P0 P1 P2 P3 X (ix2 r n) = (show EReal from X (ix2 r n)) + part P0 P1 P2 P3 r n := by
  rw [← pay1_apply]
  unfold k0_pay3
  exact shapeCast_apply _ shapeCasts_S1024x1024_S1024x1024 (ix2 r n) (ix2 r n) rfl

/-! ## The call's blocks, in the arguments -/

variable (m : (ℓ : Loc nD τ sig) → Buf (Elt Ideal) ℓ)

/-- The cotangents of the gate and of the up projection, and their weights. -/
abbrev DA (c : Dev nD) : FVec Ideal S4096x5632 .f32 := m ((c : Thread nD τ).loc main_arg3)
abbrev DB (c : Dev nD) : FVec Ideal S4096x5632 .f32 := m ((c : Thread nD τ).loc main_arg4)
abbrev WG (c : Dev nD) : FVec Ideal S2048x5632 .f32 := m ((c : Thread nD τ).loc main_arg1)
abbrev WU (c : Dev nD) : FVec Ideal S2048x5632 .f32 := m ((c : Thread nD τ).loc main_arg2)

theorem V_da (c : Dev nD) : (V m c main_v2 : FVec Ideal S8x4096x704 .bf16)
    = truncf (F := Ideal) .bf16 (transpose S8x4096x704 [1, 0, 2] (shapeCast S4096x8x704 (DA m c) shapeCasts_S4096x5632_S4096x8x704)
        transposes_S4096x8x704_S8x4096x704_1_0_2) bitsLt_bf16_f32 := by
  simp only [V, hostOps0]
  after_results_simp <;> rfl

theorem V_db (c : Dev nD) : (V m c main_v5 : FVec Ideal S8x4096x704 .bf16)
    = truncf (F := Ideal) .bf16 (transpose S8x4096x704 [1, 0, 2] (shapeCast S4096x8x704 (DB m c) shapeCasts_S4096x5632_S4096x8x704)
        transposes_S4096x8x704_S8x4096x704_1_0_2) bitsLt_bf16_f32 := by
  simp only [V, hostOps0]
  after_results_simp <;> rfl

theorem V_wg (c : Dev nD) : (V m c main_v8 : FVec Ideal S8x1x704x2048 .bf16)
    = truncf (F := Ideal) .bf16 (shapeCast S8x1x704x2048 (transpose S5632x2048 [1, 0] (WG m c) transposes_S2048x5632_S5632x2048_1_0)
        shapeCasts_S5632x2048_S8x1x704x2048) bitsLt_bf16_f32 := by
  simp only [V, hostOps0]
  after_results_simp <;> rfl

theorem V_wu (c : Dev nD) : (V m c main_v11 : FVec Ideal S8x1x704x2048 .bf16)
    = truncf (F := Ideal) .bf16 (shapeCast S8x1x704x2048 (transpose S5632x2048 [1, 0] (WU m c) transposes_S2048x5632_S5632x2048_1_0)
        shapeCasts_S5632x2048_S8x1x704x2048) bitsLt_bf16_f32 := by
  simp only [V, hostOps0]
  after_results_simp <;> rfl

/-- Column `f` of slice `j`, as a column of the whole. -/
def col (j : Fin 8) (f : Fin 704) : Fin 5632 := ⟨j.val * 704 + f.val, by omega⟩

theorem slice_apply (y : FVec Ideal S4096x5632 .f32) (j : Fin 8) (r : Fin 4096) (f : Fin 704) :
    truncf (F := Ideal) .bf16 (transpose S8x4096x704 [1, 0, 2] (shapeCast S4096x8x704 y shapeCasts_S4096x5632_S4096x8x704)
      transposes_S4096x8x704_S8x4096x704_1_0_2) bitsLt_bf16_f32 (ix3 j r f) = y (ix2 r (col j f)) := by
  show transpose S8x4096x704 [1, 0, 2] (shapeCast S4096x8x704 y shapeCasts_S4096x5632_S4096x8x704)
    transposes_S4096x8x704_S8x4096x704_1_0_2 (ix3 j r f) = y (ix2 r (col j f))
  refine (transpose_apply [1, 0, 2] _ transposes_S4096x8x704_S8x4096x704_1_0_2 (ix3 j r f) (ix3 r j f) (fun b => match b with
    | ⟨0, _⟩ => rfl
    | ⟨1, _⟩ => rfl
    | ⟨2, _⟩ => rfl)).trans ?_
  refine shapeCast_apply _ shapeCasts_S4096x5632_S4096x8x704 (ix3 r j f) (ix2 r (col j f)) ?_
  rw [Shape.rowMajor_val_two, Shape.rowMajor_val_three]
  show r.val * 5632 + (j.val * 704 + f.val) = (r.val * 8 + j.val) * 704 + f.val
  omega

theorem wslice_apply (w : FVec Ideal S2048x5632 .f32) (j : Fin 8) (f : Fin 704) (n : Fin 2048) :
    truncf (F := Ideal) .bf16 (shapeCast S8x1x704x2048 (transpose S5632x2048 [1, 0] w transposes_S2048x5632_S5632x2048_1_0)
        shapeCasts_S5632x2048_S8x1x704x2048) bitsLt_bf16_f32 (ix4 j 0 f n) = w (ix2 n (col j f)) := by
  show shapeCast S8x1x704x2048 (transpose S5632x2048 [1, 0] w transposes_S2048x5632_S5632x2048_1_0)
        shapeCasts_S5632x2048_S8x1x704x2048 (ix4 j 0 f n) = _
  refine (shapeCast_apply _ shapeCasts_S5632x2048_S8x1x704x2048 (ix4 j 0 f n) (ix2 (col j f) n) (by
    rw [Shape.rowMajor_val_two, Shape.rowMajor_val_four]
    show (j.val * 704 + f.val) * 2048 + n.val = ((j.val * 1 + 0) * 704 + f.val) * 2048 + n.val
    omega)).trans ?_
  exact transpose_apply [1, 0] w transposes_S2048x5632_S5632x2048_1_0 (ix2 (col j f) n) (ix2 n (col j f)) (fun b => match b with
    | ⟨0, _⟩ => rfl
    | ⟨1, _⟩ => rfl)

/-- The index maps, in the point's number. -/
theorem idx_facts : ∀ t : Fin cfg0.N, win0_0.index t (0 : Fin 3) = t.val % 8 ∧ win0_0.index t (1 : Fin 3) = t.val / 16 ∧ win0_0.index t (2 : Fin 3) = 0
    ∧ win0_1.index t (0 : Fin 3) = t.val % 8 ∧ win0_1.index t (1 : Fin 3) = t.val / 16 ∧ win0_1.index t (2 : Fin 3) = 0
    ∧ win0_2.index t (0 : Fin 4) = t.val % 8 ∧ win0_2.index t (1 : Fin 4) = 0 ∧ win0_2.index t (2 : Fin 4) = 0 ∧ win0_2.index t (3 : Fin 4) = t.val / 8 % 2
    ∧ win0_3.index t (0 : Fin 4) = t.val % 8 ∧ win0_3.index t (1 : Fin 4) = 0 ∧ win0_3.index t (2 : Fin 4) = 0 ∧ win0_3.index t (3 : Fin 4) = t.val / 8 % 2
    ∧ win0_4.index t (0 : Fin 2) = t.val / 16 ∧ win0_4.index t (1 : Fin 2) = t.val / 8 % 2 :=
  (by decide +kernel : ∀ t : Fin grid0.N, _)

theorem lt_N (t : Fin cfg0.N) : t.val < 64 := lt_of_lt_of_eq t.isLt N_0

/-- Row `r` of point `t`'s block, as a row of the result. -/
def row (t : ℕ) (r : Fin 1024) : Fin 4096 := ⟨t / 16 % 4 * 1024 + r.val, by omega⟩

/-- Column `n` of point `t`'s block, as a column of the result. -/
def out (t : ℕ) (n : Fin 1024) : Fin 2048 := ⟨t / 8 % 2 * 1024 + n.val, by omega⟩

/-- The slice that point `t` sums over. -/
def sl (t : ℕ) : Fin 8 := ⟨t % 8, by omega⟩

theorem col_place (t : ℕ) (k : Fin 704) : col (sl t) k = place 5632 704 (t % 8) k.val :=
  Fin.ext (by show t % 8 * 704 + k.val = (704 * (t % 8) + k.val) % 5632; omega)

theorem blk0 (c : Dev nD) (t : Fin cfg0.N) (r : Fin 1024) (k : Fin 704) :
    (iblk m c 0 t : FVec Ideal S1x1024x704 .bf16) (ix3 0 r k) = DA m c (ix2 (row t.val r) (place 5632 704 (t.val % 8) k.val)) := by
  rw [← col_place, ← slice_apply (DA m c), ← V_da m c]
  have h := idx_facts t
  have hN := lt_N t
  refine congrArg (V m c main_v2 : FVec Ideal S8x4096x704 .bf16) (funext fun a => Fin.ext ?_)
  match a with
  | ⟨0, _⟩ => show win0_0.index t 0 * 1 + 1 * 0 = t.val % 8; omega
  | ⟨1, _⟩ => show win0_0.index t 1 * 1024 + 1 * r.val = t.val / 16 % 4 * 1024 + r.val; omega
  | ⟨2, _⟩ => show win0_0.index t 2 * 704 + 1 * k.val = k.val; omega

theorem blk1 (c : Dev nD) (t : Fin cfg0.N) (r : Fin 1024) (k : Fin 704) :
    (iblk m c 1 t : FVec Ideal S1x1024x704 .bf16) (ix3 0 r k) = DB m c (ix2 (row t.val r) (place 5632 704 (t.val % 8) k.val)) := by
  rw [← col_place, ← slice_apply (DB m c), ← V_db m c]
  have h := idx_facts t
  have hN := lt_N t
  refine congrArg (V m c main_v5 : FVec Ideal S8x4096x704 .bf16) (funext fun a => Fin.ext ?_)
  match a with
  | ⟨0, _⟩ => show win0_1.index t 0 * 1 + 1 * 0 = t.val % 8; omega
  | ⟨1, _⟩ => show win0_1.index t 1 * 1024 + 1 * r.val = t.val / 16 % 4 * 1024 + r.val; omega
  | ⟨2, _⟩ => show win0_1.index t 2 * 704 + 1 * k.val = k.val; omega

theorem blk2 (c : Dev nD) (t : Fin cfg0.N) (k : Fin 704) (n : Fin 1024) :
    (iblk m c 2 t : FVec Ideal S1x1x704x1024 .bf16) (ix4 0 0 k n) = WG m c (ix2 (out t.val n) (place 5632 704 (t.val % 8) k.val)) := by
  rw [← col_place, ← wslice_apply (WG m c), ← V_wg m c]
  have h := idx_facts t
  have hN := lt_N t
  refine congrArg (V m c main_v8 : FVec Ideal S8x1x704x2048 .bf16) (funext fun a => Fin.ext ?_)
  match a with
  | ⟨0, _⟩ => show win0_2.index t 0 * 1 + 1 * 0 = t.val % 8; omega
  | ⟨1, _⟩ => show win0_2.index t 1 * 1 + 1 * 0 = 0; omega
  | ⟨2, _⟩ => show win0_2.index t 2 * 704 + 1 * k.val = k.val; omega
  | ⟨3, _⟩ => show win0_2.index t 3 * 1024 + 1 * n.val = t.val / 8 % 2 * 1024 + n.val; omega

theorem blk3 (c : Dev nD) (t : Fin cfg0.N) (k : Fin 704) (n : Fin 1024) :
    (iblk m c 3 t : FVec Ideal S1x1x704x1024 .bf16) (ix4 0 0 k n) = WU m c (ix2 (out t.val n) (place 5632 704 (t.val % 8) k.val)) := by
  rw [← col_place, ← wslice_apply (WU m c), ← V_wu m c]
  have h := idx_facts t
  have hN := lt_N t
  refine congrArg (V m c main_v11 : FVec Ideal S8x1x704x2048 .bf16) (funext fun a => Fin.ext ?_)
  match a with
  | ⟨0, _⟩ => show win0_3.index t 0 * 1 + 1 * 0 = t.val % 8; omega
  | ⟨1, _⟩ => show win0_3.index t 1 * 1 + 1 * 0 = 0; omega
  | ⟨2, _⟩ => show win0_3.index t 2 * 704 + 1 * k.val = k.val; omega
  | ⟨3, _⟩ => show win0_3.index t 3 * 1024 + 1 * n.val = t.val / 8 % 2 * 1024 + n.val; omega

/-- Column `i`'s share of entry `(r, n)` of the two products' sum. -/
def term (c : Dev nD) (r : Fin 4096) (n : Fin 2048) (i : Fin 5632) : EReal :=
  DA m c (ix2 r i) * WG m c (ix2 n i) + DB m c (ix2 r i) * WU m c (ix2 n i)

/-- Point `t`'s two block products are the sum over its columns. -/
theorem blk_sum (c : Dev nD) (t : Fin cfg0.N) (r n : Fin 1024) :
    part (iblk m c 0 t) (iblk m c 2 t) (iblk m c 1 t) (iblk m c 3 t) r n = blkSum 704 (term m c (row t.val r) (out t.val n)) (t.val % 8) := by
  unfold blkSum term part
  rw [Finset.sum_add_distrib]
  exact congr (congrArg HAdd.hAdd (Finset.sum_congr rfl fun k _ => by rw [blk0, blk2])) (Finset.sum_congr rfl fun k _ => by rw [blk1, blk3])

/-! ## The accumulation -/

/-- After point `t` the scratch holds the sums over the run's columns so far. -/
theorem scr (c : Dev nD) (r n : Fin 1024) : ∀ (t : ℕ) (ht : t < cfg0.N),
    (show EReal from ((outsAt0 m c t ht).2 : FVec Ideal S1024x1024 .f32) (ix2 r n)) = blkSums 704 (term m c (row t r) (out t n)) (t % 8 + 1) := by
  intro t
  induction t with
  | zero =>
    intro ht
    rw [scr_A m c ⟨0, ht⟩ rfl, pay2_apply]
    refine (blk_sum m c ⟨0, ht⟩ r n).trans ?_
    rw [blkSums_one]; rfl
  | succ t ih =>
    intro ht
    by_cases h0 : (t + 1) % 8 = 0
    · rw [scr_A m c ⟨t + 1, ht⟩ h0, pay2_apply]
      refine (blk_sum m c ⟨t + 1, ht⟩ r n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ r n)).trans ?_
      have e1 : row (t + 1) r = row t r := Fin.ext (by show (t + 1) / 16 % 4 * 1024 + r.val = t / 16 % 4 * 1024 + r.val; omega)
      have e2 : out (t + 1) n = out t n := Fin.ext (by show (t + 1) / 8 % 2 * 1024 + n.val = t / 8 % 2 * 1024 + n.val; omega)
      show _ + blkSum 704 (term m c (row (t + 1) r) (out (t + 1) n)) ((t + 1) % 8) = _
      rw [e1, e2, show (t + 1) % 8 = t % 8 + 1 by omega, ← blkSums_succ]

/-! ## The reference -/

/-- The result, as the reference computes it. -/
abbrev G (c : Dev nD) : FVec Ideal S4096x2048 .f32 := Cert.Reference5Ideal.Read.val_main_v4 (F := Ideal)
  (m ((c : Thread nD τ).loc main_arg1)) (m ((c : Thread nD τ).loc main_arg2)) (m ((c : Thread nD τ).loc main_arg3)) (m ((c : Thread nD τ).loc main_arg4))

theorem G_apply (c : Dev nD) (r : Fin 4096) (n : Fin 2048) : G m c (ix2 r n) = ∑ i : Fin 5632, term m c r n i := by
  unfold G term
  rw [Cert.Reference5Ideal.Read.val_main_v4_apply, Finset.sum_add_distrib]
  refine Eq.trans (?_ : _ = (show EReal from Cert.Reference5Ideal.Read.val_main_v2 (F := Ideal) (WU m c) (DB m c) (ix2 r n))
    + (show EReal from Cert.Reference5Ideal.Read.val_main_v3 (F := Ideal) (WG m c) (DA m c) (ix2 r n))) ?_
  · rfl
  rw [add_comm, Cert.Reference5Ideal.Read.val_main_v2_apply, Cert.Reference5Ideal.Read.val_main_v3_apply]
  have el : ∀ i, Cert.Reference5Ideal.Read.lidx_main_v2 (ix2 r n) i = ix2 r i := fun i => funext fun a => by
    match a with
    | ⟨0, _⟩ => rfl
    | ⟨1, _⟩ => rfl
  have er : ∀ i, Cert.Reference5Ideal.Read.ridx_main_v2 (ix2 r n) i = ix2 n i := fun i => funext fun a => by
    match a with
    | ⟨0, _⟩ => rfl
    | ⟨1, _⟩ => rfl
  exact congr (congrArg HAdd.hAdd (Finset.sum_congr rfl fun i _ => by
      rw [show Cert.Reference5Ideal.Read.lidx_main_v3 (ix2 r n) i = ix2 r i from el i, show Cert.Reference5Ideal.Read.ridx_main_v3 (ix2 r n) i = ix2 n i from er i]))
    (Finset.sum_congr rfl fun i _ => by rw [el, er])

/-! ## The whole array -/

theorem eq_blk (y : S1024x1024.Idx) : ∃ (r n : Fin 1024), y = ix2 r n :=
  ⟨y 0, y 1, funext fun a => match a with
    | ⟨0, _⟩ => rfl
    | ⟨1, _⟩ => rfl⟩

theorem emb4 (t : Fin cfg0.N) (r n : Fin 1024) (G : FVec Ideal S4096x2048 .f32) :
    ((cfg0.win 4).blk t).view.read (Elt Ideal) G (ix2 r n) = G (ix2 (row t.val r) (out t.val n)) := by
  have h := idx_facts t
  have hN := lt_N t
  refine congrArg G (funext fun a => Fin.ext ?_)
  match a with
  | ⟨0, _⟩ => show win0_4.index t 0 * 1024 + 1 * r.val = t.val / 16 % 4 * 1024 + r.val; omega
  | ⟨1, _⟩ => show win0_4.index t 1 * 1024 + 1 * n.val = t.val / 8 % 2 * 1024 + n.val; omega

/-- What a run's last point writes back is its block of the reference's result. -/
theorem flushed_eq (c : Dev nD) (t : Fin cfg0.N) (hf : (cfg0.win 4).flush t = true) :
    (dats m 0 c).flushed 4 t = ((cfg0.win 4).blk t).view.read (Elt Ideal) (G m c) := by
  have h2 : t.val % 8 = 7 := (flush0_4 t).mp hf
  rw [out_C m c t h2]
  funext y
  obtain ⟨r, n, rfl⟩ := eq_blk y
  rw [emb4, G_apply]
  refine (scr m c r n t.val t.isLt).trans ?_
  rw [h2]
  exact blkSums_all 704 8 rfl _

variable (ρ : Dev nD → PrngReg)

/-- THE CALL: its result is the derivative of the reference's lines, and the arguments end unchanged. -/
theorem run : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 4 (G m c) (fun t hf => flushed_eq m c t hf)
      (fun i => (Value.covered_iff4 i).2 (by
        have h0 : (i 0).val < 4096 := (i 0).isLt; have h1 : (i 1).val < 2048 := (i 1).isLt; omega))), (h c).2⟩)
    (Value.run_blocks m ρ)

end Cert.Dh

end
-- ==== Proof.DhClaims.lean ====
/-
  The claims about the backward call for the layer's normed input.
-/
module

public import proofs.«01_k».proof.Proof.Dh

@[expose] public section

set_option maxRecDepth 16384

noncomputable section

namespace Cert.Dh

open Idealize.ShloMosaic Idealize.ShloMosaic.TcCoe Idealize.SL.Sem

/-- The reference runs through, leaves its arguments and holds no semaphore. -/
theorem frame_ref : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- From the same arguments the call and the reference end with the same result. -/
theorem algebraic : Cert.algebraic_Kernel5Ideal_Reference5Ideal :=
  fun m ρ m' ρ' _ hag => ⟨G m, run m ρ,
    (θ_run _ _ _).mono (fun _ h c => by
      obtain ⟨e0, e1, e2, e3, e4⟩ := hag c
      refine ⟨?_, (h c).2⟩
      rw [(h c).1, Cert.Reference5Ideal.Read.val_main_v4_eq, e1, e2, e3, e4])
      (Cert.Reference5Ideal.Value.run (F := Ideal) m' ρ')⟩

end Cert.Dh

end
-- ==== Proof.Dwd.lean ====
/-
  The feed-forward layer's backward call for the down projection's weight, over the reals: the array that the
  call returns is the derivative of `0.5 · (hidden · w)` in `w`.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Reals
public import proofs.«01_k».proof.Proof.Sums

@[expose] public section

set_option maxRecDepth 16384

noncomputable section

namespace Cert.Dwd

open Idealize.ShloMosaic Idealize.ShloMosaic.TcCoe Idealize.SL.Sem Cert.Reals Cert.Sums
open Idealize.ShloMosaic.ValueIdx
open Cert.Kernel3Ideal Cert.Kernel3Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the cases leave -/

section Cases

variable {F : FTy → Type} [FloatOps F] (m : (ℓ : Loc nD τ sig) → Buf (Elt F) ℓ)

/-- A run's first point leaves the block product in the scratch. -/
theorem scr_A (c : Dev nD) (t : Fin cfg0.N) (h0 : t.val % 4 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz3 _ _).trans ((hs0_0 t).read_unread _)))
    ((View.ld_unit_zero hz2 _ _).trans ((hs0_1 t).read_unread _))

/-- A later point adds the block product to what the point before left. -/
theorem scr_BC (c : Dev nD) (t : Fin cfg0.N) (h0 : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    unfold sout0_C_0
    dsimp only
    rw [View.read_writes_eq_canon _ _ _ (fun y => scover0_C_0 c _ _ _ _ _ _ _ _ _ _ _ _ _ _ _ y)]
    unfold kernelRun0_C
    dsimp only
    sl_unfold_words
    rw [View.canon_unit_zero hz2]
    simp only [View.readAt_eq_ld]
    exact congr (congr (congrArg k0_pay3 ((View.ld_unit_zero hz3 _ _).trans ((hs0_0 t).read_unread _)))
      ((View.ld_unit_zero hz2 _ _).trans ((hs0_1 t).read_unread _)))
      ((View.ld_unit_zero hz2 _ _).trans ((Memref.isWhole_whole cc0_scratch0).read_unread _))
  · rw [outsAt0_B m c t h0 (by omega) h2]
    unfold sout0_B_0
    dsimp only
    rw [View.read_writes_eq_canon _ _ _ (fun y => scover0_B_0 c _ _ _ _ _ _ _ _ _ _ _ _ _ _ _ y)]
    unfold kernelRun0_B
    dsimp only
    sl_unfold_words
    rw [View.canon_unit_zero hz2]
    simp only [View.readAt_eq_ld]
    exact congr (congr (congrArg k0_pay3 ((View.ld_unit_zero hz3 _ _).trans ((hs0_0 t).read_unread _)))
      ((View.ld_unit_zero hz2 _ _).trans ((hs0_1 t).read_unread _)))
      ((View.ld_unit_zero hz2 _ _).trans ((Memref.isWhole_whole cc0_scratch0).read_unread _))

/-- A run's last point writes back what its scratch holds then. -/
theorem out_C (c : Dev nD) (t : Fin cfg0.N) (h2 : t.val % 4 = 3) :
    (dats m 0 c).flushed 2 t = k0_pay4 (outsAt0 m c t.val t.isLt).2 := by
  rw [Value.flushed2_C m c t (by omega) (by omega) h2, scr_BC m c t (by omega)]
  show out0_C_2 (F := F) _ _ _ _ _ _ _ _ _ _ _ _ _ _ _ _ = _
  unfold out0_C_2
  rw [View.read_writes_eq_canon _ _ _ (fun y => cover0_C_2 c _ _ _ _ _ _ _ _ _ _ _ _ _ _ _ y)]
  unfold kernelRun0_C
  dsimp only
  sl_unfold_words
  rw [View.canon_unit_zero hz3]
  simp only [View.readAt_eq_ld]
  rw [View.readCov_unit_zero _ hz2]
  exact congrArg k0_pay4 (congr (congr (congrArg k0_pay3 ((View.ld_unit_zero hz3 _ _).trans ((hs0_0 t).read_unread _)))
      ((View.ld_unit_zero hz2 _ _).trans ((hs0_1 t).read_unread _)))
      ((View.ld_unit_zero hz2 _ _).trans ((Memref.isWhole_whole cc0_scratch0).read_unread _)))

end Cases

/-! ## The payloads over the reals -/

abbrev D : DotDims S1024x704 S1024x1024 S704x1024 := dot_S1024x704_S1024x1024_S704x1024_0_0_1_1_n_n

/-- The block product: rows are summed over. -/
theorem pay1_apply (P0 : FVec Ideal S1x1024x704 .bf16) (P1 : FVec Ideal S1024x1024 .f32) (f : Fin 704) (n : Fin 1024) :
    k0_pay1 (F := Ideal) P0 P1 (ix2 f n) = ∑ k : Fin 1024, P0 (ix3 0 k f) * P1 (ix2 k n) := by
  have hs : ∀ k : Fin 1024, shapeCast S1024x704 P0 shapeCasts_S1x1024x704_S1024x704 (ix2 k f) = P0 (ix3 0 k f) := fun k =>
    shapeCast_apply P0 shapeCasts_S1x1024x704_S1024x704 (ix2 k f) (ix3 0 k f) (by
      rw [Shape.rowMajor_val_two, Shape.rowMajor_val_three]; simp [ix2, ix3])
  unfold k0_pay1
  show Ideal.ofBits .f32 0x00000000#32 + ∑ k : D.contr.Idx,
      shapeCast S1024x704 P0 shapeCasts_S1x1024x704_S1024x704 (D.lhsIdx (ix2 f n) k) * P1 (D.rhsIdx (ix2 f n) k) = _
  rw [ofBits_zero, EReal.coe_zero, zero_add]
  rw [← Equiv.sum_comp (contrEquiv1 D 1024 rfl rfl).symm]
  refine Finset.sum_congr rfl fun k _ => ?_
  have hk := contrEquiv1_symm_val D 1024 rfl rfl k
  have el : D.lhsIdx (ix2 f n) ((contrEquiv1 D 1024 rfl rfl).symm k) = ix2 k f := funext fun a => Fin.ext (by
    match a with
    | ⟨0, _⟩ => exact (D.lhsIdx_val_of_single rfl _ _).trans hk
    | ⟨1, _⟩ => rfl)
  have er : D.rhsIdx (ix2 f n) ((contrEquiv1 D 1024 rfl rfl).symm k) = ix2 k n := funext fun a => Fin.ext (by
    match a with
    | ⟨0, _⟩ => exact (D.rhsIdx_val_of_single rfl _ _).trans hk
    | ⟨1, _⟩ => rfl)
  rw [el, er, hs]

theorem pay2_apply (P0 : FVec Ideal S1x1024x704 .bf16) (P1 : FVec Ideal S1024x1024 .f32) (f : Fin 704) (n : Fin 1024) :
    k0_pay2 (F := Ideal) P0 P1 (ix2 f n) = ∑ k : Fin 1024, P0 (ix3 0 k f) * P1 (ix2 k n) := by
  rw [← pay1_apply]
  unfold k0_pay2
  exact shapeCast_apply _ shapeCasts_S704x1024_S704x1024 (ix2 f n) (ix2 f n) rfl

theorem pay3_apply (P0 : FVec Ideal S1x1024x704 .bf16) (P1 : FVec Ideal S1024x1024 .f32) (X : FVec Ideal S704x1024 .f32) (f : Fin 704) (n : Fin 1024) :
    k0_pay3 (F := Ideal) P0 P1 X (ix2 f n) = (show EReal from X (ix2 f n)) + ∑ k : Fin 1024, P0 (ix3 0 k f) * P1 (ix2 k n) := by
  rw [← pay1_apply]
  unfold k0_pay3
  exact shapeCast_apply _ shapeCasts_S704x1024_S704x1024 (ix2 f n) (ix2 f n) rfl

theorem pay4_apply (X : FVec Ideal S704x1024 .f32) (f : Fin 704) (n : Fin 1024) :
    k0_pay4 (F := Ideal) X (ix3 0 f n) = ((0.5 : ℝ) : EReal) * (show EReal from X (ix2 f n)) := by
  unfold k0_pay4
  refine (shapeCast_apply _ shapeCasts_S704x1024_S1x704x1024 (ix3 0 f n) (ix2 f n) (by
    rw [Shape.rowMajor_val_two, Shape.rowMajor_val_three]; simp [ix2, ix3])).trans ?_
  show Ideal.ofBits .f32 0x3F000000#32 * _ = _
  rw [ofBits_half]

/-! ## The call's blocks, in the arguments -/

variable (m : (ℓ : Loc nD τ sig) → Buf (Elt Ideal) ℓ)

/-- The hidden values, as the reference computes them. -/
abbrev H (c : Dev nD) : FVec Ideal S4096x5632 .f32 := Cert.Reference3Ideal.Read.val_main_v3 (F := Ideal)
  (m ((c : Thread nD τ).loc main_arg0)) (m ((c : Thread nD τ).loc main_arg1)) (m ((c : Thread nD τ).loc main_arg2))

/-- The cotangent of the layer's result. -/
abbrev X (c : Dev nD) : FVec Ideal S4096x2048 .f32 := m ((c : Thread nD τ).loc main_arg4)

/-- The call's array of hidden values. -/
theorem V_h (c : Dev nD) : (V m c main_v6 : FVec Ideal S8x4096x704 .bf16)
    = truncf (F := Ideal) .bf16 (transpose S8x4096x704 [1, 0, 2] (shapeCast S4096x8x704 (H m c) shapeCasts_S4096x5632_S4096x8x704)
        transposes_S4096x8x704_S8x4096x704_1_0_2) bitsLt_bf16_f32 := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> rfl

/-- Column `f` of device `j`'s slice, as a column of the whole product. -/
def col (j : Fin 8) (f : Fin 704) : Fin 5632 := ⟨j.val * 704 + f.val, by omega⟩

theorem V_h_apply (c : Dev nD) (j : Fin 8) (r : Fin 4096) (f : Fin 704) :
    (V m c main_v6 : FVec Ideal S8x4096x704 .bf16) (ix3 j r f) = H m c (ix2 r (col j f)) := by
  rw [V_h]
  show transpose S8x4096x704 [1, 0, 2] (shapeCast S4096x8x704 (H m c) shapeCasts_S4096x5632_S4096x8x704)
    transposes_S4096x8x704_S8x4096x704_1_0_2 (ix3 j r f) = _
  refine (transpose_apply [1, 0, 2] _ transposes_S4096x8x704_S8x4096x704_1_0_2 (ix3 j r f) (ix3 r j f) (fun b => match b with
    | ⟨0, _⟩ => rfl
    | ⟨1, _⟩ => rfl
    | ⟨2, _⟩ => rfl)).trans ?_
  refine shapeCast_apply _ shapeCasts_S4096x5632_S4096x8x704 (ix3 r j f) (ix2 r (col j f)) ?_
  rw [Shape.rowMajor_val_two, Shape.rowMajor_val_three]
  show r.val * 5632 + (j.val * 704 + f.val) = (r.val * 8 + j.val) * 704 + f.val
  omega

/-- The index maps, in the point's number. -/
theorem idx_facts : ∀ t : Fin cfg0.N, win0_0.index t (0 : Fin 3) = t.val / 8 ∧ win0_0.index t (1 : Fin 3) = t.val % 4 ∧ win0_0.index t (2 : Fin 3) = 0
    ∧ win0_1.index t (0 : Fin 2) = t.val % 4 ∧ win0_1.index t (1 : Fin 2) = t.val / 4 % 2
    ∧ win0_2.index t (0 : Fin 3) = t.val / 8 ∧ win0_2.index t (1 : Fin 3) = 0 ∧ win0_2.index t (2 : Fin 3) = t.val / 4 % 2 :=
  (by decide +kernel : ∀ t : Fin grid0.N, _)

theorem lt_N (t : Fin cfg0.N) : t.val < 64 := lt_of_lt_of_eq t.isLt N_0

/-- The slice that point `t` works on. -/
def sl (t : ℕ) : Fin 8 := ⟨t / 8 % 8, by omega⟩

/-- Column `n` of point `t`'s block, as a column of the result. -/
def out (t : ℕ) (n : Fin 1024) : Fin 2048 := ⟨t / 4 % 2 * 1024 + n.val, by omega⟩

theorem blk0 (c : Dev nD) (t : Fin cfg0.N) (k : Fin 1024) (f : Fin 704) :
    (iblk m c 0 t : FVec Ideal S1x1024x704 .bf16) (ix3 0 k f) = H m c (ix2 (place 4096 1024 (t.val % 4) k.val) (col (sl t.val) f)) := by
  rw [← V_h_apply m c]
  obtain ⟨e0, e1, e2, -⟩ := idx_facts t
  have hN := lt_N t
  refine congrArg (V m c main_v6 : FVec Ideal S8x4096x704 .bf16) (funext fun a => Fin.ext ?_)
  match a with
  | ⟨0, _⟩ => show win0_0.index t 0 * 1 + 1 * 0 = t.val / 8 % 8; omega
  | ⟨1, _⟩ => show win0_0.index t 1 * 1024 + 1 * k.val = (1024 * (t.val % 4) + k.val) % 4096; omega
  | ⟨2, _⟩ => show win0_0.index t 2 * 704 + 1 * f.val = f.val; omega

theorem blk1 (c : Dev nD) (t : Fin cfg0.N) (k n : Fin 1024) :
    (iblk m c 1 t : FVec Ideal S1024x1024 .f32) (ix2 k n) = X m c (ix2 (place 4096 1024 (t.val % 4) k.val) (out t.val n)) := by
  unfold X
  rw [← V_main_arg4 m c]
  obtain ⟨-, -, -, e0, e1, -⟩ := idx_facts t
  have hN := lt_N t
  refine congrArg (V m c main_arg4 : FVec Ideal S4096x2048 .f32) (funext fun a => Fin.ext ?_)
  match a with
  | ⟨0, _⟩ => show win0_1.index t 0 * 1024 + 1 * k.val = (1024 * (t.val % 4) + k.val) % 4096; omega
  | ⟨1, _⟩ => show win0_1.index t 1 * 1024 + 1 * n.val = t.val / 4 % 2 * 1024 + n.val; omega

/-- Row `r`'s share of entry `(i, n)` of the product. -/
def term (c : Dev nD) (i : Fin 5632) (n : Fin 2048) (r : Fin 4096) : EReal := H m c (ix2 r i) * X m c (ix2 r n)

/-- Point `t`'s block product is the sum over its rows. -/
theorem blk_sum (c : Dev nD) (t : Fin cfg0.N) (f : Fin 704) (n : Fin 1024) :
    ∑ k : Fin 1024, (show EReal from (iblk m c 0 t : FVec Ideal S1x1024x704 .bf16) (ix3 0 k f)) * (show EReal from (iblk m c 1 t : FVec Ideal S1024x1024 .f32) (ix2 k n))
      = blkSum 1024 (term m c (col (sl t.val) f) (out t.val n)) (t.val % 4) := by
  unfold blkSum term
  exact Finset.sum_congr rfl fun k _ => by rw [blk0, blk1]

/-! ## The accumulation -/

/-- After point `t` the scratch holds the sums over the run's rows so far. -/
theorem scr (c : Dev nD) (f : Fin 704) (n : Fin 1024) : ∀ (t : ℕ) (ht : t < cfg0.N),
    (show EReal from ((outsAt0 m c t ht).2 : FVec Ideal S704x1024 .f32) (ix2 f n)) = blkSums 1024 (term m c (col (sl t) f) (out t n)) (t % 4 + 1) := by
  intro t
  induction t with
  | zero =>
    intro ht
    rw [scr_A m c ⟨0, ht⟩ rfl, pay2_apply]
    refine (blk_sum m c ⟨0, ht⟩ f n).trans ?_
    rw [blkSums_one]; rfl
  | succ t ih =>
    intro ht
    by_cases h0 : (t + 1) % 4 = 0
    · rw [scr_A m c ⟨t + 1, ht⟩ h0, pay2_apply]
      refine (blk_sum m c ⟨t + 1, ht⟩ f n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ f n)).trans ?_
      have e1 : sl (t + 1) = sl t := Fin.ext (by show (t + 1) / 8 % 8 = t / 8 % 8; omega)
      have e2 : out (t + 1) n = out t n := Fin.ext (by show (t + 1) / 4 % 2 * 1024 + n.val = t / 4 % 2 * 1024 + n.val; omega)
      show _ + blkSum 1024 (term m c (col (sl (t + 1)) f) (out (t + 1) n)) ((t + 1) % 4) = _
      rw [e1, e2, show (t + 1) % 4 = t % 4 + 1 by omega, ← blkSums_succ]

/-! ## The reference -/

/-- The result, as the reference computes it. -/
abbrev G (c : Dev nD) : FVec Ideal S8x704x2048 .bf16 := Cert.Reference3Ideal.Read.val_main_v12 (F := Ideal)
  (m ((c : Thread nD τ).loc main_arg0)) (m ((c : Thread nD τ).loc main_arg1)) (m ((c : Thread nD τ).loc main_arg2)) (m ((c : Thread nD τ).loc main_arg4))

theorem G_apply (c : Dev nD) (j : Fin 8) (f : Fin 704) (n : Fin 2048) :
    G m c (ix3 j f n) = ((0.5 : ℝ) : EReal) * ∑ r : Fin 4096, term m c (col j f) n r := by
  rw [coe_mul_sum _ _ (by norm_num)]
  unfold G
  rw [Cert.Reference3Ideal.Read.val_main_v12_apply]
  show Cert.Reference3Ideal.Read.val_main_v11 (F := Ideal) _ _ _ _ (ix3 j f n) = _
  rw [Cert.Reference3Ideal.Read.val_main_v11_apply, Cert.Reference3Ideal.Read.val_main_v10_apply, Cert.Reference3Ideal.Read.val_main_v9_apply]
  refine Finset.sum_congr rfl fun r _ => ?_
  have el : Cert.Reference3Ideal.Read.lidx_main_v9 (Cert.Reference3Ideal.Read.idx_main_v10 (Cert.Reference3Ideal.Read.idx_main_v11 (ix3 j f n))) r = ix2 r n :=
    funext fun a => Fin.ext (by
      match a with
      | ⟨0, _⟩ => rfl
      | ⟨1, _⟩ => show ((j.val * 704 + f.val) * 2048 + n.val) % 2048 = n.val; omega)
  have er : Cert.Reference3Ideal.Read.ridx_main_v9 (Cert.Reference3Ideal.Read.idx_main_v10 (Cert.Reference3Ideal.Read.idx_main_v11 (ix3 j f n))) r = ix2 r (col j f) :=
    funext fun a => Fin.ext (by
      match a with
      | ⟨0, _⟩ => rfl
      | ⟨1, _⟩ => show ((j.val * 704 + f.val) * 2048 + n.val) / 2048 = j.val * 704 + f.val; omega)
  rw [el, er, Cert.Reference3Ideal.Read.val_main_v8_apply, Cert.Reference3Ideal.Read.val_main_v7_apply, Cert.Reference3Ideal.Read.val_main_cst_0_apply]
  unfold term
  show Ideal.ofBits .f32 0x3F000000#32 * _ * _ = _
  rw [ofBits_half, mul_assoc, mul_comm (H m c _)]

/-! ## The whole array -/

/-- An index of a block is `(0, f, n)`. -/
theorem eq_blk (y : S1x704x1024.Idx) : ∃ (f : Fin 704) (n : Fin 1024), y = ix3 0 f n :=
  ⟨y 1, y 2, funext fun a => match a with
    | ⟨0, _⟩ => Fin.ext (by have : (y 0).val < 1 := (y 0).isLt; show (y 0).val = 0; omega)
    | ⟨1, _⟩ => rfl
    | ⟨2, _⟩ => rfl⟩

theorem emb2 (t : Fin cfg0.N) (f : Fin 704) (n : Fin 1024) (G : FVec Ideal S8x704x2048 .bf16) :
    ((cfg0.win 2).blk t).view.read (Elt Ideal) G (ix3 0 f n) = G (ix3 (sl t.val) f (out t.val n)) := by
  obtain ⟨-, -, -, -, -, e0, e1, e2⟩ := idx_facts t
  have hN := lt_N t
  refine congrArg G (funext fun a => Fin.ext ?_)
  match a with
  | ⟨0, _⟩ => show win0_2.index t 0 * 1 + 1 * 0 = t.val / 8 % 8; omega
  | ⟨1, _⟩ => show win0_2.index t 1 * 704 + 1 * f.val = f.val; omega
  | ⟨2, _⟩ => show win0_2.index t 2 * 1024 + 1 * n.val = t.val / 4 % 2 * 1024 + n.val; omega

/-- What a run's last point writes back is its block of the reference's result. -/
theorem flushed_eq (c : Dev nD) (t : Fin cfg0.N) (hf : (cfg0.win 2).flush t = true) :
    (dats m 0 c).flushed 2 t = ((cfg0.win 2).blk t).view.read (Elt Ideal) (G m c) := by
  have h2 : t.val % 4 = 3 := (flush0_2 t).mp hf
  rw [out_C m c t h2]
  funext y
  obtain ⟨f, n, rfl⟩ := eq_blk y
  rw [emb2, G_apply, pay4_apply]
  refine congrArg (fun z : EReal => ((0.5 : ℝ) : EReal) * z) ((scr m c f n t.val t.isLt).trans ?_)
  rw [h2]
  exact blkSums_all 1024 4 rfl _

variable (ρ : Dev nD → PrngReg)

/-- THE CALL: its result is the derivative of the reference's lines, and the arguments end unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 2 (G m c) (fun t hf => flushed_eq m c t hf)
      (fun i => (Value.covered_iff2 i).2 (by
        have h0 : (i 0).val < 8 := (i 0).isLt; have h1 : (i 1).val < 704 := (i 1).isLt; have h2 : (i 2).val < 2048 := (i 2).isLt; omega))), (h c).2⟩)
    (Value.run_blocks m ρ)

end Cert.Dwd

end
-- ==== Proof.DwdClaims.lean ====
/-
  The claims about the backward call for the down projection's weight.
-/
module

public import proofs.«01_k».proof.Proof.Dwd

@[expose] public section

set_option maxRecDepth 16384

noncomputable section

namespace Cert.Dwd

open Idealize.ShloMosaic Idealize.ShloMosaic.TcCoe Idealize.SL.Sem

/-- The reference runs through, leaves its arguments and holds no semaphore. -/
theorem frame_ref : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- From the same arguments the call and the reference end with the same result. -/
theorem algebraic : Cert.algebraic_Kernel3Ideal_Reference3Ideal :=
  fun m ρ m' ρ' _ hag => ⟨G m, run m ρ,
    (θ_run _ _ _).mono (fun _ h c => by
      obtain ⟨e0, e1, e2, e3, e4⟩ := hag c
      refine ⟨?_, (h c).2⟩
      rw [(h c).1, Cert.Reference3Ideal.Read.val_main_v12_eq, e0, e1, e2, e4])
      (Cert.Reference3Ideal.Value.run (F := Ideal) m' ρ')⟩

end Cert.Dwd

end
-- ==== Proof.Dwg.lean ====
/-
  The feed-forward layer's backward call for the gate's weight, or the up projection's, over the reals: the array
  that the call returns is the derivative of `h · w` in `w`, a device's columns to a slice, transposed.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Reals
public import proofs.«01_k».proof.Proof.Sums

@[expose] public section

set_option maxRecDepth 16384

noncomputable section

namespace Cert.Dwg

open Idealize.ShloMosaic Idealize.ShloMosaic.TcCoe Idealize.SL.Sem Cert.Reals Cert.Sums
open Idealize.ShloMosaic.ValueIdx
open Cert.Kernel4Ideal Cert.Kernel4Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the cases leave -/

section Cases

variable {F : FTy → Type} [FloatOps F] (m : (ℓ : Loc nD τ sig) → Buf (Elt F) ℓ)

/-- A run's first point leaves the block product in the scratch. -/
theorem scr_A (c : Dev nD) (t : Fin cfg0.N) (h0 : t.val % 4 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz3 _ _).trans ((hs0_0 t).read_unread _)))
    ((View.ld_unit_zero hz2 _ _).trans ((hs0_1 t).read_unread _))

/-- A later point adds the block product to what the point before left. -/
theorem scr_BC (c : Dev nD) (t : Fin cfg0.N) (h0 : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    unfold sout0_C_0
    dsimp only
    rw [View.read_writes_eq_canon _ _ _ (fun y => scover0_C_0 c _ _ _ _ _ _ _ _ _ _ _ _ _ _ _ y)]
    unfold kernelRun0_C
    dsimp only
    sl_unfold_words
    rw [View.canon_unit_zero hz2]
    simp only [View.readAt_eq_ld]
    exact congr (congr (congrArg k0_pay3 ((View.ld_unit_zero hz3 _ _).trans ((hs0_0 t).read_unread _)))
      ((View.ld_unit_zero hz2 _ _).trans ((hs0_1 t).read_unread _)))
      ((View.ld_unit_zero hz2 _ _).trans ((Memref.isWhole_whole cc0_scratch0).read_unread _))
  · rw [outsAt0_B m c t h0 (by omega) h2]
    unfold sout0_B_0
    dsimp only
    rw [View.read_writes_eq_canon _ _ _ (fun y => scover0_B_0 c _ _ _ _ _ _ _ _ _ _ _ _ _ _ _ y)]
    unfold kernelRun0_B
    dsimp only
    sl_unfold_words
    rw [View.canon_unit_zero hz2]
    simp only [View.readAt_eq_ld]
    exact congr (congr (congrArg k0_pay3 ((View.ld_unit_zero hz3 _ _).trans ((hs0_0 t).read_unread _)))
      ((View.ld_unit_zero hz2 _ _).trans ((hs0_1 t).read_unread _)))
      ((View.ld_unit_zero hz2 _ _).trans ((Memref.isWhole_whole cc0_scratch0).read_unread _))

/-- A run's last point writes back what its scratch holds then. -/
theorem out_C (c : Dev nD) (t : Fin cfg0.N) (h2 : t.val % 4 = 3) :
    (dats m 0 c).flushed 2 t = k0_pay4 (outsAt0 m c t.val t.isLt).2 := by
  rw [Value.flushed2_C m c t (by omega) (by omega) h2, scr_BC m c t (by omega)]
  show out0_C_2 (F := F) _ _ _ _ _ _ _ _ _ _ _ _ _ _ _ _ = _
  unfold out0_C_2
  rw [View.read_writes_eq_canon _ _ _ (fun y => cover0_C_2 c _ _ _ _ _ _ _ _ _ _ _ _ _ _ _ y)]
  unfold kernelRun0_C
  dsimp only
  sl_unfold_words
  rw [View.canon_unit_zero hz3]
  simp only [View.readAt_eq_ld]
  rw [View.readCov_unit_zero _ hz2]
  exact congrArg k0_pay4 (congr (congr (congrArg k0_pay3 ((View.ld_unit_zero hz3 _ _).trans ((hs0_0 t).read_unread _)))
      ((View.ld_unit_zero hz2 _ _).trans ((hs0_1 t).read_unread _)))
      ((View.ld_unit_zero hz2 _ _).trans ((Memref.isWhole_whole cc0_scratch0).read_unread _)))

end Cases

/-! ## The payloads over the reals -/

abbrev D : DotDims S1024x704 S1024x1024 S704x1024 := dot_S1024x704_S1024x1024_S704x1024_0_0_1_1_n_n

/-- The block product: rows are summed over. -/
theorem pay1_apply (P0 : FVec Ideal S1x1024x704 .bf16) (P1 : FVec Ideal S1024x1024 .bf16) (f : Fin 704) (n : Fin 1024) :
    k0_pay1 (F := Ideal) P0 P1 (ix2 f n) = ∑ k : Fin 1024, P0 (ix3 0 k f) * P1 (ix2 k n) := by
  have hs : ∀ k : Fin 1024, shapeCast S1024x704 P0 shapeCasts_S1x1024x704_S1024x704 (ix2 k f) = P0 (ix3 0 k f) := fun k =>
    shapeCast_apply P0 shapeCasts_S1x1024x704_S1024x704 (ix2 k f) (ix3 0 k f) (by
      rw [Shape.rowMajor_val_two, Shape.rowMajor_val_three]; simp [ix2, ix3])
  unfold k0_pay1
  show Ideal.ofBits .f32 0x00000000#32 + ∑ k : D.contr.Idx,
      shapeCast S1024x704 P0 shapeCasts_S1x1024x704_S1024x704 (D.lhsIdx (ix2 f n) k) * shapeCast S1024x1024 P1 shapeCasts_S1024x1024_S1024x1024 (D.rhsIdx (ix2 f n) k) = _
  rw [ofBits_zero, EReal.coe_zero, zero_add]
  rw [← Equiv.sum_comp (contrEquiv1 D 1024 rfl rfl).symm]
  refine Finset.sum_congr rfl fun k _ => ?_
  have hk := contrEquiv1_symm_val D 1024 rfl rfl k
  have el : D.lhsIdx (ix2 f n) ((contrEquiv1 D 1024 rfl rfl).symm k) = ix2 k f := funext fun a => Fin.ext (by
    match a with
    | ⟨0, _⟩ => exact (D.lhsIdx_val_of_single rfl _ _).trans hk
    | ⟨1, _⟩ => rfl)
  have er : D.rhsIdx (ix2 f n) ((contrEquiv1 D 1024 rfl rfl).symm k) = ix2 k n := funext fun a => Fin.ext (by
    match a with
    | ⟨0, _⟩ => exact (D.rhsIdx_val_of_single rfl _ _).trans hk
    | ⟨1, _⟩ => rfl)
  rw [el, er, hs]
  exact congrArg (fun z : EReal => (show EReal from P0 (ix3 0 k f)) * z) (shapeCast_apply P1 shapeCasts_S1024x1024_S1024x1024 (ix2 k n) (ix2 k n) rfl)

theorem pay2_apply (P0 : FVec Ideal S1x1024x704 .bf16) (P1 : FVec Ideal S1024x1024 .bf16) (f : Fin 704) (n : Fin 1024) :
    k0_pay2 (F := Ideal) P0 P1 (ix2 f n) = ∑ k : Fin 1024, P0 (ix3 0 k f) * P1 (ix2 k n) := by
  rw [← pay1_apply]
  unfold k0_pay2
  exact shapeCast_apply _ shapeCasts_S704x1024_S704x1024 (ix2 f n) (ix2 f n) rfl

theorem pay3_apply (P0 : FVec Ideal S1x1024x704 .bf16) (P1 : FVec Ideal S1024x1024 .bf16) (X : FVec Ideal S704x1024 .f32) (f : Fin 704) (n : Fin 1024) :
    k0_pay3 (F := Ideal) P0 P1 X (ix2 f n) = (show EReal from X (ix2 f n)) + ∑ k : Fin 1024, P0 (ix3 0 k f) * P1 (ix2 k n) := by
  rw [← pay1_apply]
  unfold k0_pay3
  exact shapeCast_apply _ shapeCasts_S704x1024_S704x1024 (ix2 f n) (ix2 f n) rfl

theorem pay4_apply (X : FVec Ideal S704x1024 .f32) (f : Fin 704) (n : Fin 1024) :
    k0_pay4 (F := Ideal) X (ix3 0 f n) = X (ix2 f n) := by
  unfold k0_pay4
  exact shapeCast_apply _ shapeCasts_S704x1024_S1x704x1024 (ix3 0 f n) (ix2 f n) (by
    rw [Shape.rowMajor_val_two, Shape.rowMajor_val_three]; simp [ix2, ix3])

/-! ## The call's blocks, in the arguments -/

variable (m : (ℓ : Loc nD τ sig) → Buf (Elt Ideal) ℓ)

/-- The cotangent of the product. -/
abbrev H (c : Dev nD) : FVec Ideal S4096x5632 .f32 := m ((c : Thread nD τ).loc main_arg2)

/-- The layer's input. -/
abbrev X (c : Dev nD) : FVec Ideal S4096x2048 .f32 := m ((c : Thread nD τ).loc main_arg0)

/-- The call's array of cotangents. -/
theorem V_h (c : Dev nD) : (V m c main_v2 : FVec Ideal S8x4096x704 .bf16)
    = truncf (F := Ideal) .bf16 (transpose S8x4096x704 [1, 0, 2] (shapeCast S4096x8x704 (H m c) shapeCasts_S4096x5632_S4096x8x704)
        transposes_S4096x8x704_S8x4096x704_1_0_2) bitsLt_bf16_f32 := by
  simp only [V, hostOps0]
  after_results_simp <;> rfl

/-- The call's array of inputs. -/
theorem V_x (c : Dev nD) : (V m c main_v3 : FVec Ideal S4096x2048 .bf16) = truncf (F := Ideal) .bf16 (X m c) bitsLt_bf16_f32 := by
  simp only [V, hostOps0]
  after_results_simp <;> rfl

theorem V_x_apply (c : Dev nD) (i : S4096x2048.Idx) : (V m c main_v3 : FVec Ideal S4096x2048 .bf16) i = X m c i := by
  rw [V_x]; rfl

/-- Column `f` of device `j`'s slice, as a column of the whole product. -/
def col (j : Fin 8) (f : Fin 704) : Fin 5632 := ⟨j.val * 704 + f.val, by omega⟩

theorem V_h_apply (c : Dev nD) (j : Fin 8) (r : Fin 4096) (f : Fin 704) :
    (V m c main_v2 : FVec Ideal S8x4096x704 .bf16) (ix3 j r f) = H m c (ix2 r (col j f)) := by
  rw [V_h]
  show transpose S8x4096x704 [1, 0, 2] (shapeCast S4096x8x704 (H m c) shapeCasts_S4096x5632_S4096x8x704)
    transposes_S4096x8x704_S8x4096x704_1_0_2 (ix3 j r f) = _
  refine (transpose_apply [1, 0, 2] _ transposes_S4096x8x704_S8x4096x704_1_0_2 (ix3 j r f) (ix3 r j f) (fun b => match b with
    | ⟨0, _⟩ => rfl
    | ⟨1, _⟩ => rfl
    | ⟨2, _⟩ => rfl)).trans ?_
  refine shapeCast_apply _ shapeCasts_S4096x5632_S4096x8x704 (ix3 r j f) (ix2 r (col j f)) ?_
  rw [Shape.rowMajor_val_two, Shape.rowMajor_val_three]
  show r.val * 5632 + (j.val * 704 + f.val) = (r.val * 8 + j.val) * 704 + f.val
  omega

/-- The index maps, in the point's number. -/
theorem idx_facts : ∀ t : Fin cfg0.N, win0_0.index t (0 : Fin 3) = t.val / 8 ∧ win0_0.index t (1 : Fin 3) = t.val % 4 ∧ win0_0.index t (2 : Fin 3) = 0
    ∧ win0_1.index t (0 : Fin 2) = t.val % 4 ∧ win0_1.index t (1 : Fin 2) = t.val / 4 % 2
    ∧ win0_2.index t (0 : Fin 3) = t.val / 8 ∧ win0_2.index t (1 : Fin 3) = 0 ∧ win0_2.index t (2 : Fin 3) = t.val / 4 % 2 :=
  (by decide +kernel : ∀ t : Fin grid0.N, _)

theorem lt_N (t : Fin cfg0.N) : t.val < 64 := lt_of_lt_of_eq t.isLt N_0

/-- The slice that point `t` works on. -/
def sl (t : ℕ) : Fin 8 := ⟨t / 8 % 8, by omega⟩

/-- Column `n` of point `t`'s block, as a column of the result. -/
def out (t : ℕ) (n : Fin 1024) : Fin 2048 := ⟨t / 4 % 2 * 1024 + n.val, by omega⟩

theorem blk0 (c : Dev nD) (t : Fin cfg0.N) (k : Fin 1024) (f : Fin 704) :
    (iblk m c 0 t : FVec Ideal S1x1024x704 .bf16) (ix3 0 k f) = H m c (ix2 (place 4096 1024 (t.val % 4) k.val) (col (sl t.val) f)) := by
  rw [← V_h_apply m c]
  obtain ⟨e0, e1, e2, -⟩ := idx_facts t
  have hN := lt_N t
  refine congrArg (V m c main_v2 : FVec Ideal S8x4096x704 .bf16) (funext fun a => Fin.ext ?_)
  match a with
  | ⟨0, _⟩ => show win0_0.index t 0 * 1 + 1 * 0 = t.val / 8 % 8; omega
  | ⟨1, _⟩ => show win0_0.index t 1 * 1024 + 1 * k.val = (1024 * (t.val % 4) + k.val) % 4096; omega
  | ⟨2, _⟩ => show win0_0.index t 2 * 704 + 1 * f.val = f.val; omega

theorem blk1 (c : Dev nD) (t : Fin cfg0.N) (k n : Fin 1024) :
    (iblk m c 1 t : FVec Ideal S1024x1024 .bf16) (ix2 k n) = X m c (ix2 (place 4096 1024 (t.val % 4) k.val) (out t.val n)) := by
  rw [← V_x_apply m c]
  obtain ⟨-, -, -, e0, e1, -⟩ := idx_facts t
  have hN := lt_N t
  refine congrArg (V m c main_v3 : FVec Ideal S4096x2048 .bf16) (funext fun a => Fin.ext ?_)
  match a with
  | ⟨0, _⟩ => show win0_1.index t 0 * 1024 + 1 * k.val = (1024 * (t.val % 4) + k.val) % 4096; omega
  | ⟨1, _⟩ => show win0_1.index t 1 * 1024 + 1 * n.val = t.val / 4 % 2 * 1024 + n.val; omega

/-- Row `r`'s share of entry `(i, n)` of the product. -/
def term (c : Dev nD) (i : Fin 5632) (n : Fin 2048) (r : Fin 4096) : EReal := H m c (ix2 r i) * X m c (ix2 r n)

/-- Point `t`'s block product is the sum over its rows. -/
theorem blk_sum (c : Dev nD) (t : Fin cfg0.N) (f : Fin 704) (n : Fin 1024) :
    ∑ k : Fin 1024, (show EReal from (iblk m c 0 t : FVec Ideal S1x1024x704 .bf16) (ix3 0 k f)) * (show EReal from (iblk m c 1 t : FVec Ideal S1024x1024 .bf16) (ix2 k n))
      = blkSum 1024 (term m c (col (sl t.val) f) (out t.val n)) (t.val % 4) := by
  unfold blkSum term
  exact Finset.sum_congr rfl fun k _ => by rw [blk0, blk1]

/-! ## The accumulation -/

/-- After point `t` the scratch holds the sums over the run's rows so far. -/
theorem scr (c : Dev nD) (f : Fin 704) (n : Fin 1024) : ∀ (t : ℕ) (ht : t < cfg0.N),
    (show EReal from ((outsAt0 m c t ht).2 : FVec Ideal S704x1024 .f32) (ix2 f n)) = blkSums 1024 (term m c (col (sl t) f) (out t n)) (t % 4 + 1) := by
  intro t
  induction t with
  | zero =>
    intro ht
    rw [scr_A m c ⟨0, ht⟩ rfl, pay2_apply]
    refine (blk_sum m c ⟨0, ht⟩ f n).trans ?_
    rw [blkSums_one]; rfl
  | succ t ih =>
    intro ht
    by_cases h0 : (t + 1) % 4 = 0
    · rw [scr_A m c ⟨t + 1, ht⟩ h0, pay2_apply]
      refine (blk_sum m c ⟨t + 1, ht⟩ f n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ f n)).trans ?_
      have e1 : sl (t + 1) = sl t := Fin.ext (by show (t + 1) / 8 % 8 = t / 8 % 8; omega)
      have e2 : out (t + 1) n = out t n := Fin.ext (by show (t + 1) / 4 % 2 * 1024 + n.val = t / 4 % 2 * 1024 + n.val; omega)
      show _ + blkSum 1024 (term m c (col (sl (t + 1)) f) (out (t + 1) n)) ((t + 1) % 4) = _
      rw [e1, e2, show (t + 1) % 4 = t % 4 + 1 by omega, ← blkSums_succ]

/-! ## The reference -/

/-- The result, as the reference computes it. -/
abbrev G (c : Dev nD) : FVec Ideal S8x704x2048 .bf16 := Cert.Reference4Ideal.Read.val_main_v5 (F := Ideal)
  (m ((c : Thread nD τ).loc main_arg0)) (m ((c : Thread nD τ).loc main_arg2))

theorem G_apply (c : Dev nD) (j : Fin 8) (f : Fin 704) (n : Fin 2048) :
    G m c (ix3 j f n) = ∑ r : Fin 4096, term m c (col j f) n r := by
  unfold G
  rw [Cert.Reference4Ideal.Read.val_main_v5_apply]
  show Cert.Reference4Ideal.Read.val_main_v4 (F := Ideal) _ _ (ix3 j f n) = _
  rw [Cert.Reference4Ideal.Read.val_main_v4_apply, Cert.Reference4Ideal.Read.val_main_v3_apply, Cert.Reference4Ideal.Read.val_main_v2_apply,
    Cert.Reference4Ideal.Read.val_main_v1_apply]
  refine Finset.sum_congr rfl fun r _ => ?_
  have el : Cert.Reference4Ideal.Read.lidx_main_v1 (Cert.Reference4Ideal.Read.idx_main_v2 (Cert.Reference4Ideal.Read.idx_main_v3 (Cert.Reference4Ideal.Read.idx_main_v4 (ix3 j f n)))) r = ix2 r (col j f) :=
    funext fun a => Fin.ext (by
      match a with
      | ⟨0, _⟩ => rfl
      | ⟨1, _⟩ => show ((j.val * 704 + f.val) * 2048 + n.val) / 2048 = j.val * 704 + f.val; omega)
  have er : Cert.Reference4Ideal.Read.ridx_main_v1 (Cert.Reference4Ideal.Read.idx_main_v2 (Cert.Reference4Ideal.Read.idx_main_v3 (Cert.Reference4Ideal.Read.idx_main_v4 (ix3 j f n)))) r = ix2 r n :=
    funext fun a => Fin.ext (by
      match a with
      | ⟨0, _⟩ => rfl
      | ⟨1, _⟩ => show ((j.val * 704 + f.val) * 2048 + n.val) % 2048 = n.val; omega)
  rw [el, er]
  rfl

/-! ## The whole array -/

/-- An index of a block is `(0, f, n)`. -/
theorem eq_blk (y : S1x704x1024.Idx) : ∃ (f : Fin 704) (n : Fin 1024), y = ix3 0 f n :=
  ⟨y 1, y 2, funext fun a => match a with
    | ⟨0, _⟩ => Fin.ext (by have : (y 0).val < 1 := (y 0).isLt; show (y 0).val = 0; omega)
    | ⟨1, _⟩ => rfl
    | ⟨2, _⟩ => rfl⟩

theorem emb2 (t : Fin cfg0.N) (f : Fin 704) (n : Fin 1024) (G : FVec Ideal S8x704x2048 .bf16) :
    ((cfg0.win 2).blk t).view.read (Elt Ideal) G (ix3 0 f n) = G (ix3 (sl t.val) f (out t.val n)) := by
  obtain ⟨-, -, -, -, -, e0, e1, e2⟩ := idx_facts t
  have hN := lt_N t
  refine congrArg G (funext fun a => Fin.ext ?_)
  match a with
  | ⟨0, _⟩ => show win0_2.index t 0 * 1 + 1 * 0 = t.val / 8 % 8; omega
  | ⟨1, _⟩ => show win0_2.index t 1 * 704 + 1 * f.val = f.val; omega
  | ⟨2, _⟩ => show win0_2.index t 2 * 1024 + 1 * n.val = t.val / 4 % 2 * 1024 + n.val; omega

/-- What a run's last point writes back is its block of the reference's result. -/
theorem flushed_eq (c : Dev nD) (t : Fin cfg0.N) (hf : (cfg0.win 2).flush t = true) :
    (dats m 0 c).flushed 2 t = ((cfg0.win 2).blk t).view.read (Elt Ideal) (G m c) := by
  have h2 : t.val % 4 = 3 := (flush0_2 t).mp hf
  rw [out_C m c t h2]
  funext y
  obtain ⟨f, n, rfl⟩ := eq_blk y
  rw [emb2, G_apply, pay4_apply]
  refine (scr m c f n t.val t.isLt).trans ?_
  rw [h2]
  exact blkSums_all 1024 4 rfl _

variable (ρ : Dev nD → PrngReg)

/-- THE CALL: its result is the derivative of the reference's lines, and the arguments end unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 2 (G m c) (fun t hf => flushed_eq m c t hf)
      (fun i => (Value.covered_iff2 i).2 (by
        have h0 : (i 0).val < 8 := (i 0).isLt; have h1 : (i 1).val < 704 := (i 1).isLt; have h2 : (i 2).val < 2048 := (i 2).isLt; omega))), (h c).2⟩)
    (Value.run_blocks m ρ)

end Cert.Dwg

end
-- ==== Proof.DwgClaims.lean ====
/-
  The claims about the backward call for the gate's weight.
-/
module

public import proofs.«01_k».proof.Proof.Dwg

@[expose] public section

set_option maxRecDepth 16384

noncomputable section

namespace Cert.Dwg

open Idealize.ShloMosaic Idealize.ShloMosaic.TcCoe Idealize.SL.Sem

/-- The reference runs through, leaves its arguments and holds no semaphore. -/
theorem frame_ref : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- From the same arguments the call and the reference end with the same result. -/
theorem algebraic : Cert.algebraic_Kernel4Ideal_Reference4Ideal :=
  fun m ρ m' ρ' _ hag => ⟨G m, run m ρ,
    (θ_run _ _ _).mono (fun _ h c => by
      obtain ⟨e0, e1, e2⟩ := hag c
      refine ⟨?_, (h c).2⟩
      rw [(h c).1, Cert.Reference4Ideal.Read.val_main_v5_eq, e0, e2])
      (Cert.Reference4Ideal.Value.run (F := Ideal) m' ρ')⟩

end Cert.Dwg

end
-- ==== Proof.DilRunIdeal.lean ====
/-
  The dilated branch's backward body run as a whole, in its ideal form: from whole staging memrefs, the inputs' at their blocks, the body
  leaves the inputs as they were and each output's buffer with a list of stored pieces.  From this the program's
  frame: every argument unchanged, every semaphore at zero.
-/
module

public import proofs.«01_k».proof.Defs
public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Launch
public import Idealize.ShloMosaic.Lib.Claim

@[expose] public section

set_option maxRecDepth 16384

noncomputable section

namespace Cert.DilRunIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The staging memrefs at point `t`, each whole. -/

abbrev ms0_0 (t : Fin cfg0.N) : Memref sig .tc .vmem S256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .f32 := win0_9.stage (cfg0.slots t 9)
abbrev hs0_9 (t : Fin cfg0.N) : (ms0_9 t).IsWhole := hstage0_9 ((cfg0.slots t 9).cast nbuf0_9)

set_option maxHeartbeats 1000000 in
/-- The pieces (last first) that the body's stores leave in the buffers of `dq`, `dk` and `dv`, with the proof that the
    body, from the inputs at `x0` … `x6` and the outputs at anything, runs to the inputs as they were and the
    outputs with these pieces written. -/
def run (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole)
    (x0 x1 : Vec F S256x128 .bf16) (x2 x3 x4 x5 x6 : Vec F S256x128 .f32) :
    Σ' (L7 L8 : List (View.Piece (Elt F) S256x128 .f32)), { L9 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_dil16_bwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_dil16_bwd_eq_skeleton]; unfold cc0_dil16_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

/-- The pieces of `dq` cover its buffer. -/
theorem cover7 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole)
    (x0 x1 : Vec F S256x128 .bf16) (x2 x3 x4 x5 x6 : Vec F S256x128 .f32) (y : S256x128.Idx) :
    ∃ pc ∈ (run c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (run c i arg2 harg2 arg3 harg3 arg4 harg4 arg5 harg5 arg6 harg6 arg7 harg7 arg8 harg8 arg9 harg9 arg10 harg10 arg11 harg11 x0 x1 x2 x3 x4 x5 x6).1 S128x128.size (by sl_kernel_rfl) y

/-- What the body leaves in the buffer of `dq` at point `t`. -/
def out7 (c : Dev nD) (t : Fin cfg0.N) : Vec F S256x128 .f32 :=
  View.canon (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)).1

/-- The pieces of `dk` cover its buffer. -/
theorem cover8 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole)
    (x0 x1 : Vec F S256x128 .bf16) (x2 x3 x4 x5 x6 : Vec F S256x128 .f32) (y : S256x128.Idx) :
    ∃ pc ∈ (run c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledBy (run c i arg2 harg2 arg3 harg3 arg4 harg4 arg5 harg5 arg6 harg6 arg7 harg7 arg8 harg8 arg9 harg9 arg10 harg10 arg11 harg11 x0 x1 x2 x3 x4 x5 x6).2.1 S128x128.size (by sl_kernel_rfl) y

/-- What the body leaves in the buffer of `dk` at point `t`. -/
def out8 (c : Dev nD) (t : Fin cfg0.N) : Vec F S256x128 .f32 :=
  View.canon (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)).2.1

/-- The pieces of `dv` cover its buffer. -/
theorem cover9 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole)
    (x0 x1 : Vec F S256x128 .bf16) (x2 x3 x4 x5 x6 : Vec F S256x128 .f32) (y : S256x128.Idx) :
    ∃ pc ∈ (run c i arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledBy (run c i arg2 harg2 arg3 harg3 arg4 harg4 arg5 harg5 arg6 harg6 arg7 harg7 arg8 harg8 arg9 harg9 arg10 harg10 arg11 harg11 x0 x1 x2 x3 x4 x5 x6).2.2.1 S128x128.size (by sl_kernel_rfl) y

/-- What the body leaves in the buffer of `dv` at point `t`. -/
def out9 (c : Dev nD) (t : Fin cfg0.N) : Vec F S256x128 .f32 :=
  View.canon (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)).2.2.1

/-- The proof data of the pipeline on core `c`: the arrays as the region finds them; after the body at point `t` each
    input's buffer at its block and each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks, so the run applies, and each output's buffer reads
    back as its pieces. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%g7, H7⟩, ⟨%g8, H8⟩, ⟨%g9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro; exact View.read_writes_eq_canon _ _ _ (fun y => cover7 c _ _ _ _ _ _ _ _ _ _ _ _ _ _ _ _ _ _ _ _ _ _ _ _ _ _ _ _ y)
  isplitl [H8]
  · unfold owns; iexists _; isplitr; swap; · iexact H8
    ipureintro; exact View.read_writes_eq_canon _ _ _ (fun y => cover8 c _ _ _ _ _ _ _ _ _ _ _ _ _ _ _ _ _ _ _ _ _ _ _ _ _ _ _ _ y)
  unfold owns; iexists _; isplitr; swap; · iexact H9
  ipureintro; exact View.read_writes_eq_canon _ _ _ (fun y => cover9 c _ _ _ _ _ _ _ _ _ _ _ _ _ _ _ _ _ _ _ _ _ _ _ _ _ _ _ _ y)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl ?_ fun _ => ?_
  · exact .rfl
  · exact .rfl

set_option backward.isDefEq.respectTransparency.types false in
set_option maxHeartbeats 800000 in
/-- The launch: every array of the pipeline ends as the proof data says, every other buffer as the region found it, and
    every semaphore at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.DilRunIdeal
-- ==== Proof.DilReal.lean ====
/-
  The gradient of banded attention over the real numbers, for one residue and one head: 256 rows of queries, keys and
  values of width 128, the band `n ≤ m ≤ n + 128`, a cotangent `DO` of the result and one `DL` (summed over its lanes)
  of the log of the softmax's sum.  `dS_eq` says that the derivative as the softmax's chain rule gives it is
  `P * (DP + dl - sum of DO * O)`, the form with the saved result `O`.
-/
module

public import proofs.«01_k».proof.Proof.Reals

@[expose] public section

noncomputable section

namespace Cert.DilReal

/-- The scale: `128 ** -0.5` as the f32 number that both programs hold. -/
def s : ℝ := 11863283 / 2 ^ 27

theorem ofBits_s : Idealize.ShloMosaic.Ideal.ofBits .f32 0x3DB504F3#32 = (s : EReal) := by
  simp [Idealize.ShloMosaic.Ideal.ofBits, Idealize.ShloMosaic.Ideal.ieee, s, -EReal.coe_mul]; norm_num

/-- Column `n` is in the band of row `m`. -/
abbrev band (m n : Fin 256) : Prop := n.val ≤ m.val ∧ m.val ≤ n.val + 128

/-- An array of 256 rows of width 128. -/
abbrev Rows := Fin 256 → Fin 128 → ℝ

/-- The scaled score of row `m` against column `n`. -/
def sc (Q K : Rows) (m n : Fin 256) : ℝ := (∑ d, Q m d * K n d) * s

/-- The exponential of a score less the shift `M` of its row, zero out of the band. -/
def E (Q K : Rows) (M : Fin 256 → ℝ) (m n : Fin 256) : ℝ := if band m n then Real.exp (sc Q K m n - M m) else 0

/-- The sum of a row's exponentials. -/
def L (Q K : Rows) (M : Fin 256 → ℝ) (m : Fin 256) : ℝ := ∑ n, E Q K M m n

/-- The log of the sum of the exponentials of a row's scores. -/
def lse (Q K : Rows) (M : Fin 256 → ℝ) (m : Fin 256) : ℝ := M m + Real.log (L Q K M m)

/-- The softmax's weights. -/
def P (Q K : Rows) (M : Fin 256 → ℝ) (m n : Fin 256) : ℝ := E Q K M m n / L Q K M m

/-- The attention's result. -/
def O (Q K V : Rows) (M : Fin 256 → ℝ) (m : Fin 256) (d : Fin 128) : ℝ := ∑ n, V n d * P Q K M m n

/-- The cotangent of the weights. -/
def DP (V DO : Rows) (m n : Fin 256) : ℝ := ∑ d, DO m d * V n d

/-- The cotangent of a row's log-sum. -/
def dl (DL : Rows) (m : Fin 256) : ℝ := ∑ c, DL m c

/-- What is added to the weights' cotangent in row `m`. -/
def shift (Q K V DO DL : Rows) (M : Fin 256 → ℝ) (m : Fin 256) : ℝ := dl DL m - ∑ d, DO m d * O Q K V M m d

/-- The cotangent of the scores. -/
def dS (Q K V DO DL : Rows) (M : Fin 256 → ℝ) (m n : Fin 256) : ℝ :=
  P Q K M m n * (DP V DO m n + shift Q K V DO DL M m)

variable (Q K V DO DL : Rows) (M : Fin 256 → ℝ)

theorem E_nonneg (m n : Fin 256) : 0 ≤ E Q K M m n := by
  unfold E; split_ifs
  · exact (Real.exp_pos _).le
  · exact le_rfl

theorem L_pos (m : Fin 256) : 0 < L Q K M m := by
  refine lt_of_lt_of_le ?_ (Finset.single_le_sum (fun n _ => E_nonneg Q K M m n) (Finset.mem_univ m))
  have h : band m m := ⟨le_rfl, Nat.le_add_right _ _⟩
  unfold E; rw [if_pos h]; exact Real.exp_pos _

/-- The weights by the log-sum: in the band `exp (score - lse)`, else zero. -/
theorem P_eq (m n : Fin 256) : P Q K M m n = if band m n then Real.exp (sc Q K m n - lse Q K M m) else 0 := by
  have hL := L_pos Q K M m
  unfold P E
  split_ifs with h
  · rw [lse, ← sub_sub, Real.exp_sub _ (Real.log _), Real.exp_log hL]
  · exact zero_div _

theorem P_of_not (m n : Fin 256) (h : ¬ band m n) : P Q K M m n = 0 := by rw [P_eq, if_neg h]

theorem dS_of_not (m n : Fin 256) (h : ¬ band m n) : dS Q K V DO DL M m n = 0 := by
  rw [dS, P_of_not Q K M m n h, zero_mul]

/-- The sum of `DO * O` over a row is that of `P * DP`. -/
theorem sum_DO_O (m : Fin 256) : ∑ d, DO m d * O Q K V M m d = ∑ n, DP V DO m n * P Q K M m n := by
  simp only [O, DP, Finset.mul_sum, Finset.sum_mul]
  rw [Finset.sum_comm]
  exact Finset.sum_congr rfl fun n _ => Finset.sum_congr rfl fun d _ => by ring

/-- The derivative by the chain rule through the sum and the quotient. -/
def R (m n : Fin 256) : ℝ :=
  (DP V DO m n / L Q K M m + (dl DL m / L Q K M m + -∑ n', DP V DO m n' * (1 / (L Q K M m * L Q K M m)) * E Q K M m n'))
    * E Q K M m n

theorem R_eq (m n : Fin 256) : R Q K V DO DL M m n = dS Q K V DO DL M m n := by
  have hL := (L_pos Q K M m).ne'
  have h : ∑ n', DP V DO m n' * (1 / (L Q K M m * L Q K M m)) * E Q K M m n'
      = (∑ n', DP V DO m n' * P Q K M m n') / L Q K M m := by
    rw [Finset.sum_div]
    exact Finset.sum_congr rfl fun n' _ => by unfold P; field_simp
  unfold R dS shift
  rw [sum_DO_O, h]
  unfold P
  field_simp
  ring

theorem sum_P (m : Fin 256) : ∑ n, P Q K M m n = 1 := by
  simp only [P, ← Finset.sum_div]
  exact div_self (L_pos Q K M m).ne'

/-- The derivatives of a row sum to the cotangent of its log-sum: nothing is left for the row's maximum. -/
theorem sum_R (m : Fin 256) : ∑ n, R Q K V DO DL M m n = dl DL m := by
  simp only [R_eq, dS]
  have : ∀ n, P Q K M m n * (DP V DO m n + shift Q K V DO DL M m)
      = DP V DO m n * P Q K M m n + P Q K M m n * shift Q K V DO DL M m := fun n => by ring
  simp only [this]
  rw [Finset.sum_add_distrib, ← Finset.sum_mul, sum_P, shift, sum_DO_O]
  ring

/-! ## The two blocks of 128 rows -/

/-- Row `i` of block `b`. -/
def blk (b : Fin 2) (i : Fin 128) : Fin 256 := ⟨b.val * 128 + i.val, by omega⟩

@[simp] theorem blk_val (b : Fin 2) (i : Fin 128) : (blk b i).val = b.val * 128 + i.val := rfl

/-- A sum over the 256 rows is the sum over the two blocks. -/
theorem sum_blk (f : Fin 256 → ℝ) : ∑ n, f n = (∑ j, f (blk 0 j)) + ∑ j, f (blk 1 j) := by
  rw [show (∑ n : Fin 256, f n) = ∑ n : Fin (128 + 128), f n from rfl, Fin.sum_univ_add]
  congr 1 <;> exact Finset.sum_congr rfl fun j _ => congrArg f (Fin.ext (by simp [blk]))

/-- Every row is one of a block. -/
theorem exists_blk (m : Fin 256) : ∃ b i, m = blk b i := by
  refine ⟨⟨m.val / 128, by omega⟩, ⟨m.val % 128, by omega⟩, Fin.ext ?_⟩
  simp only [blk_val]; omega

theorem band_same (b : Fin 2) (i j : Fin 128) : band (blk b i) (blk b j) ↔ j.val ≤ i.val := by
  simp only [band, blk_val]; omega

theorem band_prev (i j : Fin 128) : band (blk 1 i) (blk 0 j) ↔ i.val ≤ j.val := by
  simp only [band, blk_val]; simp; omega

theorem not_band_next (i j : Fin 128) : ¬ band (blk 0 i) (blk 1 j) := by
  simp only [band, blk_val]; simp; omega

/-! ## The three gradients -/

/-- The gradient in the queries. -/
def dq (m : Fin 256) (d : Fin 128) : ℝ := ∑ n, dS Q K V DO DL M m n * s * K n d
/-- The gradient in the keys. -/
def dk (n : Fin 256) (d : Fin 128) : ℝ := ∑ m, dS Q K V DO DL M m n * s * Q m d
/-- The gradient in the values. -/
def dv (n : Fin 256) (d : Fin 128) : ℝ := ∑ m, DO m d * P Q K M m n

end Cert.DilReal
-- ==== Proof.DilPay.lean ====
/-
  The values that the dilated attention's gradient computes on blocks of 128 rows, read at real inputs: each payload
  of matrices of reals is the matrix of a real formula.
-/
module

public import proofs.«01_k».proof.Defs
public import proofs.«01_k».proof.Proof.Gen.KernelIdeal.Skeleton
public import proofs.«01_k».proof.Proof.DilReal
public import Idealize.ShloMosaic.Lib.ValueIdx
public import Idealize.ShloMosaic.Lib.Pipeline.Value
public import Idealize.ShloMosaic.PureOps.Ideal.Laws
public import Idealize.ShloMosaic.Lib.Pointwise.Reduce

@[expose] public section

set_option maxRecDepth 16384

noncomputable section

namespace Cert.DilPay

open Idealize.ShloMosaic hiding ix1 ix2 ix3 ix4
open Idealize.ShloMosaic.TcCoe Idealize.SL.Sem Cert.Reals Cert.DilReal
open Idealize.ShloMosaic.ValueIdx
open Cert.KernelIdeal Cert.KernelIdeal.Gen

/-- A 128 by 128 matrix of reals. -/
abbrev Mat := Fin 128 → Fin 128 → ℝ

/-- The row and the column of an index. -/
def row (i : S128x128.Idx) : Fin 128 := i 0
def col (i : S128x128.Idx) : Fin 128 := i 1

/-- The matrix as a block of the kernel. -/
def cv {φ : FTy} (A : Mat) : FVec Ideal S128x128 φ := fun i => ((A (i 0) (i 1) : ℝ) : EReal)

/-- A column of reals as a block of the kernel. -/
def cc (l : Fin 128 → ℝ) : FVec Ideal S128x1 .f32 := fun i => ((l (i 0) : ℝ) : EReal)

abbrev cf (A : Mat) : FVec Ideal S128x128 .f32 := cv A
abbrev cb (A : Mat) : FVec Ideal S128x128 .bf16 := cv A

theorem cast_cv {φ : FTy} (A : Mat) : shapeCast S128x128 (cv A : FVec Ideal S128x128 φ) shapeCasts_S128x128_S128x128 = cv A :=
  funext fun i => shapeCast_apply _ _ i i rfl

abbrev DNT : DotDims S128x128 S128x128 S128x128 := dot_S128x128_S128x128_S128x128_1_1_0_0_n_n
abbrev DNN : DotDims S128x128 S128x128 S128x128 := dot_S128x128_S128x128_S128x128_1_0_0_1_n_n
abbrev DTN : DotDims S128x128 S128x128 S128x128 := dot_S128x128_S128x128_S128x128_0_0_1_1_n_n

theorem dotNT (A B : Mat) : matmul (F := Ideal) (φ₁ := .bf16) (φ₂ := .bf16) DNT none (cv A) (cv B) (constant S128x128 .f32 0x00000000#32)
    = cv fun i j => ∑ k, A i k * B j k := by
  funext i
  show Ideal.ofBits .f32 0x00000000#32 + ∑ k : DNT.contr.Idx, (cv A : FVec Ideal S128x128 .bf16) (DNT.lhsIdx i k) * (cv B : FVec Ideal S128x128 .bf16) (DNT.rhsIdx i k) = _
  rw [ofBits_zero, EReal.coe_zero, zero_add, ← Equiv.sum_comp (contrEquiv1 DNT 128 rfl rfl).symm]
  refine (Finset.sum_congr rfl fun k _ => ?_).trans (Reals.coe_sum _ fun k => A (i 0) k * B (i 1) k)
  have hk := contrEquiv1_symm_val DNT 128 rfl rfl k
  have el : DNT.lhsIdx i ((contrEquiv1 DNT 128 rfl rfl).symm k) = ix2 (i 0) k := funext fun a => Fin.ext (by
    match a with
    | ⟨0, _⟩ => rfl
    | ⟨1, _⟩ => exact (DNT.lhsIdx_val_of_single rfl _ _).trans hk)
  have er : DNT.rhsIdx i ((contrEquiv1 DNT 128 rfl rfl).symm k) = ix2 (i 1) k := funext fun a => Fin.ext (by
    match a with
    | ⟨0, _⟩ => rfl
    | ⟨1, _⟩ => exact (DNT.rhsIdx_val_of_single rfl _ _).trans hk)
  rw [el, er, EReal.coe_mul]; rfl

theorem dotNN (A B : Mat) : matmul (F := Ideal) (φ₁ := .bf16) (φ₂ := .bf16) DNN none (cv A) (cv B) (constant S128x128 .f32 0x00000000#32)
    = cv fun i j => ∑ k, A i k * B k j := by
  funext i
  show Ideal.ofBits .f32 0x00000000#32 + ∑ k : DNN.contr.Idx, (cv A : FVec Ideal S128x128 .bf16) (DNN.lhsIdx i k) * (cv B : FVec Ideal S128x128 .bf16) (DNN.rhsIdx i k) = _
  rw [ofBits_zero, EReal.coe_zero, zero_add, ← Equiv.sum_comp (contrEquiv1 DNN 128 rfl rfl).symm]
  refine (Finset.sum_congr rfl fun k _ => ?_).trans (Reals.coe_sum _ fun k => A (i 0) k * B k (i 1))
  have hk := contrEquiv1_symm_val DNN 128 rfl rfl k
  have el : DNN.lhsIdx i ((contrEquiv1 DNN 128 rfl rfl).symm k) = ix2 (i 0) k := funext fun a => Fin.ext (by
    match a with
    | ⟨0, _⟩ => rfl
    | ⟨1, _⟩ => exact (DNN.lhsIdx_val_of_single rfl _ _).trans hk)
  have er : DNN.rhsIdx i ((contrEquiv1 DNN 128 rfl rfl).symm k) = ix2 k (i 1) := funext fun a => Fin.ext (by
    match a with
    | ⟨0, _⟩ => exact (DNN.rhsIdx_val_of_single rfl _ _).trans hk
    | ⟨1, _⟩ => rfl)
  rw [el, er, EReal.coe_mul]; rfl

theorem dotTN (A B : Mat) : matmul (F := Ideal) (φ₁ := .bf16) (φ₂ := .bf16) DTN none (cv A) (cv B) (constant S128x128 .f32 0x00000000#32)
    = cv fun i j => ∑ k, A k i * B k j := by
  funext i
  show Ideal.ofBits .f32 0x00000000#32 + ∑ k : DTN.contr.Idx, (cv A : FVec Ideal S128x128 .bf16) (DTN.lhsIdx i k) * (cv B : FVec Ideal S128x128 .bf16) (DTN.rhsIdx i k) = _
  rw [ofBits_zero, EReal.coe_zero, zero_add, ← Equiv.sum_comp (contrEquiv1 DTN 128 rfl rfl).symm]
  refine (Finset.sum_congr rfl fun k _ => ?_).trans (Reals.coe_sum _ fun k => A k (i 0) * B k (i 1))
  have hk := contrEquiv1_symm_val DTN 128 rfl rfl k
  have el : DTN.lhsIdx i ((contrEquiv1 DTN 128 rfl rfl).symm k) = ix2 k (i 0) := funext fun a => Fin.ext (by
    match a with
    | ⟨0, _⟩ => exact (DTN.lhsIdx_val_of_single rfl _ _).trans hk
    | ⟨1, _⟩ => rfl)
  have er : DTN.rhsIdx i ((contrEquiv1 DTN 128 rfl rfl).symm k) = ix2 k (i 1) := funext fun a => Fin.ext (by
    match a with
    | ⟨0, _⟩ => exact (DTN.rhsIdx_val_of_single rfl _ _).trans hk
    | ⟨1, _⟩ => rfl)
  rw [el, er, EReal.coe_mul]; rfl

theorem mul_cv (A B : Mat) : mulf (F := Ideal) (cv A : FVec Ideal S128x128 .f32) (cv B) = cv fun i j => A i j * B i j :=
  funext fun _ => (EReal.coe_mul _ _).symm
theorem add_cv (A B : Mat) : addf (F := Ideal) (cv A : FVec Ideal S128x128 .f32) (cv B) = cv fun i j => A i j + B i j :=
  funext fun _ => (EReal.coe_add _ _).symm
theorem scale_cv (A : Mat) : mulf (F := Ideal) (cv A : FVec Ideal S128x128 .f32) (broadcast S128x128 (Scalar.ofBits .f32 0x3DB504F3#32))
    = cv fun i j => A i j * s :=
  funext fun i => by
    show ((A (i 0) (i 1) : ℝ) : EReal) * Ideal.ofBits .f32 0x3DB504F3#32 = _
    rw [ofBits_s, ← EReal.coe_mul]; rfl
theorem trunc_cv (A : Mat) : truncf (F := Ideal) .bf16 (cv A : FVec Ideal S128x128 .f32) bitsLt_bf16_f32 = cv A := rfl
theorem bcast_cc (l : Fin 128 → ℝ) : broadcastTo S128x128 (cc l) broadcasts_S128x1_S128x128 = (cv fun i _ => l i : FVec Ideal S128x128 .f32) :=
  funext fun i => broadcastTo_apply (cc l) broadcasts_S128x1_S128x128 i (ix2 (i 0) 0) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

/-- The sum of each row. -/
theorem rowsum (A : Mat) : shapeCast S128x1 (multiReduction (F := Ideal) .add [1] S128 (cv A : FVec Ideal S128x128 .f32) 0x00000000#32
    reduces_S128x128_S128 (.inl rfl) rfl) shapeCasts_S128_S128x1 = cc fun i => ∑ c, A i c := by
  funext i
  rw [shapeCast_apply _ shapeCasts_S128_S128x1 i (ix1 (i 0)) (by
    rw [Shape.rowMajor_val_one, Shape.rowMajor_val_two]
    have h1 : (i 1).val < 1 := (i 1).isLt
    show (i 0).val = (i 0).val * 1 + (i 1).val; omega)]
  refine (Ideal.reduceAdd_r2_a1 reduces_S128x128_S128 _ _).trans ?_
  exact Reals.coe_sum _ fun c => A (i 0) c

/-- The maximum over the lanes of a column repeated in each lane. -/
theorem rowmax (l : Fin 128 → ℝ) : shapeCast S128x1 (multiReduction (F := Ideal) .maximumf [1] S128 (cv (fun i _ => l i) : FVec Ideal S128x128 .f32)
    0xFF800000#32 reduces_S128x128_S128 (.inl rfl) rfl) shapeCasts_S128_S128x1 = cc l := by
  funext i
  rw [shapeCast_apply _ shapeCasts_S128_S128x1 i (ix1 (i 0)) (by
    rw [Shape.rowMajor_val_one, Shape.rowMajor_val_two]
    have h1 : (i 1).val < 1 := (i 1).isLt
    show (i 0).val = (i 0).val * 1 + (i 1).val; omega)]
  refine (multiReduction_maximumf_eq_fold _ _ reduces_S128x128_S128 (.inl rfl) rfl _).trans ?_
  rw [Shape.Reduces.fold_fiber_r2_a1]
  have hb : (FloatOps.ofBits .f32 0xFF800000#32 : Ideal .f32) = (⊥ : EReal) := by
    show Ideal.ofBits .f32 0xFF800000#32 = ⊥
    simp [Ideal.ofBits, Ideal.ieee]
  show (Finset.univ : Finset (Fin 128)).fold (max : EReal → EReal → EReal) (FloatOps.ofBits .f32 0xFF800000#32 : Ideal .f32)
    (fun _ => ((l (i 0) : ℝ) : EReal)) = ((l (i 0) : ℝ) : EReal)
  rw [hb]
  exact le_antisymm ((Finset.fold_max_le _).mpr ⟨bot_le, fun _ _ => le_rfl⟩)
    ((Finset.le_fold_max _).mpr (Or.inr ⟨0, Finset.mem_univ _, le_rfl⟩))

theorem sub_cc (l k : Fin 128 → ℝ) : subf (F := Ideal) (cc l) (cc k) = cc fun i => l i - k i :=
  funext fun _ => (EReal.coe_sub _ _).symm

/-- The exponential of a masked score less its row's log-sum: zero where the mask is. -/
theorem exp_mask (b : IVec S128x128 1) (p : Fin 128 → Fin 128 → Prop) [∀ i j, Decidable (p i j)]
    (hb : ∀ i, b i = if p (row i) (col i) then 1#1 else 0#1) (A : Mat) (l : Fin 128 → ℝ) :
    exp (F := Ideal) (subf (select b (cv A : FVec Ideal S128x128 .f32) (broadcast S128x128 (Named.named κ "mask" 0xF149F2CA#32)))
      (cv fun i _ => l i)) = cv fun i j => if p i j then Real.exp (A i j - l i) else 0 := by
  funext i
  show Ideal.exp ((Scalar.select (b i) ((A (row i) (col i) : ℝ) : EReal) (Named.named (F := Ideal) (φ := .f32) κ "mask" 0xF149F2CA#32) : EReal) - ((l (row i) : ℝ) : EReal))
    = (((if p (row i) (col i) then Real.exp (A (row i) (col i) - l (row i)) else 0 : ℝ)) : EReal)
  rw [hb]
  by_cases hp : p (row i) (col i)
  · rw [if_pos hp, if_pos hp]
    show Ideal.exp (((A (row i) (col i) : ℝ) : EReal) - ((l (row i) : ℝ) : EReal)) = _
    rw [← EReal.coe_sub, Ideal.exp_coe]
  · rw [if_neg hp, if_neg hp]
    have hm : (Named.named (F := Ideal) (φ := .f32) κ "mask" 0xF149F2CA#32 : EReal) = ⊥ := IdealRules.named_const.ideal_named_scalar _ _ _ _ rfl
    show Ideal.exp ((Named.named (F := Ideal) (φ := .f32) κ "mask" 0xF149F2CA#32 : EReal) - ((l (row i) : ℝ) : EReal)) = _
    rw [hm, EReal.bot_sub, Ideal.exp_bot, EReal.coe_zero]

/-- The comparisons of the columns' and rows' numbers, as words. -/
theorem le_word {k l : Nat} (hk : k < 128) (hl : l < 128) : IntOp.cmpi .sle (BitVec.ofNat 32 k) (BitVec.ofNat 32 l) = if k ≤ l then 1#1 else 0#1 := by
  show BitVec.ofBool (decide ((BitVec.ofNat 32 k).toInt ≤ (BitVec.ofNat 32 l).toInt)) = _
  have e : ∀ {n : Nat}, n < 128 → (BitVec.ofNat 32 n).toInt = (n : Int) := fun hn => by
    rw [BitVec.toInt_eq_toNat_bmod, BitVec.toNat_ofNat, Nat.mod_eq_of_lt (by omega)]; simp only [Int.bmod]; omega
  rw [e hk, e hl]
  by_cases h : k ≤ l
  · rw [if_pos h, decide_eq_true (by omega)]; rfl
  · rw [if_neg h, decide_eq_false (by omega)]; rfl

theorem ge_word {k l : Nat} (hk : k < 128) (hl : l < 128) : IntOp.cmpi .sge (BitVec.ofNat 32 k) (BitVec.ofNat 32 l) = if l ≤ k then 1#1 else 0#1 :=
  le_word hl hk

/-! ## The block pair's weights -/

/-- The rows' and the columns' numbers. -/
abbrev io0 : IVec S128x128 32 := iota .tc S128x128 32 [0] iota_S128x128_d0_w32
abbrev io1 : IVec S128x128 32 := iota .tc S128x128 32 [1] iota_S128x128_d1_w32

theorem io0_apply (i : S128x128.Idx) : io0 i = BitVec.ofNat 32 (row i).val := by
  show BitVec.ofNat 32 (0 * 128 + (i 0).val) = _; rw [Nat.zero_mul, Nat.zero_add]; rfl
theorem io1_apply (i : S128x128.Idx) : io1 i = BitVec.ofNat 32 (col i).val := by
  show BitVec.ofNat 32 (0 * 128 + (i 1).val) = _; rw [Nat.zero_mul, Nat.zero_add]; rfl

/-- The mask of a block against itself: the column is at most the row. -/
theorem mask_cur (i : S128x128.Idx) : cmpi .sle io1 io0 i = if (col i).val ≤ (row i).val then 1#1 else 0#1 := by
  show IntOp.cmpi .sle (io1 i) (io0 i) = _
  rw [io0_apply, io1_apply, le_word (col i).isLt (row i).isLt]

/-- The mask of a block against the block before it: the column is at least the row. -/
theorem mask_prev (i : S128x128.Idx) : andi (cmpi .sge io1 io0) (broadcast S128x128 (Scalar.cmpi .sgt 1#32 0#32)) i
    = if (row i).val ≤ (col i).val then 1#1 else 0#1 := by
  show (IntOp.cmpi .sge (io1 i) (io0 i) &&& Scalar.cmpi .sgt 1#32 0#32 : BitVec 1) = _
  rw [io0_apply, io1_apply, ge_word (col i).isLt (row i).isLt]
  split_ifs <;> decide

/-- The first block has no block before it. -/
theorem mask_none (i : S128x128.Idx) : andi (cmpi .sge io1 io0) (broadcast S128x128 (Scalar.cmpi .sgt 0#32 0#32)) i
    = if False then 1#1 else 0#1 := by
  show (IntOp.cmpi .sge (io1 i) (io0 i) &&& Scalar.cmpi .sgt 0#32 0#32 : BitVec 1) = _
  rw [io0_apply, io1_apply, ge_word (col i).isLt (row i).isLt]
  rw [if_neg (fun h : False => h)]
  split_ifs <;> decide

/-- The scaled scores of two blocks. -/
def scB (q k : Mat) : Mat := fun i j => (∑ d, q i d * k j d) * s
/-- The weights of a block against itself. -/
def pC (q k : Mat) (l : Fin 128 → ℝ) : Mat := fun i j => if j.val ≤ i.val then Real.exp (scB q k i j - l i) else 0
/-- The weights of a block against the one before it. -/
def pP (q k : Mat) (l : Fin 128 → ℝ) : Mat := fun i j => if i.val ≤ j.val then Real.exp (scB q k i j - l i) else 0
/-- What is added to the weights' cotangent. -/
def shB (dO dL o : Mat) : Fin 128 → ℝ := fun i => (∑ c, dL i c) - ∑ c, dO i c * o i c
/-- The scores' cotangent from the weights `p`. -/
def dsB (p dO v : Mat) (sh : Fin 128 → ℝ) : Mat := fun i j => p i j * ((∑ d, dO i d * v j d) + sh i)

variable (q k k' v v' dO dL o : Mat) (l : Fin 128 → ℝ)

abbrev lc : FVec Ideal S128x128 .f32 := cv fun i _ => l i

/-! The first block. -/

theorem pay7 : k0_pay7 (F := Ideal) (cb q) = cv q := cast_cv q
theorem pay8 : k0_pay8 (F := Ideal) (cb q) = cv q := cast_cv q
theorem pay9 : k0_pay9 (F := Ideal) (cb q) = cv q := cast_cv q
theorem pay10 : k0_pay10 (F := Ideal) (cf q) = cv q := cast_cv q
theorem pay11 : k0_pay11 (F := Ideal) (cf q) = cv q := cast_cv q
theorem pay18 : k0_pay18 (F := Ideal) (cf q) = cv q := cast_cv q
theorem pay20 : k0_pay20 (F := Ideal) (cf q) = cv q := cast_cv q
theorem pay29 : k0_pay29 (F := Ideal) (cb q) = cv q := cast_cv q
theorem pay30 : k0_pay30 (F := Ideal) (cb q) = cv q := cast_cv q
theorem pay31 : k0_pay31 (F := Ideal) (cb q) = cv q := cast_cv q
theorem pay32 : k0_pay32 (F := Ideal) (cf q) = cv q := cast_cv q
theorem pay33 : k0_pay33 (F := Ideal) (cf q) = cv q := cast_cv q
theorem pay39 : k0_pay39 (F := Ideal) (cf q) = cv q := cast_cv q
theorem pay41 : k0_pay41 (F := Ideal) (cf q) = cv q := cast_cv q
theorem pay45 : k0_pay45 (F := Ideal) (cf q) = cv q := cast_cv q

theorem pay12 : k0_pay12 (F := Ideal) (cb q) (cb k) = cv (scB q k) := by
  unfold k0_pay12; dsimp only; rw [pay7, pay8, dotNT, scale_cv]; rfl
theorem pay13 : k0_pay13 (F := Ideal) (cb q) (cb k) = cv (scB q k) := by
  unfold k0_pay13; dsimp only; rw [pay7, pay9, dotNT, scale_cv]; rfl
theorem pay15 : k0_pay15 (F := Ideal) (lc l) = cc l := by
  unfold k0_pay15; dsimp only; rw [cast_cv, rowmax]
theorem pay36 : k0_pay36 (F := Ideal) (lc l) = cc l := by
  unfold k0_pay36; dsimp only; rw [cast_cv, rowmax]

theorem pay16 : k0_pay16 (F := Ideal) (cf (scB q k)) k0_pay14 (lc l) = cv (pC q k l) := by
  unfold k0_pay16; dsimp only; rw [pay15, bcast_cc]
  exact exp_mask _ (fun i j => j.val ≤ i.val) mask_cur _ _
theorem pay17 : k0_pay17 (F := Ideal) 0#32 io0 io1 (cf (scB q k)) (lc l) = cv fun _ _ => 0 := by
  unfold k0_pay17; dsimp only; rw [pay15, bcast_cc]
  refine (exp_mask _ (fun _ _ => False) mask_none _ _).trans ?_
  simp only [if_false]
theorem pay19 : k0_pay19 (F := Ideal) (cf dO) (cf dL) (cf o) = cc (shB dO dL o) := by
  unfold k0_pay19; dsimp only; rw [pay18, cast_cv, cast_cv, mul_cv, rowsum, rowsum, sub_cc]; rfl
theorem pay40 : k0_pay40 (F := Ideal) (cf dO) (cf dL) (cf o) = cc (shB dO dL o) := by
  unfold k0_pay40; dsimp only; rw [pay39, cast_cv, cast_cv, mul_cv, rowsum, rowsum, sub_cc]; rfl
theorem pay21 : k0_pay21 (F := Ideal) (cb v) (cf (scB q k)) k0_pay14 (lc l) (cf dO) (cf dL) (cf o)
    = cv (dsB (pC q k l) dO v (shB dO dL o)) := by
  unfold k0_pay21; dsimp only; rw [pay20, dotNT, pay19, bcast_cc, pay16, add_cv, mul_cv]; rfl
theorem pay22 : k0_pay22 (F := Ideal) 0#32 (cb v) io0 io1 (cf (scB q k)) (lc l) (cf dO) (cf dL) (cf o) = cv fun _ _ => 0 := by
  unfold k0_pay22; dsimp only; rw [pay20, dotNT, pay19, bcast_cc, pay17, add_cv, mul_cv]
  simp only [zero_mul]; rfl
theorem pay23 : k0_pay23 (F := Ideal) (cb k) (cb v) (cf (scB q k)) k0_pay14 (lc l) (cf dO) (cf dL) (cf o)
    = cv fun i d => ∑ j, dsB (pC q k l) dO v (shB dO dL o) i j * k j d := by
  unfold k0_pay23; dsimp only; rw [pay21, dotNN]
theorem pay24 (a b c : Mat) : k0_pay24 (F := Ideal) (cb a) (cb b) (cf c) (constant S128x128 .f32 0x00000000#32)
    = cv fun i d => (c i d + ∑ j, b i j * a j d) * s := by
  unfold k0_pay24; dsimp only; rw [dotNN, add_cv, scale_cv]
theorem pay25 (a b c : Mat) : k0_pay25 (F := Ideal) (cb a) (cb b) (cf c) = cv fun i d => c i d + (∑ j, b j i * a j d) * s := by
  unfold k0_pay25; dsimp only; rw [cast_cv, dotTN, scale_cv, add_cv]
theorem pay27 (a b c : Mat) : k0_pay27 (F := Ideal) (cb a) (cb b) (cf c) = cv fun i d => c i d + (∑ j, b j i * a j d) * s := by
  unfold k0_pay27; dsimp only; rw [cast_cv, dotTN, scale_cv, add_cv]
theorem pay26 (a b c : Mat) : k0_pay26 (F := Ideal) (cf a) (cb b) (cf c) = cv fun i d => c i d + ∑ j, a j i * b j d := by
  unfold k0_pay26; dsimp only; rw [cast_cv, trunc_cv, dotTN, add_cv]
theorem pay28 (a b c : Mat) : k0_pay28 (F := Ideal) (cf a) (cb b) (cf c) = cv fun i d => c i d + ∑ j, a j i * b j d := by
  unfold k0_pay28; dsimp only; rw [cast_cv, trunc_cv, dotTN, add_cv]

/-! The second block. -/

theorem pay37 : k0_pay37 (F := Ideal) (k0_pay34 (cb q) (cb k)) (lc l) = cv (pC q k l) := by
  unfold k0_pay37 k0_pay34; dsimp only; rw [pay36, bcast_cc, pay29, pay30, dotNT, scale_cv]
  exact exp_mask _ (fun i j => j.val ≤ i.val) mask_cur _ _
theorem pay38 : k0_pay38 (F := Ideal) (k0_pay35 (cb q) (cb k)) (lc l) = cv (pP q k l) := by
  unfold k0_pay38 k0_pay35; dsimp only; rw [pay36, bcast_cc, pay29, pay31, dotNT, scale_cv]
  exact exp_mask _ (fun i j => i.val ≤ j.val) mask_prev _ _
theorem pay42 : k0_pay42 (F := Ideal) (cb v) (k0_pay34 (cb q) (cb k)) (lc l) (cf dO) (cf dL) (cf o)
    = cv (dsB (pC q k l) dO v (shB dO dL o)) := by
  unfold k0_pay42; dsimp only; rw [pay41, dotNT, pay40, bcast_cc, pay37, add_cv, mul_cv]; rfl
theorem pay43 : k0_pay43 (F := Ideal) (cb v) (k0_pay35 (cb q) (cb k)) (lc l) (cf dO) (cf dL) (cf o)
    = cv (dsB (pP q k l) dO v (shB dO dL o)) := by
  unfold k0_pay43; dsimp only; rw [pay41, dotNT, pay40, bcast_cc, pay38, add_cv, mul_cv]; rfl
theorem pay44 : k0_pay44 (F := Ideal) (cb k) (cb k') (cb v) (cb v') (k0_pay34 (cb q) (cb k)) (k0_pay35 (cb q) (cb k')) (lc l) (cf dO) (cf dL) (cf o)
    = cv fun i d => ((∑ j, dsB (pC q k l) dO v (shB dO dL o) i j * k j d) + ∑ j, dsB (pP q k' l) dO v' (shB dO dL o) i j * k' j d) * s := by
  unfold k0_pay44; dsimp only; rw [pay42, pay43, dotNN, dotNN, add_cv, scale_cv]
theorem pay1 (a b c : Mat) : k0_pay1 (F := Ideal) (cb a) (cb b) (cf c) = cv fun i d => c i d + (∑ j, b j i * a j d) * s := by
  unfold k0_pay1; dsimp only; rw [dotTN, scale_cv, add_cv]
theorem pay3 (a b c : Mat) : k0_pay3 (F := Ideal) (cb a) (cb b) (cf c) = cv fun i d => c i d + (∑ j, b j i * a j d) * s := by
  unfold k0_pay3; dsimp only; rw [cast_cv, dotTN, scale_cv, add_cv]
theorem pay2 (a b c : Mat) : k0_pay2 (F := Ideal) (cf a) (cb b) (cf c) = cv fun i d => c i d + ∑ j, a j i * b j d := by
  unfold k0_pay2; dsimp only; rw [cast_cv, trunc_cv, dotTN, add_cv]
theorem pay4 (a b c : Mat) : k0_pay4 (F := Ideal) (cf a) (cb b) (cf c) = cv fun i d => c i d + ∑ j, a j i * b j d := by
  unfold k0_pay4; dsimp only; rw [cast_cv, trunc_cv, dotTN, add_cv]

end Cert.DilPay
-- ==== Proof.DilBlk.lean ====
/-
  The dilated branch's backward body over the real numbers: at inputs that hold the 256 rows of one residue and one
  head, with the saved result and log-sum, its three output blocks hold the gradients in the queries, keys and values.
-/
module

public import proofs.«01_k».proof.Proof.DilRunIdeal
public import proofs.«01_k».proof.Proof.DilPay

@[expose] public section

set_option maxRecDepth 16384

noncomputable section

namespace Cert.DilBlk

open Idealize.ShloMosaic hiding ix1 ix2 ix3 ix4
open Idealize.ShloMosaic.TcCoe Idealize.SL.Sem Cert.Reals Cert.DilReal Cert.DilPay
open Idealize.ShloMosaic.ValueIdx
open Cert.KernelIdeal Cert.KernelIdeal.Gen Cert.DilRunIdeal

/-! ## Loads and stores of a block's half -/

/-- 256 rows of reals as a block of the kernel. -/
def cw {φ : FTy} (X : Rows) : FVec Ideal S256x128 φ := fun i => ((X (i 0) (i 1) : ℝ) : EReal)
abbrev wf (X : Rows) : Vec Ideal S256x128 .f32 := (cw X : FVec Ideal S256x128 .f32)
abbrev wb (X : Rows) : Vec Ideal S256x128 .bf16 := (cw X : FVec Ideal S256x128 .bf16)

/-- Half `b` of the rows. -/
abbrev rb (X : Rows) (b : Fin 2) : Mat := fun i d => X (blk b i) d

abbrev MB := Memref sig .tc .vmem S256x128 .bf16
abbrev MF := Memref sig .tc .vmem S256x128 .f32

theorem blk0 (i : Fin 128) : (blk 0 i).val = i.val := by simp
theorem blk1 (i : Fin 128) : (blk 1 i).val = 128 + i.val := by simp

theorem idx0 (hp : ∀ a, (![0, 0] : Fin S256x128.rank → Nat) a + S128x128.size a ≤ S256x128.size a) (x : S128x128.Idx) :
    (Rect.unit (s := S256x128) ![0, 0] S128x128.size hp).idx x = ix2 (blk 0 (row x)) (col x) :=
  funext fun a => Fin.ext (by
    match a with
    | ⟨0, _⟩ => exact (show 0 + 1 * (row x).val = (blk 0 (row x)).val by rw [blk0]; omega)
    | ⟨1, _⟩ => exact (show 0 + 1 * (col x).val = (col x).val by omega))
theorem idx1 (hp : ∀ a, (![128, 0] : Fin S256x128.rank → Nat) a + S128x128.size a ≤ S256x128.size a) (x : S128x128.Idx) :
    (Rect.unit (s := S256x128) ![128, 0] S128x128.size hp).idx x = ix2 (blk 1 (row x)) (col x) :=
  funext fun a => Fin.ext (by
    match a with
    | ⟨0, _⟩ => exact (show 128 + 1 * (row x).val = (blk 1 (row x)).val by rw [blk1]; omega)
    | ⟨1, _⟩ => exact (show 0 + 1 * (col x).val = (col x).val by omega))

theorem rdB0 (a : MB) (h : a.IsWhole) (X : Rows) (hp : ∀ a, (![0, 0] : Fin S256x128.rank → Nat) a + S128x128.size a ≤ S256x128.size a) :
    View.readAt (Elt Ideal) a.view (Rect.unit (s := S256x128) ![0, 0] S128x128.size hp).toLoadRect (h.unread (wb X)) = cb (rb X 0) := by
  rw [View.readAt_eq_ld, h.read_unread]; exact funext fun x => congrArg (wb X) (idx0 hp x)
theorem rdB1 (a : MB) (h : a.IsWhole) (X : Rows) (hp : ∀ a, (![128, 0] : Fin S256x128.rank → Nat) a + S128x128.size a ≤ S256x128.size a) :
    View.readAt (Elt Ideal) a.view (Rect.unit (s := S256x128) ![128, 0] S128x128.size hp).toLoadRect (h.unread (wb X)) = cb (rb X 1) := by
  rw [View.readAt_eq_ld, h.read_unread]; exact funext fun x => congrArg (wb X) (idx1 hp x)
theorem rdF0 (a : MF) (h : a.IsWhole) (X : Rows) (hp : ∀ a, (![0, 0] : Fin S256x128.rank → Nat) a + S128x128.size a ≤ S256x128.size a) :
    View.readAt (Elt Ideal) a.view (Rect.unit (s := S256x128) ![0, 0] S128x128.size hp).toLoadRect (h.unread (wf X)) = cf (rb X 0) := by
  rw [View.readAt_eq_ld, h.read_unread]; exact funext fun x => congrArg (wf X) (idx0 hp x)
theorem rdF1 (a : MF) (h : a.IsWhole) (X : Rows) (hp : ∀ a, (![128, 0] : Fin S256x128.rank → Nat) a + S128x128.size a ≤ S256x128.size a) :
    View.readAt (Elt Ideal) a.view (Rect.unit (s := S256x128) ![128, 0] S128x128.size hp).toLoadRect (h.unread (wf X)) = cf (rb X 1) := by
  rw [View.readAt_eq_ld, h.read_unread]; exact funext fun x => congrArg (wf X) (idx1 hp x)

section Pieces

abbrev P256 := View.Piece (Elt Ideal) S256x128 .f32

abbrev pc0 (hp : ∀ a, (![0, 0] : Fin S256x128.rank → Nat) a + S128x128.size a ≤ S256x128.size a) (w : Vec Ideal S128x128 .f32) : P256 :=
  ⟨Rect.unit (s := S256x128) ![0, 0] S128x128.size hp, w⟩
abbrev pc1 (hp : ∀ a, (![128, 0] : Fin S256x128.rank → Nat) a + S128x128.size a ≤ S256x128.size a) (w : Vec Ideal S128x128 .f32) : P256 :=
  ⟨Rect.unit (s := S256x128) ![128, 0] S128x128.size hp, w⟩

variable (hp0 : ∀ a, (![0, 0] : Fin S256x128.rank → Nat) a + S128x128.size a ≤ S256x128.size a)
  (hp1 : ∀ a, (![128, 0] : Fin S256x128.rank → Nat) a + S128x128.size a ≤ S256x128.size a) (w : Vec Ideal S128x128 .f32) (L : List P256)

theorem hit0 (x : S128x128.Idx) : View.canon (pc0 hp0 w :: L) (ix2 (blk 0 (row x)) (col x)) = w x := by
  rw [← idx0 hp0 x]; exact View.canon_cons_emb (Rect.unit (s := S256x128) ![0, 0] S128x128.size hp0) w L x
theorem hit1 (x : S128x128.Idx) : View.canon (pc1 hp1 w :: L) (ix2 (blk 1 (row x)) (col x)) = w x := by
  rw [← idx1 hp1 x]; exact View.canon_cons_emb (Rect.unit (s := S256x128) ![128, 0] S128x128.size hp1) w L x
theorem miss0 (x : S128x128.Idx) : View.canon (pc0 hp0 w :: L) (ix2 (blk 1 (row x)) (col x)) = View.canon L (ix2 (blk 1 (row x)) (col x)) := by
  refine View.canon_cons_of_not_mem _ L fun h => ?_
  have e := ((Rect.mem_set_unit (s := S256x128) (inb := hp0)).mp h 0).2
  have e' : (blk 1 (row x)).val < 0 + 128 := e
  rw [blk1] at e'; omega
theorem miss1 (x : S128x128.Idx) : View.canon (pc1 hp1 w :: L) (ix2 (blk 0 (row x)) (col x)) = View.canon L (ix2 (blk 0 (row x)) (col x)) := by
  refine View.canon_cons_of_not_mem _ L fun h => ?_
  have e := ((Rect.mem_set_unit (s := S256x128) (inb := hp1)).mp h 0).1
  have e' : 128 ≤ (blk 0 (row x)).val := e
  rw [blk0] at e'; have := (row x).isLt; omega

/-- Loads of a half from a list of stores, by the last store of that half. -/
theorem cov_hit0 (a : MF) (hp0' : ∀ a, (![0, 0] : Fin S256x128.rank → Nat) a + S128x128.size a ≤ S256x128.size a) :
    a.view.readCov (pc0 hp0 w :: L) (Rect.unit (s := S256x128) ![0, 0] S128x128.size hp0').toLoadRect = w := by
  rw [View.readCov_eq_canon']
  exact funext fun x => (congrArg _ (idx0 hp0' x)).trans (hit0 hp0 w L x)
theorem cov_hit1 (a : MF) (hp1' : ∀ a, (![128, 0] : Fin S256x128.rank → Nat) a + S128x128.size a ≤ S256x128.size a) :
    a.view.readCov (pc1 hp1 w :: L) (Rect.unit (s := S256x128) ![128, 0] S128x128.size hp1').toLoadRect = w := by
  rw [View.readCov_eq_canon']
  exact funext fun x => (congrArg _ (idx1 hp1' x)).trans (hit1 hp1 w L x)
theorem cov_miss0 (a : MF) :
    a.view.readCov (pc0 hp0 w :: L) (Rect.unit (s := S256x128) ![128, 0] S128x128.size hp1).toLoadRect
      = a.view.readCov L (Rect.unit (s := S256x128) ![128, 0] S128x128.size hp1).toLoadRect := by
  rw [View.readCov_eq_canon', View.readCov_eq_canon']
  exact funext fun x => by
    show View.canon _ ((Rect.unit (s := S256x128) ![128, 0] S128x128.size hp1).idx x) = View.canon _ ((Rect.unit (s := S256x128) ![128, 0] S128x128.size hp1).idx x)
    rw [idx1 hp1 x]; exact miss0 hp0 w L x
theorem cov_miss1 (a : MF) :
    a.view.readCov (pc1 hp1 w :: L) (Rect.unit (s := S256x128) ![0, 0] S128x128.size hp0).toLoadRect
      = a.view.readCov L (Rect.unit (s := S256x128) ![0, 0] S128x128.size hp0).toLoadRect := by
  rw [View.readCov_eq_canon', View.readCov_eq_canon']
  exact funext fun x => by
    show View.canon _ ((Rect.unit (s := S256x128) ![0, 0] S128x128.size hp0).idx x) = View.canon _ ((Rect.unit (s := S256x128) ![0, 0] S128x128.size hp0).idx x)
    rw [idx0 hp0 x]; exact miss1 hp1 w L x

theorem hz2 : (![0, 0] : Fin S256x128.rank → Nat) = fun _ => 0 := funext fun a => by fin_cases a <;> rfl

theorem cov_zero0 (a : MF) (inb : ∀ a, (![0, 0] : Fin S256x128.rank → Nat) a + S256x128.size a ≤ S256x128.size a) (z : Vec Ideal S256x128 .f32)
    (hz : ∀ y, z y = ((0 : ℝ) : EReal)) :
    a.view.readCov [(⟨Rect.unit (s := S256x128) ![0, 0] S256x128.size inb, z⟩ : P256)] (Rect.unit (s := S256x128) ![0, 0] S128x128.size hp0).toLoadRect = cf fun _ _ => 0 := by
  rw [View.readCov_eq_canon', View.canon_unit_zero hz2]; exact funext fun x => hz _
theorem cov_zero1 (a : MF) (inb : ∀ a, (![0, 0] : Fin S256x128.rank → Nat) a + S256x128.size a ≤ S256x128.size a) (z : Vec Ideal S256x128 .f32)
    (hz : ∀ y, z y = ((0 : ℝ) : EReal)) :
    a.view.readCov [(⟨Rect.unit (s := S256x128) ![0, 0] S256x128.size inb, z⟩ : P256)] (Rect.unit (s := S256x128) ![128, 0] S128x128.size hp1).toLoadRect = cf fun _ _ => 0 := by
  rw [View.readCov_eq_canon', View.canon_unit_zero hz2]; exact funext fun x => hz _

/-- An array is its two halves. -/
theorem ext_blk (f g : Vec Ideal S256x128 .f32) (h0 : ∀ x : S128x128.Idx, f (ix2 (blk 0 (row x)) (col x)) = g (ix2 (blk 0 (row x)) (col x)))
    (h1 : ∀ x : S128x128.Idx, f (ix2 (blk 1 (row x)) (col x)) = g (ix2 (blk 1 (row x)) (col x))) : f = g := by
  funext y
  obtain ⟨b, i, e⟩ := exists_blk (y 0)
  have ey : y = ix2 (blk b i) (y 1) := funext fun a => match a with | ⟨0, _⟩ => e | ⟨1, _⟩ => rfl
  rw [ey]
  match b with
  | ⟨0, _⟩ => exact h0 (ix2 i (y 1))
  | ⟨1, _⟩ => exact h1 (ix2 i (y 1))

/-- Stores of the two halves hold an array. -/
theorem canon_10 (w0 w1 : Vec Ideal S128x128 .f32) (A0 A1 : Mat) (X : Rows) (e0 : w0 = cf A0) (e1 : w1 = cf A1)
    (x0 : ∀ i d, A0 i d = X (blk 0 i) d) (x1 : ∀ i d, A1 i d = X (blk 1 i) d) : View.canon (pc1 hp1 w1 :: pc0 hp0 w0 :: L) = wf X :=
  ext_blk _ _ (fun x => (miss1 hp1 w1 _ x).trans ((hit0 hp0 w0 L x).trans ((congrFun e0 x).trans (congrArg _ (x0 (row x) (col x))))))
    (fun x => (hit1 hp1 w1 _ x).trans ((congrFun e1 x).trans (congrArg _ (x1 (row x) (col x)))))
theorem canon_01 (w0 w1 : Vec Ideal S128x128 .f32) (A0 A1 : Mat) (X : Rows) (e0 : w0 = cf A0) (e1 : w1 = cf A1)
    (x0 : ∀ i d, A0 i d = X (blk 0 i) d) (x1 : ∀ i d, A1 i d = X (blk 1 i) d) : View.canon (pc0 hp0 w0 :: pc1 hp1 w1 :: L) = wf X :=
  ext_blk _ _ (fun x => (hit0 hp0 w0 _ x).trans ((congrFun e0 x).trans (congrArg _ (x0 (row x) (col x)))))
    (fun x => (miss0 hp0 w0 _ x).trans ((hit1 hp1 w1 L x).trans ((congrFun e1 x).trans (congrArg _ (x1 (row x) (col x))))))

end Pieces

theorem zero5 (y : S256x128.Idx) : k0_pay5 (F := Ideal) y = ((0 : ℝ) : EReal) := by
  unfold k0_pay5; exact ofBits_zero
theorem zero6 (y : S256x128.Idx) : k0_pay6 (F := Ideal) y = ((0 : ℝ) : EReal) := by
  unfold k0_pay6; exact ofBits_zero

/-! ## The blocks' reals -/

section Joins
variable (Q K V DO DL : Rows) (M : Fin 256 → ℝ)

abbrev LS : Rows := fun m _ => lse Q K M m
abbrev lb (b : Fin 2) : Fin 128 → ℝ := fun i => lse Q K M (blk b i)

theorem pC_eq (b : Fin 2) (i j : Fin 128) : pC (rb Q b) (rb K b) (lb Q K M b) i j = P Q K M (blk b i) (blk b j) := by
  rw [P_eq]; exact (if_congr (band_same b i j) rfl rfl).symm
theorem pP_eq (i j : Fin 128) : pP (rb Q 1) (rb K 0) (lb Q K M 1) i j = P Q K M (blk 1 i) (blk 0 j) := by
  rw [P_eq]; exact (if_congr (band_prev i j) rfl rfl).symm

abbrev sh (b : Fin 2) := shB (rb DO b) (rb DL b) (rb (O Q K V M) b)

theorem dsC_eq (b : Fin 2) (i j : Fin 128) : dsB (pC (rb Q b) (rb K b) (lb Q K M b)) (rb DO b) (rb V b) (sh Q K V DO DL M b) i j
    = dS Q K V DO DL M (blk b i) (blk b j) := by
  rw [dsB, pC_eq]; rfl
theorem dsP_eq (i j : Fin 128) : dsB (pP (rb Q 1) (rb K 0) (lb Q K M 1)) (rb DO 1) (rb V 0) (sh Q K V DO DL M 1) i j
    = dS Q K V DO DL M (blk 1 i) (blk 0 j) := by
  rw [dsB, pP_eq]; rfl

theorem dq0 (i d : Fin 128) : ((∑ j, dsB (pC (rb Q 0) (rb K 0) (lb Q K M 0)) (rb DO 0) (rb V 0) (sh Q K V DO DL M 0) i j * rb K 0 j d) + ∑ j : Fin 128, (0 : ℝ) * rb K 0 j d) * s
    = dq Q K V DO DL M (blk 0 i) d := by
  simp only [dsC_eq, dq, sum_blk, dS_of_not _ _ _ _ _ _ _ _ (not_band_next i _), zero_mul, Finset.sum_const_zero, add_zero, Finset.sum_mul]
  exact Finset.sum_congr rfl fun j _ => by ring
theorem dq1 (i d : Fin 128) : ((∑ j, dsB (pC (rb Q 1) (rb K 1) (lb Q K M 1)) (rb DO 1) (rb V 1) (sh Q K V DO DL M 1) i j * rb K 1 j d)
      + ∑ j, dsB (pP (rb Q 1) (rb K 0) (lb Q K M 1)) (rb DO 1) (rb V 0) (sh Q K V DO DL M 1) i j * rb K 0 j d) * s
    = dq Q K V DO DL M (blk 1 i) d := by
  simp only [dsC_eq, dsP_eq, dq, sum_blk]
  rw [add_comm, add_mul, Finset.sum_mul, Finset.sum_mul]
  exact congrArg₂ (· + ·) (Finset.sum_congr rfl fun j _ => by ring) (Finset.sum_congr rfl fun j _ => by ring)
theorem dk1 (j d : Fin 128) : 0 + (∑ i, dsB (pC (rb Q 1) (rb K 1) (lb Q K M 1)) (rb DO 1) (rb V 1) (sh Q K V DO DL M 1) i j * rb Q 1 i d) * s
    = dk Q K V DO DL M (blk 1 j) d := by
  simp only [dsC_eq, dk, sum_blk, dS_of_not _ _ _ _ _ _ _ _ (not_band_next _ j), zero_mul, Finset.sum_const_zero, Finset.sum_mul]
  exact congrArg _ (Finset.sum_congr rfl fun j _ => by ring)
theorem dk0 (j d : Fin 128) : (0 + (∑ i, dsB (pC (rb Q 0) (rb K 0) (lb Q K M 0)) (rb DO 0) (rb V 0) (sh Q K V DO DL M 0) i j * rb Q 0 i d) * s
      + (∑ i : Fin 128, (0 : ℝ) * rb Q 0 i d) * s)
      + (∑ i, dsB (pP (rb Q 1) (rb K 0) (lb Q K M 1)) (rb DO 1) (rb V 0) (sh Q K V DO DL M 1) i j * rb Q 1 i d) * s
    = dk Q K V DO DL M (blk 0 j) d := by
  simp only [dsC_eq, dsP_eq, dk, sum_blk, zero_mul, Finset.sum_const_zero, zero_add, add_zero, Finset.sum_mul]
  exact congrArg₂ (· + ·) (Finset.sum_congr rfl fun j _ => by ring) (Finset.sum_congr rfl fun j _ => by ring)
theorem dv1 (j d : Fin 128) : 0 + (∑ i, pC (rb Q 1) (rb K 1) (lb Q K M 1) i j * rb DO 1 i d) = dv Q K DO M (blk 1 j) d := by
  simp only [pC_eq, dv, sum_blk, P_of_not _ _ _ _ _ (not_band_next _ j), mul_zero, Finset.sum_const_zero]
  exact congrArg _ (Finset.sum_congr rfl fun j _ => mul_comm _ _)
theorem dv0 (j d : Fin 128) : (0 + (∑ i, pC (rb Q 0) (rb K 0) (lb Q K M 0) i j * rb DO 0 i d) + (∑ i : Fin 128, (0 : ℝ) * rb DO 0 i d))
      + (∑ i, pP (rb Q 1) (rb K 0) (lb Q K M 1) i j * rb DO 1 i d) = dv Q K DO M (blk 0 j) d := by
  simp only [pC_eq, pP_eq, dv, sum_blk, zero_mul, Finset.sum_const_zero, zero_add, add_zero]
  exact congrArg₂ (· + ·) (Finset.sum_congr rfl fun j _ => mul_comm _ _) (Finset.sum_congr rfl fun j _ => mul_comm _ _)

end Joins

/-! ## The payloads at loads -/

section Pay
variable {q k k' : Vec Ideal S128x128 .bf16} {v v' dO dL o l old : Vec Ideal S128x128 .f32} {A : Mat}
  {Aq Ak Ak' Av Av' AdO AdL Ao : Mat} {Al : Fin 128 → ℝ}
  (eq : q = cb Aq) (ek : k = cb Ak) (ek' : k' = cb Ak') (ev : v = cf Av) (ev' : v' = cf Av') (eO : dO = cf AdO) (eL : dL = cf AdL)
  (eo : o = cf Ao) (el : l = lc Al) (eA : old = cf A)
include eq ek ev eO eL eo el

theorem at44 (ek' : k' = cb Ak') (ev' : v' = cf Av') :
    k0_pay44 (F := Ideal) (k0_pay30 k) (k0_pay31 k') (k0_pay32 v) (k0_pay33 v') (k0_pay34 q k) (k0_pay35 q k') l dO dL o
    = cf fun i d => ((∑ j, dsB (pC Aq Ak Al) AdO Av (shB AdO AdL Ao) i j * Ak j d)
        + ∑ j, dsB (pP Aq Ak' Al) AdO Av' (shB AdO AdL Ao) i j * Ak' j d) * s := by
  subst eq ek ek' ev ev' eO eL eo el
  rw [pay30, pay31, pay32, pay33]; exact pay44 Aq Ak Ak' Av Av' AdO AdL Ao Al

theorem at24 : k0_pay24 (F := Ideal) (k0_pay9 k) (k0_pay22 0#32 (k0_pay11 v) io0 io1 (k0_pay13 q k) l dO dL o)
      (k0_pay23 (k0_pay8 k) (k0_pay10 v) (k0_pay12 q k) k0_pay14 l dO dL o) (constant S128x128 .f32 0x00000000#32)
    = cf fun i d => ((∑ j, dsB (pC Aq Ak Al) AdO Av (shB AdO AdL Ao) i j * Ak j d) + ∑ j, (fun _ _ => (0 : ℝ)) i j * Ak j d) * s := by
  subst eq ek ev eO eL eo el
  rw [pay9, pay11, pay13, pay8, pay10, pay12]
  refine (congr (congrArg (fun z y => k0_pay24 (F := Ideal) (cb Ak) z y (constant S128x128 .f32 0x00000000#32))
    (pay22 Aq Ak Av AdO AdL Ao Al)) (pay23 Aq Ak Av AdO AdL Ao Al)).trans ?_
  exact pay24 _ _ _

theorem at25 (eA : old = cf A) : k0_pay25 (F := Ideal) (k0_pay7 q) (k0_pay21 (k0_pay10 v) (k0_pay12 q k) k0_pay14 l dO dL o) old
    = cf fun j d => A j d + (∑ i, dsB (pC Aq Ak Al) AdO Av (shB AdO AdL Ao) i j * Aq i d) * s := by
  subst eq ek ev eO eL eo el eA
  rw [pay7, pay10, pay12]
  refine (congrArg (fun z => k0_pay25 (F := Ideal) (cb Aq) z (cf A)) (pay21 Aq Ak Av AdO AdL Ao Al)).trans ?_
  exact pay25 _ _ _

theorem at27 (eA : old = cf A) : k0_pay27 (F := Ideal) (k0_pay7 q) (k0_pay22 0#32 (k0_pay11 v) io0 io1 (k0_pay13 q k) l dO dL o) old
    = cf fun j d => A j d + (∑ i, (fun _ _ => (0 : ℝ)) j i * Aq i d) * s := by
  subst eq ek ev eO eL eo el eA
  rw [pay7, pay11, pay13]
  refine (congrArg (fun z => k0_pay27 (F := Ideal) (cb Aq) z (cf A)) (pay22 Aq Ak Av AdO AdL Ao Al)).trans ?_
  exact pay27 _ _ _

theorem at1 (eA : old = cf A) : k0_pay1 (F := Ideal) (k0_pay29 q) (k0_pay42 (k0_pay32 v) (k0_pay34 q k) l dO dL o) (k0_pay45 old)
    = cf fun j d => A j d + (∑ i, dsB (pC Aq Ak Al) AdO Av (shB AdO AdL Ao) i j * Aq i d) * s := by
  subst eq ek ev eO eL eo el eA
  rw [pay29, pay32, pay45]
  refine (congrArg (fun z => k0_pay1 (F := Ideal) (cb Aq) z (cf A)) (pay42 Aq Ak Av AdO AdL Ao Al)).trans ?_
  exact pay1 _ _ _

theorem at3 (eA : old = cf A) : k0_pay3 (F := Ideal) (k0_pay29 q) (k0_pay43 (k0_pay33 v) (k0_pay35 q k) l dO dL o) old
    = cf fun j d => A j d + (∑ i, dsB (pP Aq Ak Al) AdO Av (shB AdO AdL Ao) i j * Aq i d) * s := by
  subst eq ek ev eO eL eo el eA
  rw [pay29, pay33]
  refine (congrArg (fun z => k0_pay3 (F := Ideal) (cb Aq) z (cf A)) (pay43 Aq Ak Av AdO AdL Ao Al)).trans ?_
  exact pay3 _ _ _

omit ev eL eo

theorem at26 (eA : old = cf A) : k0_pay26 (F := Ideal) (k0_pay16 (k0_pay12 q k) k0_pay14 l) (k0_pay20 dO) old
    = cf fun j d => A j d + ∑ i, pC Aq Ak Al i j * AdO i d := by
  subst eq ek eO el eA
  rw [pay12, pay20]
  refine (congrArg (fun z => k0_pay26 (F := Ideal) z (cb AdO) (cf A)) (pay16 Aq Ak Al)).trans ?_
  exact pay26 _ _ _

theorem at28 (eA : old = cf A) : k0_pay28 (F := Ideal) (k0_pay17 0#32 io0 io1 (k0_pay13 q k) l) (k0_pay20 dO) old
    = cf fun j d => A j d + ∑ i, (fun _ _ => (0 : ℝ)) i j * AdO i d := by
  subst eq ek eO el eA
  rw [pay13, pay20]
  refine (congrArg (fun z => k0_pay28 (F := Ideal) z (cb AdO) (cf A)) (pay17 Aq Ak Al)).trans ?_
  exact pay28 _ _ _

theorem at2 (eA : old = cf A) : k0_pay2 (F := Ideal) (k0_pay37 (k0_pay34 q k) l) (k0_pay41 dO) old
    = cf fun j d => A j d + ∑ i, pC Aq Ak Al i j * AdO i d := by
  subst eq ek eO el eA
  rw [pay41]
  refine (congrArg (fun z => k0_pay2 (F := Ideal) z (cb AdO) (cf A)) (pay37 Aq Ak Al)).trans ?_
  exact pay2 _ _ _

theorem at4 (eA : old = cf A) : k0_pay4 (F := Ideal) (k0_pay38 (k0_pay35 q k) l) (k0_pay41 dO) old
    = cf fun j d => A j d + ∑ i, pP Aq Ak Al i j * AdO i d := by
  subst eq ek eO el eA
  rw [pay41]
  refine (congrArg (fun z => k0_pay4 (F := Ideal) z (cb AdO) (cf A)) (pay38 Aq Ak Al)).trans ?_
  exact pay4 _ _ _

end Pay

/-! ## The outputs -/

section Out
variable (c : Dev nD) (i : grid0.Coords) (a2 : MB) (h2 : a2.IsWhole) (a3 : MB) (h3 : a3.IsWhole) (a4 : MF) (h4 : a4.IsWhole)
   (a5 : MF) (h5 : a5.IsWhole) (a6 : MF) (h6 : a6.IsWhole) (a7 : MF) (h7 : a7.IsWhole) (a8 : MF) (h8 : a8.IsWhole) (a9 : MF) (h9 : a9.IsWhole)
   (a10 : MF) (h10 : a10.IsWhole) (a11 : MF) (h11 : a11.IsWhole) (Q K V DO DL : Rows) (M : Fin 256 → ℝ)

abbrev lists := run c i a2 h2 a3 h3 a4 h4 a5 h5 a6 h6 a7 h7 a8 h8 a9 h9 a10 h10 a11 h11
  (wb Q) (wb K) (wf V) (wf (O Q K V M)) (wf (LS Q K M)) (wf DO) (wf DL)

theorem out_dq : View.canon (lists c i a2 h2 a3 h3 a4 h4 a5 h5 a6 h6 a7 h7 a8 h8 a9 h9 a10 h10 a11 h11 Q K V DO DL M).1
    = wf (dq Q K V DO DL M) := by
  unfold lists run; dsimp only; sl_unfold_words
  refine canon_10 _ _ _ _ _ _ _ _ (at24 (rdB0 a2 h2 Q _) (rdB0 a3 h3 K _) (rdF0 a4 h4 V _) (rdF0 a7 h7 DO _) (rdF0 a8 h8 DL _)
    (rdF0 a5 h5 (O Q K V M) _) (rdF0 a6 h6 (LS Q K M) _)) (at44 (rdB1 a2 h2 Q _) (rdB1 a3 h3 K _) (rdF1 a4 h4 V _) (rdF1 a7 h7 DO _) (rdF1 a8 h8 DL _)
    (rdF1 a5 h5 (O Q K V M) _) (rdF1 a6 h6 (LS Q K M) _) (rdB0 a3 h3 K _) (rdF0 a4 h4 V _)) ?_ ?_
  · exact fun i d => dq0 Q K V DO DL M i d
  · exact fun i d => dq1 Q K V DO DL M i d

theorem out_dk : View.canon (lists c i a2 h2 a3 h3 a4 h4 a5 h5 a6 h6 a7 h7 a8 h8 a9 h9 a10 h10 a11 h11 Q K V DO DL M).2.1
    = wf (dk Q K V DO DL M) := by
  unfold lists run; dsimp only; sl_unfold_words
  refine canon_01 _ _ _ _ _ _ _ _
    (at3 (rdB1 a2 h2 Q _) (rdB0 a3 h3 K _) (rdF0 a4 h4 V _) (rdF1 a7 h7 DO _) (rdF1 a8 h8 DL _) (rdF1 a5 h5 (O Q K V M) _) (rdF1 a6 h6 (LS Q K M) _)
      ((cov_miss1 _ _ _ _ a10).trans ((cov_hit0 _ _ _ a10 _).trans
        (at27 (rdB0 a2 h2 Q _) (rdB0 a3 h3 K _) (rdF0 a4 h4 V _) (rdF0 a7 h7 DO _) (rdF0 a8 h8 DL _) (rdF0 a5 h5 (O Q K V M) _) (rdF0 a6 h6 (LS Q K M) _)
          ((cov_hit0 _ _ _ a10 _).trans
            (at25 (rdB0 a2 h2 Q _) (rdB0 a3 h3 K _) (rdF0 a4 h4 V _) (rdF0 a7 h7 DO _) (rdF0 a8 h8 DL _) (rdF0 a5 h5 (O Q K V M) _) (rdF0 a6 h6 (LS Q K M) _)
              (cov_zero0 _ a10 _ _ zero5)))))))
    (at1 (rdB1 a2 h2 Q _) (rdB1 a3 h3 K _) (rdF1 a4 h4 V _) (rdF1 a7 h7 DO _) (rdF1 a8 h8 DL _) (rdF1 a5 h5 (O Q K V M) _) (rdF1 a6 h6 (LS Q K M) _)
      ((cov_miss0 _ _ _ _ a10).trans ((cov_miss0 _ _ _ _ a10).trans (cov_zero1 _ a10 _ _ zero5)))) ?_ ?_
  · exact fun i d => dk0 Q K V DO DL M i d
  · exact fun i d => dk1 Q K V DO DL M i d

theorem out_dv : View.canon (lists c i a2 h2 a3 h3 a4 h4 a5 h5 a6 h6 a7 h7 a8 h8 a9 h9 a10 h10 a11 h11 Q K V DO DL M).2.2.1
    = wf (dv Q K DO M) := by
  unfold lists run; dsimp only; sl_unfold_words
  refine canon_01 _ _ _ _ _ _ _ _
    (at4 (rdB1 a2 h2 Q _) (rdB0 a3 h3 K _) (rdF1 a7 h7 DO _) (rdF1 a6 h6 (LS Q K M) _)
      ((cov_miss1 _ _ _ _ a11).trans ((cov_hit0 _ _ _ a11 _).trans
        (at28 (rdB0 a2 h2 Q _) (rdB0 a3 h3 K _) (rdF0 a7 h7 DO _) (rdF0 a6 h6 (LS Q K M) _)
          ((cov_hit0 _ _ _ a11 _).trans
            (at26 (rdB0 a2 h2 Q _) (rdB0 a3 h3 K _) (rdF0 a7 h7 DO _) (rdF0 a6 h6 (LS Q K M) _)
              (cov_zero0 _ a11 _ _ zero6)))))))
    (at2 (rdB1 a2 h2 Q _) (rdB1 a3 h3 K _) (rdF1 a7 h7 DO _) (rdF1 a6 h6 (LS Q K M) _)
      ((cov_miss0 _ _ _ _ a11).trans ((cov_miss0 _ _ _ _ a11).trans (cov_zero1 _ a11 _ _ zero6)))) ?_ ?_
  · exact fun i d => dv0 Q K DO M i d
  · exact fun i d => dv1 Q K DO M i d

end Out

end Cert.DilBlk
-- ==== Proof.DilRef.lean ====
/-
  The reference of the dilated attention's gradient, read at real inputs: each of its stages, at the residue `r`, the
  head `h` and the rows and columns of that pair, is the real formula of `DilReal`.
-/
module

public import proofs.«01_k».proof.Defs
public import proofs.«01_k».proof.Proof.Gen.ReferenceIdeal.Run
public import proofs.«01_k».proof.Proof.Gen.ReferenceIdeal.Read
public import proofs.«01_k».proof.Proof.DilReal
public import Idealize.ShloMosaic.Lib.Pointwise.Reduce

@[expose] public section

set_option maxRecDepth 16384

noncomputable section

namespace Cert.DilRef

open Idealize.ShloMosaic hiding ix2 ix3 ix4
open Idealize.ShloMosaic.TcCoe Idealize.SL.Sem Cert.Reals Cert.DilReal
open Idealize.ShloMosaic.ValueIdx
open Cert.ReferenceIdeal Cert.ReferenceIdeal.Gen Cert.ReferenceIdeal.Read

/-! ## Indices -/

theorem i4 {n0 n1 n2 n3 : Nat} {i : (⟨4, ![n0, n1, n2, n3]⟩ : Shape).Idx} {a : Fin n0} {b : Fin n1} {c : Fin n2} {d : Fin n3}
    (h0 : (i 0).val = a.val) (h1 : (i 1).val = b.val) (h2 : (i 2).val = c.val) (h3 : (i 3).val = d.val) : i = ix4 a b c d :=
  funext fun x => Fin.ext (match x with
    | ⟨0, _⟩ => h0
    | ⟨1, _⟩ => h1
    | ⟨2, _⟩ => h2
    | ⟨3, _⟩ => h3)

theorem i3 {n0 n1 n2 : Nat} {i : (⟨3, ![n0, n1, n2]⟩ : Shape).Idx} {a : Fin n0} {b : Fin n1} {c : Fin n2}
    (h0 : (i 0).val = a.val) (h1 : (i 1).val = b.val) (h2 : (i 2).val = c.val) : i = ix3 a b c :=
  funext fun x => Fin.ext (match x with
    | ⟨0, _⟩ => h0
    | ⟨1, _⟩ => h1
    | ⟨2, _⟩ => h2)

theorem i2 {n0 n1 : Nat} {i : (⟨2, ![n0, n1]⟩ : Shape).Idx} {a : Fin n0} {b : Fin n1}
    (h0 : (i 0).val = a.val) (h1 : (i 1).val = b.val) : i = ix2 a b :=
  funext fun x => Fin.ext (match x with
    | ⟨0, _⟩ => h0
    | ⟨1, _⟩ => h1)

/-- Where row `m` of residue `r`, lane `d` of head `h`, lies in an array of 4096 rows. -/
def pos (m : Fin 256) (r : Fin 16) (h : Fin 4) (d : Fin 128) : S4096x512.Idx :=
  ix2 ⟨m.val * 16 + r.val, by omega⟩ ⟨h.val * 128 + d.val, by omega⟩

/-- An array of reals among the extended reals. -/
abbrev up (a : S4096x512.Idx → ℝ) : FVec Ideal S4096x512 .f32 := fun i => ((a i : ℝ) : EReal)

/-- The rows of one residue and head. -/
def rows (a : S4096x512.Idx → ℝ) (r : Fin 16) (h : Fin 4) : Rows := fun m d => a (pos m r h d)

theorem pos_eq {i : S4096x512.Idx} {m : Fin 256} {r : Fin 16} {h : Fin 4} {d : Fin 128}
    (h0 : (i 0).val = (((m.val * 16 + r.val) * 4 + h.val) * 128 + d.val) / 512)
    (h1 : (i 1).val = (((m.val * 16 + r.val) * 4 + h.val) * 128 + d.val) % 512) : i = pos m r h d := by
  refine i2 (h0.trans ?_) (h1.trans ?_)
  · show _ = m.val * 16 + r.val; omega
  · show _ = h.val * 128 + d.val; omega

variable (a0 a1 a2 a3 a4 : S4096x512.Idx → ℝ)
variable (r : Fin 16) (h : Fin 4)

theorem v0 (m : Fin 256) (d : Fin 128) : val_main_v0 (F := Ideal) (up a0) (ix4 m r h d) = ((rows a0 r h m d : ℝ) : EReal) := by
  rw [val_main_v0_apply, show idx_main_v0 (ix4 m r h d) = pos m r h d from pos_eq rfl rfl]; rfl
theorem v1 (m : Fin 256) (d : Fin 128) : val_main_v1 (F := Ideal) (up a1) (ix4 m r h d) = ((rows a1 r h m d : ℝ) : EReal) := by
  rw [val_main_v1_apply, show idx_main_v1 (ix4 m r h d) = pos m r h d from pos_eq rfl rfl]; rfl
theorem v2 (m : Fin 256) (d : Fin 128) : val_main_v2 (F := Ideal) (up a2) (ix4 m r h d) = ((rows a2 r h m d : ℝ) : EReal) := by
  rw [val_main_v2_apply, show idx_main_v2 (ix4 m r h d) = pos m r h d from pos_eq rfl rfl]; rfl
theorem v46 (m : Fin 256) (d : Fin 128) : val_main_v46 (F := Ideal) (up a4) (ix4 m r h d) = ((rows a4 r h m d : ℝ) : EReal) := by
  rw [val_main_v46_apply, show idx_main_v46 (ix4 m r h d) = pos m r h d from pos_eq rfl rfl]; rfl
theorem v47 (m : Fin 256) (d : Fin 128) : val_main_v47 (F := Ideal) (up a3) (ix4 m r h d) = ((rows a3 r h m d : ℝ) : EReal) := by
  rw [val_main_v47_apply, show idx_main_v47 (ix4 m r h d) = pos m r h d from pos_eq rfl rfl]; rfl

/-! ## The scores, the band and the row's maximum -/

theorem v5 (m n : Fin 256) : val_main_v5 (F := Ideal) (up a0) (up a1) (ix4 r h m n)
    = ((sc (rows a0 r h) (rows a1 r h) m n : ℝ) : EReal) := by
  rw [val_main_v5_apply, val_main_v3_apply, val_main_v4_apply, val_main_cst_apply]
  have e : ∀ k : Fin 128, val_main_v0 (F := Ideal) (up a0) (lidx_main_v3 (ix4 r h m n) k) * val_main_v1 (F := Ideal) (up a1) (ridx_main_v3 (ix4 r h m n) k)
      = ((rows a0 r h m k * rows a1 r h n k : ℝ) : EReal) := fun k => by
    rw [show lidx_main_v3 (ix4 r h m n) k = ix4 m r h k from i4 rfl rfl rfl rfl,
      show ridx_main_v3 (ix4 r h m n) k = ix4 n r h k from i4 rfl rfl rfl rfl, v0, v1, EReal.coe_mul]
  rw [Finset.sum_congr rfl fun k _ => e k, Reals.coe_sum]
  show (_ : EReal) * Ideal.ofBits .f32 0x3DB504F3#32 = _
  rw [ofBits_s, ← EReal.coe_mul]; rfl

theorem toInt_ofNat {k : Nat} (hk : k < 2 ^ 31) : (BitVec.ofNat 32 k).toInt = (k : Int) := by
  rw [BitVec.toInt_eq_toNat_bmod, BitVec.toNat_ofNat, Nat.mod_eq_of_lt (by omega)]; simp only [Int.bmod]; omega

/-- A difference of two small words, signed, is that of the numbers. -/
theorem toInt_sub {k l : Nat} (hk : k < 256) (hl : l < 256) : (BitVec.ofNat 32 k - BitVec.ofNat 32 l).toInt = (k : Int) - l := by
  rw [BitVec.toInt_sub, toInt_ofNat (by omega), toInt_ofNat (by omega)]; simp only [Int.bmod]; omega

theorem v17 (m n : Fin 256) : val_main_v17 (F := Ideal) (ix2 m n) = if band m n then 1#1 else 0#1 := by
  rw [val_main_v17_apply, val_main_v14_apply, val_main_v16_apply, val_main_v12_apply, val_main_v13_apply, val_main_v15_apply,
    val_main_c_apply, val_main_c_0_apply, val_main_v10_apply, val_main_v11_apply, val_main_v7_apply, val_main_v9_apply,
    val_main_v6_apply, val_main_v8_apply]
  show (BitVec.ofBool (decide ((0#32).toInt ≤ (BitVec.ofNat 32 m.val - BitVec.ofNat 32 n.val).toInt)) &&&
    BitVec.ofBool (decide ((BitVec.ofNat 32 m.val - BitVec.ofNat 32 n.val).toInt ≤ (128#32).toInt)) : BitVec 1) = _
  rw [toInt_sub m.isLt n.isLt]
  have h0 : (0#32).toInt = 0 := by decide
  have h1 : (128#32).toInt = 128 := by decide
  rw [h0, h1]
  by_cases hb : band m n
  · rw [if_pos hb, decide_eq_true (by have := hb.1; omega), decide_eq_true (by have := hb.2; omega)]; rfl
  · rw [if_neg hb]
    by_cases hc : n.val ≤ m.val
    · rw [decide_eq_false (p := (m.val : Int) - n.val ≤ 128) (fun hh => hb ⟨hc, by omega⟩)]
      cases decide (0 ≤ (m.val : Int) - n.val) <;> rfl
    · rw [decide_eq_false (p := 0 ≤ (m.val : Int) - n.val) (by omega)]
      cases decide ((m.val : Int) - n.val ≤ 128) <;> rfl

theorem v18_1 (m n : Fin 256) : val_main_v18_1 (F := Ideal) (ix4 r h m n) = if band m n then 1#1 else 0#1 := by
  rw [val_main_v18_1_apply, show idx_main_v18_1 (ix4 r h m n) = ix2 m n from i2 rfl rfl, v17]

theorem v18_0 (m n : Fin 256) : val_main_v18_0 (F := Ideal) (up a0) (up a1) (ix4 r h m n)
    = if band m n then ((sc (rows a0 r h) (rows a1 r h) m n : ℝ) : EReal) else ⊥ := by
  rw [val_main_v18_0_apply, v18_1, v5]
  by_cases hb : band m n
  · rw [if_pos hb, if_pos hb]; rfl
  · rw [if_neg hb, if_neg hb]
    show val_main_call0_v2 (F := Ideal) (ix4 r h m n) = _
    rw [val_main_call0_v2_apply, val_main_call0_v0_apply, val_main_cst_1_apply]
    show Ideal.ofBits .f32 0xFF800000#32 = ⊥
    simp [Ideal.ofBits, Ideal.ieee]

/-- The row's maximum, as a real. -/
def Mx (m : Fin 256) : ℝ := (show EReal from val_main_v19 (F := Ideal) (up a0) (up a1) (ix3 r h m)).toReal

theorem v19 (m : Fin 256) : val_main_v19 (F := Ideal) (up a0) (up a1) (ix3 r h m) = ((Mx a0 a1 r h m : ℝ) : EReal) := by
  have e : val_main_v19 (F := Ideal) (up a0) (up a1) (ix3 r h m)
      = (Finset.univ : Finset (Fin 256)).fold max ⊥ (fun n => if band m n then ((sc (rows a0 r h) (rows a1 r h) m n : ℝ) : EReal) else ⊥) := by
    unfold val_main_v19
    rw [Host.reduce_eq_fold, Shape.ReducesTo.fold_fiber_r4_a3]
    have hb : (val_main_cst_2 (F := Ideal)) (Shape.Idx.first h_S_) = (⊥ : EReal) := by
      show Ideal.ofBits .f32 0xFF800000#32 = ⊥
      simp [Ideal.ofBits, Ideal.ieee]
    rw [hb]
    refine congrArg (fun f => (Finset.univ : Finset (Fin 256)).fold (max : EReal → EReal → EReal) ⊥ f) (funext fun n => ?_)
    rw [← v18_0 a0 a1 r h m n]
    exact congrArg _ (i4 rfl rfl rfl rfl)
  refine (EReal.coe_toReal ?_ ?_).symm
  · rw [e]
    refine ne_of_lt ((Finset.fold_max_lt _).mpr ⟨bot_lt_top, fun n _ => ?_⟩)
    split_ifs
    · exact EReal.coe_lt_top _
    · exact bot_lt_top
  · rw [e]
    refine ne_of_gt (lt_of_lt_of_le (EReal.bot_lt_coe (sc (rows a0 r h) (rows a1 r h) m m)) ((Finset.le_fold_max _).mpr (Or.inr ⟨m, Finset.mem_univ m, ?_⟩)))
    rw [if_pos (show band m m from ⟨le_rfl, Nat.le_add_right _ _⟩)]

/-! ## The softmax and its log-sum -/

/-- The shorthands of one residue and head: the exponentials, their sum, the weights. -/
abbrev Er := E (rows a0 r h) (rows a1 r h) (Mx a0 a1 r h)
abbrev Lr := L (rows a0 r h) (rows a1 r h) (Mx a0 a1 r h)
abbrev Pr := P (rows a0 r h) (rows a1 r h) (Mx a0 a1 r h)

theorem Lr_ne (m : Fin 256) : Lr a0 a1 r h m ≠ 0 := (L_pos _ _ _ m).ne'

theorem zero_word (x : EReal) : Ideal.ofBits .f32 0x00000000#32 + x = x := by rw [ofBits_zero, EReal.coe_zero, zero_add]

/-- A quotient of reals. -/
theorem div_real (x : ℝ) {y : ℝ} (hy : y ≠ 0) : Ideal.div (x : EReal) (y : EReal) = ((x / y : ℝ) : EReal) := by
  rw [Ideal.div_coe hy, ← EReal.coe_mul, mul_one_div]

theorem v28 (m n : Fin 256) : val_main_v28 (F := Ideal) (up a0) (up a1) (ix4 r h m n) = ((Er a0 a1 r h m n : ℝ) : EReal) := by
  rw [val_main_v28_apply, val_main_v27_apply, v18_0, val_main_v26_apply, val_main_v25_apply,
    show idx_main_v25 (idx_main_v26 (ix4 r h m n)) = ix3 r h m from i3 rfl rfl rfl, v19]
  show Ideal.exp (_ - _ : EReal) = _
  unfold Er E
  split_ifs with hb
  · rw [← EReal.coe_sub, Ideal.exp_coe]
  · rw [EReal.bot_sub, Ideal.exp_bot, EReal.coe_zero]

theorem v29 (m : Fin 256) : val_main_v29 (F := Ideal) (up a0) (up a1) (ix3 r h m) = ((Lr a0 a1 r h m : ℝ) : EReal) := by
  rw [val_main_v29_apply, Finset.sum_congr rfl fun k _ => (congrArg _ (show idx_main_v29 (ix3 r h m) k = ix4 r h m k from i4 rfl rfl rfl rfl)).trans
    (v28 a0 a1 r h m k), Reals.coe_sum]
  exact zero_word _

theorem v30 (m : Fin 256) : val_main_v30 (F := Ideal) (up a0) (up a1) (ix4 r h m 0) = ((Lr a0 a1 r h m : ℝ) : EReal) := by
  rw [val_main_v30_apply, show idx_main_v30 (ix4 r h m 0) = ix3 r h m from i3 rfl rfl rfl, v29]

theorem v32 (m n : Fin 256) : val_main_v32 (F := Ideal) (up a0) (up a1) (ix4 r h m n) = ((Pr a0 a1 r h m n : ℝ) : EReal) := by
  rw [val_main_v32_apply, v28, val_main_v31_apply, show idx_main_v31 (ix4 r h m n) = ix4 r h m 0 from i4 rfl rfl rfl rfl, v30]
  exact div_real _ (Lr_ne a0 a1 r h m)

theorem v35 (m : Fin 256) : val_main_v35 (F := Ideal) (up a0) (up a1) (ix4 r h m 0)
    = ((1 / (Lr a0 a1 r h m * Lr a0 a1 r h m) : ℝ) : EReal) := by
  rw [val_main_v35_apply, val_main_v33_apply, v30, val_main_v34_apply, val_main_cst_5_apply]
  show Ideal.div (Ideal.ofBits .f32 0x3F800000#32) (_ * _ : EReal) = _
  rw [ofBits_one, ← EReal.coe_mul]
  exact div_real _ (mul_ne_zero (Lr_ne a0 a1 r h m) (Lr_ne a0 a1 r h m))

theorem v36 (d : Fin 128) (m : Fin 256) : val_main_v36 (F := Ideal) (up a0) (up a1) (up a2) (ix4 r h d m)
    = ((O (rows a0 r h) (rows a1 r h) (rows a2 r h) (Mx a0 a1 r h) m d : ℝ) : EReal) := by
  rw [val_main_v36_apply]
  refine (Finset.sum_congr rfl fun k _ => ?_).trans (Reals.coe_sum _ fun k => rows a2 r h k d * Pr a0 a1 r h m k)
  rw [show lidx_main_v36 (ix4 r h d m) k = ix4 k r h d from i4 rfl rfl rfl rfl,
    show ridx_main_v36 (ix4 r h d m) k = ix4 r h m k from i4 rfl rfl rfl rfl, v2, v32, EReal.coe_mul]

theorem v39 (m : Fin 256) : val_main_v39 (F := Ideal) (up a0) (up a1) (ix4 r h m 0)
    = ((lse (rows a0 r h) (rows a1 r h) (Mx a0 a1 r h) m : ℝ) : EReal) := by
  rw [val_main_v39_apply, val_main_v25_apply, show idx_main_v25 (ix4 r h m 0) = ix3 r h m from i3 rfl rfl rfl, v19,
    val_main_v38_apply, v30]
  refine (congrArg (fun z : EReal => ((Mx a0 a1 r h m : ℝ) : EReal) + z) (Ideal.log_coe (Lr a0 a1 r h m))).trans ?_
  show (_ + _ : EReal) = _
  rw [if_neg (not_le.mpr (L_pos _ _ _ m)), ← EReal.coe_add]; rfl

/-- The saved result of the forward pass, at row `m` and lane `d` of the residue and the head. -/
theorem v44 (m : Fin 256) (d : Fin 128) : val_main_v44 (F := Ideal) (up a0) (up a1) (up a2) (pos m r h d)
    = ((O (rows a0 r h) (rows a1 r h) (rows a2 r h) (Mx a0 a1 r h) m d : ℝ) : EReal) := by
  rw [val_main_v44_apply, show idx_main_v44 (pos m r h d) = ix4 m r h d from i4
      (by show ((m.val * 16 + r.val) * 512 + (h.val * 128 + d.val)) / 8192 = m.val; omega)
      (by show ((m.val * 16 + r.val) * 512 + (h.val * 128 + d.val)) / 512 % 16 = r.val; omega)
      (by show ((m.val * 16 + r.val) * 512 + (h.val * 128 + d.val)) / 128 % 4 = h.val; omega)
      (by show ((m.val * 16 + r.val) * 512 + (h.val * 128 + d.val)) % 128 = d.val; omega),
    val_main_v37_apply, show idx_main_v37 (ix4 m r h d) = ix4 r h d m from i4 rfl rfl rfl rfl, v36]

/-- The saved log-sum, the same in each lane. -/
theorem v45 (m : Fin 256) (d : Fin 128) : val_main_v45 (F := Ideal) (up a0) (up a1) (pos m r h d)
    = ((lse (rows a0 r h) (rows a1 r h) (Mx a0 a1 r h) m : ℝ) : EReal) := by
  rw [val_main_v45_apply, show idx_main_v45 (pos m r h d) = ix4 m r h d from i4
      (by show ((m.val * 16 + r.val) * 512 + (h.val * 128 + d.val)) / 8192 = m.val; omega)
      (by show ((m.val * 16 + r.val) * 512 + (h.val * 128 + d.val)) / 512 % 16 = r.val; omega)
      (by show ((m.val * 16 + r.val) * 512 + (h.val * 128 + d.val)) / 128 % 4 = h.val; omega)
      (by show ((m.val * 16 + r.val) * 512 + (h.val * 128 + d.val)) % 128 = d.val; omega),
    val_main_v43_apply, val_main_v42_apply, val_main_v41_apply, val_main_v40_apply,
    show idx_main_v40 (idx_main_v41 (idx_main_v42 (idx_main_v43 (ix4 m r h d)))) = ix4 r h m 0 from i4
      (by show ((r.val * 4 + h.val) * 256 + m.val) / 1024 = r.val; omega)
      (by show ((r.val * 4 + h.val) * 256 + m.val) / 256 % 4 = h.val; omega)
      (by show ((r.val * 4 + h.val) * 256 + m.val) / 1 % 256 = m.val; omega) rfl, v39]

/-! ## The cotangents -/

theorem v52 (m : Fin 256) : val_main_v52 (F := Ideal) (up a4) (ix4 r h m 0) = ((dl (rows a4 r h) m : ℝ) : EReal) := by
  rw [val_main_v52_apply, val_main_v51_apply,
    show idx_main_v51 (idx_main_v52 (ix4 r h m 0)) = ix3 m r h from i3 rfl rfl rfl, val_main_v50_apply]
  refine (zero_word _).trans ((Fin.sum_univ_one _).trans ?_)
  rw [val_main_v49_apply, show idx_main_v49 (idx_main_v50 (ix3 m r h) 0) = ix3 m r h from i3 rfl rfl rfl, val_main_v48_apply]
  refine (zero_word _).trans ((Finset.sum_congr rfl fun k _ => ?_).trans (Reals.coe_sum _ fun k => rows a4 r h m k))
  rw [show idx_main_v48 (ix3 m r h) k = ix4 m r h k from i4 rfl rfl rfl rfl, v46]

theorem v54 (d : Fin 128) (m : Fin 256) : val_main_v54 (F := Ideal) (up a3) (ix4 r h d m) = ((rows a3 r h m d : ℝ) : EReal) := by
  rw [val_main_v54_apply, show idx_main_v54 (ix4 r h d m) = ix4 m r h d from i4 rfl rfl rfl rfl, v47]

theorem v55 (m n : Fin 256) : val_main_v55 (F := Ideal) (up a2) (up a3) (ix4 r h m n)
    = ((DP (rows a2 r h) (rows a3 r h) m n : ℝ) : EReal) := by
  rw [val_main_v55_apply]
  refine (Finset.sum_congr rfl fun k _ => ?_).trans (Reals.coe_sum _ fun k => rows a3 r h m k * rows a2 r h n k)
  rw [show lidx_main_v55 (ix4 r h m n) k = ix4 r h k m from i4 rfl rfl rfl rfl,
    show ridx_main_v55 (ix4 r h m n) k = ix4 n r h k from i4 rfl rfl rfl rfl, v54, v2, EReal.coe_mul]

theorem v56 (d : Fin 128) (n : Fin 256) : val_main_v56 (F := Ideal) (up a0) (up a1) (up a3) (ix4 r h d n)
    = ((dv (rows a0 r h) (rows a1 r h) (rows a3 r h) (Mx a0 a1 r h) n d : ℝ) : EReal) := by
  rw [val_main_v56_apply]
  refine (Finset.sum_congr rfl fun k _ => ?_).trans (Reals.coe_sum _ fun k => rows a3 r h k d * Pr a0 a1 r h k n)
  rw [show lidx_main_v56 (ix4 r h d n) k = ix4 r h d k from i4 rfl rfl rfl rfl,
    show ridx_main_v56 (ix4 r h d n) k = ix4 r h k n from i4 rfl rfl rfl rfl, v54, v32, EReal.coe_mul]

theorem v60 (m n : Fin 256) : val_main_v60 (F := Ideal) (up a0) (up a1) (up a2) (up a3) (ix4 r h m n)
    = ((DP (rows a2 r h) (rows a3 r h) m n * (1 / (Lr a0 a1 r h m * Lr a0 a1 r h m)) * Er a0 a1 r h m n : ℝ) : EReal) := by
  rw [val_main_v60_apply, val_main_v59_apply, v55, v28, val_main_v58_apply,
    show idx_main_v58 (ix4 r h m n) = ix4 r h m 0 from i4 rfl rfl rfl rfl, v35]
  show (_ * _ * _ : EReal) = _
  rw [← EReal.coe_mul, ← EReal.coe_mul]

theorem v61 (m : Fin 256) : val_main_v61 (F := Ideal) (up a0) (up a1) (up a2) (up a3) (ix3 r h m)
    = ((∑ n, DP (rows a2 r h) (rows a3 r h) m n * (1 / (Lr a0 a1 r h m * Lr a0 a1 r h m)) * Er a0 a1 r h m n : ℝ) : EReal) := by
  rw [val_main_v61_apply, Finset.sum_congr rfl fun k _ => (congrArg _ (show idx_main_v61 (ix3 r h m) k = ix4 r h m k from i4 rfl rfl rfl rfl)).trans
    (v60 a0 a1 a2 a3 r h m k), Reals.coe_sum]
  exact zero_word _

theorem v64 (m : Fin 256) : val_main_v64 (F := Ideal) (up a0) (up a1) (up a2) (up a3) (up a4) (ix4 r h m 0)
    = ((dl (rows a4 r h) m / Lr a0 a1 r h m
        + -∑ n, DP (rows a2 r h) (rows a3 r h) m n * (1 / (Lr a0 a1 r h m * Lr a0 a1 r h m)) * Er a0 a1 r h m n : ℝ) : EReal) := by
  rw [val_main_v64_apply, val_main_v53_apply, v52, v30, val_main_v63_apply, val_main_v62_apply,
    show idx_main_v62 (ix4 r h m 0) = ix3 r h m from i3
      (by show (((r.val * 4 + h.val) * 256 + m.val) * 1 + 0) / 1024 = r.val; omega)
      (by show (((r.val * 4 + h.val) * 256 + m.val) * 1 + 0) / 256 % 4 = h.val; omega)
      (by show (((r.val * 4 + h.val) * 256 + m.val) * 1 + 0) % 256 = m.val; omega), v61]
  show (Ideal.div _ _ + -_ : EReal) = _
  rw [div_real _ (Lr_ne a0 a1 r h m), ← EReal.coe_neg, ← EReal.coe_add]

/-- The derivative of the row's exponentials, times the exponential. -/
theorem v70 (m n : Fin 256) : val_main_v70 (F := Ideal) (up a0) (up a1) (up a2) (up a3) (up a4) (ix4 r h m n)
    = ((R (rows a0 r h) (rows a1 r h) (rows a2 r h) (rows a3 r h) (rows a4 r h) (Mx a0 a1 r h) m n : ℝ) : EReal) := by
  rw [val_main_v70_apply, v28, val_main_v69_apply, val_main_v66_apply, v55, val_main_v65_apply,
    show idx_main_v65 (ix4 r h m n) = ix4 r h m 0 from i4 rfl rfl rfl rfl, v30, val_main_v68_apply,
    show idx_main_v68 (ix4 r h m n) = ix3 r h m from i3 rfl rfl rfl, val_main_v67_apply, Fin.sum_univ_one,
    show idx_main_v67 (ix3 r h m) 0 = ix4 r h m 0 from i4 rfl rfl rfl rfl, v64]
  show ((Ideal.div _ _ + (Ideal.ofBits .f32 0x00000000#32 + _)) * _ : EReal) = _
  rw [zero_word, div_real _ (Lr_ne a0 a1 r h m), ← EReal.coe_add, ← EReal.coe_mul]; rfl

/-! ## The row's maximum has no part in the gradient -/

theorem v75 (m : Fin 256) : val_main_v75 (F := Ideal) (up a0) (up a1) (up a2) (up a3) (up a4) (ix3 r h m) = (0 : EReal) := by
  rw [val_main_v75_apply, Fin.sum_univ_one, show idx_main_v75 (ix3 r h m) 0 = ix4 r h m 0 from i4 rfl rfl rfl rfl,
    val_main_v74_apply, v52, val_main_v73_apply, show idx_main_v73 (ix4 r h m 0) = ix3 r h m from i3
      (by show (((r.val * 4 + h.val) * 256 + m.val) * 1 + 0) / 1024 = r.val; omega)
      (by show (((r.val * 4 + h.val) * 256 + m.val) * 1 + 0) / 256 % 4 = h.val; omega)
      (by show (((r.val * 4 + h.val) * 256 + m.val) * 1 + 0) % 256 = m.val; omega), val_main_v72_apply]
  have e : ∀ k : Fin 256, val_main_v71 (F := Ideal) (up a0) (up a1) (up a2) (up a3) (up a4) (idx_main_v72 (ix3 r h m) k)
      = ((-R (rows a0 r h) (rows a1 r h) (rows a2 r h) (rows a3 r h) (rows a4 r h) (Mx a0 a1 r h) m k : ℝ) : EReal) := fun k => by
    rw [show idx_main_v72 (ix3 r h m) k = ix4 r h m k from i4 rfl rfl rfl rfl, val_main_v71_apply, v70, EReal.coe_neg]; rfl
  rw [Finset.sum_congr rfl fun k _ => e k, Reals.coe_sum]
  show (Ideal.ofBits .f32 0x00000000#32 + (_ + (Ideal.ofBits .f32 0x00000000#32 + _)) : EReal) = _
  rw [zero_word, zero_word, Finset.sum_neg_distrib, sum_R, ← EReal.coe_add, add_neg_cancel, EReal.coe_zero]

/-- The indicator of a row's maximum is zero or one. -/
theorem v23 (i : S16x4x256x256.Idx) : val_main_v23 (F := Ideal) (up a0) (up a1) i = (0 : EReal)
    ∨ val_main_v23 (F := Ideal) (up a0) (up a1) i = (1 : EReal) := by
  rw [val_main_v23_apply]
  generalize val_main_v22 (F := Ideal) (up a0) (up a1) i = b
  have hb : b = 0#1 ∨ b = 1#1 := by have : ∀ b : BitVec 1, b = 0#1 ∨ b = 1#1 := by decide
                                    exact this b
  rcases hb with rfl | rfl
  · left; show (((0#1).toNat : ℝ) : EReal) = 0; simp
  · right; show (((1#1).toNat : ℝ) : EReal) = 1; simp

theorem v78 (m n : Fin 256) : val_main_v78 (F := Ideal) (up a0) (up a1) (up a2) (up a3) (up a4) (ix4 r h m n) = (0 : EReal) := by
  rw [val_main_v78_apply, val_main_v77_apply, show idx_main_v77 (ix4 r h m n) = ix3 r h m from i3 rfl rfl rfl,
    val_main_v76_apply, v75]
  show (Ideal.div 0 (val_main_v24 (F := Ideal) (up a0) (up a1) (ix3 r h m)) * val_main_v23 (F := Ideal) (up a0) (up a1) (ix4 r h m n) : EReal) = 0
  rcases v23 a0 a1 (ix4 r h m n) with e | e
  · rw [e, mul_zero]
  · have hc : val_main_v24 (F := Ideal) (up a0) (up a1) (ix3 r h m) ≠ (0 : EReal) := by
      rw [val_main_v24_apply]
      show (Ideal.ofBits .f32 0x00000000#32 + _ : EReal) ≠ 0
      rw [zero_word]
      refine (lt_of_lt_of_le zero_lt_one ?_).ne'
      have hs := Finset.single_le_sum (f := fun k : Fin 256 => (val_main_v23 (F := Ideal) (up a0) (up a1) (idx_main_v24 (ix3 r h m) k) : EReal))
        (s := Finset.univ) (fun k _ => by
          rcases v23 a0 a1 (idx_main_v24 (ix3 r h m) k) with e' | e' <;> rw [e']
          exact zero_le_one) (Finset.mem_univ n)
      refine le_trans (le_of_eq ?_) hs
      show (1 : EReal) = val_main_v23 (F := Ideal) (up a0) (up a1) (idx_main_v24 (ix3 r h m) n)
      rw [show idx_main_v24 (ix3 r h m) n = ix4 r h m n from i4 rfl rfl rfl rfl, e]
    rw [Ideal.div, if_neg hc, zero_mul, zero_mul]

/-! ## The three gradients -/

theorem v82 (m n : Fin 256) : val_main_v82 (F := Ideal) (up a0) (up a1) (up a2) (up a3) (up a4) (ix4 r h m n)
    = ((dS (rows a0 r h) (rows a1 r h) (rows a2 r h) (rows a3 r h) (rows a4 r h) (Mx a0 a1 r h) m n * s : ℝ) : EReal) := by
  rw [val_main_v82_apply, val_main_v80_apply, v18_1, val_main_v79_apply, v70, v78, val_main_v81_apply, val_main_cst_12_apply, R_eq]
  have hs : ∀ x y : EReal, x = y → (x * Ideal.ofBits .f32 0x3DB504F3#32 : EReal) = y * (s : EReal) := fun x y e => by rw [e, ofBits_s]
  refine (hs _ _ ?_).trans (EReal.coe_mul _ _).symm
  by_cases hb : band m n
  · rw [if_pos hb]
    exact add_zero (_ : EReal)
  · rw [if_neg hb, dS_of_not _ _ _ _ _ _ m n hb, EReal.coe_zero]
    show val_main_call1_v0 (F := Ideal) (ix4 r h m n) = (0 : EReal)
    rw [val_main_call1_v0_apply]
    show Ideal.ofBits .f32 0x00000000#32 = (0 : EReal)
    rw [ofBits_zero, EReal.coe_zero]

theorem v84 (n : Fin 256) (d : Fin 128) : val_main_v84 (F := Ideal) (up a0) (up a1) (up a2) (up a3) (up a4) (ix4 n r h d)
    = ((dk (rows a0 r h) (rows a1 r h) (rows a2 r h) (rows a3 r h) (rows a4 r h) (Mx a0 a1 r h) n d : ℝ) : EReal) := by
  rw [val_main_v84_apply, show idx_main_v84 (ix4 n r h d) = ix4 r h n d from i4 rfl rfl rfl rfl, val_main_v83_apply]
  refine (Finset.sum_congr rfl fun k _ => ?_).trans (Reals.coe_sum _ fun k =>
    dS (rows a0 r h) (rows a1 r h) (rows a2 r h) (rows a3 r h) (rows a4 r h) (Mx a0 a1 r h) k n * s * rows a0 r h k d)
  rw [show lidx_main_v83 (ix4 r h n d) k = ix4 r h k n from i4 rfl rfl rfl rfl,
    show ridx_main_v83 (ix4 r h n d) k = ix4 k r h d from i4 rfl rfl rfl rfl, v82, v0, EReal.coe_mul (_ * _)]

theorem v86 (m : Fin 256) (d : Fin 128) : val_main_v86 (F := Ideal) (up a0) (up a1) (up a2) (up a3) (up a4) (ix4 m r h d)
    = ((dq (rows a0 r h) (rows a1 r h) (rows a2 r h) (rows a3 r h) (rows a4 r h) (Mx a0 a1 r h) m d : ℝ) : EReal) := by
  rw [val_main_v86_apply, show idx_main_v86 (ix4 m r h d) = ix4 r h m d from i4 rfl rfl rfl rfl, val_main_v85_apply]
  refine (Finset.sum_congr rfl fun k _ => ?_).trans (Reals.coe_sum _ fun k =>
    dS (rows a0 r h) (rows a1 r h) (rows a2 r h) (rows a3 r h) (rows a4 r h) (Mx a0 a1 r h) m k * s * rows a1 r h k d)
  rw [show lidx_main_v85 (ix4 r h m d) k = ix4 r h m k from i4 rfl rfl rfl rfl,
    show ridx_main_v85 (ix4 r h m d) k = ix4 k r h d from i4 rfl rfl rfl rfl, v82, v1, EReal.coe_mul (_ * _)]

theorem v57 (n : Fin 256) (d : Fin 128) : val_main_v57 (F := Ideal) (up a0) (up a1) (up a3) (ix4 n r h d)
    = ((dv (rows a0 r h) (rows a1 r h) (rows a3 r h) (Mx a0 a1 r h) n d : ℝ) : EReal) := by
  rw [val_main_v57_apply, show idx_main_v57 (ix4 n r h d) = ix4 r h d n from i4 rfl rfl rfl rfl, v56]

/-- Where row `m` of residue `r`, lane `d` of head `h`, lies in an array of 256 rows. -/
def wide (m : Fin 256) (r : Fin 16) (h : Fin 4) (d : Fin 128) : S256x8192.Idx :=
  ix2 m ⟨(r.val * 4 + h.val) * 128 + d.val, by omega⟩

theorem v90 (m : Fin 256) (d : Fin 128) : val_main_v90 (F := Ideal) (up a0) (up a1) (up a2) (up a3) (up a4) (wide m r h d)
    = ((dq (rows a0 r h) (rows a1 r h) (rows a2 r h) (rows a3 r h) (rows a4 r h) (Mx a0 a1 r h) m d : ℝ) : EReal) := by
  rw [val_main_v90_apply, val_main_v89_apply, show idx_main_v89 (idx_main_v90 (wide m r h d)) = ix4 m r h d from ?_, v86]
  refine i4 ?_ ?_ ?_ ?_
  · show ((m.val * 8192 + ((r.val * 4 + h.val) * 128 + d.val)) / 512 * 512 + (m.val * 8192 + ((r.val * 4 + h.val) * 128 + d.val)) % 512) / 8192 = m.val; omega
  · show ((m.val * 8192 + ((r.val * 4 + h.val) * 128 + d.val)) / 512 * 512 + (m.val * 8192 + ((r.val * 4 + h.val) * 128 + d.val)) % 512) / 512 % 16 = r.val; omega
  · show ((m.val * 8192 + ((r.val * 4 + h.val) * 128 + d.val)) / 512 * 512 + (m.val * 8192 + ((r.val * 4 + h.val) * 128 + d.val)) % 512) / 128 % 4 = h.val; omega
  · show ((m.val * 8192 + ((r.val * 4 + h.val) * 128 + d.val)) / 512 * 512 + (m.val * 8192 + ((r.val * 4 + h.val) * 128 + d.val)) % 512) % 128 = d.val; omega

theorem v91 (m : Fin 256) (d : Fin 128) : val_main_v91 (F := Ideal) (up a0) (up a1) (up a2) (up a3) (up a4) (wide m r h d)
    = ((dk (rows a0 r h) (rows a1 r h) (rows a2 r h) (rows a3 r h) (rows a4 r h) (Mx a0 a1 r h) m d : ℝ) : EReal) := by
  rw [val_main_v91_apply, val_main_v88_apply, show idx_main_v88 (idx_main_v91 (wide m r h d)) = ix4 m r h d from ?_, v84]
  refine i4 ?_ ?_ ?_ ?_
  · show ((m.val * 8192 + ((r.val * 4 + h.val) * 128 + d.val)) / 512 * 512 + (m.val * 8192 + ((r.val * 4 + h.val) * 128 + d.val)) % 512) / 8192 = m.val; omega
  · show ((m.val * 8192 + ((r.val * 4 + h.val) * 128 + d.val)) / 512 * 512 + (m.val * 8192 + ((r.val * 4 + h.val) * 128 + d.val)) % 512) / 512 % 16 = r.val; omega
  · show ((m.val * 8192 + ((r.val * 4 + h.val) * 128 + d.val)) / 512 * 512 + (m.val * 8192 + ((r.val * 4 + h.val) * 128 + d.val)) % 512) / 128 % 4 = h.val; omega
  · show ((m.val * 8192 + ((r.val * 4 + h.val) * 128 + d.val)) / 512 * 512 + (m.val * 8192 + ((r.val * 4 + h.val) * 128 + d.val)) % 512) % 128 = d.val; omega

theorem v92 (m : Fin 256) (d : Fin 128) : val_main_v92 (F := Ideal) (up a0) (up a1) (up a3) (wide m r h d)
    = ((dv (rows a0 r h) (rows a1 r h) (rows a3 r h) (Mx a0 a1 r h) m d : ℝ) : EReal) := by
  rw [val_main_v92_apply, val_main_v87_apply, show idx_main_v87 (idx_main_v92 (wide m r h d)) = ix4 m r h d from ?_, v57]
  refine i4 ?_ ?_ ?_ ?_
  · show ((m.val * 8192 + ((r.val * 4 + h.val) * 128 + d.val)) / 512 * 512 + (m.val * 8192 + ((r.val * 4 + h.val) * 128 + d.val)) % 512) / 8192 = m.val; omega
  · show ((m.val * 8192 + ((r.val * 4 + h.val) * 128 + d.val)) / 512 * 512 + (m.val * 8192 + ((r.val * 4 + h.val) * 128 + d.val)) % 512) / 512 % 16 = r.val; omega
  · show ((m.val * 8192 + ((r.val * 4 + h.val) * 128 + d.val)) / 512 * 512 + (m.val * 8192 + ((r.val * 4 + h.val) * 128 + d.val)) % 512) / 128 % 4 = h.val; omega
  · show ((m.val * 8192 + ((r.val * 4 + h.val) * 128 + d.val)) / 512 * 512 + (m.val * 8192 + ((r.val * 4 + h.val) * 128 + d.val)) % 512) % 128 = d.val; omega

end Cert.DilRef
-- ==== Proof.DilArr.lean ====
/-
  The arrays that the dilated branch's backward call gets: its arguments and the reference's saved result and
  log-sum, seen as rows of one residue.
-/
module

public import proofs.«01_k».proof.Defs
public import proofs.«01_k».proof.Proof.DilBlk
public import proofs.«01_k».proof.Proof.DilRef

@[expose] public section

set_option maxRecDepth 16384

noncomputable section

namespace Cert.Dil

open Idealize.ShloMosaic hiding ix0 ix1 ix2 ix3 ix4 eq_ix2
open Idealize.ShloMosaic.TcCoe Idealize.SL.Sem Cert.Reals Cert.DilReal Cert.DilBlk
open Idealize.ShloMosaic.ValueIdx
open Cert.KernelIdeal Cert.KernelIdeal.Gen Cert.DilRunIdeal
open Cert.DilRef (up rows pos wide Mx)

/-! ## The arrays that the call gets -/

variable (m : (ℓ : Loc nD τ sig) → Buf (Elt Ideal) ℓ)

abbrev X0 (c : Dev nD) : FVec Ideal S4096x512 .f32 := m ((c : Thread nD τ).loc main_arg0)
abbrev X1 (c : Dev nD) : FVec Ideal S4096x512 .f32 := m ((c : Thread nD τ).loc main_arg1)
abbrev X2 (c : Dev nD) : FVec Ideal S4096x512 .f32 := m ((c : Thread nD τ).loc main_arg2)
abbrev X3 (c : Dev nD) : FVec Ideal S4096x512 .f32 := m ((c : Thread nD τ).loc main_arg3)
abbrev X4 (c : Dev nD) : FVec Ideal S4096x512 .f32 := m ((c : Thread nD τ).loc main_arg4)

/-- An array of 4096 rows seen as one of 256 rows. -/
abbrev relay (y : FVec Ideal S4096x512 .f32) : FVec Ideal S256x8192 .f32 := shapeCast S256x8192 y shapeCasts_S4096x512_S256x8192

theorem relay_apply (y : FVec Ideal S4096x512 .f32) (n : Fin 256) (r : Fin 16) (h : Fin 4) (d : Fin 128) :
    relay y (wide n r h d) = y (pos n r h d) := by
  refine shapeCast_apply y shapeCasts_S4096x512_S256x8192 (wide n r h d) (pos n r h d) ?_
  rw [Shape.rowMajor_val_two, Shape.rowMajor_val_two]
  show (n.val * 16 + r.val) * 512 + (h.val * 128 + d.val) = n.val * 8192 + ((r.val * 4 + h.val) * 128 + d.val)
  omega

set_option maxHeartbeats 800000 in
theorem V_40 (c : Dev nD) (i : S256x8192.Idx) : (V m c main_v40 : FVec Ideal S256x8192 .bf16) i = relay (X0 m c) i := by
  have e : (V m c main_v40 : FVec Ideal S256x8192 .bf16) = shapeCast S256x8192 (truncf (F := Ideal) .bf16 (X0 m c) bitsLt_bf16_f32) shapeCasts_S4096x512_S256x8192 := by
    simp only [V, hostOps0, hostOps0_1, hostOps0_2, List.flatten_cons, List.flatten_nil, List.append_nil, List.cons_append, List.nil_append,
      StableHlo.TRef.binary, StableHlo.TRef.nullary, StableHlo.TRef.unary, StableHlo.TRef.ternary, StableHlo.TRef.toBuf, StableHlo.TRef.ofBuf, cast_eq]
    after_results_simp <;> rfl
  rw [e]; rfl
set_option maxHeartbeats 800000 in
theorem V_41 (c : Dev nD) (i : S256x8192.Idx) : (V m c main_v41 : FVec Ideal S256x8192 .bf16) i = relay (X1 m c) i := by
  have e : (V m c main_v41 : FVec Ideal S256x8192 .bf16) = shapeCast S256x8192 (truncf (F := Ideal) .bf16 (X1 m c) bitsLt_bf16_f32) shapeCasts_S4096x512_S256x8192 := by
    simp only [V, hostOps0, hostOps0_1, hostOps0_2, List.flatten_cons, List.flatten_nil, List.append_nil, List.cons_append, List.nil_append,
      StableHlo.TRef.binary, StableHlo.TRef.nullary, StableHlo.TRef.unary, StableHlo.TRef.ternary, StableHlo.TRef.toBuf, StableHlo.TRef.ofBuf, cast_eq]
    after_results_simp <;> rfl
  rw [e]; rfl
set_option maxHeartbeats 800000 in
theorem V_42 (c : Dev nD) : (V m c main_v42 : FVec Ideal S256x8192 .f32) = relay (X2 m c) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl
set_option maxHeartbeats 800000 in
theorem V_43 (c : Dev nD) : (V m c main_v43 : FVec Ideal S256x8192 .f32) = relay (Cert.ReferenceIdeal.Read.val_main_v44 (F := Ideal) (X0 m c) (X1 m c) (X2 m c)) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl
set_option maxHeartbeats 800000 in
theorem V_44 (c : Dev nD) : (V m c main_v44 : FVec Ideal S256x8192 .f32) = relay (Cert.ReferenceIdeal.Read.val_main_v45 (F := Ideal) (X0 m c) (X1 m c)) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl
set_option maxHeartbeats 800000 in
theorem V_45 (c : Dev nD) : (V m c main_v45 : FVec Ideal S256x8192 .f32) = relay (X3 m c) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl
set_option maxHeartbeats 800000 in
theorem V_46 (c : Dev nD) : (V m c main_v46 : FVec Ideal S256x8192 .f32) = relay (X4 m c) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

end Cert.Dil

end
-- ==== Proof.Dil.lean ====
/-
  The dilated branch's backward call, over the reals: the arrays that the call returns are the derivative of the
  branch's result and log-sum in its queries, keys and values.
-/
module

public import proofs.«01_k».proof.Defs
public import proofs.«01_k».proof.Proof.DilArr
public import proofs.«01_k».proof.Proof.DilBlk
public import proofs.«01_k».proof.Proof.DilRef
public import proofs.«01_k».proof.Proof.Gen.Pre_finite

@[expose] public section

set_option maxRecDepth 16384

noncomputable section

namespace Cert.Dil

open Idealize.ShloMosaic hiding ix0 ix1 ix2 ix3 ix4 eq_ix2
open Idealize.ShloMosaic.TcCoe Idealize.SL.Sem Cert.Reals Cert.DilReal Cert.DilBlk
open Idealize.ShloMosaic.ValueIdx
open Cert.KernelIdeal Cert.KernelIdeal.Gen Cert.DilRunIdeal
open Cert.DilRef (up rows pos wide Mx)

/-! ## The precondition -/

/-- Where the precondition holds, every entry of every argument is a real. -/
theorem reals_of_pre (x0 x1 x2 x3 x4 : FVec Ideal S4096x512 .f32) (h : Cert.Pre_finite.fn (F := Ideal) x0 x1 x2 x3 x4 = fun _ => 1#1) :
    (∀ i, IsReal (x0 i)) ∧ (∀ i, IsReal (x1 i)) ∧ (∀ i, IsReal (x2 i)) ∧ (∀ i, IsReal (x3 i)) ∧ ∀ i, IsReal (x4 i) := by
  have e := congrFun h ix0
  unfold Cert.Pre_finite.fn Cert.Pre_finite.fn_part1 at e
  dsimp only at e
  obtain ⟨e, e4⟩ := both_of_andi _ _ _ e
  obtain ⟨e, e3⟩ := both_of_andi _ _ _ e
  obtain ⟨e, e2⟩ := both_of_andi _ _ _ e
  obtain ⟨e0, e1⟩ := both_of_andi _ _ _ e
  exact ⟨isReal_of_all _ _ (fun _ => rfl) _ _ _ _ e0, isReal_of_all _ _ (fun _ => rfl) _ _ _ _ e1,
    isReal_of_all _ _ (fun _ => rfl) _ _ _ _ e2, isReal_of_all _ _ (fun _ => rfl) _ _ _ _ e3,
    isReal_of_all _ _ (fun _ => rfl) _ _ _ _ e4⟩

/-- An array of reals is the image of one. -/
theorem exists_up (x : FVec Ideal S4096x512 .f32) (h : ∀ i, IsReal (x i)) : ∃ a, x = up a := by
  choose a ha using h
  exact ⟨a, funext ha⟩

variable (m : (ℓ : Loc nD τ sig) → Buf (Elt Ideal) ℓ)

/-! ## Where a point's blocks lie -/

/-- Every window's block at point `t` is column block `t`. -/
theorem idx_facts : ∀ t : Fin cfg0.N,
    (win0_0.index t 0 = 0 ∧ win0_0.index t 1 = t.val)
    ∧ (win0_1.index t 0 = 0 ∧ win0_1.index t 1 = t.val)
    ∧ (win0_2.index t 0 = 0 ∧ win0_2.index t 1 = t.val)
    ∧ (win0_3.index t 0 = 0 ∧ win0_3.index t 1 = t.val)
    ∧ (win0_4.index t 0 = 0 ∧ win0_4.index t 1 = t.val)
    ∧ (win0_5.index t 0 = 0 ∧ win0_5.index t 1 = t.val)
    ∧ (win0_6.index t 0 = 0 ∧ win0_6.index t 1 = t.val)
    ∧ (win0_7.index t 0 = 0 ∧ win0_7.index t 1 = t.val)
    ∧ (win0_8.index t 0 = 0 ∧ win0_8.index t 1 = t.val)
    ∧ (win0_9.index t 0 = 0 ∧ win0_9.index t 1 = t.val) :=
  (by decide +kernel : ∀ t : Fin grid0.N, _)

theorem lt_N (t : Fin cfg0.N) : t.val < 64 := lt_of_lt_of_eq t.isLt N_0

/-- The residue and the head of point `t`. -/
def rr (t : Fin cfg0.N) : Fin 16 := ⟨t.val / 4, by have := lt_N t; omega⟩
def hh (t : Fin cfg0.N) : Fin 4 := ⟨t.val % 4, by omega⟩

theorem rr_hh (t : Fin cfg0.N) : (rr t).val * 4 + (hh t).val = t.val := by
  show t.val / 4 * 4 + t.val % 4 = t.val; omega

theorem emb0 (t : Fin cfg0.N) (n : Fin 256) (d : Fin 128) (G : FVec Ideal S256x8192 .bf16) :
    ((cfg0.win 0).blk t).view.read (Elt Ideal) G (ix2 n d) = G (wide n (rr t) (hh t) d) := by
  have h := idx_facts t
  have e := rr_hh t
  refine congrArg G (funext fun a => Fin.ext ?_)
  match a with
  | ⟨0, _⟩ => show win0_0.index t 0 * 256 + 1 * n.val = n.val; rw [h.1.1]; omega
  | ⟨1, _⟩ => show win0_0.index t 1 * 128 + 1 * d.val = ((rr t).val * 4 + (hh t).val) * 128 + d.val; rw [h.1.2, e]; omega
theorem blk_0 (c : Dev nD) (t : Fin cfg0.N) (n : Fin 256) (d : Fin 128) :
    (iblk m c 0 t : FVec Ideal S256x128 .bf16) (ix2 n d) = (V m c main_v40 : FVec Ideal S256x8192 .bf16) (wide n (rr t) (hh t) d) :=
  emb0 t n d (V m c main_v40)
theorem emb1 (t : Fin cfg0.N) (n : Fin 256) (d : Fin 128) (G : FVec Ideal S256x8192 .bf16) :
    ((cfg0.win 1).blk t).view.read (Elt Ideal) G (ix2 n d) = G (wide n (rr t) (hh t) d) := by
  have h := idx_facts t
  have e := rr_hh t
  refine congrArg G (funext fun a => Fin.ext ?_)
  match a with
  | ⟨0, _⟩ => show win0_1.index t 0 * 256 + 1 * n.val = n.val; rw [h.2.1.1]; omega
  | ⟨1, _⟩ => show win0_1.index t 1 * 128 + 1 * d.val = ((rr t).val * 4 + (hh t).val) * 128 + d.val; rw [h.2.1.2, e]; omega
theorem blk_1 (c : Dev nD) (t : Fin cfg0.N) (n : Fin 256) (d : Fin 128) :
    (iblk m c 1 t : FVec Ideal S256x128 .bf16) (ix2 n d) = (V m c main_v41 : FVec Ideal S256x8192 .bf16) (wide n (rr t) (hh t) d) :=
  emb1 t n d (V m c main_v41)
theorem emb2 (t : Fin cfg0.N) (n : Fin 256) (d : Fin 128) (G : FVec Ideal S256x8192 .f32) :
    ((cfg0.win 2).blk t).view.read (Elt Ideal) G (ix2 n d) = G (wide n (rr t) (hh t) d) := by
  have h := idx_facts t
  have e := rr_hh t
  refine congrArg G (funext fun a => Fin.ext ?_)
  match a with
  | ⟨0, _⟩ => show win0_2.index t 0 * 256 + 1 * n.val = n.val; rw [h.2.2.1.1]; omega
  | ⟨1, _⟩ => show win0_2.index t 1 * 128 + 1 * d.val = ((rr t).val * 4 + (hh t).val) * 128 + d.val; rw [h.2.2.1.2, e]; omega
theorem blk_2 (c : Dev nD) (t : Fin cfg0.N) (n : Fin 256) (d : Fin 128) :
    (iblk m c 2 t : FVec Ideal S256x128 .f32) (ix2 n d) = (V m c main_v42 : FVec Ideal S256x8192 .f32) (wide n (rr t) (hh t) d) :=
  emb2 t n d (V m c main_v42)
theorem emb3 (t : Fin cfg0.N) (n : Fin 256) (d : Fin 128) (G : FVec Ideal S256x8192 .f32) :
    ((cfg0.win 3).blk t).view.read (Elt Ideal) G (ix2 n d) = G (wide n (rr t) (hh t) d) := by
  have h := idx_facts t
  have e := rr_hh t
  refine congrArg G (funext fun a => Fin.ext ?_)
  match a with
  | ⟨0, _⟩ => show win0_3.index t 0 * 256 + 1 * n.val = n.val; rw [h.2.2.2.1.1]; omega
  | ⟨1, _⟩ => show win0_3.index t 1 * 128 + 1 * d.val = ((rr t).val * 4 + (hh t).val) * 128 + d.val; rw [h.2.2.2.1.2, e]; omega
theorem blk_3 (c : Dev nD) (t : Fin cfg0.N) (n : Fin 256) (d : Fin 128) :
    (iblk m c 3 t : FVec Ideal S256x128 .f32) (ix2 n d) = (V m c main_v43 : FVec Ideal S256x8192 .f32) (wide n (rr t) (hh t) d) :=
  emb3 t n d (V m c main_v43)
theorem emb4 (t : Fin cfg0.N) (n : Fin 256) (d : Fin 128) (G : FVec Ideal S256x8192 .f32) :
    ((cfg0.win 4).blk t).view.read (Elt Ideal) G (ix2 n d) = G (wide n (rr t) (hh t) d) := by
  have h := idx_facts t
  have e := rr_hh t
  refine congrArg G (funext fun a => Fin.ext ?_)
  match a with
  | ⟨0, _⟩ => show win0_4.index t 0 * 256 + 1 * n.val = n.val; rw [h.2.2.2.2.1.1]; omega
  | ⟨1, _⟩ => show win0_4.index t 1 * 128 + 1 * d.val = ((rr t).val * 4 + (hh t).val) * 128 + d.val; rw [h.2.2.2.2.1.2, e]; omega
theorem blk_4 (c : Dev nD) (t : Fin cfg0.N) (n : Fin 256) (d : Fin 128) :
    (iblk m c 4 t : FVec Ideal S256x128 .f32) (ix2 n d) = (V m c main_v44 : FVec Ideal S256x8192 .f32) (wide n (rr t) (hh t) d) :=
  emb4 t n d (V m c main_v44)
theorem emb5 (t : Fin cfg0.N) (n : Fin 256) (d : Fin 128) (G : FVec Ideal S256x8192 .f32) :
    ((cfg0.win 5).blk t).view.read (Elt Ideal) G (ix2 n d) = G (wide n (rr t) (hh t) d) := by
  have h := idx_facts t
  have e := rr_hh t
  refine congrArg G (funext fun a => Fin.ext ?_)
  match a with
  | ⟨0, _⟩ => show win0_5.index t 0 * 256 + 1 * n.val = n.val; rw [h.2.2.2.2.2.1.1]; omega
  | ⟨1, _⟩ => show win0_5.index t 1 * 128 + 1 * d.val = ((rr t).val * 4 + (hh t).val) * 128 + d.val; rw [h.2.2.2.2.2.1.2, e]; omega
theorem blk_5 (c : Dev nD) (t : Fin cfg0.N) (n : Fin 256) (d : Fin 128) :
    (iblk m c 5 t : FVec Ideal S256x128 .f32) (ix2 n d) = (V m c main_v45 : FVec Ideal S256x8192 .f32) (wide n (rr t) (hh t) d) :=
  emb5 t n d (V m c main_v45)
theorem emb6 (t : Fin cfg0.N) (n : Fin 256) (d : Fin 128) (G : FVec Ideal S256x8192 .f32) :
    ((cfg0.win 6).blk t).view.read (Elt Ideal) G (ix2 n d) = G (wide n (rr t) (hh t) d) := by
  have h := idx_facts t
  have e := rr_hh t
  refine congrArg G (funext fun a => Fin.ext ?_)
  match a with
  | ⟨0, _⟩ => show win0_6.index t 0 * 256 + 1 * n.val = n.val; rw [h.2.2.2.2.2.2.1.1]; omega
  | ⟨1, _⟩ => show win0_6.index t 1 * 128 + 1 * d.val = ((rr t).val * 4 + (hh t).val) * 128 + d.val; rw [h.2.2.2.2.2.2.1.2, e]; omega
theorem blk_6 (c : Dev nD) (t : Fin cfg0.N) (n : Fin 256) (d : Fin 128) :
    (iblk m c 6 t : FVec Ideal S256x128 .f32) (ix2 n d) = (V m c main_v46 : FVec Ideal S256x8192 .f32) (wide n (rr t) (hh t) d) :=
  emb6 t n d (V m c main_v46)

/-- A block is the rows that its entries are. -/
theorem eq_wf (x : FVec Ideal S256x128 .f32) (X : Rows) (h : ∀ n d, x (ix2 n d) = ((X n d : ℝ) : EReal)) : x = wf X :=
  funext fun y => by rw [eq_ix2 y]; exact h _ _
theorem eq_wb (x : FVec Ideal S256x128 .bf16) (X : Rows) (h : ∀ n d, x (ix2 n d) = ((X n d : ℝ) : EReal)) : x = wb X :=
  funext fun y => by rw [eq_ix2 y]; exact h _ _

section Point
variable (c : Dev nD) (t : Fin cfg0.N) {a0 a1 a2 a3 a4 : S4096x512.Idx → ℝ}
  (e0 : X0 m c = up a0) (e1 : X1 m c = up a1) (e2 : X2 m c = up a2) (e3 : X3 m c = up a3) (e4 : X4 m c = up a4)

abbrev Qt (a0 : S4096x512.Idx → ℝ) : Rows := rows a0 (rr t) (hh t)
abbrev Mt (a0 a1 : S4096x512.Idx → ℝ) : Fin 256 → ℝ := Mx a0 a1 (rr t) (hh t)

include e0 in
theorem in0 : (iblk m c 0 t : FVec Ideal S256x128 .bf16) = wb (Qt t a0) := eq_wb _ _ fun n d => by
  rw [blk_0, V_40, relay_apply, e0]; rfl
include e1 in
theorem in1 : (iblk m c 1 t : FVec Ideal S256x128 .bf16) = wb (Qt t a1) := eq_wb _ _ fun n d => by
  rw [blk_1, V_41, relay_apply, e1]; rfl
include e2 in
theorem in2 : (iblk m c 2 t : FVec Ideal S256x128 .f32) = wf (Qt t a2) := eq_wf _ _ fun n d => by
  rw [blk_2, V_42, relay_apply, e2]; rfl
include e0 e1 e2 in
theorem in3 : (iblk m c 3 t : FVec Ideal S256x128 .f32) = wf (O (Qt t a0) (Qt t a1) (Qt t a2) (Mt t a0 a1)) := eq_wf _ _ fun n d => by
  rw [blk_3, V_43, relay_apply, e0, e1, e2]; exact Cert.DilRef.v44 a0 a1 a2 (rr t) (hh t) n d
include e0 e1 in
theorem in4 : (iblk m c 4 t : FVec Ideal S256x128 .f32) = wf (LS (Qt t a0) (Qt t a1) (Mt t a0 a1)) := eq_wf _ _ fun n d => by
  rw [blk_4, V_44, relay_apply, e0, e1]; exact Cert.DilRef.v45 a0 a1 (rr t) (hh t) n d
include e3 in
theorem in5 : (iblk m c 5 t : FVec Ideal S256x128 .f32) = wf (Qt t a3) := eq_wf _ _ fun n d => by
  rw [blk_5, V_45, relay_apply, e3]; rfl
include e4 in
theorem in6 : (iblk m c 6 t : FVec Ideal S256x128 .f32) = wf (Qt t a4) := eq_wf _ _ fun n d => by
  rw [blk_6, V_46, relay_apply, e4]; rfl

include e0 e1 e2 e3 e4
theorem out7_eq : out7 m c t = wf (dq (Qt t a0) (Qt t a1) (Qt t a2) (Qt t a3) (Qt t a4) (Mt t a0 a1)) := by
  unfold out7
  rw [in0 m c t e0, in1 m c t e1, in2 m c t e2, in3 m c t e0 e1 e2, in4 m c t e0 e1, in5 m c t e3, in6 m c t e4]
  exact out_dq ..
theorem out8_eq : out8 m c t = wf (dk (Qt t a0) (Qt t a1) (Qt t a2) (Qt t a3) (Qt t a4) (Mt t a0 a1)) := by
  unfold out8
  rw [in0 m c t e0, in1 m c t e1, in2 m c t e2, in3 m c t e0 e1 e2, in4 m c t e0 e1, in5 m c t e3, in6 m c t e4]
  exact out_dk ..
theorem out9_eq : out9 m c t = wf (dv (Qt t a0) (Qt t a1) (Qt t a3) (Mt t a0 a1)) := by
  unfold out9
  rw [in0 m c t e0, in1 m c t e1, in2 m c t e2, in3 m c t e0 e1 e2, in4 m c t e0 e1, in5 m c t e3, in6 m c t e4]
  exact out_dv ..

end Point

/-! ## The whole arrays -/

/-- The three results, as the reference's. -/
abbrev G7 (c : Dev nD) : FVec Ideal S256x8192 .f32 := Cert.ReferenceIdeal.Read.val_main_v90 (F := Ideal) (X0 m c) (X1 m c) (X2 m c) (X3 m c) (X4 m c)
abbrev G8 (c : Dev nD) : FVec Ideal S256x8192 .f32 := Cert.ReferenceIdeal.Read.val_main_v91 (F := Ideal) (X0 m c) (X1 m c) (X2 m c) (X3 m c) (X4 m c)
abbrev G9 (c : Dev nD) : FVec Ideal S256x8192 .f32 := Cert.ReferenceIdeal.Read.val_main_v92 (F := Ideal) (X0 m c) (X1 m c) (X3 m c)

variable (hm : Cert.Pre_KernelIdeal_finite m)

include hm in
theorem reals (c : Dev nD) : ∃ a0 a1 a2 a3 a4, X0 m c = up a0 ∧ X1 m c = up a1 ∧ X2 m c = up a2 ∧ X3 m c = up a3 ∧ X4 m c = up a4 := by
  obtain ⟨h0, h1, h2, h3, h4⟩ := reals_of_pre _ _ _ _ _ (hm c)
  obtain ⟨a0, e0⟩ := exists_up _ h0
  obtain ⟨a1, e1⟩ := exists_up _ h1
  obtain ⟨a2, e2⟩ := exists_up _ h2
  obtain ⟨a3, e3⟩ := exists_up _ h3
  obtain ⟨a4, e4⟩ := exists_up _ h4
  exact ⟨a0, a1, a2, a3, a4, e0, e1, e2, e3, e4⟩

theorem emb7 (t : Fin cfg0.N) (n : Fin 256) (d : Fin 128) (G : FVec Ideal S256x8192 .f32) :
    ((cfg0.win 7).blk t).view.read (Elt Ideal) G (ix2 n d) = G (wide n (rr t) (hh t) d) := by
  have h := idx_facts t
  have e := rr_hh t
  refine congrArg G (funext fun a => Fin.ext ?_)
  match a with
  | ⟨0, _⟩ => show win0_7.index t 0 * 256 + 1 * n.val = n.val; rw [h.2.2.2.2.2.2.2.1.1]; omega
  | ⟨1, _⟩ => show win0_7.index t 1 * 128 + 1 * d.val = ((rr t).val * 4 + (hh t).val) * 128 + d.val; rw [h.2.2.2.2.2.2.2.1.2, e]; omega

include hm in
theorem flushed7_eq (c : Dev nD) (t : Fin cfg0.N) :
    (dats m 0 c).flushed 7 t = ((cfg0.win 7).blk t).view.read (Elt Ideal) (G7 m c) := by
  obtain ⟨a0, a1, a2, a3, a4, e0, e1, e2, e3, e4⟩ := reals m hm c
  show (cfg0.win 7).cut (grid0.coords t) ((dats m 0 c).after 7 t) = _
  rw [after0_7, out7_eq m c t e0 e1 e2 e3 e4]
  refine (eq_wf _ _ fun n d => ?_).symm
  rw [emb7, G7, e0, e1, e2, e3, e4]
  exact Cert.DilRef.v90 a0 a1 a2 a3 a4 (rr t) (hh t) n d

theorem cover7 (i : S256x8192.Idx) : ∃ t : Fin cfg0.N, (cfg0.win 7).flush t = true ∧ i ∈ ((cfg0.win 7).blk t).view.set := by
  have h0 : (i 0).val < 256 := (i 0).isLt
  have h1 : (i 1).val < 8192 := (i 1).isLt
  have hN : (i 1).val / 128 < cfg0.N := lt_of_lt_of_eq (show (i 1).val / 128 < 64 by omega) N_0.symm
  have h := idx_facts ⟨(i 1).val / 128, hN⟩
  refine ⟨⟨(i 1).val / 128, hN⟩, flush0_7 _, ?_⟩
  show i ∈ ((View.whole main_v47_0).slice (win0_7.rect ⟨(i 1).val / 128, hN⟩)).set
  rw [View.set_slice_whole, Rect.mem_set_unit]
  intro a
  match a with
  | ⟨0, _⟩ =>
    show win0_7.index ⟨(i 1).val / 128, hN⟩ 0 * 256 ≤ (i 0).val ∧ (i 0).val < win0_7.index ⟨(i 1).val / 128, hN⟩ 0 * 256 + 256
    rw [h.2.2.2.2.2.2.2.1.1]; omega
  | ⟨1, _⟩ =>
    show win0_7.index ⟨(i 1).val / 128, hN⟩ 1 * 128 ≤ (i 1).val ∧ (i 1).val < win0_7.index ⟨(i 1).val / 128, hN⟩ 1 * 128 + 128
    rw [h.2.2.2.2.2.2.2.1.2]; simp only; omega

theorem emb8 (t : Fin cfg0.N) (n : Fin 256) (d : Fin 128) (G : FVec Ideal S256x8192 .f32) :
    ((cfg0.win 8).blk t).view.read (Elt Ideal) G (ix2 n d) = G (wide n (rr t) (hh t) d) := by
  have h := idx_facts t
  have e := rr_hh t
  refine congrArg G (funext fun a => Fin.ext ?_)
  match a with
  | ⟨0, _⟩ => show win0_8.index t 0 * 256 + 1 * n.val = n.val; rw [h.2.2.2.2.2.2.2.2.1.1]; omega
  | ⟨1, _⟩ => show win0_8.index t 1 * 128 + 1 * d.val = ((rr t).val * 4 + (hh t).val) * 128 + d.val; rw [h.2.2.2.2.2.2.2.2.1.2, e]; omega

include hm in
theorem flushed8_eq (c : Dev nD) (t : Fin cfg0.N) :
    (dats m 0 c).flushed 8 t = ((cfg0.win 8).blk t).view.read (Elt Ideal) (G8 m c) := by
  obtain ⟨a0, a1, a2, a3, a4, e0, e1, e2, e3, e4⟩ := reals m hm c
  show (cfg0.win 8).cut (grid0.coords t) ((dats m 0 c).after 8 t) = _
  rw [after0_8, out8_eq m c t e0 e1 e2 e3 e4]
  refine (eq_wf _ _ fun n d => ?_).symm
  rw [emb8, G8, e0, e1, e2, e3, e4]
  exact Cert.DilRef.v91 a0 a1 a2 a3 a4 (rr t) (hh t) n d

theorem cover8 (i : S256x8192.Idx) : ∃ t : Fin cfg0.N, (cfg0.win 8).flush t = true ∧ i ∈ ((cfg0.win 8).blk t).view.set := by
  have h0 : (i 0).val < 256 := (i 0).isLt
  have h1 : (i 1).val < 8192 := (i 1).isLt
  have hN : (i 1).val / 128 < cfg0.N := lt_of_lt_of_eq (show (i 1).val / 128 < 64 by omega) N_0.symm
  have h := idx_facts ⟨(i 1).val / 128, hN⟩
  refine ⟨⟨(i 1).val / 128, hN⟩, flush0_8 _, ?_⟩
  show i ∈ ((View.whole main_v47_1).slice (win0_8.rect ⟨(i 1).val / 128, hN⟩)).set
  rw [View.set_slice_whole, Rect.mem_set_unit]
  intro a
  match a with
  | ⟨0, _⟩ =>
    show win0_8.index ⟨(i 1).val / 128, hN⟩ 0 * 256 ≤ (i 0).val ∧ (i 0).val < win0_8.index ⟨(i 1).val / 128, hN⟩ 0 * 256 + 256
    rw [h.2.2.2.2.2.2.2.2.1.1]; omega
  | ⟨1, _⟩ =>
    show win0_8.index ⟨(i 1).val / 128, hN⟩ 1 * 128 ≤ (i 1).val ∧ (i 1).val < win0_8.index ⟨(i 1).val / 128, hN⟩ 1 * 128 + 128
    rw [h.2.2.2.2.2.2.2.2.1.2]; simp only; omega

theorem emb9 (t : Fin cfg0.N) (n : Fin 256) (d : Fin 128) (G : FVec Ideal S256x8192 .f32) :
    ((cfg0.win 9).blk t).view.read (Elt Ideal) G (ix2 n d) = G (wide n (rr t) (hh t) d) := by
  have h := idx_facts t
  have e := rr_hh t
  refine congrArg G (funext fun a => Fin.ext ?_)
  match a with
  | ⟨0, _⟩ => show win0_9.index t 0 * 256 + 1 * n.val = n.val; rw [h.2.2.2.2.2.2.2.2.2.1]; omega
  | ⟨1, _⟩ => show win0_9.index t 1 * 128 + 1 * d.val = ((rr t).val * 4 + (hh t).val) * 128 + d.val; rw [h.2.2.2.2.2.2.2.2.2.2, e]; omega

include hm in
theorem flushed9_eq (c : Dev nD) (t : Fin cfg0.N) :
    (dats m 0 c).flushed 9 t = ((cfg0.win 9).blk t).view.read (Elt Ideal) (G9 m c) := by
  obtain ⟨a0, a1, a2, a3, a4, e0, e1, e2, e3, e4⟩ := reals m hm c
  show (cfg0.win 9).cut (grid0.coords t) ((dats m 0 c).after 9 t) = _
  rw [after0_9, out9_eq m c t e0 e1 e2 e3 e4]
  refine (eq_wf _ _ fun n d => ?_).symm
  rw [emb9, G9, e0, e1, e3]
  exact Cert.DilRef.v92 a0 a1 a3 (rr t) (hh t) n d

theorem cover9 (i : S256x8192.Idx) : ∃ t : Fin cfg0.N, (cfg0.win 9).flush t = true ∧ i ∈ ((cfg0.win 9).blk t).view.set := by
  have h0 : (i 0).val < 256 := (i 0).isLt
  have h1 : (i 1).val < 8192 := (i 1).isLt
  have hN : (i 1).val / 128 < cfg0.N := lt_of_lt_of_eq (show (i 1).val / 128 < 64 by omega) N_0.symm
  have h := idx_facts ⟨(i 1).val / 128, hN⟩
  refine ⟨⟨(i 1).val / 128, hN⟩, flush0_9 _, ?_⟩
  show i ∈ ((View.whole main_v47_2).slice (win0_9.rect ⟨(i 1).val / 128, hN⟩)).set
  rw [View.set_slice_whole, Rect.mem_set_unit]
  intro a
  match a with
  | ⟨0, _⟩ =>
    show win0_9.index ⟨(i 1).val / 128, hN⟩ 0 * 256 ≤ (i 0).val ∧ (i 0).val < win0_9.index ⟨(i 1).val / 128, hN⟩ 0 * 256 + 256
    rw [h.2.2.2.2.2.2.2.2.2.1]; omega
  | ⟨1, _⟩ =>
    show win0_9.index ⟨(i 1).val / 128, hN⟩ 1 * 128 ≤ (i 1).val ∧ (i 1).val < win0_9.index ⟨(i 1).val / 128, hN⟩ 1 * 128 + 128
    rw [h.2.2.2.2.2.2.2.2.2.2]; simp only; omega

variable (ρ : Dev nD → PrngReg)

include hm in
/-- THE CALL: its three results are the derivative of the reference's lines, and the arguments end unchanged. -/
theorem run : θ_run defs (onTc (τ := τ) (main (F := Ideal))) ⟨m, fun _ => 0, ρ⟩ fun r => ∀ c : Dev nD,
      r.2.mem ((c : Thread nD τ).loc main_v47_0) = G7 m c
      ∧ r.2.mem ((c : Thread nD τ).loc main_v47_1) = G8 m c
      ∧ r.2.mem ((c : Thread nD τ).loc main_v47_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1.1 c).1 7).trans ((dats m 0 c).arrAt_eq_of_cover 7 (G7 m c) (fun t _ => flushed7_eq m hm c t) cover7),
      ((h.1.1 c).1 8).trans ((dats m 0 c).arrAt_eq_of_cover 8 (G8 m c) (fun t _ => flushed8_eq m hm c t) cover8),
      ((h.1.1 c).1 9).trans ((dats m 0 c).arrAt_eq_of_cover 9 (G9 m c) (fun t _ => flushed9_eq m hm c t) cover9),
      h.2.1 c⟩)
    (θ_run_and (run_main m ρ) (frame m ρ))

end Cert.Dil

end
-- ==== Proof.DilClaims.lean ====
/-
  The claims about the dilated branch's backward call.
-/
module

public import proofs.«01_k».proof.Proof.Dil
public import proofs.«01_k».proof.Proof.DilRun

@[expose] public section

set_option maxRecDepth 16384

noncomputable section

namespace Cert.Dil

open Idealize.ShloMosaic Idealize.ShloMosaic.TcCoe Idealize.SL.Sem

/-- The call's frame in machine numbers. -/
theorem frame_bits : Cert.quiescent_Kernel := fun m ρ _ => Cert.DilRun.frame m ρ

/-- The call's frame over the reals. -/
theorem frame_ideal : Cert.quiescent_KernelIdeal := fun m ρ _ => Cert.DilRunIdeal.frame m ρ

/-- The reference runs through, leaves its arguments and holds no semaphore. -/
theorem frame_ref : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The masked score's stand-in, named `mask`, is read as the bottom. -/
theorem preserves : Cert.preserves_Kernel_KernelIdeal :=
  IdealRules.named_const.statement Cert.KernelIdeal.κ "mask" .f32 0xF149F2CA#32 ⊥ rfl

/-- From the same finite arguments the call and the reference end with the same three results. -/
theorem algebraic : Cert.algebraic_KernelIdeal_ReferenceIdeal_pre_finite :=
  fun m ρ m' ρ' hpre hag => ⟨G7 m, G8 m, G9 m, run m hpre ρ,
    (θ_run _ _ _).mono (fun _ h c => by
      obtain ⟨e0, e1, e2, e3, e4⟩ := hag c
      refine ⟨?_, ?_, ?_, (h c).2.2.2⟩
      · rw [(h c).1, Cert.ReferenceIdeal.Read.val_main_v90_eq, e0, e1, e2, e3, e4]
      · rw [(h c).2.1, Cert.ReferenceIdeal.Read.val_main_v91_eq, e0, e1, e2, e3, e4]
      · rw [(h c).2.2.1, Cert.ReferenceIdeal.Read.val_main_v92_eq, e0, e1, e3])
      (Cert.ReferenceIdeal.Value.run (F := Ideal) m' ρ')⟩

end Cert.Dil

end
-- ==== Proof.DhMain.lean ====
/-
  The input projection's backward call for its input, over the reals: the array that the call returns is the
  derivative of `h · w_in` in `h`.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Reals
public import proofs.«01_k».proof.Proof.Sums

@[expose] public section

set_option maxRecDepth 16384

noncomputable section

namespace Cert.DhMain

open Idealize.ShloMosaic Idealize.ShloMosaic.TcCoe Idealize.SL.Sem Cert.Reals Cert.Sums
open Idealize.ShloMosaic.ValueIdx
open Cert.Kernel11Ideal Cert.Kernel11Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The product in the body -/

abbrev D : DotDims S1024x4096 S256x4096 S1024x256 := dot_S1024x4096_S256x4096_S1024x256_1_1_0_0_n_n

theorem pay1_apply (P0 : Vec Ideal S1024x4096 .bf16) (P1 : Vec Ideal S1x1x256x4096 .bf16) (r : Fin 1024) (f : Fin 256) :
    k0_pay1 (F := Ideal) P0 P1 (ix2 r f) = ∑ k : Fin 4096, P0 (ix2 r k) * P1 (ix4 0 0 f k) := by
  have hs : ∀ k : Fin 4096, shapeCast S256x4096 P1 shapeCasts_S1x1x256x4096_S256x4096 (ix2 f k) = P1 (ix4 0 0 f k) := fun k =>
    shapeCast_apply P1 shapeCasts_S1x1x256x4096_S256x4096 (ix2 f k) (ix4 0 0 f k)
      (by rw [Shape.rowMajor_val_two, Shape.rowMajor_val_four]; simp [ix2, ix4])
  have hp : ∀ k : Fin 4096, shapeCast S1024x4096 P0 shapeCasts_S1024x4096_S1024x4096 (ix2 r k) = P0 (ix2 r k) := fun k => shapeCast_apply P0 shapeCasts_S1024x4096_S1024x4096 (ix2 r k) (ix2 r k) rfl
  unfold k0_pay1
  show (Ideal.ofBits .f32 0x00000000#32 + ∑ k : D.contr.Idx, (shapeCast S1024x4096 P0 shapeCasts_S1024x4096_S1024x4096) (D.lhsIdx (ix2 r f) k) * shapeCast S256x4096 P1 shapeCasts_S1x1x256x4096_S256x4096 (D.rhsIdx (ix2 r f) k)) = _
  rw [ofBits_zero, EReal.coe_zero, zero_add]
  rw [← Equiv.sum_comp (contrEquiv1 D 4096 rfl rfl).symm]
  refine Finset.sum_congr rfl fun k _ => ?_
  have hk := contrEquiv1_symm_val D 4096 rfl rfl k
  have el : D.lhsIdx (ix2 r f) ((contrEquiv1 D 4096 rfl rfl).symm k) = ix2 r k := funext fun a => Fin.ext (by
    match a with
    | ⟨0, _⟩ => rfl
    | ⟨1, _⟩ => exact (D.lhsIdx_val_of_single rfl _ _).trans hk)
  have er : D.rhsIdx (ix2 r f) ((contrEquiv1 D 4096 rfl rfl).symm k) = ix2 f k := funext fun a => Fin.ext (by
    match a with
    | ⟨0, _⟩ => rfl
    | ⟨1, _⟩ => exact (D.rhsIdx_val_of_single rfl _ _).trans hk)
  rw [el, er, hs, hp]

/-! ## The arrays that the call gets -/

variable (m : (ℓ : Loc nD τ sig) → Buf (Elt Ideal) ℓ)

/-- The cotangent and the weights. -/
abbrev LA (c : Dev nD) : FVec Ideal S4096x4096 .f32 := m ((c : Thread nD τ).loc main_arg2)
abbrev RA (c : Dev nD) : FVec Ideal S2048x4096 .f32 := m ((c : Thread nD τ).loc main_arg1)

theorem V_l (c : Dev nD) : (V m c main_v0 : FVec Ideal S4096x4096 .bf16) = truncf (F := Ideal) .bf16 (LA m c) bitsLt_bf16_f32 := by
  simp only [V, hostOps0]
  after_results_simp <;> rfl

theorem V_l_apply (c : Dev nD) (i : S4096x4096.Idx) : (V m c main_v0 : FVec Ideal S4096x4096 .bf16) i = LA m c i := by
  rw [V_l]
  rfl

theorem V_r (c : Dev nD) : (V m c main_v2 : FVec Ideal S8x1x256x4096 .bf16)
    = truncf (F := Ideal) .bf16 (shapeCast S8x1x256x4096 (RA m c) shapeCasts_S2048x4096_S8x1x256x4096) bitsLt_bf16_f32 := by
  simp only [V, hostOps0]
  after_results_simp <;> rfl

/-- Row `f` of device `j`'s slice of the weights, as a row of the whole. -/
def col (j : Fin 8) (f : Fin 256) : Fin 2048 := ⟨j.val * 256 + f.val, by omega⟩

theorem V_r_apply (c : Dev nD) (j : Fin 8) (f : Fin 256) (k : Fin 4096) :
    (V m c main_v2 : FVec Ideal S8x1x256x4096 .bf16) (ix4 j 0 f k) = RA m c (ix2 (col j f) k) := by
  rw [V_r]
  refine shapeCast_apply _ shapeCasts_S2048x4096_S8x1x256x4096 (ix4 j 0 f k) (ix2 (col j f) k) ?_
  rw [Shape.rowMajor_val_two, Shape.rowMajor_val_four]
  show (j.val * 256 + f.val) * 4096 + k.val = ((j.val * 1 + 0) * 256 + f.val) * 4096 + k.val
  omega

/-! ## Where a point's blocks lie -/

theorem idx_facts : ∀ t : Fin cfg0.N, win0_0.index t (0 : Fin 2) = t.val / 8 ∧ win0_0.index t (1 : Fin 2) = 0
    ∧ win0_1.index t (0 : Fin 4) = t.val % 8 ∧ win0_1.index t (1 : Fin 4) = 0 ∧ win0_1.index t (2 : Fin 4) = 0 ∧ win0_1.index t (3 : Fin 4) = 0
    ∧ win0_2.index t (0 : Fin 2) = t.val / 8 ∧ win0_2.index t (1 : Fin 2) = t.val % 8 :=
  (by decide +kernel : ∀ t : Fin grid0.N, _)

theorem lt_N (t : Fin cfg0.N) : t.val < 32 := lt_of_lt_of_eq t.isLt N_0

/-- The slice that point `t` works on. -/
def sl (t : ℕ) : Fin 8 := ⟨t % 8, by omega⟩

/-- Row `r` of point `t`'s block, as a row of the array. -/
def row (t : ℕ) (r : Fin 1024) : Fin 4096 := ⟨t / 8 % 4 * 1024 + r.val, by omega⟩

theorem blk0 (c : Dev nD) (t : Fin cfg0.N) (r : Fin 1024) (k : Fin 4096) :
    (iblk m c 0 t : FVec Ideal S1024x4096 .bf16) (ix2 r k) = LA m c (ix2 (row t.val r) k) := by
  rw [← V_l_apply m c]
  have h := idx_facts t
  have hN := lt_N t
  refine congrArg (V m c main_v0 : FVec Ideal S4096x4096 .bf16) (funext fun a => Fin.ext ?_)
  match a with
  | ⟨0, _⟩ => show win0_0.index t 0 * 1024 + 1 * r.val = t.val / 8 % 4 * 1024 + r.val; omega
  | ⟨1, _⟩ => show win0_0.index t 1 * 4096 + 1 * k.val = k.val; omega

theorem blk1 (c : Dev nD) (t : Fin cfg0.N) (f : Fin 256) (k : Fin 4096) :
    (iblk m c 1 t : FVec Ideal S1x1x256x4096 .bf16) (ix4 0 0 f k) = RA m c (ix2 (col (sl t.val) f) k) := by
  rw [← V_r_apply m c]
  have h := idx_facts t
  refine congrArg (V m c main_v2 : FVec Ideal S8x1x256x4096 .bf16) (funext fun a => Fin.ext ?_)
  match a with
  | ⟨0, _⟩ => show win0_1.index t 0 * 1 + 1 * 0 = t.val % 8; omega
  | ⟨1, _⟩ => show win0_1.index t 1 * 1 + 1 * 0 = 0; omega
  | ⟨2, _⟩ => show win0_1.index t 2 * 256 + 1 * f.val = f.val; omega
  | ⟨3, _⟩ => show win0_1.index t 3 * 4096 + 1 * k.val = k.val; omega

/-! ## The reference -/

/-- The result, as the reference computes it. -/
abbrev G (c : Dev nD) : FVec Ideal S4096x2048 .f32 := Cert.Reference11Ideal.Read.val_main_v1 (F := Ideal)
  (m ((c : Thread nD τ).loc main_arg1)) (m ((c : Thread nD τ).loc main_arg2))

theorem G_apply (c : Dev nD) (r : Fin 4096) (q : Fin 2048) :
    G m c (ix2 r q) = ∑ k : Fin 4096, LA m c (ix2 r k) * RA m c (ix2 q k) := by
  unfold G
  rw [Cert.Reference11Ideal.Read.val_main_v1_apply]
  refine Finset.sum_congr rfl fun k _ => ?_
  congr 1
  · exact congrArg (LA m c) (funext fun a => match a with | ⟨0, _⟩ => rfl | ⟨1, _⟩ => rfl)
  · exact congrArg (RA m c) (funext fun a => match a with | ⟨0, _⟩ => rfl | ⟨1, _⟩ => rfl)

/-! ## The whole array -/

theorem eq_blk (y : S1024x256.Idx) : ∃ (r : Fin 1024) (f : Fin 256), y = ix2 r f :=
  ⟨y 0, y 1, funext fun a => match a with
    | ⟨0, _⟩ => rfl
    | ⟨1, _⟩ => rfl⟩

theorem emb (t : Fin cfg0.N) (r : Fin 1024) (f : Fin 256) (G : FVec Ideal S4096x2048 .f32) :
    ((cfg0.win 2).blk t).view.read (Elt Ideal) G (ix2 r f) = G (ix2 (row t.val r) (col (sl t.val) f)) := by
  have h := idx_facts t
  have hN := lt_N t
  refine congrArg G (funext fun a => Fin.ext ?_)
  match a with
  | ⟨0, _⟩ => show win0_2.index t 0 * 1024 + 1 * r.val = t.val / 8 % 4 * 1024 + r.val; omega
  | ⟨1, _⟩ => show win0_2.index t 1 * 256 + 1 * f.val = t.val % 8 * 256 + f.val; omega

/-- What a point writes back is its block of the reference's result. -/
theorem flushed_eq (c : Dev nD) (t : Fin cfg0.N) :
    (dats m 0 c).flushed 2 t = ((cfg0.win 2).blk t).view.read (Elt Ideal) (G m c) := by
  rw [Value.flushed2]
  unfold out0_2
  rw [View.ld_unit_zero hz2, View.ld_unit_zero hz4, View.canon_unit_zero hz2]
  funext y
  obtain ⟨r, f, rfl⟩ := eq_blk y
  refine (pay1_apply (iblk m c 0 t) (iblk m c 1 t) r f).trans ?_
  rw [emb, G_apply]
  exact Finset.sum_congr rfl fun k _ => by rw [blk0, blk1]

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, ht⟩ : ∃ t : Fin cfg0.N, t.val = (i 0).val / 1024 * 8 + (i 1).val / 256 :=
    ⟨⟨(i 0).val / 1024 * 8 + (i 1).val / 256, lt_of_lt_of_eq (by omega : _ < 32) N_0.symm⟩, rfl⟩
  have h := idx_facts t
  refine ⟨t, flush0_2 t, ?_⟩
  show i ∈ ((View.whole main_v3).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 256 ≤ (i 1).val ∧ (i 1).val < win0_2.index t 1 * 256 + 256; omega

variable (ρ : Dev nD → PrngReg)

/-- THE CALL: its result is the derivative of the reference's lines, and the arguments end unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 2 (G m c) (fun t _ => flushed_eq m c t) cover), (h c).2⟩)
    (Value.run_blocks m ρ)

end Cert.DhMain

end
-- ==== Proof.DhMainClaims.lean ====
/-
  The claims on the input projection's backward call for its input.
-/
module

public import proofs.«01_k».proof.Proof.DhMain

@[expose] public section

noncomputable section

namespace Cert.DhMain

open Idealize.ShloMosaic Idealize.ShloMosaic.TcCoe Idealize.SL.Sem

/-- The reference ends with every semaphore at zero, its arguments unchanged. -/
theorem frame_ref : Cert.quiescent_Reference11Ideal := fun m ρ _ =>
  (θ_run Cert.Reference11Ideal.defs _ _).mono (fun r h =>
      ⟨fun c => (h c).2, Idealize.ShloMosaic.sem_eq_zero_of_no_sems (by decide) r.2⟩)
    (Cert.Reference11Ideal.Value.run (F := Ideal) m ρ)

/-- The call computes the reference's result on all extended reals. -/
theorem algebraic : Cert.algebraic_Kernel11Ideal_Reference11Ideal := fun m ρ m' ρ' _ hag =>
  ⟨G m, run m ρ, (θ_run _ _ _).mono (fun _ h c => by
    obtain ⟨e0, e1, e2⟩ := hag c
    refine ⟨?_, (h c).2⟩
    rw [(h c).1, Cert.Reference11Ideal.Read.val_main_v1_eq, e1, e2]) (Cert.Reference11Ideal.Value.run (F := Ideal) m' ρ')⟩

end Cert.DhMain

end
-- ==== Proof.Dmixed.lean ====
/-
  The output projection's backward call for its input, over the reals: the array that the call returns is the
  derivative of `mixed · w_out` in `mixed`.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Reals
public import proofs.«01_k».proof.Proof.Sums

@[expose] public section

set_option maxRecDepth 16384

noncomputable section

namespace Cert.Dmixed

open Idealize.ShloMosaic Idealize.ShloMosaic.TcCoe Idealize.SL.Sem Cert.Reals Cert.Sums
open Idealize.ShloMosaic.ValueIdx
open Cert.Kernel9Ideal Cert.Kernel9Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The product in the body -/

abbrev D : DotDims S1024x2048 S256x2048 S1024x256 := dot_S1024x2048_S256x2048_S1024x256_1_1_0_0_n_n

theorem pay1_apply (P0 : Vec Ideal S1024x2048 .f32) (P1 : Vec Ideal S1x1x256x2048 .bf16) (r : Fin 1024) (f : Fin 256) :
    k0_pay1 (F := Ideal) P0 P1 (ix2 r f) = ∑ k : Fin 2048, P0 (ix2 r k) * P1 (ix4 0 0 f k) := by
  have hs : ∀ k : Fin 2048, shapeCast S256x2048 P1 shapeCasts_S1x1x256x2048_S256x2048 (ix2 f k) = P1 (ix4 0 0 f k) := fun k =>
    shapeCast_apply P1 shapeCasts_S1x1x256x2048_S256x2048 (ix2 f k) (ix4 0 0 f k)
      (by rw [Shape.rowMajor_val_two, Shape.rowMajor_val_four]; simp [ix2, ix4])
  unfold k0_pay1
  show (Ideal.ofBits .f32 0x00000000#32 + ∑ k : D.contr.Idx, P0 (D.lhsIdx (ix2 r f) k) * shapeCast S256x2048 P1 shapeCasts_S1x1x256x2048_S256x2048 (D.rhsIdx (ix2 r f) k)) = _
  rw [ofBits_zero, EReal.coe_zero, zero_add]
  rw [← Equiv.sum_comp (contrEquiv1 D 2048 rfl rfl).symm]
  refine Finset.sum_congr rfl fun k _ => ?_
  have hk := contrEquiv1_symm_val D 2048 rfl rfl k
  have el : D.lhsIdx (ix2 r f) ((contrEquiv1 D 2048 rfl rfl).symm k) = ix2 r k := funext fun a => Fin.ext (by
    match a with
    | ⟨0, _⟩ => rfl
    | ⟨1, _⟩ => exact (D.lhsIdx_val_of_single rfl _ _).trans hk)
  have er : D.rhsIdx (ix2 r f) ((contrEquiv1 D 2048 rfl rfl).symm k) = ix2 f k := funext fun a => Fin.ext (by
    match a with
    | ⟨0, _⟩ => rfl
    | ⟨1, _⟩ => exact (D.rhsIdx_val_of_single rfl _ _).trans hk)
  rw [el, er, hs]

/-! ## The arrays that the call gets -/

variable (m : (ℓ : Loc nD τ sig) → Buf (Elt Ideal) ℓ)

/-- The cotangent and the weights. -/
abbrev LA (c : Dev nD) : FVec Ideal S4096x2048 .f32 := m ((c : Thread nD τ).loc main_arg2)
abbrev RA (c : Dev nD) : FVec Ideal S2048x2048 .f32 := m ((c : Thread nD τ).loc main_arg1)

theorem V_l_apply (c : Dev nD) (i : S4096x2048.Idx) : (V m c main_arg2 : FVec Ideal S4096x2048 .f32) i = LA m c i := congrFun (V_main_arg2 m c) i

theorem V_r (c : Dev nD) : (V m c main_v1 : FVec Ideal S8x1x256x2048 .bf16)
    = truncf (F := Ideal) .bf16 (shapeCast S8x1x256x2048 (RA m c) shapeCasts_S2048x2048_S8x1x256x2048) bitsLt_bf16_f32 := by
  simp only [V, hostOps0]
  after_results_simp <;> rfl

/-- Row `f` of device `j`'s slice of the weights, as a row of the whole. -/
def col (j : Fin 8) (f : Fin 256) : Fin 2048 := ⟨j.val * 256 + f.val, by omega⟩

theorem V_r_apply (c : Dev nD) (j : Fin 8) (f : Fin 256) (k : Fin 2048) :
    (V m c main_v1 : FVec Ideal S8x1x256x2048 .bf16) (ix4 j 0 f k) = RA m c (ix2 (col j f) k) := by
  rw [V_r]
  refine shapeCast_apply _ shapeCasts_S2048x2048_S8x1x256x2048 (ix4 j 0 f k) (ix2 (col j f) k) ?_
  rw [Shape.rowMajor_val_two, Shape.rowMajor_val_four]
  show (j.val * 256 + f.val) * 2048 + k.val = ((j.val * 1 + 0) * 256 + f.val) * 2048 + k.val
  omega

/-! ## Where a point's blocks lie -/

theorem idx_facts : ∀ t : Fin cfg0.N, win0_0.index t (0 : Fin 2) = t.val / 8 ∧ win0_0.index t (1 : Fin 2) = 0
    ∧ win0_1.index t (0 : Fin 4) = t.val % 8 ∧ win0_1.index t (1 : Fin 4) = 0 ∧ win0_1.index t (2 : Fin 4) = 0 ∧ win0_1.index t (3 : Fin 4) = 0
    ∧ win0_2.index t (0 : Fin 2) = t.val / 8 ∧ win0_2.index t (1 : Fin 2) = t.val % 8 :=
  (by decide +kernel : ∀ t : Fin grid0.N, _)

theorem lt_N (t : Fin cfg0.N) : t.val < 32 := lt_of_lt_of_eq t.isLt N_0

/-- The slice that point `t` works on. -/
def sl (t : ℕ) : Fin 8 := ⟨t % 8, by omega⟩

/-- Row `r` of point `t`'s block, as a row of the array. -/
def row (t : ℕ) (r : Fin 1024) : Fin 4096 := ⟨t / 8 % 4 * 1024 + r.val, by omega⟩

theorem blk0 (c : Dev nD) (t : Fin cfg0.N) (r : Fin 1024) (k : Fin 2048) :
    (iblk m c 0 t : FVec Ideal S1024x2048 .f32) (ix2 r k) = LA m c (ix2 (row t.val r) k) := by
  rw [← V_l_apply m c]
  have h := idx_facts t
  have hN := lt_N t
  refine congrArg (V m c main_arg2 : FVec Ideal S4096x2048 .f32) (funext fun a => Fin.ext ?_)
  match a with
  | ⟨0, _⟩ => show win0_0.index t 0 * 1024 + 1 * r.val = t.val / 8 % 4 * 1024 + r.val; omega
  | ⟨1, _⟩ => show win0_0.index t 1 * 2048 + 1 * k.val = k.val; omega

theorem blk1 (c : Dev nD) (t : Fin cfg0.N) (f : Fin 256) (k : Fin 2048) :
    (iblk m c 1 t : FVec Ideal S1x1x256x2048 .bf16) (ix4 0 0 f k) = RA m c (ix2 (col (sl t.val) f) k) := by
  rw [← V_r_apply m c]
  have h := idx_facts t
  refine congrArg (V m c main_v1 : FVec Ideal S8x1x256x2048 .bf16) (funext fun a => Fin.ext ?_)
  match a with
  | ⟨0, _⟩ => show win0_1.index t 0 * 1 + 1 * 0 = t.val % 8; omega
  | ⟨1, _⟩ => show win0_1.index t 1 * 1 + 1 * 0 = 0; omega
  | ⟨2, _⟩ => show win0_1.index t 2 * 256 + 1 * f.val = f.val; omega
  | ⟨3, _⟩ => show win0_1.index t 3 * 2048 + 1 * k.val = k.val; omega

/-! ## The reference -/

/-- The result, as the reference computes it. -/
abbrev G (c : Dev nD) : FVec Ideal S4096x2048 .f32 := Cert.Reference9Ideal.Read.val_main_v1 (F := Ideal)
  (m ((c : Thread nD τ).loc main_arg1)) (m ((c : Thread nD τ).loc main_arg2))

theorem G_apply (c : Dev nD) (r : Fin 4096) (q : Fin 2048) :
    G m c (ix2 r q) = ∑ k : Fin 2048, LA m c (ix2 r k) * RA m c (ix2 q k) := by
  unfold G
  rw [Cert.Reference9Ideal.Read.val_main_v1_apply]
  refine Finset.sum_congr rfl fun k _ => ?_
  congr 1
  · exact congrArg (LA m c) (funext fun a => match a with | ⟨0, _⟩ => rfl | ⟨1, _⟩ => rfl)
  · exact congrArg (RA m c) (funext fun a => match a with | ⟨0, _⟩ => rfl | ⟨1, _⟩ => rfl)

/-! ## The whole array -/

theorem eq_blk (y : S1024x256.Idx) : ∃ (r : Fin 1024) (f : Fin 256), y = ix2 r f :=
  ⟨y 0, y 1, funext fun a => match a with
    | ⟨0, _⟩ => rfl
    | ⟨1, _⟩ => rfl⟩

theorem emb (t : Fin cfg0.N) (r : Fin 1024) (f : Fin 256) (G : FVec Ideal S4096x2048 .f32) :
    ((cfg0.win 2).blk t).view.read (Elt Ideal) G (ix2 r f) = G (ix2 (row t.val r) (col (sl t.val) f)) := by
  have h := idx_facts t
  have hN := lt_N t
  refine congrArg G (funext fun a => Fin.ext ?_)
  match a with
  | ⟨0, _⟩ => show win0_2.index t 0 * 1024 + 1 * r.val = t.val / 8 % 4 * 1024 + r.val; omega
  | ⟨1, _⟩ => show win0_2.index t 1 * 256 + 1 * f.val = t.val % 8 * 256 + f.val; omega

/-- What a point writes back is its block of the reference's result. -/
theorem flushed_eq (c : Dev nD) (t : Fin cfg0.N) :
    (dats m 0 c).flushed 2 t = ((cfg0.win 2).blk t).view.read (Elt Ideal) (G m c) := by
  rw [Value.flushed2]
  unfold out0_2
  rw [View.ld_unit_zero hz2, View.ld_unit_zero hz4, View.canon_unit_zero hz2]
  funext y
  obtain ⟨r, f, rfl⟩ := eq_blk y
  refine (pay1_apply (iblk m c 0 t) (iblk m c 1 t) r f).trans ?_
  rw [emb, G_apply]
  exact Finset.sum_congr rfl fun k _ => by rw [blk0, blk1]

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, ht⟩ : ∃ t : Fin cfg0.N, t.val = (i 0).val / 1024 * 8 + (i 1).val / 256 :=
    ⟨⟨(i 0).val / 1024 * 8 + (i 1).val / 256, lt_of_lt_of_eq (by omega : _ < 32) N_0.symm⟩, rfl⟩
  have h := idx_facts t
  refine ⟨t, flush0_2 t, ?_⟩
  show i ∈ ((View.whole main_v2).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 256 ≤ (i 1).val ∧ (i 1).val < win0_2.index t 1 * 256 + 256; omega

variable (ρ : Dev nD → PrngReg)

/-- THE CALL: its result is the derivative of the reference's lines, and the arguments end unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 2 (G m c) (fun t _ => flushed_eq m c t) cover), (h c).2⟩)
    (Value.run_blocks m ρ)

end Cert.Dmixed

end
-- ==== Proof.DmixedClaims.lean ====
/-
  The claims on the output projection's backward call for its input.
-/
module

public import proofs.«01_k».proof.Proof.Dmixed

@[expose] public section

noncomputable section

namespace Cert.Dmixed

open Idealize.ShloMosaic Idealize.ShloMosaic.TcCoe Idealize.SL.Sem

/-- The reference ends with every semaphore at zero, its arguments unchanged. -/
theorem frame_ref : Cert.quiescent_Reference9Ideal := fun m ρ _ =>
  (θ_run Cert.Reference9Ideal.defs _ _).mono (fun r h =>
      ⟨fun c => (h c).2, Idealize.ShloMosaic.sem_eq_zero_of_no_sems (by decide) r.2⟩)
    (Cert.Reference9Ideal.Value.run (F := Ideal) m ρ)

/-- The call computes the reference's result on all extended reals. -/
theorem algebraic : Cert.algebraic_Kernel9Ideal_Reference9Ideal := fun m ρ m' ρ' _ hag =>
  ⟨G m, run m ρ, (θ_run _ _ _).mono (fun _ h c => by
    obtain ⟨e0, e1, e2⟩ := hag c
    refine ⟨?_, (h c).2⟩
    rw [(h c).1, Cert.Reference9Ideal.Read.val_main_v1_eq, e1, e2]) (Cert.Reference9Ideal.Value.run (F := Ideal) m' ρ')⟩

end Cert.Dmixed

end
-- ==== Proof.Down.lean ====
/-
  The feed-forward layer's forward call through the down projection, over the reals: the array that the call
  returns is `x + 0.5 · ((silu (h · w_gate) · (h · w_up)) · w_down)`.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Reals
public import proofs.«01_k».proof.Proof.Sums

@[expose] public section

set_option maxRecDepth 16384

noncomputable section

namespace Cert.Down

open Idealize.ShloMosaic Idealize.ShloMosaic.TcCoe Idealize.SL.Sem Cert.Reals Cert.Sums
open Idealize.ShloMosaic.ValueIdx
open Cert.Kernel8Ideal Cert.Kernel8Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the cases leave -/

section Cases

variable {F : FTy → Type} [FloatOps F] (m : (ℓ : Loc nD τ sig) → Buf (Elt F) ℓ)

/-- A run's first point leaves its block product in the scratch. -/
theorem scr_A (c : Dev nD) (t : Fin cfg0.N) (h0 : t.val % 8 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz3 _ _).trans ((hs0_0 t).read_unread _)))
    ((View.ld_unit_zero hz4 _ _).trans ((hs0_1 t).read_unread _))

/-- A later point adds its block product to what the point before left. -/
theorem scr_BC (c : Dev nD) (t : Fin cfg0.N) (h0 : ¬t.val % 8 = 0) :
    (outsAt0 m c t.val t.isLt).2 = k0_pay3 (iblk m c 0 t) (iblk m c 1 t) (outsAt0 m c (t.val - 1) (Nat.lt_of_le_of_lt (Nat.sub_le _ _) t.isLt)).2 := by
  by_cases h2 : t.val % 8 = 7
  · rw [outsAt0_C m c t h0 (by omega) h2]
    unfold sout0_C_0
    dsimp only
    rw [View.read_writes_eq_canon _ _ _ (fun y => scover0_C_0 c _ _ _ _ _ _ _ _ _ _ _ _ _ _ _ _ _ _ y)]
    unfold kernelRun0_C
    dsimp only
    sl_unfold_words
    rw [View.canon_unit_zero hz2]
    simp only [View.readAt_eq_ld]
    exact congr (congr (congrArg k0_pay3 ((View.ld_unit_zero hz3 _ _).trans ((hs0_0 t).read_unread _)))
          ((View.ld_unit_zero hz4 _ _).trans ((hs0_1 t).read_unread _)))
          ((View.ld_unit_zero hz2 _ _).trans ((Memref.isWhole_whole cc0_scratch0).read_unread _))
  · rw [outsAt0_B m c t h0 (by omega) h2]
    unfold sout0_B_0
    dsimp only
    rw [View.read_writes_eq_canon _ _ _ (fun y => scover0_B_0 c _ _ _ _ _ _ _ _ _ _ _ _ _ _ _ _ _ _ y)]
    unfold kernelRun0_B
    dsimp only
    sl_unfold_words
    rw [View.canon_unit_zero hz2]
    simp only [View.readAt_eq_ld]
    exact congr (congr (congrArg k0_pay3 ((View.ld_unit_zero hz3 _ _).trans ((hs0_0 t).read_unread _)))
          ((View.ld_unit_zero hz4 _ _).trans ((hs0_1 t).read_unread _)))
          ((View.ld_unit_zero hz2 _ _).trans ((Memref.isWhole_whole cc0_scratch0).read_unread _))

/-- What a run's last point writes back. -/
theorem out_last (c : Dev nD) (t : Fin cfg0.N) (h2 : t.val % 8 = 7) :
    (dats m 0 c).flushed 3 t = k0_pay4 (outsAt0 m c t.val t.isLt).2 (iblk m c 2 t) := by
  rw [Value.flushed3_C m c t (by omega) (by omega) h2, scr_BC m c t (by omega)]
  show out0_C_3 (F := F) _ _ _ _ _ _ _ _ _ _ _ _ _ _ _ _ _ _ _ = _
  unfold out0_C_3
  rw [View.read_writes_eq_canon _ _ _ (fun y => cover0_C_3 c _ _ _ _ _ _ _ _ _ _ _ _ _ _ _ _ _ _ y)]
  unfold kernelRun0_C
  dsimp only
  sl_unfold_words
  rw [View.canon_unit_zero hz2]
  simp only [View.readAt_eq_ld]
  rw [View.readCov_unit_zero _ hz2]
  exact congr (congrArg k0_pay4 (congr (congr (congrArg k0_pay3 ((View.ld_unit_zero hz3 _ _).trans ((hs0_0 t).read_unread _)))
      ((View.ld_unit_zero hz4 _ _).trans ((hs0_1 t).read_unread _)))
      ((View.ld_unit_zero hz2 _ _).trans ((Memref.isWhole_whole cc0_scratch0).read_unread _))))
    ((View.ld_unit_zero hz2 _ _).trans ((hs0_2 t).read_unread _))

end Cases

/-! ## The payloads over the reals -/

abbrev D : DotDims S1024x704 S704x1024 S1024x1024 := dot_S1024x704_S704x1024_S1024x1024_1_0_0_1_n_n

/-- The block product, entry by entry. -/
def part (P0 : FVec Ideal S1x1024x704 .bf16) (P1 : FVec Ideal S1x1x704x1024 .bf16) (r n : Fin 1024) : EReal := ∑ k : Fin 704, P0 (ix3 0 r k) * P1 (ix4 0 0 k n)

theorem pay1_apply (P0 : FVec Ideal S1x1024x704 .bf16) (P1 : FVec Ideal S1x1x704x1024 .bf16) (r n : Fin 1024) :
    k0_pay1 (F := Ideal) P0 P1 (ix2 r n) = part P0 P1 r n := by
  have hs : ∀ k : Fin 704, shapeCast S1024x704 P0 shapeCasts_S1x1024x704_S1024x704 (ix2 r k) = P0 (ix3 0 r k) := fun k =>
    shapeCast_apply P0 shapeCasts_S1x1024x704_S1024x704 (ix2 r k) (ix3 0 r k) (by
      rw [Shape.rowMajor_val_two, Shape.rowMajor_val_three]; simp [ix2, ix3])
  have hs' : ∀ k : Fin 704, shapeCast S704x1024 P1 shapeCasts_S1x1x704x1024_S704x1024 (ix2 k n) = P1 (ix4 0 0 k n) := fun k =>
    shapeCast_apply P1 shapeCasts_S1x1x704x1024_S704x1024 (ix2 k n) (ix4 0 0 k n) (by
      rw [Shape.rowMajor_val_two, Shape.rowMajor_val_four]; simp [ix2, ix4])
  unfold k0_pay1 part
  show Ideal.ofBits .f32 0x00000000#32 + ∑ k : D.contr.Idx, (shapeCast S1024x704 P0 shapeCasts_S1x1024x704_S1024x704) (D.lhsIdx (ix2 r n) k) * (shapeCast S704x1024 P1 shapeCasts_S1x1x704x1024_S704x1024) (D.rhsIdx (ix2 r n) k) = _
  rw [ofBits_zero, EReal.coe_zero, zero_add]
  rw [← Equiv.sum_comp (contrEquiv1 D 704 rfl rfl).symm]
  refine Finset.sum_congr rfl fun k _ => ?_
  have hk := contrEquiv1_symm_val D 704 rfl rfl k
  have el : D.lhsIdx (ix2 r n) ((contrEquiv1 D 704 rfl rfl).symm k) = (ix2 r k) := funext fun a => Fin.ext (by
    match a with
    | ⟨0, _⟩ => rfl
    | ⟨1, _⟩ => exact (D.lhsIdx_val_of_single rfl _ _).trans hk)
  have er : D.rhsIdx (ix2 r n) ((contrEquiv1 D 704 rfl rfl).symm k) = ix2 k n := funext fun a => Fin.ext (by
    match a with
    | ⟨0, _⟩ => exact (D.rhsIdx_val_of_single rfl _ _).trans hk
    | ⟨1, _⟩ => rfl)
  rw [el, er, hs, hs']

theorem pay2_apply (P0 : FVec Ideal S1x1024x704 .bf16) (P1 : FVec Ideal S1x1x704x1024 .bf16) (r n : Fin 1024) :
    k0_pay2 (F := Ideal) P0 P1 (ix2 r n) = part P0 P1 r n := by
  rw [← pay1_apply]
  unfold k0_pay2
  exact shapeCast_apply _ shapeCasts_S1024x1024_S1024x1024 (ix2 r n) (ix2 r n) rfl

theorem pay3_apply (P0 : FVec Ideal S1x1024x704 .bf16) (P1 : FVec Ideal S1x1x704x1024 .bf16) (X : FVec Ideal S1024x1024 .f32) (r n : Fin 1024) :
    k0_pay3 (F := Ideal) P0 P1 X (ix2 r n) = (show EReal from X (ix2 r n)) + part P0 P1 r n := by
  rw [← pay1_apply]
  unfold k0_pay3
  exact shapeCast_apply _ shapeCasts_S1024x1024_S1024x1024 (ix2 r n) (ix2 r n) rfl

/-- The last point adds half the sum to the block of `x`. -/
theorem pay4_apply (X Y : FVec Ideal S1024x1024 .f32) (r n : Fin 1024) :
    k0_pay4 (F := Ideal) X Y (ix2 r n) = (show EReal from Y (ix2 r n)) + ((0.5 : ℝ) : EReal) * (show EReal from X (ix2 r n)) := by
  unfold k0_pay4
  show (show EReal from Y (ix2 r n)) + Ideal.ofBits .f32 0x3F000000#32 * (show EReal from X (ix2 r n)) = _
  rw [ofBits_half]

/-! ## The call's blocks, in the arguments -/

variable (m : (ℓ : Loc nD τ sig) → Buf (Elt Ideal) ℓ)

/-- The hidden values, as the reference computes them, and the weights. -/
abbrev LA (c : Dev nD) : FVec Ideal S4096x5632 .f32 := Cert.Reference8Ideal.Read.val_main_v3 (F := Ideal)
  (m ((c : Thread nD τ).loc main_arg1)) (m ((c : Thread nD τ).loc main_arg2)) (m ((c : Thread nD τ).loc main_arg3))
abbrev RA (c : Dev nD) : FVec Ideal S5632x2048 .f32 := m ((c : Thread nD τ).loc main_arg4)
abbrev XA (c : Dev nD) : FVec Ideal S4096x2048 .f32 := m ((c : Thread nD τ).loc main_arg0)

theorem V_l (c : Dev nD) : (V m c main_v6 : FVec Ideal S8x4096x704 .bf16)
    = truncf (F := Ideal) .bf16 (transpose S8x4096x704 [1, 0, 2] (shapeCast S4096x8x704 (LA m c) shapeCasts_S4096x5632_S4096x8x704)
        transposes_S4096x8x704_S8x4096x704_1_0_2) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_r (c : Dev nD) : (V m c main_v8 : FVec Ideal S8x1x704x2048 .bf16)
    = truncf (F := Ideal) .bf16 (shapeCast S8x1x704x2048 (RA m c) shapeCasts_S5632x2048_S8x1x704x2048) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- Column `f` of slice `j`, as a column of the whole. -/
def col (j : Fin 8) (f : Fin 704) : Fin 5632 := ⟨j.val * 704 + f.val, by omega⟩

theorem V_l_apply (c : Dev nD) (j : Fin 8) (r : Fin 4096) (f : Fin 704) :
    (V m c main_v6 : FVec Ideal S8x4096x704 .bf16) (ix3 j r f) = LA m c (ix2 r (col j f)) := by
  rw [V_l]
  generalize LA m c = y
  show transpose S8x4096x704 [1, 0, 2] (shapeCast S4096x8x704 y shapeCasts_S4096x5632_S4096x8x704)
    transposes_S4096x8x704_S8x4096x704_1_0_2 (ix3 j r f) = y (ix2 r (col j f))
  refine (transpose_apply [1, 0, 2] _ transposes_S4096x8x704_S8x4096x704_1_0_2 (ix3 j r f) (ix3 r j f) (fun b => match b with
    | ⟨0, _⟩ => rfl
    | ⟨1, _⟩ => rfl
    | ⟨2, _⟩ => rfl)).trans ?_
  refine shapeCast_apply _ shapeCasts_S4096x5632_S4096x8x704 (ix3 r j f) (ix2 r (col j f)) ?_
  rw [Shape.rowMajor_val_two, Shape.rowMajor_val_three]
  show r.val * 5632 + (j.val * 704 + f.val) = (r.val * 8 + j.val) * 704 + f.val
  omega

theorem V_r_apply (c : Dev nD) (j : Fin 8) (f : Fin 704) (k : Fin 2048) :
    (V m c main_v8 : FVec Ideal S8x1x704x2048 .bf16) (ix4 j 0 f k) = RA m c (ix2 (col j f) k) := by
  rw [V_r]
  refine shapeCast_apply _ shapeCasts_S5632x2048_S8x1x704x2048 (ix4 j 0 f k) (ix2 (col j f) k) ?_
  rw [Shape.rowMajor_val_two, Shape.rowMajor_val_four]
  show (j.val * 704 + f.val) * 2048 + k.val = ((j.val * 1 + 0) * 704 + f.val) * 2048 + k.val
  omega

/-- The index maps, in the point's number. -/
theorem idx_facts : ∀ t : Fin cfg0.N, win0_0.index t (0 : Fin 3) = t.val % 8 ∧ win0_0.index t (1 : Fin 3) = t.val / 16 ∧ win0_0.index t (2 : Fin 3) = 0
    ∧ win0_1.index t (0 : Fin 4) = t.val % 8 ∧ win0_1.index t (1 : Fin 4) = 0 ∧ win0_1.index t (2 : Fin 4) = 0 ∧ win0_1.index t (3 : Fin 4) = t.val / 8 % 2
    ∧ win0_2.index t (0 : Fin 2) = t.val / 16 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

theorem lt_N (t : Fin cfg0.N) : t.val < 64 := lt_of_lt_of_eq t.isLt N_0

/-- Row `r` of point `t`'s block, as a row of the result. -/
def row (t : ℕ) (r : Fin 1024) : Fin 4096 := ⟨t / 16 % 4 * 1024 + r.val, by omega⟩

/-- Column `n` of point `t`'s block, as a column of the result. -/
def out (t : ℕ) (n : Fin 1024) : Fin 2048 := ⟨t / 8 % 2 * 1024 + n.val, by omega⟩

theorem col_place (t : ℕ) (k : Fin 704) : col ⟨t % 8, by omega⟩ k = place 5632 704 (t % 8) k.val :=
  Fin.ext (by show t % 8 * 704 + k.val = (704 * (t % 8) + k.val) % 5632; omega)

theorem blk0 (c : Dev nD) (t : Fin cfg0.N) (r : Fin 1024) (k : Fin 704) :
    (iblk m c 0 t : FVec Ideal S1x1024x704 .bf16) (ix3 0 r k) = LA m c (ix2 (row t.val r) (place 5632 704 (t.val % 8) k.val)) := by
  rw [← col_place, ← V_l_apply m c]
  have h := idx_facts t
  have hN := lt_N t
  refine congrArg (V m c main_v6 : FVec Ideal S8x4096x704 .bf16) (funext fun a => Fin.ext ?_)
  match a with
  | ⟨0, _⟩ => show win0_0.index t 0 * 1 + 1 * 0 = t.val % 8; omega
  | ⟨1, _⟩ => show win0_0.index t 1 * 1024 + 1 * r.val = t.val / 16 % 4 * 1024 + r.val; omega
  | ⟨2, _⟩ => show win0_0.index t 2 * 704 + 1 * k.val = k.val; omega

theorem blk1 (c : Dev nD) (t : Fin cfg0.N) (k : Fin 704) (n : Fin 1024) :
    (iblk m c 1 t : FVec Ideal S1x1x704x1024 .bf16) (ix4 0 0 k n) = RA m c (ix2 (place 5632 704 (t.val % 8) k.val) (out t.val n)) := by
  rw [← col_place, ← V_r_apply m c]
  have h := idx_facts t
  have hN := lt_N t
  refine congrArg (V m c main_v8 : FVec Ideal S8x1x704x2048 .bf16) (funext fun a => Fin.ext ?_)
  match a with
  | ⟨0, _⟩ => show win0_1.index t 0 * 1 + 1 * 0 = t.val % 8; omega
  | ⟨1, _⟩ => show win0_1.index t 1 * 1 + 1 * 0 = 0; omega
  | ⟨2, _⟩ => show win0_1.index t 2 * 704 + 1 * k.val = k.val; omega
  | ⟨3, _⟩ => show win0_1.index t 3 * 1024 + 1 * n.val = t.val / 8 % 2 * 1024 + n.val; omega

theorem blk2 (c : Dev nD) (t : Fin cfg0.N) (r n : Fin 1024) :
    (iblk m c 2 t : FVec Ideal S1024x1024 .f32) (ix2 r n) = XA m c (ix2 (row t.val r) (out t.val n)) := by
  have e : V m c main_arg0 = XA m c := V_main_arg0 m c
  rw [← e]
  have h := idx_facts t
  have hN := lt_N t
  refine congrArg (V m c main_arg0 : FVec Ideal S4096x2048 .f32) (funext fun a => Fin.ext ?_)
  match a with
  | ⟨0, _⟩ => show win0_2.index t 0 * 1024 + 1 * r.val = t.val / 16 % 4 * 1024 + r.val; omega
  | ⟨1, _⟩ => show win0_2.index t 1 * 1024 + 1 * n.val = t.val / 8 % 2 * 1024 + n.val; omega

/-- The `i`-th term of entry `(r, n)` of the product. -/
def term (c : Dev nD) (r : Fin 4096) (n : Fin 2048) (i : Fin 5632) : EReal := LA m c (ix2 r i) * RA m c (ix2 i n)

/-- Point `t`'s block product is the sum over its part. -/
theorem blk_sum (c : Dev nD) (t : Fin cfg0.N) (r n : Fin 1024) :
    part (iblk m c 0 t) (iblk m c 1 t) r n = blkSum 704 (term m c (row t.val r) (out t.val n)) (t.val % 8) := by
  unfold blkSum term part
  exact Finset.sum_congr rfl fun k _ => by rw [blk0, blk1]

/-! ## The accumulation -/

/-- After point `t` the scratch holds the sums over the run's parts so far. -/
theorem scr (c : Dev nD) (r n : Fin 1024) : ∀ (t : ℕ) (ht : t < cfg0.N),
    (show EReal from ((outsAt0 m c t ht).2 : FVec Ideal S1024x1024 .f32) (ix2 r n)) = blkSums 704 (term m c (row t r) (out t n)) (t % 8 + 1) := by
  intro t
  induction t with
  | zero =>
    intro ht
    rw [scr_A m c ⟨0, ht⟩ rfl, pay2_apply]
    refine (blk_sum m c ⟨0, ht⟩ r n).trans ?_
    rw [blkSums_one]; rfl
  | succ t ih =>
    intro ht
    by_cases h0 : (t + 1) % 8 = 0
    · rw [scr_A m c ⟨t + 1, ht⟩ h0, pay2_apply]
      refine (blk_sum m c ⟨t + 1, ht⟩ r n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ r n)).trans ?_
      have e1 : row (t + 1) r = row t r := Fin.ext (by show (t + 1) / 16 % 4 * 1024 + r.val = t / 16 % 4 * 1024 + r.val; omega)
      have e2 : out (t + 1) n = out t n := Fin.ext (by show (t + 1) / 8 % 2 * 1024 + n.val = t / 8 % 2 * 1024 + n.val; omega)
      show _ + blkSum 704 (term m c (row (t + 1) r) (out (t + 1) n)) ((t + 1) % 8) = _
      rw [e1, e2, show (t + 1) % 8 = t % 8 + 1 by omega, ← blkSums_succ]

/-! ## The reference -/

/-- The result, as the reference computes it. -/
abbrev G (c : Dev nD) : FVec Ideal S4096x2048 .f32 := Cert.Reference8Ideal.Read.val_main_v7 (F := Ideal)
  (m ((c : Thread nD τ).loc main_arg0)) (m ((c : Thread nD τ).loc main_arg1)) (m ((c : Thread nD τ).loc main_arg2)) (m ((c : Thread nD τ).loc main_arg3)) (m ((c : Thread nD τ).loc main_arg4))

theorem G_apply (c : Dev nD) (r : Fin 4096) (n : Fin 2048) :
    G m c (ix2 r n) = (show EReal from XA m c (ix2 r n)) + ((0.5 : ℝ) : EReal) * ∑ i : Fin 5632, term m c r n i := by
  have hd : (show EReal from Cert.Reference8Ideal.Read.val_main_v4 (F := Ideal) (m ((c : Thread nD τ).loc main_arg1)) (m ((c : Thread nD τ).loc main_arg2)) (m ((c : Thread nD τ).loc main_arg3)) (m ((c : Thread nD τ).loc main_arg4)) (ix2 r n))
      = ∑ i : Fin 5632, term m c r n i := by
    rw [Cert.Reference8Ideal.Read.val_main_v4_apply]
    refine Finset.sum_congr rfl fun i _ => ?_
    unfold term LA RA
    generalize Cert.Reference8Ideal.Read.val_main_v3 (F := Ideal) (m ((c : Thread nD τ).loc main_arg1)) (m ((c : Thread nD τ).loc main_arg2)) (m ((c : Thread nD τ).loc main_arg3)) = y
    congr 1
    · exact congrArg y (funext fun a => match a with | ⟨0, _⟩ => rfl | ⟨1, _⟩ => rfl)
    · exact congrArg (m ((c : Thread nD τ).loc main_arg4) : FVec Ideal S5632x2048 .f32) (funext fun a => match a with | ⟨0, _⟩ => rfl | ⟨1, _⟩ => rfl)
  rw [← hd]
  unfold G
  rw [Cert.Reference8Ideal.Read.val_main_v7_apply, Cert.Reference8Ideal.Read.val_main_v6_apply, Cert.Reference8Ideal.Read.val_main_v5_apply, Cert.Reference8Ideal.Read.val_main_cst_apply, ← ofBits_half]
  rfl

/-! ## The whole array -/

theorem eq_blk (y : S1024x1024.Idx) : ∃ (r n : Fin 1024), y = ix2 r n :=
  ⟨y 0, y 1, funext fun a => match a with
    | ⟨0, _⟩ => rfl
    | ⟨1, _⟩ => rfl⟩

theorem emb (t : Fin cfg0.N) (r n : Fin 1024) (G : FVec Ideal S4096x2048 .f32) :
    ((cfg0.win 3).blk t).view.read (Elt Ideal) G (ix2 r n) = G (ix2 (row t.val r) (out t.val n)) := by
  have h := idx_facts t
  have hN := lt_N t
  refine congrArg G (funext fun a => Fin.ext ?_)
  match a with
  | ⟨0, _⟩ => show win0_3.index t 0 * 1024 + 1 * r.val = t.val / 16 % 4 * 1024 + r.val; omega
  | ⟨1, _⟩ => show win0_3.index t 1 * 1024 + 1 * n.val = t.val / 8 % 2 * 1024 + n.val; omega

/-- The sum that a run's last point holds is the whole product's entry. -/
theorem scr_last (c : Dev nD) (t : Fin cfg0.N) (h2 : t.val % 8 = 7) (r n : Fin 1024) :
    (show EReal from ((outsAt0 m c t.val t.isLt).2 : FVec Ideal S1024x1024 .f32) (ix2 r n)) = ∑ i : Fin 5632, term m c (row t.val r) (out t.val n) i := by
  refine (scr m c r n t.val t.isLt).trans ?_
  rw [h2]
  exact blkSums_all 704 8 rfl _

/-- What a run's last point writes back is its block of the reference's result. -/
theorem flushed_eq (c : Dev nD) (t : Fin cfg0.N) (hf : (cfg0.win 3).flush t = true) :
    (dats m 0 c).flushed 3 t = ((cfg0.win 3).blk t).view.read (Elt Ideal) (G m c) := by
  have h2 : t.val % 8 = 7 := (flush0_3 t).mp hf
  rw [out_last m c t h2]
  funext y
  obtain ⟨r, n, rfl⟩ := eq_blk y
  rw [emb, G_apply, pay4_apply, blk2, scr_last m c t h2 r n]

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 3 (G m c) (fun t hf => flushed_eq m c t hf)
      (fun i => (Value.covered_iff3 i).2 (by
        have h0 : (i 0).val < 4096 := (i 0).isLt; have h1 : (i 1).val < 2048 := (i 1).isLt; omega))), (h c).2⟩)
    (Value.run_blocks m ρ)

end Cert.Down

end
-- ==== Proof.DownClaims.lean ====
/-
  The claims on the down projection's forward call.
-/
module

public import proofs.«01_k».proof.Proof.Down

@[expose] public section

noncomputable section

namespace Cert.Down

open Idealize.ShloMosaic Idealize.ShloMosaic.TcCoe Idealize.SL.Sem

/-- The reference ends with every semaphore at zero, its arguments unchanged. -/
theorem frame_ref : Cert.quiescent_Reference8Ideal := fun m ρ _ =>
  (θ_run Cert.Reference8Ideal.defs _ _).mono (fun r h =>
      ⟨fun c => (h c).2, Idealize.ShloMosaic.sem_eq_zero_of_no_sems (by decide) r.2⟩)
    (Cert.Reference8Ideal.Value.run (F := Ideal) m ρ)

/-- The call computes the reference's result on all extended reals. -/
theorem algebraic : Cert.algebraic_Kernel8Ideal_Reference8Ideal := fun m ρ m' ρ' _ hag =>
  ⟨G m, run m ρ, (θ_run _ _ _).mono (fun _ h c => by
    obtain ⟨e0, e1, e2, e3, e4⟩ := hag c
    refine ⟨?_, (h c).2⟩
    rw [(h c).1, Cert.Reference8Ideal.Read.val_main_v7_eq, e0, e1, e2, e3, e4]) (Cert.Reference8Ideal.Value.run (F := Ideal) m' ρ')⟩

end Cert.Down

end
-- ==== Proof.DwIn.lean ====
/-
  The input projection's backward call for its weights, over the reals: the array that the call returns is the
  derivative of `h · w_in` in `w_in`.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Reals
public import proofs.«01_k».proof.Proof.Sums

@[expose] public section

set_option maxRecDepth 16384

noncomputable section

namespace Cert.DwIn

open Idealize.ShloMosaic Idealize.ShloMosaic.TcCoe Idealize.SL.Sem Cert.Reals Cert.Sums
open Idealize.ShloMosaic.ValueIdx
open Cert.Kernel12Ideal Cert.Kernel12Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the cases leave -/

section Cases

variable {F : FTy → Type} [FloatOps F] (m : (ℓ : Loc nD τ sig) → Buf (Elt F) ℓ)

/-- A run's first point leaves its block product in the scratch. -/
theorem scr_A (c : Dev nD) (t : Fin cfg0.N) (h0 : t.val % 4 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz2 _ _).trans ((hs0_0 t).read_unread _)))
    ((View.ld_unit_zero hz2 _ _).trans ((hs0_1 t).read_unread _))

/-- A later point adds its block product to what the point before left. -/
theorem scr_BC (c : Dev nD) (t : Fin cfg0.N) (h0 : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    unfold sout0_C_0
    dsimp only
    rw [View.read_writes_eq_canon _ _ _ (fun y => scover0_C_0 c _ _ _ _ _ _ _ _ _ _ _ _ _ _ _ y)]
    unfold kernelRun0_C
    dsimp only
    sl_unfold_words
    rw [View.canon_unit_zero hz2]
    simp only [View.readAt_eq_ld]
    exact congr (congr (congrArg k0_pay3 ((View.ld_unit_zero hz2 _ _).trans ((hs0_0 t).read_unread _)))
          ((View.ld_unit_zero hz2 _ _).trans ((hs0_1 t).read_unread _)))
          ((View.ld_unit_zero hz2 _ _).trans ((Memref.isWhole_whole cc0_scratch0).read_unread _))
  · rw [outsAt0_B m c t h0 (by omega) h2]
    unfold sout0_B_0
    dsimp only
    rw [View.read_writes_eq_canon _ _ _ (fun y => scover0_B_0 c _ _ _ _ _ _ _ _ _ _ _ _ _ _ _ y)]
    unfold kernelRun0_B
    dsimp only
    sl_unfold_words
    rw [View.canon_unit_zero hz2]
    simp only [View.readAt_eq_ld]
    exact congr (congr (congrArg k0_pay3 ((View.ld_unit_zero hz2 _ _).trans ((hs0_0 t).read_unread _)))
          ((View.ld_unit_zero hz2 _ _).trans ((hs0_1 t).read_unread _)))
          ((View.ld_unit_zero hz2 _ _).trans ((Memref.isWhole_whole cc0_scratch0).read_unread _))

/-- What a run's last point writes back. -/
theorem out_last (c : Dev nD) (t : Fin cfg0.N) (h2 : t.val % 4 = 3) :
    (dats m 0 c).flushed 2 t = k0_pay4 (outsAt0 m c t.val t.isLt).2 := by
  rw [Value.flushed2_C m c t (by omega) (by omega) h2, scr_BC m c t (by omega)]
  show out0_C_2 (F := F) _ _ _ _ _ _ _ _ _ _ _ _ _ _ _ _ = _
  unfold out0_C_2
  rw [View.read_writes_eq_canon _ _ _ (fun y => cover0_C_2 c _ _ _ _ _ _ _ _ _ _ _ _ _ _ _ y)]
  unfold kernelRun0_C
  dsimp only
  sl_unfold_words
  rw [View.canon_unit_zero hz2]
  simp only [View.readAt_eq_ld]
  rw [View.readCov_unit_zero _ hz2]
  exact congrArg k0_pay4 (congr (congr (congrArg k0_pay3 ((View.ld_unit_zero hz2 _ _).trans ((hs0_0 t).read_unread _)))
      ((View.ld_unit_zero hz2 _ _).trans ((hs0_1 t).read_unread _)))
      ((View.ld_unit_zero hz2 _ _).trans ((Memref.isWhole_whole cc0_scratch0).read_unread _)))

end Cases

/-! ## The payloads over the reals -/

abbrev D : DotDims S1024x1024 S1024x1024 S1024x1024 := dot_S1024x1024_S1024x1024_S1024x1024_0_0_1_1_n_n

/-- The block product, entry by entry. -/
def part (P0 : FVec Ideal S1024x1024 .bf16) (P1 : FVec Ideal S1024x1024 .bf16) (r n : Fin 1024) : EReal := ∑ k : Fin 1024, P0 (ix2 k r) * P1 (ix2 k n)

theorem pay1_apply (P0 : FVec Ideal S1024x1024 .bf16) (P1 : FVec Ideal S1024x1024 .bf16) (r n : Fin 1024) :
    k0_pay1 (F := Ideal) P0 P1 (ix2 r n) = part P0 P1 r n := by
  have hs : ∀ k : Fin 1024, shapeCast S1024x1024 P0 shapeCasts_S1024x1024_S1024x1024 (ix2 k r) = P0 (ix2 k r) := fun k => shapeCast_apply P0 shapeCasts_S1024x1024_S1024x1024 (ix2 k r) (ix2 k r) rfl
  have hs' : ∀ k : Fin 1024, shapeCast S1024x1024 P1 shapeCasts_S1024x1024_S1024x1024 (ix2 k n) = P1 (ix2 k n) := fun k => shapeCast_apply P1 shapeCasts_S1024x1024_S1024x1024 (ix2 k n) (ix2 k n) rfl
  unfold k0_pay1 part
  show Ideal.ofBits .f32 0x00000000#32 + ∑ k : D.contr.Idx, (shapeCast S1024x1024 P0 shapeCasts_S1024x1024_S1024x1024) (D.lhsIdx (ix2 r n) k) * (shapeCast S1024x1024 P1 shapeCasts_S1024x1024_S1024x1024) (D.rhsIdx (ix2 r n) k) = _
  rw [ofBits_zero, EReal.coe_zero, zero_add]
  rw [← Equiv.sum_comp (contrEquiv1 D 1024 rfl rfl).symm]
  refine Finset.sum_congr rfl fun k _ => ?_
  have hk := contrEquiv1_symm_val D 1024 rfl rfl k
  have el : D.lhsIdx (ix2 r n) ((contrEquiv1 D 1024 rfl rfl).symm k) = (ix2 k r) := funext fun a => Fin.ext (by
    match a with
    | ⟨0, _⟩ => exact (D.lhsIdx_val_of_single rfl _ _).trans hk
    | ⟨1, _⟩ => rfl)
  have er : D.rhsIdx (ix2 r n) ((contrEquiv1 D 1024 rfl rfl).symm k) = ix2 k n := funext fun a => Fin.ext (by
    match a with
    | ⟨0, _⟩ => exact (D.rhsIdx_val_of_single rfl _ _).trans hk
    | ⟨1, _⟩ => rfl)
  rw [el, er, hs, hs']

theorem pay2_apply (P0 : FVec Ideal S1024x1024 .bf16) (P1 : FVec Ideal S1024x1024 .bf16) (r n : Fin 1024) :
    k0_pay2 (F := Ideal) P0 P1 (ix2 r n) = part P0 P1 r n := by
  rw [← pay1_apply]
  unfold k0_pay2
  exact shapeCast_apply _ shapeCasts_S1024x1024_S1024x1024 (ix2 r n) (ix2 r n) rfl

theorem pay3_apply (P0 : FVec Ideal S1024x1024 .bf16) (P1 : FVec Ideal S1024x1024 .bf16) (X : FVec Ideal S1024x1024 .f32) (r n : Fin 1024) :
    k0_pay3 (F := Ideal) P0 P1 X (ix2 r n) = (show EReal from X (ix2 r n)) + part P0 P1 r n := by
  rw [← pay1_apply]
  unfold k0_pay3
  exact shapeCast_apply _ shapeCasts_S1024x1024_S1024x1024 (ix2 r n) (ix2 r n) rfl

/-! ## The call's blocks, in the arguments -/

variable (m : (ℓ : Loc nD τ sig) → Buf (Elt Ideal) ℓ)

/-- The two factors. -/
abbrev LA (c : Dev nD) : FVec Ideal S4096x2048 .f32 := m ((c : Thread nD τ).loc main_arg0)
abbrev RA (c : Dev nD) : FVec Ideal S4096x4096 .f32 := m ((c : Thread nD τ).loc main_arg2)

theorem V_l (c : Dev nD) : (V m c main_v0 : FVec Ideal S4096x2048 .bf16) = truncf (F := Ideal) .bf16 (LA m c) bitsLt_bf16_f32 := by
  simp only [V, hostOps0]
  after_results_simp <;> rfl

theorem V_l_apply (c : Dev nD) (i : S4096x2048.Idx) : (V m c main_v0 : FVec Ideal S4096x2048 .bf16) i = LA m c i := by
  rw [V_l]
  rfl

theorem V_r (c : Dev nD) : (V m c main_v1 : FVec Ideal S4096x4096 .bf16) = truncf (F := Ideal) .bf16 (RA m c) bitsLt_bf16_f32 := by
  simp only [V, hostOps0]
  after_results_simp <;> rfl

theorem V_r_apply (c : Dev nD) (i : S4096x4096.Idx) : (V m c main_v1 : FVec Ideal S4096x4096 .bf16) i = RA m c i := by
  rw [V_r]
  rfl

/-- The index maps, in the point's number. -/
theorem idx_facts : ∀ t : Fin cfg0.N, win0_0.index t (0 : Fin 2) = t.val % 4 ∧ win0_0.index t (1 : Fin 2) = t.val / 16
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

theorem lt_N (t : Fin cfg0.N) : t.val < 32 := lt_of_lt_of_eq t.isLt N_0

/-- Row `r` of point `t`'s block, as a row of the result. -/
def row (t : ℕ) (r : Fin 1024) : Fin 2048 := ⟨t / 16 % 2 * 1024 + r.val, by omega⟩

/-- Column `n` of point `t`'s block, as a column of the result. -/
def out (t : ℕ) (n : Fin 1024) : Fin 4096 := ⟨t / 4 % 4 * 1024 + n.val, by omega⟩

theorem blk0 (c : Dev nD) (t : Fin cfg0.N) (r : Fin 1024) (k : Fin 1024) :
    (iblk m c 0 t : FVec Ideal S1024x1024 .bf16) (ix2 k r) = LA m c (ix2 (place 4096 1024 (t.val % 4) k.val) (row t.val r)) := by
  rw [← V_l_apply m c]
  have h := idx_facts t
  have hN := lt_N t
  refine congrArg (V m c main_v0 : FVec Ideal S4096x2048 .bf16) (funext fun a => Fin.ext ?_)
  match a with
  | ⟨0, _⟩ => show win0_0.index t 0 * 1024 + 1 * k.val = (1024 * (t.val % 4) + k.val) % 4096; omega
  | ⟨1, _⟩ => show win0_0.index t 1 * 1024 + 1 * r.val = t.val / 16 % 2 * 1024 + r.val; omega

theorem blk1 (c : Dev nD) (t : Fin cfg0.N) (k : Fin 1024) (n : Fin 1024) :
    (iblk m c 1 t : FVec Ideal S1024x1024 .bf16) (ix2 k n) = RA m c (ix2 (place 4096 1024 (t.val % 4) k.val) (out t.val n)) := by
  rw [← V_r_apply m c]
  have h := idx_facts t
  have hN := lt_N t
  refine congrArg (V m c main_v1 : FVec Ideal S4096x4096 .bf16) (funext fun a => Fin.ext ?_)
  match a with
  | ⟨0, _⟩ => show win0_1.index t 0 * 1024 + 1 * k.val = (1024 * (t.val % 4) + k.val) % 4096; omega
  | ⟨1, _⟩ => show win0_1.index t 1 * 1024 + 1 * n.val = t.val / 4 % 4 * 1024 + n.val; omega

/-- The `i`-th term of entry `(r, n)` of the product. -/
def term (c : Dev nD) (r : Fin 2048) (n : Fin 4096) (i : Fin 4096) : EReal := LA m c (ix2 i r) * RA m c (ix2 i n)

/-- Point `t`'s block product is the sum over its part. -/
theorem blk_sum (c : Dev nD) (t : Fin cfg0.N) (r n : Fin 1024) :
    part (iblk m c 0 t) (iblk m c 1 t) r n = blkSum 1024 (term m c (row t.val r) (out t.val n)) (t.val % 4) := by
  unfold blkSum term part
  exact Finset.sum_congr rfl fun k _ => by rw [blk0, blk1]

/-! ## The accumulation -/

/-- After point `t` the scratch holds the sums over the run's parts so far. -/
theorem scr (c : Dev nD) (r n : Fin 1024) : ∀ (t : ℕ) (ht : t < cfg0.N),
    (show EReal from ((outsAt0 m c t ht).2 : FVec Ideal S1024x1024 .f32) (ix2 r n)) = blkSums 1024 (term m c (row t r) (out t n)) (t % 4 + 1) := by
  intro t
  induction t with
  | zero =>
    intro ht
    rw [scr_A m c ⟨0, ht⟩ rfl, pay2_apply]
    refine (blk_sum m c ⟨0, ht⟩ r n).trans ?_
    rw [blkSums_one]; rfl
  | succ t ih =>
    intro ht
    by_cases h0 : (t + 1) % 4 = 0
    · rw [scr_A m c ⟨t + 1, ht⟩ h0, pay2_apply]
      refine (blk_sum m c ⟨t + 1, ht⟩ r n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ r n)).trans ?_
      have e1 : row (t + 1) r = row t r := Fin.ext (by show (t + 1) / 16 % 2 * 1024 + r.val = t / 16 % 2 * 1024 + r.val; omega)
      have e2 : out (t + 1) n = out t n := Fin.ext (by show (t + 1) / 4 % 4 * 1024 + n.val = t / 4 % 4 * 1024 + n.val; omega)
      show _ + blkSum 1024 (term m c (row (t + 1) r) (out (t + 1) n)) ((t + 1) % 4) = _
      rw [e1, e2, show (t + 1) % 4 = t % 4 + 1 by omega, ← blkSums_succ]

/-! ## The reference -/

/-- The result, as the reference computes it. -/
abbrev G (c : Dev nD) : FVec Ideal S2048x4096 .bf16 := Cert.Reference12Ideal.Read.val_main_v3 (F := Ideal)
  (m ((c : Thread nD τ).loc main_arg0)) (m ((c : Thread nD τ).loc main_arg2))

theorem G_apply (c : Dev nD) (r : Fin 2048) (n : Fin 4096) : G m c (ix2 r n) = ∑ i : Fin 4096, term m c r n i := by
  unfold G term
  rw [Cert.Reference12Ideal.Read.val_main_v3_apply, Cert.Reference12Ideal.Read.val_main_v2_apply]
  show (show EReal from Cert.Reference12Ideal.Read.val_main_v1 (F := Ideal) (LA m c) (RA m c) (Cert.Reference12Ideal.Read.idx_main_v2 (ix2 r n))) = _
  rw [Cert.Reference12Ideal.Read.val_main_v1_apply]
  refine Finset.sum_congr rfl fun i _ => ?_
  rw [mul_comm]
  congr 1
  · exact congrArg (LA m c) (funext fun a => match a with | ⟨0, _⟩ => rfl | ⟨1, _⟩ => rfl)
  · exact congrArg (RA m c) (funext fun a => match a with | ⟨0, _⟩ => rfl | ⟨1, _⟩ => rfl)

/-! ## The whole array -/

theorem eq_blk (y : S1024x1024.Idx) : ∃ (r n : Fin 1024), y = ix2 r n :=
  ⟨y 0, y 1, funext fun a => match a with
    | ⟨0, _⟩ => rfl
    | ⟨1, _⟩ => rfl⟩

theorem emb (t : Fin cfg0.N) (r n : Fin 1024) (G : FVec Ideal S2048x4096 .bf16) :
    ((cfg0.win 2).blk t).view.read (Elt Ideal) G (ix2 r n) = G (ix2 (row t.val r) (out t.val n)) := by
  have h := idx_facts t
  have hN := lt_N t
  refine congrArg G (funext fun a => Fin.ext ?_)
  match a with
  | ⟨0, _⟩ => show win0_2.index t 0 * 1024 + 1 * r.val = t.val / 16 % 2 * 1024 + r.val; omega
  | ⟨1, _⟩ => show win0_2.index t 1 * 1024 + 1 * n.val = t.val / 4 % 4 * 1024 + n.val; omega

/-- The sum that a run's last point holds is the whole product's entry. -/
theorem scr_last (c : Dev nD) (t : Fin cfg0.N) (h2 : t.val % 4 = 3) (r n : Fin 1024) :
    (show EReal from ((outsAt0 m c t.val t.isLt).2 : FVec Ideal S1024x1024 .f32) (ix2 r n)) = ∑ i : Fin 4096, term m c (row t.val r) (out t.val n) i := by
  refine (scr m c r n t.val t.isLt).trans ?_
  rw [h2]
  exact blkSums_all 1024 4 rfl _

/-- What a run's last point writes back is its block of the reference's result. -/
theorem flushed_eq (c : Dev nD) (t : Fin cfg0.N) (hf : (cfg0.win 2).flush t = true) :
    (dats m 0 c).flushed 2 t = ((cfg0.win 2).blk t).view.read (Elt Ideal) (G m c) := by
  have h2 : t.val % 4 = 3 := (flush0_2 t).mp hf
  rw [out_last m c t h2]
  funext y
  obtain ⟨r, n, rfl⟩ := eq_blk y
  rw [emb, G_apply]
  exact scr_last m c t h2 r n

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 2 (G m c) (fun t hf => flushed_eq m c t hf)
      (fun i => (Value.covered_iff2 i).2 (by
        have h0 : (i 0).val < 2048 := (i 0).isLt; have h1 : (i 1).val < 4096 := (i 1).isLt; omega))), (h c).2⟩)
    (Value.run_blocks m ρ)

end Cert.DwIn

end
-- ==== Proof.DwInClaims.lean ====
/-
  The claims on the input projection's backward call for its weights.
-/
module

public import proofs.«01_k».proof.Proof.DwIn

@[expose] public section

noncomputable section

namespace Cert.DwIn

open Idealize.ShloMosaic Idealize.ShloMosaic.TcCoe Idealize.SL.Sem

/-- The reference ends with every semaphore at zero, its arguments unchanged. -/
theorem frame_ref : Cert.quiescent_Reference12Ideal := fun m ρ _ =>
  (θ_run Cert.Reference12Ideal.defs _ _).mono (fun r h =>
      ⟨fun c => (h c).2, Idealize.ShloMosaic.sem_eq_zero_of_no_sems (by decide) r.2⟩)
    (Cert.Reference12Ideal.Value.run (F := Ideal) m ρ)

/-- The call computes the reference's result on all extended reals. -/
theorem algebraic : Cert.algebraic_Kernel12Ideal_Reference12Ideal := fun m ρ m' ρ' _ hag =>
  ⟨G m, run m ρ, (θ_run _ _ _).mono (fun _ h c => by
    obtain ⟨e0, e1, e2⟩ := hag c
    refine ⟨?_, (h c).2⟩
    rw [(h c).1, Cert.Reference12Ideal.Read.val_main_v3_eq, e0, e2]) (Cert.Reference12Ideal.Value.run (F := Ideal) m' ρ')⟩

end Cert.DwIn

end
-- ==== Proof.DwOut.lean ====
/-
  The output projection's backward call for its weights, over the reals: the array that the call returns is the
  derivative of `mixed · w_out` in `w_out`.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Reals
public import proofs.«01_k».proof.Proof.Sums

@[expose] public section

set_option maxRecDepth 16384

noncomputable section

namespace Cert.DwOut

open Idealize.ShloMosaic Idealize.ShloMosaic.TcCoe Idealize.SL.Sem Cert.Reals Cert.Sums
open Idealize.ShloMosaic.ValueIdx
open Cert.Kernel10Ideal Cert.Kernel10Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the cases leave -/

section Cases

variable {F : FTy → Type} [FloatOps F] (m : (ℓ : Loc nD τ sig) → Buf (Elt F) ℓ)

/-- A run's first point leaves its block product in the scratch. -/
theorem scr_A (c : Dev nD) (t : Fin cfg0.N) (h0 : t.val % 4 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz2 _ _).trans ((hs0_0 t).read_unread _)))
    ((View.ld_unit_zero hz2 _ _).trans ((hs0_1 t).read_unread _))

/-- A later point adds its block product to what the point before left. -/
theorem scr_BC (c : Dev nD) (t : Fin cfg0.N) (h0 : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    unfold sout0_C_0
    dsimp only
    rw [View.read_writes_eq_canon _ _ _ (fun y => scover0_C_0 c _ _ _ _ _ _ _ _ _ _ _ _ _ _ _ y)]
    unfold kernelRun0_C
    dsimp only
    sl_unfold_words
    rw [View.canon_unit_zero hz2]
    simp only [View.readAt_eq_ld]
    exact congr (congr (congrArg k0_pay3 ((View.ld_unit_zero hz2 _ _).trans ((hs0_0 t).read_unread _)))
          ((View.ld_unit_zero hz2 _ _).trans ((hs0_1 t).read_unread _)))
          ((View.ld_unit_zero hz2 _ _).trans ((Memref.isWhole_whole cc0_scratch0).read_unread _))
  · rw [outsAt0_B m c t h0 (by omega) h2]
    unfold sout0_B_0
    dsimp only
    rw [View.read_writes_eq_canon _ _ _ (fun y => scover0_B_0 c _ _ _ _ _ _ _ _ _ _ _ _ _ _ _ y)]
    unfold kernelRun0_B
    dsimp only
    sl_unfold_words
    rw [View.canon_unit_zero hz2]
    simp only [View.readAt_eq_ld]
    exact congr (congr (congrArg k0_pay3 ((View.ld_unit_zero hz2 _ _).trans ((hs0_0 t).read_unread _)))
          ((View.ld_unit_zero hz2 _ _).trans ((hs0_1 t).read_unread _)))
          ((View.ld_unit_zero hz2 _ _).trans ((Memref.isWhole_whole cc0_scratch0).read_unread _))

/-- What a run's last point writes back. -/
theorem out_last (c : Dev nD) (t : Fin cfg0.N) (h2 : t.val % 4 = 3) :
    (dats m 0 c).flushed 2 t = k0_pay4 (outsAt0 m c t.val t.isLt).2 := by
  rw [Value.flushed2_C m c t (by omega) (by omega) h2, scr_BC m c t (by omega)]
  show out0_C_2 (F := F) _ _ _ _ _ _ _ _ _ _ _ _ _ _ _ _ = _
  unfold out0_C_2
  rw [View.read_writes_eq_canon _ _ _ (fun y => cover0_C_2 c _ _ _ _ _ _ _ _ _ _ _ _ _ _ _ y)]
  unfold kernelRun0_C
  dsimp only
  sl_unfold_words
  rw [View.canon_unit_zero hz2]
  simp only [View.readAt_eq_ld]
  rw [View.readCov_unit_zero _ hz2]
  exact congrArg k0_pay4 (congr (congr (congrArg k0_pay3 ((View.ld_unit_zero hz2 _ _).trans ((hs0_0 t).read_unread _)))
      ((View.ld_unit_zero hz2 _ _).trans ((hs0_1 t).read_unread _)))
      ((View.ld_unit_zero hz2 _ _).trans ((Memref.isWhole_whole cc0_scratch0).read_unread _)))

end Cases

/-! ## The payloads over the reals -/

abbrev D : DotDims S1024x1024 S1024x1024 S1024x1024 := dot_S1024x1024_S1024x1024_S1024x1024_0_0_1_1_n_n

/-- The block product, entry by entry. -/
def part (P0 : FVec Ideal S1024x1024 .f32) (P1 : FVec Ideal S1024x1024 .f32) (r n : Fin 1024) : EReal := ∑ k : Fin 1024, P0 (ix2 k r) * P1 (ix2 k n)

theorem pay1_apply (P0 : FVec Ideal S1024x1024 .f32) (P1 : FVec Ideal S1024x1024 .f32) (r n : Fin 1024) :
    k0_pay1 (F := Ideal) P0 P1 (ix2 r n) = part P0 P1 r n := by
  unfold k0_pay1 part
  show Ideal.ofBits .f32 0x00000000#32 + ∑ k : D.contr.Idx, P0 (D.lhsIdx (ix2 r n) k) * P1 (D.rhsIdx (ix2 r n) k) = _
  rw [ofBits_zero, EReal.coe_zero, zero_add]
  rw [← Equiv.sum_comp (contrEquiv1 D 1024 rfl rfl).symm]
  refine Finset.sum_congr rfl fun k _ => ?_
  have hk := contrEquiv1_symm_val D 1024 rfl rfl k
  have el : D.lhsIdx (ix2 r n) ((contrEquiv1 D 1024 rfl rfl).symm k) = (ix2 k r) := funext fun a => Fin.ext (by
    match a with
    | ⟨0, _⟩ => exact (D.lhsIdx_val_of_single rfl _ _).trans hk
    | ⟨1, _⟩ => rfl)
  have er : D.rhsIdx (ix2 r n) ((contrEquiv1 D 1024 rfl rfl).symm k) = ix2 k n := funext fun a => Fin.ext (by
    match a with
    | ⟨0, _⟩ => exact (D.rhsIdx_val_of_single rfl _ _).trans hk
    | ⟨1, _⟩ => rfl)
  rw [el, er]

theorem pay2_apply (P0 : FVec Ideal S1024x1024 .f32) (P1 : FVec Ideal S1024x1024 .f32) (r n : Fin 1024) :
    k0_pay2 (F := Ideal) P0 P1 (ix2 r n) = part P0 P1 r n := by
  rw [← pay1_apply]
  unfold k0_pay2
  exact shapeCast_apply _ shapeCasts_S1024x1024_S1024x1024 (ix2 r n) (ix2 r n) rfl

theorem pay3_apply (P0 : FVec Ideal S1024x1024 .f32) (P1 : FVec Ideal S1024x1024 .f32) (X : FVec Ideal S1024x1024 .f32) (r n : Fin 1024) :
    k0_pay3 (F := Ideal) P0 P1 X (ix2 r n) = (show EReal from X (ix2 r n)) + part P0 P1 r n := by
  rw [← pay1_apply]
  unfold k0_pay3
  exact shapeCast_apply _ shapeCasts_S1024x1024_S1024x1024 (ix2 r n) (ix2 r n) rfl

/-! ## The call's blocks, in the arguments -/

variable (m : (ℓ : Loc nD τ sig) → Buf (Elt Ideal) ℓ)

/-- The two factors. -/
abbrev LA (c : Dev nD) : FVec Ideal S4096x2048 .f32 := m ((c : Thread nD τ).loc main_arg0)
abbrev RA (c : Dev nD) : FVec Ideal S4096x2048 .f32 := m ((c : Thread nD τ).loc main_arg2)

theorem V_l_apply (c : Dev nD) (i : S4096x2048.Idx) : (V m c main_arg0 : FVec Ideal S4096x2048 .f32) i = LA m c i := congrFun (V_main_arg0 m c) i

theorem V_r_apply (c : Dev nD) (i : S4096x2048.Idx) : (V m c main_arg2 : FVec Ideal S4096x2048 .f32) i = RA m c i := congrFun (V_main_arg2 m c) i

/-- The index maps, in the point's number. -/
theorem idx_facts : ∀ t : Fin cfg0.N, win0_0.index t (0 : Fin 2) = t.val % 4 ∧ win0_0.index t (1 : Fin 2) = t.val / 8
    ∧ win0_1.index t (0 : Fin 2) = t.val % 4 ∧ win0_1.index t (1 : Fin 2) = t.val / 4 % 2
    ∧ win0_2.index t (0 : Fin 2) = t.val / 8 ∧ win0_2.index t (1 : Fin 2) = t.val / 4 % 2 :=
  (by decide +kernel : ∀ t : Fin grid0.N, _)

theorem lt_N (t : Fin cfg0.N) : t.val < 16 := lt_of_lt_of_eq t.isLt N_0

/-- Row `r` of point `t`'s block, as a row of the result. -/
def row (t : ℕ) (r : Fin 1024) : Fin 2048 := ⟨t / 8 % 2 * 1024 + r.val, by omega⟩

/-- Column `n` of point `t`'s block, as a column of the result. -/
def out (t : ℕ) (n : Fin 1024) : Fin 2048 := ⟨t / 4 % 2 * 1024 + n.val, by omega⟩

theorem blk0 (c : Dev nD) (t : Fin cfg0.N) (r : Fin 1024) (k : Fin 1024) :
    (iblk m c 0 t : FVec Ideal S1024x1024 .f32) (ix2 k r) = LA m c (ix2 (place 4096 1024 (t.val % 4) k.val) (row t.val r)) := by
  rw [← V_l_apply m c]
  have h := idx_facts t
  have hN := lt_N t
  refine congrArg (V m c main_arg0 : FVec Ideal S4096x2048 .f32) (funext fun a => Fin.ext ?_)
  match a with
  | ⟨0, _⟩ => show win0_0.index t 0 * 1024 + 1 * k.val = (1024 * (t.val % 4) + k.val) % 4096; omega
  | ⟨1, _⟩ => show win0_0.index t 1 * 1024 + 1 * r.val = t.val / 8 % 2 * 1024 + r.val; omega

theorem blk1 (c : Dev nD) (t : Fin cfg0.N) (k : Fin 1024) (n : Fin 1024) :
    (iblk m c 1 t : FVec Ideal S1024x1024 .f32) (ix2 k n) = RA m c (ix2 (place 4096 1024 (t.val % 4) k.val) (out t.val n)) := by
  rw [← V_r_apply m c]
  have h := idx_facts t
  have hN := lt_N t
  refine congrArg (V m c main_arg2 : FVec Ideal S4096x2048 .f32) (funext fun a => Fin.ext ?_)
  match a with
  | ⟨0, _⟩ => show win0_1.index t 0 * 1024 + 1 * k.val = (1024 * (t.val % 4) + k.val) % 4096; omega
  | ⟨1, _⟩ => show win0_1.index t 1 * 1024 + 1 * n.val = t.val / 4 % 2 * 1024 + n.val; omega

/-- The `i`-th term of entry `(r, n)` of the product. -/
def term (c : Dev nD) (r : Fin 2048) (n : Fin 2048) (i : Fin 4096) : EReal := LA m c (ix2 i r) * RA m c (ix2 i n)

/-- Point `t`'s block product is the sum over its part. -/
theorem blk_sum (c : Dev nD) (t : Fin cfg0.N) (r n : Fin 1024) :
    part (iblk m c 0 t) (iblk m c 1 t) r n = blkSum 1024 (term m c (row t.val r) (out t.val n)) (t.val % 4) := by
  unfold blkSum term part
  exact Finset.sum_congr rfl fun k _ => by rw [blk0, blk1]

/-! ## The accumulation -/

/-- After point `t` the scratch holds the sums over the run's parts so far. -/
theorem scr (c : Dev nD) (r n : Fin 1024) : ∀ (t : ℕ) (ht : t < cfg0.N),
    (show EReal from ((outsAt0 m c t ht).2 : FVec Ideal S1024x1024 .f32) (ix2 r n)) = blkSums 1024 (term m c (row t r) (out t n)) (t % 4 + 1) := by
  intro t
  induction t with
  | zero =>
    intro ht
    rw [scr_A m c ⟨0, ht⟩ rfl, pay2_apply]
    refine (blk_sum m c ⟨0, ht⟩ r n).trans ?_
    rw [blkSums_one]; rfl
  | succ t ih =>
    intro ht
    by_cases h0 : (t + 1) % 4 = 0
    · rw [scr_A m c ⟨t + 1, ht⟩ h0, pay2_apply]
      refine (blk_sum m c ⟨t + 1, ht⟩ r n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ r n)).trans ?_
      have e1 : row (t + 1) r = row t r := Fin.ext (by show (t + 1) / 8 % 2 * 1024 + r.val = t / 8 % 2 * 1024 + r.val; omega)
      have e2 : out (t + 1) n = out t n := Fin.ext (by show (t + 1) / 4 % 2 * 1024 + n.val = t / 4 % 2 * 1024 + n.val; omega)
      show _ + blkSum 1024 (term m c (row (t + 1) r) (out (t + 1) n)) ((t + 1) % 4) = _
      rw [e1, e2, show (t + 1) % 4 = t % 4 + 1 by omega, ← blkSums_succ]

/-! ## The reference -/

/-- The result, as the reference computes it. -/
abbrev G (c : Dev nD) : FVec Ideal S2048x2048 .bf16 := Cert.Reference10Ideal.Read.val_main_v3 (F := Ideal)
  (m ((c : Thread nD τ).loc main_arg0)) (m ((c : Thread nD τ).loc main_arg2))

theorem G_apply (c : Dev nD) (r : Fin 2048) (n : Fin 2048) : G m c (ix2 r n) = ∑ i : Fin 4096, term m c r n i := by
  unfold G term
  rw [Cert.Reference10Ideal.Read.val_main_v3_apply, Cert.Reference10Ideal.Read.val_main_v2_apply]
  show (show EReal from Cert.Reference10Ideal.Read.val_main_v1 (F := Ideal) (LA m c) (RA m c) (Cert.Reference10Ideal.Read.idx_main_v2 (ix2 r n))) = _
  rw [Cert.Reference10Ideal.Read.val_main_v1_apply]
  refine Finset.sum_congr rfl fun i _ => ?_
  rw [mul_comm]
  congr 1
  · exact congrArg (LA m c) (funext fun a => match a with | ⟨0, _⟩ => rfl | ⟨1, _⟩ => rfl)
  · exact congrArg (RA m c) (funext fun a => match a with | ⟨0, _⟩ => rfl | ⟨1, _⟩ => rfl)

/-! ## The whole array -/

theorem eq_blk (y : S1024x1024.Idx) : ∃ (r n : Fin 1024), y = ix2 r n :=
  ⟨y 0, y 1, funext fun a => match a with
    | ⟨0, _⟩ => rfl
    | ⟨1, _⟩ => rfl⟩

theorem emb (t : Fin cfg0.N) (r n : Fin 1024) (G : FVec Ideal S2048x2048 .bf16) :
    ((cfg0.win 2).blk t).view.read (Elt Ideal) G (ix2 r n) = G (ix2 (row t.val r) (out t.val n)) := by
  have h := idx_facts t
  have hN := lt_N t
  refine congrArg G (funext fun a => Fin.ext ?_)
  match a with
  | ⟨0, _⟩ => show win0_2.index t 0 * 1024 + 1 * r.val = t.val / 8 % 2 * 1024 + r.val; omega
  | ⟨1, _⟩ => show win0_2.index t 1 * 1024 + 1 * n.val = t.val / 4 % 2 * 1024 + n.val; omega

/-- The sum that a run's last point holds is the whole product's entry. -/
theorem scr_last (c : Dev nD) (t : Fin cfg0.N) (h2 : t.val % 4 = 3) (r n : Fin 1024) :
    (show EReal from ((outsAt0 m c t.val t.isLt).2 : FVec Ideal S1024x1024 .f32) (ix2 r n)) = ∑ i : Fin 4096, term m c (row t.val r) (out t.val n) i := by
  refine (scr m c r n t.val t.isLt).trans ?_
  rw [h2]
  exact blkSums_all 1024 4 rfl _

/-- What a run's last point writes back is its block of the reference's result. -/
theorem flushed_eq (c : Dev nD) (t : Fin cfg0.N) (hf : (cfg0.win 2).flush t = true) :
    (dats m 0 c).flushed 2 t = ((cfg0.win 2).blk t).view.read (Elt Ideal) (G m c) := by
  have h2 : t.val % 4 = 3 := (flush0_2 t).mp hf
  rw [out_last m c t h2]
  funext y
  obtain ⟨r, n, rfl⟩ := eq_blk y
  rw [emb, G_apply]
  exact scr_last m c t h2 r n

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 2 (G m c) (fun t hf => flushed_eq m c t hf)
      (fun i => (Value.covered_iff2 i).2 (by
        have h0 : (i 0).val < 2048 := (i 0).isLt; have h1 : (i 1).val < 2048 := (i 1).isLt; omega))), (h c).2⟩)
    (Value.run_blocks m ρ)

end Cert.DwOut

end
-- ==== Proof.DwOutClaims.lean ====
/-
  The claims on the output projection's backward call for its weights.
-/
module

public import proofs.«01_k».proof.Proof.DwOut

@[expose] public section

noncomputable section

namespace Cert.DwOut

open Idealize.ShloMosaic Idealize.ShloMosaic.TcCoe Idealize.SL.Sem

/-- The reference ends with every semaphore at zero, its arguments unchanged. -/
theorem frame_ref : Cert.quiescent_Reference10Ideal := fun m ρ _ =>
  (θ_run Cert.Reference10Ideal.defs _ _).mono (fun r h =>
      ⟨fun c => (h c).2, Idealize.ShloMosaic.sem_eq_zero_of_no_sems (by decide) r.2⟩)
    (Cert.Reference10Ideal.Value.run (F := Ideal) m ρ)

/-- The call computes the reference's result on all extended reals. -/
theorem algebraic : Cert.algebraic_Kernel10Ideal_Reference10Ideal := fun m ρ m' ρ' _ hag =>
  ⟨G m, run m ρ, (θ_run _ _ _).mono (fun _ h c => by
    obtain ⟨e0, e1, e2⟩ := hag c
    refine ⟨?_, (h c).2⟩
    rw [(h c).1, Cert.Reference10Ideal.Read.val_main_v3_eq, e0, e2]) (Cert.Reference10Ideal.Value.run (F := Ideal) m' ρ')⟩

end Cert.DwOut

end
-- ==== Proof.Gate.lean ====
/-
  The feed-forward layer's forward call through the gate projection, over the reals: the array that the call
  returns is `h · w_gate`, cut into the devices' slices.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Reals
public import proofs.«01_k».proof.Proof.Sums

@[expose] public section

set_option maxRecDepth 16384

noncomputable section

namespace Cert.Gate

open Idealize.ShloMosaic Idealize.ShloMosaic.TcCoe Idealize.SL.Sem Cert.Reals Cert.Sums
open Idealize.ShloMosaic.ValueIdx
open Cert.Kernel6Ideal Cert.Kernel6Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The product in the body -/

/-- The contraction of the body's product. -/
abbrev D : DotDims S1024x2048 S704x2048 S1024x704 := dot_S1024x2048_S704x2048_S1024x704_1_1_0_0_n_n

/-- The product of the block of `h` with the slice of the weights. -/
def prod (P0 : Vec Ideal S1024x2048 .bf16) (P1 : Vec Ideal S1x1x704x2048 .bf16) : FVec Ideal S1024x704 .f32 :=
  matmul (F := Ideal) (φ₁ := .bf16) (φ₂ := .bf16) D none (shapeCast S1024x2048 P0 shapeCasts_S1024x2048_S1024x2048) (shapeCast S704x2048 P1 shapeCasts_S1x1x704x2048_S704x2048) (constant S1024x704 .f32 0x00000000#32)

theorem prod_apply (P0 : Vec Ideal S1024x2048 .bf16) (P1 : Vec Ideal S1x1x704x2048 .bf16) (r : Fin 1024) (f : Fin 704) :
    prod P0 P1 (ix2 r f) = ∑ k : Fin 2048, P0 (ix2 r k) * P1 (ix4 0 0 f k) := by
  have hs : ∀ k : Fin 2048, shapeCast S704x2048 P1 shapeCasts_S1x1x704x2048_S704x2048 (ix2 f k) = P1 (ix4 0 0 f k) := fun k =>
    shapeCast_apply P1 shapeCasts_S1x1x704x2048_S704x2048 (ix2 f k) (ix4 0 0 f k)
      (by rw [Shape.rowMajor_val_two, Shape.rowMajor_val_four]; simp [ix2, ix4])
  have hp : ∀ k : Fin 2048, shapeCast S1024x2048 P0 shapeCasts_S1024x2048_S1024x2048 (ix2 r k) = P0 (ix2 r k) := fun k =>
    shapeCast_apply P0 shapeCasts_S1024x2048_S1024x2048 (ix2 r k) (ix2 r k) rfl
  unfold prod
  show (Ideal.ofBits .f32 0x00000000#32 + ∑ k : D.contr.Idx, shapeCast S1024x2048 P0 shapeCasts_S1024x2048_S1024x2048 (D.lhsIdx (ix2 r f) k) * shapeCast S704x2048 P1 shapeCasts_S1x1x704x2048_S704x2048 (D.rhsIdx (ix2 r f) k)) = _
  rw [ofBits_zero, EReal.coe_zero, zero_add]
  rw [← Equiv.sum_comp (contrEquiv1 D 2048 rfl rfl).symm]
  refine Finset.sum_congr rfl fun k _ => ?_
  have hk := contrEquiv1_symm_val D 2048 rfl rfl k
  have el : D.lhsIdx (ix2 r f) ((contrEquiv1 D 2048 rfl rfl).symm k) = ix2 r k := funext fun a => Fin.ext (by
    match a with
    | ⟨0, _⟩ => rfl
    | ⟨1, _⟩ => exact (D.lhsIdx_val_of_single rfl _ _).trans hk)
  have er : D.rhsIdx (ix2 r f) ((contrEquiv1 D 2048 rfl rfl).symm k) = ix2 f k := funext fun a => Fin.ext (by
    match a with
    | ⟨0, _⟩ => rfl
    | ⟨1, _⟩ => exact (D.rhsIdx_val_of_single rfl _ _).trans hk)
  rw [el, er, hs, hp]

/-- What the body leaves in the block of the product. -/
theorem pay_apply (P0 : Vec Ideal S1024x2048 .bf16) (P1 : Vec Ideal S1x1x704x2048 .bf16) (r : Fin 1024) (f : Fin 704) :
    k0_pay1 (F := Ideal) P0 P1 (ix3 0 r f) = ∑ k : Fin 2048, P0 (ix2 r k) * P1 (ix4 0 0 f k) := by
  rw [← prod_apply]
  show shapeCast S1x1024x704 (truncf (F := Ideal) .bf16 (prod P0 P1) bitsLt_bf16_f32) shapeCasts_S1024x704_S1x1024x704 (ix3 0 r f) = _
  refine (shapeCast_apply (truncf (F := Ideal) .bf16 (prod P0 P1) bitsLt_bf16_f32) shapeCasts_S1024x704_S1x1024x704 (ix3 0 r f) (ix2 r f) ?_)
  rw [Shape.rowMajor_val_two, Shape.rowMajor_val_three]
  simp [ix2, ix3]

/-! ## The arrays that the call gets -/

variable (m : (ℓ : Loc nD τ sig) → Buf (Elt Ideal) ℓ)

theorem V_h (c : Dev nD) : (V m c main_v3 : FVec Ideal S4096x2048 .bf16)
    = truncf (F := Ideal) .bf16 (m ((c : Thread nD τ).loc main_arg0) : FVec Ideal S4096x2048 .f32) bitsLt_bf16_f32 := by
  simp only [V, hostOps0]
  after_results_simp <;> rfl

/-- The call's array of weights: the transpose, cut into the devices' slices. -/
theorem V_w (c : Dev nD) : (V m c main_v2 : FVec Ideal S8x1x704x2048 .bf16)
    = truncf (F := Ideal) .bf16 (shapeCast S8x1x704x2048 (transpose S5632x2048 [1, 0] (m ((c : Thread nD τ).loc main_arg1) : FVec Ideal S2048x5632 .f32)
      transposes_S2048x5632_S5632x2048_1_0) shapeCasts_S5632x2048_S8x1x704x2048) bitsLt_bf16_f32 := by
  simp only [V, hostOps0]
  after_results_simp <;> rfl

/-- Column `f` of device `j`'s slice, as a column of the whole product. -/
def col (j : Fin 8) (f : Fin 704) : Fin 5632 := ⟨j.val * 704 + f.val, by omega⟩

/-- Cutting the columns into slices: entry `(j, r, f)` is entry `(r, 704 j + f)` of the whole. -/
theorem slice_apply (y : FVec Ideal Cert.Reference6Ideal.S4096x5632 .f32)
    (h1 : Cert.Reference6Ideal.S4096x5632.ShapeCasts Cert.Reference6Ideal.S4096x8x704)
    (h2 : Cert.Reference6Ideal.S4096x8x704.Transposes [1, 0, 2] S8x4096x704) (j : Fin 8) (r : Fin 4096) (f : Fin 704) :
    truncf (F := Ideal) .bf16 (transpose S8x4096x704 [1, 0, 2] (shapeCast Cert.Reference6Ideal.S4096x8x704 y h1) h2) bitsLt_bf16_f32 (ix3 j r f)
      = y (ix2 r (col j f)) := by
  show transpose S8x4096x704 [1, 0, 2] (shapeCast Cert.Reference6Ideal.S4096x8x704 y h1) h2 (ix3 j r f) = y (ix2 r (col j f))
  refine (transpose_apply [1, 0, 2] _ h2 (ix3 j r f) (ix3 r j f) (fun b => match b with
    | ⟨0, _⟩ => rfl
    | ⟨1, _⟩ => rfl
    | ⟨2, _⟩ => rfl)).trans ?_
  refine shapeCast_apply _ h1 (ix3 r j f) (ix2 r (col j f)) ?_
  rw [Shape.rowMajor_val_two, Shape.rowMajor_val_three]
  show r.val * 5632 + (j.val * 704 + f.val) = (r.val * 8 + j.val) * 704 + f.val
  omega

theorem V_w_apply (c : Dev nD) (j : Fin 8) (f : Fin 704) (k : Fin 2048) :
    (V m c main_v2 : FVec Ideal S8x1x704x2048 .bf16) (ix4 j 0 f k)
      = (m ((c : Thread nD τ).loc main_arg1) : FVec Ideal S2048x5632 .f32) (ix2 k (col j f)) := by
  rw [V_w]
  show shapeCast S8x1x704x2048 (transpose S5632x2048 [1, 0] (m ((c : Thread nD τ).loc main_arg1) : FVec Ideal S2048x5632 .f32)
      transposes_S2048x5632_S5632x2048_1_0) shapeCasts_S5632x2048_S8x1x704x2048 (ix4 j 0 f k) = _
  refine (shapeCast_apply _ shapeCasts_S5632x2048_S8x1x704x2048 (ix4 j 0 f k) (ix2 (col j f) k) ?_).trans ?_
  · rw [Shape.rowMajor_val_two, Shape.rowMajor_val_four]
    show (j.val * 704 + f.val) * 2048 + k.val = ((j.val * 1 + 0) * 704 + f.val) * 2048 + k.val
    omega
  · exact transpose_apply [1, 0] _ transposes_S2048x5632_S5632x2048_1_0 (ix2 (col j f) k) (ix2 k (col j f)) (fun b => match b with
      | ⟨0, _⟩ => rfl
      | ⟨1, _⟩ => rfl)

/-! ## Where a point's blocks lie -/

/-- Each input window's block moves with the output's: `h` by its row block, the weights by their slice. -/
theorem idx_facts : ∀ t : Fin cfg0.N,
    win0_0.index t 0 = win0_2.index t 1 ∧ win0_0.index t 1 = 0
    ∧ win0_1.index t 0 = win0_2.index t 0 ∧ win0_1.index t 1 = 0 ∧ win0_1.index t 2 = 0 ∧ win0_1.index t 3 = 0
    ∧ win0_2.index t 0 < 8 ∧ win0_2.index t 1 < 4 ∧ win0_2.index t 2 = 0 :=
  (by decide +kernel : ∀ t : Fin grid0.N, _)

/-- Every block of the output is some point's. -/
theorem idx_onto : ∀ (j : Fin 8) (q : Fin 4), ∃ t : Fin cfg0.N, win0_2.index t 0 = j.val ∧ win0_2.index t 1 = q.val :=
  (by decide +kernel : ∀ (j : Fin 8) (q : Fin 4), ∃ t : Fin grid0.N, win0_2.index t 0 = j.val ∧ win0_2.index t 1 = q.val)

/-- The device slice that point `t` works on. -/
def sl (t : Fin cfg0.N) : Fin 8 := ⟨win0_2.index t 0, (idx_facts t).2.2.2.2.2.2.1⟩

/-- Row `r` of point `t`'s block, as a row of the array. -/
def row (t : Fin cfg0.N) (r : Fin 1024) : Fin 4096 :=
  ⟨win0_2.index t 1 * 1024 + r.val, by have := (idx_facts t).2.2.2.2.2.2.2.1; omega⟩

theorem blk0 (c : Dev nD) (t : Fin cfg0.N) (r : Fin 1024) (k : Fin 2048) :
    (iblk m c 0 t : FVec Ideal S1024x2048 .bf16) (ix2 r k) = (m ((c : Thread nD τ).loc main_arg0) : FVec Ideal S4096x2048 .f32) (ix2 (row t r) k) := by
  have e : (V m c main_v3 : FVec Ideal S4096x2048 .bf16) (ix2 (row t r) k) = (m ((c : Thread nD τ).loc main_arg0) : FVec Ideal S4096x2048 .f32) (ix2 (row t r) k) := by
    rw [V_h]
    rfl
  rw [← e]
  have h := idx_facts t
  refine congrArg (V m c main_v3 : FVec Ideal S4096x2048 .bf16) (funext fun a => Fin.ext ?_)
  match a with
  | ⟨0, _⟩ => show win0_0.index t 0 * 1024 + 1 * r.val = win0_2.index t 1 * 1024 + r.val; omega
  | ⟨1, _⟩ => show win0_0.index t 1 * 2048 + 1 * k.val = k.val; omega

theorem blk1 (c : Dev nD) (t : Fin cfg0.N) (f : Fin 704) (k : Fin 2048) :
    (iblk m c 1 t : FVec Ideal S1x1x704x2048 .bf16) (ix4 0 0 f k) = (m ((c : Thread nD τ).loc main_arg1) : FVec Ideal S2048x5632 .f32) (ix2 k (col (sl t) f)) := by
  rw [← V_w_apply m c]
  have h := idx_facts t
  refine congrArg (V m c main_v2 : FVec Ideal S8x1x704x2048 .bf16) (funext fun a => Fin.ext ?_)
  match a with
  | ⟨0, _⟩ => show win0_1.index t 0 * 1 + 1 * 0 = win0_2.index t 0; omega
  | ⟨1, _⟩ => show win0_1.index t 1 * 1 + 1 * 0 = 0; omega
  | ⟨2, _⟩ => show win0_1.index t 2 * 704 + 1 * f.val = f.val; omega
  | ⟨3, _⟩ => show win0_1.index t 3 * 2048 + 1 * k.val = k.val; omega

/-- An index of a block is `(0, r, f)`. -/
theorem eq_blk (y : S1x1024x704.Idx) : ∃ (r : Fin 1024) (f : Fin 704), y = ix3 0 r f :=
  ⟨y 1, y 2, funext fun a => match a with
    | ⟨0, _⟩ => Fin.ext (by have : (y 0).val < 1 := (y 0).isLt; show (y 0).val = 0; omega)
    | ⟨1, _⟩ => rfl
    | ⟨2, _⟩ => rfl⟩

/-! ## The reference, entry by entry -/

/-- Entry `(r, q)` of the product `h · w`. -/
abbrev dotE (x : FVec Ideal S4096x2048 .f32) (w : FVec Ideal S2048x5632 .f32) (r : Fin 4096) (q : Fin 5632) : EReal :=
  ∑ k : Fin 2048, x (ix2 r k) * w (ix2 k q)

theorem v0_eq (x : FVec Ideal S4096x2048 .f32) (w : FVec Ideal S2048x5632 .f32) (r : Fin 4096) (q : Fin 5632) :
    Cert.Reference6Ideal.Read.val_main_v0 (F := Ideal) x w (ix2 r q) = dotE x w r q := by
  rw [Cert.Reference6Ideal.Read.val_main_v0_apply]
  refine Finset.sum_congr rfl fun k _ => ?_
  congr 1
  · exact congrArg x (funext fun a => match a with | ⟨0, _⟩ => rfl | ⟨1, _⟩ => rfl)
  · exact congrArg w (funext fun a => match a with | ⟨0, _⟩ => rfl | ⟨1, _⟩ => rfl)

/-! ## What a point writes back -/

/-- The result: `h · w_gate`, cut into the devices' slices. -/
abbrev G2 (c : Dev nD) : FVec Ideal S8x4096x704 .bf16 := Cert.Reference6Ideal.Read.val_main_v3 (F := Ideal)
  (m ((c : Thread nD τ).loc main_arg0)) (m ((c : Thread nD τ).loc main_arg1))

theorem emb2 (t : Fin cfg0.N) (r : Fin 1024) (f : Fin 704) (G : FVec Ideal S8x4096x704 .bf16) :
    ((cfg0.win 2).blk t).view.read (Elt Ideal) G (ix3 0 r f) = G (ix3 (sl t) (row t r) f) := by
  have h := idx_facts t
  refine congrArg G (funext fun a => Fin.ext ?_)
  match a with
  | ⟨0, _⟩ => show win0_2.index t 0 * 1 + 1 * 0 = win0_2.index t 0; omega
  | ⟨1, _⟩ => show win0_2.index t 1 * 1024 + 1 * r.val = win0_2.index t 1 * 1024 + r.val; omega
  | ⟨2, _⟩ => show win0_2.index t 2 * 704 + 1 * f.val = f.val; omega

theorem flushed2_eq (c : Dev nD) (t : Fin cfg0.N) :
    (dats m 0 c).flushed 2 t = ((cfg0.win 2).blk t).view.read (Elt Ideal) (G2 m c) := by
  rw [Value.flushed2]
  unfold out0_2
  rw [View.ld_unit_zero hz2, View.ld_unit_zero hz4, View.canon_unit_zero hz3]
  funext y
  obtain ⟨r, f, rfl⟩ := eq_blk y
  refine (pay_apply (iblk m c 0 t) (iblk m c 1 t) r f).trans ?_
  rw [emb2]
  refine Eq.trans ?_ (slice_apply (Cert.Reference6Ideal.Read.val_main_v0 (F := Ideal) (m ((c : Thread nD τ).loc main_arg0)) (m ((c : Thread nD τ).loc main_arg1))) _ _ (sl t) (row t r) f).symm
  rw [v0_eq]
  exact Finset.sum_congr rfl fun k _ => by rw [blk0, blk1]

theorem cover2 (i : S8x4096x704.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 704 := (i 2).isLt
  obtain ⟨t, e0, e1⟩ := idx_onto ⟨(i 0).val, h0⟩ ⟨(i 1).val / 1024, by omega⟩
  have h := idx_facts t
  refine ⟨t, flush0_2 t, ?_⟩
  show i ∈ ((View.whole main_v4).slice (win0_2.rect t)).set
  rw [View.set_slice_whole, Rect.mem_set_unit]
  intro a
  match a with
  | ⟨0, _⟩ => show win0_2.index t 0 * 1 ≤ (i 0).val ∧ (i 0).val < win0_2.index t 0 * 1 + 1; simp only at e0; omega
  | ⟨1, _⟩ => show win0_2.index t 1 * 1024 ≤ (i 1).val ∧ (i 1).val < win0_2.index t 1 * 1024 + 1024; simp only at e1; omega
  | ⟨2, _⟩ => show win0_2.index t 2 * 704 ≤ (i 2).val ∧ (i 2).val < win0_2.index t 2 * 704 + 704; omega

variable (ρ : Dev nD → PrngReg)

/-- THE CALL: the results are the reference's, and the arguments end unchanged. -/
theorem run : θ_run defs (onTc (τ := τ) (main (F := Ideal))) ⟨m, fun _ => 0, ρ⟩ fun r => ∀ c : Dev nD,
      r.2.mem ((c : Thread nD τ).loc main_v4) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (G2 m c) (fun t _ => flushed2_eq m c t) cover2), (h c).2⟩)
    (Value.run_blocks m ρ)

end Cert.Gate

end
-- ==== Proof.GateClaims.lean ====
/-
  The claims on the gate projection's forward call.
-/
module

public import proofs.«01_k».proof.Proof.Gate

@[expose] public section

noncomputable section

namespace Cert.Gate

open Idealize.ShloMosaic Idealize.ShloMosaic.TcCoe Idealize.SL.Sem

/-- The reference ends with every semaphore at zero, its arguments unchanged. -/
theorem frame_ref : Cert.quiescent_Reference6Ideal := fun m ρ _ =>
  (θ_run Cert.Reference6Ideal.defs _ _).mono (fun r h =>
      ⟨fun c => (h c).2, Idealize.ShloMosaic.sem_eq_zero_of_no_sems (by decide) r.2⟩)
    (Cert.Reference6Ideal.Value.run (F := Ideal) m ρ)

/-- The call computes the reference's result on all extended reals. -/
theorem algebraic : Cert.algebraic_Kernel6Ideal_Reference6Ideal := fun m ρ m' ρ' _ hag =>
  ⟨G2 m, run m ρ, (θ_run _ _ _).mono (fun _ h c => by
    obtain ⟨e0, e1⟩ := hag c
    refine ⟨?_, (h c).2⟩
    rw [(h c).1, Cert.Reference6Ideal.Read.val_main_v3_eq, e0, e1]) (Cert.Reference6Ideal.Value.run (F := Ideal) m' ρ')⟩

end Cert.Gate

end
-- ==== Proof.Hid.lean ====
/-
  The feed-forward layer's forward call through the up projection, over the reals: the arrays that the call
  returns are `h · w_up` and `silu (h · w_gate) · (h · w_up)`, cut into the devices' slices.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Reals
public import proofs.«01_k».proof.Proof.Sums

@[expose] public section

set_option maxRecDepth 16384

noncomputable section

namespace Cert.Hid

open Idealize.ShloMosaic Idealize.ShloMosaic.TcCoe Idealize.SL.Sem Cert.Reals Cert.Sums
open Idealize.ShloMosaic.ValueIdx
open Cert.Kernel7Ideal Cert.Kernel7Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The product in the body -/

/-- The contraction of the body's product. -/
abbrev D : DotDims S1024x2048 S704x2048 S1024x704 := dot_S1024x2048_S704x2048_S1024x704_1_1_0_0_n_n

/-- The product of the block of `h` with the slice of the weights. -/
def prod (P0 : Vec Ideal S1024x2048 .bf16) (P1 : Vec Ideal S1x1x704x2048 .bf16) : FVec Ideal S1024x704 .f32 :=
  matmul (F := Ideal) (φ₁ := .bf16) (φ₂ := .bf16) D none (shapeCast S1024x2048 P0 shapeCasts_S1024x2048_S1024x2048) (shapeCast S704x2048 P1 shapeCasts_S1x1x704x2048_S704x2048) (constant S1024x704 .f32 0x00000000#32)

theorem prod_apply (P0 : Vec Ideal S1024x2048 .bf16) (P1 : Vec Ideal S1x1x704x2048 .bf16) (r : Fin 1024) (f : Fin 704) :
    prod P0 P1 (ix2 r f) = ∑ k : Fin 2048, P0 (ix2 r k) * P1 (ix4 0 0 f k) := by
  have hs : ∀ k : Fin 2048, shapeCast S704x2048 P1 shapeCasts_S1x1x704x2048_S704x2048 (ix2 f k) = P1 (ix4 0 0 f k) := fun k =>
    shapeCast_apply P1 shapeCasts_S1x1x704x2048_S704x2048 (ix2 f k) (ix4 0 0 f k)
      (by rw [Shape.rowMajor_val_two, Shape.rowMajor_val_four]; simp [ix2, ix4])
  have hp : ∀ k : Fin 2048, shapeCast S1024x2048 P0 shapeCasts_S1024x2048_S1024x2048 (ix2 r k) = P0 (ix2 r k) := fun k =>
    shapeCast_apply P0 shapeCasts_S1024x2048_S1024x2048 (ix2 r k) (ix2 r k) rfl
  unfold prod
  show (Ideal.ofBits .f32 0x00000000#32 + ∑ k : D.contr.Idx, shapeCast S1024x2048 P0 shapeCasts_S1024x2048_S1024x2048 (D.lhsIdx (ix2 r f) k) * shapeCast S704x2048 P1 shapeCasts_S1x1x704x2048_S704x2048 (D.rhsIdx (ix2 r f) k)) = _
  rw [ofBits_zero, EReal.coe_zero, zero_add]
  rw [← Equiv.sum_comp (contrEquiv1 D 2048 rfl rfl).symm]
  refine Finset.sum_congr rfl fun k _ => ?_
  have hk := contrEquiv1_symm_val D 2048 rfl rfl k
  have el : D.lhsIdx (ix2 r f) ((contrEquiv1 D 2048 rfl rfl).symm k) = ix2 r k := funext fun a => Fin.ext (by
    match a with
    | ⟨0, _⟩ => rfl
    | ⟨1, _⟩ => exact (D.lhsIdx_val_of_single rfl _ _).trans hk)
  have er : D.rhsIdx (ix2 r f) ((contrEquiv1 D 2048 rfl rfl).symm k) = ix2 f k := funext fun a => Fin.ext (by
    match a with
    | ⟨0, _⟩ => rfl
    | ⟨1, _⟩ => exact (D.rhsIdx_val_of_single rfl _ _).trans hk)
  rw [el, er, hs, hp]

/-- What the body leaves in the block of the product. -/
theorem pay_apply (P0 : Vec Ideal S1024x2048 .bf16) (P1 : Vec Ideal S1x1x704x2048 .bf16) (r : Fin 1024) (f : Fin 704) :
    k0_pay2 (F := Ideal) P0 P1 (ix3 0 r f) = ∑ k : Fin 2048, P0 (ix2 r k) * P1 (ix4 0 0 f k) := by
  rw [← prod_apply]
  show shapeCast S1x1024x704 (truncf (F := Ideal) .bf16 (prod P0 P1) bitsLt_bf16_f32) shapeCasts_S1024x704_S1x1024x704 (ix3 0 r f) = _
  refine (shapeCast_apply (truncf (F := Ideal) .bf16 (prod P0 P1) bitsLt_bf16_f32) shapeCasts_S1024x704_S1x1024x704 (ix3 0 r f) (ix2 r f) ?_)
  rw [Shape.rowMajor_val_two, Shape.rowMajor_val_three]
  simp [ix2, ix3]

/-! ## The arrays that the call gets -/

variable (m : (ℓ : Loc nD τ sig) → Buf (Elt Ideal) ℓ)

theorem V_h (c : Dev nD) : (V m c main_v7 : FVec Ideal S4096x2048 .bf16)
    = truncf (F := Ideal) .bf16 (m ((c : Thread nD τ).loc main_arg0) : FVec Ideal S4096x2048 .f32) bitsLt_bf16_f32 := by
  simp only [V, hostOps0]
  after_results_simp <;> rfl

/-- The call's array of weights: the transpose, cut into the devices' slices. -/
theorem V_w (c : Dev nD) : (V m c main_v6 : FVec Ideal S8x1x704x2048 .bf16)
    = truncf (F := Ideal) .bf16 (shapeCast S8x1x704x2048 (transpose S5632x2048 [1, 0] (m ((c : Thread nD τ).loc main_arg2) : FVec Ideal S2048x5632 .f32)
      transposes_S2048x5632_S5632x2048_1_0) shapeCasts_S5632x2048_S8x1x704x2048) bitsLt_bf16_f32 := by
  simp only [V, hostOps0]
  after_results_simp <;> rfl

/-- Column `f` of device `j`'s slice, as a column of the whole product. -/
def col (j : Fin 8) (f : Fin 704) : Fin 5632 := ⟨j.val * 704 + f.val, by omega⟩

/-- Cutting the columns into slices: entry `(j, r, f)` is entry `(r, 704 j + f)` of the whole. -/
theorem slice_apply (y : FVec Ideal Cert.Reference7Ideal.S4096x5632 .f32)
    (h1 : Cert.Reference7Ideal.S4096x5632.ShapeCasts Cert.Reference7Ideal.S4096x8x704)
    (h2 : Cert.Reference7Ideal.S4096x8x704.Transposes [1, 0, 2] S8x4096x704) (j : Fin 8) (r : Fin 4096) (f : Fin 704) :
    truncf (F := Ideal) .bf16 (transpose S8x4096x704 [1, 0, 2] (shapeCast Cert.Reference7Ideal.S4096x8x704 y h1) h2) bitsLt_bf16_f32 (ix3 j r f)
      = y (ix2 r (col j f)) := by
  show transpose S8x4096x704 [1, 0, 2] (shapeCast Cert.Reference7Ideal.S4096x8x704 y h1) h2 (ix3 j r f) = y (ix2 r (col j f))
  refine (transpose_apply [1, 0, 2] _ h2 (ix3 j r f) (ix3 r j f) (fun b => match b with
    | ⟨0, _⟩ => rfl
    | ⟨1, _⟩ => rfl
    | ⟨2, _⟩ => rfl)).trans ?_
  refine shapeCast_apply _ h1 (ix3 r j f) (ix2 r (col j f)) ?_
  rw [Shape.rowMajor_val_two, Shape.rowMajor_val_three]
  show r.val * 5632 + (j.val * 704 + f.val) = (r.val * 8 + j.val) * 704 + f.val
  omega

theorem V_w_apply (c : Dev nD) (j : Fin 8) (f : Fin 704) (k : Fin 2048) :
    (V m c main_v6 : FVec Ideal S8x1x704x2048 .bf16) (ix4 j 0 f k)
      = (m ((c : Thread nD τ).loc main_arg2) : FVec Ideal S2048x5632 .f32) (ix2 k (col j f)) := by
  rw [V_w]
  show shapeCast S8x1x704x2048 (transpose S5632x2048 [1, 0] (m ((c : Thread nD τ).loc main_arg2) : FVec Ideal S2048x5632 .f32)
      transposes_S2048x5632_S5632x2048_1_0) shapeCasts_S5632x2048_S8x1x704x2048 (ix4 j 0 f k) = _
  refine (shapeCast_apply _ shapeCasts_S5632x2048_S8x1x704x2048 (ix4 j 0 f k) (ix2 (col j f) k) ?_).trans ?_
  · rw [Shape.rowMajor_val_two, Shape.rowMajor_val_four]
    show (j.val * 704 + f.val) * 2048 + k.val = ((j.val * 1 + 0) * 704 + f.val) * 2048 + k.val
    omega
  · exact transpose_apply [1, 0] _ transposes_S2048x5632_S5632x2048_1_0 (ix2 (col j f) k) (ix2 k (col j f)) (fun b => match b with
      | ⟨0, _⟩ => rfl
      | ⟨1, _⟩ => rfl)

/-- The call's array of gate values: the product `h · w_gate`, cut into the devices' slices. -/
theorem V_a (c : Dev nD) : (V m c main_v3 : FVec Ideal S8x4096x704 .bf16)
    = truncf (F := Ideal) .bf16 (transpose S8x4096x704 [1, 0, 2] (shapeCast S4096x8x704 (Cert.Reference7Ideal.Read.val_main_v1 (F := Ideal)
        (m ((c : Thread nD τ).loc main_arg0)) (m ((c : Thread nD τ).loc main_arg1))) shapeCasts_S4096x5632_S4096x8x704)
        transposes_S4096x8x704_S8x4096x704_1_0_2) bitsLt_bf16_f32 := by
  simp only [V, hostOps0]
  after_results_simp <;> rfl

theorem V_a_apply (c : Dev nD) (j : Fin 8) (r : Fin 4096) (f : Fin 704) :
    (V m c main_v3 : FVec Ideal S8x4096x704 .bf16) (ix3 j r f) = Cert.Reference7Ideal.Read.val_main_v1 (F := Ideal)
      (m ((c : Thread nD τ).loc main_arg0)) (m ((c : Thread nD τ).loc main_arg1)) (ix2 r (col j f)) := by
  rw [V_a, slice_apply]

/-! ## Where a point's blocks lie -/

/-- Each input window's block moves with the output's: `h` by its row block, the weights by their slice. -/
theorem idx_facts : ∀ t : Fin cfg0.N,
    win0_0.index t 0 = win0_3.index t 1 ∧ win0_0.index t 1 = 0
    ∧ win0_1.index t 0 = win0_3.index t 0 ∧ win0_1.index t 1 = 0 ∧ win0_1.index t 2 = 0 ∧ win0_1.index t 3 = 0
    ∧ win0_2.index t = win0_3.index t ∧ win0_4.index t = win0_3.index t
    ∧ win0_3.index t 0 < 8 ∧ win0_3.index t 1 < 4 ∧ win0_3.index t 2 = 0 :=
  (by decide +kernel : ∀ t : Fin grid0.N, _)

/-- Every block of the output is some point's. -/
theorem idx_onto : ∀ (j : Fin 8) (q : Fin 4), ∃ t : Fin cfg0.N, win0_3.index t 0 = j.val ∧ win0_3.index t 1 = q.val :=
  (by decide +kernel : ∀ (j : Fin 8) (q : Fin 4), ∃ t : Fin grid0.N, win0_3.index t 0 = j.val ∧ win0_3.index t 1 = q.val)

/-- The device slice that point `t` works on. -/
def sl (t : Fin cfg0.N) : Fin 8 := ⟨win0_3.index t 0, (idx_facts t).2.2.2.2.2.2.2.2.1⟩

/-- Row `r` of point `t`'s block, as a row of the array. -/
def row (t : Fin cfg0.N) (r : Fin 1024) : Fin 4096 :=
  ⟨win0_3.index t 1 * 1024 + r.val, by have := (idx_facts t).2.2.2.2.2.2.2.2.2.1; omega⟩

theorem blk0 (c : Dev nD) (t : Fin cfg0.N) (r : Fin 1024) (k : Fin 2048) :
    (iblk m c 0 t : FVec Ideal S1024x2048 .bf16) (ix2 r k) = (m ((c : Thread nD τ).loc main_arg0) : FVec Ideal S4096x2048 .f32) (ix2 (row t r) k) := by
  have e : (V m c main_v7 : FVec Ideal S4096x2048 .bf16) (ix2 (row t r) k) = (m ((c : Thread nD τ).loc main_arg0) : FVec Ideal S4096x2048 .f32) (ix2 (row t r) k) := by
    rw [V_h]
    rfl
  rw [← e]
  have h := idx_facts t
  refine congrArg (V m c main_v7 : FVec Ideal S4096x2048 .bf16) (funext fun a => Fin.ext ?_)
  match a with
  | ⟨0, _⟩ => show win0_0.index t 0 * 1024 + 1 * r.val = win0_3.index t 1 * 1024 + r.val; omega
  | ⟨1, _⟩ => show win0_0.index t 1 * 2048 + 1 * k.val = k.val; omega

theorem blk1 (c : Dev nD) (t : Fin cfg0.N) (f : Fin 704) (k : Fin 2048) :
    (iblk m c 1 t : FVec Ideal S1x1x704x2048 .bf16) (ix4 0 0 f k) = (m ((c : Thread nD τ).loc main_arg2) : FVec Ideal S2048x5632 .f32) (ix2 k (col (sl t) f)) := by
  rw [← V_w_apply m c]
  have h := idx_facts t
  refine congrArg (V m c main_v6 : FVec Ideal S8x1x704x2048 .bf16) (funext fun a => Fin.ext ?_)
  match a with
  | ⟨0, _⟩ => show win0_1.index t 0 * 1 + 1 * 0 = win0_3.index t 0; omega
  | ⟨1, _⟩ => show win0_1.index t 1 * 1 + 1 * 0 = 0; omega
  | ⟨2, _⟩ => show win0_1.index t 2 * 704 + 1 * f.val = f.val; omega
  | ⟨3, _⟩ => show win0_1.index t 3 * 2048 + 1 * k.val = k.val; omega

theorem blk2 (c : Dev nD) (t : Fin cfg0.N) (r : Fin 1024) (f : Fin 704) :
    (iblk m c 2 t : FVec Ideal S1x1024x704 .bf16) (ix3 0 r f) = Cert.Reference7Ideal.Read.val_main_v1 (F := Ideal)
      (m ((c : Thread nD τ).loc main_arg0)) (m ((c : Thread nD τ).loc main_arg1)) (ix2 (row t r) (col (sl t) f)) := by
  rw [← V_a_apply m c]
  have h := idx_facts t
  refine congrArg (V m c main_v3 : FVec Ideal S8x4096x704 .bf16) (funext fun a => Fin.ext ?_)
  match a with
  | ⟨0, _⟩ => show win0_2.index t 0 * 1 + 1 * 0 = win0_3.index t 0; rw [h.2.2.2.2.2.2.1]; omega
  | ⟨1, _⟩ => show win0_2.index t 1 * 1024 + 1 * r.val = win0_3.index t 1 * 1024 + r.val; rw [h.2.2.2.2.2.2.1]; omega
  | ⟨2, _⟩ => show win0_2.index t 2 * 704 + 1 * f.val = f.val; rw [h.2.2.2.2.2.2.1]; omega

/-- An index of a block is `(0, r, f)`. -/
theorem eq_blk (y : S1x1024x704.Idx) : ∃ (r : Fin 1024) (f : Fin 704), y = ix3 0 r f :=
  ⟨y 1, y 2, funext fun a => match a with
    | ⟨0, _⟩ => Fin.ext (by have : (y 0).val < 1 := (y 0).isLt; show (y 0).val = 0; omega)
    | ⟨1, _⟩ => rfl
    | ⟨2, _⟩ => rfl⟩

/-! ## The reference, entry by entry -/

/-- Entry `(r, q)` of the product `h · w`. -/
abbrev dotE (x : FVec Ideal S4096x2048 .f32) (w : FVec Ideal S2048x5632 .f32) (r : Fin 4096) (q : Fin 5632) : EReal :=
  ∑ k : Fin 2048, x (ix2 r k) * w (ix2 k q)

theorem v0_eq (x : FVec Ideal S4096x2048 .f32) (w : FVec Ideal S2048x5632 .f32) (r : Fin 4096) (q : Fin 5632) :
    Cert.Reference7Ideal.Read.val_main_v0 (F := Ideal) x w (ix2 r q) = dotE x w r q := by
  rw [Cert.Reference7Ideal.Read.val_main_v0_apply]
  refine Finset.sum_congr rfl fun k _ => ?_
  congr 1
  · exact congrArg x (funext fun a => match a with | ⟨0, _⟩ => rfl | ⟨1, _⟩ => rfl)
  · exact congrArg w (funext fun a => match a with | ⟨0, _⟩ => rfl | ⟨1, _⟩ => rfl)

/-- The reference's hidden value: `a · sigmoid a · b` for the gate value `a` and the up value `b`. -/
theorem v3_eq (x0 : FVec Ideal S4096x2048 .f32) (x1 x2 : FVec Ideal S2048x5632 .f32) (i : S4096x5632.Idx) :
    Cert.Reference7Ideal.Read.val_main_v3 (F := Ideal) x0 x1 x2 i
      = (show EReal from Cert.Reference7Ideal.Read.val_main_v1 (F := Ideal) x0 x1 i) * Ideal.logistic (Cert.Reference7Ideal.Read.val_main_v1 (F := Ideal) x0 x1 i)
        * (show EReal from Cert.Reference7Ideal.Read.val_main_v0 (F := Ideal) x0 x2 i) := by
  rw [Cert.Reference7Ideal.Read.val_main_v3_apply, Cert.Reference7Ideal.Read.val_main_v2_apply, Cert.Reference7Ideal.Read.val_main_call0_v5_apply,
    Cert.Reference7Ideal.Read.val_main_call0_v4_apply, Cert.Reference7Ideal.Read.val_main_call0_cst_0_apply, Cert.Reference7Ideal.Read.val_main_call0_v3_apply,
    Cert.Reference7Ideal.Read.val_main_call0_v2_apply, Cert.Reference7Ideal.Read.val_main_call0_cst_apply, Cert.Reference7Ideal.Read.val_main_call0_v1_apply,
    Cert.Reference7Ideal.Read.val_main_call0_v0_apply]
  generalize Cert.Reference7Ideal.Read.val_main_v1 (F := Ideal) x0 x1 i = a
  generalize Cert.Reference7Ideal.Read.val_main_v0 (F := Ideal) x0 x2 i = b
  show (show EReal from a) * Ideal.div (Ideal.ofBits .f32 0x3F800000#32) (Ideal.ofBits .f32 0x3F800000#32 + Ideal.exp (-(show EReal from a))) * (show EReal from b) = _
  rw [ofBits_one]
  rfl

/-! ## What a point writes back -/

/-- The result: `h · w_up`, cut into the devices' slices. -/
abbrev G3 (c : Dev nD) : FVec Ideal S8x4096x704 .bf16 := Cert.Reference7Ideal.Read.val_main_v6 (F := Ideal)
  (m ((c : Thread nD τ).loc main_arg0)) (m ((c : Thread nD τ).loc main_arg2))

theorem emb3 (t : Fin cfg0.N) (r : Fin 1024) (f : Fin 704) (G : FVec Ideal S8x4096x704 .bf16) :
    ((cfg0.win 3).blk t).view.read (Elt Ideal) G (ix3 0 r f) = G (ix3 (sl t) (row t r) f) := by
  have h := idx_facts t
  refine congrArg G (funext fun a => Fin.ext ?_)
  match a with
  | ⟨0, _⟩ => show win0_3.index t 0 * 1 + 1 * 0 = win0_3.index t 0; omega
  | ⟨1, _⟩ => show win0_3.index t 1 * 1024 + 1 * r.val = win0_3.index t 1 * 1024 + r.val; omega
  | ⟨2, _⟩ => show win0_3.index t 2 * 704 + 1 * f.val = f.val; omega

theorem flushed3_eq (c : Dev nD) (t : Fin cfg0.N) :
    (dats m 0 c).flushed 3 t = ((cfg0.win 3).blk t).view.read (Elt Ideal) (G3 m c) := by
  rw [Value.flushed3]
  unfold out0_3
  rw [View.ld_unit_zero hz2, View.ld_unit_zero hz4, View.canon_unit_zero hz3]
  funext y
  obtain ⟨r, f, rfl⟩ := eq_blk y
  refine (pay_apply (iblk m c 0 t) (iblk m c 1 t) r f).trans ?_
  rw [emb3]
  refine Eq.trans ?_ (slice_apply (Cert.Reference7Ideal.Read.val_main_v0 (F := Ideal) (m ((c : Thread nD τ).loc main_arg0)) (m ((c : Thread nD τ).loc main_arg2))) _ _ (sl t) (row t r) f).symm
  rw [v0_eq]
  exact Finset.sum_congr rfl fun k _ => by rw [blk0, blk1]

theorem cover3 (i : S8x4096x704.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 704 := (i 2).isLt
  obtain ⟨t, e0, e1⟩ := idx_onto ⟨(i 0).val, h0⟩ ⟨(i 1).val / 1024, by omega⟩
  have h := idx_facts t
  refine ⟨t, flush0_3 t, ?_⟩
  show i ∈ ((View.whole main_v8_0).slice (win0_3.rect t)).set
  rw [View.set_slice_whole, Rect.mem_set_unit]
  intro a
  match a with
  | ⟨0, _⟩ => show win0_3.index t 0 * 1 ≤ (i 0).val ∧ (i 0).val < win0_3.index t 0 * 1 + 1; simp only at e0; omega
  | ⟨1, _⟩ => show win0_3.index t 1 * 1024 ≤ (i 1).val ∧ (i 1).val < win0_3.index t 1 * 1024 + 1024; simp only at e1; omega
  | ⟨2, _⟩ => show win0_3.index t 2 * 704 ≤ (i 2).val ∧ (i 2).val < win0_3.index t 2 * 704 + 704; omega

/-- The result: `silu (h · w_gate) · (h · w_up)`, cut into the devices' slices. -/
abbrev G4 (c : Dev nD) : FVec Ideal S8x4096x704 .bf16 := Cert.Reference7Ideal.Read.val_main_v9 (F := Ideal)
  (m ((c : Thread nD τ).loc main_arg0)) (m ((c : Thread nD τ).loc main_arg1)) (m ((c : Thread nD τ).loc main_arg2))

theorem emb4 (t : Fin cfg0.N) (r : Fin 1024) (f : Fin 704) (G : FVec Ideal S8x4096x704 .bf16) :
    ((cfg0.win 4).blk t).view.read (Elt Ideal) G (ix3 0 r f) = G (ix3 (sl t) (row t r) f) := by
  have h := idx_facts t
  refine congrArg G (funext fun a => Fin.ext ?_)
  match a with
  | ⟨0, _⟩ => show win0_4.index t 0 * 1 + 1 * 0 = win0_3.index t 0; rw [h.2.2.2.2.2.2.2.1]; omega
  | ⟨1, _⟩ => show win0_4.index t 1 * 1024 + 1 * r.val = win0_3.index t 1 * 1024 + r.val; rw [h.2.2.2.2.2.2.2.1]; omega
  | ⟨2, _⟩ => show win0_4.index t 2 * 704 + 1 * f.val = f.val; rw [h.2.2.2.2.2.2.2.1]; omega

theorem flushed4_eq (c : Dev nD) (t : Fin cfg0.N) :
    (dats m 0 c).flushed 4 t = ((cfg0.win 4).blk t).view.read (Elt Ideal) (G4 m c) := by
  rw [Value.flushed4]
  unfold out0_4
  rw [View.ld_unit_zero hz2, View.ld_unit_zero hz4, View.ld_unit_zero hz3]
  funext y
  refine (Value.canon4_eq (F := Ideal) (iblk m c 2 t) (iblk m c 0 t) (iblk m c 1 t) y).trans ?_
  obtain ⟨r, f, rfl⟩ := eq_blk y
  rw [emb4]
  refine Eq.trans ?_ (slice_apply (Cert.Reference7Ideal.Read.val_main_v3 (F := Ideal) (m ((c : Thread nD τ).loc main_arg0)) (m ((c : Thread nD τ).loc main_arg1)) (m ((c : Thread nD τ).loc main_arg2))) _ _ (sl t) (row t r) f).symm
  rw [v3_eq, v0_eq]
  have e0 : Value.ix4_0 (ix3 (0 : Fin 1) r f : S1x1024x704.Idx) = ix3 0 r f := funext fun a => match a with | ⟨0, _⟩ => rfl | ⟨1, _⟩ => rfl | ⟨2, _⟩ => rfl
  have e2 : Value.ix4_2 (ix3 (0 : Fin 1) r f : S1x1024x704.Idx) = ix2 r f := funext fun a => match a with | ⟨0, _⟩ => rfl | ⟨1, _⟩ => rfl
  show (show EReal from (iblk m c 2 t : FVec Ideal S1x1024x704 .bf16) (Value.ix4_0 (ix3 (0 : Fin 1) r f)))
    * Ideal.logistic ((iblk m c 2 t : FVec Ideal S1x1024x704 .bf16) (Value.ix4_0 (ix3 (0 : Fin 1) r f)))
    * (show EReal from prod (iblk m c 0 t) (iblk m c 1 t) (Value.ix4_2 (ix3 (0 : Fin 1) r f))) = _
  rw [e0, e2, blk2, prod_apply]
  congr 1
  exact Finset.sum_congr rfl fun k _ => by rw [blk0, blk1]

theorem cover4 (i : S8x4096x704.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 704 := (i 2).isLt
  obtain ⟨t, e0, e1⟩ := idx_onto ⟨(i 0).val, h0⟩ ⟨(i 1).val / 1024, by omega⟩
  have h := idx_facts t
  have e := h.2.2.2.2.2.2.2.1
  refine ⟨t, flush0_4 t, ?_⟩
  show i ∈ ((View.whole main_v8_1).slice (win0_4.rect t)).set
  rw [View.set_slice_whole, Rect.mem_set_unit]
  intro a
  match a with
  | ⟨0, _⟩ => show win0_4.index t 0 * 1 ≤ (i 0).val ∧ (i 0).val < win0_4.index t 0 * 1 + 1; rw [e]; simp only at e0; omega
  | ⟨1, _⟩ => show win0_4.index t 1 * 1024 ≤ (i 1).val ∧ (i 1).val < win0_4.index t 1 * 1024 + 1024; rw [e]; simp only at e1; omega
  | ⟨2, _⟩ => show win0_4.index t 2 * 704 ≤ (i 2).val ∧ (i 2).val < win0_4.index t 2 * 704 + 704; rw [e]; omega

variable (ρ : Dev nD → PrngReg)

/-- THE CALL: the results are the reference's, and the arguments end unchanged. -/
theorem run : θ_run defs (onTc (τ := τ) (main (F := Ideal))) ⟨m, fun _ => 0, ρ⟩ fun r => ∀ c : Dev nD,
      r.2.mem ((c : Thread nD τ).loc main_v8_0) = G3 m c
      ∧ r.2.mem ((c : Thread nD τ).loc main_v8_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 (G3 m c) (fun t _ => flushed3_eq m c t) cover3),
      (h c).2.1.trans ((dats m 0 c).arrAt_eq_of_cover 4 (G4 m c) (fun t _ => flushed4_eq m c t) cover4), (h c).2.2⟩)
    (Value.run_blocks m ρ)

end Cert.Hid

end
-- ==== Proof.HidClaims.lean ====
/-
  The claims on the up projection's forward call.
-/
module

public import proofs.«01_k».proof.Proof.Hid

@[expose] public section

noncomputable section

namespace Cert.Hid

open Idealize.ShloMosaic Idealize.ShloMosaic.TcCoe Idealize.SL.Sem

/-- The reference ends with every semaphore at zero, its arguments unchanged. -/
theorem frame_ref : Cert.quiescent_Reference7Ideal := fun m ρ _ =>
  (θ_run Cert.Reference7Ideal.defs _ _).mono (fun r h =>
      ⟨fun c => (h c).2.2, Idealize.ShloMosaic.sem_eq_zero_of_no_sems (by decide) r.2⟩)
    (Cert.Reference7Ideal.Value.run (F := Ideal) m ρ)

/-- The call computes the reference's result on all extended reals. -/
theorem algebraic : Cert.algebraic_Kernel7Ideal_Reference7Ideal := fun m ρ m' ρ' _ hag =>
  ⟨G3 m, G4 m, run m ρ, (θ_run _ _ _).mono (fun _ h c => by
    obtain ⟨e0, e1, e2⟩ := hag c
    refine ⟨?_, ?_, (h c).2.2⟩
    · rw [(h c).1, Cert.Reference7Ideal.Read.val_main_v6_eq, e0, e2]
    · rw [(h c).2.1, Cert.Reference7Ideal.Read.val_main_v9_eq, e0, e1, e2]) (Cert.Reference7Ideal.Value.run (F := Ideal) m' ρ')⟩

end Cert.Hid

end
-- ==== Proof.Out.lean ====
/-
  The output projection's forward call, over the reals: the array that the call returns is `x + mixed · w_out`.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Reals
public import proofs.«01_k».proof.Proof.Sums

@[expose] public section

set_option maxRecDepth 16384

noncomputable section

namespace Cert.Out

open Idealize.ShloMosaic Idealize.ShloMosaic.TcCoe Idealize.SL.Sem Cert.Reals Cert.Sums
open Idealize.ShloMosaic.ValueIdx
open Cert.Kernel14Ideal Cert.Kernel14Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the cases leave -/

section Cases

variable {F : FTy → Type} [FloatOps F] (m : (ℓ : Loc nD τ sig) → Buf (Elt F) ℓ)

/-- A run's first point leaves its block product in the scratch. -/
theorem scr_A (c : Dev nD) (t : Fin cfg0.N) (h0 : t.val % 2 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz2 _ _).trans ((hs0_0 t).read_unread _)))
    ((View.ld_unit_zero hz2 _ _).trans ((hs0_1 t).read_unread _))

/-- A later point adds its block product to what the point before left. -/
theorem scr_BC (c : Dev nD) (t : Fin cfg0.N) (h0 : ¬t.val % 2 = 0) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 (by omega) (by omega)]
  unfold sout0_B_0
  dsimp only
  rw [View.read_writes_eq_canon _ _ _ (fun y => scover0_B_0 c _ _ _ _ _ _ _ _ _ _ _ _ _ _ _ _ _ _ y)]
  unfold kernelRun0_B
  dsimp only
  sl_unfold_words
  rw [View.canon_unit_zero hz2]
  simp only [View.readAt_eq_ld]
  exact congr (congr (congrArg k0_pay3 ((View.ld_unit_zero hz2 _ _).trans ((hs0_0 t).read_unread _)))
        ((View.ld_unit_zero hz2 _ _).trans ((hs0_1 t).read_unread _)))
        ((View.ld_unit_zero hz2 _ _).trans ((Memref.isWhole_whole cc0_scratch0).read_unread _))

/-- What a run's last point writes back. -/
theorem out_last (c : Dev nD) (t : Fin cfg0.N) (h2 : t.val % 2 = 1) :
    (dats m 0 c).flushed 3 t = k0_pay4 (outsAt0 m c t.val t.isLt).2 (iblk m c 2 t) := by
  rw [Value.flushed3_B m c t (by omega) (by omega) h2, scr_BC m c t (by omega)]
  show out0_B_3 (F := F) _ _ _ _ _ _ _ _ _ _ _ _ _ _ _ _ _ _ _ = _
  unfold out0_B_3
  rw [View.read_writes_eq_canon _ _ _ (fun y => cover0_B_3 c _ _ _ _ _ _ _ _ _ _ _ _ _ _ _ _ _ _ y)]
  unfold kernelRun0_B
  dsimp only
  sl_unfold_words
  rw [View.canon_unit_zero hz2]
  simp only [View.readAt_eq_ld]
  rw [View.readCov_unit_zero _ hz2]
  exact congr (congrArg k0_pay4 (congr (congr (congrArg k0_pay3 ((View.ld_unit_zero hz2 _ _).trans ((hs0_0 t).read_unread _)))
      ((View.ld_unit_zero hz2 _ _).trans ((hs0_1 t).read_unread _)))
      ((View.ld_unit_zero hz2 _ _).trans ((Memref.isWhole_whole cc0_scratch0).read_unread _))))
    ((View.ld_unit_zero hz2 _ _).trans ((hs0_2 t).read_unread _))

end Cases

/-! ## The payloads over the reals -/

abbrev D : DotDims S1024x1024 S1024x1024 S1024x1024 := dot_S1024x1024_S1024x1024_S1024x1024_1_0_0_1_n_n

/-- The block product, entry by entry. -/
def part (P0 : FVec Ideal S1024x1024 .f32) (P1 : FVec Ideal S1024x1024 .bf16) (r n : Fin 1024) : EReal := ∑ k : Fin 1024, P0 (ix2 r k) * P1 (ix2 k n)

theorem pay1_apply (P0 : FVec Ideal S1024x1024 .f32) (P1 : FVec Ideal S1024x1024 .bf16) (r n : Fin 1024) :
    k0_pay1 (F := Ideal) P0 P1 (ix2 r n) = part P0 P1 r n := by
  have hs' : ∀ k : Fin 1024, shapeCast S1024x1024 P1 shapeCasts_S1024x1024_S1024x1024 (ix2 k n) = P1 (ix2 k n) := fun k => shapeCast_apply P1 shapeCasts_S1024x1024_S1024x1024 (ix2 k n) (ix2 k n) rfl
  unfold k0_pay1 part
  show Ideal.ofBits .f32 0x00000000#32 + ∑ k : D.contr.Idx, P0 (D.lhsIdx (ix2 r n) k) * (shapeCast S1024x1024 P1 shapeCasts_S1024x1024_S1024x1024) (D.rhsIdx (ix2 r n) k) = _
  rw [ofBits_zero, EReal.coe_zero, zero_add]
  rw [← Equiv.sum_comp (contrEquiv1 D 1024 rfl rfl).symm]
  refine Finset.sum_congr rfl fun k _ => ?_
  have hk := contrEquiv1_symm_val D 1024 rfl rfl k
  have el : D.lhsIdx (ix2 r n) ((contrEquiv1 D 1024 rfl rfl).symm k) = (ix2 r k) := funext fun a => Fin.ext (by
    match a with
    | ⟨0, _⟩ => rfl
    | ⟨1, _⟩ => exact (D.lhsIdx_val_of_single rfl _ _).trans hk)
  have er : D.rhsIdx (ix2 r n) ((contrEquiv1 D 1024 rfl rfl).symm k) = ix2 k n := funext fun a => Fin.ext (by
    match a with
    | ⟨0, _⟩ => exact (D.rhsIdx_val_of_single rfl _ _).trans hk
    | ⟨1, _⟩ => rfl)
  rw [el, er, hs']

theorem pay2_apply (P0 : FVec Ideal S1024x1024 .f32) (P1 : FVec Ideal S1024x1024 .bf16) (r n : Fin 1024) :
    k0_pay2 (F := Ideal) P0 P1 (ix2 r n) = part P0 P1 r n := by
  rw [← pay1_apply]
  unfold k0_pay2
  exact shapeCast_apply _ shapeCasts_S1024x1024_S1024x1024 (ix2 r n) (ix2 r n) rfl

theorem pay3_apply (P0 : FVec Ideal S1024x1024 .f32) (P1 : FVec Ideal S1024x1024 .bf16) (X : FVec Ideal S1024x1024 .f32) (r n : Fin 1024) :
    k0_pay3 (F := Ideal) P0 P1 X (ix2 r n) = (show EReal from X (ix2 r n)) + part P0 P1 r n := by
  rw [← pay1_apply]
  unfold k0_pay3
  exact shapeCast_apply _ shapeCasts_S1024x1024_S1024x1024 (ix2 r n) (ix2 r n) rfl

/-! ## The call's blocks, in the arguments -/

variable (m : (ℓ : Loc nD τ sig) → Buf (Elt Ideal) ℓ)

/-- The two factors. -/
abbrev LA (c : Dev nD) : FVec Ideal S4096x2048 .f32 := m ((c : Thread nD τ).loc main_arg1)
abbrev RA (c : Dev nD) : FVec Ideal S2048x2048 .f32 := m ((c : Thread nD τ).loc main_arg2)
abbrev XA (c : Dev nD) : FVec Ideal S4096x2048 .f32 := m ((c : Thread nD τ).loc main_arg0)

theorem V_l_apply (c : Dev nD) (i : S4096x2048.Idx) : (V m c main_arg1 : FVec Ideal S4096x2048 .f32) i = LA m c i := congrFun (V_main_arg1 m c) i

/-- The weights pass through the devices' slices and come back as they were. -/
theorem V_r (c : Dev nD) : (V m c main_v2 : FVec Ideal S2048x2048 .bf16)
    = shapeCast S2048x2048 (truncf (F := Ideal) .bf16 (shapeCast S8x1x256x2048 (RA m c) shapeCasts_S2048x2048_S8x1x256x2048) bitsLt_bf16_f32) shapeCasts_S8x1x256x2048_S2048x2048 := by
  simp only [V, hostOps0]
  after_results_simp <;> rfl

theorem V_r_at (c : Dev nD) (i : Fin 2048) (n : Fin 2048) : (V m c main_v2 : FVec Ideal S2048x2048 .bf16) (ix2 i n) = RA m c (ix2 i n) := by
  rw [V_r]
  refine (shapeCast_apply _ shapeCasts_S8x1x256x2048_S2048x2048 (ix2 i n) (ix4 (⟨i.val / 256, by omega⟩ : Fin 8) (0 : Fin 1) (⟨i.val % 256, by omega⟩ : Fin 256) n) ?_).trans ?_
  · rw [Shape.rowMajor_val_two, Shape.rowMajor_val_four]
    show ((i.val / 256 * 1 + 0) * 256 + i.val % 256) * 2048 + n.val = i.val * 2048 + n.val
    rw [show (i.val / 256 * 1 + 0) * 256 + i.val % 256 = i.val by omega]
  · refine shapeCast_apply (RA m c) shapeCasts_S2048x2048_S8x1x256x2048 (ix4 (⟨i.val / 256, by omega⟩ : Fin 8) (0 : Fin 1) (⟨i.val % 256, by omega⟩ : Fin 256) n) (ix2 i n) ?_
    rw [Shape.rowMajor_val_two, Shape.rowMajor_val_four]
    show i.val * 2048 + n.val = ((i.val / 256 * 1 + 0) * 256 + i.val % 256) * 2048 + n.val
    rw [show (i.val / 256 * 1 + 0) * 256 + i.val % 256 = i.val by omega]

/-- The index maps, in the point's number. -/
theorem idx_facts : ∀ t : Fin cfg0.N, win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = t.val / 4 ∧ win0_2.index t (1 : Fin 2) = t.val / 2 % 2
    ∧ win0_3.index t (0 : Fin 2) = t.val / 4 ∧ win0_3.index t (1 : Fin 2) = t.val / 2 % 2 :=
  (by decide +kernel : ∀ t : Fin grid0.N, _)

theorem lt_N (t : Fin cfg0.N) : t.val < 16 := lt_of_lt_of_eq t.isLt N_0

/-- Row `r` of point `t`'s block, as a row of the result. -/
def row (t : ℕ) (r : Fin 1024) : Fin 4096 := ⟨t / 4 % 4 * 1024 + r.val, by omega⟩

/-- Column `n` of point `t`'s block, as a column of the result. -/
def out (t : ℕ) (n : Fin 1024) : Fin 2048 := ⟨t / 2 % 2 * 1024 + n.val, by omega⟩

theorem blk0 (c : Dev nD) (t : Fin cfg0.N) (r : Fin 1024) (k : Fin 1024) :
    (iblk m c 0 t : FVec Ideal S1024x1024 .f32) (ix2 r k) = LA m c (ix2 (row t.val r) (place 2048 1024 (t.val % 2) k.val)) := by
  rw [← V_l_apply m c]
  have h := idx_facts t
  have hN := lt_N t
  refine congrArg (V m c main_arg1 : FVec Ideal S4096x2048 .f32) (funext fun a => Fin.ext ?_)
  match a with
  | ⟨0, _⟩ => show win0_0.index t 0 * 1024 + 1 * r.val = t.val / 4 % 4 * 1024 + r.val; omega
  | ⟨1, _⟩ => show win0_0.index t 1 * 1024 + 1 * k.val = (1024 * (t.val % 2) + k.val) % 2048; omega

theorem blk1 (c : Dev nD) (t : Fin cfg0.N) (k : Fin 1024) (n : Fin 1024) :
    (iblk m c 1 t : FVec Ideal S1024x1024 .bf16) (ix2 k n) = RA m c (ix2 (place 2048 1024 (t.val % 2) k.val) (out t.val n)) := by
  rw [← V_r_at m c]
  have h := idx_facts t
  have hN := lt_N t
  refine congrArg (V m c main_v2 : FVec Ideal S2048x2048 .bf16) (funext fun a => Fin.ext ?_)
  match a with
  | ⟨0, _⟩ => show win0_1.index t 0 * 1024 + 1 * k.val = (1024 * (t.val % 2) + k.val) % 2048; omega
  | ⟨1, _⟩ => show win0_1.index t 1 * 1024 + 1 * n.val = t.val / 2 % 2 * 1024 + n.val; omega

theorem blk2 (c : Dev nD) (t : Fin cfg0.N) (r n : Fin 1024) :
    (iblk m c 2 t : FVec Ideal S1024x1024 .f32) (ix2 r n) = XA m c (ix2 (row t.val r) (out t.val n)) := by
  have e : V m c main_arg0 = XA m c := V_main_arg0 m c
  rw [← e]
  have h := idx_facts t
  have hN := lt_N t
  refine congrArg (V m c main_arg0 : FVec Ideal S4096x2048 .f32) (funext fun a => Fin.ext ?_)
  match a with
  | ⟨0, _⟩ => show win0_2.index t 0 * 1024 + 1 * r.val = t.val / 4 % 4 * 1024 + r.val; omega
  | ⟨1, _⟩ => show win0_2.index t 1 * 1024 + 1 * n.val = t.val / 2 % 2 * 1024 + n.val; omega

/-- The `i`-th term of entry `(r, n)` of the product. -/
def term (c : Dev nD) (r : Fin 4096) (n : Fin 2048) (i : Fin 2048) : EReal := LA m c (ix2 r i) * RA m c (ix2 i n)

/-- Point `t`'s block product is the sum over its part. -/
theorem blk_sum (c : Dev nD) (t : Fin cfg0.N) (r n : Fin 1024) :
    part (iblk m c 0 t) (iblk m c 1 t) r n = blkSum 1024 (term m c (row t.val r) (out t.val n)) (t.val % 2) := by
  unfold blkSum term part
  exact Finset.sum_congr rfl fun k _ => by rw [blk0, blk1]

/-! ## The accumulation -/

/-- After point `t` the scratch holds the sums over the run's parts so far. -/
theorem scr (c : Dev nD) (r n : Fin 1024) : ∀ (t : ℕ) (ht : t < cfg0.N),
    (show EReal from ((outsAt0 m c t ht).2 : FVec Ideal S1024x1024 .f32) (ix2 r n)) = blkSums 1024 (term m c (row t r) (out t n)) (t % 2 + 1) := by
  intro t
  induction t with
  | zero =>
    intro ht
    rw [scr_A m c ⟨0, ht⟩ rfl, pay2_apply]
    refine (blk_sum m c ⟨0, ht⟩ r n).trans ?_
    rw [blkSums_one]; rfl
  | succ t ih =>
    intro ht
    by_cases h0 : (t + 1) % 2 = 0
    · rw [scr_A m c ⟨t + 1, ht⟩ h0, pay2_apply]
      refine (blk_sum m c ⟨t + 1, ht⟩ r n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ r n)).trans ?_
      have e1 : row (t + 1) r = row t r := Fin.ext (by show (t + 1) / 4 % 4 * 1024 + r.val = t / 4 % 4 * 1024 + r.val; omega)
      have e2 : out (t + 1) n = out t n := Fin.ext (by show (t + 1) / 2 % 2 * 1024 + n.val = t / 2 % 2 * 1024 + n.val; omega)
      show _ + blkSum 1024 (term m c (row (t + 1) r) (out (t + 1) n)) ((t + 1) % 2) = _
      rw [e1, e2, show (t + 1) % 2 = t % 2 + 1 by omega, ← blkSums_succ]

/-! ## The reference -/

/-- The result, as the reference computes it. -/
abbrev G (c : Dev nD) : FVec Ideal S4096x2048 .f32 := Cert.Reference14Ideal.Read.val_main_v1 (F := Ideal)
  (m ((c : Thread nD τ).loc main_arg0)) (m ((c : Thread nD τ).loc main_arg1)) (m ((c : Thread nD τ).loc main_arg2))

theorem G_apply (c : Dev nD) (r : Fin 4096) (n : Fin 2048) :
    G m c (ix2 r n) = (show EReal from XA m c (ix2 r n)) + ∑ i : Fin 2048, term m c r n i := by
  unfold G term
  rw [Cert.Reference14Ideal.Read.val_main_v1_apply]
  refine congrArg (fun z : EReal => (show EReal from XA m c (ix2 r n)) + z) ?_
  rw [Cert.Reference14Ideal.Read.val_main_v0_apply]
  refine Finset.sum_congr rfl fun i _ => ?_
  congr 1
  · exact congrArg (LA m c) (funext fun a => match a with | ⟨0, _⟩ => rfl | ⟨1, _⟩ => rfl)
  · exact congrArg (RA m c) (funext fun a => match a with | ⟨0, _⟩ => rfl | ⟨1, _⟩ => rfl)

/-! ## The whole array -/

theorem eq_blk (y : S1024x1024.Idx) : ∃ (r n : Fin 1024), y = ix2 r n :=
  ⟨y 0, y 1, funext fun a => match a with
    | ⟨0, _⟩ => rfl
    | ⟨1, _⟩ => rfl⟩

theorem emb (t : Fin cfg0.N) (r n : Fin 1024) (G : FVec Ideal S4096x2048 .f32) :
    ((cfg0.win 3).blk t).view.read (Elt Ideal) G (ix2 r n) = G (ix2 (row t.val r) (out t.val n)) := by
  have h := idx_facts t
  have hN := lt_N t
  refine congrArg G (funext fun a => Fin.ext ?_)
  match a with
  | ⟨0, _⟩ => show win0_3.index t 0 * 1024 + 1 * r.val = t.val / 4 % 4 * 1024 + r.val; omega
  | ⟨1, _⟩ => show win0_3.index t 1 * 1024 + 1 * n.val = t.val / 2 % 2 * 1024 + n.val; omega

/-- The sum that a run's last point holds is the whole product's entry. -/
theorem scr_last (c : Dev nD) (t : Fin cfg0.N) (h2 : t.val % 2 = 1) (r n : Fin 1024) :
    (show EReal from ((outsAt0 m c t.val t.isLt).2 : FVec Ideal S1024x1024 .f32) (ix2 r n)) = ∑ i : Fin 2048, term m c (row t.val r) (out t.val n) i := by
  refine (scr m c r n t.val t.isLt).trans ?_
  rw [h2]
  exact blkSums_all 1024 2 rfl _

/-- What a run's last point writes back is its block of the reference's result. -/
theorem flushed_eq (c : Dev nD) (t : Fin cfg0.N) (hf : (cfg0.win 3).flush t = true) :
    (dats m 0 c).flushed 3 t = ((cfg0.win 3).blk t).view.read (Elt Ideal) (G m c) := by
  have h2 : t.val % 2 = 1 := (flush0_3 t).mp hf
  rw [out_last m c t h2]
  funext y
  obtain ⟨r, n, rfl⟩ := eq_blk y
  rw [emb, G_apply, ← blk2, ← scr_last m c t h2 r n]
  rfl

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 (G m c) (fun t hf => flushed_eq m c t hf)
      (fun i => (Value.covered_iff3 i).2 (by
        have h0 : (i 0).val < 4096 := (i 0).isLt; have h1 : (i 1).val < 2048 := (i 1).isLt; omega))), (h c).2⟩)
    (Value.run_blocks m ρ)

end Cert.Out

end
-- ==== Proof.OutClaims.lean ====
/-
  The claims on the output projection's forward call.
-/
module

public import proofs.«01_k».proof.Proof.Out

@[expose] public section

noncomputable section

namespace Cert.Out

open Idealize.ShloMosaic Idealize.ShloMosaic.TcCoe Idealize.SL.Sem

/-- The reference ends with every semaphore at zero, its arguments unchanged. -/
theorem frame_ref : Cert.quiescent_Reference14Ideal := fun m ρ _ =>
  (θ_run Cert.Reference14Ideal.defs _ _).mono (fun r h =>
      ⟨fun c => (h c).2, Idealize.ShloMosaic.sem_eq_zero_of_no_sems (by decide) r.2⟩)
    (Cert.Reference14Ideal.Value.run (F := Ideal) m ρ)

/-- The call computes the reference's result on all extended reals. -/
theorem algebraic : Cert.algebraic_Kernel14Ideal_Reference14Ideal := fun m ρ m' ρ' _ hag =>
  ⟨G m, run m ρ, (θ_run _ _ _).mono (fun _ h c => by
    obtain ⟨e0, e1, e2⟩ := hag c
    refine ⟨?_, (h c).2⟩
    rw [(h c).1, Cert.Reference14Ideal.Read.val_main_v1_eq, e0, e1, e2]) (Cert.Reference14Ideal.Value.run (F := Ideal) m' ρ')⟩

end Cert.Out

end
-- ==== Proof.Proj.lean ====
/-
  The input projection's forward call, over the reals: the array that the call returns is `h · w_in`.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Reals
public import proofs.«01_k».proof.Proof.Sums

@[expose] public section

set_option maxRecDepth 16384

noncomputable section

namespace Cert.Proj

open Idealize.ShloMosaic Idealize.ShloMosaic.TcCoe Idealize.SL.Sem Cert.Reals Cert.Sums
open Idealize.ShloMosaic.ValueIdx
open Cert.Kernel13Ideal Cert.Kernel13Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the cases leave -/

section Cases

variable {F : FTy → Type} [FloatOps F] (m : (ℓ : Loc nD τ sig) → Buf (Elt F) ℓ)

/-- A run's first point leaves its block product in the scratch. -/
theorem scr_A (c : Dev nD) (t : Fin cfg0.N) (h0 : t.val % 2 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz2 _ _).trans ((hs0_0 t).read_unread _)))
    ((View.ld_unit_zero hz2 _ _).trans ((hs0_1 t).read_unread _))

/-- A later point adds its block product to what the point before left. -/
theorem scr_BC (c : Dev nD) (t : Fin cfg0.N) (h0 : ¬t.val % 2 = 0) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 (by omega) (by omega)]
  unfold sout0_B_0
  dsimp only
  rw [View.read_writes_eq_canon _ _ _ (fun y => scover0_B_0 c _ _ _ _ _ _ _ _ _ _ _ _ _ _ _ y)]
  unfold kernelRun0_B
  dsimp only
  sl_unfold_words
  rw [View.canon_unit_zero hz2]
  simp only [View.readAt_eq_ld]
  exact congr (congr (congrArg k0_pay3 ((View.ld_unit_zero hz2 _ _).trans ((hs0_0 t).read_unread _)))
        ((View.ld_unit_zero hz2 _ _).trans ((hs0_1 t).read_unread _)))
        ((View.ld_unit_zero hz2 _ _).trans ((Memref.isWhole_whole cc0_scratch0).read_unread _))

/-- What a run's last point writes back. -/
theorem out_last (c : Dev nD) (t : Fin cfg0.N) (h2 : t.val % 2 = 1) :
    (dats m 0 c).flushed 2 t = (outsAt0 m c t.val t.isLt).2 := by
  rw [Value.flushed2_B m c t (by omega) (by omega) h2, scr_BC m c t (by omega)]
  show out0_B_2 (F := F) _ _ _ _ _ _ _ _ _ _ _ _ _ _ _ _ = _
  unfold out0_B_2
  rw [View.read_writes_eq_canon _ _ _ (fun y => cover0_B_2 c _ _ _ _ _ _ _ _ _ _ _ _ _ _ _ y)]
  unfold kernelRun0_B
  dsimp only
  sl_unfold_words
  rw [View.canon_unit_zero hz2]
  simp only [View.readAt_eq_ld]
  refine (congrFun (congrArg (View.readCov (View.whole cc0_scratch0)) (congrArg (fun w => [(⟨_, w⟩ : View.Piece (Elt F) S1024x1024 .f32)])
    (congr (congr (congrArg k0_pay3 ((View.ld_unit_zero hz2 _ _).trans ((hs0_0 t).read_unread _)))
      ((View.ld_unit_zero hz2 _ _).trans ((hs0_1 t).read_unread _)))
      ((View.ld_unit_zero hz2 _ _).trans ((Memref.isWhole_whole cc0_scratch0).read_unread _))))) _).trans ?_
  exact View.readCov_unit_zero _ hz2 _ _

end Cases

/-! ## The payloads over the reals -/

abbrev D : DotDims S1024x1024 S1024x1024 S1024x1024 := dot_S1024x1024_S1024x1024_S1024x1024_1_0_0_1_n_n

/-- The block product, entry by entry. -/
def part (P0 : FVec Ideal S1024x1024 .bf16) (P1 : FVec Ideal S1024x1024 .bf16) (r n : Fin 1024) : EReal := ∑ k : Fin 1024, P0 (ix2 r k) * P1 (ix2 k n)

theorem pay1_apply (P0 : FVec Ideal S1024x1024 .bf16) (P1 : FVec Ideal S1024x1024 .bf16) (r n : Fin 1024) :
    k0_pay1 (F := Ideal) P0 P1 (ix2 r n) = part P0 P1 r n := by
  have hs : ∀ k : Fin 1024, shapeCast S1024x1024 P0 shapeCasts_S1024x1024_S1024x1024 (ix2 r k) = P0 (ix2 r k) := fun k => shapeCast_apply P0 shapeCasts_S1024x1024_S1024x1024 (ix2 r k) (ix2 r k) rfl
  have hs' : ∀ k : Fin 1024, shapeCast S1024x1024 P1 shapeCasts_S1024x1024_S1024x1024 (ix2 k n) = P1 (ix2 k n) := fun k => shapeCast_apply P1 shapeCasts_S1024x1024_S1024x1024 (ix2 k n) (ix2 k n) rfl
  unfold k0_pay1 part
  show Ideal.ofBits .f32 0x00000000#32 + ∑ k : D.contr.Idx, (shapeCast S1024x1024 P0 shapeCasts_S1024x1024_S1024x1024) (D.lhsIdx (ix2 r n) k) * (shapeCast S1024x1024 P1 shapeCasts_S1024x1024_S1024x1024) (D.rhsIdx (ix2 r n) k) = _
  rw [ofBits_zero, EReal.coe_zero, zero_add]
  rw [← Equiv.sum_comp (contrEquiv1 D 1024 rfl rfl).symm]
  refine Finset.sum_congr rfl fun k _ => ?_
  have hk := contrEquiv1_symm_val D 1024 rfl rfl k
  have el : D.lhsIdx (ix2 r n) ((contrEquiv1 D 1024 rfl rfl).symm k) = (ix2 r k) := funext fun a => Fin.ext (by
    match a with
    | ⟨0, _⟩ => rfl
    | ⟨1, _⟩ => exact (D.lhsIdx_val_of_single rfl _ _).trans hk)
  have er : D.rhsIdx (ix2 r n) ((contrEquiv1 D 1024 rfl rfl).symm k) = ix2 k n := funext fun a => Fin.ext (by
    match a with
    | ⟨0, _⟩ => exact (D.rhsIdx_val_of_single rfl _ _).trans hk
    | ⟨1, _⟩ => rfl)
  rw [el, er, hs, hs']

theorem pay2_apply (P0 : FVec Ideal S1024x1024 .bf16) (P1 : FVec Ideal S1024x1024 .bf16) (r n : Fin 1024) :
    k0_pay2 (F := Ideal) P0 P1 (ix2 r n) = part P0 P1 r n := by
  rw [← pay1_apply]
  unfold k0_pay2
  exact shapeCast_apply _ shapeCasts_S1024x1024_S1024x1024 (ix2 r n) (ix2 r n) rfl

theorem pay3_apply (P0 : FVec Ideal S1024x1024 .bf16) (P1 : FVec Ideal S1024x1024 .bf16) (X : FVec Ideal S1024x1024 .f32) (r n : Fin 1024) :
    k0_pay3 (F := Ideal) P0 P1 X (ix2 r n) = (show EReal from X (ix2 r n)) + part P0 P1 r n := by
  rw [← pay1_apply]
  unfold k0_pay3
  exact shapeCast_apply _ shapeCasts_S1024x1024_S1024x1024 (ix2 r n) (ix2 r n) rfl

/-! ## The call's blocks, in the arguments -/

variable (m : (ℓ : Loc nD τ sig) → Buf (Elt Ideal) ℓ)

/-- The two factors. -/
abbrev LA (c : Dev nD) : FVec Ideal S4096x2048 .f32 := m ((c : Thread nD τ).loc main_arg0)
abbrev RA (c : Dev nD) : FVec Ideal S2048x4096 .f32 := m ((c : Thread nD τ).loc main_arg1)

theorem V_l (c : Dev nD) : (V m c main_v0 : FVec Ideal S4096x2048 .bf16) = truncf (F := Ideal) .bf16 (LA m c) bitsLt_bf16_f32 := by
  simp only [V, hostOps0]
  after_results_simp <;> rfl

theorem V_l_apply (c : Dev nD) (i : S4096x2048.Idx) : (V m c main_v0 : FVec Ideal S4096x2048 .bf16) i = LA m c i := by
  rw [V_l]
  rfl

/-- The weights pass through the devices' slices and come back as they were. -/
theorem V_r (c : Dev nD) : (V m c main_v3 : FVec Ideal S2048x4096 .bf16)
    = shapeCast S2048x4096 (truncf (F := Ideal) .bf16 (shapeCast S8x1x256x4096 (RA m c) shapeCasts_S2048x4096_S8x1x256x4096) bitsLt_bf16_f32) shapeCasts_S8x1x256x4096_S2048x4096 := by
  simp only [V, hostOps0]
  after_results_simp <;> rfl

theorem V_r_at (c : Dev nD) (i : Fin 2048) (n : Fin 4096) : (V m c main_v3 : FVec Ideal S2048x4096 .bf16) (ix2 i n) = RA m c (ix2 i n) := by
  rw [V_r]
  refine (shapeCast_apply _ shapeCasts_S8x1x256x4096_S2048x4096 (ix2 i n) (ix4 (⟨i.val / 256, by omega⟩ : Fin 8) (0 : Fin 1) (⟨i.val % 256, by omega⟩ : Fin 256) n) ?_).trans ?_
  · rw [Shape.rowMajor_val_two, Shape.rowMajor_val_four]
    show ((i.val / 256 * 1 + 0) * 256 + i.val % 256) * 4096 + n.val = i.val * 4096 + n.val
    rw [show (i.val / 256 * 1 + 0) * 256 + i.val % 256 = i.val by omega]
  · refine shapeCast_apply (RA m c) shapeCasts_S2048x4096_S8x1x256x4096 (ix4 (⟨i.val / 256, by omega⟩ : Fin 8) (0 : Fin 1) (⟨i.val % 256, by omega⟩ : Fin 256) n) (ix2 i n) ?_
    rw [Shape.rowMajor_val_two, Shape.rowMajor_val_four]
    show i.val * 4096 + n.val = ((i.val / 256 * 1 + 0) * 256 + i.val % 256) * 4096 + n.val
    rw [show (i.val / 256 * 1 + 0) * 256 + i.val % 256 = i.val by omega]

/-- The index maps, in the point's number. -/
theorem idx_facts : ∀ t : Fin cfg0.N, win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = t.val / 8 ∧ win0_2.index t (1 : Fin 2) = t.val / 2 % 4 :=
  (by decide +kernel : ∀ t : Fin grid0.N, _)

theorem lt_N (t : Fin cfg0.N) : t.val < 32 := lt_of_lt_of_eq t.isLt N_0

/-- Row `r` of point `t`'s block, as a row of the result. -/
def row (t : ℕ) (r : Fin 1024) : Fin 4096 := ⟨t / 8 % 4 * 1024 + r.val, by omega⟩

/-- Column `n` of point `t`'s block, as a column of the result. -/
def out (t : ℕ) (n : Fin 1024) : Fin 4096 := ⟨t / 2 % 4 * 1024 + n.val, by omega⟩

theorem blk0 (c : Dev nD) (t : Fin cfg0.N) (r : Fin 1024) (k : Fin 1024) :
    (iblk m c 0 t : FVec Ideal S1024x1024 .bf16) (ix2 r k) = LA m c (ix2 (row t.val r) (place 2048 1024 (t.val % 2) k.val)) := by
  rw [← V_l_apply m c]
  have h := idx_facts t
  have hN := lt_N t
  refine congrArg (V m c main_v0 : FVec Ideal S4096x2048 .bf16) (funext fun a => Fin.ext ?_)
  match a with
  | ⟨0, _⟩ => show win0_0.index t 0 * 1024 + 1 * r.val = t.val / 8 % 4 * 1024 + r.val; omega
  | ⟨1, _⟩ => show win0_0.index t 1 * 1024 + 1 * k.val = (1024 * (t.val % 2) + k.val) % 2048; omega

theorem blk1 (c : Dev nD) (t : Fin cfg0.N) (k : Fin 1024) (n : Fin 1024) :
    (iblk m c 1 t : FVec Ideal S1024x1024 .bf16) (ix2 k n) = RA m c (ix2 (place 2048 1024 (t.val % 2) k.val) (out t.val n)) := by
  rw [← V_r_at m c]
  have h := idx_facts t
  have hN := lt_N t
  refine congrArg (V m c main_v3 : FVec Ideal S2048x4096 .bf16) (funext fun a => Fin.ext ?_)
  match a with
  | ⟨0, _⟩ => show win0_1.index t 0 * 1024 + 1 * k.val = (1024 * (t.val % 2) + k.val) % 2048; omega
  | ⟨1, _⟩ => show win0_1.index t 1 * 1024 + 1 * n.val = t.val / 2 % 4 * 1024 + n.val; omega

/-- The `i`-th term of entry `(r, n)` of the product. -/
def term (c : Dev nD) (r : Fin 4096) (n : Fin 4096) (i : Fin 2048) : EReal := LA m c (ix2 r i) * RA m c (ix2 i n)

/-- Point `t`'s block product is the sum over its part. -/
theorem blk_sum (c : Dev nD) (t : Fin cfg0.N) (r n : Fin 1024) :
    part (iblk m c 0 t) (iblk m c 1 t) r n = blkSum 1024 (term m c (row t.val r) (out t.val n)) (t.val % 2) := by
  unfold blkSum term part
  exact Finset.sum_congr rfl fun k _ => by rw [blk0, blk1]

/-! ## The accumulation -/

/-- After point `t` the scratch holds the sums over the run's parts so far. -/
theorem scr (c : Dev nD) (r n : Fin 1024) : ∀ (t : ℕ) (ht : t < cfg0.N),
    (show EReal from ((outsAt0 m c t ht).2 : FVec Ideal S1024x1024 .f32) (ix2 r n)) = blkSums 1024 (term m c (row t r) (out t n)) (t % 2 + 1) := by
  intro t
  induction t with
  | zero =>
    intro ht
    rw [scr_A m c ⟨0, ht⟩ rfl, pay2_apply]
    refine (blk_sum m c ⟨0, ht⟩ r n).trans ?_
    rw [blkSums_one]; rfl
  | succ t ih =>
    intro ht
    by_cases h0 : (t + 1) % 2 = 0
    · rw [scr_A m c ⟨t + 1, ht⟩ h0, pay2_apply]
      refine (blk_sum m c ⟨t + 1, ht⟩ r n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ r n)).trans ?_
      have e1 : row (t + 1) r = row t r := Fin.ext (by show (t + 1) / 8 % 4 * 1024 + r.val = t / 8 % 4 * 1024 + r.val; omega)
      have e2 : out (t + 1) n = out t n := Fin.ext (by show (t + 1) / 2 % 4 * 1024 + n.val = t / 2 % 4 * 1024 + n.val; omega)
      show _ + blkSum 1024 (term m c (row (t + 1) r) (out (t + 1) n)) ((t + 1) % 2) = _
      rw [e1, e2, show (t + 1) % 2 = t % 2 + 1 by omega, ← blkSums_succ]

/-! ## The reference -/

/-- The result, as the reference computes it. -/
abbrev G (c : Dev nD) : FVec Ideal S4096x4096 .f32 := Cert.Reference13Ideal.Read.val_main_v0 (F := Ideal)
  (m ((c : Thread nD τ).loc main_arg0)) (m ((c : Thread nD τ).loc main_arg1))

theorem G_apply (c : Dev nD) (r : Fin 4096) (n : Fin 4096) : G m c (ix2 r n) = ∑ i : Fin 2048, term m c r n i := by
  unfold G term
  rw [Cert.Reference13Ideal.Read.val_main_v0_apply]
  refine Finset.sum_congr rfl fun i _ => ?_
  congr 1
  · exact congrArg (LA m c) (funext fun a => match a with | ⟨0, _⟩ => rfl | ⟨1, _⟩ => rfl)
  · exact congrArg (RA m c) (funext fun a => match a with | ⟨0, _⟩ => rfl | ⟨1, _⟩ => rfl)

/-! ## The whole array -/

theorem eq_blk (y : S1024x1024.Idx) : ∃ (r n : Fin 1024), y = ix2 r n :=
  ⟨y 0, y 1, funext fun a => match a with
    | ⟨0, _⟩ => rfl
    | ⟨1, _⟩ => rfl⟩

theorem emb (t : Fin cfg0.N) (r n : Fin 1024) (G : FVec Ideal S4096x4096 .f32) :
    ((cfg0.win 2).blk t).view.read (Elt Ideal) G (ix2 r n) = G (ix2 (row t.val r) (out t.val n)) := by
  have h := idx_facts t
  have hN := lt_N t
  refine congrArg G (funext fun a => Fin.ext ?_)
  match a with
  | ⟨0, _⟩ => show win0_2.index t 0 * 1024 + 1 * r.val = t.val / 8 % 4 * 1024 + r.val; omega
  | ⟨1, _⟩ => show win0_2.index t 1 * 1024 + 1 * n.val = t.val / 2 % 4 * 1024 + n.val; omega

/-- The sum that a run's last point holds is the whole product's entry. -/
theorem scr_last (c : Dev nD) (t : Fin cfg0.N) (h2 : t.val % 2 = 1) (r n : Fin 1024) :
    (show EReal from ((outsAt0 m c t.val t.isLt).2 : FVec Ideal S1024x1024 .f32) (ix2 r n)) = ∑ i : Fin 2048, term m c (row t.val r) (out t.val n) i := by
  refine (scr m c r n t.val t.isLt).trans ?_
  rw [h2]
  exact blkSums_all 1024 2 rfl _

/-- What a run's last point writes back is its block of the reference's result. -/
theorem flushed_eq (c : Dev nD) (t : Fin cfg0.N) (hf : (cfg0.win 2).flush t = true) :
    (dats m 0 c).flushed 2 t = ((cfg0.win 2).blk t).view.read (Elt Ideal) (G m c) := by
  have h2 : t.val % 2 = 1 := (flush0_2 t).mp hf
  rw [out_last m c t h2]
  funext y
  obtain ⟨r, n, rfl⟩ := eq_blk y
  rw [emb, G_apply]
  exact scr_last m c t h2 r n

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (G m c) (fun t hf => flushed_eq m c t hf)
      (fun i => (Value.covered_iff2 i).2 (by
        have h0 : (i 0).val < 4096 := (i 0).isLt; have h1 : (i 1).val < 4096 := (i 1).isLt; omega))), (h c).2⟩)
    (Value.run_blocks m ρ)

end Cert.Proj

end
-- ==== Proof.ProjClaims.lean ====
/-
  The claims on the input projection's forward call.
-/
module

public import proofs.«01_k».proof.Proof.Proj

@[expose] public section

noncomputable section

namespace Cert.Proj

open Idealize.ShloMosaic Idealize.ShloMosaic.TcCoe Idealize.SL.Sem

/-- The reference ends with every semaphore at zero, its arguments unchanged. -/
theorem frame_ref : Cert.quiescent_Reference13Ideal := fun m ρ _ =>
  (θ_run Cert.Reference13Ideal.defs _ _).mono (fun r h =>
      ⟨fun c => (h c).2, Idealize.ShloMosaic.sem_eq_zero_of_no_sems (by decide) r.2⟩)
    (Cert.Reference13Ideal.Value.run (F := Ideal) m ρ)

/-- The call computes the reference's result on all extended reals. -/
theorem algebraic : Cert.algebraic_Kernel13Ideal_Reference13Ideal := fun m ρ m' ρ' _ hag =>
  ⟨G m, run m ρ, (θ_run _ _ _).mono (fun _ h c => by
    obtain ⟨e0, e1⟩ := hag c
    refine ⟨?_, (h c).2⟩
    rw [(h c).1, Cert.Reference13Ideal.Read.val_main_v0_eq, e0, e1]) (Cert.Reference13Ideal.Value.run (F := Ideal) m' ρ')⟩

end Cert.Proj

end
-- ==== Proof.DcKv.lean ====
/-
  The latent attention's backward call for the compressed keys and values, over the reals: the array that the call returns
  is the derivative of `c_kv · w_ukv` in `c_kv`.
-/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Reals
public import proofs.«01_k».proof.Proof.Sums

@[expose] public section

set_option maxRecDepth 16384

noncomputable section

namespace Cert.DcKv

open Idealize.ShloMosaic Idealize.ShloMosaic.TcCoe Idealize.SL.Sem Cert.Reals Cert.Sums
open Idealize.ShloMosaic.ValueIdx
open Cert.Kernel19Ideal Cert.Kernel19Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the cases leave -/

section Cases

variable {F : FTy → Type} [FloatOps F] (m : (ℓ : Loc nD τ sig) → Buf (Elt F) ℓ)

/-- A run's first point leaves its block product in the scratch. -/
theorem scr_A (c : Dev nD) (t : Fin cfg0.N) (h0 : t.val % 8 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz3 _ _).trans ((hs0_0 t).read_unread _)))
    ((View.ld_unit_zero hz4 _ _).trans ((hs0_1 t).read_unread _))

/-- A later point adds its block product to what the point before left. -/
theorem scr_BC (c : Dev nD) (t : Fin cfg0.N) (h0 : ¬t.val % 8 = 0) :
    (outsAt0 m c t.val t.isLt).2 = k0_pay3 (iblk m c 0 t) (iblk m c 1 t) (outsAt0 m c (t.val - 1) (Nat.lt_of_le_of_lt (Nat.sub_le _ _) t.isLt)).2 := by
  by_cases h2 : t.val % 8 = 7
  · rw [outsAt0_C m c t h0 (by omega) h2]
    unfold sout0_C_0
    dsimp only
    rw [View.read_writes_eq_canon _ _ _ (fun y => scover0_C_0 c _ _ _ _ _ _ _ _ _ _ _ _ _ _ _ y)]
    unfold kernelRun0_C
    dsimp only
    sl_unfold_words
    rw [View.canon_unit_zero hz2]
    simp only [View.readAt_eq_ld]
    exact congr (congr (congrArg k0_pay3 ((View.ld_unit_zero hz3 _ _).trans ((hs0_0 t).read_unread _)))
          ((View.ld_unit_zero hz4 _ _).trans ((hs0_1 t).read_unread _)))
          ((View.ld_unit_zero hz2 _ _).trans ((Memref.isWhole_whole cc0_scratch0).read_unread _))
  · rw [outsAt0_B m c t h0 (by omega) h2]
    unfold sout0_B_0
    dsimp only
    rw [View.read_writes_eq_canon _ _ _ (fun y => scover0_B_0 c _ _ _ _ _ _ _ _ _ _ _ _ _ _ _ y)]
    unfold kernelRun0_B
    dsimp only
    sl_unfold_words
    rw [View.canon_unit_zero hz2]
    simp only [View.readAt_eq_ld]
    exact congr (congr (congrArg k0_pay3 ((View.ld_unit_zero hz3 _ _).trans ((hs0_0 t).read_unread _)))
          ((View.ld_unit_zero hz4 _ _).trans ((hs0_1 t).read_unread _)))
          ((View.ld_unit_zero hz2 _ _).trans ((Memref.isWhole_whole cc0_scratch0).read_unread _))

/-- What a run's last point writes back. -/
theorem out_last (c : Dev nD) (t : Fin cfg0.N) (h2 : t.val % 8 = 7) :
    (dats m 0 c).flushed 2 t = (outsAt0 m c t.val t.isLt).2 := by
  rw [Value.flushed2_C m c t (by omega) (by omega) h2, scr_BC m c t (by omega)]
  show out0_C_2 (F := F) _ _ _ _ _ _ _ _ _ _ _ _ _ _ _ _ = _
  unfold out0_C_2
  rw [View.read_writes_eq_canon _ _ _ (fun y => cover0_C_2 c _ _ _ _ _ _ _ _ _ _ _ _ _ _ _ y)]
  unfold kernelRun0_C
  dsimp only
  sl_unfold_words
  rw [View.canon_unit_zero hz2]
  simp only [View.readAt_eq_ld]
  refine (congrFun (congrArg (View.readCov (View.whole cc0_scratch0)) (congrArg (fun w => [(⟨_, w⟩ : View.Piece (Elt F) S1024x512 .f32)])
    (congr (congr (congrArg k0_pay3 ((View.ld_unit_zero hz3 _ _).trans ((hs0_0 t).read_unread _)))
      ((View.ld_unit_zero hz4 _ _).trans ((hs0_1 t).read_unread _)))
      ((View.ld_unit_zero hz2 _ _).trans ((Memref.isWhole_whole cc0_scratch0).read_unread _))))) _).trans ?_
  exact View.readCov_unit_zero _ hz2 _ _

end Cases

/-! ## The payloads over the reals -/

abbrev D : DotDims S1024x256 S512x256 S1024x512 := dot_S1024x256_S512x256_S1024x512_1_1_0_0_n_n

/-- The block product, entry by entry. -/
def part (P0 : FVec Ideal S1x1024x256 .bf16) (P1 : FVec Ideal S1x1x512x256 .bf16) (r : Fin 1024) (n : Fin 512) : EReal := ∑ k : Fin 256, P0 (ix3 0 r k) * P1 (ix4 0 0 n k)

theorem pay1_apply (P0 : FVec Ideal S1x1024x256 .bf16) (P1 : FVec Ideal S1x1x512x256 .bf16) (r : Fin 1024) (n : Fin 512) :
    k0_pay1 (F := Ideal) P0 P1 (ix2 r n) = part P0 P1 r n := by
  have hs : ∀ k : Fin 256, shapeCast S1024x256 P0 shapeCasts_S1x1024x256_S1024x256 (ix2 r k) = P0 (ix3 0 r k) := fun k =>
    shapeCast_apply P0 shapeCasts_S1x1024x256_S1024x256 (ix2 r k) (ix3 0 r k) (by
      rw [Shape.rowMajor_val_two, Shape.rowMajor_val_three]; simp [ix2, ix3])
  have hs' : ∀ k : Fin 256, shapeCast S512x256 P1 shapeCasts_S1x1x512x256_S512x256 (ix2 n k) = P1 (ix4 0 0 n k) := fun k =>
    shapeCast_apply P1 shapeCasts_S1x1x512x256_S512x256 (ix2 n k) (ix4 0 0 n k) (by
      rw [Shape.rowMajor_val_two, Shape.rowMajor_val_four]; simp [ix2, ix4])
  unfold k0_pay1 part
  show Ideal.ofBits .f32 0x00000000#32 + ∑ k : D.contr.Idx, (shapeCast S1024x256 P0 shapeCasts_S1x1024x256_S1024x256) (D.lhsIdx (ix2 r n) k) * (shapeCast S512x256 P1 shapeCasts_S1x1x512x256_S512x256) (D.rhsIdx (ix2 r n) k) = _
  rw [ofBits_zero, EReal.coe_zero, zero_add]
  rw [← Equiv.sum_comp (contrEquiv1 D 256 rfl rfl).symm]
  refine Finset.sum_congr rfl fun k _ => ?_
  have hk := contrEquiv1_symm_val D 256 rfl rfl k
  have el : D.lhsIdx (ix2 r n) ((contrEquiv1 D 256 rfl rfl).symm k) = ix2 r k := funext fun a => Fin.ext (by
    match a with
    | ⟨0, _⟩ => rfl
    | ⟨1, _⟩ => exact (D.lhsIdx_val_of_single rfl _ _).trans hk)
  have er : D.rhsIdx (ix2 r n) ((contrEquiv1 D 256 rfl rfl).symm k) = ix2 n k := funext fun a => Fin.ext (by
    match a with
    | ⟨0, _⟩ => rfl
    | ⟨1, _⟩ => exact (D.rhsIdx_val_of_single rfl _ _).trans hk)
  rw [el, er, hs, hs']

theorem pay2_apply (P0 : FVec Ideal S1x1024x256 .bf16) (P1 : FVec Ideal S1x1x512x256 .bf16) (r : Fin 1024) (n : Fin 512) :
    k0_pay2 (F := Ideal) P0 P1 (ix2 r n) = part P0 P1 r n := by
  rw [← pay1_apply]
  unfold k0_pay2
  exact shapeCast_apply _ shapeCasts_S1024x512_S1024x512 (ix2 r n) (ix2 r n) rfl

theorem pay3_apply (P0 : FVec Ideal S1x1024x256 .bf16) (P1 : FVec Ideal S1x1x512x256 .bf16) (X : FVec Ideal S1024x512 .f32) (r : Fin 1024) (n : Fin 512) :
    k0_pay3 (F := Ideal) P0 P1 X (ix2 r n) = (show EReal from X (ix2 r n)) + part P0 P1 r n := by
  rw [← pay1_apply]
  unfold k0_pay3
  exact shapeCast_apply _ shapeCasts_S1024x512_S1024x512 (ix2 r n) (ix2 r n) rfl

/-! ## The call's blocks, in the arguments -/

variable (m : (ℓ : Loc nD τ sig) → Buf (Elt Ideal) ℓ)

/-- The cotangent and the weights. -/
abbrev LA (c : Dev nD) : FVec Ideal S8x4096x256 .f32 := m ((c : Thread nD τ).loc main_arg2)
abbrev RA (c : Dev nD) : FVec Ideal S512x2048 .f32 := m ((c : Thread nD τ).loc main_arg1)

theorem V_l (c : Dev nD) : (V m c main_v0 : FVec Ideal S8x4096x256 .bf16) = truncf (F := Ideal) .bf16 (LA m c) bitsLt_bf16_f32 := by
  simp only [V, hostOps0]
  after_results_simp <;> rfl

theorem V_l_apply (c : Dev nD) (i : S8x4096x256.Idx) : (V m c main_v0 : FVec Ideal S8x4096x256 .bf16) i = LA m c i := by
  rw [V_l]
  rfl

/-- Column `f` of head `j`, as a column of the whole. -/
def hd (j : Fin 8) (f : Fin 256) : Fin 2048 := ⟨j.val * 256 + f.val, by omega⟩

/-- The weights, cut into the heads' slices. -/
theorem V_r (c : Dev nD) : (V m c main_v4 : FVec Ideal S8x1x512x256 .bf16)
    = truncf (F := Ideal) .bf16 (shapeCast S8x1x512x256 (transpose S8x512x256 [1, 0, 2] (shapeCast S512x8x256 (RA m c) shapeCasts_S512x2048_S512x8x256)
        transposes_S512x8x256_S8x512x256_1_0_2) shapeCasts_S8x512x256_S8x1x512x256) bitsLt_bf16_f32 := by
  simp only [V, hostOps0]
  after_results_simp <;> rfl

theorem V_r_apply (c : Dev nD) (j : Fin 8) (k : Fin 512) (f : Fin 256) :
    (V m c main_v4 : FVec Ideal S8x1x512x256 .bf16) (ix4 j 0 k f) = RA m c (ix2 k (hd j f)) := by
  rw [V_r]
  show shapeCast S8x1x512x256 (transpose S8x512x256 [1, 0, 2] (shapeCast S512x8x256 (RA m c) shapeCasts_S512x2048_S512x8x256)
        transposes_S512x8x256_S8x512x256_1_0_2) shapeCasts_S8x512x256_S8x1x512x256 (ix4 j 0 k f) = _
  refine (shapeCast_apply _ shapeCasts_S8x512x256_S8x1x512x256 (ix4 j 0 k f) (ix3 j k f) ?_).trans ?_
  · rw [Shape.rowMajor_val_three, Shape.rowMajor_val_four]
    show (j.val * 512 + k.val) * 256 + f.val = ((j.val * 1 + 0) * 512 + k.val) * 256 + f.val
    omega
  refine (transpose_apply [1, 0, 2] _ transposes_S512x8x256_S8x512x256_1_0_2 (ix3 j k f) (ix3 k j f) (fun b => match b with
    | ⟨0, _⟩ => rfl
    | ⟨1, _⟩ => rfl
    | ⟨2, _⟩ => rfl)).trans ?_
  refine shapeCast_apply _ shapeCasts_S512x2048_S512x8x256 (ix3 k j f) (ix2 k (hd j f)) ?_
  rw [Shape.rowMajor_val_two, Shape.rowMajor_val_three]
  show k.val * 2048 + (j.val * 256 + f.val) = (k.val * 8 + j.val) * 256 + f.val
  omega

/-- The index maps, in the point's number. -/
theorem idx_facts : ∀ t : Fin cfg0.N, win0_0.index t (0 : Fin 3) = t.val % 8 ∧ win0_0.index t (1 : Fin 3) = t.val / 8 ∧ win0_0.index t (2 : Fin 3) = 0
    ∧ win0_1.index t (0 : Fin 4) = t.val % 8 ∧ win0_1.index t (1 : Fin 4) = 0 ∧ win0_1.index t (2 : Fin 4) = 0 ∧ win0_1.index t (3 : Fin 4) = 0
    ∧ win0_2.index t (0 : Fin 2) = t.val / 8 ∧ win0_2.index t (1 : Fin 2) = 0 :=
  (by decide +kernel : ∀ t : Fin grid0.N, _)

theorem lt_N (t : Fin cfg0.N) : t.val < 32 := lt_of_lt_of_eq t.isLt N_0

/-- Row `r` of point `t`'s block, as a row of the result. -/
def row (t : ℕ) (r : Fin 1024) : Fin 4096 := ⟨t / 8 % 4 * 1024 + r.val, by omega⟩

/-- The head of a column of the whole, and its column in the head. -/
def hj (i : Fin 2048) : Fin 8 := ⟨i.val / 256, by omega⟩
def hf (i : Fin 2048) : Fin 256 := ⟨i.val % 256, by omega⟩

theorem hd_hj (i : Fin 2048) : hd (hj i) (hf i) = i := Fin.ext (by show i.val / 256 * 256 + i.val % 256 = i.val; omega)

/-- The `i`-th term of entry `(r, n)` of the product. -/
def term (c : Dev nD) (r : Fin 4096) (n : Fin 512) (i : Fin 2048) : EReal := LA m c (ix3 (hj i) r (hf i)) * RA m c (ix2 n i)

theorem blk0 (c : Dev nD) (t : Fin cfg0.N) (r : Fin 1024) (k : Fin 256) :
    (iblk m c 0 t : FVec Ideal S1x1024x256 .bf16) (ix3 0 r k)
      = LA m c (ix3 (hj (place 2048 256 (t.val % 8) k.val)) (row t.val r) (hf (place 2048 256 (t.val % 8) k.val))) := by
  rw [← V_l_apply m c]
  have h := idx_facts t
  have hN := lt_N t
  refine congrArg (V m c main_v0 : FVec Ideal S8x4096x256 .bf16) (funext fun a => Fin.ext ?_)
  match a with
  | ⟨0, _⟩ => show win0_0.index t 0 * 1 + 1 * 0 = (256 * (t.val % 8) + k.val) % 2048 / 256; omega
  | ⟨1, _⟩ => show win0_0.index t 1 * 1024 + 1 * r.val = t.val / 8 % 4 * 1024 + r.val; omega
  | ⟨2, _⟩ => show win0_0.index t 2 * 256 + 1 * k.val = (256 * (t.val % 8) + k.val) % 2048 % 256; omega

theorem blk1 (c : Dev nD) (t : Fin cfg0.N) (n : Fin 512) (k : Fin 256) :
    (iblk m c 1 t : FVec Ideal S1x1x512x256 .bf16) (ix4 0 0 n k) = RA m c (ix2 n (place 2048 256 (t.val % 8) k.val)) := by
  rw [← hd_hj (place 2048 256 (t.val % 8) k.val), ← V_r_apply m c]
  have h := idx_facts t
  have hN := lt_N t
  refine congrArg (V m c main_v4 : FVec Ideal S8x1x512x256 .bf16) (funext fun a => Fin.ext ?_)
  match a with
  | ⟨0, _⟩ => show win0_1.index t 0 * 1 + 1 * 0 = (256 * (t.val % 8) + k.val) % 2048 / 256; omega
  | ⟨1, _⟩ => show win0_1.index t 1 * 1 + 1 * 0 = 0; omega
  | ⟨2, _⟩ => show win0_1.index t 2 * 512 + 1 * n.val = n.val; omega
  | ⟨3, _⟩ => show win0_1.index t 3 * 256 + 1 * k.val = (256 * (t.val % 8) + k.val) % 2048 % 256; omega

/-- Point `t`'s block product is the sum over its part. -/
theorem blk_sum (c : Dev nD) (t : Fin cfg0.N) (r : Fin 1024) (n : Fin 512) :
    part (iblk m c 0 t) (iblk m c 1 t) r n = blkSum 256 (term m c (row t.val r) n) (t.val % 8) := by
  unfold blkSum term part
  exact Finset.sum_congr rfl fun k _ => by rw [blk0, blk1]

/-! ## The accumulation -/

/-- After point `t` the scratch holds the sums over the run's parts so far. -/
theorem scr (c : Dev nD) (r : Fin 1024) (n : Fin 512) : ∀ (t : ℕ) (ht : t < cfg0.N),
    (show EReal from ((outsAt0 m c t ht).2 : FVec Ideal S1024x512 .f32) (ix2 r n)) = blkSums 256 (term m c (row t r) n) (t % 8 + 1) := by
  intro t
  induction t with
  | zero =>
    intro ht
    rw [scr_A m c ⟨0, ht⟩ rfl, pay2_apply]
    refine (blk_sum m c ⟨0, ht⟩ r n).trans ?_
    rw [blkSums_one]; rfl
  | succ t ih =>
    intro ht
    by_cases h0 : (t + 1) % 8 = 0
    · rw [scr_A m c ⟨t + 1, ht⟩ h0, pay2_apply]
      refine (blk_sum m c ⟨t + 1, ht⟩ r n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ r n)).trans ?_
      have e1 : row (t + 1) r = row t r := Fin.ext (by show (t + 1) / 8 % 4 * 1024 + r.val = t / 8 % 4 * 1024 + r.val; omega)
      show _ + blkSum 256 (term m c (row (t + 1) r) n) ((t + 1) % 8) = _
      rw [e1, show (t + 1) % 8 = t % 8 + 1 by omega, ← blkSums_succ]

/-! ## The reference -/

/-- The result, as the reference computes it. -/
abbrev G (c : Dev nD) : FVec Ideal S4096x512 .f32 := Cert.Reference19Ideal.Read.val_main_v5 (F := Ideal)
  (m ((c : Thread nD τ).loc main_arg1)) (m ((c : Thread nD τ).loc main_arg2))

theorem G_apply (c : Dev nD) (r : Fin 4096) (n : Fin 512) : (show EReal from G m c (ix2 r n)) = ∑ i : Fin 2048, term m c r n i := by
  unfold G term
  rw [Cert.Reference19Ideal.Read.val_main_v5_apply]
  refine Finset.sum_congr rfl fun i _ => ?_
  rw [Cert.Reference19Ideal.Read.val_main_v4_apply, Cert.Reference19Ideal.Read.val_main_v3_apply]
  congr 1
  · refine congrArg (LA m c) (funext fun a => Fin.ext ?_)
    match a with
    | ⟨0, _⟩ => show (r.val * 2048 + i.val) / 256 % 8 = i.val / 256; omega
    | ⟨1, _⟩ => show (r.val * 2048 + i.val) / 2048 = r.val; omega
    | ⟨2, _⟩ => show (r.val * 2048 + i.val) % 256 = i.val % 256; omega
  · exact congrArg (RA m c) (funext fun a => match a with | ⟨0, _⟩ => rfl | ⟨1, _⟩ => rfl)

/-! ## The whole array -/

theorem eq_blk (y : S1024x512.Idx) : ∃ (r : Fin 1024) (n : Fin 512), y = ix2 r n :=
  ⟨y 0, y 1, funext fun a => match a with
    | ⟨0, _⟩ => rfl
    | ⟨1, _⟩ => rfl⟩

theorem emb (t : Fin cfg0.N) (r : Fin 1024) (n : Fin 512) (G : FVec Ideal S4096x512 .f32) :
    ((cfg0.win 2).blk t).view.read (Elt Ideal) G (ix2 r n) = G (ix2 (row t.val r) n) := by
  have h := idx_facts t
  have hN := lt_N t
  refine congrArg G (funext fun a => Fin.ext ?_)
  match a with
  | ⟨0, _⟩ => show win0_2.index t 0 * 1024 + 1 * r.val = t.val / 8 % 4 * 1024 + r.val; omega
  | ⟨1, _⟩ => show win0_2.index t 1 * 512 + 1 * n.val = n.val; omega

/-- The sum that a run's last point holds is the whole product's entry. -/
theorem scr_last (c : Dev nD) (t : Fin cfg0.N) (h2 : t.val % 8 = 7) (r : Fin 1024) (n : Fin 512) :
    (show EReal from ((outsAt0 m c t.val t.isLt).2 : FVec Ideal S1024x512 .f32) (ix2 r n)) = ∑ i : Fin 2048, term m c (row t.val r) n i := by
  refine (scr m c r n t.val t.isLt).trans ?_
  rw [h2]
  exact blkSums_all 256 8 rfl _

/-- What a run's last point writes back is its block of the reference's result. -/
theorem flushed_eq (c : Dev nD) (t : Fin cfg0.N) (hf : (cfg0.win 2).flush t = true) :
    (dats m 0 c).flushed 2 t = ((cfg0.win 2).blk t).view.read (Elt Ideal) (G m c) := by
  have h2 : t.val % 8 = 7 := (flush0_2 t).mp hf
  rw [out_last m c t h2]
  funext y
  obtain ⟨r, n, rfl⟩ := eq_blk y
  rw [emb]
  exact (scr_last m c t h2 r n).trans (G_apply m c (row t.val r) n).symm

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 2 (G m c) (fun t hf => flushed_eq m c t hf)
      (fun i => (Value.covered_iff2 i).2 (by
        have h0 : (i 0).val < 4096 := (i 0).isLt; have h1 : (i 1).val < 512 := (i 1).isLt; omega))), (h c).2⟩)
    (Value.run_blocks m ρ)

end Cert.DcKv

end
-- ==== Proof.DcKvClaims.lean ====
/-
  The claims on the latent attention's backward call for its compressed keys and values.
-/
module

public import proofs.«01_k».proof.Proof.DcKv

@[expose] public section

noncomputable section

namespace Cert.DcKv

open Idealize.ShloMosaic Idealize.ShloMosaic.TcCoe Idealize.SL.Sem

/-- The reference ends with every semaphore at zero, its arguments unchanged. -/
theorem frame_ref : Cert.quiescent_Reference19Ideal := fun m ρ _ =>
  (θ_run Cert.Reference19Ideal.defs _ _).mono (fun r h =>
      ⟨fun c => (h c).2, Idealize.ShloMosaic.sem_eq_zero_of_no_sems (by decide) r.2⟩)
    (Cert.Reference19Ideal.Value.run (F := Ideal) m ρ)

/-- The call computes the reference's result on all extended reals. -/
theorem algebraic : Cert.algebraic_Kernel19Ideal_Reference19Ideal := fun m ρ m' ρ' _ hag =>
  ⟨G m, run m ρ, (θ_run _ _ _).mono (fun _ h c => by
    obtain ⟨e0, e1, e2⟩ := hag c
    refine ⟨?_, (h c).2⟩
    rw [(h c).1, Cert.Reference19Ideal.Read.val_main_v5_eq, e1, e2]) (Cert.Reference19Ideal.Value.run (F := Ideal) m' ρ')⟩

end Cert.DcKv

end
-- ==== Proof.DcQ.lean ====
/-
  The latent attention's backward call for the compressed queries, over the reals: the array that the call returns
  is the derivative of `c_q · w_uq` in `c_q`.
-/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Reals
public import proofs.«01_k».proof.Proof.Sums

@[expose] public section

set_option maxRecDepth 16384

noncomputable section

namespace Cert.DcQ

open Idealize.ShloMosaic Idealize.ShloMosaic.TcCoe Idealize.SL.Sem Cert.Reals Cert.Sums
open Idealize.ShloMosaic.ValueIdx
open Cert.Kernel16Ideal Cert.Kernel16Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the cases leave -/

section Cases

variable {F : FTy → Type} [FloatOps F] (m : (ℓ : Loc nD τ sig) → Buf (Elt F) ℓ)

/-- A run's first point leaves its block product in the scratch. -/
theorem scr_A (c : Dev nD) (t : Fin cfg0.N) (h0 : t.val % 8 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz3 _ _).trans ((hs0_0 t).read_unread _)))
    ((View.ld_unit_zero hz4 _ _).trans ((hs0_1 t).read_unread _))

/-- A later point adds its block product to what the point before left. -/
theorem scr_BC (c : Dev nD) (t : Fin cfg0.N) (h0 : ¬t.val % 8 = 0) :
    (outsAt0 m c t.val t.isLt).2 = k0_pay3 (iblk m c 0 t) (iblk m c 1 t) (outsAt0 m c (t.val - 1) (Nat.lt_of_le_of_lt (Nat.sub_le _ _) t.isLt)).2 := by
  by_cases h2 : t.val % 8 = 7
  · rw [outsAt0_C m c t h0 (by omega) h2]
    unfold sout0_C_0
    dsimp only
    rw [View.read_writes_eq_canon _ _ _ (fun y => scover0_C_0 c _ _ _ _ _ _ _ _ _ _ _ _ _ _ _ y)]
    unfold kernelRun0_C
    dsimp only
    sl_unfold_words
    rw [View.canon_unit_zero hz2]
    simp only [View.readAt_eq_ld]
    exact congr (congr (congrArg k0_pay3 ((View.ld_unit_zero hz3 _ _).trans ((hs0_0 t).read_unread _)))
          ((View.ld_unit_zero hz4 _ _).trans ((hs0_1 t).read_unread _)))
          ((View.ld_unit_zero hz2 _ _).trans ((Memref.isWhole_whole cc0_scratch0).read_unread _))
  · rw [outsAt0_B m c t h0 (by omega) h2]
    unfold sout0_B_0
    dsimp only
    rw [View.read_writes_eq_canon _ _ _ (fun y => scover0_B_0 c _ _ _ _ _ _ _ _ _ _ _ _ _ _ _ y)]
    unfold kernelRun0_B
    dsimp only
    sl_unfold_words
    rw [View.canon_unit_zero hz2]
    simp only [View.readAt_eq_ld]
    exact congr (congr (congrArg k0_pay3 ((View.ld_unit_zero hz3 _ _).trans ((hs0_0 t).read_unread _)))
          ((View.ld_unit_zero hz4 _ _).trans ((hs0_1 t).read_unread _)))
          ((View.ld_unit_zero hz2 _ _).trans ((Memref.isWhole_whole cc0_scratch0).read_unread _))

/-- What a run's last point writes back. -/
theorem out_last (c : Dev nD) (t : Fin cfg0.N) (h2 : t.val % 8 = 7) :
    (dats m 0 c).flushed 2 t = (outsAt0 m c t.val t.isLt).2 := by
  rw [Value.flushed2_C m c t (by omega) (by omega) h2, scr_BC m c t (by omega)]
  show out0_C_2 (F := F) _ _ _ _ _ _ _ _ _ _ _ _ _ _ _ _ = _
  unfold out0_C_2
  rw [View.read_writes_eq_canon _ _ _ (fun y => cover0_C_2 c _ _ _ _ _ _ _ _ _ _ _ _ _ _ _ y)]
  unfold kernelRun0_C
  dsimp only
  sl_unfold_words
  rw [View.canon_unit_zero hz2]
  simp only [View.readAt_eq_ld]
  refine (congrFun (congrArg (View.readCov (View.whole cc0_scratch0)) (congrArg (fun w => [(⟨_, w⟩ : View.Piece (Elt F) S1024x512 .f32)])
    (congr (congr (congrArg k0_pay3 ((View.ld_unit_zero hz3 _ _).trans ((hs0_0 t).read_unread _)))
      ((View.ld_unit_zero hz4 _ _).trans ((hs0_1 t).read_unread _)))
      ((View.ld_unit_zero hz2 _ _).trans ((Memref.isWhole_whole cc0_scratch0).read_unread _))))) _).trans ?_
  exact View.readCov_unit_zero _ hz2 _ _

end Cases

/-! ## The payloads over the reals -/

abbrev D : DotDims S1024x192 S512x192 S1024x512 := dot_S1024x192_S512x192_S1024x512_1_1_0_0_n_n

/-- The block product, entry by entry. -/
def part (P0 : FVec Ideal S1x1024x192 .bf16) (P1 : FVec Ideal S1x1x512x192 .bf16) (r : Fin 1024) (n : Fin 512) : EReal := ∑ k : Fin 192, P0 (ix3 0 r k) * P1 (ix4 0 0 n k)

theorem pay1_apply (P0 : FVec Ideal S1x1024x192 .bf16) (P1 : FVec Ideal S1x1x512x192 .bf16) (r : Fin 1024) (n : Fin 512) :
    k0_pay1 (F := Ideal) P0 P1 (ix2 r n) = part P0 P1 r n := by
  have hs : ∀ k : Fin 192, shapeCast S1024x192 P0 shapeCasts_S1x1024x192_S1024x192 (ix2 r k) = P0 (ix3 0 r k) := fun k =>
    shapeCast_apply P0 shapeCasts_S1x1024x192_S1024x192 (ix2 r k) (ix3 0 r k) (by
      rw [Shape.rowMajor_val_two, Shape.rowMajor_val_three]; simp [ix2, ix3])
  have hs' : ∀ k : Fin 192, shapeCast S512x192 P1 shapeCasts_S1x1x512x192_S512x192 (ix2 n k) = P1 (ix4 0 0 n k) := fun k =>
    shapeCast_apply P1 shapeCasts_S1x1x512x192_S512x192 (ix2 n k) (ix4 0 0 n k) (by
      rw [Shape.rowMajor_val_two, Shape.rowMajor_val_four]; simp [ix2, ix4])
  unfold k0_pay1 part
  show Ideal.ofBits .f32 0x00000000#32 + ∑ k : D.contr.Idx, (shapeCast S1024x192 P0 shapeCasts_S1x1024x192_S1024x192) (D.lhsIdx (ix2 r n) k) * (shapeCast S512x192 P1 shapeCasts_S1x1x512x192_S512x192) (D.rhsIdx (ix2 r n) k) = _
  rw [ofBits_zero, EReal.coe_zero, zero_add]
  rw [← Equiv.sum_comp (contrEquiv1 D 192 rfl rfl).symm]
  refine Finset.sum_congr rfl fun k _ => ?_
  have hk := contrEquiv1_symm_val D 192 rfl rfl k
  have el : D.lhsIdx (ix2 r n) ((contrEquiv1 D 192 rfl rfl).symm k) = ix2 r k := funext fun a => Fin.ext (by
    match a with
    | ⟨0, _⟩ => rfl
    | ⟨1, _⟩ => exact (D.lhsIdx_val_of_single rfl _ _).trans hk)
  have er : D.rhsIdx (ix2 r n) ((contrEquiv1 D 192 rfl rfl).symm k) = ix2 n k := funext fun a => Fin.ext (by
    match a with
    | ⟨0, _⟩ => rfl
    | ⟨1, _⟩ => exact (D.rhsIdx_val_of_single rfl _ _).trans hk)
  rw [el, er, hs, hs']

theorem pay2_apply (P0 : FVec Ideal S1x1024x192 .bf16) (P1 : FVec Ideal S1x1x512x192 .bf16) (r : Fin 1024) (n : Fin 512) :
    k0_pay2 (F := Ideal) P0 P1 (ix2 r n) = part P0 P1 r n := by
  rw [← pay1_apply]
  unfold k0_pay2
  exact shapeCast_apply _ shapeCasts_S1024x512_S1024x512 (ix2 r n) (ix2 r n) rfl

theorem pay3_apply (P0 : FVec Ideal S1x1024x192 .bf16) (P1 : FVec Ideal S1x1x512x192 .bf16) (X : FVec Ideal S1024x512 .f32) (r : Fin 1024) (n : Fin 512) :
    k0_pay3 (F := Ideal) P0 P1 X (ix2 r n) = (show EReal from X (ix2 r n)) + part P0 P1 r n := by
  rw [← pay1_apply]
  unfold k0_pay3
  exact shapeCast_apply _ shapeCasts_S1024x512_S1024x512 (ix2 r n) (ix2 r n) rfl

/-! ## The call's blocks, in the arguments -/

variable (m : (ℓ : Loc nD τ sig) → Buf (Elt Ideal) ℓ)

/-- The cotangent and the weights. -/
abbrev LA (c : Dev nD) : FVec Ideal S8x4096x192 .f32 := m ((c : Thread nD τ).loc main_arg2)
abbrev RA (c : Dev nD) : FVec Ideal S512x1536 .f32 := m ((c : Thread nD τ).loc main_arg1)

theorem V_l (c : Dev nD) : (V m c main_v0 : FVec Ideal S8x4096x192 .bf16) = truncf (F := Ideal) .bf16 (LA m c) bitsLt_bf16_f32 := by
  simp only [V, hostOps0]
  after_results_simp <;> rfl

theorem V_l_apply (c : Dev nD) (i : S8x4096x192.Idx) : (V m c main_v0 : FVec Ideal S8x4096x192 .bf16) i = LA m c i := by
  rw [V_l]
  rfl

/-- Column `f` of head `j`, as a column of the whole. -/
def hd (j : Fin 8) (f : Fin 192) : Fin 1536 := ⟨j.val * 192 + f.val, by omega⟩

/-- The weights, cut into the heads' slices. -/
theorem V_r (c : Dev nD) : (V m c main_v4 : FVec Ideal S8x1x512x192 .bf16)
    = truncf (F := Ideal) .bf16 (shapeCast S8x1x512x192 (transpose S8x512x192 [1, 0, 2] (shapeCast S512x8x192 (RA m c) shapeCasts_S512x1536_S512x8x192)
        transposes_S512x8x192_S8x512x192_1_0_2) shapeCasts_S8x512x192_S8x1x512x192) bitsLt_bf16_f32 := by
  simp only [V, hostOps0]
  after_results_simp <;> rfl

theorem V_r_apply (c : Dev nD) (j : Fin 8) (k : Fin 512) (f : Fin 192) :
    (V m c main_v4 : FVec Ideal S8x1x512x192 .bf16) (ix4 j 0 k f) = RA m c (ix2 k (hd j f)) := by
  rw [V_r]
  show shapeCast S8x1x512x192 (transpose S8x512x192 [1, 0, 2] (shapeCast S512x8x192 (RA m c) shapeCasts_S512x1536_S512x8x192)
        transposes_S512x8x192_S8x512x192_1_0_2) shapeCasts_S8x512x192_S8x1x512x192 (ix4 j 0 k f) = _
  refine (shapeCast_apply _ shapeCasts_S8x512x192_S8x1x512x192 (ix4 j 0 k f) (ix3 j k f) ?_).trans ?_
  · rw [Shape.rowMajor_val_three, Shape.rowMajor_val_four]
    show (j.val * 512 + k.val) * 192 + f.val = ((j.val * 1 + 0) * 512 + k.val) * 192 + f.val
    omega
  refine (transpose_apply [1, 0, 2] _ transposes_S512x8x192_S8x512x192_1_0_2 (ix3 j k f) (ix3 k j f) (fun b => match b with
    | ⟨0, _⟩ => rfl
    | ⟨1, _⟩ => rfl
    | ⟨2, _⟩ => rfl)).trans ?_
  refine shapeCast_apply _ shapeCasts_S512x1536_S512x8x192 (ix3 k j f) (ix2 k (hd j f)) ?_
  rw [Shape.rowMajor_val_two, Shape.rowMajor_val_three]
  show k.val * 1536 + (j.val * 192 + f.val) = (k.val * 8 + j.val) * 192 + f.val
  omega

/-- The index maps, in the point's number. -/
theorem idx_facts : ∀ t : Fin cfg0.N, win0_0.index t (0 : Fin 3) = t.val % 8 ∧ win0_0.index t (1 : Fin 3) = t.val / 8 ∧ win0_0.index t (2 : Fin 3) = 0
    ∧ win0_1.index t (0 : Fin 4) = t.val % 8 ∧ win0_1.index t (1 : Fin 4) = 0 ∧ win0_1.index t (2 : Fin 4) = 0 ∧ win0_1.index t (3 : Fin 4) = 0
    ∧ win0_2.index t (0 : Fin 2) = t.val / 8 ∧ win0_2.index t (1 : Fin 2) = 0 :=
  (by decide +kernel : ∀ t : Fin grid0.N, _)

theorem lt_N (t : Fin cfg0.N) : t.val < 32 := lt_of_lt_of_eq t.isLt N_0

/-- Row `r` of point `t`'s block, as a row of the result. -/
def row (t : ℕ) (r : Fin 1024) : Fin 4096 := ⟨t / 8 % 4 * 1024 + r.val, by omega⟩

/-- The head of a column of the whole, and its column in the head. -/
def hj (i : Fin 1536) : Fin 8 := ⟨i.val / 192, by omega⟩
def hf (i : Fin 1536) : Fin 192 := ⟨i.val % 192, by omega⟩

theorem hd_hj (i : Fin 1536) : hd (hj i) (hf i) = i := Fin.ext (by show i.val / 192 * 192 + i.val % 192 = i.val; omega)

/-- The `i`-th term of entry `(r, n)` of the product. -/
def term (c : Dev nD) (r : Fin 4096) (n : Fin 512) (i : Fin 1536) : EReal := LA m c (ix3 (hj i) r (hf i)) * RA m c (ix2 n i)

theorem blk0 (c : Dev nD) (t : Fin cfg0.N) (r : Fin 1024) (k : Fin 192) :
    (iblk m c 0 t : FVec Ideal S1x1024x192 .bf16) (ix3 0 r k)
      = LA m c (ix3 (hj (place 1536 192 (t.val % 8) k.val)) (row t.val r) (hf (place 1536 192 (t.val % 8) k.val))) := by
  rw [← V_l_apply m c]
  have h := idx_facts t
  have hN := lt_N t
  refine congrArg (V m c main_v0 : FVec Ideal S8x4096x192 .bf16) (funext fun a => Fin.ext ?_)
  match a with
  | ⟨0, _⟩ => show win0_0.index t 0 * 1 + 1 * 0 = (192 * (t.val % 8) + k.val) % 1536 / 192; omega
  | ⟨1, _⟩ => show win0_0.index t 1 * 1024 + 1 * r.val = t.val / 8 % 4 * 1024 + r.val; omega
  | ⟨2, _⟩ => show win0_0.index t 2 * 192 + 1 * k.val = (192 * (t.val % 8) + k.val) % 1536 % 192; omega

theorem blk1 (c : Dev nD) (t : Fin cfg0.N) (n : Fin 512) (k : Fin 192) :
    (iblk m c 1 t : FVec Ideal S1x1x512x192 .bf16) (ix4 0 0 n k) = RA m c (ix2 n (place 1536 192 (t.val % 8) k.val)) := by
  rw [← hd_hj (place 1536 192 (t.val % 8) k.val), ← V_r_apply m c]
  have h := idx_facts t
  have hN := lt_N t
  refine congrArg (V m c main_v4 : FVec Ideal S8x1x512x192 .bf16) (funext fun a => Fin.ext ?_)
  match a with
  | ⟨0, _⟩ => show win0_1.index t 0 * 1 + 1 * 0 = (192 * (t.val % 8) + k.val) % 1536 / 192; omega
  | ⟨1, _⟩ => show win0_1.index t 1 * 1 + 1 * 0 = 0; omega
  | ⟨2, _⟩ => show win0_1.index t 2 * 512 + 1 * n.val = n.val; omega
  | ⟨3, _⟩ => show win0_1.index t 3 * 192 + 1 * k.val = (192 * (t.val % 8) + k.val) % 1536 % 192; omega

/-- Point `t`'s block product is the sum over its part. -/
theorem blk_sum (c : Dev nD) (t : Fin cfg0.N) (r : Fin 1024) (n : Fin 512) :
    part (iblk m c 0 t) (iblk m c 1 t) r n = blkSum 192 (term m c (row t.val r) n) (t.val % 8) := by
  unfold blkSum term part
  exact Finset.sum_congr rfl fun k _ => by rw [blk0, blk1]

/-! ## The accumulation -/

/-- After point `t` the scratch holds the sums over the run's parts so far. -/
theorem scr (c : Dev nD) (r : Fin 1024) (n : Fin 512) : ∀ (t : ℕ) (ht : t < cfg0.N),
    (show EReal from ((outsAt0 m c t ht).2 : FVec Ideal S1024x512 .f32) (ix2 r n)) = blkSums 192 (term m c (row t r) n) (t % 8 + 1) := by
  intro t
  induction t with
  | zero =>
    intro ht
    rw [scr_A m c ⟨0, ht⟩ rfl, pay2_apply]
    refine (blk_sum m c ⟨0, ht⟩ r n).trans ?_
    rw [blkSums_one]; rfl
  | succ t ih =>
    intro ht
    by_cases h0 : (t + 1) % 8 = 0
    · rw [scr_A m c ⟨t + 1, ht⟩ h0, pay2_apply]
      refine (blk_sum m c ⟨t + 1, ht⟩ r n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ r n)).trans ?_
      have e1 : row (t + 1) r = row t r := Fin.ext (by show (t + 1) / 8 % 4 * 1024 + r.val = t / 8 % 4 * 1024 + r.val; omega)
      show _ + blkSum 192 (term m c (row (t + 1) r) n) ((t + 1) % 8) = _
      rw [e1, show (t + 1) % 8 = t % 8 + 1 by omega, ← blkSums_succ]

/-! ## The reference -/

/-- The result, as the reference computes it. -/
abbrev G (c : Dev nD) : FVec Ideal S4096x512 .f32 := Cert.Reference16Ideal.Read.val_main_v5 (F := Ideal)
  (m ((c : Thread nD τ).loc main_arg1)) (m ((c : Thread nD τ).loc main_arg2))

theorem G_apply (c : Dev nD) (r : Fin 4096) (n : Fin 512) : (show EReal from G m c (ix2 r n)) = ∑ i : Fin 1536, term m c r n i := by
  unfold G term
  rw [Cert.Reference16Ideal.Read.val_main_v5_apply]
  refine Finset.sum_congr rfl fun i _ => ?_
  rw [Cert.Reference16Ideal.Read.val_main_v4_apply, Cert.Reference16Ideal.Read.val_main_v3_apply]
  congr 1
  · refine congrArg (LA m c) (funext fun a => Fin.ext ?_)
    match a with
    | ⟨0, _⟩ => show (r.val * 1536 + i.val) / 192 % 8 = i.val / 192; omega
    | ⟨1, _⟩ => show (r.val * 1536 + i.val) / 1536 = r.val; omega
    | ⟨2, _⟩ => show (r.val * 1536 + i.val) % 192 = i.val % 192; omega
  · exact congrArg (RA m c) (funext fun a => match a with | ⟨0, _⟩ => rfl | ⟨1, _⟩ => rfl)

/-! ## The whole array -/

theorem eq_blk (y : S1024x512.Idx) : ∃ (r : Fin 1024) (n : Fin 512), y = ix2 r n :=
  ⟨y 0, y 1, funext fun a => match a with
    | ⟨0, _⟩ => rfl
    | ⟨1, _⟩ => rfl⟩

theorem emb (t : Fin cfg0.N) (r : Fin 1024) (n : Fin 512) (G : FVec Ideal S4096x512 .f32) :
    ((cfg0.win 2).blk t).view.read (Elt Ideal) G (ix2 r n) = G (ix2 (row t.val r) n) := by
  have h := idx_facts t
  have hN := lt_N t
  refine congrArg G (funext fun a => Fin.ext ?_)
  match a with
  | ⟨0, _⟩ => show win0_2.index t 0 * 1024 + 1 * r.val = t.val / 8 % 4 * 1024 + r.val; omega
  | ⟨1, _⟩ => show win0_2.index t 1 * 512 + 1 * n.val = n.val; omega

/-- The sum that a run's last point holds is the whole product's entry. -/
theorem scr_last (c : Dev nD) (t : Fin cfg0.N) (h2 : t.val % 8 = 7) (r : Fin 1024) (n : Fin 512) :
    (show EReal from ((outsAt0 m c t.val t.isLt).2 : FVec Ideal S1024x512 .f32) (ix2 r n)) = ∑ i : Fin 1536, term m c (row t.val r) n i := by
  refine (scr m c r n t.val t.isLt).trans ?_
  rw [h2]
  exact blkSums_all 192 8 rfl _

/-- What a run's last point writes back is its block of the reference's result. -/
theorem flushed_eq (c : Dev nD) (t : Fin cfg0.N) (hf : (cfg0.win 2).flush t = true) :
    (dats m 0 c).flushed 2 t = ((cfg0.win 2).blk t).view.read (Elt Ideal) (G m c) := by
  have h2 : t.val % 8 = 7 := (flush0_2 t).mp hf
  rw [out_last m c t h2]
  funext y
  obtain ⟨r, n, rfl⟩ := eq_blk y
  rw [emb]
  exact (scr_last m c t h2 r n).trans (G_apply m c (row t.val r) n).symm

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 2 (G m c) (fun t hf => flushed_eq m c t hf)
      (fun i => (Value.covered_iff2 i).2 (by
        have h0 : (i 0).val < 4096 := (i 0).isLt; have h1 : (i 1).val < 512 := (i 1).isLt; omega))), (h c).2⟩)
    (Value.run_blocks m ρ)

end Cert.DcQ

end
-- ==== Proof.DcQClaims.lean ====
/-
  The claims on the latent attention's backward call for its compressed queries.
-/
module

public import proofs.«01_k».proof.Proof.DcQ

@[expose] public section

noncomputable section

namespace Cert.DcQ

open Idealize.ShloMosaic Idealize.ShloMosaic.TcCoe Idealize.SL.Sem

/-- The reference ends with every semaphore at zero, its arguments unchanged. -/
theorem frame_ref : Cert.quiescent_Reference16Ideal := fun m ρ _ =>
  (θ_run Cert.Reference16Ideal.defs _ _).mono (fun r h =>
      ⟨fun c => (h c).2, Idealize.ShloMosaic.sem_eq_zero_of_no_sems (by decide) r.2⟩)
    (Cert.Reference16Ideal.Value.run (F := Ideal) m ρ)

/-- The call computes the reference's result on all extended reals. -/
theorem algebraic : Cert.algebraic_Kernel16Ideal_Reference16Ideal := fun m ρ m' ρ' _ hag =>
  ⟨G m, run m ρ, (θ_run _ _ _).mono (fun _ h c => by
    obtain ⟨e0, e1, e2⟩ := hag c
    refine ⟨?_, (h c).2⟩
    rw [(h c).1, Cert.Reference16Ideal.Read.val_main_v5_eq, e1, e2]) (Cert.Reference16Ideal.Value.run (F := Ideal) m' ρ')⟩

end Cert.DcQ

end
-- ==== Proof.DwUkv.lean ====
/-
  The latent attention's backward call for `w_ukv`, over the reals: the array that the call returns is the
  derivative of `c_kv · w_ukv` in `w_ukv`, head by head.
-/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Reals
public import proofs.«01_k».proof.Proof.Sums

@[expose] public section

set_option maxRecDepth 16384

noncomputable section

namespace Cert.DwUkv

open Idealize.ShloMosaic Idealize.ShloMosaic.TcCoe Idealize.SL.Sem Cert.Reals Cert.Sums
open Idealize.ShloMosaic.ValueIdx
open Cert.Kernel20Ideal Cert.Kernel20Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the cases leave -/

section Cases

variable {F : FTy → Type} [FloatOps F] (m : (ℓ : Loc nD τ sig) → Buf (Elt F) ℓ)

/-- A run's first point leaves its block product in the scratch. -/
theorem scr_A (c : Dev nD) (t : Fin cfg0.N) (h0 : t.val % 4 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz2 _ _).trans ((hs0_0 t).read_unread _)))
    ((View.ld_unit_zero hz3 _ _).trans ((hs0_1 t).read_unread _))

/-- A later point adds its block product to what the point before left. -/
theorem scr_BC (c : Dev nD) (t : Fin cfg0.N) (h0 : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    unfold sout0_C_0
    dsimp only
    rw [View.read_writes_eq_canon _ _ _ (fun y => scover0_C_0 c _ _ _ _ _ _ _ _ _ _ _ _ _ _ _ y)]
    unfold kernelRun0_C
    dsimp only
    sl_unfold_words
    rw [View.canon_unit_zero hz2]
    simp only [View.readAt_eq_ld]
    exact congr (congr (congrArg k0_pay3 ((View.ld_unit_zero hz2 _ _).trans ((hs0_0 t).read_unread _)))
          ((View.ld_unit_zero hz3 _ _).trans ((hs0_1 t).read_unread _)))
          ((View.ld_unit_zero hz2 _ _).trans ((Memref.isWhole_whole cc0_scratch0).read_unread _))
  · rw [outsAt0_B m c t h0 (by omega) h2]
    unfold sout0_B_0
    dsimp only
    rw [View.read_writes_eq_canon _ _ _ (fun y => scover0_B_0 c _ _ _ _ _ _ _ _ _ _ _ _ _ _ _ y)]
    unfold kernelRun0_B
    dsimp only
    sl_unfold_words
    rw [View.canon_unit_zero hz2]
    simp only [View.readAt_eq_ld]
    exact congr (congr (congrArg k0_pay3 ((View.ld_unit_zero hz2 _ _).trans ((hs0_0 t).read_unread _)))
          ((View.ld_unit_zero hz3 _ _).trans ((hs0_1 t).read_unread _)))
          ((View.ld_unit_zero hz2 _ _).trans ((Memref.isWhole_whole cc0_scratch0).read_unread _))

/-- What a run's last point writes back. -/
theorem out_last (c : Dev nD) (t : Fin cfg0.N) (h2 : t.val % 4 = 3) :
    (dats m 0 c).flushed 2 t = k0_pay4 (outsAt0 m c t.val t.isLt).2 := by
  rw [Value.flushed2_C m c t (by omega) (by omega) h2, scr_BC m c t (by omega)]
  show out0_C_2 (F := F) _ _ _ _ _ _ _ _ _ _ _ _ _ _ _ _ = _
  unfold out0_C_2
  rw [View.read_writes_eq_canon _ _ _ (fun y => cover0_C_2 c _ _ _ _ _ _ _ _ _ _ _ _ _ _ _ y)]
  unfold kernelRun0_C
  dsimp only
  sl_unfold_words
  rw [View.canon_unit_zero hz3]
  simp only [View.readAt_eq_ld]
  rw [View.readCov_unit_zero _ hz2]
  exact congrArg k0_pay4 (congr (congr (congrArg k0_pay3 ((View.ld_unit_zero hz2 _ _).trans ((hs0_0 t).read_unread _)))
      ((View.ld_unit_zero hz3 _ _).trans ((hs0_1 t).read_unread _)))
      ((View.ld_unit_zero hz2 _ _).trans ((Memref.isWhole_whole cc0_scratch0).read_unread _)))

end Cases

/-! ## The payloads over the reals -/

abbrev D : DotDims S1024x512 S1024x256 S512x256 := dot_S1024x512_S1024x256_S512x256_0_0_1_1_n_n

/-- The block product, entry by entry. -/
def part (P0 : FVec Ideal S1024x512 .bf16) (P1 : FVec Ideal S1x1024x256 .bf16) (r : Fin 512) (n : Fin 256) : EReal := ∑ k : Fin 1024, P0 (ix2 k r) * P1 (ix3 0 k n)

theorem pay1_apply (P0 : FVec Ideal S1024x512 .bf16) (P1 : FVec Ideal S1x1024x256 .bf16) (r : Fin 512) (n : Fin 256) :
    k0_pay1 (F := Ideal) P0 P1 (ix2 r n) = part P0 P1 r n := by
  have hs : ∀ k : Fin 1024, shapeCast S1024x512 P0 shapeCasts_S1024x512_S1024x512 (ix2 k r) = P0 (ix2 k r) := fun k => shapeCast_apply P0 shapeCasts_S1024x512_S1024x512 (ix2 k r) (ix2 k r) rfl
  have hs' : ∀ k : Fin 1024, shapeCast S1024x256 P1 shapeCasts_S1x1024x256_S1024x256 (ix2 k n) = P1 (ix3 0 k n) := fun k =>
    shapeCast_apply P1 shapeCasts_S1x1024x256_S1024x256 (ix2 k n) (ix3 0 k n) (by
      rw [Shape.rowMajor_val_two, Shape.rowMajor_val_three]; simp [ix2, ix3])
  unfold k0_pay1 part
  show Ideal.ofBits .f32 0x00000000#32 + ∑ k : D.contr.Idx, (shapeCast S1024x512 P0 shapeCasts_S1024x512_S1024x512) (D.lhsIdx (ix2 r n) k) * (shapeCast S1024x256 P1 shapeCasts_S1x1024x256_S1024x256) (D.rhsIdx (ix2 r n) k) = _
  rw [ofBits_zero, EReal.coe_zero, zero_add]
  rw [← Equiv.sum_comp (contrEquiv1 D 1024 rfl rfl).symm]
  refine Finset.sum_congr rfl fun k _ => ?_
  have hk := contrEquiv1_symm_val D 1024 rfl rfl k
  have el : D.lhsIdx (ix2 r n) ((contrEquiv1 D 1024 rfl rfl).symm k) = ix2 k r := funext fun a => Fin.ext (by
    match a with
    | ⟨0, _⟩ => exact (D.lhsIdx_val_of_single rfl _ _).trans hk
    | ⟨1, _⟩ => rfl)
  have er : D.rhsIdx (ix2 r n) ((contrEquiv1 D 1024 rfl rfl).symm k) = ix2 k n := funext fun a => Fin.ext (by
    match a with
    | ⟨0, _⟩ => exact (D.rhsIdx_val_of_single rfl _ _).trans hk
    | ⟨1, _⟩ => rfl)
  rw [el, er, hs, hs']

theorem pay2_apply (P0 : FVec Ideal S1024x512 .bf16) (P1 : FVec Ideal S1x1024x256 .bf16) (r : Fin 512) (n : Fin 256) :
    k0_pay2 (F := Ideal) P0 P1 (ix2 r n) = part P0 P1 r n := by
  rw [← pay1_apply]
  unfold k0_pay2
  exact shapeCast_apply _ shapeCasts_S512x256_S512x256 (ix2 r n) (ix2 r n) rfl

theorem pay3_apply (P0 : FVec Ideal S1024x512 .bf16) (P1 : FVec Ideal S1x1024x256 .bf16) (X : FVec Ideal S512x256 .f32) (r : Fin 512) (n : Fin 256) :
    k0_pay3 (F := Ideal) P0 P1 X (ix2 r n) = (show EReal from X (ix2 r n)) + part P0 P1 r n := by
  rw [← pay1_apply]
  unfold k0_pay3
  exact shapeCast_apply _ shapeCasts_S512x256_S512x256 (ix2 r n) (ix2 r n) rfl

theorem pay4_apply (X : FVec Ideal S512x256 .f32) (r : Fin 512) (n : Fin 256) :
    (show EReal from k0_pay4 (F := Ideal) X (ix3 0 r n)) = (show EReal from X (ix2 r n)) := by
  unfold k0_pay4
  exact shapeCast_apply _ shapeCasts_S512x256_S1x512x256 (ix3 0 r n) (ix2 r n) (by rw [Shape.rowMajor_val_two, Shape.rowMajor_val_three]; simp [ix2, ix3])

/-! ## The call's blocks, in the arguments -/

variable (m : (ℓ : Loc nD τ sig) → Buf (Elt Ideal) ℓ)

/-- The compressed values and the cotangent. -/
abbrev LA (c : Dev nD) : FVec Ideal S4096x512 .f32 := m ((c : Thread nD τ).loc main_arg0)
abbrev RA (c : Dev nD) : FVec Ideal S8x4096x256 .f32 := m ((c : Thread nD τ).loc main_arg2)

theorem V_l (c : Dev nD) : (V m c main_v0 : FVec Ideal S4096x512 .bf16) = truncf (F := Ideal) .bf16 (LA m c) bitsLt_bf16_f32 := by
  simp only [V, hostOps0]
  after_results_simp <;> rfl

theorem V_l_apply (c : Dev nD) (i : S4096x512.Idx) : (V m c main_v0 : FVec Ideal S4096x512 .bf16) i = LA m c i := by
  rw [V_l]
  rfl

theorem V_r (c : Dev nD) : (V m c main_v1 : FVec Ideal S8x4096x256 .bf16) = truncf (F := Ideal) .bf16 (RA m c) bitsLt_bf16_f32 := by
  simp only [V, hostOps0]
  after_results_simp <;> rfl

theorem V_r_apply (c : Dev nD) (i : S8x4096x256.Idx) : (V m c main_v1 : FVec Ideal S8x4096x256 .bf16) i = RA m c i := by
  rw [V_r]
  rfl

/-- The index maps, in the point's number. -/
theorem idx_facts : ∀ t : Fin cfg0.N, win0_0.index t (0 : Fin 2) = t.val % 4 ∧ win0_0.index t (1 : Fin 2) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

theorem lt_N (t : Fin cfg0.N) : t.val < 32 := lt_of_lt_of_eq t.isLt N_0

/-- The head that point `t` works on. -/
def head (t : ℕ) : Fin 8 := ⟨t / 4 % 8, by omega⟩

/-- The `i`-th term of entry `(r, n)` of head `j` of the product. -/
def term (c : Dev nD) (j : Fin 8) (r : Fin 512) (n : Fin 256) (i : Fin 4096) : EReal := LA m c (ix2 i r) * RA m c (ix3 j i n)

theorem blk0 (c : Dev nD) (t : Fin cfg0.N) (r : Fin 512) (k : Fin 1024) :
    (iblk m c 0 t : FVec Ideal S1024x512 .bf16) (ix2 k r) = LA m c (ix2 (place 4096 1024 (t.val % 4) k.val) r) := by
  rw [← V_l_apply m c]
  have h := idx_facts t
  have hN := lt_N t
  refine congrArg (V m c main_v0 : FVec Ideal S4096x512 .bf16) (funext fun a => Fin.ext ?_)
  match a with
  | ⟨0, _⟩ => show win0_0.index t 0 * 1024 + 1 * k.val = (1024 * (t.val % 4) + k.val) % 4096; omega
  | ⟨1, _⟩ => show win0_0.index t 1 * 512 + 1 * r.val = r.val; omega

theorem blk1 (c : Dev nD) (t : Fin cfg0.N) (k : Fin 1024) (n : Fin 256) :
    (iblk m c 1 t : FVec Ideal S1x1024x256 .bf16) (ix3 0 k n) = RA m c (ix3 (head t.val) (place 4096 1024 (t.val % 4) k.val) n) := by
  rw [← V_r_apply m c]
  have h := idx_facts t
  have hN := lt_N t
  refine congrArg (V m c main_v1 : FVec Ideal S8x4096x256 .bf16) (funext fun a => Fin.ext ?_)
  match a with
  | ⟨0, _⟩ => show win0_1.index t 0 * 1 + 1 * 0 = t.val / 4 % 8; omega
  | ⟨1, _⟩ => show win0_1.index t 1 * 1024 + 1 * k.val = (1024 * (t.val % 4) + k.val) % 4096; omega
  | ⟨2, _⟩ => show win0_1.index t 2 * 256 + 1 * n.val = n.val; omega

/-- Point `t`'s block product is the sum over its part. -/
theorem blk_sum (c : Dev nD) (t : Fin cfg0.N) (r : Fin 512) (n : Fin 256) :
    part (iblk m c 0 t) (iblk m c 1 t) r n = blkSum 1024 (term m c (head t.val) r n) (t.val % 4) := by
  unfold blkSum term part
  exact Finset.sum_congr rfl fun k _ => by rw [blk0, blk1]

/-! ## The accumulation -/

/-- After point `t` the scratch holds the sums over the run's parts so far. -/
theorem scr (c : Dev nD) (r : Fin 512) (n : Fin 256) : ∀ (t : ℕ) (ht : t < cfg0.N),
    (show EReal from ((outsAt0 m c t ht).2 : FVec Ideal S512x256 .f32) (ix2 r n)) = blkSums 1024 (term m c (head t) r n) (t % 4 + 1) := by
  intro t
  induction t with
  | zero =>
    intro ht
    rw [scr_A m c ⟨0, ht⟩ rfl, pay2_apply]
    refine (blk_sum m c ⟨0, ht⟩ r n).trans ?_
    rw [blkSums_one]; rfl
  | succ t ih =>
    intro ht
    by_cases h0 : (t + 1) % 4 = 0
    · rw [scr_A m c ⟨t + 1, ht⟩ h0, pay2_apply]
      refine (blk_sum m c ⟨t + 1, ht⟩ r n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ r n)).trans ?_
      have e1 : head (t + 1) = head t := Fin.ext (by show (t + 1) / 4 % 8 = t / 4 % 8; omega)
      show _ + blkSum 1024 (term m c (head (t + 1)) r n) ((t + 1) % 4) = _
      rw [e1, show (t + 1) % 4 = t % 4 + 1 by omega, ← blkSums_succ]

/-! ## The reference -/

/-- The result, as the reference computes it. -/
abbrev G (c : Dev nD) : FVec Ideal S8x512x256 .bf16 := Cert.Reference20Ideal.Read.val_main_v9 (F := Ideal)
  (m ((c : Thread nD τ).loc main_arg0)) (m ((c : Thread nD τ).loc main_arg2))

theorem G_apply (c : Dev nD) (j : Fin 8) (r : Fin 512) (n : Fin 256) : (show EReal from G m c (ix3 j r n)) = ∑ i : Fin 4096, term m c j r n i := by
  unfold G term
  rw [Cert.Reference20Ideal.Read.val_main_v9_apply]
  show (show EReal from Cert.Reference20Ideal.Read.val_main_v8 (F := Ideal) (LA m c) (RA m c) (ix3 j r n)) = _
  rw [Cert.Reference20Ideal.Read.val_main_v8_apply, Cert.Reference20Ideal.Read.val_main_v7_apply, Cert.Reference20Ideal.Read.val_main_v6_apply, Cert.Reference20Ideal.Read.val_main_v5_apply]
  refine Finset.sum_congr rfl fun i _ => ?_
  rw [mul_comm, Cert.Reference20Ideal.Read.val_main_v4_apply, Cert.Reference20Ideal.Read.val_main_v3_apply]
  congr 1
  · refine congrArg (LA m c) (funext fun a => Fin.ext ?_)
    match a with
    | ⟨0, _⟩ => rfl
    | ⟨1, _⟩ => show ((r.val * 8 + j.val) * 256 + n.val) / 2048 = r.val; omega
  · refine congrArg (RA m c) (funext fun a => Fin.ext ?_)
    match a with
    | ⟨0, _⟩ => show (i.val * 2048 + ((r.val * 8 + j.val) * 256 + n.val) % 2048) / 256 % 8 = j.val; omega
    | ⟨1, _⟩ => show (i.val * 2048 + ((r.val * 8 + j.val) * 256 + n.val) % 2048) / 2048 = i.val; omega
    | ⟨2, _⟩ => show (i.val * 2048 + ((r.val * 8 + j.val) * 256 + n.val) % 2048) % 256 = n.val; omega

/-! ## The whole array -/

theorem eq_blk (y : S1x512x256.Idx) : ∃ (r : Fin 512) (n : Fin 256), y = ix3 0 r n :=
  ⟨y 1, y 2, funext fun a => match a with
    | ⟨0, _⟩ => Fin.ext (Nat.lt_one_iff.mp (y 0).isLt)
    | ⟨1, _⟩ => rfl
    | ⟨2, _⟩ => rfl⟩

theorem emb (t : Fin cfg0.N) (r : Fin 512) (n : Fin 256) (G : FVec Ideal S8x512x256 .bf16) :
    ((cfg0.win 2).blk t).view.read (Elt Ideal) G (ix3 0 r n) = G (ix3 (head t.val) r n) := by
  have h := idx_facts t
  have hN := lt_N t
  refine congrArg G (funext fun a => Fin.ext ?_)
  match a with
  | ⟨0, _⟩ => show win0_2.index t 0 * 1 + 1 * 0 = t.val / 4 % 8; omega
  | ⟨1, _⟩ => show win0_2.index t 1 * 512 + 1 * r.val = r.val; omega
  | ⟨2, _⟩ => show win0_2.index t 2 * 256 + 1 * n.val = n.val; omega

/-- The sum that a run's last point holds is the whole product's entry. -/
theorem scr_last (c : Dev nD) (t : Fin cfg0.N) (h2 : t.val % 4 = 3) (r : Fin 512) (n : Fin 256) :
    (show EReal from ((outsAt0 m c t.val t.isLt).2 : FVec Ideal S512x256 .f32) (ix2 r n)) = ∑ i : Fin 4096, term m c (head t.val) r n i := by
  refine (scr m c r n t.val t.isLt).trans ?_
  rw [h2]
  exact blkSums_all 1024 4 rfl _

/-- What a run's last point writes back is its block of the reference's result. -/
theorem flushed_eq (c : Dev nD) (t : Fin cfg0.N) (hf : (cfg0.win 2).flush t = true) :
    (dats m 0 c).flushed 2 t = ((cfg0.win 2).blk t).view.read (Elt Ideal) (G m c) := by
  have h2 : t.val % 4 = 3 := (flush0_2 t).mp hf
  rw [out_last m c t h2]
  funext y
  obtain ⟨r, n, rfl⟩ := eq_blk y
  rw [emb]
  exact (pay4_apply _ r n).trans ((scr_last m c t h2 r n).trans (G_apply m c (head t.val) r n).symm)

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 2 (G m c) (fun t hf => flushed_eq m c t hf)
      (fun i => (Value.covered_iff2 i).2 (by
        have h0 : (i 0).val < 8 := (i 0).isLt; have h1 : (i 1).val < 512 := (i 1).isLt; have h2 : (i 2).val < 256 := (i 2).isLt; omega))), (h c).2⟩)
    (Value.run_blocks m ρ)

end Cert.DwUkv

end
-- ==== Proof.DwUkvClaims.lean ====
/-
  The claims on the latent attention's backward call for `w_ukv`.
-/
module

public import proofs.«01_k».proof.Proof.DwUkv

@[expose] public section

noncomputable section

namespace Cert.DwUkv

open Idealize.ShloMosaic Idealize.ShloMosaic.TcCoe Idealize.SL.Sem

/-- The reference ends with every semaphore at zero, its arguments unchanged. -/
theorem frame_ref : Cert.quiescent_Reference20Ideal := fun m ρ _ =>
  (θ_run Cert.Reference20Ideal.defs _ _).mono (fun r h =>
      ⟨fun c => (h c).2, Idealize.ShloMosaic.sem_eq_zero_of_no_sems (by decide) r.2⟩)
    (Cert.Reference20Ideal.Value.run (F := Ideal) m ρ)

/-- The call computes the reference's result on all extended reals. -/
theorem algebraic : Cert.algebraic_Kernel20Ideal_Reference20Ideal := fun m ρ m' ρ' _ hag =>
  ⟨G m, run m ρ, (θ_run _ _ _).mono (fun _ h c => by
    obtain ⟨e0, e1, e2⟩ := hag c
    refine ⟨?_, (h c).2⟩
    rw [(h c).1, Cert.Reference20Ideal.Read.val_main_v9_eq, e0, e2]) (Cert.Reference20Ideal.Value.run (F := Ideal) m' ρ')⟩

end Cert.DwUkv

end
-- ==== Proof.DwUq.lean ====
/-
  The latent attention's backward call for `w_uq`, over the reals: the array that the call returns is the
  derivative of `c_q · w_uq` in `w_uq`, head by head.
-/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Reals
public import proofs.«01_k».proof.Proof.Sums

@[expose] public section

set_option maxRecDepth 16384

noncomputable section

namespace Cert.DwUq

open Idealize.ShloMosaic Idealize.ShloMosaic.TcCoe Idealize.SL.Sem Cert.Reals Cert.Sums
open Idealize.ShloMosaic.ValueIdx
open Cert.Kernel17Ideal Cert.Kernel17Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the cases leave -/

section Cases

variable {F : FTy → Type} [FloatOps F] (m : (ℓ : Loc nD τ sig) → Buf (Elt F) ℓ)

/-- A run's first point leaves its block product in the scratch. -/
theorem scr_A (c : Dev nD) (t : Fin cfg0.N) (h0 : t.val % 4 = 0) :
    (outsAt0 m c t.val t.isLt).2 = k0_pay2 (iblk m c 0 t) (iblk m c 1 t) := by
  rw [outsAt0_A m c t h0 (by omega) (by omega)]
  unfold sout0_A_0
  dsimp only
  rw [View.read_writes_eq_canon _ _ _ (fun y => scover0_A_0 c _ _ _ _ _ _ _ _ _ _ _ _ _ _ y)]
  unfold kernelRun0_A
  dsimp only
  sl_unfold_words
  rw [View.canon_unit_zero hz2]
  simp only [View.readAt_eq_ld]
  exact congr (congrArg k0_pay2 ((View.ld_unit_zero hz2 _ _).trans ((hs0_0 t).read_unread _)))
    ((View.ld_unit_zero hz3 _ _).trans ((hs0_1 t).read_unread _))

/-- A later point adds its block product to what the point before left. -/
theorem scr_BC (c : Dev nD) (t : Fin cfg0.N) (h0 : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h2 : t.val % 4 = 3
  · rw [outsAt0_C m c t h0 (by omega) h2]
    unfold sout0_C_0
    dsimp only
    rw [View.read_writes_eq_canon _ _ _ (fun y => scover0_C_0 c _ _ _ _ _ _ _ _ _ _ _ _ _ _ _ y)]
    unfold kernelRun0_C
    dsimp only
    sl_unfold_words
    rw [View.canon_unit_zero hz2]
    simp only [View.readAt_eq_ld]
    exact congr (congr (congrArg k0_pay3 ((View.ld_unit_zero hz2 _ _).trans ((hs0_0 t).read_unread _)))
          ((View.ld_unit_zero hz3 _ _).trans ((hs0_1 t).read_unread _)))
          ((View.ld_unit_zero hz2 _ _).trans ((Memref.isWhole_whole cc0_scratch0).read_unread _))
  · rw [outsAt0_B m c t h0 (by omega) h2]
    unfold sout0_B_0
    dsimp only
    rw [View.read_writes_eq_canon _ _ _ (fun y => scover0_B_0 c _ _ _ _ _ _ _ _ _ _ _ _ _ _ _ y)]
    unfold kernelRun0_B
    dsimp only
    sl_unfold_words
    rw [View.canon_unit_zero hz2]
    simp only [View.readAt_eq_ld]
    exact congr (congr (congrArg k0_pay3 ((View.ld_unit_zero hz2 _ _).trans ((hs0_0 t).read_unread _)))
          ((View.ld_unit_zero hz3 _ _).trans ((hs0_1 t).read_unread _)))
          ((View.ld_unit_zero hz2 _ _).trans ((Memref.isWhole_whole cc0_scratch0).read_unread _))

/-- What a run's last point writes back. -/
theorem out_last (c : Dev nD) (t : Fin cfg0.N) (h2 : t.val % 4 = 3) :
    (dats m 0 c).flushed 2 t = k0_pay4 (outsAt0 m c t.val t.isLt).2 := by
  rw [Value.flushed2_C m c t (by omega) (by omega) h2, scr_BC m c t (by omega)]
  show out0_C_2 (F := F) _ _ _ _ _ _ _ _ _ _ _ _ _ _ _ _ = _
  unfold out0_C_2
  rw [View.read_writes_eq_canon _ _ _ (fun y => cover0_C_2 c _ _ _ _ _ _ _ _ _ _ _ _ _ _ _ y)]
  unfold kernelRun0_C
  dsimp only
  sl_unfold_words
  rw [View.canon_unit_zero hz3]
  simp only [View.readAt_eq_ld]
  rw [View.readCov_unit_zero _ hz2]
  exact congrArg k0_pay4 (congr (congr (congrArg k0_pay3 ((View.ld_unit_zero hz2 _ _).trans ((hs0_0 t).read_unread _)))
      ((View.ld_unit_zero hz3 _ _).trans ((hs0_1 t).read_unread _)))
      ((View.ld_unit_zero hz2 _ _).trans ((Memref.isWhole_whole cc0_scratch0).read_unread _)))

end Cases

/-! ## The payloads over the reals -/

abbrev D : DotDims S1024x512 S1024x192 S512x192 := dot_S1024x512_S1024x192_S512x192_0_0_1_1_n_n

/-- The block product, entry by entry. -/
def part (P0 : FVec Ideal S1024x512 .bf16) (P1 : FVec Ideal S1x1024x192 .bf16) (r : Fin 512) (n : Fin 192) : EReal := ∑ k : Fin 1024, P0 (ix2 k r) * P1 (ix3 0 k n)

theorem pay1_apply (P0 : FVec Ideal S1024x512 .bf16) (P1 : FVec Ideal S1x1024x192 .bf16) (r : Fin 512) (n : Fin 192) :
    k0_pay1 (F := Ideal) P0 P1 (ix2 r n) = part P0 P1 r n := by
  have hs : ∀ k : Fin 1024, shapeCast S1024x512 P0 shapeCasts_S1024x512_S1024x512 (ix2 k r) = P0 (ix2 k r) := fun k => shapeCast_apply P0 shapeCasts_S1024x512_S1024x512 (ix2 k r) (ix2 k r) rfl
  have hs' : ∀ k : Fin 1024, shapeCast S1024x192 P1 shapeCasts_S1x1024x192_S1024x192 (ix2 k n) = P1 (ix3 0 k n) := fun k =>
    shapeCast_apply P1 shapeCasts_S1x1024x192_S1024x192 (ix2 k n) (ix3 0 k n) (by
      rw [Shape.rowMajor_val_two, Shape.rowMajor_val_three]; simp [ix2, ix3])
  unfold k0_pay1 part
  show Ideal.ofBits .f32 0x00000000#32 + ∑ k : D.contr.Idx, (shapeCast S1024x512 P0 shapeCasts_S1024x512_S1024x512) (D.lhsIdx (ix2 r n) k) * (shapeCast S1024x192 P1 shapeCasts_S1x1024x192_S1024x192) (D.rhsIdx (ix2 r n) k) = _
  rw [ofBits_zero, EReal.coe_zero, zero_add]
  rw [← Equiv.sum_comp (contrEquiv1 D 1024 rfl rfl).symm]
  refine Finset.sum_congr rfl fun k _ => ?_
  have hk := contrEquiv1_symm_val D 1024 rfl rfl k
  have el : D.lhsIdx (ix2 r n) ((contrEquiv1 D 1024 rfl rfl).symm k) = ix2 k r := funext fun a => Fin.ext (by
    match a with
    | ⟨0, _⟩ => exact (D.lhsIdx_val_of_single rfl _ _).trans hk
    | ⟨1, _⟩ => rfl)
  have er : D.rhsIdx (ix2 r n) ((contrEquiv1 D 1024 rfl rfl).symm k) = ix2 k n := funext fun a => Fin.ext (by
    match a with
    | ⟨0, _⟩ => exact (D.rhsIdx_val_of_single rfl _ _).trans hk
    | ⟨1, _⟩ => rfl)
  rw [el, er, hs, hs']

theorem pay2_apply (P0 : FVec Ideal S1024x512 .bf16) (P1 : FVec Ideal S1x1024x192 .bf16) (r : Fin 512) (n : Fin 192) :
    k0_pay2 (F := Ideal) P0 P1 (ix2 r n) = part P0 P1 r n := by
  rw [← pay1_apply]
  unfold k0_pay2
  exact shapeCast_apply _ shapeCasts_S512x192_S512x192 (ix2 r n) (ix2 r n) rfl

theorem pay3_apply (P0 : FVec Ideal S1024x512 .bf16) (P1 : FVec Ideal S1x1024x192 .bf16) (X : FVec Ideal S512x192 .f32) (r : Fin 512) (n : Fin 192) :
    k0_pay3 (F := Ideal) P0 P1 X (ix2 r n) = (show EReal from X (ix2 r n)) + part P0 P1 r n := by
  rw [← pay1_apply]
  unfold k0_pay3
  exact shapeCast_apply _ shapeCasts_S512x192_S512x192 (ix2 r n) (ix2 r n) rfl

theorem pay4_apply (X : FVec Ideal S512x192 .f32) (r : Fin 512) (n : Fin 192) :
    (show EReal from k0_pay4 (F := Ideal) X (ix3 0 r n)) = (show EReal from X (ix2 r n)) := by
  unfold k0_pay4
  exact shapeCast_apply _ shapeCasts_S512x192_S1x512x192 (ix3 0 r n) (ix2 r n) (by rw [Shape.rowMajor_val_two, Shape.rowMajor_val_three]; simp [ix2, ix3])

/-! ## The call's blocks, in the arguments -/

variable (m : (ℓ : Loc nD τ sig) → Buf (Elt Ideal) ℓ)

/-- The compressed values and the cotangent. -/
abbrev LA (c : Dev nD) : FVec Ideal S4096x512 .f32 := m ((c : Thread nD τ).loc main_arg0)
abbrev RA (c : Dev nD) : FVec Ideal S8x4096x192 .f32 := m ((c : Thread nD τ).loc main_arg2)

theorem V_l (c : Dev nD) : (V m c main_v0 : FVec Ideal S4096x512 .bf16) = truncf (F := Ideal) .bf16 (LA m c) bitsLt_bf16_f32 := by
  simp only [V, hostOps0]
  after_results_simp <;> rfl

theorem V_l_apply (c : Dev nD) (i : S4096x512.Idx) : (V m c main_v0 : FVec Ideal S4096x512 .bf16) i = LA m c i := by
  rw [V_l]
  rfl

theorem V_r (c : Dev nD) : (V m c main_v1 : FVec Ideal S8x4096x192 .bf16) = truncf (F := Ideal) .bf16 (RA m c) bitsLt_bf16_f32 := by
  simp only [V, hostOps0]
  after_results_simp <;> rfl

theorem V_r_apply (c : Dev nD) (i : S8x4096x192.Idx) : (V m c main_v1 : FVec Ideal S8x4096x192 .bf16) i = RA m c i := by
  rw [V_r]
  rfl

/-- The index maps, in the point's number. -/
theorem idx_facts : ∀ t : Fin cfg0.N, win0_0.index t (0 : Fin 2) = t.val % 4 ∧ win0_0.index t (1 : Fin 2) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

theorem lt_N (t : Fin cfg0.N) : t.val < 32 := lt_of_lt_of_eq t.isLt N_0

/-- The head that point `t` works on. -/
def head (t : ℕ) : Fin 8 := ⟨t / 4 % 8, by omega⟩

/-- The `i`-th term of entry `(r, n)` of head `j` of the product. -/
def term (c : Dev nD) (j : Fin 8) (r : Fin 512) (n : Fin 192) (i : Fin 4096) : EReal := LA m c (ix2 i r) * RA m c (ix3 j i n)

theorem blk0 (c : Dev nD) (t : Fin cfg0.N) (r : Fin 512) (k : Fin 1024) :
    (iblk m c 0 t : FVec Ideal S1024x512 .bf16) (ix2 k r) = LA m c (ix2 (place 4096 1024 (t.val % 4) k.val) r) := by
  rw [← V_l_apply m c]
  have h := idx_facts t
  have hN := lt_N t
  refine congrArg (V m c main_v0 : FVec Ideal S4096x512 .bf16) (funext fun a => Fin.ext ?_)
  match a with
  | ⟨0, _⟩ => show win0_0.index t 0 * 1024 + 1 * k.val = (1024 * (t.val % 4) + k.val) % 4096; omega
  | ⟨1, _⟩ => show win0_0.index t 1 * 512 + 1 * r.val = r.val; omega

theorem blk1 (c : Dev nD) (t : Fin cfg0.N) (k : Fin 1024) (n : Fin 192) :
    (iblk m c 1 t : FVec Ideal S1x1024x192 .bf16) (ix3 0 k n) = RA m c (ix3 (head t.val) (place 4096 1024 (t.val % 4) k.val) n) := by
  rw [← V_r_apply m c]
  have h := idx_facts t
  have hN := lt_N t
  refine congrArg (V m c main_v1 : FVec Ideal S8x4096x192 .bf16) (funext fun a => Fin.ext ?_)
  match a with
  | ⟨0, _⟩ => show win0_1.index t 0 * 1 + 1 * 0 = t.val / 4 % 8; omega
  | ⟨1, _⟩ => show win0_1.index t 1 * 1024 + 1 * k.val = (1024 * (t.val % 4) + k.val) % 4096; omega
  | ⟨2, _⟩ => show win0_1.index t 2 * 192 + 1 * n.val = n.val; omega

/-- Point `t`'s block product is the sum over its part. -/
theorem blk_sum (c : Dev nD) (t : Fin cfg0.N) (r : Fin 512) (n : Fin 192) :
    part (iblk m c 0 t) (iblk m c 1 t) r n = blkSum 1024 (term m c (head t.val) r n) (t.val % 4) := by
  unfold blkSum term part
  exact Finset.sum_congr rfl fun k _ => by rw [blk0, blk1]

/-! ## The accumulation -/

/-- After point `t` the scratch holds the sums over the run's parts so far. -/
theorem scr (c : Dev nD) (r : Fin 512) (n : Fin 192) : ∀ (t : ℕ) (ht : t < cfg0.N),
    (show EReal from ((outsAt0 m c t ht).2 : FVec Ideal S512x192 .f32) (ix2 r n)) = blkSums 1024 (term m c (head t) r n) (t % 4 + 1) := by
  intro t
  induction t with
  | zero =>
    intro ht
    rw [scr_A m c ⟨0, ht⟩ rfl, pay2_apply]
    refine (blk_sum m c ⟨0, ht⟩ r n).trans ?_
    rw [blkSums_one]; rfl
  | succ t ih =>
    intro ht
    by_cases h0 : (t + 1) % 4 = 0
    · rw [scr_A m c ⟨t + 1, ht⟩ h0, pay2_apply]
      refine (blk_sum m c ⟨t + 1, ht⟩ r n).trans ?_
      rw [h0, blkSums_one]
    · rw [scr_BC m c ⟨t + 1, ht⟩ h0, pay3_apply]
      refine (congr (congrArg HAdd.hAdd (ih (Nat.lt_of_succ_lt ht))) (blk_sum m c ⟨t + 1, ht⟩ r n)).trans ?_
      have e1 : head (t + 1) = head t := Fin.ext (by show (t + 1) / 4 % 8 = t / 4 % 8; omega)
      show _ + blkSum 1024 (term m c (head (t + 1)) r n) ((t + 1) % 4) = _
      rw [e1, show (t + 1) % 4 = t % 4 + 1 by omega, ← blkSums_succ]

/-! ## The reference -/

/-- The result, as the reference computes it. -/
abbrev G (c : Dev nD) : FVec Ideal S8x512x192 .bf16 := Cert.Reference17Ideal.Read.val_main_v9 (F := Ideal)
  (m ((c : Thread nD τ).loc main_arg0)) (m ((c : Thread nD τ).loc main_arg2))

theorem G_apply (c : Dev nD) (j : Fin 8) (r : Fin 512) (n : Fin 192) : (show EReal from G m c (ix3 j r n)) = ∑ i : Fin 4096, term m c j r n i := by
  unfold G term
  rw [Cert.Reference17Ideal.Read.val_main_v9_apply]
  show (show EReal from Cert.Reference17Ideal.Read.val_main_v8 (F := Ideal) (LA m c) (RA m c) (ix3 j r n)) = _
  rw [Cert.Reference17Ideal.Read.val_main_v8_apply, Cert.Reference17Ideal.Read.val_main_v7_apply, Cert.Reference17Ideal.Read.val_main_v6_apply, Cert.Reference17Ideal.Read.val_main_v5_apply]
  refine Finset.sum_congr rfl fun i _ => ?_
  rw [mul_comm, Cert.Reference17Ideal.Read.val_main_v4_apply, Cert.Reference17Ideal.Read.val_main_v3_apply]
  congr 1
  · refine congrArg (LA m c) (funext fun a => Fin.ext ?_)
    match a with
    | ⟨0, _⟩ => rfl
    | ⟨1, _⟩ => show ((r.val * 8 + j.val) * 192 + n.val) / 1536 = r.val; omega
  · refine congrArg (RA m c) (funext fun a => Fin.ext ?_)
    match a with
    | ⟨0, _⟩ => show (i.val * 1536 + ((r.val * 8 + j.val) * 192 + n.val) % 1536) / 192 % 8 = j.val; omega
    | ⟨1, _⟩ => show (i.val * 1536 + ((r.val * 8 + j.val) * 192 + n.val) % 1536) / 1536 = i.val; omega
    | ⟨2, _⟩ => show (i.val * 1536 + ((r.val * 8 + j.val) * 192 + n.val) % 1536) % 192 = n.val; omega

/-! ## The whole array -/

theorem eq_blk (y : S1x512x192.Idx) : ∃ (r : Fin 512) (n : Fin 192), y = ix3 0 r n :=
  ⟨y 1, y 2, funext fun a => match a with
    | ⟨0, _⟩ => Fin.ext (Nat.lt_one_iff.mp (y 0).isLt)
    | ⟨1, _⟩ => rfl
    | ⟨2, _⟩ => rfl⟩

theorem emb (t : Fin cfg0.N) (r : Fin 512) (n : Fin 192) (G : FVec Ideal S8x512x192 .bf16) :
    ((cfg0.win 2).blk t).view.read (Elt Ideal) G (ix3 0 r n) = G (ix3 (head t.val) r n) := by
  have h := idx_facts t
  have hN := lt_N t
  refine congrArg G (funext fun a => Fin.ext ?_)
  match a with
  | ⟨0, _⟩ => show win0_2.index t 0 * 1 + 1 * 0 = t.val / 4 % 8; omega
  | ⟨1, _⟩ => show win0_2.index t 1 * 512 + 1 * r.val = r.val; omega
  | ⟨2, _⟩ => show win0_2.index t 2 * 192 + 1 * n.val = n.val; omega

/-- The sum that a run's last point holds is the whole product's entry. -/
theorem scr_last (c : Dev nD) (t : Fin cfg0.N) (h2 : t.val % 4 = 3) (r : Fin 512) (n : Fin 192) :
    (show EReal from ((outsAt0 m c t.val t.isLt).2 : FVec Ideal S512x192 .f32) (ix2 r n)) = ∑ i : Fin 4096, term m c (head t.val) r n i := by
  refine (scr m c r n t.val t.isLt).trans ?_
  rw [h2]
  exact blkSums_all 1024 4 rfl _

/-- What a run's last point writes back is its block of the reference's result. -/
theorem flushed_eq (c : Dev nD) (t : Fin cfg0.N) (hf : (cfg0.win 2).flush t = true) :
    (dats m 0 c).flushed 2 t = ((cfg0.win 2).blk t).view.read (Elt Ideal) (G m c) := by
  have h2 : t.val % 4 = 3 := (flush0_2 t).mp hf
  rw [out_last m c t h2]
  funext y
  obtain ⟨r, n, rfl⟩ := eq_blk y
  rw [emb]
  exact (pay4_apply _ r n).trans ((scr_last m c t h2 r n).trans (G_apply m c (head t.val) r n).symm)

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 2 (G m c) (fun t hf => flushed_eq m c t hf)
      (fun i => (Value.covered_iff2 i).2 (by
        have h0 : (i 0).val < 8 := (i 0).isLt; have h1 : (i 1).val < 512 := (i 1).isLt; have h2 : (i 2).val < 192 := (i 2).isLt; omega))), (h c).2⟩)
    (Value.run_blocks m ρ)

end Cert.DwUq

end
-- ==== Proof.DwUqClaims.lean ====
/-
  The claims on the latent attention's backward call for `w_uq`.
-/
module

public import proofs.«01_k».proof.Proof.DwUq

@[expose] public section

noncomputable section

namespace Cert.DwUq

open Idealize.ShloMosaic Idealize.ShloMosaic.TcCoe Idealize.SL.Sem

/-- The reference ends with every semaphore at zero, its arguments unchanged. -/
theorem frame_ref : Cert.quiescent_Reference17Ideal := fun m ρ _ =>
  (θ_run Cert.Reference17Ideal.defs _ _).mono (fun r h =>
      ⟨fun c => (h c).2, Idealize.ShloMosaic.sem_eq_zero_of_no_sems (by decide) r.2⟩)
    (Cert.Reference17Ideal.Value.run (F := Ideal) m ρ)

/-- The call computes the reference's result on all extended reals. -/
theorem algebraic : Cert.algebraic_Kernel17Ideal_Reference17Ideal := fun m ρ m' ρ' _ hag =>
  ⟨G m, run m ρ, (θ_run _ _ _).mono (fun _ h c => by
    obtain ⟨e0, e1, e2⟩ := hag c
    refine ⟨?_, (h c).2⟩
    rw [(h c).1, Cert.Reference17Ideal.Read.val_main_v9_eq, e0, e2]) (Cert.Reference17Ideal.Value.run (F := Ideal) m' ρ')⟩

end Cert.DwUq

end
-- ==== Proof.UpKv.lean ====
/-
  The latent attention's forward call to its keys and values, over the reals: the array that the call returns is
  `c_kv · w_ukv`, head by head.
-/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Reals
public import proofs.«01_k».proof.Proof.Sums

@[expose] public section

set_option maxRecDepth 16384

noncomputable section

namespace Cert.UpKv

open Idealize.ShloMosaic Idealize.ShloMosaic.TcCoe Idealize.SL.Sem Cert.Reals Cert.Sums
open Idealize.ShloMosaic.ValueIdx
open Cert.Kernel18Ideal Cert.Kernel18Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The product in the body -/

abbrev D : DotDims S1024x512 S512x256 S1024x256 := dot_S1024x512_S512x256_S1024x256_1_0_0_1_n_n

/-- The block product, entry by entry. -/
def part (P0 : FVec Ideal S1024x512 .bf16) (P1 : FVec Ideal S1x1x512x256 .bf16) (r : Fin 1024) (f : Fin 256) : EReal :=
  ∑ k : Fin 512, P0 (ix2 r k) * P1 (ix4 0 0 k f)

theorem pay1_apply (P0 : FVec Ideal S1024x512 .bf16) (P1 : FVec Ideal S1x1x512x256 .bf16) (r : Fin 1024) (f : Fin 256) :
    (show EReal from k0_pay1 (F := Ideal) P0 P1 (ix3 0 r f)) = part P0 P1 r f := by
  have hp : ∀ k : Fin 512, shapeCast S1024x512 P0 shapeCasts_S1024x512_S1024x512 (ix2 r k) = P0 (ix2 r k) := fun k =>
    shapeCast_apply P0 shapeCasts_S1024x512_S1024x512 (ix2 r k) (ix2 r k) rfl
  have hs : ∀ k : Fin 512, shapeCast S512x256 P1 shapeCasts_S1x1x512x256_S512x256 (ix2 k f) = P1 (ix4 0 0 k f) := fun k =>
    shapeCast_apply P1 shapeCasts_S1x1x512x256_S512x256 (ix2 k f) (ix4 0 0 k f)
      (by rw [Shape.rowMajor_val_two, Shape.rowMajor_val_four]; simp [ix2, ix4])
  unfold k0_pay1
  refine (shapeCast_apply _ shapeCasts_S1024x256_S1x1024x256 (ix3 0 r f) (ix2 r f) (by rw [Shape.rowMajor_val_two, Shape.rowMajor_val_three]; simp [ix2, ix3])).trans ?_
  unfold part
  show Ideal.ofBits .f32 0x00000000#32 + ∑ k : D.contr.Idx, (shapeCast S1024x512 P0 shapeCasts_S1024x512_S1024x512) (D.lhsIdx (ix2 r f) k) * shapeCast S512x256 P1 shapeCasts_S1x1x512x256_S512x256 (D.rhsIdx (ix2 r f) k) = _
  rw [ofBits_zero, EReal.coe_zero, zero_add]
  rw [← Equiv.sum_comp (contrEquiv1 D 512 rfl rfl).symm]
  refine Finset.sum_congr rfl fun k _ => ?_
  have hk := contrEquiv1_symm_val D 512 rfl rfl k
  have el : D.lhsIdx (ix2 r f) ((contrEquiv1 D 512 rfl rfl).symm k) = ix2 r k := funext fun a => Fin.ext (by
    match a with
    | ⟨0, _⟩ => rfl
    | ⟨1, _⟩ => exact (D.lhsIdx_val_of_single rfl _ _).trans hk)
  have er : D.rhsIdx (ix2 r f) ((contrEquiv1 D 512 rfl rfl).symm k) = ix2 k f := funext fun a => Fin.ext (by
    match a with
    | ⟨0, _⟩ => exact (D.rhsIdx_val_of_single rfl _ _).trans hk
    | ⟨1, _⟩ => rfl)
  rw [el, er, hp, hs]

/-! ## The arrays that the call gets -/

variable (m : (ℓ : Loc nD τ sig) → Buf (Elt Ideal) ℓ)

/-- The compressed values and the weights. -/
abbrev LA (c : Dev nD) : FVec Ideal S4096x512 .f32 := m ((c : Thread nD τ).loc main_arg0)
abbrev RA (c : Dev nD) : FVec Ideal S512x2048 .f32 := m ((c : Thread nD τ).loc main_arg1)

theorem V_l (c : Dev nD) : (V m c main_v0 : FVec Ideal S4096x512 .bf16) = truncf (F := Ideal) .bf16 (LA m c) bitsLt_bf16_f32 := by
  simp only [V, hostOps0]
  after_results_simp <;> rfl

theorem V_l_apply (c : Dev nD) (i : S4096x512.Idx) : (V m c main_v0 : FVec Ideal S4096x512 .bf16) i = LA m c i := by
  rw [V_l]
  rfl

/-- Column `f` of head `j`, as a column of the whole. -/
def hd (j : Fin 8) (f : Fin 256) : Fin 2048 := ⟨j.val * 256 + f.val, by omega⟩

/-- The weights, cut into the heads' slices. -/
theorem V_r (c : Dev nD) : (V m c main_v4 : FVec Ideal S8x1x512x256 .bf16)
    = truncf (F := Ideal) .bf16 (shapeCast S8x1x512x256 (transpose S8x512x256 [1, 0, 2] (shapeCast S512x8x256 (RA m c) shapeCasts_S512x2048_S512x8x256)
        transposes_S512x8x256_S8x512x256_1_0_2) shapeCasts_S8x512x256_S8x1x512x256) bitsLt_bf16_f32 := by
  simp only [V, hostOps0]
  after_results_simp <;> rfl

theorem V_r_apply (c : Dev nD) (j : Fin 8) (k : Fin 512) (f : Fin 256) :
    (V m c main_v4 : FVec Ideal S8x1x512x256 .bf16) (ix4 j 0 k f) = RA m c (ix2 k (hd j f)) := by
  rw [V_r]
  show shapeCast S8x1x512x256 (transpose S8x512x256 [1, 0, 2] (shapeCast S512x8x256 (RA m c) shapeCasts_S512x2048_S512x8x256)
        transposes_S512x8x256_S8x512x256_1_0_2) shapeCasts_S8x512x256_S8x1x512x256 (ix4 j 0 k f) = _
  refine (shapeCast_apply _ shapeCasts_S8x512x256_S8x1x512x256 (ix4 j 0 k f) (ix3 j k f) ?_).trans ?_
  · rw [Shape.rowMajor_val_three, Shape.rowMajor_val_four]
    show (j.val * 512 + k.val) * 256 + f.val = ((j.val * 1 + 0) * 512 + k.val) * 256 + f.val
    omega
  refine (transpose_apply [1, 0, 2] _ transposes_S512x8x256_S8x512x256_1_0_2 (ix3 j k f) (ix3 k j f) (fun b => match b with
    | ⟨0, _⟩ => rfl
    | ⟨1, _⟩ => rfl
    | ⟨2, _⟩ => rfl)).trans ?_
  refine shapeCast_apply _ shapeCasts_S512x2048_S512x8x256 (ix3 k j f) (ix2 k (hd j f)) ?_
  rw [Shape.rowMajor_val_two, Shape.rowMajor_val_three]
  show k.val * 2048 + (j.val * 256 + f.val) = (k.val * 8 + j.val) * 256 + f.val
  omega

/-! ## Where a point's blocks lie -/

theorem idx_facts : ∀ t : Fin cfg0.N, win0_0.index t (0 : Fin 2) = t.val % 4 ∧ win0_0.index t (1 : Fin 2) = 0
    ∧ win0_1.index t (0 : Fin 4) = t.val / 4 ∧ win0_1.index t (1 : Fin 4) = 0 ∧ win0_1.index t (2 : Fin 4) = 0 ∧ win0_1.index t (3 : Fin 4) = 0
    ∧ win0_2.index t (0 : Fin 3) = t.val / 4 ∧ win0_2.index t (1 : Fin 3) = t.val % 4 ∧ win0_2.index t (2 : Fin 3) = 0 :=
  (by decide +kernel : ∀ t : Fin grid0.N, _)

theorem lt_N (t : Fin cfg0.N) : t.val < 32 := lt_of_lt_of_eq t.isLt N_0

/-- The head that point `t` works on. -/
def head (t : ℕ) : Fin 8 := ⟨t / 4 % 8, by omega⟩

/-- Row `r` of point `t`'s block, as a row of the array. -/
def row (t : ℕ) (r : Fin 1024) : Fin 4096 := ⟨t % 4 * 1024 + r.val, by omega⟩

theorem blk0 (c : Dev nD) (t : Fin cfg0.N) (r : Fin 1024) (k : Fin 512) :
    (iblk m c 0 t : FVec Ideal S1024x512 .bf16) (ix2 r k) = LA m c (ix2 (row t.val r) k) := by
  rw [← V_l_apply m c]
  have h := idx_facts t
  have hN := lt_N t
  refine congrArg (V m c main_v0 : FVec Ideal S4096x512 .bf16) (funext fun a => Fin.ext ?_)
  match a with
  | ⟨0, _⟩ => show win0_0.index t 0 * 1024 + 1 * r.val = t.val % 4 * 1024 + r.val; omega
  | ⟨1, _⟩ => show win0_0.index t 1 * 512 + 1 * k.val = k.val; omega

theorem blk1 (c : Dev nD) (t : Fin cfg0.N) (k : Fin 512) (f : Fin 256) :
    (iblk m c 1 t : FVec Ideal S1x1x512x256 .bf16) (ix4 0 0 k f) = RA m c (ix2 k (hd (head t.val) f)) := by
  rw [← V_r_apply m c]
  have h := idx_facts t
  have hN := lt_N t
  refine congrArg (V m c main_v4 : FVec Ideal S8x1x512x256 .bf16) (funext fun a => Fin.ext ?_)
  match a with
  | ⟨0, _⟩ => show win0_1.index t 0 * 1 + 1 * 0 = t.val / 4 % 8; omega
  | ⟨1, _⟩ => show win0_1.index t 1 * 1 + 1 * 0 = 0; omega
  | ⟨2, _⟩ => show win0_1.index t 2 * 512 + 1 * k.val = k.val; omega
  | ⟨3, _⟩ => show win0_1.index t 3 * 256 + 1 * f.val = f.val; omega

/-! ## The reference -/

/-- The result, as the reference computes it. -/
abbrev G (c : Dev nD) : FVec Ideal S8x4096x256 .bf16 := Cert.Reference18Ideal.Read.val_main_v3 (F := Ideal)
  (m ((c : Thread nD τ).loc main_arg0)) (m ((c : Thread nD τ).loc main_arg1))

/-- Entry `(r, f)` of head `j` of the product. -/
def prod (c : Dev nD) (j : Fin 8) (r : Fin 4096) (f : Fin 256) : EReal := ∑ k : Fin 512, LA m c (ix2 r k) * RA m c (ix2 k (hd j f))

theorem G_apply (c : Dev nD) (j : Fin 8) (r : Fin 4096) (f : Fin 256) :
    (show EReal from G m c (ix3 j r f)) = prod m c j r f := by
  unfold G prod
  rw [Cert.Reference18Ideal.Read.val_main_v3_apply]
  show (show EReal from Cert.Reference18Ideal.Read.val_main_v2 (F := Ideal) (LA m c) (RA m c) (ix3 j r f)) = _
  rw [Cert.Reference18Ideal.Read.val_main_v2_apply, Cert.Reference18Ideal.Read.val_main_v1_apply]
  rw [Cert.Reference18Ideal.Read.val_main_v0_apply]
  refine Finset.sum_congr rfl fun k _ => ?_
  congr 1
  · refine congrArg (LA m c) (funext fun a => Fin.ext ?_)
    match a with
    | ⟨0, _⟩ => show ((r.val * 8 + j.val) * 256 + f.val) / 2048 = r.val; omega
    | ⟨1, _⟩ => rfl
  · refine congrArg (RA m c) (funext fun a => Fin.ext ?_)
    match a with
    | ⟨0, _⟩ => rfl
    | ⟨1, _⟩ => show ((r.val * 8 + j.val) * 256 + f.val) % 2048 = j.val * 256 + f.val; omega

/-! ## The whole array -/

theorem eq_blk (y : S1x1024x256.Idx) : ∃ (r : Fin 1024) (f : Fin 256), y = ix3 0 r f :=
  ⟨y 1, y 2, funext fun a => match a with
    | ⟨0, _⟩ => Fin.ext (Nat.lt_one_iff.mp (y 0).isLt)
    | ⟨1, _⟩ => rfl
    | ⟨2, _⟩ => rfl⟩

theorem emb (t : Fin cfg0.N) (r : Fin 1024) (f : Fin 256) (G : FVec Ideal S8x4096x256 .bf16) :
    ((cfg0.win 2).blk t).view.read (Elt Ideal) G (ix3 0 r f) = G (ix3 (head t.val) (row t.val r) f) := by
  have h := idx_facts t
  have hN := lt_N t
  refine congrArg G (funext fun a => Fin.ext ?_)
  match a with
  | ⟨0, _⟩ => show win0_2.index t 0 * 1 + 1 * 0 = t.val / 4 % 8; omega
  | ⟨1, _⟩ => show win0_2.index t 1 * 1024 + 1 * r.val = t.val % 4 * 1024 + r.val; omega
  | ⟨2, _⟩ => show win0_2.index t 2 * 256 + 1 * f.val = f.val; omega

/-- What a point writes back is its block of the reference's result. -/
theorem flushed_eq (c : Dev nD) (t : Fin cfg0.N) :
    (dats m 0 c).flushed 2 t = ((cfg0.win 2).blk t).view.read (Elt Ideal) (G m c) := by
  rw [Value.flushed2]
  unfold out0_2
  rw [View.ld_unit_zero hz2, View.ld_unit_zero hz4, View.canon_unit_zero hz3]
  funext y
  obtain ⟨r, f, rfl⟩ := eq_blk y
  refine (pay1_apply (iblk m c 0 t) (iblk m c 1 t) r f).trans ?_
  rw [emb]
  refine Eq.trans ?_ (G_apply m c (head t.val) (row t.val r) f).symm
  unfold part prod
  exact Finset.sum_congr rfl fun k _ => by rw [blk0, blk1]

theorem cover (i : S8x4096x256.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 256 := (i 2).isLt
  obtain ⟨t, ht⟩ : ∃ t : Fin cfg0.N, t.val = (i 0).val * 4 + (i 1).val / 1024 :=
    ⟨⟨(i 0).val * 4 + (i 1).val / 1024, lt_of_lt_of_eq (by omega : _ < 32) N_0.symm⟩, rfl⟩
  have h := idx_facts t
  refine ⟨t, flush0_2 t, ?_⟩
  show i ∈ ((View.whole main_v5).slice (win0_2.rect t)).set
  rw [View.set_slice_whole, Rect.mem_set_unit]
  intro a
  match a with
  | ⟨0, _⟩ => show win0_2.index t 0 * 1 ≤ (i 0).val ∧ (i 0).val < win0_2.index t 0 * 1 + 1; omega
  | ⟨1, _⟩ => show win0_2.index t 1 * 1024 ≤ (i 1).val ∧ (i 1).val < win0_2.index t 1 * 1024 + 1024; omega
  | ⟨2, _⟩ => show win0_2.index t 2 * 256 ≤ (i 2).val ∧ (i 2).val < win0_2.index t 2 * 256 + 256; omega

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (G m c) (fun t _ => flushed_eq m c t) cover), (h c).2⟩)
    (Value.run_blocks m ρ)

end Cert.UpKv

end
-- ==== Proof.UpKvClaims.lean ====
/-
  The claims on the latent attention's forward call to its keys and values.
-/
module

public import proofs.«01_k».proof.Proof.UpKv

@[expose] public section

noncomputable section

namespace Cert.UpKv

open Idealize.ShloMosaic Idealize.ShloMosaic.TcCoe Idealize.SL.Sem

/-- The reference ends with every semaphore at zero, its arguments unchanged. -/
theorem frame_ref : Cert.quiescent_Reference18Ideal := fun m ρ _ =>
  (θ_run Cert.Reference18Ideal.defs _ _).mono (fun r h =>
      ⟨fun c => (h c).2, Idealize.ShloMosaic.sem_eq_zero_of_no_sems (by decide) r.2⟩)
    (Cert.Reference18Ideal.Value.run (F := Ideal) m ρ)

/-- The call computes the reference's result on all extended reals. -/
theorem algebraic : Cert.algebraic_Kernel18Ideal_Reference18Ideal := fun m ρ m' ρ' _ hag =>
  ⟨G m, run m ρ, (θ_run _ _ _).mono (fun _ h c => by
    obtain ⟨e0, e1⟩ := hag c
    refine ⟨?_, (h c).2⟩
    rw [(h c).1, Cert.Reference18Ideal.Read.val_main_v3_eq, e0, e1]) (Cert.Reference18Ideal.Value.run (F := Ideal) m' ρ')⟩

end Cert.UpKv

end
-- ==== Proof.UpQ.lean ====
/-
  The latent attention's forward call to its queries, over the reals: the array that the call returns is
  `c_q · w_uq`, head by head.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Reals
public import proofs.«01_k».proof.Proof.Sums

@[expose] public section

set_option maxRecDepth 16384

noncomputable section

namespace Cert.UpQ

open Idealize.ShloMosaic Idealize.ShloMosaic.TcCoe Idealize.SL.Sem Cert.Reals Cert.Sums
open Idealize.ShloMosaic.ValueIdx
open Cert.Kernel15Ideal Cert.Kernel15Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The product in the body -/

abbrev D : DotDims S1024x512 S512x192 S1024x192 := dot_S1024x512_S512x192_S1024x192_1_0_0_1_n_n

/-- The block product, entry by entry. -/
def part (P0 : FVec Ideal S1024x512 .bf16) (P1 : FVec Ideal S1x1x512x192 .bf16) (r : Fin 1024) (f : Fin 192) : EReal :=
  ∑ k : Fin 512, P0 (ix2 r k) * P1 (ix4 0 0 k f)

theorem pay1_apply (P0 : FVec Ideal S1024x512 .bf16) (P1 : FVec Ideal S1x1x512x192 .bf16) (r : Fin 1024) (f : Fin 192) :
    (show EReal from k0_pay1 (F := Ideal) P0 P1 (ix3 0 r f)) = part P0 P1 r f := by
  have hp : ∀ k : Fin 512, shapeCast S1024x512 P0 shapeCasts_S1024x512_S1024x512 (ix2 r k) = P0 (ix2 r k) := fun k =>
    shapeCast_apply P0 shapeCasts_S1024x512_S1024x512 (ix2 r k) (ix2 r k) rfl
  have hs : ∀ k : Fin 512, shapeCast S512x192 P1 shapeCasts_S1x1x512x192_S512x192 (ix2 k f) = P1 (ix4 0 0 k f) := fun k =>
    shapeCast_apply P1 shapeCasts_S1x1x512x192_S512x192 (ix2 k f) (ix4 0 0 k f)
      (by rw [Shape.rowMajor_val_two, Shape.rowMajor_val_four]; simp [ix2, ix4])
  unfold k0_pay1
  refine (shapeCast_apply _ shapeCasts_S1024x192_S1x1024x192 (ix3 0 r f) (ix2 r f) (by rw [Shape.rowMajor_val_two, Shape.rowMajor_val_three]; simp [ix2, ix3])).trans ?_
  unfold part
  show Ideal.ofBits .f32 0x00000000#32 + ∑ k : D.contr.Idx, (shapeCast S1024x512 P0 shapeCasts_S1024x512_S1024x512) (D.lhsIdx (ix2 r f) k) * shapeCast S512x192 P1 shapeCasts_S1x1x512x192_S512x192 (D.rhsIdx (ix2 r f) k) = _
  rw [ofBits_zero, EReal.coe_zero, zero_add]
  rw [← Equiv.sum_comp (contrEquiv1 D 512 rfl rfl).symm]
  refine Finset.sum_congr rfl fun k _ => ?_
  have hk := contrEquiv1_symm_val D 512 rfl rfl k
  have el : D.lhsIdx (ix2 r f) ((contrEquiv1 D 512 rfl rfl).symm k) = ix2 r k := funext fun a => Fin.ext (by
    match a with
    | ⟨0, _⟩ => rfl
    | ⟨1, _⟩ => exact (D.lhsIdx_val_of_single rfl _ _).trans hk)
  have er : D.rhsIdx (ix2 r f) ((contrEquiv1 D 512 rfl rfl).symm k) = ix2 k f := funext fun a => Fin.ext (by
    match a with
    | ⟨0, _⟩ => exact (D.rhsIdx_val_of_single rfl _ _).trans hk
    | ⟨1, _⟩ => rfl)
  rw [el, er, hp, hs]

/-! ## The arrays that the call gets -/

variable (m : (ℓ : Loc nD τ sig) → Buf (Elt Ideal) ℓ)

/-- The compressed values and the weights. -/
abbrev LA (c : Dev nD) : FVec Ideal S4096x512 .f32 := m ((c : Thread nD τ).loc main_arg0)
abbrev RA (c : Dev nD) : FVec Ideal S512x1536 .f32 := m ((c : Thread nD τ).loc main_arg1)

theorem V_l (c : Dev nD) : (V m c main_v0 : FVec Ideal S4096x512 .bf16) = truncf (F := Ideal) .bf16 (LA m c) bitsLt_bf16_f32 := by
  simp only [V, hostOps0]
  after_results_simp <;> rfl

theorem V_l_apply (c : Dev nD) (i : S4096x512.Idx) : (V m c main_v0 : FVec Ideal S4096x512 .bf16) i = LA m c i := by
  rw [V_l]
  rfl

/-- Column `f` of head `j`, as a column of the whole. -/
def hd (j : Fin 8) (f : Fin 192) : Fin 1536 := ⟨j.val * 192 + f.val, by omega⟩

/-- The weights, cut into the heads' slices. -/
theorem V_r (c : Dev nD) : (V m c main_v4 : FVec Ideal S8x1x512x192 .bf16)
    = truncf (F := Ideal) .bf16 (shapeCast S8x1x512x192 (transpose S8x512x192 [1, 0, 2] (shapeCast S512x8x192 (RA m c) shapeCasts_S512x1536_S512x8x192)
        transposes_S512x8x192_S8x512x192_1_0_2) shapeCasts_S8x512x192_S8x1x512x192) bitsLt_bf16_f32 := by
  simp only [V, hostOps0]
  after_results_simp <;> rfl

theorem V_r_apply (c : Dev nD) (j : Fin 8) (k : Fin 512) (f : Fin 192) :
    (V m c main_v4 : FVec Ideal S8x1x512x192 .bf16) (ix4 j 0 k f) = RA m c (ix2 k (hd j f)) := by
  rw [V_r]
  show shapeCast S8x1x512x192 (transpose S8x512x192 [1, 0, 2] (shapeCast S512x8x192 (RA m c) shapeCasts_S512x1536_S512x8x192)
        transposes_S512x8x192_S8x512x192_1_0_2) shapeCasts_S8x512x192_S8x1x512x192 (ix4 j 0 k f) = _
  refine (shapeCast_apply _ shapeCasts_S8x512x192_S8x1x512x192 (ix4 j 0 k f) (ix3 j k f) ?_).trans ?_
  · rw [Shape.rowMajor_val_three, Shape.rowMajor_val_four]
    show (j.val * 512 + k.val) * 192 + f.val = ((j.val * 1 + 0) * 512 + k.val) * 192 + f.val
    omega
  refine (transpose_apply [1, 0, 2] _ transposes_S512x8x192_S8x512x192_1_0_2 (ix3 j k f) (ix3 k j f) (fun b => match b with
    | ⟨0, _⟩ => rfl
    | ⟨1, _⟩ => rfl
    | ⟨2, _⟩ => rfl)).trans ?_
  refine shapeCast_apply _ shapeCasts_S512x1536_S512x8x192 (ix3 k j f) (ix2 k (hd j f)) ?_
  rw [Shape.rowMajor_val_two, Shape.rowMajor_val_three]
  show k.val * 1536 + (j.val * 192 + f.val) = (k.val * 8 + j.val) * 192 + f.val
  omega

/-! ## Where a point's blocks lie -/

theorem idx_facts : ∀ t : Fin cfg0.N, win0_0.index t (0 : Fin 2) = t.val % 4 ∧ win0_0.index t (1 : Fin 2) = 0
    ∧ win0_1.index t (0 : Fin 4) = t.val / 4 ∧ win0_1.index t (1 : Fin 4) = 0 ∧ win0_1.index t (2 : Fin 4) = 0 ∧ win0_1.index t (3 : Fin 4) = 0
    ∧ win0_2.index t (0 : Fin 3) = t.val / 4 ∧ win0_2.index t (1 : Fin 3) = t.val % 4 ∧ win0_2.index t (2 : Fin 3) = 0 :=
  (by decide +kernel : ∀ t : Fin grid0.N, _)

theorem lt_N (t : Fin cfg0.N) : t.val < 32 := lt_of_lt_of_eq t.isLt N_0

/-- The head that point `t` works on. -/
def head (t : ℕ) : Fin 8 := ⟨t / 4 % 8, by omega⟩

/-- Row `r` of point `t`'s block, as a row of the array. -/
def row (t : ℕ) (r : Fin 1024) : Fin 4096 := ⟨t % 4 * 1024 + r.val, by omega⟩

theorem blk0 (c : Dev nD) (t : Fin cfg0.N) (r : Fin 1024) (k : Fin 512) :
    (iblk m c 0 t : FVec Ideal S1024x512 .bf16) (ix2 r k) = LA m c (ix2 (row t.val r) k) := by
  rw [← V_l_apply m c]
  have h := idx_facts t
  have hN := lt_N t
  refine congrArg (V m c main_v0 : FVec Ideal S4096x512 .bf16) (funext fun a => Fin.ext ?_)
  match a with
  | ⟨0, _⟩ => show win0_0.index t 0 * 1024 + 1 * r.val = t.val % 4 * 1024 + r.val; omega
  | ⟨1, _⟩ => show win0_0.index t 1 * 512 + 1 * k.val = k.val; omega

theorem blk1 (c : Dev nD) (t : Fin cfg0.N) (k : Fin 512) (f : Fin 192) :
    (iblk m c 1 t : FVec Ideal S1x1x512x192 .bf16) (ix4 0 0 k f) = RA m c (ix2 k (hd (head t.val) f)) := by
  rw [← V_r_apply m c]
  have h := idx_facts t
  have hN := lt_N t
  refine congrArg (V m c main_v4 : FVec Ideal S8x1x512x192 .bf16) (funext fun a => Fin.ext ?_)
  match a with
  | ⟨0, _⟩ => show win0_1.index t 0 * 1 + 1 * 0 = t.val / 4 % 8; omega
  | ⟨1, _⟩ => show win0_1.index t 1 * 1 + 1 * 0 = 0; omega
  | ⟨2, _⟩ => show win0_1.index t 2 * 512 + 1 * k.val = k.val; omega
  | ⟨3, _⟩ => show win0_1.index t 3 * 192 + 1 * f.val = f.val; omega

/-! ## The reference -/

/-- The result, as the reference computes it. -/
abbrev G (c : Dev nD) : FVec Ideal S8x4096x192 .f32 := Cert.Reference15Ideal.Read.val_main_v2 (F := Ideal)
  (m ((c : Thread nD τ).loc main_arg0)) (m ((c : Thread nD τ).loc main_arg1))

/-- Entry `(r, f)` of head `j` of the product. -/
def prod (c : Dev nD) (j : Fin 8) (r : Fin 4096) (f : Fin 192) : EReal := ∑ k : Fin 512, LA m c (ix2 r k) * RA m c (ix2 k (hd j f))

theorem G_apply (c : Dev nD) (j : Fin 8) (r : Fin 4096) (f : Fin 192) :
    (show EReal from G m c (ix3 j r f)) = prod m c j r f := by
  unfold G prod

  show (show EReal from Cert.Reference15Ideal.Read.val_main_v2 (F := Ideal) (LA m c) (RA m c) (ix3 j r f)) = _
  rw [Cert.Reference15Ideal.Read.val_main_v2_apply, Cert.Reference15Ideal.Read.val_main_v1_apply]
  rw [Cert.Reference15Ideal.Read.val_main_v0_apply]
  refine Finset.sum_congr rfl fun k _ => ?_
  congr 1
  · refine congrArg (LA m c) (funext fun a => Fin.ext ?_)
    match a with
    | ⟨0, _⟩ => show ((r.val * 8 + j.val) * 192 + f.val) / 1536 = r.val; omega
    | ⟨1, _⟩ => rfl
  · refine congrArg (RA m c) (funext fun a => Fin.ext ?_)
    match a with
    | ⟨0, _⟩ => rfl
    | ⟨1, _⟩ => show ((r.val * 8 + j.val) * 192 + f.val) % 1536 = j.val * 192 + f.val; omega

/-! ## The whole array -/

theorem eq_blk (y : S1x1024x192.Idx) : ∃ (r : Fin 1024) (f : Fin 192), y = ix3 0 r f :=
  ⟨y 1, y 2, funext fun a => match a with
    | ⟨0, _⟩ => Fin.ext (Nat.lt_one_iff.mp (y 0).isLt)
    | ⟨1, _⟩ => rfl
    | ⟨2, _⟩ => rfl⟩

theorem emb (t : Fin cfg0.N) (r : Fin 1024) (f : Fin 192) (G : FVec Ideal S8x4096x192 .f32) :
    ((cfg0.win 2).blk t).view.read (Elt Ideal) G (ix3 0 r f) = G (ix3 (head t.val) (row t.val r) f) := by
  have h := idx_facts t
  have hN := lt_N t
  refine congrArg G (funext fun a => Fin.ext ?_)
  match a with
  | ⟨0, _⟩ => show win0_2.index t 0 * 1 + 1 * 0 = t.val / 4 % 8; omega
  | ⟨1, _⟩ => show win0_2.index t 1 * 1024 + 1 * r.val = t.val % 4 * 1024 + r.val; omega
  | ⟨2, _⟩ => show win0_2.index t 2 * 192 + 1 * f.val = f.val; omega

/-- What a point writes back is its block of the reference's result. -/
theorem flushed_eq (c : Dev nD) (t : Fin cfg0.N) :
    (dats m 0 c).flushed 2 t = ((cfg0.win 2).blk t).view.read (Elt Ideal) (G m c) := by
  rw [Value.flushed2]
  unfold out0_2
  rw [View.ld_unit_zero hz2, View.ld_unit_zero hz4, View.canon_unit_zero hz3]
  funext y
  obtain ⟨r, f, rfl⟩ := eq_blk y
  refine (pay1_apply (iblk m c 0 t) (iblk m c 1 t) r f).trans ?_
  rw [emb]
  refine Eq.trans ?_ (G_apply m c (head t.val) (row t.val r) f).symm
  unfold part prod
  exact Finset.sum_congr rfl fun k _ => by rw [blk0, blk1]

theorem cover (i : S8x4096x192.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 192 := (i 2).isLt
  obtain ⟨t, ht⟩ : ∃ t : Fin cfg0.N, t.val = (i 0).val * 4 + (i 1).val / 1024 :=
    ⟨⟨(i 0).val * 4 + (i 1).val / 1024, lt_of_lt_of_eq (by omega : _ < 32) N_0.symm⟩, rfl⟩
  have h := idx_facts t
  refine ⟨t, flush0_2 t, ?_⟩
  show i ∈ ((View.whole main_v5).slice (win0_2.rect t)).set
  rw [View.set_slice_whole, Rect.mem_set_unit]
  intro a
  match a with
  | ⟨0, _⟩ => show win0_2.index t 0 * 1 ≤ (i 0).val ∧ (i 0).val < win0_2.index t 0 * 1 + 1; omega
  | ⟨1, _⟩ => show win0_2.index t 1 * 1024 ≤ (i 1).val ∧ (i 1).val < win0_2.index t 1 * 1024 + 1024; omega
  | ⟨2, _⟩ => show win0_2.index t 2 * 192 ≤ (i 2).val ∧ (i 2).val < win0_2.index t 2 * 192 + 192; omega

variable (ρ : Dev nD → PrngReg)

/-- THE CALL: its result is the reference's, and the arguments end unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (G m c) (fun t _ => flushed_eq m c t) cover), (h c).2⟩)
    (Value.run_blocks m ρ)

end Cert.UpQ

end
-- ==== Proof.UpQClaims.lean ====
/-
  The claims on the latent attention's forward call to its queries.
-/
module

public import proofs.«01_k».proof.Proof.UpQ

@[expose] public section

noncomputable section

namespace Cert.UpQ

open Idealize.ShloMosaic Idealize.ShloMosaic.TcCoe Idealize.SL.Sem

/-- The reference ends with every semaphore at zero, its arguments unchanged. -/
theorem frame_ref : Cert.quiescent_Reference15Ideal := fun m ρ _ =>
  (θ_run Cert.Reference15Ideal.defs _ _).mono (fun r h =>
      ⟨fun c => (h c).2, Idealize.ShloMosaic.sem_eq_zero_of_no_sems (by decide) r.2⟩)
    (Cert.Reference15Ideal.Value.run (F := Ideal) m ρ)

/-- The call computes the reference's result on all extended reals. -/
theorem algebraic : Cert.algebraic_Kernel15Ideal_Reference15Ideal := fun m ρ m' ρ' _ hag =>
  ⟨G m, run m ρ, (θ_run _ _ _).mono (fun _ h c => by
    obtain ⟨e0, e1⟩ := hag c
    refine ⟨?_, (h c).2⟩
    rw [(h c).1, Cert.Reference15Ideal.Read.val_main_v2_eq, e0, e1]) (Cert.Reference15Ideal.Value.run (F := Ideal) m' ρ')⟩

end Cert.UpQ

end
-- ==== Proof.Adam.lean ====
/-
  The update of AdamW on one entry, over the reals: the new mean and square mean of the gradient, and the step.
-/
module

public import Idealize.ShloMosaic.Lib.Pipeline.Value
public import proofs.«01_k».proof.Proof.Reals

@[expose] public section

noncomputable section

namespace Cert.Adam

open Idealize.ShloMosaic Idealize.ShloMosaic.ValueIdx

/-- The new mean, of the gradient `g` and the mean `a`. -/
def mN (g a : EReal) : EReal := Ideal.ofBits .f32 0x3F666666#32 * a + Ideal.ofBits .f32 0x3DCCCCCD#32 * g

/-- The new square mean, of the gradient `g` and the square mean `b`. -/
def vN (g b : EReal) : EReal := Ideal.ofBits .f32 0x3F7FBE77#32 * b + Ideal.ofBits .f32 0x3A83126F#32 * (g * g)

/-- The step, of the gradient `g`, the weight `w`, the mean `a` and the square mean `b`. -/
def dN (g w a b : EReal) : EReal := Ideal.ofBits .f32 0xBA83126F#32
  * (Ideal.div (Ideal.div (mN g a) (Ideal.ofBits .f32 0x3F26BD02#32))
      (Ideal.sqrt (Ideal.div (vN g b) (Ideal.ofBits .f32 0x3C231ACC#32)) + Ideal.ofBits .f32 0x322BCC77#32)
    + Ideal.ofBits .f32 0x3C23D70A#32 * w)

/-! ## Entries of arrays that are cut or laid out anew -/

variable {α : Type} {L M R C T : ℕ}

/-- A single device's part of a block, as a matrix. -/
theorem cast_one (x : (⟨3, ![1, R, C]⟩ : Shape).Idx → α) (h : (⟨3, ![1, R, C]⟩ : Shape).ShapeCasts ⟨2, ![R, C]⟩) (r : Fin R) (f : Fin C) :
    shapeCast ⟨2, ![R, C]⟩ x h (ix2 r f) = x (ix3 0 r f) :=
  shapeCast_apply x h (ix2 r f) (ix3 0 r f) (by
    rw [Shape.rowMajor_val_two, Shape.rowMajor_val_three]
    show (0 * R + r.val) * C + f.val = r.val * C + f.val
    rw [zero_mul, zero_add])

/-- A matrix laid out as itself. -/
theorem cast_same {s : Shape} (x : s.Idx → α) (h : s.ShapeCasts s) : shapeCast s x h = x := funext fun i => shapeCast_apply x h i i rfl

/-- A layer's parts, cut out of the array of all layers. -/
theorem layer_part (x : (⟨4, ![4, 8, R, C]⟩ : Shape).Idx → α) (l : Fin 4)
    (hs : (⟨4, ![4, 8, R, C]⟩ : Shape).Slices ![l.val, 0, 0, 0] ⟨4, ![1, 8, R, C]⟩)
    (hc : (⟨4, ![1, 8, R, C]⟩ : Shape).ShapeCasts ⟨3, ![8, R, C]⟩) (j : Fin 8) (a : Fin R) (f : Fin C) :
    shapeCast ⟨3, ![8, R, C]⟩ (extractStridedSlice ⟨4, ![1, 8, R, C]⟩ ![l.val, 0, 0, 0] x hs) hc (ix3 j a f) = x (ix4 l j a f) := by
  refine (shapeCast_apply _ hc (ix3 j a f) (ix4 0 j a f) ?_).trans ?_
  · rw [Shape.rowMajor_val_three, Shape.rowMajor_val_four]
    show ((0 * 8 + j.val) * R + a.val) * C + f.val = (j.val * R + a.val) * C + f.val
    rw [zero_mul, zero_add]
  refine congrArg x (funext fun b => Fin.ext ?_)
  match b with
  | ⟨0, _⟩ => rfl
  | ⟨1, _⟩ => show 0 + j.val = j.val; omega
  | ⟨2, _⟩ => show 0 + a.val = a.val; omega
  | ⟨3, _⟩ => show 0 + f.val = f.val; omega

/-- An entry of a matrix whose row lies in the block of rows `p`. -/
theorem at_row (x : (⟨2, ![M, C]⟩ : Shape).Idx → α) (i : (⟨2, ![M, C]⟩ : Shape).Idx) (k : Fin M) (r : Fin T) (f : Fin C) {b p q : ℕ}
    (e0 : (i 0).val = p * T + 1 * r.val) (e1 : (i 1).val = q * C + 1 * f.val) (hp : p = b) (hq : q = 0) (hk : k.val = b * T + r.val) :
    x i = x (ix2 k f) := by
  subst hp hq
  refine congrArg x (funext fun a => Fin.ext ?_)
  match a with
  | ⟨0, _⟩ => exact e0.trans ((by rw [one_mul] : _ = p * T + r.val).trans hk.symm)
  | ⟨1, _⟩ => exact e1.trans (by rw [zero_mul, zero_add, one_mul])

/-- An entry of a layer's parts whose row lies in the block of rows `p`. -/
theorem at_part (x : (⟨3, ![8, R, C]⟩ : Shape).Idx → α) (i : (⟨3, ![8, R, C]⟩ : Shape).Idx) (j : Fin 8) (k : Fin R) (r : Fin T) (f : Fin C)
    {b o p q : ℕ} (e0 : (i 0).val = o * 8 + 1 * j.val) (e1 : (i 1).val = p * T + 1 * r.val) (e2 : (i 2).val = q * C + 1 * f.val)
    (ho : o = 0) (hp : p = b) (hq : q = 0) (hk : k.val = b * T + r.val) : x i = x (ix3 j k f) := by
  subst ho hp hq
  refine congrArg x (funext fun a => Fin.ext ?_)
  match a with
  | ⟨0, _⟩ => exact e0.trans (by rw [zero_mul, zero_add, one_mul])
  | ⟨1, _⟩ => exact e1.trans ((by rw [one_mul] : _ = p * T + r.val).trans hk.symm)
  | ⟨2, _⟩ => exact e2.trans (by rw [zero_mul, zero_add, one_mul])

/-- Every index of a matrix is a pair. -/
theorem eq_blk (y : (⟨2, ![R, C]⟩ : Shape).Idx) : ∃ (r : Fin R) (f : Fin C), y = ix2 r f :=
  ⟨y 0, y 1, funext fun a => match a with
    | ⟨0, _⟩ => rfl
    | ⟨1, _⟩ => rfl⟩

end Cert.Adam

end
-- ==== Proof.AdFfn.lean ====
/-
  The optimiser's call on a weight of the feed-forward layer, over the reals: the arrays that the call returns are the
  sum of the devices' parts of the gradient, and the update, the mean and the square mean that AdamW forms from it.
-/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Reals
public import proofs.«01_k».proof.Proof.Adam

@[expose] public section

set_option maxRecDepth 16384

noncomputable section

namespace Cert.AdFfn

open Idealize.ShloMosaic Idealize.ShloMosaic.TcCoe Idealize.SL.Sem Cert.Reals Cert.Adam
open Idealize.ShloMosaic.ValueIdx
open Cert.Kernel21Ideal Cert.Kernel21Ideal.Gen Cert.Reference21Ideal.Read

/-- A block of the parts, a block of a result, a result, and one layer's parts. -/
abbrev PB := Vec Ideal S8x64x2048 .bf16
abbrev XB := FVec Ideal S64x2048 .f32
abbrev XO := FVec Ideal S2816x2048 .f32
abbrev PL := FVec Ideal S8x704x2048 .bf16

theorem hz2 : (![0, 0] : Fin 2 → Nat) = fun _ => 0 := funext fun a => by fin_cases a <;> rfl

/-! ## The body of one layer's case -/

/-- One device's part of the block. -/
def sl (P : PB) (j : Fin 8) : Vec Ideal S1x64x2048 .bf16 := fun y => P (ix3 j (y 1) (y 2))

/-- The sum of the eight parts of the block, as the body forms it. -/
def gs (P : PB) : XB :=
  k0_pay13 (F := Ideal) (sl P 0) (sl P 1) (sl P 2) (sl P 3) (sl P 4) (sl P 5) (sl P 6) (sl P 7)

theorem gs_apply (P : PB) (r : Fin 64) (f : Fin 2048) :
    (show EReal from gs P (ix2 r f)) = ∑ j : Fin 8, (show EReal from P (ix3 j r f)) := by
  have hs := fun j : Fin 8 => cast_one (sl P j) shapeCasts_S1x64x2048_S64x2048 r f
  refine Eq.trans ?_ (Fin.sum_univ_eight _).symm
  rw [← show _ = P (ix3 0 r f) from hs 0, ← show _ = P (ix3 1 r f) from hs 1, ← show _ = P (ix3 2 r f) from hs 2, ← show _ = P (ix3 3 r f) from hs 3,
    ← show _ = P (ix3 4 r f) from hs 4, ← show _ = P (ix3 5 r f) from hs 5, ← show _ = P (ix3 6 r f) from hs 6, ← show _ = P (ix3 7 r f) from hs 7]
  rfl

/-- The new mean, the new square mean and the update of a block. -/
def mB (P : PB) (x5 : XB) : XB :=
  k0_pay1 (F := Ideal) (gs P) (k0_pay14 x5) (FloatOps.ofBits .f32 0x3F666666#32)
def vB (P : PB) (x6 : XB) : XB := k0_pay2 (F := Ideal) (gs P) x6
def dB (P : PB) (x4 x5 x6 : XB) : XB :=
  k0_pay3 (F := Ideal) (gs P) (k0_pay14 x5) (FloatOps.ofBits .f32 0x3F666666#32) x6 x4

theorem m_apply (P : PB) (x5 : XB) (i : S64x2048.Idx) :
    (show EReal from mB P x5 i) = mN (gs P i) (x5 i) := by
  unfold mB k0_pay1 k0_pay14
  dsimp only
  rw [cast_same]
  rfl

theorem v_apply (P : PB) (x6 : XB) (i : S64x2048.Idx) :
    (show EReal from vB P x6 i) = vN (gs P i) (x6 i) := by
  unfold vB k0_pay2
  dsimp only
  rw [cast_same]
  rfl

theorem d_apply (P : PB) (x4 x5 x6 : XB) (i : S64x2048.Idx) :
    (show EReal from dB P x4 x5 x6 i) = dN (gs P i) (x4 i) (x5 i) (x6 i) := by
  unfold dB k0_pay3 dN
  dsimp only
  rw [cast_same, ← m_apply P x5 i, ← v_apply P x6 i]
  rfl

variable (m : (ℓ : Loc nD τ sig) → Buf (Elt Ideal) ℓ)

/-- A load of one device's part. -/
theorem rd (x : PB) (j : ℕ) (inb : ∀ a, (![j, 0, 0] : Fin 3 → Nat) a + S1x64x2048.size a ≤ S8x64x2048.size a) :
    View.ld x (Rect.unit (s := S8x64x2048) ![j, 0, 0] S1x64x2048.size inb) = sl x ⟨j, by have := inb 0; exact this⟩ := by
  funext y
  have h0 : (y 0).val < 1 := (y 0).isLt
  refine congrArg x (funext fun a => Fin.ext ?_)
  match a with
  | ⟨0, _⟩ => show j + 1 * (y 0).val = j; omega
  | ⟨1, _⟩ => show 0 + 1 * (y 1).val = (y 1).val; omega
  | ⟨2, _⟩ => show 0 + 1 * (y 2).val = (y 2).val; omega

/-- The sum of the eight loads. -/
theorem rd8 (M : Memref sig .tc .vmem S8x64x2048 .bf16) (h : M.IsWhole) (x : PB) :
    k0_pay13 (F := Ideal) (View.ld (M.view.read (Elt Ideal) (h.unread x)) (Rect.unit (s := S8x64x2048) ![0, 0, 0] S1x64x2048.size inb_S8x64x2048_S1x64x2048_0_0_0))
      (View.ld (M.view.read (Elt Ideal) (h.unread x)) (Rect.unit (s := S8x64x2048) ![1, 0, 0] S1x64x2048.size inb_S8x64x2048_S1x64x2048_1_0_0))
      (View.ld (M.view.read (Elt Ideal) (h.unread x)) (Rect.unit (s := S8x64x2048) ![2, 0, 0] S1x64x2048.size inb_S8x64x2048_S1x64x2048_2_0_0))
      (View.ld (M.view.read (Elt Ideal) (h.unread x)) (Rect.unit (s := S8x64x2048) ![3, 0, 0] S1x64x2048.size inb_S8x64x2048_S1x64x2048_3_0_0))
      (View.ld (M.view.read (Elt Ideal) (h.unread x)) (Rect.unit (s := S8x64x2048) ![4, 0, 0] S1x64x2048.size inb_S8x64x2048_S1x64x2048_4_0_0))
      (View.ld (M.view.read (Elt Ideal) (h.unread x)) (Rect.unit (s := S8x64x2048) ![5, 0, 0] S1x64x2048.size inb_S8x64x2048_S1x64x2048_5_0_0))
      (View.ld (M.view.read (Elt Ideal) (h.unread x)) (Rect.unit (s := S8x64x2048) ![6, 0, 0] S1x64x2048.size inb_S8x64x2048_S1x64x2048_6_0_0))
      (View.ld (M.view.read (Elt Ideal) (h.unread x)) (Rect.unit (s := S8x64x2048) ![7, 0, 0] S1x64x2048.size inb_S8x64x2048_S1x64x2048_7_0_0))
      = gs x := by
  rw [h.read_unread]
  unfold gs
  exact congr (congr (congr (congr (congr (congr (congr (congrArg _ (rd x 0 _)) (rd x 1 _)) (rd x 2 _)) (rd x 3 _)) (rd x 4 _)) (rd x 5 _)) (rd x 6 _)) (rd x 7 _)

/-- The four cases have the same body. -/
theorem pB : @k0_pay15 Ideal _ = k0_pay13 ∧ @k0_pay16 Ideal = k0_pay14 ∧ @k0_pay4 Ideal _ = k0_pay1 ∧ @k0_pay5 Ideal _ = k0_pay2
    ∧ @k0_pay6 Ideal _ = k0_pay3 := ⟨rfl, rfl, rfl, rfl, rfl⟩
theorem pC : @k0_pay17 Ideal _ = k0_pay13 ∧ @k0_pay18 Ideal = k0_pay14 ∧ @k0_pay7 Ideal _ = k0_pay1 ∧ @k0_pay8 Ideal _ = k0_pay2
    ∧ @k0_pay9 Ideal _ = k0_pay3 := ⟨rfl, rfl, rfl, rfl, rfl⟩
theorem pD : @k0_pay19 Ideal _ = k0_pay13 ∧ @k0_pay20 Ideal = k0_pay14 ∧ @k0_pay10 Ideal _ = k0_pay1 ∧ @k0_pay11 Ideal _ = k0_pay2
    ∧ @k0_pay12 Ideal _ = k0_pay3 := ⟨rfl, rfl, rfl, rfl, rfl⟩

/-- A load of a whole block. -/
theorem rdw (M : Memref sig .tc .vmem S64x2048 .f32) (h : M.IsWhole) (x : XB)
    (inb : ∀ a, (![0, 0] : Fin 2 → Nat) a + S64x2048.size a ≤ S64x2048.size a) :
    View.ld (M.view.read (Elt Ideal) (h.unread x)) (Rect.unit (s := S64x2048) ![0, 0] S64x2048.size inb) = x := by
  rw [h.read_unread]
  exact View.ld_unit_zero hz2 _ _

theorem lt_N (t : Fin cfg0.N) : t.val < 44 := lt_of_lt_of_eq t.isLt N_0

/-! ## What a point writes back, by the layer that it works on -/

theorem outA (c : Dev nD) (t : Fin cfg0.N) (h : t.val / 11 = 0) :
    (dats m 0 c).flushed 7 t = gs (iblk m c 0 t)
    ∧ (dats m 0 c).flushed 8 t = dB (iblk m c 0 t) (iblk m c 4 t) (iblk m c 5 t) (iblk m c 6 t)
    ∧ (dats m 0 c).flushed 9 t = mB (iblk m c 0 t) (iblk m c 5 t)
    ∧ (dats m 0 c).flushed 10 t = vB (iblk m c 0 t) (iblk m c 6 t) := by
  have hN := lt_N t
  refine ⟨?_, ?_, ?_, ?_⟩
  rw [Value.flushed7_A m c t (by omega) (by omega) (by omega) (by omega)]
  refine (View.read_writes_eq_canon _ _ _ (by intro y; apply cover0_A_7)).trans ?_
  rotate_left
  rw [Value.flushed8_A m c t (by omega) (by omega) (by omega) (by omega)]
  refine (View.read_writes_eq_canon _ _ _ (by intro y; apply cover0_A_8)).trans ?_
  rotate_left
  rw [Value.flushed9_A m c t (by omega) (by omega) (by omega) (by omega)]
  refine (View.read_writes_eq_canon _ _ _ (by intro y; apply cover0_A_9)).trans ?_
  rotate_left
  rw [Value.flushed10_A m c t (by omega) (by omega) (by omega) (by omega)]
  refine (View.read_writes_eq_canon _ _ _ (by intro y; apply cover0_A_10)).trans ?_
  rotate_left
  all_goals
    unfold kernelRun0_A
    dsimp only
    sl_unfold_words
    refine (View.canon_unit_zero (S := S64x2048) hz2 _ _).trans ?_
    simp only [View.readAt_eq_ld]
  · exact rd8 _ (hs0_0 t) _
  · unfold dB
    exact congr (congr (congrFun (congr (congrArg k0_pay3 (rd8 _ (hs0_0 t) _)) (congrArg k0_pay14 (rdw _ (hs0_5 t) _ _))) _) (rdw _ (hs0_6 t) _ _))
      (rdw _ (hs0_4 t) _ _)
  · unfold mB
    exact congrFun (congr (congrArg k0_pay1 (rd8 _ (hs0_0 t) _)) (congrArg k0_pay14 (rdw _ (hs0_5 t) _ _))) _
  · unfold vB
    exact congr (congrArg k0_pay2 (rd8 _ (hs0_0 t) _)) (rdw _ (hs0_6 t) _ _)

theorem outB (c : Dev nD) (t : Fin cfg0.N) (h : t.val / 11 = 1) :
    (dats m 0 c).flushed 7 t = gs (iblk m c 1 t)
    ∧ (dats m 0 c).flushed 8 t = dB (iblk m c 1 t) (iblk m c 4 t) (iblk m c 5 t) (iblk m c 6 t)
    ∧ (dats m 0 c).flushed 9 t = mB (iblk m c 1 t) (iblk m c 5 t)
    ∧ (dats m 0 c).flushed 10 t = vB (iblk m c 1 t) (iblk m c 6 t) := by
  have hN := lt_N t
  refine ⟨?_, ?_, ?_, ?_⟩
  rw [Value.flushed7_B m c t (by omega) (by omega) (by omega) (by omega)]
  refine (View.read_writes_eq_canon _ _ _ (by intro y; apply cover0_B_7)).trans ?_
  rotate_left
  rw [Value.flushed8_B m c t (by omega) (by omega) (by omega) (by omega)]
  refine (View.read_writes_eq_canon _ _ _ (by intro y; apply cover0_B_8)).trans ?_
  rotate_left
  rw [Value.flushed9_B m c t (by omega) (by omega) (by omega) (by omega)]
  refine (View.read_writes_eq_canon _ _ _ (by intro y; apply cover0_B_9)).trans ?_
  rotate_left
  rw [Value.flushed10_B m c t (by omega) (by omega) (by omega) (by omega)]
  refine (View.read_writes_eq_canon _ _ _ (by intro y; apply cover0_B_10)).trans ?_
  rotate_left
  all_goals
    unfold kernelRun0_B
    dsimp only
    sl_unfold_words
    refine (View.canon_unit_zero (S := S64x2048) hz2 _ _).trans ?_
    simp only [View.readAt_eq_ld, pB]
  · exact rd8 _ (hs0_1 t) _
  · unfold dB
    exact congr (congr (congrFun (congr (congrArg k0_pay3 (rd8 _ (hs0_1 t) _)) (congrArg k0_pay14 (rdw _ (hs0_5 t) _ _))) _) (rdw _ (hs0_6 t) _ _))
      (rdw _ (hs0_4 t) _ _)
  · unfold mB
    exact congrFun (congr (congrArg k0_pay1 (rd8 _ (hs0_1 t) _)) (congrArg k0_pay14 (rdw _ (hs0_5 t) _ _))) _
  · unfold vB
    exact congr (congrArg k0_pay2 (rd8 _ (hs0_1 t) _)) (rdw _ (hs0_6 t) _ _)

theorem outC (c : Dev nD) (t : Fin cfg0.N) (h : t.val / 11 = 2) :
    (dats m 0 c).flushed 7 t = gs (iblk m c 2 t)
    ∧ (dats m 0 c).flushed 8 t = dB (iblk m c 2 t) (iblk m c 4 t) (iblk m c 5 t) (iblk m c 6 t)
    ∧ (dats m 0 c).flushed 9 t = mB (iblk m c 2 t) (iblk m c 5 t)
    ∧ (dats m 0 c).flushed 10 t = vB (iblk m c 2 t) (iblk m c 6 t) := by
  have hN := lt_N t
  refine ⟨?_, ?_, ?_, ?_⟩
  rw [Value.flushed7_C m c t (by omega) (by omega) (by omega) (by omega)]
  refine (View.read_writes_eq_canon _ _ _ (by intro y; apply cover0_C_7)).trans ?_
  rotate_left
  rw [Value.flushed8_C m c t (by omega) (by omega) (by omega) (by omega)]
  refine (View.read_writes_eq_canon _ _ _ (by intro y; apply cover0_C_8)).trans ?_
  rotate_left
  rw [Value.flushed9_C m c t (by omega) (by omega) (by omega) (by omega)]
  refine (View.read_writes_eq_canon _ _ _ (by intro y; apply cover0_C_9)).trans ?_
  rotate_left
  rw [Value.flushed10_C m c t (by omega) (by omega) (by omega) (by omega)]
  refine (View.read_writes_eq_canon _ _ _ (by intro y; apply cover0_C_10)).trans ?_
  rotate_left
  all_goals
    unfold kernelRun0_C
    dsimp only
    sl_unfold_words
    refine (View.canon_unit_zero (S := S64x2048) hz2 _ _).trans ?_
    simp only [View.readAt_eq_ld, pC]
  · exact rd8 _ (hs0_2 t) _
  · unfold dB
    exact congr (congr (congrFun (congr (congrArg k0_pay3 (rd8 _ (hs0_2 t) _)) (congrArg k0_pay14 (rdw _ (hs0_5 t) _ _))) _) (rdw _ (hs0_6 t) _ _))
      (rdw _ (hs0_4 t) _ _)
  · unfold mB
    exact congrFun (congr (congrArg k0_pay1 (rd8 _ (hs0_2 t) _)) (congrArg k0_pay14 (rdw _ (hs0_5 t) _ _))) _
  · unfold vB
    exact congr (congrArg k0_pay2 (rd8 _ (hs0_2 t) _)) (rdw _ (hs0_6 t) _ _)

theorem outD (c : Dev nD) (t : Fin cfg0.N) (h : t.val / 11 = 3) :
    (dats m 0 c).flushed 7 t = gs (iblk m c 3 t)
    ∧ (dats m 0 c).flushed 8 t = dB (iblk m c 3 t) (iblk m c 4 t) (iblk m c 5 t) (iblk m c 6 t)
    ∧ (dats m 0 c).flushed 9 t = mB (iblk m c 3 t) (iblk m c 5 t)
    ∧ (dats m 0 c).flushed 10 t = vB (iblk m c 3 t) (iblk m c 6 t) := by
  have hN := lt_N t
  refine ⟨?_, ?_, ?_, ?_⟩
  rw [Value.flushed7_D m c t (by omega) (by omega) (by omega) (by omega)]
  refine (View.read_writes_eq_canon _ _ _ (by intro y; apply cover0_D_7)).trans ?_
  rotate_left
  rw [Value.flushed8_D m c t (by omega) (by omega) (by omega) (by omega)]
  refine (View.read_writes_eq_canon _ _ _ (by intro y; apply cover0_D_8)).trans ?_
  rotate_left
  rw [Value.flushed9_D m c t (by omega) (by omega) (by omega) (by omega)]
  refine (View.read_writes_eq_canon _ _ _ (by intro y; apply cover0_D_9)).trans ?_
  rotate_left
  rw [Value.flushed10_D m c t (by omega) (by omega) (by omega) (by omega)]
  refine (View.read_writes_eq_canon _ _ _ (by intro y; apply cover0_D_10)).trans ?_
  rotate_left
  all_goals
    unfold kernelRun0_D
    dsimp only
    sl_unfold_words
    refine (View.canon_unit_zero (S := S64x2048) hz2 _ _).trans ?_
    simp only [View.readAt_eq_ld, pD]
  · exact rd8 _ (hs0_3 t) _
  · unfold dB
    exact congr (congr (congrFun (congr (congrArg k0_pay3 (rd8 _ (hs0_3 t) _)) (congrArg k0_pay14 (rdw _ (hs0_5 t) _ _))) _) (rdw _ (hs0_6 t) _ _))
      (rdw _ (hs0_4 t) _ _)
  · unfold mB
    exact congrFun (congr (congrArg k0_pay1 (rd8 _ (hs0_3 t) _)) (congrArg k0_pay14 (rdw _ (hs0_5 t) _ _))) _
  · unfold vB
    exact congr (congrArg k0_pay2 (rd8 _ (hs0_3 t) _)) (rdw _ (hs0_6 t) _ _)

/-! ## The arrays that the call gets -/

/-- The devices' parts of the gradient, the weight, its mean and its square mean. -/
abbrev PA (c : Dev nD) : FVec Ideal S4x8x704x2048 .bf16 := m ((c : Thread nD τ).loc main_arg0)
abbrev WA (c : Dev nD) : FVec Ideal S4x704x2048 .f32 := m ((c : Thread nD τ).loc main_arg1)
abbrev MA (c : Dev nD) : FVec Ideal S4x704x2048 .f32 := m ((c : Thread nD τ).loc main_arg2)
abbrev VA (c : Dev nD) : FVec Ideal S4x704x2048 .f32 := m ((c : Thread nD τ).loc main_arg3)

/-- The layers' arrays, one below the other. -/
theorem layers_flat (x : FVec Ideal S4x704x2048 .f32) (i : S2816x2048.Idx) : shapeCast S2816x2048 x shapeCasts_S4x704x2048_S2816x2048 i = x (idx_main_v26 i) := by
  refine shapeCast_apply _ shapeCasts_S4x704x2048_S2816x2048 i (idx_main_v26 i) ?_
  rewrite [Shape.rowMajor_val_three, Shape.rowMajor_val_two]
  have h0 : (i 0).val < 2816 := (i 0).isLt
  have h1 : (i 1).val < 2048 := (i 1).isLt
  show (((i 0).val * 2048 + (i 1).val) / 1441792 * 704 + ((i 0).val * 2048 + (i 1).val) / 2048 % 704) * 2048 + ((i 0).val * 2048 + (i 1).val) % 2048 = (i 0).val * 2048 + (i 1).val
  omega

theorem V_p0 (c : Dev nD) (j : Fin 8) (a : Fin 704) (f : Fin 2048) :
    (V m c main_v1 : PL) (ix3 j a f) = PA m c (ix4 0 j a f) := by
  refine Eq.trans (congrFun ?_ _) (layer_part (PA m c) 0 slices_S4x8x704x2048_S1x8x704x2048_0_0_0_0 shapeCasts_S1x8x704x2048_S8x704x2048 j a f)
  simp only [V, hostOps0]
  after_results_simp <;> rfl

theorem V_p1 (c : Dev nD) (j : Fin 8) (a : Fin 704) (f : Fin 2048) :
    (V m c main_v3 : PL) (ix3 j a f) = PA m c (ix4 1 j a f) := by
  refine Eq.trans (congrFun ?_ _) (layer_part (PA m c) 1 slices_S4x8x704x2048_S1x8x704x2048_1_0_0_0 shapeCasts_S1x8x704x2048_S8x704x2048 j a f)
  simp only [V, hostOps0]
  after_results_simp <;> rfl

theorem V_p2 (c : Dev nD) (j : Fin 8) (a : Fin 704) (f : Fin 2048) :
    (V m c main_v5 : PL) (ix3 j a f) = PA m c (ix4 2 j a f) := by
  refine Eq.trans (congrFun ?_ _) (layer_part (PA m c) 2 slices_S4x8x704x2048_S1x8x704x2048_2_0_0_0 shapeCasts_S1x8x704x2048_S8x704x2048 j a f)
  simp only [V, hostOps0]
  after_results_simp <;> rfl

theorem V_p3 (c : Dev nD) (j : Fin 8) (a : Fin 704) (f : Fin 2048) :
    (V m c main_v7 : PL) (ix3 j a f) = PA m c (ix4 3 j a f) := by
  refine Eq.trans (congrFun ?_ _) (layer_part (PA m c) 3 slices_S4x8x704x2048_S1x8x704x2048_3_0_0_0 shapeCasts_S1x8x704x2048_S8x704x2048 j a f)
  simp only [V, hostOps0]
  after_results_simp <;> rfl

theorem V_w (c : Dev nD) (i : S2816x2048.Idx) : (V m c main_v8 : XO) i = WA m c (idx_main_v26 i) := by
  refine Eq.trans (congrFun ?_ _) (layers_flat (WA m c) i)
  simp only [V, hostOps0]
  after_results_simp <;> rfl

theorem V_m (c : Dev nD) (i : S2816x2048.Idx) : (V m c main_v9 : XO) i = MA m c (idx_main_v26 i) := by
  refine Eq.trans (congrFun ?_ _) (layers_flat (MA m c) i)
  simp only [V, hostOps0]
  after_results_simp <;> rfl

theorem V_v (c : Dev nD) (i : S2816x2048.Idx) : (V m c main_v10 : XO) i = VA m c (idx_main_v26 i) := by
  refine Eq.trans (congrFun ?_ _) (layers_flat (VA m c) i)
  simp only [V, hostOps0]
  after_results_simp <;> rfl

/-! ## Where a point's blocks lie -/

theorem idx_facts : ∀ t : Fin cfg0.N,
    (win0_0.index t (0 : Fin 3) = 0 ∧ (t.val / 11 = 0 → win0_0.index t (1 : Fin 3) = t.val % 11) ∧ win0_0.index t (2 : Fin 3) = 0)
    ∧ (win0_1.index t (0 : Fin 3) = 0 ∧ (t.val / 11 = 1 → win0_1.index t (1 : Fin 3) = t.val % 11) ∧ win0_1.index t (2 : Fin 3) = 0)
    ∧ (win0_2.index t (0 : Fin 3) = 0 ∧ (t.val / 11 = 2 → win0_2.index t (1 : Fin 3) = t.val % 11) ∧ win0_2.index t (2 : Fin 3) = 0)
    ∧ (win0_3.index t (0 : Fin 3) = 0 ∧ (t.val / 11 = 3 → win0_3.index t (1 : Fin 3) = t.val % 11) ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row `r` of point `t`'s block, as a row of the flat arrays, and of its layer. -/
def row (t : Fin cfg0.N) (r : Fin 64) : Fin 2816 := ⟨t.val * 64 + r.val, by have := lt_N t; omega⟩
def lrow (t : Fin cfg0.N) (r : Fin 64) : Fin 704 := ⟨t.val % 11 * 64 + r.val, by omega⟩

/-- The point whose blocks hold a flat row. -/
theorem pt (i : S2816x2048.Idx) : ∃ t : Fin cfg0.N, t.val * 64 ≤ (i 0).val ∧ (i 0).val < t.val * 64 + 64 ∧ (i 1).val < 2048 := by
  have h0 : (i 0).val < 2816 := (i 0).isLt
  refine ⟨⟨(i 0).val / 64, lt_of_lt_of_eq (by omega : _ < 44) N_0.symm⟩, ?_, ?_, (i 1).isLt⟩
  · show (i 0).val / 64 * 64 ≤ _; omega
  · show _ < (i 0).val / 64 * 64 + 64; omega

/-- The layer of a flat row, and the row within the layer. -/
theorem flat (t : Fin cfg0.N) (r : Fin 64) (f : Fin 2048) (l : Fin 4) (h : t.val / 11 = l.val) (j : Fin 8) :
    idx_main_v1 (idx_main_v26 (ix2 (row t r) f)) j = ix4 l j (lrow t r) f := by
  have hN := lt_N t
  refine funext fun a => Fin.ext ?_
  match a with
  | ⟨0, _⟩ => show ((t.val * 64 + r.val) * 2048 + f.val) / 1441792 = l.val; omega
  | ⟨1, _⟩ => rfl
  | ⟨2, _⟩ => show ((t.val * 64 + r.val) * 2048 + f.val) / 2048 % 704 = t.val % 11 * 64 + r.val; omega
  | ⟨3, _⟩ => show ((t.val * 64 + r.val) * 2048 + f.val) % 2048 = f.val; omega

theorem blk4 (c : Dev nD) (t : Fin cfg0.N) (r : Fin 64) (f : Fin 2048) :
    (iblk m c 4 t : XB) (ix2 r f) = WA m c (idx_main_v26 (ix2 (row t r) f)) := by
  rw [← V_w m c]
  exact at_row (V m c main_v8) _ (row t r) r f rfl rfl (idx_facts t).2.2.2.2.1.1 (idx_facts t).2.2.2.2.1.2 rfl

theorem blk5 (c : Dev nD) (t : Fin cfg0.N) (r : Fin 64) (f : Fin 2048) :
    (iblk m c 5 t : XB) (ix2 r f) = MA m c (idx_main_v26 (ix2 (row t r) f)) := by
  rw [← V_m m c]
  exact at_row (V m c main_v9) _ (row t r) r f rfl rfl (idx_facts t).2.2.2.2.2.1.1 (idx_facts t).2.2.2.2.2.1.2 rfl

theorem blk6 (c : Dev nD) (t : Fin cfg0.N) (r : Fin 64) (f : Fin 2048) :
    (iblk m c 6 t : XB) (ix2 r f) = VA m c (idx_main_v26 (ix2 (row t r) f)) := by
  rw [← V_v m c]
  exact at_row (V m c main_v10) _ (row t r) r f rfl rfl (idx_facts t).2.2.2.2.2.2.1.1 (idx_facts t).2.2.2.2.2.2.1.2 rfl

/-! ## The reference -/

/-- The gradient's entry: the sum of the devices' parts. -/
def gE (c : Dev nD) (i : S2816x2048.Idx) : EReal := ∑ j : Fin 8, (show EReal from PA m c (idx_main_v1 (idx_main_v26 i) j))

/-- The results, as the reference computes them. -/
abbrev G7 (c : Dev nD) : XO := val_main_v26 (F := Ideal) (m ((c : Thread nD τ).loc main_arg0))
abbrev G8 (c : Dev nD) : XO := val_main_v27 (F := Ideal) (m ((c : Thread nD τ).loc main_arg0))
  (m ((c : Thread nD τ).loc main_arg1)) (m ((c : Thread nD τ).loc main_arg2)) (m ((c : Thread nD τ).loc main_arg3))
abbrev G9 (c : Dev nD) : XO := val_main_v28 (F := Ideal) (m ((c : Thread nD τ).loc main_arg0))
  (m ((c : Thread nD τ).loc main_arg2))
abbrev G10 (c : Dev nD) : XO := val_main_v29 (F := Ideal) (m ((c : Thread nD τ).loc main_arg0))
  (m ((c : Thread nD τ).loc main_arg3))

theorem g_eq (c : Dev nD) (i : S2816x2048.Idx) : (show EReal from val_main_v1 (F := Ideal) (PA m c) (idx_main_v26 i)) = gE m c i := by
  rw [val_main_v1_apply, val_main_cst_apply]
  show Ideal.ofBits .f32 0x00000000#32 + _ = _
  rw [ofBits_zero, EReal.coe_zero, zero_add]
  rfl

theorem G7_apply (c : Dev nD) (i : S2816x2048.Idx) : (show EReal from G7 m c i) = gE m c i := by
  unfold G7
  rw [val_main_v26_apply]
  exact g_eq m c i

theorem m_eq (c : Dev nD) (i : S2816x2048.Idx) : (show EReal from val_main_v6 (F := Ideal) (PA m c) (MA m c) (idx_main_v26 i))
    = mN (gE m c i) (MA m c (idx_main_v26 i)) := by
  rw [val_main_v6_apply, val_main_v3_apply, val_main_v2_apply, val_main_v5_apply, val_main_v4_apply,
    val_main_cst_0_apply, val_main_cst_1_apply, ← g_eq]
  rfl

theorem v_eq (c : Dev nD) (i : S2816x2048.Idx) : (show EReal from val_main_v12 (F := Ideal) (PA m c) (VA m c) (idx_main_v26 i))
    = vN (gE m c i) (VA m c (idx_main_v26 i)) := by
  rw [val_main_v12_apply, val_main_v8_apply, val_main_v7_apply, val_main_v11_apply, val_main_v10_apply,
    val_main_v9_apply, val_main_cst_2_apply, val_main_cst_3_apply, ← g_eq]
  rfl

theorem G9_apply (c : Dev nD) (i : S2816x2048.Idx) : (show EReal from G9 m c i) = mN (gE m c i) (MA m c (idx_main_v26 i)) := by
  unfold G9
  rw [val_main_v28_apply]
  exact m_eq m c i

theorem G10_apply (c : Dev nD) (i : S2816x2048.Idx) : (show EReal from G10 m c i) = vN (gE m c i) (VA m c (idx_main_v26 i)) := by
  unfold G10
  rw [val_main_v29_apply]
  exact v_eq m c i

theorem G8_apply (c : Dev nD) (i : S2816x2048.Idx) : (show EReal from G8 m c i)
    = dN (gE m c i) (WA m c (idx_main_v26 i)) (MA m c (idx_main_v26 i)) (VA m c (idx_main_v26 i)) := by
  unfold G8 dN
  rw [val_main_v27_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply,
    val_main_cst_4_apply, val_main_cst_5_apply, val_main_cst_6_apply, val_main_cst_7_apply, val_main_cst_8_apply,
    ← m_eq, ← v_eq]
  rfl

/-! ## The whole arrays -/

/-- Every point works on one of the four layers. -/
theorem layer (t : Fin cfg0.N) : t.val / 11 = 0 ∨ t.val / 11 = 1 ∨ t.val / 11 = 2 ∨ t.val / 11 = 3 := by
  have := lt_N t
  omega

theorem g0 (c : Dev nD) (t : Fin cfg0.N) (h : t.val / 11 = 0) (r : Fin 64) (f : Fin 2048) :
    (show EReal from gs (iblk m c 0 t) (ix2 r f)) = gE m c (ix2 (row t r) f) := by
  rw [gs_apply]
  refine Finset.sum_congr rfl fun j _ => ?_
  rw [flat t r f 0 h j, ← V_p0 m c]
  exact at_part (V m c main_v1) _ j (lrow t r) r f rfl rfl rfl (idx_facts t).1.1 ((idx_facts t).1.2.1 h) (idx_facts t).1.2.2 rfl

theorem g1 (c : Dev nD) (t : Fin cfg0.N) (h : t.val / 11 = 1) (r : Fin 64) (f : Fin 2048) :
    (show EReal from gs (iblk m c 1 t) (ix2 r f)) = gE m c (ix2 (row t r) f) := by
  rw [gs_apply]
  refine Finset.sum_congr rfl fun j _ => ?_
  rw [flat t r f 1 h j, ← V_p1 m c]
  exact at_part (V m c main_v3) _ j (lrow t r) r f rfl rfl rfl (idx_facts t).2.1.1 ((idx_facts t).2.1.2.1 h) (idx_facts t).2.1.2.2 rfl

theorem g2 (c : Dev nD) (t : Fin cfg0.N) (h : t.val / 11 = 2) (r : Fin 64) (f : Fin 2048) :
    (show EReal from gs (iblk m c 2 t) (ix2 r f)) = gE m c (ix2 (row t r) f) := by
  rw [gs_apply]
  refine Finset.sum_congr rfl fun j _ => ?_
  rw [flat t r f 2 h j, ← V_p2 m c]
  exact at_part (V m c main_v5) _ j (lrow t r) r f rfl rfl rfl (idx_facts t).2.2.1.1 ((idx_facts t).2.2.1.2.1 h) (idx_facts t).2.2.1.2.2 rfl

theorem g3 (c : Dev nD) (t : Fin cfg0.N) (h : t.val / 11 = 3) (r : Fin 64) (f : Fin 2048) :
    (show EReal from gs (iblk m c 3 t) (ix2 r f)) = gE m c (ix2 (row t r) f) := by
  rw [gs_apply]
  refine Finset.sum_congr rfl fun j _ => ?_
  rw [flat t r f 3 h j, ← V_p3 m c]
  exact at_part (V m c main_v7) _ j (lrow t r) r f rfl rfl rfl (idx_facts t).2.2.2.1.1 ((idx_facts t).2.2.2.1.2.1 h) (idx_facts t).2.2.2.1.2.2 rfl

theorem flushed7_eq (c : Dev nD) (t : Fin cfg0.N) :
    (dats m 0 c).flushed 7 t = ((cfg0.win 7).blk t).view.read (Elt Ideal) (G7 m c) := by
  funext y
  obtain ⟨r, f, rfl⟩ := eq_blk y
  refine Eq.trans ?_ ((at_row (G7 m c) _ (row t r) r f rfl rfl (idx_facts t).2.2.2.2.2.2.2.1.1 (idx_facts t).2.2.2.2.2.2.2.1.2 rfl).trans
    (G7_apply m c (ix2 (row t r) f))).symm
  rcases layer t with h | h | h | h
  · rw [(outA m c t h).1]; exact g0 m c t h r f
  · rw [(outB m c t h).1]; exact g1 m c t h r f
  · rw [(outC m c t h).1]; exact g2 m c t h r f
  · rw [(outD m c t h).1]; exact g3 m c t h r f

theorem cover7 (i : S2816x2048.Idx) : ∃ t : Fin cfg0.N, (cfg0.win 7).flush t = true ∧ i ∈ ((cfg0.win 7).blk t).view.set := by
  obtain ⟨t, h0, h1, h2⟩ := pt i
  obtain ⟨e0, e1⟩ := (idx_facts t).2.2.2.2.2.2.2.1
  refine ⟨t, flush0_7 t, ?_⟩
  show i ∈ ((View.whole main_v11_0).slice (win0_7.rect t)).set
  rw [View.set_slice_whole, Rect.mem_set_unit]
  intro a
  match a with
  | ⟨0, _⟩ => show win0_7.index t 0 * 64 ≤ (i 0).val ∧ (i 0).val < win0_7.index t 0 * 64 + 64; omega
  | ⟨1, _⟩ => show win0_7.index t 1 * 2048 ≤ (i 1).val ∧ (i 1).val < win0_7.index t 1 * 2048 + 2048; omega

theorem flushed8_eq (c : Dev nD) (t : Fin cfg0.N) :
    (dats m 0 c).flushed 8 t = ((cfg0.win 8).blk t).view.read (Elt Ideal) (G8 m c) := by
  funext y
  obtain ⟨r, f, rfl⟩ := eq_blk y
  refine Eq.trans ?_ ((at_row (G8 m c) _ (row t r) r f rfl rfl (idx_facts t).2.2.2.2.2.2.2.2.1.1 (idx_facts t).2.2.2.2.2.2.2.2.1.2 rfl).trans
    (G8_apply m c (ix2 (row t r) f))).symm
  rcases layer t with h | h | h | h
  · rw [(outA m c t h).2.1]; exact (d_apply _ _ _ _ _).trans (congr (congr (congrArg₂ dN (g0 m c t h r f) (blk4 m c t r f)) (blk5 m c t r f)) (blk6 m c t r f))
  · rw [(outB m c t h).2.1]; exact (d_apply _ _ _ _ _).trans (congr (congr (congrArg₂ dN (g1 m c t h r f) (blk4 m c t r f)) (blk5 m c t r f)) (blk6 m c t r f))
  · rw [(outC m c t h).2.1]; exact (d_apply _ _ _ _ _).trans (congr (congr (congrArg₂ dN (g2 m c t h r f) (blk4 m c t r f)) (blk5 m c t r f)) (blk6 m c t r f))
  · rw [(outD m c t h).2.1]; exact (d_apply _ _ _ _ _).trans (congr (congr (congrArg₂ dN (g3 m c t h r f) (blk4 m c t r f)) (blk5 m c t r f)) (blk6 m c t r f))

theorem cover8 (i : S2816x2048.Idx) : ∃ t : Fin cfg0.N, (cfg0.win 8).flush t = true ∧ i ∈ ((cfg0.win 8).blk t).view.set := by
  obtain ⟨t, h0, h1, h2⟩ := pt i
  obtain ⟨e0, e1⟩ := (idx_facts t).2.2.2.2.2.2.2.2.1
  refine ⟨t, flush0_8 t, ?_⟩
  show i ∈ ((View.whole main_v11_1).slice (win0_8.rect t)).set
  rw [View.set_slice_whole, Rect.mem_set_unit]
  intro a
  match a with
  | ⟨0, _⟩ => show win0_8.index t 0 * 64 ≤ (i 0).val ∧ (i 0).val < win0_8.index t 0 * 64 + 64; omega
  | ⟨1, _⟩ => show win0_8.index t 1 * 2048 ≤ (i 1).val ∧ (i 1).val < win0_8.index t 1 * 2048 + 2048; omega

theorem flushed9_eq (c : Dev nD) (t : Fin cfg0.N) :
    (dats m 0 c).flushed 9 t = ((cfg0.win 9).blk t).view.read (Elt Ideal) (G9 m c) := by
  funext y
  obtain ⟨r, f, rfl⟩ := eq_blk y
  refine Eq.trans ?_ ((at_row (G9 m c) _ (row t r) r f rfl rfl (idx_facts t).2.2.2.2.2.2.2.2.2.1.1 (idx_facts t).2.2.2.2.2.2.2.2.2.1.2 rfl).trans
    (G9_apply m c (ix2 (row t r) f))).symm
  rcases layer t with h | h | h | h
  · rw [(outA m c t h).2.2.1]; exact (m_apply _ _ _).trans (congrArg₂ mN (g0 m c t h r f) (blk5 m c t r f))
  · rw [(outB m c t h).2.2.1]; exact (m_apply _ _ _).trans (congrArg₂ mN (g1 m c t h r f) (blk5 m c t r f))
  · rw [(outC m c t h).2.2.1]; exact (m_apply _ _ _).trans (congrArg₂ mN (g2 m c t h r f) (blk5 m c t r f))
  · rw [(outD m c t h).2.2.1]; exact (m_apply _ _ _).trans (congrArg₂ mN (g3 m c t h r f) (blk5 m c t r f))

theorem cover9 (i : S2816x2048.Idx) : ∃ t : Fin cfg0.N, (cfg0.win 9).flush t = true ∧ i ∈ ((cfg0.win 9).blk t).view.set := by
  obtain ⟨t, h0, h1, h2⟩ := pt i
  obtain ⟨e0, e1⟩ := (idx_facts t).2.2.2.2.2.2.2.2.2.1
  refine ⟨t, flush0_9 t, ?_⟩
  show i ∈ ((View.whole main_v11_2).slice (win0_9.rect t)).set
  rw [View.set_slice_whole, Rect.mem_set_unit]
  intro a
  match a with
  | ⟨0, _⟩ => show win0_9.index t 0 * 64 ≤ (i 0).val ∧ (i 0).val < win0_9.index t 0 * 64 + 64; omega
  | ⟨1, _⟩ => show win0_9.index t 1 * 2048 ≤ (i 1).val ∧ (i 1).val < win0_9.index t 1 * 2048 + 2048; omega

theorem flushed10_eq (c : Dev nD) (t : Fin cfg0.N) :
    (dats m 0 c).flushed 10 t = ((cfg0.win 10).blk t).view.read (Elt Ideal) (G10 m c) := by
  funext y
  obtain ⟨r, f, rfl⟩ := eq_blk y
  refine Eq.trans ?_ ((at_row (G10 m c) _ (row t r) r f rfl rfl (idx_facts t).2.2.2.2.2.2.2.2.2.2.1 (idx_facts t).2.2.2.2.2.2.2.2.2.2.2 rfl).trans
    (G10_apply m c (ix2 (row t r) f))).symm
  rcases layer t with h | h | h | h
  · rw [(outA m c t h).2.2.2]; exact (v_apply _ _ _).trans (congrArg₂ vN (g0 m c t h r f) (blk6 m c t r f))
  · rw [(outB m c t h).2.2.2]; exact (v_apply _ _ _).trans (congrArg₂ vN (g1 m c t h r f) (blk6 m c t r f))
  · rw [(outC m c t h).2.2.2]; exact (v_apply _ _ _).trans (congrArg₂ vN (g2 m c t h r f) (blk6 m c t r f))
  · rw [(outD m c t h).2.2.2]; exact (v_apply _ _ _).trans (congrArg₂ vN (g3 m c t h r f) (blk6 m c t r f))

theorem cover10 (i : S2816x2048.Idx) : ∃ t : Fin cfg0.N, (cfg0.win 10).flush t = true ∧ i ∈ ((cfg0.win 10).blk t).view.set := by
  obtain ⟨t, h0, h1, h2⟩ := pt i
  obtain ⟨e0, e1⟩ := (idx_facts t).2.2.2.2.2.2.2.2.2.2
  refine ⟨t, flush0_10 t, ?_⟩
  show i ∈ ((View.whole main_v11_3).slice (win0_10.rect t)).set
  rw [View.set_slice_whole, Rect.mem_set_unit]
  intro a
  match a with
  | ⟨0, _⟩ => show win0_10.index t 0 * 64 ≤ (i 0).val ∧ (i 0).val < win0_10.index t 0 * 64 + 64; omega
  | ⟨1, _⟩ => show win0_10.index t 1 * 2048 ≤ (i 1).val ∧ (i 1).val < win0_10.index t 1 * 2048 + 2048; omega

variable (ρ : Dev nD → PrngReg)

/-- THE CALL: its results are the reference's, and the arguments end unchanged. -/
theorem run : θ_run defs (onTc (τ := τ) (main (F := Ideal))) ⟨m, fun _ => 0, ρ⟩ fun r => ∀ c : Dev nD,
      r.2.mem ((c : Thread nD τ).loc main_v11_0) = G7 m c
      ∧ r.2.mem ((c : Thread nD τ).loc main_v11_1) = G8 m c
      ∧ r.2.mem ((c : Thread nD τ).loc main_v11_2) = G9 m c
      ∧ r.2.mem ((c : Thread nD τ).loc main_v11_3) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 7 (G7 m c) (fun t _ => flushed7_eq m c t) cover7),
      (h c).2.1.trans ((dats m 0 c).arrAt_eq_of_cover 8 (G8 m c) (fun t _ => flushed8_eq m c t) cover8),
      (h c).2.2.1.trans ((dats m 0 c).arrAt_eq_of_cover 9 (G9 m c) (fun t _ => flushed9_eq m c t) cover9),
      (h c).2.2.2.1.trans ((dats m 0 c).arrAt_eq_of_cover 10 (G10 m c) (fun t _ => flushed10_eq m c t) cover10), (h c).2.2.2.2⟩)
    (Value.run_blocks m ρ)

end Cert.AdFfn

end
-- ==== Proof.AdFfnClaims.lean ====
/-
  The claims on the optimiser's call on a weight of the feed-forward layer.
-/
module

public import proofs.«01_k».proof.Proof.AdFfn

@[expose] public section

noncomputable section

namespace Cert.AdFfn

open Idealize.ShloMosaic Idealize.ShloMosaic.TcCoe Idealize.SL.Sem

/-- The reference ends with every semaphore at zero, its arguments unchanged. -/
theorem frame_ref : Cert.quiescent_Reference21Ideal := fun m ρ _ =>
  (θ_run Cert.Reference21Ideal.defs _ _).mono (fun r h =>
      ⟨fun c => (h c).2.2.2.2, Idealize.ShloMosaic.sem_eq_zero_of_no_sems (by decide) r.2⟩)
    (Cert.Reference21Ideal.Value.run (F := Ideal) m ρ)

/-- The call computes the reference's results on all extended reals. -/
theorem algebraic : Cert.algebraic_Kernel21Ideal_Reference21Ideal := fun m ρ m' ρ' _ hag =>
  ⟨G7 m, G8 m, G9 m, G10 m, run m ρ, (θ_run _ _ _).mono (fun _ h c => by
    obtain ⟨e0, e1, e2, e3⟩ := hag c
    refine ⟨?_, ?_, ?_, ?_, (h c).2.2.2.2⟩
    · rw [(h c).1, Cert.Reference21Ideal.Read.val_main_v26_eq, e0]
    · rw [(h c).2.1, Cert.Reference21Ideal.Read.val_main_v27_eq, e0, e1, e2, e3]
    · rw [(h c).2.2.1, Cert.Reference21Ideal.Read.val_main_v28_eq, e0, e2]
    · rw [(h c).2.2.2.1, Cert.Reference21Ideal.Read.val_main_v29_eq, e0, e3]) (Cert.Reference21Ideal.Value.run (F := Ideal) m' ρ')⟩

end Cert.AdFfn

end
-- ==== Proof.AdOut.lean ====
/-
  The optimiser's call on the output projection of the mixer, over the reals: the arrays that the call returns are the
  sum of the devices' parts of the gradient, and the update, the mean and the square mean that AdamW forms from it.
-/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Reals
public import proofs.«01_k».proof.Proof.Adam

@[expose] public section

set_option maxRecDepth 16384

noncomputable section

namespace Cert.AdOut

open Idealize.ShloMosaic Idealize.ShloMosaic.TcCoe Idealize.SL.Sem Cert.Reals Cert.Adam
open Idealize.ShloMosaic.ValueIdx
open Cert.Kernel22Ideal Cert.Kernel22Ideal.Gen Cert.Reference22Ideal.Read

/-- A block of the parts, a block of a result, a result, and one layer's parts. -/
abbrev PB := Vec Ideal S8x128x2048 .bf16
abbrev XB := FVec Ideal S128x2048 .f32
abbrev XO := FVec Ideal S1024x2048 .f32
abbrev PL := FVec Ideal S8x256x2048 .bf16

theorem hz2 : (![0, 0] : Fin 2 → Nat) = fun _ => 0 := funext fun a => by fin_cases a <;> rfl

/-! ## The body of one layer's case -/

/-- One device's part of the block. -/
def sl (P : PB) (j : Fin 8) : Vec Ideal S1x128x2048 .bf16 := fun y => P (ix3 j (y 1) (y 2))

/-- The sum of the eight parts of the block, as the body forms it. -/
def gs (P : PB) : XB :=
  k0_pay13 (F := Ideal) (sl P 0) (sl P 1) (sl P 2) (sl P 3) (sl P 4) (sl P 5) (sl P 6) (sl P 7)

theorem gs_apply (P : PB) (r : Fin 128) (f : Fin 2048) :
    (show EReal from gs P (ix2 r f)) = ∑ j : Fin 8, (show EReal from P (ix3 j r f)) := by
  have hs := fun j : Fin 8 => cast_one (sl P j) shapeCasts_S1x128x2048_S128x2048 r f
  refine Eq.trans ?_ (Fin.sum_univ_eight _).symm
  rw [← show _ = P (ix3 0 r f) from hs 0, ← show _ = P (ix3 1 r f) from hs 1, ← show _ = P (ix3 2 r f) from hs 2, ← show _ = P (ix3 3 r f) from hs 3,
    ← show _ = P (ix3 4 r f) from hs 4, ← show _ = P (ix3 5 r f) from hs 5, ← show _ = P (ix3 6 r f) from hs 6, ← show _ = P (ix3 7 r f) from hs 7]
  rfl

/-- The new mean, the new square mean and the update of a block. -/
def mB (P : PB) (x5 : XB) : XB :=
  k0_pay1 (F := Ideal) (gs P) (k0_pay14 x5) (FloatOps.ofBits .f32 0x3F666666#32)
def vB (P : PB) (x6 : XB) : XB := k0_pay2 (F := Ideal) (gs P) x6
def dB (P : PB) (x4 x5 x6 : XB) : XB :=
  k0_pay3 (F := Ideal) (gs P) (k0_pay14 x5) (FloatOps.ofBits .f32 0x3F666666#32) x6 x4

theorem m_apply (P : PB) (x5 : XB) (i : S128x2048.Idx) :
    (show EReal from mB P x5 i) = mN (gs P i) (x5 i) := by
  unfold mB k0_pay1 k0_pay14
  dsimp only
  rw [cast_same]
  rfl

theorem v_apply (P : PB) (x6 : XB) (i : S128x2048.Idx) :
    (show EReal from vB P x6 i) = vN (gs P i) (x6 i) := by
  unfold vB k0_pay2
  dsimp only
  rw [cast_same]
  rfl

theorem d_apply (P : PB) (x4 x5 x6 : XB) (i : S128x2048.Idx) :
    (show EReal from dB P x4 x5 x6 i) = dN (gs P i) (x4 i) (x5 i) (x6 i) := by
  unfold dB k0_pay3 dN
  dsimp only
  rw [cast_same, ← m_apply P x5 i, ← v_apply P x6 i]
  rfl

variable (m : (ℓ : Loc nD τ sig) → Buf (Elt Ideal) ℓ)

/-- A load of one device's part. -/
theorem rd (x : PB) (j : ℕ) (inb : ∀ a, (![j, 0, 0] : Fin 3 → Nat) a + S1x128x2048.size a ≤ S8x128x2048.size a) :
    View.ld x (Rect.unit (s := S8x128x2048) ![j, 0, 0] S1x128x2048.size inb) = sl x ⟨j, by have := inb 0; exact this⟩ := by
  funext y
  have h0 : (y 0).val < 1 := (y 0).isLt
  refine congrArg x (funext fun a => Fin.ext ?_)
  match a with
  | ⟨0, _⟩ => show j + 1 * (y 0).val = j; omega
  | ⟨1, _⟩ => show 0 + 1 * (y 1).val = (y 1).val; omega
  | ⟨2, _⟩ => show 0 + 1 * (y 2).val = (y 2).val; omega

/-- The sum of the eight loads. -/
theorem rd8 (M : Memref sig .tc .vmem S8x128x2048 .bf16) (h : M.IsWhole) (x : PB) :
    k0_pay13 (F := Ideal) (View.ld (M.view.read (Elt Ideal) (h.unread x)) (Rect.unit (s := S8x128x2048) ![0, 0, 0] S1x128x2048.size inb_S8x128x2048_S1x128x2048_0_0_0))
      (View.ld (M.view.read (Elt Ideal) (h.unread x)) (Rect.unit (s := S8x128x2048) ![1, 0, 0] S1x128x2048.size inb_S8x128x2048_S1x128x2048_1_0_0))
      (View.ld (M.view.read (Elt Ideal) (h.unread x)) (Rect.unit (s := S8x128x2048) ![2, 0, 0] S1x128x2048.size inb_S8x128x2048_S1x128x2048_2_0_0))
      (View.ld (M.view.read (Elt Ideal) (h.unread x)) (Rect.unit (s := S8x128x2048) ![3, 0, 0] S1x128x2048.size inb_S8x128x2048_S1x128x2048_3_0_0))
      (View.ld (M.view.read (Elt Ideal) (h.unread x)) (Rect.unit (s := S8x128x2048) ![4, 0, 0] S1x128x2048.size inb_S8x128x2048_S1x128x2048_4_0_0))
      (View.ld (M.view.read (Elt Ideal) (h.unread x)) (Rect.unit (s := S8x128x2048) ![5, 0, 0] S1x128x2048.size inb_S8x128x2048_S1x128x2048_5_0_0))
      (View.ld (M.view.read (Elt Ideal) (h.unread x)) (Rect.unit (s := S8x128x2048) ![6, 0, 0] S1x128x2048.size inb_S8x128x2048_S1x128x2048_6_0_0))
      (View.ld (M.view.read (Elt Ideal) (h.unread x)) (Rect.unit (s := S8x128x2048) ![7, 0, 0] S1x128x2048.size inb_S8x128x2048_S1x128x2048_7_0_0))
      = gs x := by
  rw [h.read_unread]
  unfold gs
  exact congr (congr (congr (congr (congr (congr (congr (congrArg _ (rd x 0 _)) (rd x 1 _)) (rd x 2 _)) (rd x 3 _)) (rd x 4 _)) (rd x 5 _)) (rd x 6 _)) (rd x 7 _)

/-- The four cases have the same body. -/
theorem pB : @k0_pay15 Ideal _ = k0_pay13 ∧ @k0_pay16 Ideal = k0_pay14 ∧ @k0_pay4 Ideal _ = k0_pay1 ∧ @k0_pay5 Ideal _ = k0_pay2
    ∧ @k0_pay6 Ideal _ = k0_pay3 := ⟨rfl, rfl, rfl, rfl, rfl⟩
theorem pC : @k0_pay17 Ideal _ = k0_pay13 ∧ @k0_pay18 Ideal = k0_pay14 ∧ @k0_pay7 Ideal _ = k0_pay1 ∧ @k0_pay8 Ideal _ = k0_pay2
    ∧ @k0_pay9 Ideal _ = k0_pay3 := ⟨rfl, rfl, rfl, rfl, rfl⟩
theorem pD : @k0_pay19 Ideal _ = k0_pay13 ∧ @k0_pay20 Ideal = k0_pay14 ∧ @k0_pay10 Ideal _ = k0_pay1 ∧ @k0_pay11 Ideal _ = k0_pay2
    ∧ @k0_pay12 Ideal _ = k0_pay3 := ⟨rfl, rfl, rfl, rfl, rfl⟩

/-- A load of a whole block. -/
theorem rdw (M : Memref sig .tc .vmem S128x2048 .f32) (h : M.IsWhole) (x : XB)
    (inb : ∀ a, (![0, 0] : Fin 2 → Nat) a + S128x2048.size a ≤ S128x2048.size a) :
    View.ld (M.view.read (Elt Ideal) (h.unread x)) (Rect.unit (s := S128x2048) ![0, 0] S128x2048.size inb) = x := by
  rw [h.read_unread]
  exact View.ld_unit_zero hz2 _ _

theorem lt_N (t : Fin cfg0.N) : t.val < 8 := lt_of_lt_of_eq t.isLt N_0

/-! ## What a point writes back, by the layer that it works on -/

theorem outA (c : Dev nD) (t : Fin cfg0.N) (h : t.val / 2 = 0) :
    (dats m 0 c).flushed 7 t = gs (iblk m c 0 t)
    ∧ (dats m 0 c).flushed 8 t = dB (iblk m c 0 t) (iblk m c 4 t) (iblk m c 5 t) (iblk m c 6 t)
    ∧ (dats m 0 c).flushed 9 t = mB (iblk m c 0 t) (iblk m c 5 t)
    ∧ (dats m 0 c).flushed 10 t = vB (iblk m c 0 t) (iblk m c 6 t) := by
  have hN := lt_N t
  refine ⟨?_, ?_, ?_, ?_⟩
  rw [Value.flushed7_A m c t (by omega) (by omega) (by omega) (by omega)]
  refine (View.read_writes_eq_canon _ _ _ (by intro y; apply cover0_A_7)).trans ?_
  rotate_left
  rw [Value.flushed8_A m c t (by omega) (by omega) (by omega) (by omega)]
  refine (View.read_writes_eq_canon _ _ _ (by intro y; apply cover0_A_8)).trans ?_
  rotate_left
  rw [Value.flushed9_A m c t (by omega) (by omega) (by omega) (by omega)]
  refine (View.read_writes_eq_canon _ _ _ (by intro y; apply cover0_A_9)).trans ?_
  rotate_left
  rw [Value.flushed10_A m c t (by omega) (by omega) (by omega) (by omega)]
  refine (View.read_writes_eq_canon _ _ _ (by intro y; apply cover0_A_10)).trans ?_
  rotate_left
  all_goals
    unfold kernelRun0_A
    dsimp only
    sl_unfold_words
    refine (View.canon_unit_zero (S := S128x2048) hz2 _ _).trans ?_
    simp only [View.readAt_eq_ld]
  · exact rd8 _ (hs0_0 t) _
  · unfold dB
    exact congr (congr (congrFun (congr (congrArg k0_pay3 (rd8 _ (hs0_0 t) _)) (congrArg k0_pay14 (rdw _ (hs0_5 t) _ _))) _) (rdw _ (hs0_6 t) _ _))
      (rdw _ (hs0_4 t) _ _)
  · unfold mB
    exact congrFun (congr (congrArg k0_pay1 (rd8 _ (hs0_0 t) _)) (congrArg k0_pay14 (rdw _ (hs0_5 t) _ _))) _
  · unfold vB
    exact congr (congrArg k0_pay2 (rd8 _ (hs0_0 t) _)) (rdw _ (hs0_6 t) _ _)

theorem outB (c : Dev nD) (t : Fin cfg0.N) (h : t.val / 2 = 1) :
    (dats m 0 c).flushed 7 t = gs (iblk m c 1 t)
    ∧ (dats m 0 c).flushed 8 t = dB (iblk m c 1 t) (iblk m c 4 t) (iblk m c 5 t) (iblk m c 6 t)
    ∧ (dats m 0 c).flushed 9 t = mB (iblk m c 1 t) (iblk m c 5 t)
    ∧ (dats m 0 c).flushed 10 t = vB (iblk m c 1 t) (iblk m c 6 t) := by
  have hN := lt_N t
  refine ⟨?_, ?_, ?_, ?_⟩
  rw [Value.flushed7_B m c t (by omega) (by omega) (by omega) (by omega)]
  refine (View.read_writes_eq_canon _ _ _ (by intro y; apply cover0_B_7)).trans ?_
  rotate_left
  rw [Value.flushed8_B m c t (by omega) (by omega) (by omega) (by omega)]
  refine (View.read_writes_eq_canon _ _ _ (by intro y; apply cover0_B_8)).trans ?_
  rotate_left
  rw [Value.flushed9_B m c t (by omega) (by omega) (by omega) (by omega)]
  refine (View.read_writes_eq_canon _ _ _ (by intro y; apply cover0_B_9)).trans ?_
  rotate_left
  rw [Value.flushed10_B m c t (by omega) (by omega) (by omega) (by omega)]
  refine (View.read_writes_eq_canon _ _ _ (by intro y; apply cover0_B_10)).trans ?_
  rotate_left
  all_goals
    unfold kernelRun0_B
    dsimp only
    sl_unfold_words
    refine (View.canon_unit_zero (S := S128x2048) hz2 _ _).trans ?_
    simp only [View.readAt_eq_ld, pB]
  · exact rd8 _ (hs0_1 t) _
  · unfold dB
    exact congr (congr (congrFun (congr (congrArg k0_pay3 (rd8 _ (hs0_1 t) _)) (congrArg k0_pay14 (rdw _ (hs0_5 t) _ _))) _) (rdw _ (hs0_6 t) _ _))
      (rdw _ (hs0_4 t) _ _)
  · unfold mB
    exact congrFun (congr (congrArg k0_pay1 (rd8 _ (hs0_1 t) _)) (congrArg k0_pay14 (rdw _ (hs0_5 t) _ _))) _
  · unfold vB
    exact congr (congrArg k0_pay2 (rd8 _ (hs0_1 t) _)) (rdw _ (hs0_6 t) _ _)

theorem outC (c : Dev nD) (t : Fin cfg0.N) (h : t.val / 2 = 2) :
    (dats m 0 c).flushed 7 t = gs (iblk m c 2 t)
    ∧ (dats m 0 c).flushed 8 t = dB (iblk m c 2 t) (iblk m c 4 t) (iblk m c 5 t) (iblk m c 6 t)
    ∧ (dats m 0 c).flushed 9 t = mB (iblk m c 2 t) (iblk m c 5 t)
    ∧ (dats m 0 c).flushed 10 t = vB (iblk m c 2 t) (iblk m c 6 t) := by
  have hN := lt_N t
  refine ⟨?_, ?_, ?_, ?_⟩
  rw [Value.flushed7_C m c t (by omega) (by omega) (by omega) (by omega)]
  refine (View.read_writes_eq_canon _ _ _ (by intro y; apply cover0_C_7)).trans ?_
  rotate_left
  rw [Value.flushed8_C m c t (by omega) (by omega) (by omega) (by omega)]
  refine (View.read_writes_eq_canon _ _ _ (by intro y; apply cover0_C_8)).trans ?_
  rotate_left
  rw [Value.flushed9_C m c t (by omega) (by omega) (by omega) (by omega)]
  refine (View.read_writes_eq_canon _ _ _ (by intro y; apply cover0_C_9)).trans ?_
  rotate_left
  rw [Value.flushed10_C m c t (by omega) (by omega) (by omega) (by omega)]
  refine (View.read_writes_eq_canon _ _ _ (by intro y; apply cover0_C_10)).trans ?_
  rotate_left
  all_goals
    unfold kernelRun0_C
    dsimp only
    sl_unfold_words
    refine (View.canon_unit_zero (S := S128x2048) hz2 _ _).trans ?_
    simp only [View.readAt_eq_ld, pC]
  · exact rd8 _ (hs0_2 t) _
  · unfold dB
    exact congr (congr (congrFun (congr (congrArg k0_pay3 (rd8 _ (hs0_2 t) _)) (congrArg k0_pay14 (rdw _ (hs0_5 t) _ _))) _) (rdw _ (hs0_6 t) _ _))
      (rdw _ (hs0_4 t) _ _)
  · unfold mB
    exact congrFun (congr (congrArg k0_pay1 (rd8 _ (hs0_2 t) _)) (congrArg k0_pay14 (rdw _ (hs0_5 t) _ _))) _
  · unfold vB
    exact congr (congrArg k0_pay2 (rd8 _ (hs0_2 t) _)) (rdw _ (hs0_6 t) _ _)

theorem outD (c : Dev nD) (t : Fin cfg0.N) (h : t.val / 2 = 3) :
    (dats m 0 c).flushed 7 t = gs (iblk m c 3 t)
    ∧ (dats m 0 c).flushed 8 t = dB (iblk m c 3 t) (iblk m c 4 t) (iblk m c 5 t) (iblk m c 6 t)
    ∧ (dats m 0 c).flushed 9 t = mB (iblk m c 3 t) (iblk m c 5 t)
    ∧ (dats m 0 c).flushed 10 t = vB (iblk m c 3 t) (iblk m c 6 t) := by
  have hN := lt_N t
  refine ⟨?_, ?_, ?_, ?_⟩
  rw [Value.flushed7_D m c t (by omega) (by omega) (by omega) (by omega)]
  refine (View.read_writes_eq_canon _ _ _ (by intro y; apply cover0_D_7)).trans ?_
  rotate_left
  rw [Value.flushed8_D m c t (by omega) (by omega) (by omega) (by omega)]
  refine (View.read_writes_eq_canon _ _ _ (by intro y; apply cover0_D_8)).trans ?_
  rotate_left
  rw [Value.flushed9_D m c t (by omega) (by omega) (by omega) (by omega)]
  refine (View.read_writes_eq_canon _ _ _ (by intro y; apply cover0_D_9)).trans ?_
  rotate_left
  rw [Value.flushed10_D m c t (by omega) (by omega) (by omega) (by omega)]
  refine (View.read_writes_eq_canon _ _ _ (by intro y; apply cover0_D_10)).trans ?_
  rotate_left
  all_goals
    unfold kernelRun0_D
    dsimp only
    sl_unfold_words
    refine (View.canon_unit_zero (S := S128x2048) hz2 _ _).trans ?_
    simp only [View.readAt_eq_ld, pD]
  · exact rd8 _ (hs0_3 t) _
  · unfold dB
    exact congr (congr (congrFun (congr (congrArg k0_pay3 (rd8 _ (hs0_3 t) _)) (congrArg k0_pay14 (rdw _ (hs0_5 t) _ _))) _) (rdw _ (hs0_6 t) _ _))
      (rdw _ (hs0_4 t) _ _)
  · unfold mB
    exact congrFun (congr (congrArg k0_pay1 (rd8 _ (hs0_3 t) _)) (congrArg k0_pay14 (rdw _ (hs0_5 t) _ _))) _
  · unfold vB
    exact congr (congrArg k0_pay2 (rd8 _ (hs0_3 t) _)) (rdw _ (hs0_6 t) _ _)

/-! ## The arrays that the call gets -/

/-- The devices' parts of the gradient, the weight, its mean and its square mean. -/
abbrev PA (c : Dev nD) : FVec Ideal S4x8x256x2048 .bf16 := m ((c : Thread nD τ).loc main_arg0)
abbrev WA (c : Dev nD) : FVec Ideal S4x256x2048 .f32 := m ((c : Thread nD τ).loc main_arg1)
abbrev MA (c : Dev nD) : FVec Ideal S4x256x2048 .f32 := m ((c : Thread nD τ).loc main_arg2)
abbrev VA (c : Dev nD) : FVec Ideal S4x256x2048 .f32 := m ((c : Thread nD τ).loc main_arg3)

/-- The layers' arrays, one below the other. -/
theorem layers_flat (x : FVec Ideal S4x256x2048 .f32) (i : S1024x2048.Idx) : shapeCast S1024x2048 x shapeCasts_S4x256x2048_S1024x2048 i = x (idx_main_v26 i) := by
  refine shapeCast_apply _ shapeCasts_S4x256x2048_S1024x2048 i (idx_main_v26 i) ?_
  rewrite [Shape.rowMajor_val_three, Shape.rowMajor_val_two]
  have h0 : (i 0).val < 1024 := (i 0).isLt
  have h1 : (i 1).val < 2048 := (i 1).isLt
  show (((i 0).val * 2048 + (i 1).val) / 524288 * 256 + ((i 0).val * 2048 + (i 1).val) / 2048 % 256) * 2048 + ((i 0).val * 2048 + (i 1).val) % 2048 = (i 0).val * 2048 + (i 1).val
  omega

theorem V_p0 (c : Dev nD) (j : Fin 8) (a : Fin 256) (f : Fin 2048) :
    (V m c main_v1 : PL) (ix3 j a f) = PA m c (ix4 0 j a f) := by
  refine Eq.trans (congrFun ?_ _) (layer_part (PA m c) 0 slices_S4x8x256x2048_S1x8x256x2048_0_0_0_0 shapeCasts_S1x8x256x2048_S8x256x2048 j a f)
  simp only [V, hostOps0]
  after_results_simp <;> rfl

theorem V_p1 (c : Dev nD) (j : Fin 8) (a : Fin 256) (f : Fin 2048) :
    (V m c main_v3 : PL) (ix3 j a f) = PA m c (ix4 1 j a f) := by
  refine Eq.trans (congrFun ?_ _) (layer_part (PA m c) 1 slices_S4x8x256x2048_S1x8x256x2048_1_0_0_0 shapeCasts_S1x8x256x2048_S8x256x2048 j a f)
  simp only [V, hostOps0]
  after_results_simp <;> rfl

theorem V_p2 (c : Dev nD) (j : Fin 8) (a : Fin 256) (f : Fin 2048) :
    (V m c main_v5 : PL) (ix3 j a f) = PA m c (ix4 2 j a f) := by
  refine Eq.trans (congrFun ?_ _) (layer_part (PA m c) 2 slices_S4x8x256x2048_S1x8x256x2048_2_0_0_0 shapeCasts_S1x8x256x2048_S8x256x2048 j a f)
  simp only [V, hostOps0]
  after_results_simp <;> rfl

theorem V_p3 (c : Dev nD) (j : Fin 8) (a : Fin 256) (f : Fin 2048) :
    (V m c main_v7 : PL) (ix3 j a f) = PA m c (ix4 3 j a f) := by
  refine Eq.trans (congrFun ?_ _) (layer_part (PA m c) 3 slices_S4x8x256x2048_S1x8x256x2048_3_0_0_0 shapeCasts_S1x8x256x2048_S8x256x2048 j a f)
  simp only [V, hostOps0]
  after_results_simp <;> rfl

theorem V_w (c : Dev nD) (i : S1024x2048.Idx) : (V m c main_v8 : XO) i = WA m c (idx_main_v26 i) := by
  refine Eq.trans (congrFun ?_ _) (layers_flat (WA m c) i)
  simp only [V, hostOps0]
  after_results_simp <;> rfl

theorem V_m (c : Dev nD) (i : S1024x2048.Idx) : (V m c main_v9 : XO) i = MA m c (idx_main_v26 i) := by
  refine Eq.trans (congrFun ?_ _) (layers_flat (MA m c) i)
  simp only [V, hostOps0]
  after_results_simp <;> rfl

theorem V_v (c : Dev nD) (i : S1024x2048.Idx) : (V m c main_v10 : XO) i = VA m c (idx_main_v26 i) := by
  refine Eq.trans (congrFun ?_ _) (layers_flat (VA m c) i)
  simp only [V, hostOps0]
  after_results_simp <;> rfl

/-! ## Where a point's blocks lie -/

theorem idx_facts : ∀ t : Fin cfg0.N,
    (win0_0.index t (0 : Fin 3) = 0 ∧ (t.val / 2 = 0 → win0_0.index t (1 : Fin 3) = t.val % 2) ∧ win0_0.index t (2 : Fin 3) = 0)
    ∧ (win0_1.index t (0 : Fin 3) = 0 ∧ (t.val / 2 = 1 → win0_1.index t (1 : Fin 3) = t.val % 2) ∧ win0_1.index t (2 : Fin 3) = 0)
    ∧ (win0_2.index t (0 : Fin 3) = 0 ∧ (t.val / 2 = 2 → win0_2.index t (1 : Fin 3) = t.val % 2) ∧ win0_2.index t (2 : Fin 3) = 0)
    ∧ (win0_3.index t (0 : Fin 3) = 0 ∧ (t.val / 2 = 3 → win0_3.index t (1 : Fin 3) = t.val % 2) ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row `r` of point `t`'s block, as a row of the flat arrays, and of its layer. -/
def row (t : Fin cfg0.N) (r : Fin 128) : Fin 1024 := ⟨t.val * 128 + r.val, by have := lt_N t; omega⟩
def lrow (t : Fin cfg0.N) (r : Fin 128) : Fin 256 := ⟨t.val % 2 * 128 + r.val, by omega⟩

/-- The point whose blocks hold a flat row. -/
theorem pt (i : S1024x2048.Idx) : ∃ t : Fin cfg0.N, t.val * 128 ≤ (i 0).val ∧ (i 0).val < t.val * 128 + 128 ∧ (i 1).val < 2048 := by
  have h0 : (i 0).val < 1024 := (i 0).isLt
  refine ⟨⟨(i 0).val / 128, lt_of_lt_of_eq (by omega : _ < 8) N_0.symm⟩, ?_, ?_, (i 1).isLt⟩
  · show (i 0).val / 128 * 128 ≤ _; omega
  · show _ < (i 0).val / 128 * 128 + 128; omega

/-- The layer of a flat row, and the row within the layer. -/
theorem flat (t : Fin cfg0.N) (r : Fin 128) (f : Fin 2048) (l : Fin 4) (h : t.val / 2 = l.val) (j : Fin 8) :
    idx_main_v1 (idx_main_v26 (ix2 (row t r) f)) j = ix4 l j (lrow t r) f := by
  have hN := lt_N t
  refine funext fun a => Fin.ext ?_
  match a with
  | ⟨0, _⟩ => show ((t.val * 128 + r.val) * 2048 + f.val) / 524288 = l.val; omega
  | ⟨1, _⟩ => rfl
  | ⟨2, _⟩ => show ((t.val * 128 + r.val) * 2048 + f.val) / 2048 % 256 = t.val % 2 * 128 + r.val; omega
  | ⟨3, _⟩ => show ((t.val * 128 + r.val) * 2048 + f.val) % 2048 = f.val; omega

theorem blk4 (c : Dev nD) (t : Fin cfg0.N) (r : Fin 128) (f : Fin 2048) :
    (iblk m c 4 t : XB) (ix2 r f) = WA m c (idx_main_v26 (ix2 (row t r) f)) := by
  rw [← V_w m c]
  exact at_row (V m c main_v8) _ (row t r) r f rfl rfl (idx_facts t).2.2.2.2.1.1 (idx_facts t).2.2.2.2.1.2 rfl

theorem blk5 (c : Dev nD) (t : Fin cfg0.N) (r : Fin 128) (f : Fin 2048) :
    (iblk m c 5 t : XB) (ix2 r f) = MA m c (idx_main_v26 (ix2 (row t r) f)) := by
  rw [← V_m m c]
  exact at_row (V m c main_v9) _ (row t r) r f rfl rfl (idx_facts t).2.2.2.2.2.1.1 (idx_facts t).2.2.2.2.2.1.2 rfl

theorem blk6 (c : Dev nD) (t : Fin cfg0.N) (r : Fin 128) (f : Fin 2048) :
    (iblk m c 6 t : XB) (ix2 r f) = VA m c (idx_main_v26 (ix2 (row t r) f)) := by
  rw [← V_v m c]
  exact at_row (V m c main_v10) _ (row t r) r f rfl rfl (idx_facts t).2.2.2.2.2.2.1.1 (idx_facts t).2.2.2.2.2.2.1.2 rfl

/-! ## The reference -/

/-- The gradient's entry: the sum of the devices' parts. -/
def gE (c : Dev nD) (i : S1024x2048.Idx) : EReal := ∑ j : Fin 8, (show EReal from PA m c (idx_main_v1 (idx_main_v26 i) j))

/-- The results, as the reference computes them. -/
abbrev G7 (c : Dev nD) : XO := val_main_v26 (F := Ideal) (m ((c : Thread nD τ).loc main_arg0))
abbrev G8 (c : Dev nD) : XO := val_main_v27 (F := Ideal) (m ((c : Thread nD τ).loc main_arg0))
  (m ((c : Thread nD τ).loc main_arg1)) (m ((c : Thread nD τ).loc main_arg2)) (m ((c : Thread nD τ).loc main_arg3))
abbrev G9 (c : Dev nD) : XO := val_main_v28 (F := Ideal) (m ((c : Thread nD τ).loc main_arg0))
  (m ((c : Thread nD τ).loc main_arg2))
abbrev G10 (c : Dev nD) : XO := val_main_v29 (F := Ideal) (m ((c : Thread nD τ).loc main_arg0))
  (m ((c : Thread nD τ).loc main_arg3))

theorem g_eq (c : Dev nD) (i : S1024x2048.Idx) : (show EReal from val_main_v1 (F := Ideal) (PA m c) (idx_main_v26 i)) = gE m c i := by
  rw [val_main_v1_apply, val_main_cst_apply]
  show Ideal.ofBits .f32 0x00000000#32 + _ = _
  rw [ofBits_zero, EReal.coe_zero, zero_add]
  rfl

theorem G7_apply (c : Dev nD) (i : S1024x2048.Idx) : (show EReal from G7 m c i) = gE m c i := by
  unfold G7
  rw [val_main_v26_apply]
  exact g_eq m c i

theorem m_eq (c : Dev nD) (i : S1024x2048.Idx) : (show EReal from val_main_v6 (F := Ideal) (PA m c) (MA m c) (idx_main_v26 i))
    = mN (gE m c i) (MA m c (idx_main_v26 i)) := by
  rw [val_main_v6_apply, val_main_v3_apply, val_main_v2_apply, val_main_v5_apply, val_main_v4_apply,
    val_main_cst_0_apply, val_main_cst_1_apply, ← g_eq]
  rfl

theorem v_eq (c : Dev nD) (i : S1024x2048.Idx) : (show EReal from val_main_v12 (F := Ideal) (PA m c) (VA m c) (idx_main_v26 i))
    = vN (gE m c i) (VA m c (idx_main_v26 i)) := by
  rw [val_main_v12_apply, val_main_v8_apply, val_main_v7_apply, val_main_v11_apply, val_main_v10_apply,
    val_main_v9_apply, val_main_cst_2_apply, val_main_cst_3_apply, ← g_eq]
  rfl

theorem G9_apply (c : Dev nD) (i : S1024x2048.Idx) : (show EReal from G9 m c i) = mN (gE m c i) (MA m c (idx_main_v26 i)) := by
  unfold G9
  rw [val_main_v28_apply]
  exact m_eq m c i

theorem G10_apply (c : Dev nD) (i : S1024x2048.Idx) : (show EReal from G10 m c i) = vN (gE m c i) (VA m c (idx_main_v26 i)) := by
  unfold G10
  rw [val_main_v29_apply]
  exact v_eq m c i

theorem G8_apply (c : Dev nD) (i : S1024x2048.Idx) : (show EReal from G8 m c i)
    = dN (gE m c i) (WA m c (idx_main_v26 i)) (MA m c (idx_main_v26 i)) (VA m c (idx_main_v26 i)) := by
  unfold G8 dN
  rw [val_main_v27_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply,
    val_main_cst_4_apply, val_main_cst_5_apply, val_main_cst_6_apply, val_main_cst_7_apply, val_main_cst_8_apply,
    ← m_eq, ← v_eq]
  rfl

/-! ## The whole arrays -/

/-- Every point works on one of the four layers. -/
theorem layer (t : Fin cfg0.N) : t.val / 2 = 0 ∨ t.val / 2 = 1 ∨ t.val / 2 = 2 ∨ t.val / 2 = 3 := by
  have := lt_N t
  omega

theorem g0 (c : Dev nD) (t : Fin cfg0.N) (h : t.val / 2 = 0) (r : Fin 128) (f : Fin 2048) :
    (show EReal from gs (iblk m c 0 t) (ix2 r f)) = gE m c (ix2 (row t r) f) := by
  rw [gs_apply]
  refine Finset.sum_congr rfl fun j _ => ?_
  rw [flat t r f 0 h j, ← V_p0 m c]
  exact at_part (V m c main_v1) _ j (lrow t r) r f rfl rfl rfl (idx_facts t).1.1 ((idx_facts t).1.2.1 h) (idx_facts t).1.2.2 rfl

theorem g1 (c : Dev nD) (t : Fin cfg0.N) (h : t.val / 2 = 1) (r : Fin 128) (f : Fin 2048) :
    (show EReal from gs (iblk m c 1 t) (ix2 r f)) = gE m c (ix2 (row t r) f) := by
  rw [gs_apply]
  refine Finset.sum_congr rfl fun j _ => ?_
  rw [flat t r f 1 h j, ← V_p1 m c]
  exact at_part (V m c main_v3) _ j (lrow t r) r f rfl rfl rfl (idx_facts t).2.1.1 ((idx_facts t).2.1.2.1 h) (idx_facts t).2.1.2.2 rfl

theorem g2 (c : Dev nD) (t : Fin cfg0.N) (h : t.val / 2 = 2) (r : Fin 128) (f : Fin 2048) :
    (show EReal from gs (iblk m c 2 t) (ix2 r f)) = gE m c (ix2 (row t r) f) := by
  rw [gs_apply]
  refine Finset.sum_congr rfl fun j _ => ?_
  rw [flat t r f 2 h j, ← V_p2 m c]
  exact at_part (V m c main_v5) _ j (lrow t r) r f rfl rfl rfl (idx_facts t).2.2.1.1 ((idx_facts t).2.2.1.2.1 h) (idx_facts t).2.2.1.2.2 rfl

theorem g3 (c : Dev nD) (t : Fin cfg0.N) (h : t.val / 2 = 3) (r : Fin 128) (f : Fin 2048) :
    (show EReal from gs (iblk m c 3 t) (ix2 r f)) = gE m c (ix2 (row t r) f) := by
  rw [gs_apply]
  refine Finset.sum_congr rfl fun j _ => ?_
  rw [flat t r f 3 h j, ← V_p3 m c]
  exact at_part (V m c main_v7) _ j (lrow t r) r f rfl rfl rfl (idx_facts t).2.2.2.1.1 ((idx_facts t).2.2.2.1.2.1 h) (idx_facts t).2.2.2.1.2.2 rfl

theorem flushed7_eq (c : Dev nD) (t : Fin cfg0.N) :
    (dats m 0 c).flushed 7 t = ((cfg0.win 7).blk t).view.read (Elt Ideal) (G7 m c) := by
  funext y
  obtain ⟨r, f, rfl⟩ := eq_blk y
  refine Eq.trans ?_ ((at_row (G7 m c) _ (row t r) r f rfl rfl (idx_facts t).2.2.2.2.2.2.2.1.1 (idx_facts t).2.2.2.2.2.2.2.1.2 rfl).trans
    (G7_apply m c (ix2 (row t r) f))).symm
  rcases layer t with h | h | h | h
  · rw [(outA m c t h).1]; exact g0 m c t h r f
  · rw [(outB m c t h).1]; exact g1 m c t h r f
  · rw [(outC m c t h).1]; exact g2 m c t h r f
  · rw [(outD m c t h).1]; exact g3 m c t h r f

theorem cover7 (i : S1024x2048.Idx) : ∃ t : Fin cfg0.N, (cfg0.win 7).flush t = true ∧ i ∈ ((cfg0.win 7).blk t).view.set := by
  obtain ⟨t, h0, h1, h2⟩ := pt i
  obtain ⟨e0, e1⟩ := (idx_facts t).2.2.2.2.2.2.2.1
  refine ⟨t, flush0_7 t, ?_⟩
  show i ∈ ((View.whole main_v11_0).slice (win0_7.rect t)).set
  rw [View.set_slice_whole, Rect.mem_set_unit]
  intro a
  match a with
  | ⟨0, _⟩ => show win0_7.index t 0 * 128 ≤ (i 0).val ∧ (i 0).val < win0_7.index t 0 * 128 + 128; omega
  | ⟨1, _⟩ => show win0_7.index t 1 * 2048 ≤ (i 1).val ∧ (i 1).val < win0_7.index t 1 * 2048 + 2048; omega

theorem flushed8_eq (c : Dev nD) (t : Fin cfg0.N) :
    (dats m 0 c).flushed 8 t = ((cfg0.win 8).blk t).view.read (Elt Ideal) (G8 m c) := by
  funext y
  obtain ⟨r, f, rfl⟩ := eq_blk y
  refine Eq.trans ?_ ((at_row (G8 m c) _ (row t r) r f rfl rfl (idx_facts t).2.2.2.2.2.2.2.2.1.1 (idx_facts t).2.2.2.2.2.2.2.2.1.2 rfl).trans
    (G8_apply m c (ix2 (row t r) f))).symm
  rcases layer t with h | h | h | h
  · rw [(outA m c t h).2.1]; exact (d_apply _ _ _ _ _).trans (congr (congr (congrArg₂ dN (g0 m c t h r f) (blk4 m c t r f)) (blk5 m c t r f)) (blk6 m c t r f))
  · rw [(outB m c t h).2.1]; exact (d_apply _ _ _ _ _).trans (congr (congr (congrArg₂ dN (g1 m c t h r f) (blk4 m c t r f)) (blk5 m c t r f)) (blk6 m c t r f))
  · rw [(outC m c t h).2.1]; exact (d_apply _ _ _ _ _).trans (congr (congr (congrArg₂ dN (g2 m c t h r f) (blk4 m c t r f)) (blk5 m c t r f)) (blk6 m c t r f))
  · rw [(outD m c t h).2.1]; exact (d_apply _ _ _ _ _).trans (congr (congr (congrArg₂ dN (g3 m c t h r f) (blk4 m c t r f)) (blk5 m c t r f)) (blk6 m c t r f))

theorem cover8 (i : S1024x2048.Idx) : ∃ t : Fin cfg0.N, (cfg0.win 8).flush t = true ∧ i ∈ ((cfg0.win 8).blk t).view.set := by
  obtain ⟨t, h0, h1, h2⟩ := pt i
  obtain ⟨e0, e1⟩ := (idx_facts t).2.2.2.2.2.2.2.2.1
  refine ⟨t, flush0_8 t, ?_⟩
  show i ∈ ((View.whole main_v11_1).slice (win0_8.rect t)).set
  rw [View.set_slice_whole, Rect.mem_set_unit]
  intro a
  match a with
  | ⟨0, _⟩ => show win0_8.index t 0 * 128 ≤ (i 0).val ∧ (i 0).val < win0_8.index t 0 * 128 + 128; omega
  | ⟨1, _⟩ => show win0_8.index t 1 * 2048 ≤ (i 1).val ∧ (i 1).val < win0_8.index t 1 * 2048 + 2048; omega

theorem flushed9_eq (c : Dev nD) (t : Fin cfg0.N) :
    (dats m 0 c).flushed 9 t = ((cfg0.win 9).blk t).view.read (Elt Ideal) (G9 m c) := by
  funext y
  obtain ⟨r, f, rfl⟩ := eq_blk y
  refine Eq.trans ?_ ((at_row (G9 m c) _ (row t r) r f rfl rfl (idx_facts t).2.2.2.2.2.2.2.2.2.1.1 (idx_facts t).2.2.2.2.2.2.2.2.2.1.2 rfl).trans
    (G9_apply m c (ix2 (row t r) f))).symm
  rcases layer t with h | h | h | h
  · rw [(outA m c t h).2.2.1]; exact (m_apply _ _ _).trans (congrArg₂ mN (g0 m c t h r f) (blk5 m c t r f))
  · rw [(outB m c t h).2.2.1]; exact (m_apply _ _ _).trans (congrArg₂ mN (g1 m c t h r f) (blk5 m c t r f))
  · rw [(outC m c t h).2.2.1]; exact (m_apply _ _ _).trans (congrArg₂ mN (g2 m c t h r f) (blk5 m c t r f))
  · rw [(outD m c t h).2.2.1]; exact (m_apply _ _ _).trans (congrArg₂ mN (g3 m c t h r f) (blk5 m c t r f))

theorem cover9 (i : S1024x2048.Idx) : ∃ t : Fin cfg0.N, (cfg0.win 9).flush t = true ∧ i ∈ ((cfg0.win 9).blk t).view.set := by
  obtain ⟨t, h0, h1, h2⟩ := pt i
  obtain ⟨e0, e1⟩ := (idx_facts t).2.2.2.2.2.2.2.2.2.1
  refine ⟨t, flush0_9 t, ?_⟩
  show i ∈ ((View.whole main_v11_2).slice (win0_9.rect t)).set
  rw [View.set_slice_whole, Rect.mem_set_unit]
  intro a
  match a with
  | ⟨0, _⟩ => show win0_9.index t 0 * 128 ≤ (i 0).val ∧ (i 0).val < win0_9.index t 0 * 128 + 128; omega
  | ⟨1, _⟩ => show win0_9.index t 1 * 2048 ≤ (i 1).val ∧ (i 1).val < win0_9.index t 1 * 2048 + 2048; omega

theorem flushed10_eq (c : Dev nD) (t : Fin cfg0.N) :
    (dats m 0 c).flushed 10 t = ((cfg0.win 10).blk t).view.read (Elt Ideal) (G10 m c) := by
  funext y
  obtain ⟨r, f, rfl⟩ := eq_blk y
  refine Eq.trans ?_ ((at_row (G10 m c) _ (row t r) r f rfl rfl (idx_facts t).2.2.2.2.2.2.2.2.2.2.1 (idx_facts t).2.2.2.2.2.2.2.2.2.2.2 rfl).trans
    (G10_apply m c (ix2 (row t r) f))).symm
  rcases layer t with h | h | h | h
  · rw [(outA m c t h).2.2.2]; exact (v_apply _ _ _).trans (congrArg₂ vN (g0 m c t h r f) (blk6 m c t r f))
  · rw [(outB m c t h).2.2.2]; exact (v_apply _ _ _).trans (congrArg₂ vN (g1 m c t h r f) (blk6 m c t r f))
  · rw [(outC m c t h).2.2.2]; exact (v_apply _ _ _).trans (congrArg₂ vN (g2 m c t h r f) (blk6 m c t r f))
  · rw [(outD m c t h).2.2.2]; exact (v_apply _ _ _).trans (congrArg₂ vN (g3 m c t h r f) (blk6 m c t r f))

theorem cover10 (i : S1024x2048.Idx) : ∃ t : Fin cfg0.N, (cfg0.win 10).flush t = true ∧ i ∈ ((cfg0.win 10).blk t).view.set := by
  obtain ⟨t, h0, h1, h2⟩ := pt i
  obtain ⟨e0, e1⟩ := (idx_facts t).2.2.2.2.2.2.2.2.2.2
  refine ⟨t, flush0_10 t, ?_⟩
  show i ∈ ((View.whole main_v11_3).slice (win0_10.rect t)).set
  rw [View.set_slice_whole, Rect.mem_set_unit]
  intro a
  match a with
  | ⟨0, _⟩ => show win0_10.index t 0 * 128 ≤ (i 0).val ∧ (i 0).val < win0_10.index t 0 * 128 + 128; omega
  | ⟨1, _⟩ => show win0_10.index t 1 * 2048 ≤ (i 1).val ∧ (i 1).val < win0_10.index t 1 * 2048 + 2048; omega

variable (ρ : Dev nD → PrngReg)

/-- THE CALL: its results are the reference's, and the arguments end unchanged. -/
theorem run : θ_run defs (onTc (τ := τ) (main (F := Ideal))) ⟨m, fun _ => 0, ρ⟩ fun r => ∀ c : Dev nD,
      r.2.mem ((c : Thread nD τ).loc main_v11_0) = G7 m c
      ∧ r.2.mem ((c : Thread nD τ).loc main_v11_1) = G8 m c
      ∧ r.2.mem ((c : Thread nD τ).loc main_v11_2) = G9 m c
      ∧ r.2.mem ((c : Thread nD τ).loc main_v11_3) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 7 (G7 m c) (fun t _ => flushed7_eq m c t) cover7),
      (h c).2.1.trans ((dats m 0 c).arrAt_eq_of_cover 8 (G8 m c) (fun t _ => flushed8_eq m c t) cover8),
      (h c).2.2.1.trans ((dats m 0 c).arrAt_eq_of_cover 9 (G9 m c) (fun t _ => flushed9_eq m c t) cover9),
      (h c).2.2.2.1.trans ((dats m 0 c).arrAt_eq_of_cover 10 (G10 m c) (fun t _ => flushed10_eq m c t) cover10), (h c).2.2.2.2⟩)
    (Value.run_blocks m ρ)

end Cert.AdOut

end
-- ==== Proof.AdOutClaims.lean ====
/-
  The claims on the optimiser's call on the output projection of the mixer.
-/
module

public import proofs.«01_k».proof.Proof.AdOut

@[expose] public section

noncomputable section

namespace Cert.AdOut

open Idealize.ShloMosaic Idealize.ShloMosaic.TcCoe Idealize.SL.Sem

/-- The reference ends with every semaphore at zero, its arguments unchanged. -/
theorem frame_ref : Cert.quiescent_Reference22Ideal := fun m ρ _ =>
  (θ_run Cert.Reference22Ideal.defs _ _).mono (fun r h =>
      ⟨fun c => (h c).2.2.2.2, Idealize.ShloMosaic.sem_eq_zero_of_no_sems (by decide) r.2⟩)
    (Cert.Reference22Ideal.Value.run (F := Ideal) m ρ)

/-- The call computes the reference's results on all extended reals. -/
theorem algebraic : Cert.algebraic_Kernel22Ideal_Reference22Ideal := fun m ρ m' ρ' _ hag =>
  ⟨G7 m, G8 m, G9 m, G10 m, run m ρ, (θ_run _ _ _).mono (fun _ h c => by
    obtain ⟨e0, e1, e2, e3⟩ := hag c
    refine ⟨?_, ?_, ?_, ?_, (h c).2.2.2.2⟩
    · rw [(h c).1, Cert.Reference22Ideal.Read.val_main_v26_eq, e0]
    · rw [(h c).2.1, Cert.Reference22Ideal.Read.val_main_v27_eq, e0, e1, e2, e3]
    · rw [(h c).2.2.1, Cert.Reference22Ideal.Read.val_main_v28_eq, e0, e2]
    · rw [(h c).2.2.2.1, Cert.Reference22Ideal.Read.val_main_v29_eq, e0, e3]) (Cert.Reference22Ideal.Value.run (F := Ideal) m' ρ')⟩

end Cert.AdOut

end
-- ==== Proof.AdUkv.lean ====
/-
  The optimiser's call on the weight of the latent attention's keys and values, over the reals: the arrays that the call returns are the
  sum of the devices' parts of the gradient, and the update, the mean and the square mean that AdamW forms from it.
-/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Reals
public import proofs.«01_k».proof.Proof.Adam

@[expose] public section

set_option maxRecDepth 16384

noncomputable section

namespace Cert.AdUkv

open Idealize.ShloMosaic Idealize.ShloMosaic.TcCoe Idealize.SL.Sem Cert.Reals Cert.Adam
open Idealize.ShloMosaic.ValueIdx
open Cert.Kernel24Ideal Cert.Kernel24Ideal.Gen Cert.Reference24Ideal.Read

/-- A block of the parts, a block of a result, a result, and one layer's parts. -/
abbrev PB := Vec Ideal S8x256x256 .bf16
abbrev XB := FVec Ideal S256x256 .f32
abbrev XO := FVec Ideal S2048x256 .f32
abbrev PL := FVec Ideal S8x512x256 .bf16

theorem hz2 : (![0, 0] : Fin 2 → Nat) = fun _ => 0 := funext fun a => by fin_cases a <;> rfl

/-! ## The body of one layer's case -/

/-- One device's part of the block. -/
def sl (P : PB) (j : Fin 8) : Vec Ideal S1x256x256 .bf16 := fun y => P (ix3 j (y 1) (y 2))

/-- The sum of the eight parts of the block, as the body forms it. -/
def gs (P : PB) : XB :=
  k0_pay13 (F := Ideal) (sl P 0) (sl P 1) (sl P 2) (sl P 3) (sl P 4) (sl P 5) (sl P 6) (sl P 7)

theorem gs_apply (P : PB) (r : Fin 256) (f : Fin 256) :
    (show EReal from gs P (ix2 r f)) = ∑ j : Fin 8, (show EReal from P (ix3 j r f)) := by
  have hs := fun j : Fin 8 => cast_one (sl P j) shapeCasts_S1x256x256_S256x256 r f
  refine Eq.trans ?_ (Fin.sum_univ_eight _).symm
  rw [← show _ = P (ix3 0 r f) from hs 0, ← show _ = P (ix3 1 r f) from hs 1, ← show _ = P (ix3 2 r f) from hs 2, ← show _ = P (ix3 3 r f) from hs 3,
    ← show _ = P (ix3 4 r f) from hs 4, ← show _ = P (ix3 5 r f) from hs 5, ← show _ = P (ix3 6 r f) from hs 6, ← show _ = P (ix3 7 r f) from hs 7]
  rfl

/-- The new mean, the new square mean and the update of a block. -/
def mB (P : PB) (x5 : XB) : XB :=
  k0_pay1 (F := Ideal) (gs P) (k0_pay14 x5) (FloatOps.ofBits .f32 0x3F666666#32)
def vB (P : PB) (x6 : XB) : XB := k0_pay2 (F := Ideal) (gs P) x6
def dB (P : PB) (x4 x5 x6 : XB) : XB :=
  k0_pay3 (F := Ideal) (gs P) (k0_pay14 x5) (FloatOps.ofBits .f32 0x3F666666#32) x6 x4

theorem m_apply (P : PB) (x5 : XB) (i : S256x256.Idx) :
    (show EReal from mB P x5 i) = mN (gs P i) (x5 i) := by
  unfold mB k0_pay1 k0_pay14
  dsimp only
  rw [cast_same]
  rfl

theorem v_apply (P : PB) (x6 : XB) (i : S256x256.Idx) :
    (show EReal from vB P x6 i) = vN (gs P i) (x6 i) := by
  unfold vB k0_pay2
  dsimp only
  rw [cast_same]
  rfl

theorem d_apply (P : PB) (x4 x5 x6 : XB) (i : S256x256.Idx) :
    (show EReal from dB P x4 x5 x6 i) = dN (gs P i) (x4 i) (x5 i) (x6 i) := by
  unfold dB k0_pay3 dN
  dsimp only
  rw [cast_same, ← m_apply P x5 i, ← v_apply P x6 i]
  rfl

variable (m : (ℓ : Loc nD τ sig) → Buf (Elt Ideal) ℓ)

/-- A load of one device's part. -/
theorem rd (x : PB) (j : ℕ) (inb : ∀ a, (![j, 0, 0] : Fin 3 → Nat) a + S1x256x256.size a ≤ S8x256x256.size a) :
    View.ld x (Rect.unit (s := S8x256x256) ![j, 0, 0] S1x256x256.size inb) = sl x ⟨j, by have := inb 0; exact this⟩ := by
  funext y
  have h0 : (y 0).val < 1 := (y 0).isLt
  refine congrArg x (funext fun a => Fin.ext ?_)
  match a with
  | ⟨0, _⟩ => show j + 1 * (y 0).val = j; omega
  | ⟨1, _⟩ => show 0 + 1 * (y 1).val = (y 1).val; omega
  | ⟨2, _⟩ => show 0 + 1 * (y 2).val = (y 2).val; omega

/-- The sum of the eight loads. -/
theorem rd8 (M : Memref sig .tc .vmem S8x256x256 .bf16) (h : M.IsWhole) (x : PB) :
    k0_pay13 (F := Ideal) (View.ld (M.view.read (Elt Ideal) (h.unread x)) (Rect.unit (s := S8x256x256) ![0, 0, 0] S1x256x256.size inb_S8x256x256_S1x256x256_0_0_0))
      (View.ld (M.view.read (Elt Ideal) (h.unread x)) (Rect.unit (s := S8x256x256) ![1, 0, 0] S1x256x256.size inb_S8x256x256_S1x256x256_1_0_0))
      (View.ld (M.view.read (Elt Ideal) (h.unread x)) (Rect.unit (s := S8x256x256) ![2, 0, 0] S1x256x256.size inb_S8x256x256_S1x256x256_2_0_0))
      (View.ld (M.view.read (Elt Ideal) (h.unread x)) (Rect.unit (s := S8x256x256) ![3, 0, 0] S1x256x256.size inb_S8x256x256_S1x256x256_3_0_0))
      (View.ld (M.view.read (Elt Ideal) (h.unread x)) (Rect.unit (s := S8x256x256) ![4, 0, 0] S1x256x256.size inb_S8x256x256_S1x256x256_4_0_0))
      (View.ld (M.view.read (Elt Ideal) (h.unread x)) (Rect.unit (s := S8x256x256) ![5, 0, 0] S1x256x256.size inb_S8x256x256_S1x256x256_5_0_0))
      (View.ld (M.view.read (Elt Ideal) (h.unread x)) (Rect.unit (s := S8x256x256) ![6, 0, 0] S1x256x256.size inb_S8x256x256_S1x256x256_6_0_0))
      (View.ld (M.view.read (Elt Ideal) (h.unread x)) (Rect.unit (s := S8x256x256) ![7, 0, 0] S1x256x256.size inb_S8x256x256_S1x256x256_7_0_0))
      = gs x := by
  rw [h.read_unread]
  unfold gs
  exact congr (congr (congr (congr (congr (congr (congr (congrArg _ (rd x 0 _)) (rd x 1 _)) (rd x 2 _)) (rd x 3 _)) (rd x 4 _)) (rd x 5 _)) (rd x 6 _)) (rd x 7 _)

/-- The four cases have the same body. -/
theorem pB : @k0_pay15 Ideal _ = k0_pay13 ∧ @k0_pay16 Ideal = k0_pay14 ∧ @k0_pay4 Ideal _ = k0_pay1 ∧ @k0_pay5 Ideal _ = k0_pay2
    ∧ @k0_pay6 Ideal _ = k0_pay3 := ⟨rfl, rfl, rfl, rfl, rfl⟩
theorem pC : @k0_pay17 Ideal _ = k0_pay13 ∧ @k0_pay18 Ideal = k0_pay14 ∧ @k0_pay7 Ideal _ = k0_pay1 ∧ @k0_pay8 Ideal _ = k0_pay2
    ∧ @k0_pay9 Ideal _ = k0_pay3 := ⟨rfl, rfl, rfl, rfl, rfl⟩
theorem pD : @k0_pay19 Ideal _ = k0_pay13 ∧ @k0_pay20 Ideal = k0_pay14 ∧ @k0_pay10 Ideal _ = k0_pay1 ∧ @k0_pay11 Ideal _ = k0_pay2
    ∧ @k0_pay12 Ideal _ = k0_pay3 := ⟨rfl, rfl, rfl, rfl, rfl⟩

/-- A load of a whole block. -/
theorem rdw (M : Memref sig .tc .vmem S256x256 .f32) (h : M.IsWhole) (x : XB)
    (inb : ∀ a, (![0, 0] : Fin 2 → Nat) a + S256x256.size a ≤ S256x256.size a) :
    View.ld (M.view.read (Elt Ideal) (h.unread x)) (Rect.unit (s := S256x256) ![0, 0] S256x256.size inb) = x := by
  rw [h.read_unread]
  exact View.ld_unit_zero hz2 _ _

theorem lt_N (t : Fin cfg0.N) : t.val < 8 := lt_of_lt_of_eq t.isLt N_0

/-! ## What a point writes back, by the layer that it works on -/

theorem outA (c : Dev nD) (t : Fin cfg0.N) (h : t.val / 2 = 0) :
    (dats m 0 c).flushed 7 t = gs (iblk m c 0 t)
    ∧ (dats m 0 c).flushed 8 t = dB (iblk m c 0 t) (iblk m c 4 t) (iblk m c 5 t) (iblk m c 6 t)
    ∧ (dats m 0 c).flushed 9 t = mB (iblk m c 0 t) (iblk m c 5 t)
    ∧ (dats m 0 c).flushed 10 t = vB (iblk m c 0 t) (iblk m c 6 t) := by
  have hN := lt_N t
  refine ⟨?_, ?_, ?_, ?_⟩
  rw [Value.flushed7_A m c t (by omega) (by omega) (by omega) (by omega)]
  refine (View.read_writes_eq_canon _ _ _ (by intro y; apply cover0_A_7)).trans ?_
  rotate_left
  rw [Value.flushed8_A m c t (by omega) (by omega) (by omega) (by omega)]
  refine (View.read_writes_eq_canon _ _ _ (by intro y; apply cover0_A_8)).trans ?_
  rotate_left
  rw [Value.flushed9_A m c t (by omega) (by omega) (by omega) (by omega)]
  refine (View.read_writes_eq_canon _ _ _ (by intro y; apply cover0_A_9)).trans ?_
  rotate_left
  rw [Value.flushed10_A m c t (by omega) (by omega) (by omega) (by omega)]
  refine (View.read_writes_eq_canon _ _ _ (by intro y; apply cover0_A_10)).trans ?_
  rotate_left
  all_goals
    unfold kernelRun0_A
    dsimp only
    sl_unfold_words
    refine (View.canon_unit_zero (S := S256x256) hz2 _ _).trans ?_
    simp only [View.readAt_eq_ld]
  · exact rd8 _ (hs0_0 t) _
  · unfold dB
    exact congr (congr (congrFun (congr (congrArg k0_pay3 (rd8 _ (hs0_0 t) _)) (congrArg k0_pay14 (rdw _ (hs0_5 t) _ _))) _) (rdw _ (hs0_6 t) _ _))
      (rdw _ (hs0_4 t) _ _)
  · unfold mB
    exact congrFun (congr (congrArg k0_pay1 (rd8 _ (hs0_0 t) _)) (congrArg k0_pay14 (rdw _ (hs0_5 t) _ _))) _
  · unfold vB
    exact congr (congrArg k0_pay2 (rd8 _ (hs0_0 t) _)) (rdw _ (hs0_6 t) _ _)

theorem outB (c : Dev nD) (t : Fin cfg0.N) (h : t.val / 2 = 1) :
    (dats m 0 c).flushed 7 t = gs (iblk m c 1 t)
    ∧ (dats m 0 c).flushed 8 t = dB (iblk m c 1 t) (iblk m c 4 t) (iblk m c 5 t) (iblk m c 6 t)
    ∧ (dats m 0 c).flushed 9 t = mB (iblk m c 1 t) (iblk m c 5 t)
    ∧ (dats m 0 c).flushed 10 t = vB (iblk m c 1 t) (iblk m c 6 t) := by
  have hN := lt_N t
  refine ⟨?_, ?_, ?_, ?_⟩
  rw [Value.flushed7_B m c t (by omega) (by omega) (by omega) (by omega)]
  refine (View.read_writes_eq_canon _ _ _ (by intro y; apply cover0_B_7)).trans ?_
  rotate_left
  rw [Value.flushed8_B m c t (by omega) (by omega) (by omega) (by omega)]
  refine (View.read_writes_eq_canon _ _ _ (by intro y; apply cover0_B_8)).trans ?_
  rotate_left
  rw [Value.flushed9_B m c t (by omega) (by omega) (by omega) (by omega)]
  refine (View.read_writes_eq_canon _ _ _ (by intro y; apply cover0_B_9)).trans ?_
  rotate_left
  rw [Value.flushed10_B m c t (by omega) (by omega) (by omega) (by omega)]
  refine (View.read_writes_eq_canon _ _ _ (by intro y; apply cover0_B_10)).trans ?_
  rotate_left
  all_goals
    unfold kernelRun0_B
    dsimp only
    sl_unfold_words
    refine (View.canon_unit_zero (S := S256x256) hz2 _ _).trans ?_
    simp only [View.readAt_eq_ld, pB]
  · exact rd8 _ (hs0_1 t) _
  · unfold dB
    exact congr (congr (congrFun (congr (congrArg k0_pay3 (rd8 _ (hs0_1 t) _)) (congrArg k0_pay14 (rdw _ (hs0_5 t) _ _))) _) (rdw _ (hs0_6 t) _ _))
      (rdw _ (hs0_4 t) _ _)
  · unfold mB
    exact congrFun (congr (congrArg k0_pay1 (rd8 _ (hs0_1 t) _)) (congrArg k0_pay14 (rdw _ (hs0_5 t) _ _))) _
  · unfold vB
    exact congr (congrArg k0_pay2 (rd8 _ (hs0_1 t) _)) (rdw _ (hs0_6 t) _ _)

theorem outC (c : Dev nD) (t : Fin cfg0.N) (h : t.val / 2 = 2) :
    (dats m 0 c).flushed 7 t = gs (iblk m c 2 t)
    ∧ (dats m 0 c).flushed 8 t = dB (iblk m c 2 t) (iblk m c 4 t) (iblk m c 5 t) (iblk m c 6 t)
    ∧ (dats m 0 c).flushed 9 t = mB (iblk m c 2 t) (iblk m c 5 t)
    ∧ (dats m 0 c).flushed 10 t = vB (iblk m c 2 t) (iblk m c 6 t) := by
  have hN := lt_N t
  refine ⟨?_, ?_, ?_, ?_⟩
  rw [Value.flushed7_C m c t (by omega) (by omega) (by omega) (by omega)]
  refine (View.read_writes_eq_canon _ _ _ (by intro y; apply cover0_C_7)).trans ?_
  rotate_left
  rw [Value.flushed8_C m c t (by omega) (by omega) (by omega) (by omega)]
  refine (View.read_writes_eq_canon _ _ _ (by intro y; apply cover0_C_8)).trans ?_
  rotate_left
  rw [Value.flushed9_C m c t (by omega) (by omega) (by omega) (by omega)]
  refine (View.read_writes_eq_canon _ _ _ (by intro y; apply cover0_C_9)).trans ?_
  rotate_left
  rw [Value.flushed10_C m c t (by omega) (by omega) (by omega) (by omega)]
  refine (View.read_writes_eq_canon _ _ _ (by intro y; apply cover0_C_10)).trans ?_
  rotate_left
  all_goals
    unfold kernelRun0_C
    dsimp only
    sl_unfold_words
    refine (View.canon_unit_zero (S := S256x256) hz2 _ _).trans ?_
    simp only [View.readAt_eq_ld, pC]
  · exact rd8 _ (hs0_2 t) _
  · unfold dB
    exact congr (congr (congrFun (congr (congrArg k0_pay3 (rd8 _ (hs0_2 t) _)) (congrArg k0_pay14 (rdw _ (hs0_5 t) _ _))) _) (rdw _ (hs0_6 t) _ _))
      (rdw _ (hs0_4 t) _ _)
  · unfold mB
    exact congrFun (congr (congrArg k0_pay1 (rd8 _ (hs0_2 t) _)) (congrArg k0_pay14 (rdw _ (hs0_5 t) _ _))) _
  · unfold vB
    exact congr (congrArg k0_pay2 (rd8 _ (hs0_2 t) _)) (rdw _ (hs0_6 t) _ _)

theorem outD (c : Dev nD) (t : Fin cfg0.N) (h : t.val / 2 = 3) :
    (dats m 0 c).flushed 7 t = gs (iblk m c 3 t)
    ∧ (dats m 0 c).flushed 8 t = dB (iblk m c 3 t) (iblk m c 4 t) (iblk m c 5 t) (iblk m c 6 t)
    ∧ (dats m 0 c).flushed 9 t = mB (iblk m c 3 t) (iblk m c 5 t)
    ∧ (dats m 0 c).flushed 10 t = vB (iblk m c 3 t) (iblk m c 6 t) := by
  have hN := lt_N t
  refine ⟨?_, ?_, ?_, ?_⟩
  rw [Value.flushed7_D m c t (by omega) (by omega) (by omega) (by omega)]
  refine (View.read_writes_eq_canon _ _ _ (by intro y; apply cover0_D_7)).trans ?_
  rotate_left
  rw [Value.flushed8_D m c t (by omega) (by omega) (by omega) (by omega)]
  refine (View.read_writes_eq_canon _ _ _ (by intro y; apply cover0_D_8)).trans ?_
  rotate_left
  rw [Value.flushed9_D m c t (by omega) (by omega) (by omega) (by omega)]
  refine (View.read_writes_eq_canon _ _ _ (by intro y; apply cover0_D_9)).trans ?_
  rotate_left
  rw [Value.flushed10_D m c t (by omega) (by omega) (by omega) (by omega)]
  refine (View.read_writes_eq_canon _ _ _ (by intro y; apply cover0_D_10)).trans ?_
  rotate_left
  all_goals
    unfold kernelRun0_D
    dsimp only
    sl_unfold_words
    refine (View.canon_unit_zero (S := S256x256) hz2 _ _).trans ?_
    simp only [View.readAt_eq_ld, pD]
  · exact rd8 _ (hs0_3 t) _
  · unfold dB
    exact congr (congr (congrFun (congr (congrArg k0_pay3 (rd8 _ (hs0_3 t) _)) (congrArg k0_pay14 (rdw _ (hs0_5 t) _ _))) _) (rdw _ (hs0_6 t) _ _))
      (rdw _ (hs0_4 t) _ _)
  · unfold mB
    exact congrFun (congr (congrArg k0_pay1 (rd8 _ (hs0_3 t) _)) (congrArg k0_pay14 (rdw _ (hs0_5 t) _ _))) _
  · unfold vB
    exact congr (congrArg k0_pay2 (rd8 _ (hs0_3 t) _)) (rdw _ (hs0_6 t) _ _)

/-! ## The arrays that the call gets -/

/-- The devices' parts of the gradient, the weight, its mean and its square mean. -/
abbrev PA (c : Dev nD) : FVec Ideal S4x8x512x256 .bf16 := m ((c : Thread nD τ).loc main_arg0)
abbrev WA (c : Dev nD) : FVec Ideal S4x512x256 .f32 := m ((c : Thread nD τ).loc main_arg1)
abbrev MA (c : Dev nD) : FVec Ideal S4x512x256 .f32 := m ((c : Thread nD τ).loc main_arg2)
abbrev VA (c : Dev nD) : FVec Ideal S4x512x256 .f32 := m ((c : Thread nD τ).loc main_arg3)

/-- The layers' arrays, one below the other. -/
theorem layers_flat (x : FVec Ideal S4x512x256 .f32) (i : S2048x256.Idx) : shapeCast S2048x256 x shapeCasts_S4x512x256_S2048x256 i = x (idx_main_v26 i) := by
  refine shapeCast_apply _ shapeCasts_S4x512x256_S2048x256 i (idx_main_v26 i) ?_
  rewrite [Shape.rowMajor_val_three, Shape.rowMajor_val_two]
  have h0 : (i 0).val < 2048 := (i 0).isLt
  have h1 : (i 1).val < 256 := (i 1).isLt
  show (((i 0).val * 256 + (i 1).val) / 131072 * 512 + ((i 0).val * 256 + (i 1).val) / 256 % 512) * 256 + ((i 0).val * 256 + (i 1).val) % 256 = (i 0).val * 256 + (i 1).val
  omega

theorem V_p0 (c : Dev nD) (j : Fin 8) (a : Fin 512) (f : Fin 256) :
    (V m c main_v1 : PL) (ix3 j a f) = PA m c (ix4 0 j a f) := by
  refine Eq.trans (congrFun ?_ _) (layer_part (PA m c) 0 slices_S4x8x512x256_S1x8x512x256_0_0_0_0 shapeCasts_S1x8x512x256_S8x512x256 j a f)
  simp only [V, hostOps0]
  after_results_simp <;> rfl

theorem V_p1 (c : Dev nD) (j : Fin 8) (a : Fin 512) (f : Fin 256) :
    (V m c main_v3 : PL) (ix3 j a f) = PA m c (ix4 1 j a f) := by
  refine Eq.trans (congrFun ?_ _) (layer_part (PA m c) 1 slices_S4x8x512x256_S1x8x512x256_1_0_0_0 shapeCasts_S1x8x512x256_S8x512x256 j a f)
  simp only [V, hostOps0]
  after_results_simp <;> rfl

theorem V_p2 (c : Dev nD) (j : Fin 8) (a : Fin 512) (f : Fin 256) :
    (V m c main_v5 : PL) (ix3 j a f) = PA m c (ix4 2 j a f) := by
  refine Eq.trans (congrFun ?_ _) (layer_part (PA m c) 2 slices_S4x8x512x256_S1x8x512x256_2_0_0_0 shapeCasts_S1x8x512x256_S8x512x256 j a f)
  simp only [V, hostOps0]
  after_results_simp <;> rfl

theorem V_p3 (c : Dev nD) (j : Fin 8) (a : Fin 512) (f : Fin 256) :
    (V m c main_v7 : PL) (ix3 j a f) = PA m c (ix4 3 j a f) := by
  refine Eq.trans (congrFun ?_ _) (layer_part (PA m c) 3 slices_S4x8x512x256_S1x8x512x256_3_0_0_0 shapeCasts_S1x8x512x256_S8x512x256 j a f)
  simp only [V, hostOps0]
  after_results_simp <;> rfl

theorem V_w (c : Dev nD) (i : S2048x256.Idx) : (V m c main_v8 : XO) i = WA m c (idx_main_v26 i) := by
  refine Eq.trans (congrFun ?_ _) (layers_flat (WA m c) i)
  simp only [V, hostOps0]
  after_results_simp <;> rfl

theorem V_m (c : Dev nD) (i : S2048x256.Idx) : (V m c main_v9 : XO) i = MA m c (idx_main_v26 i) := by
  refine Eq.trans (congrFun ?_ _) (layers_flat (MA m c) i)
  simp only [V, hostOps0]
  after_results_simp <;> rfl

theorem V_v (c : Dev nD) (i : S2048x256.Idx) : (V m c main_v10 : XO) i = VA m c (idx_main_v26 i) := by
  refine Eq.trans (congrFun ?_ _) (layers_flat (VA m c) i)
  simp only [V, hostOps0]
  after_results_simp <;> rfl

/-! ## Where a point's blocks lie -/

theorem idx_facts : ∀ t : Fin cfg0.N,
    (win0_0.index t (0 : Fin 3) = 0 ∧ (t.val / 2 = 0 → win0_0.index t (1 : Fin 3) = t.val % 2) ∧ win0_0.index t (2 : Fin 3) = 0)
    ∧ (win0_1.index t (0 : Fin 3) = 0 ∧ (t.val / 2 = 1 → win0_1.index t (1 : Fin 3) = t.val % 2) ∧ win0_1.index t (2 : Fin 3) = 0)
    ∧ (win0_2.index t (0 : Fin 3) = 0 ∧ (t.val / 2 = 2 → win0_2.index t (1 : Fin 3) = t.val % 2) ∧ win0_2.index t (2 : Fin 3) = 0)
    ∧ (win0_3.index t (0 : Fin 3) = 0 ∧ (t.val / 2 = 3 → win0_3.index t (1 : Fin 3) = t.val % 2) ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row `r` of point `t`'s block, as a row of the flat arrays, and of its layer. -/
def row (t : Fin cfg0.N) (r : Fin 256) : Fin 2048 := ⟨t.val * 256 + r.val, by have := lt_N t; omega⟩
def lrow (t : Fin cfg0.N) (r : Fin 256) : Fin 512 := ⟨t.val % 2 * 256 + r.val, by omega⟩

/-- The point whose blocks hold a flat row. -/
theorem pt (i : S2048x256.Idx) : ∃ t : Fin cfg0.N, t.val * 256 ≤ (i 0).val ∧ (i 0).val < t.val * 256 + 256 ∧ (i 1).val < 256 := by
  have h0 : (i 0).val < 2048 := (i 0).isLt
  refine ⟨⟨(i 0).val / 256, lt_of_lt_of_eq (by omega : _ < 8) N_0.symm⟩, ?_, ?_, (i 1).isLt⟩
  · show (i 0).val / 256 * 256 ≤ _; omega
  · show _ < (i 0).val / 256 * 256 + 256; omega

/-- The layer of a flat row, and the row within the layer. -/
theorem flat (t : Fin cfg0.N) (r : Fin 256) (f : Fin 256) (l : Fin 4) (h : t.val / 2 = l.val) (j : Fin 8) :
    idx_main_v1 (idx_main_v26 (ix2 (row t r) f)) j = ix4 l j (lrow t r) f := by
  have hN := lt_N t
  refine funext fun a => Fin.ext ?_
  match a with
  | ⟨0, _⟩ => show ((t.val * 256 + r.val) * 256 + f.val) / 131072 = l.val; omega
  | ⟨1, _⟩ => rfl
  | ⟨2, _⟩ => show ((t.val * 256 + r.val) * 256 + f.val) / 256 % 512 = t.val % 2 * 256 + r.val; omega
  | ⟨3, _⟩ => show ((t.val * 256 + r.val) * 256 + f.val) % 256 = f.val; omega

theorem blk4 (c : Dev nD) (t : Fin cfg0.N) (r : Fin 256) (f : Fin 256) :
    (iblk m c 4 t : XB) (ix2 r f) = WA m c (idx_main_v26 (ix2 (row t r) f)) := by
  rw [← V_w m c]
  exact at_row (V m c main_v8) _ (row t r) r f rfl rfl (idx_facts t).2.2.2.2.1.1 (idx_facts t).2.2.2.2.1.2 rfl

theorem blk5 (c : Dev nD) (t : Fin cfg0.N) (r : Fin 256) (f : Fin 256) :
    (iblk m c 5 t : XB) (ix2 r f) = MA m c (idx_main_v26 (ix2 (row t r) f)) := by
  rw [← V_m m c]
  exact at_row (V m c main_v9) _ (row t r) r f rfl rfl (idx_facts t).2.2.2.2.2.1.1 (idx_facts t).2.2.2.2.2.1.2 rfl

theorem blk6 (c : Dev nD) (t : Fin cfg0.N) (r : Fin 256) (f : Fin 256) :
    (iblk m c 6 t : XB) (ix2 r f) = VA m c (idx_main_v26 (ix2 (row t r) f)) := by
  rw [← V_v m c]
  exact at_row (V m c main_v10) _ (row t r) r f rfl rfl (idx_facts t).2.2.2.2.2.2.1.1 (idx_facts t).2.2.2.2.2.2.1.2 rfl

/-! ## The reference -/

/-- The gradient's entry: the sum of the devices' parts. -/
def gE (c : Dev nD) (i : S2048x256.Idx) : EReal := ∑ j : Fin 8, (show EReal from PA m c (idx_main_v1 (idx_main_v26 i) j))

/-- The results, as the reference computes them. -/
abbrev G7 (c : Dev nD) : XO := val_main_v26 (F := Ideal) (m ((c : Thread nD τ).loc main_arg0))
abbrev G8 (c : Dev nD) : XO := val_main_v27 (F := Ideal) (m ((c : Thread nD τ).loc main_arg0))
  (m ((c : Thread nD τ).loc main_arg1)) (m ((c : Thread nD τ).loc main_arg2)) (m ((c : Thread nD τ).loc main_arg3))
abbrev G9 (c : Dev nD) : XO := val_main_v28 (F := Ideal) (m ((c : Thread nD τ).loc main_arg0))
  (m ((c : Thread nD τ).loc main_arg2))
abbrev G10 (c : Dev nD) : XO := val_main_v29 (F := Ideal) (m ((c : Thread nD τ).loc main_arg0))
  (m ((c : Thread nD τ).loc main_arg3))

theorem g_eq (c : Dev nD) (i : S2048x256.Idx) : (show EReal from val_main_v1 (F := Ideal) (PA m c) (idx_main_v26 i)) = gE m c i := by
  rw [val_main_v1_apply, val_main_cst_apply]
  show Ideal.ofBits .f32 0x00000000#32 + _ = _
  rw [ofBits_zero, EReal.coe_zero, zero_add]
  rfl

theorem G7_apply (c : Dev nD) (i : S2048x256.Idx) : (show EReal from G7 m c i) = gE m c i := by
  unfold G7
  rw [val_main_v26_apply]
  exact g_eq m c i

theorem m_eq (c : Dev nD) (i : S2048x256.Idx) : (show EReal from val_main_v6 (F := Ideal) (PA m c) (MA m c) (idx_main_v26 i))
    = mN (gE m c i) (MA m c (idx_main_v26 i)) := by
  rw [val_main_v6_apply, val_main_v3_apply, val_main_v2_apply, val_main_v5_apply, val_main_v4_apply,
    val_main_cst_0_apply, val_main_cst_1_apply, ← g_eq]
  rfl

theorem v_eq (c : Dev nD) (i : S2048x256.Idx) : (show EReal from val_main_v12 (F := Ideal) (PA m c) (VA m c) (idx_main_v26 i))
    = vN (gE m c i) (VA m c (idx_main_v26 i)) := by
  rw [val_main_v12_apply, val_main_v8_apply, val_main_v7_apply, val_main_v11_apply, val_main_v10_apply,
    val_main_v9_apply, val_main_cst_2_apply, val_main_cst_3_apply, ← g_eq]
  rfl

theorem G9_apply (c : Dev nD) (i : S2048x256.Idx) : (show EReal from G9 m c i) = mN (gE m c i) (MA m c (idx_main_v26 i)) := by
  unfold G9
  rw [val_main_v28_apply]
  exact m_eq m c i

theorem G10_apply (c : Dev nD) (i : S2048x256.Idx) : (show EReal from G10 m c i) = vN (gE m c i) (VA m c (idx_main_v26 i)) := by
  unfold G10
  rw [val_main_v29_apply]
  exact v_eq m c i

theorem G8_apply (c : Dev nD) (i : S2048x256.Idx) : (show EReal from G8 m c i)
    = dN (gE m c i) (WA m c (idx_main_v26 i)) (MA m c (idx_main_v26 i)) (VA m c (idx_main_v26 i)) := by
  unfold G8 dN
  rw [val_main_v27_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply,
    val_main_cst_4_apply, val_main_cst_5_apply, val_main_cst_6_apply, val_main_cst_7_apply, val_main_cst_8_apply,
    ← m_eq, ← v_eq]
  rfl

/-! ## The whole arrays -/

/-- Every point works on one of the four layers. -/
theorem layer (t : Fin cfg0.N) : t.val / 2 = 0 ∨ t.val / 2 = 1 ∨ t.val / 2 = 2 ∨ t.val / 2 = 3 := by
  have := lt_N t
  omega

theorem g0 (c : Dev nD) (t : Fin cfg0.N) (h : t.val / 2 = 0) (r : Fin 256) (f : Fin 256) :
    (show EReal from gs (iblk m c 0 t) (ix2 r f)) = gE m c (ix2 (row t r) f) := by
  rw [gs_apply]
  refine Finset.sum_congr rfl fun j _ => ?_
  rw [flat t r f 0 h j, ← V_p0 m c]
  exact at_part (V m c main_v1) _ j (lrow t r) r f rfl rfl rfl (idx_facts t).1.1 ((idx_facts t).1.2.1 h) (idx_facts t).1.2.2 rfl

theorem g1 (c : Dev nD) (t : Fin cfg0.N) (h : t.val / 2 = 1) (r : Fin 256) (f : Fin 256) :
    (show EReal from gs (iblk m c 1 t) (ix2 r f)) = gE m c (ix2 (row t r) f) := by
  rw [gs_apply]
  refine Finset.sum_congr rfl fun j _ => ?_
  rw [flat t r f 1 h j, ← V_p1 m c]
  exact at_part (V m c main_v3) _ j (lrow t r) r f rfl rfl rfl (idx_facts t).2.1.1 ((idx_facts t).2.1.2.1 h) (idx_facts t).2.1.2.2 rfl

theorem g2 (c : Dev nD) (t : Fin cfg0.N) (h : t.val / 2 = 2) (r : Fin 256) (f : Fin 256) :
    (show EReal from gs (iblk m c 2 t) (ix2 r f)) = gE m c (ix2 (row t r) f) := by
  rw [gs_apply]
  refine Finset.sum_congr rfl fun j _ => ?_
  rw [flat t r f 2 h j, ← V_p2 m c]
  exact at_part (V m c main_v5) _ j (lrow t r) r f rfl rfl rfl (idx_facts t).2.2.1.1 ((idx_facts t).2.2.1.2.1 h) (idx_facts t).2.2.1.2.2 rfl

theorem g3 (c : Dev nD) (t : Fin cfg0.N) (h : t.val / 2 = 3) (r : Fin 256) (f : Fin 256) :
    (show EReal from gs (iblk m c 3 t) (ix2 r f)) = gE m c (ix2 (row t r) f) := by
  rw [gs_apply]
  refine Finset.sum_congr rfl fun j _ => ?_
  rw [flat t r f 3 h j, ← V_p3 m c]
  exact at_part (V m c main_v7) _ j (lrow t r) r f rfl rfl rfl (idx_facts t).2.2.2.1.1 ((idx_facts t).2.2.2.1.2.1 h) (idx_facts t).2.2.2.1.2.2 rfl

theorem flushed7_eq (c : Dev nD) (t : Fin cfg0.N) :
    (dats m 0 c).flushed 7 t = ((cfg0.win 7).blk t).view.read (Elt Ideal) (G7 m c) := by
  funext y
  obtain ⟨r, f, rfl⟩ := eq_blk y
  refine Eq.trans ?_ ((at_row (G7 m c) _ (row t r) r f rfl rfl (idx_facts t).2.2.2.2.2.2.2.1.1 (idx_facts t).2.2.2.2.2.2.2.1.2 rfl).trans
    (G7_apply m c (ix2 (row t r) f))).symm
  rcases layer t with h | h | h | h
  · rw [(outA m c t h).1]; exact g0 m c t h r f
  · rw [(outB m c t h).1]; exact g1 m c t h r f
  · rw [(outC m c t h).1]; exact g2 m c t h r f
  · rw [(outD m c t h).1]; exact g3 m c t h r f

theorem cover7 (i : S2048x256.Idx) : ∃ t : Fin cfg0.N, (cfg0.win 7).flush t = true ∧ i ∈ ((cfg0.win 7).blk t).view.set := by
  obtain ⟨t, h0, h1, h2⟩ := pt i
  obtain ⟨e0, e1⟩ := (idx_facts t).2.2.2.2.2.2.2.1
  refine ⟨t, flush0_7 t, ?_⟩
  show i ∈ ((View.whole main_v11_0).slice (win0_7.rect t)).set
  rw [View.set_slice_whole, Rect.mem_set_unit]
  intro a
  match a with
  | ⟨0, _⟩ => show win0_7.index t 0 * 256 ≤ (i 0).val ∧ (i 0).val < win0_7.index t 0 * 256 + 256; omega
  | ⟨1, _⟩ => show win0_7.index t 1 * 256 ≤ (i 1).val ∧ (i 1).val < win0_7.index t 1 * 256 + 256; omega

theorem flushed8_eq (c : Dev nD) (t : Fin cfg0.N) :
    (dats m 0 c).flushed 8 t = ((cfg0.win 8).blk t).view.read (Elt Ideal) (G8 m c) := by
  funext y
  obtain ⟨r, f, rfl⟩ := eq_blk y
  refine Eq.trans ?_ ((at_row (G8 m c) _ (row t r) r f rfl rfl (idx_facts t).2.2.2.2.2.2.2.2.1.1 (idx_facts t).2.2.2.2.2.2.2.2.1.2 rfl).trans
    (G8_apply m c (ix2 (row t r) f))).symm
  rcases layer t with h | h | h | h
  · rw [(outA m c t h).2.1]; exact (d_apply _ _ _ _ _).trans (congr (congr (congrArg₂ dN (g0 m c t h r f) (blk4 m c t r f)) (blk5 m c t r f)) (blk6 m c t r f))
  · rw [(outB m c t h).2.1]; exact (d_apply _ _ _ _ _).trans (congr (congr (congrArg₂ dN (g1 m c t h r f) (blk4 m c t r f)) (blk5 m c t r f)) (blk6 m c t r f))
  · rw [(outC m c t h).2.1]; exact (d_apply _ _ _ _ _).trans (congr (congr (congrArg₂ dN (g2 m c t h r f) (blk4 m c t r f)) (blk5 m c t r f)) (blk6 m c t r f))
  · rw [(outD m c t h).2.1]; exact (d_apply _ _ _ _ _).trans (congr (congr (congrArg₂ dN (g3 m c t h r f) (blk4 m c t r f)) (blk5 m c t r f)) (blk6 m c t r f))

theorem cover8 (i : S2048x256.Idx) : ∃ t : Fin cfg0.N, (cfg0.win 8).flush t = true ∧ i ∈ ((cfg0.win 8).blk t).view.set := by
  obtain ⟨t, h0, h1, h2⟩ := pt i
  obtain ⟨e0, e1⟩ := (idx_facts t).2.2.2.2.2.2.2.2.1
  refine ⟨t, flush0_8 t, ?_⟩
  show i ∈ ((View.whole main_v11_1).slice (win0_8.rect t)).set
  rw [View.set_slice_whole, Rect.mem_set_unit]
  intro a
  match a with
  | ⟨0, _⟩ => show win0_8.index t 0 * 256 ≤ (i 0).val ∧ (i 0).val < win0_8.index t 0 * 256 + 256; omega
  | ⟨1, _⟩ => show win0_8.index t 1 * 256 ≤ (i 1).val ∧ (i 1).val < win0_8.index t 1 * 256 + 256; omega

theorem flushed9_eq (c : Dev nD) (t : Fin cfg0.N) :
    (dats m 0 c).flushed 9 t = ((cfg0.win 9).blk t).view.read (Elt Ideal) (G9 m c) := by
  funext y
  obtain ⟨r, f, rfl⟩ := eq_blk y
  refine Eq.trans ?_ ((at_row (G9 m c) _ (row t r) r f rfl rfl (idx_facts t).2.2.2.2.2.2.2.2.2.1.1 (idx_facts t).2.2.2.2.2.2.2.2.2.1.2 rfl).trans
    (G9_apply m c (ix2 (row t r) f))).symm
  rcases layer t with h | h | h | h
  · rw [(outA m c t h).2.2.1]; exact (m_apply _ _ _).trans (congrArg₂ mN (g0 m c t h r f) (blk5 m c t r f))
  · rw [(outB m c t h).2.2.1]; exact (m_apply _ _ _).trans (congrArg₂ mN (g1 m c t h r f) (blk5 m c t r f))
  · rw [(outC m c t h).2.2.1]; exact (m_apply _ _ _).trans (congrArg₂ mN (g2 m c t h r f) (blk5 m c t r f))
  · rw [(outD m c t h).2.2.1]; exact (m_apply _ _ _).trans (congrArg₂ mN (g3 m c t h r f) (blk5 m c t r f))

theorem cover9 (i : S2048x256.Idx) : ∃ t : Fin cfg0.N, (cfg0.win 9).flush t = true ∧ i ∈ ((cfg0.win 9).blk t).view.set := by
  obtain ⟨t, h0, h1, h2⟩ := pt i
  obtain ⟨e0, e1⟩ := (idx_facts t).2.2.2.2.2.2.2.2.2.1
  refine ⟨t, flush0_9 t, ?_⟩
  show i ∈ ((View.whole main_v11_2).slice (win0_9.rect t)).set
  rw [View.set_slice_whole, Rect.mem_set_unit]
  intro a
  match a with
  | ⟨0, _⟩ => show win0_9.index t 0 * 256 ≤ (i 0).val ∧ (i 0).val < win0_9.index t 0 * 256 + 256; omega
  | ⟨1, _⟩ => show win0_9.index t 1 * 256 ≤ (i 1).val ∧ (i 1).val < win0_9.index t 1 * 256 + 256; omega

theorem flushed10_eq (c : Dev nD) (t : Fin cfg0.N) :
    (dats m 0 c).flushed 10 t = ((cfg0.win 10).blk t).view.read (Elt Ideal) (G10 m c) := by
  funext y
  obtain ⟨r, f, rfl⟩ := eq_blk y
  refine Eq.trans ?_ ((at_row (G10 m c) _ (row t r) r f rfl rfl (idx_facts t).2.2.2.2.2.2.2.2.2.2.1 (idx_facts t).2.2.2.2.2.2.2.2.2.2.2 rfl).trans
    (G10_apply m c (ix2 (row t r) f))).symm
  rcases layer t with h | h | h | h
  · rw [(outA m c t h).2.2.2]; exact (v_apply _ _ _).trans (congrArg₂ vN (g0 m c t h r f) (blk6 m c t r f))
  · rw [(outB m c t h).2.2.2]; exact (v_apply _ _ _).trans (congrArg₂ vN (g1 m c t h r f) (blk6 m c t r f))
  · rw [(outC m c t h).2.2.2]; exact (v_apply _ _ _).trans (congrArg₂ vN (g2 m c t h r f) (blk6 m c t r f))
  · rw [(outD m c t h).2.2.2]; exact (v_apply _ _ _).trans (congrArg₂ vN (g3 m c t h r f) (blk6 m c t r f))

theorem cover10 (i : S2048x256.Idx) : ∃ t : Fin cfg0.N, (cfg0.win 10).flush t = true ∧ i ∈ ((cfg0.win 10).blk t).view.set := by
  obtain ⟨t, h0, h1, h2⟩ := pt i
  obtain ⟨e0, e1⟩ := (idx_facts t).2.2.2.2.2.2.2.2.2.2
  refine ⟨t, flush0_10 t, ?_⟩
  show i ∈ ((View.whole main_v11_3).slice (win0_10.rect t)).set
  rw [View.set_slice_whole, Rect.mem_set_unit]
  intro a
  match a with
  | ⟨0, _⟩ => show win0_10.index t 0 * 256 ≤ (i 0).val ∧ (i 0).val < win0_10.index t 0 * 256 + 256; omega
  | ⟨1, _⟩ => show win0_10.index t 1 * 256 ≤ (i 1).val ∧ (i 1).val < win0_10.index t 1 * 256 + 256; omega

variable (ρ : Dev nD → PrngReg)

/-- THE CALL: its results are the reference's, and the arguments end unchanged. -/
theorem run : θ_run defs (onTc (τ := τ) (main (F := Ideal))) ⟨m, fun _ => 0, ρ⟩ fun r => ∀ c : Dev nD,
      r.2.mem ((c : Thread nD τ).loc main_v11_0) = G7 m c
      ∧ r.2.mem ((c : Thread nD τ).loc main_v11_1) = G8 m c
      ∧ r.2.mem ((c : Thread nD τ).loc main_v11_2) = G9 m c
      ∧ r.2.mem ((c : Thread nD τ).loc main_v11_3) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 7 (G7 m c) (fun t _ => flushed7_eq m c t) cover7),
      (h c).2.1.trans ((dats m 0 c).arrAt_eq_of_cover 8 (G8 m c) (fun t _ => flushed8_eq m c t) cover8),
      (h c).2.2.1.trans ((dats m 0 c).arrAt_eq_of_cover 9 (G9 m c) (fun t _ => flushed9_eq m c t) cover9),
      (h c).2.2.2.1.trans ((dats m 0 c).arrAt_eq_of_cover 10 (G10 m c) (fun t _ => flushed10_eq m c t) cover10), (h c).2.2.2.2⟩)
    (Value.run_blocks m ρ)

end Cert.AdUkv

end
-- ==== Proof.AdUkvClaims.lean ====
/-
  The claims on the optimiser's call on the weight of the latent attention's keys and values.
-/
module

public import proofs.«01_k».proof.Proof.AdUkv

@[expose] public section

noncomputable section

namespace Cert.AdUkv

open Idealize.ShloMosaic Idealize.ShloMosaic.TcCoe Idealize.SL.Sem

/-- The reference ends with every semaphore at zero, its arguments unchanged. -/
theorem frame_ref : Cert.quiescent_Reference24Ideal := fun m ρ _ =>
  (θ_run Cert.Reference24Ideal.defs _ _).mono (fun r h =>
      ⟨fun c => (h c).2.2.2.2, Idealize.ShloMosaic.sem_eq_zero_of_no_sems (by decide) r.2⟩)
    (Cert.Reference24Ideal.Value.run (F := Ideal) m ρ)

/-- The call computes the reference's results on all extended reals. -/
theorem algebraic : Cert.algebraic_Kernel24Ideal_Reference24Ideal := fun m ρ m' ρ' _ hag =>
  ⟨G7 m, G8 m, G9 m, G10 m, run m ρ, (θ_run _ _ _).mono (fun _ h c => by
    obtain ⟨e0, e1, e2, e3⟩ := hag c
    refine ⟨?_, ?_, ?_, ?_, (h c).2.2.2.2⟩
    · rw [(h c).1, Cert.Reference24Ideal.Read.val_main_v26_eq, e0]
    · rw [(h c).2.1, Cert.Reference24Ideal.Read.val_main_v27_eq, e0, e1, e2, e3]
    · rw [(h c).2.2.1, Cert.Reference24Ideal.Read.val_main_v28_eq, e0, e2]
    · rw [(h c).2.2.2.1, Cert.Reference24Ideal.Read.val_main_v29_eq, e0, e3]) (Cert.Reference24Ideal.Value.run (F := Ideal) m' ρ')⟩

end Cert.AdUkv

end
-- ==== Proof.AdUq.lean ====
/-
  The optimiser's call on the weight of the latent attention's queries, over the reals: the arrays that the call returns are the
  sum of the devices' parts of the gradient, and the update, the mean and the square mean that AdamW forms from it.
-/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Reals
public import proofs.«01_k».proof.Proof.Adam

@[expose] public section

set_option maxRecDepth 16384

noncomputable section

namespace Cert.AdUq

open Idealize.ShloMosaic Idealize.ShloMosaic.TcCoe Idealize.SL.Sem Cert.Reals Cert.Adam
open Idealize.ShloMosaic.ValueIdx
open Cert.Kernel23Ideal Cert.Kernel23Ideal.Gen Cert.Reference23Ideal.Read

/-- A block of the parts, a block of a result, a result, and one layer's parts. -/
abbrev PB := Vec Ideal S8x256x192 .bf16
abbrev XB := FVec Ideal S256x192 .f32
abbrev XO := FVec Ideal S2048x192 .f32
abbrev PL := FVec Ideal S8x512x192 .bf16

theorem hz2 : (![0, 0] : Fin 2 → Nat) = fun _ => 0 := funext fun a => by fin_cases a <;> rfl

/-! ## The body of one layer's case -/

/-- One device's part of the block. -/
def sl (P : PB) (j : Fin 8) : Vec Ideal S1x256x192 .bf16 := fun y => P (ix3 j (y 1) (y 2))

/-- The sum of the eight parts of the block, as the body forms it. -/
def gs (P : PB) : XB :=
  k0_pay13 (F := Ideal) (sl P 0) (sl P 1) (sl P 2) (sl P 3) (sl P 4) (sl P 5) (sl P 6) (sl P 7)

theorem gs_apply (P : PB) (r : Fin 256) (f : Fin 192) :
    (show EReal from gs P (ix2 r f)) = ∑ j : Fin 8, (show EReal from P (ix3 j r f)) := by
  have hs := fun j : Fin 8 => cast_one (sl P j) shapeCasts_S1x256x192_S256x192 r f
  refine Eq.trans ?_ (Fin.sum_univ_eight _).symm
  rw [← show _ = P (ix3 0 r f) from hs 0, ← show _ = P (ix3 1 r f) from hs 1, ← show _ = P (ix3 2 r f) from hs 2, ← show _ = P (ix3 3 r f) from hs 3,
    ← show _ = P (ix3 4 r f) from hs 4, ← show _ = P (ix3 5 r f) from hs 5, ← show _ = P (ix3 6 r f) from hs 6, ← show _ = P (ix3 7 r f) from hs 7]
  rfl

/-- The new mean, the new square mean and the update of a block. -/
def mB (P : PB) (x5 : XB) : XB :=
  k0_pay1 (F := Ideal) (gs P) (k0_pay14 x5) (FloatOps.ofBits .f32 0x3F666666#32)
def vB (P : PB) (x6 : XB) : XB := k0_pay2 (F := Ideal) (gs P) x6
def dB (P : PB) (x4 x5 x6 : XB) : XB :=
  k0_pay3 (F := Ideal) (gs P) (k0_pay14 x5) (FloatOps.ofBits .f32 0x3F666666#32) x6 x4

theorem m_apply (P : PB) (x5 : XB) (i : S256x192.Idx) :
    (show EReal from mB P x5 i) = mN (gs P i) (x5 i) := by
  unfold mB k0_pay1 k0_pay14
  dsimp only
  rw [cast_same]
  rfl

theorem v_apply (P : PB) (x6 : XB) (i : S256x192.Idx) :
    (show EReal from vB P x6 i) = vN (gs P i) (x6 i) := by
  unfold vB k0_pay2
  dsimp only
  rw [cast_same]
  rfl

theorem d_apply (P : PB) (x4 x5 x6 : XB) (i : S256x192.Idx) :
    (show EReal from dB P x4 x5 x6 i) = dN (gs P i) (x4 i) (x5 i) (x6 i) := by
  unfold dB k0_pay3 dN
  dsimp only
  rw [cast_same, ← m_apply P x5 i, ← v_apply P x6 i]
  rfl

variable (m : (ℓ : Loc nD τ sig) → Buf (Elt Ideal) ℓ)

/-- A load of one device's part. -/
theorem rd (x : PB) (j : ℕ) (inb : ∀ a, (![j, 0, 0] : Fin 3 → Nat) a + S1x256x192.size a ≤ S8x256x192.size a) :
    View.ld x (Rect.unit (s := S8x256x192) ![j, 0, 0] S1x256x192.size inb) = sl x ⟨j, by have := inb 0; exact this⟩ := by
  funext y
  have h0 : (y 0).val < 1 := (y 0).isLt
  refine congrArg x (funext fun a => Fin.ext ?_)
  match a with
  | ⟨0, _⟩ => show j + 1 * (y 0).val = j; omega
  | ⟨1, _⟩ => show 0 + 1 * (y 1).val = (y 1).val; omega
  | ⟨2, _⟩ => show 0 + 1 * (y 2).val = (y 2).val; omega

/-- The sum of the eight loads. -/
theorem rd8 (M : Memref sig .tc .vmem S8x256x192 .bf16) (h : M.IsWhole) (x : PB) :
    k0_pay13 (F := Ideal) (View.ld (M.view.read (Elt Ideal) (h.unread x)) (Rect.unit (s := S8x256x192) ![0, 0, 0] S1x256x192.size inb_S8x256x192_S1x256x192_0_0_0))
      (View.ld (M.view.read (Elt Ideal) (h.unread x)) (Rect.unit (s := S8x256x192) ![1, 0, 0] S1x256x192.size inb_S8x256x192_S1x256x192_1_0_0))
      (View.ld (M.view.read (Elt Ideal) (h.unread x)) (Rect.unit (s := S8x256x192) ![2, 0, 0] S1x256x192.size inb_S8x256x192_S1x256x192_2_0_0))
      (View.ld (M.view.read (Elt Ideal) (h.unread x)) (Rect.unit (s := S8x256x192) ![3, 0, 0] S1x256x192.size inb_S8x256x192_S1x256x192_3_0_0))
      (View.ld (M.view.read (Elt Ideal) (h.unread x)) (Rect.unit (s := S8x256x192) ![4, 0, 0] S1x256x192.size inb_S8x256x192_S1x256x192_4_0_0))
      (View.ld (M.view.read (Elt Ideal) (h.unread x)) (Rect.unit (s := S8x256x192) ![5, 0, 0] S1x256x192.size inb_S8x256x192_S1x256x192_5_0_0))
      (View.ld (M.view.read (Elt Ideal) (h.unread x)) (Rect.unit (s := S8x256x192) ![6, 0, 0] S1x256x192.size inb_S8x256x192_S1x256x192_6_0_0))
      (View.ld (M.view.read (Elt Ideal) (h.unread x)) (Rect.unit (s := S8x256x192) ![7, 0, 0] S1x256x192.size inb_S8x256x192_S1x256x192_7_0_0))
      = gs x := by
  rw [h.read_unread]
  unfold gs
  exact congr (congr (congr (congr (congr (congr (congr (congrArg _ (rd x 0 _)) (rd x 1 _)) (rd x 2 _)) (rd x 3 _)) (rd x 4 _)) (rd x 5 _)) (rd x 6 _)) (rd x 7 _)

/-- The four cases have the same body. -/
theorem pB : @k0_pay15 Ideal _ = k0_pay13 ∧ @k0_pay16 Ideal = k0_pay14 ∧ @k0_pay4 Ideal _ = k0_pay1 ∧ @k0_pay5 Ideal _ = k0_pay2
    ∧ @k0_pay6 Ideal _ = k0_pay3 := ⟨rfl, rfl, rfl, rfl, rfl⟩
theorem pC : @k0_pay17 Ideal _ = k0_pay13 ∧ @k0_pay18 Ideal = k0_pay14 ∧ @k0_pay7 Ideal _ = k0_pay1 ∧ @k0_pay8 Ideal _ = k0_pay2
    ∧ @k0_pay9 Ideal _ = k0_pay3 := ⟨rfl, rfl, rfl, rfl, rfl⟩
theorem pD : @k0_pay19 Ideal _ = k0_pay13 ∧ @k0_pay20 Ideal = k0_pay14 ∧ @k0_pay10 Ideal _ = k0_pay1 ∧ @k0_pay11 Ideal _ = k0_pay2
    ∧ @k0_pay12 Ideal _ = k0_pay3 := ⟨rfl, rfl, rfl, rfl, rfl⟩

/-- A load of a whole block. -/
theorem rdw (M : Memref sig .tc .vmem S256x192 .f32) (h : M.IsWhole) (x : XB)
    (inb : ∀ a, (![0, 0] : Fin 2 → Nat) a + S256x192.size a ≤ S256x192.size a) :
    View.ld (M.view.read (Elt Ideal) (h.unread x)) (Rect.unit (s := S256x192) ![0, 0] S256x192.size inb) = x := by
  rw [h.read_unread]
  exact View.ld_unit_zero hz2 _ _

theorem lt_N (t : Fin cfg0.N) : t.val < 8 := lt_of_lt_of_eq t.isLt N_0

/-! ## What a point writes back, by the layer that it works on -/

theorem outA (c : Dev nD) (t : Fin cfg0.N) (h : t.val / 2 = 0) :
    (dats m 0 c).flushed 7 t = gs (iblk m c 0 t)
    ∧ (dats m 0 c).flushed 8 t = dB (iblk m c 0 t) (iblk m c 4 t) (iblk m c 5 t) (iblk m c 6 t)
    ∧ (dats m 0 c).flushed 9 t = mB (iblk m c 0 t) (iblk m c 5 t)
    ∧ (dats m 0 c).flushed 10 t = vB (iblk m c 0 t) (iblk m c 6 t) := by
  have hN := lt_N t
  refine ⟨?_, ?_, ?_, ?_⟩
  rw [Value.flushed7_A m c t (by omega) (by omega) (by omega) (by omega)]
  refine (View.read_writes_eq_canon _ _ _ (by intro y; apply cover0_A_7)).trans ?_
  rotate_left
  rw [Value.flushed8_A m c t (by omega) (by omega) (by omega) (by omega)]
  refine (View.read_writes_eq_canon _ _ _ (by intro y; apply cover0_A_8)).trans ?_
  rotate_left
  rw [Value.flushed9_A m c t (by omega) (by omega) (by omega) (by omega)]
  refine (View.read_writes_eq_canon _ _ _ (by intro y; apply cover0_A_9)).trans ?_
  rotate_left
  rw [Value.flushed10_A m c t (by omega) (by omega) (by omega) (by omega)]
  refine (View.read_writes_eq_canon _ _ _ (by intro y; apply cover0_A_10)).trans ?_
  rotate_left
  all_goals
    unfold kernelRun0_A
    dsimp only
    sl_unfold_words
    refine (View.canon_unit_zero (S := S256x192) hz2 _ _).trans ?_
    simp only [View.readAt_eq_ld]
  · exact rd8 _ (hs0_0 t) _
  · unfold dB
    exact congr (congr (congrFun (congr (congrArg k0_pay3 (rd8 _ (hs0_0 t) _)) (congrArg k0_pay14 (rdw _ (hs0_5 t) _ _))) _) (rdw _ (hs0_6 t) _ _))
      (rdw _ (hs0_4 t) _ _)
  · unfold mB
    exact congrFun (congr (congrArg k0_pay1 (rd8 _ (hs0_0 t) _)) (congrArg k0_pay14 (rdw _ (hs0_5 t) _ _))) _
  · unfold vB
    exact congr (congrArg k0_pay2 (rd8 _ (hs0_0 t) _)) (rdw _ (hs0_6 t) _ _)

theorem outB (c : Dev nD) (t : Fin cfg0.N) (h : t.val / 2 = 1) :
    (dats m 0 c).flushed 7 t = gs (iblk m c 1 t)
    ∧ (dats m 0 c).flushed 8 t = dB (iblk m c 1 t) (iblk m c 4 t) (iblk m c 5 t) (iblk m c 6 t)
    ∧ (dats m 0 c).flushed 9 t = mB (iblk m c 1 t) (iblk m c 5 t)
    ∧ (dats m 0 c).flushed 10 t = vB (iblk m c 1 t) (iblk m c 6 t) := by
  have hN := lt_N t
  refine ⟨?_, ?_, ?_, ?_⟩
  rw [Value.flushed7_B m c t (by omega) (by omega) (by omega) (by omega)]
  refine (View.read_writes_eq_canon _ _ _ (by intro y; apply cover0_B_7)).trans ?_
  rotate_left
  rw [Value.flushed8_B m c t (by omega) (by omega) (by omega) (by omega)]
  refine (View.read_writes_eq_canon _ _ _ (by intro y; apply cover0_B_8)).trans ?_
  rotate_left
  rw [Value.flushed9_B m c t (by omega) (by omega) (by omega) (by omega)]
  refine (View.read_writes_eq_canon _ _ _ (by intro y; apply cover0_B_9)).trans ?_
  rotate_left
  rw [Value.flushed10_B m c t (by omega) (by omega) (by omega) (by omega)]
  refine (View.read_writes_eq_canon _ _ _ (by intro y; apply cover0_B_10)).trans ?_
  rotate_left
  all_goals
    unfold kernelRun0_B
    dsimp only
    sl_unfold_words
    refine (View.canon_unit_zero (S := S256x192) hz2 _ _).trans ?_
    simp only [View.readAt_eq_ld, pB]
  · exact rd8 _ (hs0_1 t) _
  · unfold dB
    exact congr (congr (congrFun (congr (congrArg k0_pay3 (rd8 _ (hs0_1 t) _)) (congrArg k0_pay14 (rdw _ (hs0_5 t) _ _))) _) (rdw _ (hs0_6 t) _ _))
      (rdw _ (hs0_4 t) _ _)
  · unfold mB
    exact congrFun (congr (congrArg k0_pay1 (rd8 _ (hs0_1 t) _)) (congrArg k0_pay14 (rdw _ (hs0_5 t) _ _))) _
  · unfold vB
    exact congr (congrArg k0_pay2 (rd8 _ (hs0_1 t) _)) (rdw _ (hs0_6 t) _ _)

theorem outC (c : Dev nD) (t : Fin cfg0.N) (h : t.val / 2 = 2) :
    (dats m 0 c).flushed 7 t = gs (iblk m c 2 t)
    ∧ (dats m 0 c).flushed 8 t = dB (iblk m c 2 t) (iblk m c 4 t) (iblk m c 5 t) (iblk m c 6 t)
    ∧ (dats m 0 c).flushed 9 t = mB (iblk m c 2 t) (iblk m c 5 t)
    ∧ (dats m 0 c).flushed 10 t = vB (iblk m c 2 t) (iblk m c 6 t) := by
  have hN := lt_N t
  refine ⟨?_, ?_, ?_, ?_⟩
  rw [Value.flushed7_C m c t (by omega) (by omega) (by omega) (by omega)]
  refine (View.read_writes_eq_canon _ _ _ (by intro y; apply cover0_C_7)).trans ?_
  rotate_left
  rw [Value.flushed8_C m c t (by omega) (by omega) (by omega) (by omega)]
  refine (View.read_writes_eq_canon _ _ _ (by intro y; apply cover0_C_8)).trans ?_
  rotate_left
  rw [Value.flushed9_C m c t (by omega) (by omega) (by omega) (by omega)]
  refine (View.read_writes_eq_canon _ _ _ (by intro y; apply cover0_C_9)).trans ?_
  rotate_left
  rw [Value.flushed10_C m c t (by omega) (by omega) (by omega) (by omega)]
  refine (View.read_writes_eq_canon _ _ _ (by intro y; apply cover0_C_10)).trans ?_
  rotate_left
  all_goals
    unfold kernelRun0_C
    dsimp only
    sl_unfold_words
    refine (View.canon_unit_zero (S := S256x192) hz2 _ _).trans ?_
    simp only [View.readAt_eq_ld, pC]
  · exact rd8 _ (hs0_2 t) _
  · unfold dB
    exact congr (congr (congrFun (congr (congrArg k0_pay3 (rd8 _ (hs0_2 t) _)) (congrArg k0_pay14 (rdw _ (hs0_5 t) _ _))) _) (rdw _ (hs0_6 t) _ _))
      (rdw _ (hs0_4 t) _ _)
  · unfold mB
    exact congrFun (congr (congrArg k0_pay1 (rd8 _ (hs0_2 t) _)) (congrArg k0_pay14 (rdw _ (hs0_5 t) _ _))) _
  · unfold vB
    exact congr (congrArg k0_pay2 (rd8 _ (hs0_2 t) _)) (rdw _ (hs0_6 t) _ _)

theorem outD (c : Dev nD) (t : Fin cfg0.N) (h : t.val / 2 = 3) :
    (dats m 0 c).flushed 7 t = gs (iblk m c 3 t)
    ∧ (dats m 0 c).flushed 8 t = dB (iblk m c 3 t) (iblk m c 4 t) (iblk m c 5 t) (iblk m c 6 t)
    ∧ (dats m 0 c).flushed 9 t = mB (iblk m c 3 t) (iblk m c 5 t)
    ∧ (dats m 0 c).flushed 10 t = vB (iblk m c 3 t) (iblk m c 6 t) := by
  have hN := lt_N t
  refine ⟨?_, ?_, ?_, ?_⟩
  rw [Value.flushed7_D m c t (by omega) (by omega) (by omega) (by omega)]
  refine (View.read_writes_eq_canon _ _ _ (by intro y; apply cover0_D_7)).trans ?_
  rotate_left
  rw [Value.flushed8_D m c t (by omega) (by omega) (by omega) (by omega)]
  refine (View.read_writes_eq_canon _ _ _ (by intro y; apply cover0_D_8)).trans ?_
  rotate_left
  rw [Value.flushed9_D m c t (by omega) (by omega) (by omega) (by omega)]
  refine (View.read_writes_eq_canon _ _ _ (by intro y; apply cover0_D_9)).trans ?_
  rotate_left
  rw [Value.flushed10_D m c t (by omega) (by omega) (by omega) (by omega)]
  refine (View.read_writes_eq_canon _ _ _ (by intro y; apply cover0_D_10)).trans ?_
  rotate_left
  all_goals
    unfold kernelRun0_D
    dsimp only
    sl_unfold_words
    refine (View.canon_unit_zero (S := S256x192) hz2 _ _).trans ?_
    simp only [View.readAt_eq_ld, pD]
  · exact rd8 _ (hs0_3 t) _
  · unfold dB
    exact congr (congr (congrFun (congr (congrArg k0_pay3 (rd8 _ (hs0_3 t) _)) (congrArg k0_pay14 (rdw _ (hs0_5 t) _ _))) _) (rdw _ (hs0_6 t) _ _))
      (rdw _ (hs0_4 t) _ _)
  · unfold mB
    exact congrFun (congr (congrArg k0_pay1 (rd8 _ (hs0_3 t) _)) (congrArg k0_pay14 (rdw _ (hs0_5 t) _ _))) _
  · unfold vB
    exact congr (congrArg k0_pay2 (rd8 _ (hs0_3 t) _)) (rdw _ (hs0_6 t) _ _)

/-! ## The arrays that the call gets -/

/-- The devices' parts of the gradient, the weight, its mean and its square mean. -/
abbrev PA (c : Dev nD) : FVec Ideal S4x8x512x192 .bf16 := m ((c : Thread nD τ).loc main_arg0)
abbrev WA (c : Dev nD) : FVec Ideal S4x512x192 .f32 := m ((c : Thread nD τ).loc main_arg1)
abbrev MA (c : Dev nD) : FVec Ideal S4x512x192 .f32 := m ((c : Thread nD τ).loc main_arg2)
abbrev VA (c : Dev nD) : FVec Ideal S4x512x192 .f32 := m ((c : Thread nD τ).loc main_arg3)

/-- The layers' arrays, one below the other. -/
theorem layers_flat (x : FVec Ideal S4x512x192 .f32) (i : S2048x192.Idx) : shapeCast S2048x192 x shapeCasts_S4x512x192_S2048x192 i = x (idx_main_v26 i) := by
  refine shapeCast_apply _ shapeCasts_S4x512x192_S2048x192 i (idx_main_v26 i) ?_
  rewrite [Shape.rowMajor_val_three, Shape.rowMajor_val_two]
  have h0 : (i 0).val < 2048 := (i 0).isLt
  have h1 : (i 1).val < 192 := (i 1).isLt
  show (((i 0).val * 192 + (i 1).val) / 98304 * 512 + ((i 0).val * 192 + (i 1).val) / 192 % 512) * 192 + ((i 0).val * 192 + (i 1).val) % 192 = (i 0).val * 192 + (i 1).val
  omega

theorem V_p0 (c : Dev nD) (j : Fin 8) (a : Fin 512) (f : Fin 192) :
    (V m c main_v1 : PL) (ix3 j a f) = PA m c (ix4 0 j a f) := by
  refine Eq.trans (congrFun ?_ _) (layer_part (PA m c) 0 slices_S4x8x512x192_S1x8x512x192_0_0_0_0 shapeCasts_S1x8x512x192_S8x512x192 j a f)
  simp only [V, hostOps0]
  after_results_simp <;> rfl

theorem V_p1 (c : Dev nD) (j : Fin 8) (a : Fin 512) (f : Fin 192) :
    (V m c main_v3 : PL) (ix3 j a f) = PA m c (ix4 1 j a f) := by
  refine Eq.trans (congrFun ?_ _) (layer_part (PA m c) 1 slices_S4x8x512x192_S1x8x512x192_1_0_0_0 shapeCasts_S1x8x512x192_S8x512x192 j a f)
  simp only [V, hostOps0]
  after_results_simp <;> rfl

theorem V_p2 (c : Dev nD) (j : Fin 8) (a : Fin 512) (f : Fin 192) :
    (V m c main_v5 : PL) (ix3 j a f) = PA m c (ix4 2 j a f) := by
  refine Eq.trans (congrFun ?_ _) (layer_part (PA m c) 2 slices_S4x8x512x192_S1x8x512x192_2_0_0_0 shapeCasts_S1x8x512x192_S8x512x192 j a f)
  simp only [V, hostOps0]
  after_results_simp <;> rfl

theorem V_p3 (c : Dev nD) (j : Fin 8) (a : Fin 512) (f : Fin 192) :
    (V m c main_v7 : PL) (ix3 j a f) = PA m c (ix4 3 j a f) := by
  refine Eq.trans (congrFun ?_ _) (layer_part (PA m c) 3 slices_S4x8x512x192_S1x8x512x192_3_0_0_0 shapeCasts_S1x8x512x192_S8x512x192 j a f)
  simp only [V, hostOps0]
  after_results_simp <;> rfl

theorem V_w (c : Dev nD) (i : S2048x192.Idx) : (V m c main_v8 : XO) i = WA m c (idx_main_v26 i) := by
  refine Eq.trans (congrFun ?_ _) (layers_flat (WA m c) i)
  simp only [V, hostOps0]
  after_results_simp <;> rfl

theorem V_m (c : Dev nD) (i : S2048x192.Idx) : (V m c main_v9 : XO) i = MA m c (idx_main_v26 i) := by
  refine Eq.trans (congrFun ?_ _) (layers_flat (MA m c) i)
  simp only [V, hostOps0]
  after_results_simp <;> rfl

theorem V_v (c : Dev nD) (i : S2048x192.Idx) : (V m c main_v10 : XO) i = VA m c (idx_main_v26 i) := by
  refine Eq.trans (congrFun ?_ _) (layers_flat (VA m c) i)
  simp only [V, hostOps0]
  after_results_simp <;> rfl

/-! ## Where a point's blocks lie -/

theorem idx_facts : ∀ t : Fin cfg0.N,
    (win0_0.index t (0 : Fin 3) = 0 ∧ (t.val / 2 = 0 → win0_0.index t (1 : Fin 3) = t.val % 2) ∧ win0_0.index t (2 : Fin 3) = 0)
    ∧ (win0_1.index t (0 : Fin 3) = 0 ∧ (t.val / 2 = 1 → win0_1.index t (1 : Fin 3) = t.val % 2) ∧ win0_1.index t (2 : Fin 3) = 0)
    ∧ (win0_2.index t (0 : Fin 3) = 0 ∧ (t.val / 2 = 2 → win0_2.index t (1 : Fin 3) = t.val % 2) ∧ win0_2.index t (2 : Fin 3) = 0)
    ∧ (win0_3.index t (0 : Fin 3) = 0 ∧ (t.val / 2 = 3 → win0_3.index t (1 : Fin 3) = t.val % 2) ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row `r` of point `t`'s block, as a row of the flat arrays, and of its layer. -/
def row (t : Fin cfg0.N) (r : Fin 256) : Fin 2048 := ⟨t.val * 256 + r.val, by have := lt_N t; omega⟩
def lrow (t : Fin cfg0.N) (r : Fin 256) : Fin 512 := ⟨t.val % 2 * 256 + r.val, by omega⟩

/-- The point whose blocks hold a flat row. -/
theorem pt (i : S2048x192.Idx) : ∃ t : Fin cfg0.N, t.val * 256 ≤ (i 0).val ∧ (i 0).val < t.val * 256 + 256 ∧ (i 1).val < 192 := by
  have h0 : (i 0).val < 2048 := (i 0).isLt
  refine ⟨⟨(i 0).val / 256, lt_of_lt_of_eq (by omega : _ < 8) N_0.symm⟩, ?_, ?_, (i 1).isLt⟩
  · show (i 0).val / 256 * 256 ≤ _; omega
  · show _ < (i 0).val / 256 * 256 + 256; omega

/-- The layer of a flat row, and the row within the layer. -/
theorem flat (t : Fin cfg0.N) (r : Fin 256) (f : Fin 192) (l : Fin 4) (h : t.val / 2 = l.val) (j : Fin 8) :
    idx_main_v1 (idx_main_v26 (ix2 (row t r) f)) j = ix4 l j (lrow t r) f := by
  have hN := lt_N t
  refine funext fun a => Fin.ext ?_
  match a with
  | ⟨0, _⟩ => show ((t.val * 256 + r.val) * 192 + f.val) / 98304 = l.val; omega
  | ⟨1, _⟩ => rfl
  | ⟨2, _⟩ => show ((t.val * 256 + r.val) * 192 + f.val) / 192 % 512 = t.val % 2 * 256 + r.val; omega
  | ⟨3, _⟩ => show ((t.val * 256 + r.val) * 192 + f.val) % 192 = f.val; omega

theorem blk4 (c : Dev nD) (t : Fin cfg0.N) (r : Fin 256) (f : Fin 192) :
    (iblk m c 4 t : XB) (ix2 r f) = WA m c (idx_main_v26 (ix2 (row t r) f)) := by
  rw [← V_w m c]
  exact at_row (V m c main_v8) _ (row t r) r f rfl rfl (idx_facts t).2.2.2.2.1.1 (idx_facts t).2.2.2.2.1.2 rfl

theorem blk5 (c : Dev nD) (t : Fin cfg0.N) (r : Fin 256) (f : Fin 192) :
    (iblk m c 5 t : XB) (ix2 r f) = MA m c (idx_main_v26 (ix2 (row t r) f)) := by
  rw [← V_m m c]
  exact at_row (V m c main_v9) _ (row t r) r f rfl rfl (idx_facts t).2.2.2.2.2.1.1 (idx_facts t).2.2.2.2.2.1.2 rfl

theorem blk6 (c : Dev nD) (t : Fin cfg0.N) (r : Fin 256) (f : Fin 192) :
    (iblk m c 6 t : XB) (ix2 r f) = VA m c (idx_main_v26 (ix2 (row t r) f)) := by
  rw [← V_v m c]
  exact at_row (V m c main_v10) _ (row t r) r f rfl rfl (idx_facts t).2.2.2.2.2.2.1.1 (idx_facts t).2.2.2.2.2.2.1.2 rfl

/-! ## The reference -/

/-- The gradient's entry: the sum of the devices' parts. -/
def gE (c : Dev nD) (i : S2048x192.Idx) : EReal := ∑ j : Fin 8, (show EReal from PA m c (idx_main_v1 (idx_main_v26 i) j))

/-- The results, as the reference computes them. -/
abbrev G7 (c : Dev nD) : XO := val_main_v26 (F := Ideal) (m ((c : Thread nD τ).loc main_arg0))
abbrev G8 (c : Dev nD) : XO := val_main_v27 (F := Ideal) (m ((c : Thread nD τ).loc main_arg0))
  (m ((c : Thread nD τ).loc main_arg1)) (m ((c : Thread nD τ).loc main_arg2)) (m ((c : Thread nD τ).loc main_arg3))
abbrev G9 (c : Dev nD) : XO := val_main_v28 (F := Ideal) (m ((c : Thread nD τ).loc main_arg0))
  (m ((c : Thread nD τ).loc main_arg2))
abbrev G10 (c : Dev nD) : XO := val_main_v29 (F := Ideal) (m ((c : Thread nD τ).loc main_arg0))
  (m ((c : Thread nD τ).loc main_arg3))

theorem g_eq (c : Dev nD) (i : S2048x192.Idx) : (show EReal from val_main_v1 (F := Ideal) (PA m c) (idx_main_v26 i)) = gE m c i := by
  rw [val_main_v1_apply, val_main_cst_apply]
  show Ideal.ofBits .f32 0x00000000#32 + _ = _
  rw [ofBits_zero, EReal.coe_zero, zero_add]
  rfl

theorem G7_apply (c : Dev nD) (i : S2048x192.Idx) : (show EReal from G7 m c i) = gE m c i := by
  unfold G7
  rw [val_main_v26_apply]
  exact g_eq m c i

theorem m_eq (c : Dev nD) (i : S2048x192.Idx) : (show EReal from val_main_v6 (F := Ideal) (PA m c) (MA m c) (idx_main_v26 i))
    = mN (gE m c i) (MA m c (idx_main_v26 i)) := by
  rw [val_main_v6_apply, val_main_v3_apply, val_main_v2_apply, val_main_v5_apply, val_main_v4_apply,
    val_main_cst_0_apply, val_main_cst_1_apply, ← g_eq]
  rfl

theorem v_eq (c : Dev nD) (i : S2048x192.Idx) : (show EReal from val_main_v12 (F := Ideal) (PA m c) (VA m c) (idx_main_v26 i))
    = vN (gE m c i) (VA m c (idx_main_v26 i)) := by
  rw [val_main_v12_apply, val_main_v8_apply, val_main_v7_apply, val_main_v11_apply, val_main_v10_apply,
    val_main_v9_apply, val_main_cst_2_apply, val_main_cst_3_apply, ← g_eq]
  rfl

theorem G9_apply (c : Dev nD) (i : S2048x192.Idx) : (show EReal from G9 m c i) = mN (gE m c i) (MA m c (idx_main_v26 i)) := by
  unfold G9
  rw [val_main_v28_apply]
  exact m_eq m c i

theorem G10_apply (c : Dev nD) (i : S2048x192.Idx) : (show EReal from G10 m c i) = vN (gE m c i) (VA m c (idx_main_v26 i)) := by
  unfold G10
  rw [val_main_v29_apply]
  exact v_eq m c i

theorem G8_apply (c : Dev nD) (i : S2048x192.Idx) : (show EReal from G8 m c i)
    = dN (gE m c i) (WA m c (idx_main_v26 i)) (MA m c (idx_main_v26 i)) (VA m c (idx_main_v26 i)) := by
  unfold G8 dN
  rw [val_main_v27_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply,
    val_main_cst_4_apply, val_main_cst_5_apply, val_main_cst_6_apply, val_main_cst_7_apply, val_main_cst_8_apply,
    ← m_eq, ← v_eq]
  rfl

/-! ## The whole arrays -/

/-- Every point works on one of the four layers. -/
theorem layer (t : Fin cfg0.N) : t.val / 2 = 0 ∨ t.val / 2 = 1 ∨ t.val / 2 = 2 ∨ t.val / 2 = 3 := by
  have := lt_N t
  omega

theorem g0 (c : Dev nD) (t : Fin cfg0.N) (h : t.val / 2 = 0) (r : Fin 256) (f : Fin 192) :
    (show EReal from gs (iblk m c 0 t) (ix2 r f)) = gE m c (ix2 (row t r) f) := by
  rw [gs_apply]
  refine Finset.sum_congr rfl fun j _ => ?_
  rw [flat t r f 0 h j, ← V_p0 m c]
  exact at_part (V m c main_v1) _ j (lrow t r) r f rfl rfl rfl (idx_facts t).1.1 ((idx_facts t).1.2.1 h) (idx_facts t).1.2.2 rfl

theorem g1 (c : Dev nD) (t : Fin cfg0.N) (h : t.val / 2 = 1) (r : Fin 256) (f : Fin 192) :
    (show EReal from gs (iblk m c 1 t) (ix2 r f)) = gE m c (ix2 (row t r) f) := by
  rw [gs_apply]
  refine Finset.sum_congr rfl fun j _ => ?_
  rw [flat t r f 1 h j, ← V_p1 m c]
  exact at_part (V m c main_v3) _ j (lrow t r) r f rfl rfl rfl (idx_facts t).2.1.1 ((idx_facts t).2.1.2.1 h) (idx_facts t).2.1.2.2 rfl

theorem g2 (c : Dev nD) (t : Fin cfg0.N) (h : t.val / 2 = 2) (r : Fin 256) (f : Fin 192) :
    (show EReal from gs (iblk m c 2 t) (ix2 r f)) = gE m c (ix2 (row t r) f) := by
  rw [gs_apply]
  refine Finset.sum_congr rfl fun j _ => ?_
  rw [flat t r f 2 h j, ← V_p2 m c]
  exact at_part (V m c main_v5) _ j (lrow t r) r f rfl rfl rfl (idx_facts t).2.2.1.1 ((idx_facts t).2.2.1.2.1 h) (idx_facts t).2.2.1.2.2 rfl

theorem g3 (c : Dev nD) (t : Fin cfg0.N) (h : t.val / 2 = 3) (r : Fin 256) (f : Fin 192) :
    (show EReal from gs (iblk m c 3 t) (ix2 r f)) = gE m c (ix2 (row t r) f) := by
  rw [gs_apply]
  refine Finset.sum_congr rfl fun j _ => ?_
  rw [flat t r f 3 h j, ← V_p3 m c]
  exact at_part (V m c main_v7) _ j (lrow t r) r f rfl rfl rfl (idx_facts t).2.2.2.1.1 ((idx_facts t).2.2.2.1.2.1 h) (idx_facts t).2.2.2.1.2.2 rfl

theorem flushed7_eq (c : Dev nD) (t : Fin cfg0.N) :
    (dats m 0 c).flushed 7 t = ((cfg0.win 7).blk t).view.read (Elt Ideal) (G7 m c) := by
  funext y
  obtain ⟨r, f, rfl⟩ := eq_blk y
  refine Eq.trans ?_ ((at_row (G7 m c) _ (row t r) r f rfl rfl (idx_facts t).2.2.2.2.2.2.2.1.1 (idx_facts t).2.2.2.2.2.2.2.1.2 rfl).trans
    (G7_apply m c (ix2 (row t r) f))).symm
  rcases layer t with h | h | h | h
  · rw [(outA m c t h).1]; exact g0 m c t h r f
  · rw [(outB m c t h).1]; exact g1 m c t h r f
  · rw [(outC m c t h).1]; exact g2 m c t h r f
  · rw [(outD m c t h).1]; exact g3 m c t h r f

theorem cover7 (i : S2048x192.Idx) : ∃ t : Fin cfg0.N, (cfg0.win 7).flush t = true ∧ i ∈ ((cfg0.win 7).blk t).view.set := by
  obtain ⟨t, h0, h1, h2⟩ := pt i
  obtain ⟨e0, e1⟩ := (idx_facts t).2.2.2.2.2.2.2.1
  refine ⟨t, flush0_7 t, ?_⟩
  show i ∈ ((View.whole main_v11_0).slice (win0_7.rect t)).set
  rw [View.set_slice_whole, Rect.mem_set_unit]
  intro a
  match a with
  | ⟨0, _⟩ => show win0_7.index t 0 * 256 ≤ (i 0).val ∧ (i 0).val < win0_7.index t 0 * 256 + 256; omega
  | ⟨1, _⟩ => show win0_7.index t 1 * 192 ≤ (i 1).val ∧ (i 1).val < win0_7.index t 1 * 192 + 192; omega

theorem flushed8_eq (c : Dev nD) (t : Fin cfg0.N) :
    (dats m 0 c).flushed 8 t = ((cfg0.win 8).blk t).view.read (Elt Ideal) (G8 m c) := by
  funext y
  obtain ⟨r, f, rfl⟩ := eq_blk y
  refine Eq.trans ?_ ((at_row (G8 m c) _ (row t r) r f rfl rfl (idx_facts t).2.2.2.2.2.2.2.2.1.1 (idx_facts t).2.2.2.2.2.2.2.2.1.2 rfl).trans
    (G8_apply m c (ix2 (row t r) f))).symm
  rcases layer t with h | h | h | h
  · rw [(outA m c t h).2.1]; exact (d_apply _ _ _ _ _).trans (congr (congr (congrArg₂ dN (g0 m c t h r f) (blk4 m c t r f)) (blk5 m c t r f)) (blk6 m c t r f))
  · rw [(outB m c t h).2.1]; exact (d_apply _ _ _ _ _).trans (congr (congr (congrArg₂ dN (g1 m c t h r f) (blk4 m c t r f)) (blk5 m c t r f)) (blk6 m c t r f))
  · rw [(outC m c t h).2.1]; exact (d_apply _ _ _ _ _).trans (congr (congr (congrArg₂ dN (g2 m c t h r f) (blk4 m c t r f)) (blk5 m c t r f)) (blk6 m c t r f))
  · rw [(outD m c t h).2.1]; exact (d_apply _ _ _ _ _).trans (congr (congr (congrArg₂ dN (g3 m c t h r f) (blk4 m c t r f)) (blk5 m c t r f)) (blk6 m c t r f))

theorem cover8 (i : S2048x192.Idx) : ∃ t : Fin cfg0.N, (cfg0.win 8).flush t = true ∧ i ∈ ((cfg0.win 8).blk t).view.set := by
  obtain ⟨t, h0, h1, h2⟩ := pt i
  obtain ⟨e0, e1⟩ := (idx_facts t).2.2.2.2.2.2.2.2.1
  refine ⟨t, flush0_8 t, ?_⟩
  show i ∈ ((View.whole main_v11_1).slice (win0_8.rect t)).set
  rw [View.set_slice_whole, Rect.mem_set_unit]
  intro a
  match a with
  | ⟨0, _⟩ => show win0_8.index t 0 * 256 ≤ (i 0).val ∧ (i 0).val < win0_8.index t 0 * 256 + 256; omega
  | ⟨1, _⟩ => show win0_8.index t 1 * 192 ≤ (i 1).val ∧ (i 1).val < win0_8.index t 1 * 192 + 192; omega

theorem flushed9_eq (c : Dev nD) (t : Fin cfg0.N) :
    (dats m 0 c).flushed 9 t = ((cfg0.win 9).blk t).view.read (Elt Ideal) (G9 m c) := by
  funext y
  obtain ⟨r, f, rfl⟩ := eq_blk y
  refine Eq.trans ?_ ((at_row (G9 m c) _ (row t r) r f rfl rfl (idx_facts t).2.2.2.2.2.2.2.2.2.1.1 (idx_facts t).2.2.2.2.2.2.2.2.2.1.2 rfl).trans
    (G9_apply m c (ix2 (row t r) f))).symm
  rcases layer t with h | h | h | h
  · rw [(outA m c t h).2.2.1]; exact (m_apply _ _ _).trans (congrArg₂ mN (g0 m c t h r f) (blk5 m c t r f))
  · rw [(outB m c t h).2.2.1]; exact (m_apply _ _ _).trans (congrArg₂ mN (g1 m c t h r f) (blk5 m c t r f))
  · rw [(outC m c t h).2.2.1]; exact (m_apply _ _ _).trans (congrArg₂ mN (g2 m c t h r f) (blk5 m c t r f))
  · rw [(outD m c t h).2.2.1]; exact (m_apply _ _ _).trans (congrArg₂ mN (g3 m c t h r f) (blk5 m c t r f))

theorem cover9 (i : S2048x192.Idx) : ∃ t : Fin cfg0.N, (cfg0.win 9).flush t = true ∧ i ∈ ((cfg0.win 9).blk t).view.set := by
  obtain ⟨t, h0, h1, h2⟩ := pt i
  obtain ⟨e0, e1⟩ := (idx_facts t).2.2.2.2.2.2.2.2.2.1
  refine ⟨t, flush0_9 t, ?_⟩
  show i ∈ ((View.whole main_v11_2).slice (win0_9.rect t)).set
  rw [View.set_slice_whole, Rect.mem_set_unit]
  intro a
  match a with
  | ⟨0, _⟩ => show win0_9.index t 0 * 256 ≤ (i 0).val ∧ (i 0).val < win0_9.index t 0 * 256 + 256; omega
  | ⟨1, _⟩ => show win0_9.index t 1 * 192 ≤ (i 1).val ∧ (i 1).val < win0_9.index t 1 * 192 + 192; omega

theorem flushed10_eq (c : Dev nD) (t : Fin cfg0.N) :
    (dats m 0 c).flushed 10 t = ((cfg0.win 10).blk t).view.read (Elt Ideal) (G10 m c) := by
  funext y
  obtain ⟨r, f, rfl⟩ := eq_blk y
  refine Eq.trans ?_ ((at_row (G10 m c) _ (row t r) r f rfl rfl (idx_facts t).2.2.2.2.2.2.2.2.2.2.1 (idx_facts t).2.2.2.2.2.2.2.2.2.2.2 rfl).trans
    (G10_apply m c (ix2 (row t r) f))).symm
  rcases layer t with h | h | h | h
  · rw [(outA m c t h).2.2.2]; exact (v_apply _ _ _).trans (congrArg₂ vN (g0 m c t h r f) (blk6 m c t r f))
  · rw [(outB m c t h).2.2.2]; exact (v_apply _ _ _).trans (congrArg₂ vN (g1 m c t h r f) (blk6 m c t r f))
  · rw [(outC m c t h).2.2.2]; exact (v_apply _ _ _).trans (congrArg₂ vN (g2 m c t h r f) (blk6 m c t r f))
  · rw [(outD m c t h).2.2.2]; exact (v_apply _ _ _).trans (congrArg₂ vN (g3 m c t h r f) (blk6 m c t r f))

theorem cover10 (i : S2048x192.Idx) : ∃ t : Fin cfg0.N, (cfg0.win 10).flush t = true ∧ i ∈ ((cfg0.win 10).blk t).view.set := by
  obtain ⟨t, h0, h1, h2⟩ := pt i
  obtain ⟨e0, e1⟩ := (idx_facts t).2.2.2.2.2.2.2.2.2.2
  refine ⟨t, flush0_10 t, ?_⟩
  show i ∈ ((View.whole main_v11_3).slice (win0_10.rect t)).set
  rw [View.set_slice_whole, Rect.mem_set_unit]
  intro a
  match a with
  | ⟨0, _⟩ => show win0_10.index t 0 * 256 ≤ (i 0).val ∧ (i 0).val < win0_10.index t 0 * 256 + 256; omega
  | ⟨1, _⟩ => show win0_10.index t 1 * 192 ≤ (i 1).val ∧ (i 1).val < win0_10.index t 1 * 192 + 192; omega

variable (ρ : Dev nD → PrngReg)

/-- THE CALL: its results are the reference's, and the arguments end unchanged. -/
theorem run : θ_run defs (onTc (τ := τ) (main (F := Ideal))) ⟨m, fun _ => 0, ρ⟩ fun r => ∀ c : Dev nD,
      r.2.mem ((c : Thread nD τ).loc main_v11_0) = G7 m c
      ∧ r.2.mem ((c : Thread nD τ).loc main_v11_1) = G8 m c
      ∧ r.2.mem ((c : Thread nD τ).loc main_v11_2) = G9 m c
      ∧ r.2.mem ((c : Thread nD τ).loc main_v11_3) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 7 (G7 m c) (fun t _ => flushed7_eq m c t) cover7),
      (h c).2.1.trans ((dats m 0 c).arrAt_eq_of_cover 8 (G8 m c) (fun t _ => flushed8_eq m c t) cover8),
      (h c).2.2.1.trans ((dats m 0 c).arrAt_eq_of_cover 9 (G9 m c) (fun t _ => flushed9_eq m c t) cover9),
      (h c).2.2.2.1.trans ((dats m 0 c).arrAt_eq_of_cover 10 (G10 m c) (fun t _ => flushed10_eq m c t) cover10), (h c).2.2.2.2⟩)
    (Value.run_blocks m ρ)

end Cert.AdUq

end
-- ==== Proof.AdUqClaims.lean ====
/-
  The claims on the optimiser's call on the weight of the latent attention's queries.
-/
module

public import proofs.«01_k».proof.Proof.AdUq

@[expose] public section

noncomputable section

namespace Cert.AdUq

open Idealize.ShloMosaic Idealize.ShloMosaic.TcCoe Idealize.SL.Sem

/-- The reference ends with every semaphore at zero, its arguments unchanged. -/
theorem frame_ref : Cert.quiescent_Reference23Ideal := fun m ρ _ =>
  (θ_run Cert.Reference23Ideal.defs _ _).mono (fun r h =>
      ⟨fun c => (h c).2.2.2.2, Idealize.ShloMosaic.sem_eq_zero_of_no_sems (by decide) r.2⟩)
    (Cert.Reference23Ideal.Value.run (F := Ideal) m ρ)

/-- The call computes the reference's results on all extended reals. -/
theorem algebraic : Cert.algebraic_Kernel23Ideal_Reference23Ideal := fun m ρ m' ρ' _ hag =>
  ⟨G7 m, G8 m, G9 m, G10 m, run m ρ, (θ_run _ _ _).mono (fun _ h c => by
    obtain ⟨e0, e1, e2, e3⟩ := hag c
    refine ⟨?_, ?_, ?_, ?_, (h c).2.2.2.2⟩
    · rw [(h c).1, Cert.Reference23Ideal.Read.val_main_v26_eq, e0]
    · rw [(h c).2.1, Cert.Reference23Ideal.Read.val_main_v27_eq, e0, e1, e2, e3]
    · rw [(h c).2.2.1, Cert.Reference23Ideal.Read.val_main_v28_eq, e0, e2]
    · rw [(h c).2.2.2.1, Cert.Reference23Ideal.Read.val_main_v29_eq, e0, e3]) (Cert.Reference23Ideal.Value.run (F := Ideal) m' ρ')⟩

end Cert.AdUq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_ffn
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.DhidClaims
public import proofs.«01_k».proof.Proof.DhClaims
public import proofs.«01_k».proof.Proof.DwdClaims
public import proofs.«01_k».proof.Proof.DwgClaims
public import proofs.«01_k».proof.Proof.DilClaims
public import proofs.«01_k».proof.Proof.DhMainClaims
public import proofs.«01_k».proof.Proof.DmixedClaims
public import proofs.«01_k».proof.Proof.DownClaims
public import proofs.«01_k».proof.Proof.DwInClaims
public import proofs.«01_k».proof.Proof.DwOutClaims
public import proofs.«01_k».proof.Proof.GateClaims
public import proofs.«01_k».proof.Proof.HidClaims
public import proofs.«01_k».proof.Proof.OutClaims
public import proofs.«01_k».proof.Proof.ProjClaims
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.DcKvClaims
public import proofs.«01_k».proof.Proof.DcQClaims
public import proofs.«01_k».proof.Proof.DwUkvClaims
public import proofs.«01_k».proof.Proof.DwUqClaims
public import proofs.«01_k».proof.Proof.UpKvClaims
public import proofs.«01_k».proof.Proof.UpQClaims
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.AdFfnClaims
public import proofs.«01_k».proof.Proof.AdOutClaims
public import proofs.«01_k».proof.Proof.AdUkvClaims
public import proofs.«01_k».proof.Proof.AdUqClaims
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Pre_finite.Gen.facts,
  Cert.Pre_finite_ffn.Gen.facts,
  Cert.Dil.frame_bits,
  Cert.Dil.frame_ideal,
  fun m ρ _ => Cert.Dil.frame_ideal m ρ trivial,
  Cert.Dil.frame_ref,
  fun m ρ _ => Cert.Dil.frame_ref m ρ trivial,
  fun m ρ _ => Cert.Kernel2.Gen.frame m ρ,
  fun m ρ _ => Cert.Kernel2Ideal.Gen.frame m ρ,
  fun m ρ _ => Cert.Kernel2Ideal.Gen.frame m ρ,
  Cert.Dhid.frame_ref,
  fun m ρ _ => Cert.Dhid.frame_ref m ρ trivial,
  fun m ρ _ => Cert.Kernel3.Gen.frame m ρ,
  fun m ρ _ => Cert.Kernel3Ideal.Gen.frame m ρ,
  Cert.Dwd.frame_ref,
  fun m ρ _ => Cert.Kernel4.Gen.frame m ρ,
  fun m ρ _ => Cert.Kernel4Ideal.Gen.frame m ρ,
  Cert.Dwg.frame_ref,
  fun m ρ _ => Cert.Kernel5.Gen.frame m ρ,
  fun m ρ _ => Cert.Kernel5Ideal.Gen.frame m ρ,
  Cert.Dh.frame_ref,
  fun m ρ _ => Cert.Kernel6.Gen.frame m ρ,
  fun m ρ _ => Cert.Kernel6Ideal.Gen.frame m ρ,
  Cert.Gate.frame_ref,
  fun m ρ _ => Cert.Kernel7.Gen.frame m ρ,
  fun m ρ _ => Cert.Kernel7Ideal.Gen.frame m ρ,
  Cert.Hid.frame_ref,
  fun m ρ _ => Cert.Kernel8.Gen.frame m ρ,
  fun m ρ _ => Cert.Kernel8Ideal.Gen.frame m ρ,
  Cert.Down.frame_ref,
  fun m ρ _ => Cert.Kernel9.Gen.frame m ρ,
  fun m ρ _ => Cert.Kernel9Ideal.Gen.frame m ρ,
  Cert.Dmixed.frame_ref,
  fun m ρ _ => Cert.Kernel10.Gen.frame m ρ,
  fun m ρ _ => Cert.Kernel10Ideal.Gen.frame m ρ,
  Cert.DwOut.frame_ref,
  fun m ρ _ => Cert.Kernel11.Gen.frame m ρ,
  fun m ρ _ => Cert.Kernel11Ideal.Gen.frame m ρ,
  Cert.DhMain.frame_ref,
  fun m ρ _ => Cert.Kernel12.Gen.frame m ρ,
  fun m ρ _ => Cert.Kernel12Ideal.Gen.frame m ρ,
  Cert.DwIn.frame_ref,
  fun m ρ _ => Cert.Kernel13.Gen.frame m ρ,
  fun m ρ _ => Cert.Kernel13Ideal.Gen.frame m ρ,
  Cert.Proj.frame_ref,
  fun m ρ _ => Cert.Kernel14.Gen.frame m ρ,
  fun m ρ _ => Cert.Kernel14Ideal.Gen.frame m ρ,
  Cert.Out.frame_ref,
  fun m ρ _ => Cert.Kernel15.Gen.frame m ρ,
  fun m ρ _ => Cert.Kernel15Ideal.Gen.frame m ρ,
  Cert.UpQ.frame_ref,
  fun m ρ _ => Cert.Kernel16.Gen.frame m ρ,
  fun m ρ _ => Cert.Kernel16Ideal.Gen.frame m ρ,
  Cert.DcQ.frame_ref,
  fun m ρ _ => Cert.Kernel17.Gen.frame m ρ,
  fun m ρ _ => Cert.Kernel17Ideal.Gen.frame m ρ,
  Cert.DwUq.frame_ref,
  fun m ρ _ => Cert.Kernel18.Gen.frame m ρ,
  fun m ρ _ => Cert.Kernel18Ideal.Gen.frame m ρ,
  Cert.UpKv.frame_ref,
  fun m ρ _ => Cert.Kernel19.Gen.frame m ρ,
  fun m ρ _ => Cert.Kernel19Ideal.Gen.frame m ρ,
  Cert.DcKv.frame_ref,
  fun m ρ _ => Cert.Kernel20.Gen.frame m ρ,
  fun m ρ _ => Cert.Kernel20Ideal.Gen.frame m ρ,
  Cert.DwUkv.frame_ref,
  fun m ρ _ => Cert.Kernel21.Gen.frame m ρ,
  fun m ρ _ => Cert.Kernel21Ideal.Gen.frame m ρ,
  Cert.AdFfn.frame_ref,
  fun m ρ _ => Cert.Kernel22.Gen.frame m ρ,
  fun m ρ _ => Cert.Kernel22Ideal.Gen.frame m ρ,
  Cert.AdOut.frame_ref,
  fun m ρ _ => Cert.Kernel23.Gen.frame m ρ,
  fun m ρ _ => Cert.Kernel23Ideal.Gen.frame m ρ,
  Cert.AdUq.frame_ref,
  fun m ρ _ => Cert.Kernel24.Gen.frame m ρ,
  fun m ρ _ => Cert.Kernel24Ideal.Gen.frame m ρ,
  Cert.AdUkv.frame_ref,
  Cert.Dil.preserves,
  Cert.Dil.algebraic,
  trivial,
  Cert.Dhid.algebraic,
  trivial,
  Cert.Dwd.algebraic,
  trivial,
  Cert.Dwg.algebraic,
  trivial,
  Cert.Dh.algebraic,
  trivial,
  Cert.Gate.algebraic,
  trivial,
  Cert.Hid.algebraic,
  trivial,
  Cert.Down.algebraic,
  trivial,
  Cert.Dmixed.algebraic,
  trivial,
  Cert.DwOut.algebraic,
  trivial,
  Cert.DhMain.algebraic,
  trivial,
  Cert.DwIn.algebraic,
  trivial,
  Cert.Proj.algebraic,
  trivial,
  Cert.Out.algebraic,
  trivial,
  Cert.UpQ.algebraic,
  trivial,
  Cert.DcQ.algebraic,
  trivial,
  Cert.DwUq.algebraic,
  trivial,
  Cert.UpKv.algebraic,
  trivial,
  Cert.DcKv.algebraic,
  trivial,
  Cert.DwUkv.algebraic,
  trivial,
  Cert.AdFfn.algebraic,
  trivial,
  Cert.AdOut.algebraic,
  trivial,
  Cert.AdUq.algebraic,
  trivial,
  Cert.AdUkv.algebraic⟩

end Cert.Proof

end
